-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "over_b1" .f32 0x3FC48605#32 ((8388608 / 5463681 : ℝ) : EReal)
  ∧ IdealRules.named_const.Statement Cert.Kernel11Ideal.κ "over_b2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v17) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "over_b1" .f32 0x3FC48605#32 ((8388608 / 5463681 : ℝ) : EReal)
  ∧ IdealRules.named_const.Statement Cert.Kernel13Ideal.κ "over_b2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite4 : Cert.Pre_finite4.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
-- ==== Pre_finite.lean ====
abbrev S8x8320x256 : Shape := ⟨3, ![8, 8320, 256]⟩
abbrev S8x8320x128 : Shape := ⟨3, ![8, 8320, 128]⟩
abbrev S8208x1024 : Shape := ⟨2, ![8208, 1024]⟩
abbrev S_ : Shape := ⟨0, ![]⟩

class Facts : Prop where
  bcast_S_S8x8320x256 : S_.BroadcastsInDim S8x8320x256 (![] : Fin 0 → Fin S8x8320x256.rank)
  reducesTo_S8x8320x256_S_d0_1_2 : S8x8320x256.ReducesTo [0, 1, 2] S_
  h_S_ : 0 < S_.numel
  bcast_S_S8x8320x128 : S_.BroadcastsInDim S8x8320x128 (![] : Fin 0 → Fin S8x8320x128.rank)
  reducesTo_S8x8320x128_S_d0_1_2 : S8x8320x128.ReducesTo [0, 1, 2] S_
  bcast_S_S8208x1024 : S_.BroadcastsInDim S8208x1024 (![] : Fin 0 → Fin S8208x1024.rank)
  reducesTo_S8208x1024_S_d0_1 : S8208x1024.ReducesTo [0, 1] S_

variable [Facts]

def fn_part1 {F : FTy → Type} [FloatOps F] (main_v13 : IVec S_ 1) (main_v16 : IVec S8208x1024 1) : IVec S_ 1 :=
  let main_c_5 : IVec S_ 1 := constantI S_ 1 1#1
  let main_v17 : IVec S_ 1 := (fun x v => Host.reduce IntOp.andi x v reducesTo_S8208x1024_S_d0_1 h_S_) main_v16 main_c_5
  let main_v18 : IVec S_ 1 := andi main_v13 main_v17
  main_v18

def fn {F : FTy → Type} [FloatOps F] (main_arg0 : FVec F S8x8320x256 .bf16) (main_arg1 : FVec F S8x8320x256 .bf16) (main_arg2 : FVec F S8x8320x128 .bf16) (main_arg3 : FVec F S8208x1024 .bf16) : IVec S_ 1 :=
  let main_v0 : FVec F S8x8320x256 .bf16 := Host.absf main_arg0
  let main_cst : FVec F S_ .bf16 := constant S_ .bf16 0x7F80#16
  let main_v1 : FVec F S8x8320x256 .bf16 := broadcastInDim S8x8320x256 ![] bcast_S_S8x8320x256 main_cst
  let main_v2 : IVec S8x8320x256 1 := cmpf .olt main_v0 main_v1
  let main_c : IVec S_ 1 := constantI S_ 1 1#1
  let main_v3 : IVec S_ 1 := (fun x v => Host.reduce IntOp.andi x v reducesTo_S8x8320x256_S_d0_1_2 h_S_) main_v2 main_c
  let main_v4 : FVec F S8x8320x256 .bf16 := Host.absf main_arg1
  let main_cst_0 : FVec F S_ .bf16 := constant S_ .bf16 0x7F80#16
  let main_v5 : FVec F S8x8320x256 .bf16 := broadcastInDim S8x8320x256 ![] bcast_S_S8x8320x256 main_cst_0
  let main_v6 : IVec S8x8320x256 1 := cmpf .olt main_v4 main_v5
  let main_c_1 : IVec S_ 1 := constantI S_ 1 1#1
  let main_v7 : IVec S_ 1 := (fun x v => Host.reduce IntOp.andi x v reducesTo_S8x8320x256_S_d0_1_2 h_S_) main_v6 main_c_1
  let main_v8 : IVec S_ 1 := andi main_v3 main_v7
  let main_v9 : FVec F S8x8320x128 .bf16 := Host.absf main_arg2
  let main_cst_2 : FVec F S_ .bf16 := constant S_ .bf16 0x7F80#16
  let main_v10 : FVec F S8x8320x128 .bf16 := broadcastInDim S8x8320x128 ![] bcast_S_S8x8320x128 main_cst_2
  let main_v11 : IVec S8x8320x128 1 := cmpf .olt main_v9 main_v10
  let main_c_3 : IVec S_ 1 := constantI S_ 1 1#1
  let main_v12 : IVec S_ 1 := (fun x v => Host.reduce IntOp.andi x v reducesTo_S8x8320x128_S_d0_1_2 h_S_) main_v11 main_c_3
  let main_v13 : IVec S_ 1 := andi main_v8 main_v12
  let main_v14 : FVec F S8208x1024 .bf16 := Host.absf main_arg3
  let main_cst_4 : FVec F S_ .bf16 := constant S_ .bf16 0x7F80#16
  let main_v15 : FVec F S8208x1024 .bf16 := broadcastInDim S8208x1024 ![] bcast_S_S8208x1024 main_cst_4
  let main_v16 : IVec S8208x1024 1 := cmpf .olt main_v14 main_v15
  fn_part1 (F := F) main_v13 main_v16
-- ==== Pre_finite12.lean ====
abbrev S8320x1024 : Shape := ⟨2, ![8320, 1024]⟩
abbrev S1x1024 : Shape := ⟨2, ![1, 1024]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8320x1024 .f32) (main_arg1 : FVec F S1x1024 .f32) (main_arg2 : FVec F S8320x1024 .f32) (main_arg3 : FVec F S8320x1024 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8320x1024 .f32 := Host.absf main_arg2
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_c_3 : IVec S_ 1 := constantI S_ 1 1#1
  let main_v12 : IVec S_ 1 := (fun x v => Host.reduce IntOp.andi x v reducesTo_S8320x1024_S_d0_1 h_S_) main_v11 main_c_3
  let main_v13 : IVec S_ 1 := andi main_v8 main_v12
  main_v13
-- ==== Pre_finite2.lean ====
abbrev S8x8320x256 : Shape := ⟨3, ![8, 8320, 256]⟩
abbrev S8x8320x128 : Shape := ⟨3, ![8, 8320, 128]⟩
abbrev S_ : Shape := ⟨0, ![]⟩

class Facts : Prop where
  bcast_S_S8x8320x256 : S_.BroadcastsInDim S8x8320x256 (![] : Fin 0 → Fin S8x8320x256.rank)
  reducesTo_S8x8320x256_S_d0_1_2 : S8x8320x256.ReducesTo [0, 1, 2] S_
  h_S_ : 0 < S_.numel
  bcast_S_S8x8320x128 : S_.BroadcastsInDim S8x8320x128 (![] : Fin 0 → Fin S8x8320x128.rank)
  reducesTo_S8x8320x128_S_d0_1_2 : S8x8320x128.ReducesTo [0, 1, 2] S_

variable [Facts]

def fn {F : FTy → Type} [FloatOps F] (main_arg0 : FVec F S8x8320x256 .bf16) (main_arg1 : FVec F S8x8320x256 .bf16) (main_arg2 : FVec F S8x8320x128 .bf16) : IVec S_ 1 :=
  let main_v0 : FVec F S8x8320x256 .bf16 := Host.absf main_arg0
  let main_cst : FVec F S_ .bf16 := constant S_ .bf16 0x7F80#16
  let main_v1 : FVec F S8x8320x256 .bf16 := broadcastInDim S8x8320x256 ![] bcast_S_S8x8320x256 main_cst
  let main_v2 : IVec S8x8320x256 1 := cmpf .olt main_v0 main_v1
  let main_c : IVec S_ 1 := constantI S_ 1 1#1
  let main_v3 : IVec S_ 1 := (fun x v => Host.reduce IntOp.andi x v reducesTo_S8x8320x256_S_d0_1_2 h_S_) main_v2 main_c
  let main_v4 : FVec F S8x8320x256 .bf16 := Host.absf main_arg1
  let main_cst_0 : FVec F S_ .bf16 := constant S_ .bf16 0x7F80#16
  let main_v5 : FVec F S8x8320x256 .bf16 := broadcastInDim S8x8320x256 ![] bcast_S_S8x8320x256 main_cst_0
  let main_v6 : IVec S8x8320x256 1 := cmpf .olt main_v4 main_v5
  let main_c_1 : IVec S_ 1 := constantI S_ 1 1#1
  let main_v7 : IVec S_ 1 := (fun x v => Host.reduce IntOp.andi x v reducesTo_S8x8320x256_S_d0_1_2 h_S_) main_v6 main_c_1
  let main_v8 : IVec S_ 1 := andi main_v3 main_v7
  let main_v9 : FVec F S8x8320x128 .bf16 := Host.absf main_arg2
  let main_cst_2 : FVec F S_ .bf16 := constant S_ .bf16 0x7F80#16
  let main_v10 : FVec F S8x8320x128 .bf16 := broadcastInDim S8x8320x128 ![] bcast_S_S8x8320x128 main_cst_2
  let main_v11 : IVec S8x8320x128 1 := cmpf .olt main_v9 main_v10
  let main_c_3 : IVec S_ 1 := constantI S_ 1 1#1
  let main_v12 : IVec S_ 1 := (fun x v => Host.reduce IntOp.andi x v reducesTo_S8x8320x128_S_d0_1_2 h_S_) main_v11 main_c_3
  let main_v13 : IVec S_ 1 := andi main_v8 main_v12
  main_v13
-- ==== Pre_finite4.lean ====
abbrev S8320x5632 : Shape := ⟨2, ![8320, 5632]⟩
abbrev S8320x2816 : Shape := ⟨2, ![8320, 2816]⟩
abbrev S_ : Shape := ⟨0, ![]⟩

class Facts : Prop where
  bcast_S_S8320x5632 : S_.BroadcastsInDim S8320x5632 (![] : Fin 0 → Fin S8320x5632.rank)
  reducesTo_S8320x5632_S_d0_1 : S8320x5632.ReducesTo [0, 1] S_
  h_S_ : 0 < S_.numel
  bcast_S_S8320x2816 : S_.BroadcastsInDim S8320x2816 (![] : Fin 0 → Fin S8320x2816.rank)
  reducesTo_S8320x2816_S_d0_1 : S8320x2816.ReducesTo [0, 1] S_

variable [Facts]

def fn {F : FTy → Type} [FloatOps F] (main_arg0 : FVec F S8320x5632 .bf16) (main_arg1 : FVec F S8320x2816 .bf16) : IVec S_ 1 :=
  let main_v0 : FVec F S8320x5632 .bf16 := Host.absf main_arg0
  let main_cst : FVec F S_ .bf16 := constant S_ .bf16 0x7F80#16
  let main_v1 : FVec F S8320x5632 .bf16 := broadcastInDim S8320x5632 ![] bcast_S_S8320x5632 main_cst
  let main_v2 : IVec S8320x5632 1 := cmpf .olt main_v0 main_v1
  let main_c : IVec S_ 1 := constantI S_ 1 1#1
  let main_v3 : IVec S_ 1 := (fun x v => Host.reduce IntOp.andi x v reducesTo_S8320x5632_S_d0_1 h_S_) main_v2 main_c
  let main_v4 : FVec F S8320x2816 .bf16 := Host.absf main_arg1
  let main_cst_0 : FVec F S_ .bf16 := constant S_ .bf16 0x7F80#16
  let main_v5 : FVec F S8320x2816 .bf16 := broadcastInDim S8320x2816 ![] bcast_S_S8320x2816 main_cst_0
  let main_v6 : IVec S8320x2816 1 := cmpf .olt main_v4 main_v5
  let main_c_1 : IVec S_ 1 := constantI S_ 1 1#1
  let main_v7 : IVec S_ 1 := (fun x v => Host.reduce IntOp.andi x v reducesTo_S8320x2816_S_d0_1 h_S_) main_v6 main_c_1
  let main_v8 : IVec S_ 1 := andi main_v3 main_v7
  main_v8
-- ==== Kernel.lean ====
abbrev S8x8320x256 : Shape := ⟨3, ![8, 8320, 256]⟩
abbrev S8x8320x128 : Shape := ⟨3, ![8, 8320, 128]⟩
abbrev S8208x1024 : Shape := ⟨2, ![8208, 1024]⟩
abbrev S8x8208x256 : Shape := ⟨3, ![8, 8208, 256]⟩
abbrev S8x8208x128 : Shape := ⟨3, ![8, 8208, 128]⟩
abbrev S8208 : Shape := ⟨1, ![8208]⟩
abbrev S_ : Shape := ⟨0, ![]⟩
abbrev S8x8208x8208 : Shape := ⟨3, ![8, 8208, 8208]⟩
abbrev S1x8208 : Shape := ⟨2, ![1, 8208]⟩
abbrev S8208x1 : Shape := ⟨2, ![8208, 1]⟩
abbrev S8208x8208 : Shape := ⟨2, ![8208, 8208]⟩
abbrev S1x8208x8208 : Shape := ⟨3, ![1, 8208, 8208]⟩
abbrev S8x8208 : Shape := ⟨2, ![8, 8208]⟩
abbrev S8x8208x1 : Shape := ⟨3, ![8, 8208, 1]⟩
abbrev S8x128x8208 : Shape := ⟨3, ![8, 128, 8208]⟩
abbrev S8208x8x128 : Shape := ⟨3, ![8208, 8, 128]⟩
abbrev S8208x8 : Shape := ⟨2, ![8208, 8]⟩
abbrev S8x8320 : Shape := ⟨2, ![8, 8320]⟩
abbrev S8x1x8320 : Shape := ⟨3, ![8, 1, 8320]⟩
abbrev S8320x1024 : Shape := ⟨2, ![8320, 1024]⟩
abbrev S1x8320x256 : Shape := ⟨3, ![1, 8320, 256]⟩
abbrev S1x1664x256 : Shape := ⟨3, ![1, 1664, 256]⟩
abbrev S1x1664x128 : Shape := ⟨3, ![1, 1664, 128]⟩
abbrev S8320x128 : Shape := ⟨2, ![8320, 128]⟩
abbrev S1x1x8320 : Shape := ⟨3, ![1, 1, 8320]⟩
abbrev S1664x256 : Shape := ⟨2, ![1664, 256]⟩
abbrev S1664x128 : Shape := ⟨2, ![1664, 128]⟩
abbrev S8320x256 : Shape := ⟨2, ![8320, 256]⟩
abbrev S1x1x1664 : Shape := ⟨3, ![1, 1, 1664]⟩
abbrev S1x1664 : Shape := ⟨2, ![1, 1664]⟩
abbrev S1x416x256 : Shape := ⟨3, ![1, 416, 256]⟩
abbrev S416x256 : Shape := ⟨2, ![416, 256]⟩
abbrev S416x1664 : Shape := ⟨2, ![416, 1664]⟩
abbrev S416x128 : Shape := ⟨2, ![416, 128]⟩
abbrev S1x416x128 : Shape := ⟨3, ![1, 416, 128]⟩
abbrev S1x1280x256 : Shape := ⟨3, ![1, 1280, 256]⟩
abbrev S1280x256 : Shape := ⟨2, ![1280, 256]⟩
abbrev S1280x128 : Shape := ⟨2, ![1280, 128]⟩
abbrev S1x1x1280 : Shape := ⟨3, ![1, 1, 1280]⟩
abbrev S1x1280 : Shape := ⟨2, ![1, 1280]⟩
abbrev S416x1280 : Shape := ⟨2, ![416, 1280]⟩
abbrev S1x896x256 : Shape := ⟨3, ![1, 896, 256]⟩
abbrev S896x256 : Shape := ⟨2, ![896, 256]⟩
abbrev S896x128 : Shape := ⟨2, ![896, 128]⟩
abbrev S1x1x896 : Shape := ⟨3, ![1, 1, 896]⟩
abbrev S1x896 : Shape := ⟨2, ![1, 896]⟩
abbrev S416x896 : Shape := ⟨2, ![416, 896]⟩
abbrev S1x512x256 : Shape := ⟨3, ![1, 512, 256]⟩
abbrev S512x256 : Shape := ⟨2, ![512, 256]⟩
abbrev S512x128 : Shape := ⟨2, ![512, 128]⟩
abbrev S1x1x512 : Shape := ⟨3, ![1, 1, 512]⟩
abbrev S1x512 : Shape := ⟨2, ![1, 512]⟩
abbrev S416x512 : Shape := ⟨2, ![416, 512]⟩

abbrev nBuf : Space → Nat
  | .hbm => 100
  | .vmem => 20
  | .smem => 0
  | _ => 0

abbrev bufTy : (tb : Table) → Fin (tcTables nBuf tb) → BufTy
  | .hbm, ⟨0, _⟩ => ⟨S8x8320x256, .bf16⟩
  | .hbm, ⟨1, _⟩ => ⟨S8x8320x256, .bf16⟩
  | .hbm, ⟨2, _⟩ => ⟨S8x8320x128, .bf16⟩
  | .hbm, ⟨3, _⟩ => ⟨S8208x1024, .bf16⟩
  | .hbm, ⟨4, _⟩ => ⟨S8x8208x256, .bf16⟩
  | .hbm, ⟨5, _⟩ => ⟨S8x8208x256, .f32⟩
  | .hbm, ⟨6, _⟩ => ⟨S8x8208x256, .bf16⟩
  | .hbm, ⟨7, _⟩ => ⟨S8x8208x256, .f32⟩
  | .hbm, ⟨8, _⟩ => ⟨S8x8208x128, .bf16⟩
  | .hbm, ⟨9, _⟩ => ⟨S8x8208x128, .f32⟩
  | .hbm, ⟨10, _⟩ => ⟨S8208, .i32⟩
  | .hbm, ⟨11, _⟩ => ⟨S_, .i32⟩
  | .hbm, ⟨12, _⟩ => ⟨S8208, .i32⟩
  | .hbm, ⟨13, _⟩ => ⟨S8208, .i1⟩
  | .hbm, ⟨14, _⟩ => ⟨S_, .i32⟩
  | .hbm, ⟨15, _⟩ => ⟨S8208, .i32⟩
  | .hbm, ⟨16, _⟩ => ⟨S8208, .i32⟩
  | .hbm, ⟨17, _⟩ => ⟨S_, .i32⟩
  | .hbm, ⟨18, _⟩ => ⟨S_, .i32⟩
  | .hbm, ⟨19, _⟩ => ⟨S8208, .i32⟩
  | .hbm, ⟨20, _⟩ => ⟨S8208, .i32⟩
  | .hbm, ⟨21, _⟩ => ⟨S8208, .i32⟩
  | .hbm, ⟨22, _⟩ => ⟨S_, .i32⟩
  | .hbm, ⟨23, _⟩ => ⟨S8208, .i32⟩
  | .hbm, ⟨24, _⟩ => ⟨S8208, .i1⟩
  | .hbm, ⟨25, _⟩ => ⟨S8208, .i32⟩
  | .hbm, ⟨26, _⟩ => ⟨S8208, .i32⟩
  | .hbm, ⟨27, _⟩ => ⟨S_, .i32⟩
  | .hbm, ⟨28, _⟩ => ⟨S8208, .i32⟩
  | .hbm, ⟨29, _⟩ => ⟨S8208, .i1⟩
  | .hbm, ⟨30, _⟩ => ⟨S8208, .i1⟩
  | .hbm, ⟨31, _⟩ => ⟨S_, .i32⟩
  | .hbm, ⟨32, _⟩ => ⟨S8208, .i32⟩
  | .hbm, ⟨33, _⟩ => ⟨S8208, .i32⟩
  | .hbm, ⟨34, _⟩ => ⟨S8208, .i32⟩
  | .hbm, ⟨35, _⟩ => ⟨S_, .i32⟩
  | .hbm, ⟨36, _⟩ => ⟨S8208, .i32⟩
  | .hbm, ⟨37, _⟩ => ⟨S8208, .i32⟩
  | .hbm, ⟨38, _⟩ => ⟨S_, .i32⟩
  | .hbm, ⟨39, _⟩ => ⟨S_, .i32⟩
  | .hbm, ⟨40, _⟩ => ⟨S8208, .i32⟩
  | .hbm, ⟨41, _⟩ => ⟨S8208, .i32⟩
  | .hbm, ⟨42, _⟩ => ⟨S8x8208x8208, .f32⟩
  | .hbm, ⟨43, _⟩ => ⟨S1x8208, .i32⟩
  | .hbm, ⟨44, _⟩ => ⟨S8208x1, .i32⟩
  | .hbm, ⟨45, _⟩ => ⟨S8208x8208, .i32⟩
  | .hbm, ⟨46, _⟩ => ⟨S8208x8208, .i32⟩
  | .hbm, ⟨47, _⟩ => ⟨S8208x8208, .i1⟩
  | .hbm, ⟨48, _⟩ => ⟨S1x8208x8208, .i1⟩
  | .hbm, ⟨49, _⟩ => ⟨S_, .f32⟩
  | .hbm, ⟨50, _⟩ => ⟨S_, .f32⟩
  | .hbm, ⟨51, _⟩ => ⟨S8x8208x8208, .i1⟩
  | .hbm, ⟨52, _⟩ => ⟨S8x8208x8208, .f32⟩
  | .hbm, ⟨53, _⟩ => ⟨S8x8208x8208, .f32⟩
  | .hbm, ⟨54, _⟩ => ⟨S_, .f32⟩
  | .hbm, ⟨55, _⟩ => ⟨S8x8208, .f32⟩
  | .hbm, ⟨56, _⟩ => ⟨S8x8208x1, .f32⟩
  | .hbm, ⟨57, _⟩ => ⟨S8x8208x8208, .f32⟩
  | .hbm, ⟨58, _⟩ => ⟨S8x8208x8208, .f32⟩
  | .hbm, ⟨59, _⟩ => ⟨S8x8208x8208, .f32⟩
  | .hbm, ⟨60, _⟩ => ⟨S_, .f32⟩
  | .hbm, ⟨61, _⟩ => ⟨S8x8208, .f32⟩
  | .hbm, ⟨62, _⟩ => ⟨S8x8208, .f32⟩
  | .hbm, ⟨63, _⟩ => ⟨S8x8208, .f32⟩
  | .hbm, ⟨64, _⟩ => ⟨S_, .f32⟩
  | .hbm, ⟨65, _⟩ => ⟨S8x8208, .f32⟩
  | .hbm, ⟨66, _⟩ => ⟨S_, .f32⟩
  | .hbm, ⟨67, _⟩ => ⟨S8x8208, .f32⟩
  | .hbm, ⟨68, _⟩ => ⟨S8x8208, .f32⟩
  | .hbm, ⟨69, _⟩ => ⟨S8x8208x1, .f32⟩
  | .hbm, ⟨70, _⟩ => ⟨S8x8208x8208, .f32⟩
  | .hbm, ⟨71, _⟩ => ⟨S8x8208x8208, .f32⟩
  | .hbm, ⟨72, _⟩ => ⟨S8x8208x8208, .f32⟩
  | .hbm, ⟨73, _⟩ => ⟨S_, .f32⟩
  | .hbm, ⟨74, _⟩ => ⟨S8x8208, .f32⟩
  | .hbm, ⟨75, _⟩ => ⟨S8x8208x1, .f32⟩
  | .hbm, ⟨76, _⟩ => ⟨S8x8208x8208, .f32⟩
  | .hbm, ⟨77, _⟩ => ⟨S8x8208x8208, .f32⟩
  | .hbm, ⟨78, _⟩ => ⟨S8x128x8208, .f32⟩
  | .hbm, ⟨79, _⟩ => ⟨S8208x8x128, .f32⟩
  | .hbm, ⟨80, _⟩ => ⟨S8208x1024, .f32⟩
  | .hbm, ⟨81, _⟩ => ⟨S8208x8x128, .f32⟩
  | .hbm, ⟨82, _⟩ => ⟨S8208x8x128, .f32⟩
  | .hbm, ⟨83, _⟩ => ⟨S_, .f32⟩
  | .hbm, ⟨84, _⟩ => ⟨S8208x8, .f32⟩
  | .hbm, ⟨85, _⟩ => ⟨S8x8208, .f32⟩
  | .hbm, ⟨86, _⟩ => ⟨S_, .i32⟩
  | .hbm, ⟨87, _⟩ => ⟨S_, .f32⟩
  | .hbm, ⟨88, _⟩ => ⟨S8x8320, .f32⟩
  | .hbm, ⟨89, _⟩ => ⟨S8x1x8320, .f32⟩
  | .hbm, ⟨90, _⟩ => ⟨S_, .i32⟩
  | .hbm, ⟨91, _⟩ => ⟨S_, .f32⟩
  | .hbm, ⟨92, _⟩ => ⟨S8x8320, .f32⟩
  | .hbm, ⟨93, _⟩ => ⟨S8x1x8320, .f32⟩
  | .hbm, ⟨94, _⟩ => ⟨S_, .i32⟩
  | .hbm, ⟨95, _⟩ => ⟨S_, .bf16⟩
  | .hbm, ⟨96, _⟩ => ⟨S8320x1024, .bf16⟩
  | .hbm, ⟨97, _⟩ => ⟨S8x8320x256, .f32⟩
  | .hbm, ⟨98, _⟩ => ⟨S8x8320x256, .bf16⟩
  | .hbm, ⟨99, _⟩ => ⟨S8x8320x128, .bf16⟩
  | .local _ .vmem, ⟨0, _⟩ => ⟨S1x8320x256, .bf16⟩
  | .local _ .vmem, ⟨1, _⟩ => ⟨S1x8320x256, .bf16⟩
  | .local _ .vmem, ⟨2, _⟩ => ⟨S1x1664x256, .bf16⟩
  | .local _ .vmem, ⟨3, _⟩ => ⟨S1x1664x256, .bf16⟩
  | .local _ .vmem, ⟨4, _⟩ => ⟨S1x1664x128, .bf16⟩
  | .local _ .vmem, ⟨5, _⟩ => ⟨S1x1664x128, .bf16⟩
  | .local _ .vmem, ⟨6, _⟩ => ⟨S8320x128, .bf16⟩
  | .local _ .vmem, ⟨7, _⟩ => ⟨S8320x128, .bf16⟩
  | .local _ .vmem, ⟨8, _⟩ => ⟨S1x1x8320, .f32⟩
  | .local _ .vmem, ⟨9, _⟩ => ⟨S1x1x8320, .f32⟩
  | .local _ .vmem, ⟨10, _⟩ => ⟨S1x1x8320, .f32⟩
  | .local _ .vmem, ⟨11, _⟩ => ⟨S1x1x8320, .f32⟩
  | .local _ .vmem, ⟨12, _⟩ => ⟨S1x8320x256, .f32⟩
  | .local _ .vmem, ⟨13, _⟩ => ⟨S1x8320x256, .f32⟩
  | .local _ .vmem, ⟨14, _⟩ => ⟨S1x1664x256, .bf16⟩
  | .local _ .vmem, ⟨15, _⟩ => ⟨S1x1664x256, .bf16⟩
  | .local _ .vmem, ⟨16, _⟩ => ⟨S1x1664x128, .bf16⟩
  | .local _ .vmem, ⟨17, _⟩ => ⟨S1x1664x128, .bf16⟩
  | .local _ .vmem, ⟨18, _⟩ => ⟨S1664x256, .f32⟩
  | .local _ .vmem, ⟨19, _⟩ => ⟨S1664x128, .f32⟩
  | _, _ => ⟨S8x8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_c_10 : Ref sig .tc := ⟨.hbm, 86, rfl⟩
abbrev main_call3_v0 : Ref sig .tc := ⟨.hbm, 87, rfl⟩
abbrev main_v49 : Ref sig .tc := ⟨.hbm, 88, rfl⟩
abbrev main_v50 : Ref sig .tc := ⟨.hbm, 89, rfl⟩
abbrev main_c_11 : Ref sig .tc := ⟨.hbm, 90, rfl⟩
abbrev main_call4_v0 : Ref sig .tc := ⟨.hbm, 91, rfl⟩
abbrev main_v51 : Ref sig .tc := ⟨.hbm, 92, rfl⟩
abbrev main_v52 : Ref sig .tc := ⟨.hbm, 93, rfl⟩
abbrev main_c_12 : Ref sig .tc := ⟨.hbm, 94, rfl⟩
abbrev main_call5_v0 : Ref sig .tc := ⟨.hbm, 95, rfl⟩
abbrev main_v53 : Ref sig .tc := ⟨.hbm, 96, rfl⟩
abbrev main_v54_0 : Ref sig .tc := ⟨.hbm, 97, rfl⟩
abbrev main_v54_1 : Ref sig .tc := ⟨.hbm, 98, rfl⟩
abbrev main_v54_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 5], ![false, false]⟩

def k0_mult1 (i : grid0.Coords) : BitVec 32 :=
  let arg1 : BitVec 32 := BitVec.ofNat 32 (i 1).val
  let c1664_i32 : BitVec 32 := 1664#32
  let v11 : BitVec 32 := Scalar.muli arg1 c1664_i32
  let c0_i32_5 : BitVec 32 := 0#32
  let v12 : BitVec 32 := Scalar.addi v11 c0_i32_5
  v12
def k0_off1 (i : grid0.Coords) : Fin 3 → Nat :=
  let c0_6 : Index := 0#32
  let arg1 : BitVec 32 := BitVec.ofNat 32 (i 1).val
  let c1664_i32 : BitVec 32 := 1664#32
  let v11 : BitVec 32 := Scalar.muli arg1 c1664_i32
  let c0_i32_5 : BitVec 32 := 0#32
  let v12 : BitVec 32 := Scalar.addi v11 c0_i32_5
  let v13 : BitVec 32 := v12
  let v14 : Index := Scalar.indexCast v13
  let c0_7 : Index := 0#32
  ![0, v14.toNat, 0]
def k0_off2 (i : grid0.Coords) : Fin 2 → Nat :=
  let arg1 : BitVec 32 := BitVec.ofNat 32 (i 1).val
  let c1664_i32 : BitVec 32 := 1664#32
  let v11 : BitVec 32 := Scalar.muli arg1 c1664_i32
  let c0_i32_5 : BitVec 32 := 0#32
  let v12 : BitVec 32 := Scalar.addi v11 c0_i32_5
  let v13 : BitVec 32 := v12
  let v17 : Index := Scalar.indexCast v13
  let c0_8 : Index := 0#32
  ![v17.toNat, 0]
def k0_off3 (i : grid0.Coords) : Fin 3 → Nat :=
  let c0_9 : Index := 0#32
  let c0_10 : Index := 0#32
  let arg1 : BitVec 32 := BitVec.ofNat 32 (i 1).val
  let c1664_i32 : BitVec 32 := 1664#32
  let v11 : BitVec 32 := Scalar.muli arg1 c1664_i32
  let c0_i32_5 : BitVec 32 := 0#32
  let v12 : BitVec 32 := Scalar.addi v11 c0_i32_5
  let v13 : BitVec 32 := v12
  let v20 : Index := Scalar.indexCast v13
  ![0, 0, v20.toNat]
def k0_mult2 (i : grid0.Coords) : BitVec 32 :=
  let arg1 : BitVec 32 := BitVec.ofNat 32 (i 1).val
  let c1664_i32_45 : BitVec 32 := 1664#32
  let v83 : BitVec 32 := Scalar.muli arg1 c1664_i32_45
  let c384_i32 : BitVec 32 := 384#32
  let v84 : BitVec 32 := Scalar.addi v83 c384_i32
  v84
def k0_off4 (i : grid0.Coords) : Fin 3 → Nat :=
  let c0_46 : Index := 0#32
  let arg1 : BitVec 32 := BitVec.ofNat 32 (i 1).val
  let c1664_i32_45 : BitVec 32 := 1664#32
  let v83 : BitVec 32 := Scalar.muli arg1 c1664_i32_45
  let c384_i32 : BitVec 32 := 384#32
  let v84 : BitVec 32 := Scalar.addi v83 c384_i32
  let v85 : BitVec 32 := v84
  let v86 : Index := Scalar.indexCast v85
  let c0_47 : Index := 0#32
  ![0, v86.toNat, 0]
def k0_off5 (i : grid0.Coords) : Fin 2 → Nat :=
  let arg1 : BitVec 32 := BitVec.ofNat 32 (i 1).val
  let c1664_i32_45 : BitVec 32 := 1664#32
  let v83 : BitVec 32 := Scalar.muli arg1 c1664_i32_45
  let c384_i32 : BitVec 32 := 384#32
  let v84 : BitVec 32 := Scalar.addi v83 c384_i32
  let v85 : BitVec 32 := v84
  let v89 : Index := Scalar.indexCast v85
  let c0_48 : Index := 0#32
  ![v89.toNat, 0]
def k0_off6 (i : grid0.Coords) : Fin 3 → Nat :=
  let c0_49 : Index := 0#32
  let c0_50 : Index := 0#32
  let arg1 : BitVec 32 := BitVec.ofNat 32 (i 1).val
  let c1664_i32_45 : BitVec 32 := 1664#32
  let v83 : BitVec 32 := Scalar.muli arg1 c1664_i32_45
  let c384_i32 : BitVec 32 := 384#32
  let v84 : BitVec 32 := Scalar.addi v83 c384_i32
  let v85 : BitVec 32 := v84
  let v92 : Index := Scalar.indexCast v85
  ![0, 0, v92.toNat]
def k0_mult3 (i : grid0.Coords) : BitVec 32 :=
  let arg1 : BitVec 32 := BitVec.ofNat 32 (i 1).val
  let c1664_i32_85 : BitVec 32 := 1664#32
  let v155 : BitVec 32 := Scalar.muli arg1 c1664_i32_85
  let c768_i32 : BitVec 32 := 768#32
  let v156 : BitVec 32 := Scalar.addi v155 c768_i32
  v156
def k0_off7 (i : grid0.Coords) : Fin 3 → Nat :=
  let c0_86 : Index := 0#32
  let arg1 : BitVec 32 := BitVec.ofNat 32 (i 1).val
  let c1664_i32_85 : BitVec 32 := 1664#32
  let v155 : BitVec 32 := Scalar.muli arg1 c1664_i32_85
  let c768_i32 : BitVec 32 := 768#32
  let v156 : BitVec 32 := Scalar.addi v155 c768_i32
  let v157 : BitVec 32 := v156
  let v158 : Index := Scalar.indexCast v157
  let c0_87 : Index := 0#32
  ![0, v158.toNat, 0]
def k0_off8 (i : grid0.Coords) : Fin 2 → Nat :=
  let arg1 : BitVec 32 := BitVec.ofNat 32 (i 1).val
  let c1664_i32_85 : BitVec 32 := 1664#32
  let v155 : BitVec 32 := Scalar.muli arg1 c1664_i32_85
  let c768_i32 : BitVec 32 := 768#32
  let v156 : BitVec 32 := Scalar.addi v155 c768_i32
  let v157 : BitVec 32 := v156
  let v161 : Index := Scalar.indexCast v157
  let c0_88 : Index := 0#32
  ![v161.toNat, 0]
def k0_off9 (i : grid0.Coords) : Fin 3 → Nat :=
  let c0_89 : Index := 0#32
  let c0_90 : Index := 0#32
  let arg1 : BitVec 32 := BitVec.ofNat 32 (i 1).val
  let c1664_i32_85 : BitVec 32 := 1664#32
  let v155 : BitVec 32 := Scalar.muli arg1 c1664_i32_85
  let c768_i32 : BitVec 32 := 768#32
  let v156 : BitVec 32 := Scalar.addi v155 c768_i32
  let v157 : BitVec 32 := v156
  let v164 : Index := Scalar.indexCast v157
  ![0, 0, v164.toNat]
def k0_mult4 (i : grid0.Coords) : BitVec 32 :=
  let arg1 : BitVec 32 := BitVec.ofNat 32 (i 1).val
  let c1664_i32_125 : BitVec 32 := 1664#32
  let v227 : BitVec 32 := Scalar.muli arg1 c1664_i32_125
  let c1152_i32 : BitVec 32 := 1152#32
  let v228 : BitVec 32 := Scalar.addi v227 c1152_i32
  v228
def k0_off10 (i : grid0.Coords) : Fin 3 → Nat :=
  let c0_126 : Index := 0#32
  let arg1 : BitVec 32 := BitVec.ofNat 32 (i 1).val
  let c1664_i32_125 : BitVec 32 := 1664#32
  let v227 : BitVec 32 := Scalar.muli arg1 c1664_i32_125
  let c1152_i32 : BitVec 32 := 1152#32
  let v228 : BitVec 32 := Scalar.addi v227 c1152_i32
  let v229 : BitVec 32 := v228
  let v230 : Index := Scalar.indexCast v229
  let c0_127 : Index := 0#32
  ![0, v230.toNat, 0]
def k0_off11 (i : grid0.Coords) : Fin 2 → Nat :=
  let arg1 : BitVec 32 := BitVec.ofNat 32 (i 1).val
  let c1664_i32_125 : BitVec 32 := 1664#32
  let v227 : BitVec 32 := Scalar.muli arg1 c1664_i32_125
  let c1152_i32 : BitVec 32 := 1152#32
  let v228 : BitVec 32 := Scalar.addi v227 c1152_i32
  let v229 : BitVec 32 := v228
  let v233 : Index := Scalar.indexCast v229
  let c0_128 : Index := 0#32
  ![v233.toNat, 0]
def k0_off12 (i : grid0.Coords) : Fin 3 → Nat :=
  let c0_129 : Index := 0#32
  let c0_130 : Index := 0#32
  let arg1 : BitVec 32 := BitVec.ofNat 32 (i 1).val
  let c1664_i32_125 : BitVec 32 := 1664#32
  let v227 : BitVec 32 := Scalar.muli arg1 c1664_i32_125
  let c1152_i32 : BitVec 32 := 1152#32
  let v228 : BitVec 32 := Scalar.addi v227 c1152_i32
  let v229 : BitVec 32 := v228
  let v236 : Index := Scalar.indexCast v229
  ![0, 0, v236.toNat]
def k0_cond2 (i : grid0.Coords) : BitVec 1 :=
  let arg1 : BitVec 32 := BitVec.ofNat 32 (i 1).val
  let c0_i32_165 : BitVec 32 := 0#32
  let v299 : BitVec 1 := Scalar.cmpi .eq arg1 c0_i32_165
  let v300 : BitVec 32 := Scalar.extui v299
  let c0_i32_166 : BitVec 32 := 0#32
  let v301 : BitVec 1 := Scalar.cmpi .ne v300 c0_i32_166
  v301

@[reducible] def k0_t1_loop : Scf.Loop 32 :=
  let c1_i32 : BitVec 32 := 1#32
  let c4_i32 : BitVec 32 := 4#32
  let v315 : BitVec 32 := Scalar.addi c1_i32 c4_i32
  let c1_i32_179 : BitVec 32 := 1#32
  ⟨c1_i32, v315, c1_i32_179⟩
def k0_mult5 (k0_t1 : Fin k0_t1_loop.trips) : BitVec 32 :=
  let c1_i32 : BitVec 32 := 1#32
  let c1_i32_179 : BitVec 32 := 1#32
  let arg13 : BitVec 32 := Scf.iv c1_i32 c1_i32_179 k0_t1
  let c1664_i32_181 : BitVec 32 := 1664#32
  let v316 : BitVec 32 := Scalar.muli arg13 c1664_i32_181
  let c0_i32_182 : BitVec 32 := 0#32
  let v317 : BitVec 32 := Scalar.addi v316 c0_i32_182
  v317
def k0_off13 (k0_t1 : Fin k0_t1_loop.trips) : Fin 3 → Nat :=
  let c0_183 : Index := 0#32
  let c1_i32 : BitVec 32 := 1#32
  let c1_i32_179 : BitVec 32 := 1#32
  let arg13 : BitVec 32 := Scf.iv c1_i32 c1_i32_179 k0_t1
  let c1664_i32_181 : BitVec 32 := 1664#32
  let v316 : BitVec 32 := Scalar.muli arg13 c1664_i32_181
  let c0_i32_182 : BitVec 32 := 0#32
  let v317 : BitVec 32 := Scalar.addi v316 c0_i32_182
  let v318 : BitVec 32 := v317
  let v319 : Index := Scalar.indexCast v318
  let c0_184 : Index := 0#32
  ![0, v319.toNat, 0]
def k0_off14 (k0_t1 : Fin k0_t1_loop.trips) : Fin 2 → Nat :=
  let c1_i32 : BitVec 32 := 1#32
  let c1_i32_179 : BitVec 32 := 1#32
  let arg13 : BitVec 32 := Scf.iv c1_i32 c1_i32_179 k0_t1
  let c1664_i32_181 : BitVec 32 := 1664#32
  let v316 : BitVec 32 := Scalar.muli arg13 c1664_i32_181
  let c0_i32_182 : BitVec 32 := 0#32
  let v317 : BitVec 32 := Scalar.addi v316 c0_i32_182
  let v318 : BitVec 32 := v317
  let v322 : Index := Scalar.indexCast v318
  let c0_185 : Index := 0#32
  ![v322.toNat, 0]
def k0_off15 (k0_t1 : Fin k0_t1_loop.trips) : Fin 3 → Nat :=
  let c0_186 : Index := 0#32
  let c0_187 : Index := 0#32
  let c1_i32 : BitVec 32 := 1#32
  let c1_i32_179 : BitVec 32 := 1#32
  let arg13 : BitVec 32 := Scf.iv c1_i32 c1_i32_179 k0_t1
  let c1664_i32_181 : BitVec 32 := 1664#32
  let v316 : BitVec 32 := Scalar.muli arg13 c1664_i32_181
  let c0_i32_182 : BitVec 32 := 0#32
  let v317 : BitVec 32 := Scalar.addi v316 c0_i32_182
  let v318 : BitVec 32 := v317
  let v325 : Index := Scalar.indexCast v318
  ![0, 0, v325.toNat]
def k0_mult6 (k0_t1 : Fin k0_t1_loop.trips) : BitVec 32 :=
  let c1_i32 : BitVec 32 := 1#32
  let c1_i32_179 : BitVec 32 := 1#32
  let arg13 : BitVec 32 := Scf.iv c1_i32 c1_i32_179 k0_t1
  let c1664_i32_224 : BitVec 32 := 1664#32
  let v388 : BitVec 32 := Scalar.muli arg13 c1664_i32_224
  let c0_i32_225 : BitVec 32 := 0#32
  let v389 : BitVec 32 := Scalar.addi v388 c0_i32_225
  v389
def k0_mult7 (k0_t1 : Fin k0_t1_loop.trips) : BitVec 32 :=
  let c1_i32 : BitVec 32 := 1#32
  let c1_i32_179 : BitVec 32 := 1#32
  let arg13 : BitVec 32 := Scf.iv c1_i32 c1_i32_179 k0_t1
  let c1664_i32_267 : BitVec 32 := 1664#32
  let v460 : BitVec 32 := Scalar.muli arg13 c1664_i32_267
  let c0_i32_268 : BitVec 32 := 0#32
  let v461 : BitVec 32 := Scalar.addi v460 c0_i32_268
  v461
def k0_mult8 (k0_t1 : Fin k0_t1_loop.trips) : BitVec 32 :=
  let c1_i32 : BitVec 32 := 1#32
  let c1_i32_179 : BitVec 32 := 1#32
  let arg13 : BitVec 32 := Scf.iv c1_i32 c1_i32_179 k0_t1
  let c1664_i32_310 : BitVec 32 := 1664#32
  let v532 : BitVec 32 := Scalar.muli arg13 c1664_i32_310
  let c0_i32_311 : BitVec 32 := 0#32
  let v533 : BitVec 32 := Scalar.addi v532 c0_i32_311
  v533
def k0_cond3 (i : grid0.Coords) : BitVec 1 :=
  let arg1 : BitVec 32 := BitVec.ofNat 32 (i 1).val
  let c0_i32_167 : BitVec 32 := 0#32
  let v302 : BitVec 1 := Scalar.cmpi .sgt arg1 c0_i32_167
  let v303 : BitVec 32 := Scalar.extui v302
  let c0_i32_168 : BitVec 32 := 0#32
  let v304 : BitVec 1 := Scalar.cmpi .ne v303 c0_i32_168
  v304

@[reducible] def k0_t2_loop (i : grid0.Coords) : Scf.Loop 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_181 : BitVec 32 := 1#32
  ⟨v315, v320, c1_i32_181⟩
def k0_mult9 (i : grid0.Coords) (k0_t2 : Fin (k0_t2_loop i).trips) : BitVec 32 :=
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_183 : BitVec 32 := 1664#32
  let v321 : BitVec 32 := Scalar.muli arg13 c1664_i32_183
  let c0_i32_184 : BitVec 32 := 0#32
  let v322 : BitVec 32 := Scalar.addi v321 c0_i32_184
  v322
def k0_off16 (i : grid0.Coords) (k0_t2 : Fin (k0_t2_loop i).trips) : Fin 3 → Nat :=
  let c0_185 : Index := 0#32
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v324 : Index := Scalar.indexCast v323
  let c0_186 : Index := 0#32
  ![0, v324.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v327 : Index := Scalar.indexCast v323
  let c0_187 : Index := 0#32
  ![v327.toNat, 0]
def k0_off18 (i : grid0.Coords) (k0_t2 : Fin (k0_t2_loop i).trips) : Fin 3 → Nat :=
  let c0_188 : Index := 0#32
  let c0_189 : Index := 0#32
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v330 : Index := Scalar.indexCast v323
  ![0, 0, v330.toNat]
def k0_mult10 (i : grid0.Coords) (k0_t2 : Fin (k0_t2_loop i).trips) : BitVec 32 :=
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_218 : BitVec 32 := 1664#32
  let v373 : BitVec 32 := Scalar.muli arg13 c1664_i32_218
  let c0_i32_219 : BitVec 32 := 0#32
  let v374 : BitVec 32 := Scalar.addi v373 c0_i32_219
  v374
def k0_mult11 (i : grid0.Coords) (k0_t2 : Fin (k0_t2_loop i).trips) : BitVec 32 :=
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_253 : BitVec 32 := 1664#32
  let v425 : BitVec 32 := Scalar.muli arg13 c1664_i32_253
  let c0_i32_254 : BitVec 32 := 0#32
  let v426 : BitVec 32 := Scalar.addi v425 c0_i32_254
  v426
def k0_mult12 (i : grid0.Coords) (k0_t2 : Fin (k0_t2_loop i).trips) : BitVec 32 :=
  let arg1 : BitVec 32 := BitVec.ofNat 32 (i 1).val
  let c1_i32 : BitVec 32 := 1#32
  let v315 : BitVec 32 := Scalar.addi arg1 c1_i32
  let c1_i32_181 : BitVec 32 := 1#32
  let arg13 : BitVec 32 := Scf.iv v315 c1_i32_181 k0_t2
  let c1664_i32_288 : BitVec 32 := 1664#32
  let v477 : BitVec 32 := Scalar.muli arg13 c1664_i32_288
  let c0_i32_289 : BitVec 32 := 0#32
  let v478 : BitVec 32 := Scalar.addi v477 c0_i32_289
  v478
@[reducible] def k0_t3_loop (i : grid0.Coords) : Scf.Loop 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let v317 : BitVec 32 := Scalar.addi v315 v316
  let c1_i32_182 : BitVec 32 := 1#32
  ⟨v320, v317, c1_i32_182⟩
def k0_mult13 (i : grid0.Coords) (k0_t3 : Fin (k0_t3_loop i).trips) : BitVec 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_183 : BitVec 32 := 1664#32
  let v321 : BitVec 32 := Scalar.muli arg13 c1664_i32_183
  let c0_i32_184 : BitVec 32 := 0#32
  let v322 : BitVec 32 := Scalar.addi v321 c0_i32_184
  v322
def k0_off19 (i : grid0.Coords) (k0_t3 : Fin (k0_t3_loop i).trips) : Fin 3 → Nat :=
  let c0_185 : Index := 0#32
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v324 : Index := Scalar.indexCast v323
  let c0_186 : Index := 0#32
  ![0, v324.toNat, 0]
def k0_off20 (i : grid0.Coords) (k0_t3 : Fin (k0_t3_loop i).trips) : Fin 2 → Nat :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v327 : Index := Scalar.indexCast v323
  let c0_187 : Index := 0#32
  ![v327.toNat, 0]
def k0_off21 (i : grid0.Coords) (k0_t3 : Fin (k0_t3_loop i).trips) : Fin 3 → Nat :=
  let c0_188 : Index := 0#32
  let c0_189 : Index := 0#32
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_183 : BitVec 32 := 1664#32
  let v321 : BitVec 32 := Scalar.muli arg13 c1664_i32_183
  let c0_i32_184 : BitVec 32 := 0#32
  let v322 : BitVec 32 := Scalar.addi v321 c0_i32_184
  let v323 : BitVec 32 := v322
  let v330 : Index := Scalar.indexCast v323
  ![0, 0, v330.toNat]
def k0_mult14 (i : grid0.Coords) (k0_t3 : Fin (k0_t3_loop i).trips) : BitVec 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_218 : BitVec 32 := 1664#32
  let v373 : BitVec 32 := Scalar.muli arg13 c1664_i32_218
  let c0_i32_219 : BitVec 32 := 0#32
  let v374 : BitVec 32 := Scalar.addi v373 c0_i32_219
  v374
def k0_mult15 (i : grid0.Coords) (k0_t3 : Fin (k0_t3_loop i).trips) : BitVec 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_253 : BitVec 32 := 1664#32
  let v425 : BitVec 32 := Scalar.muli arg13 c1664_i32_253
  let c0_i32_254 : BitVec 32 := 0#32
  let v426 : BitVec 32 := Scalar.addi v425 c0_i32_254
  v426
def k0_mult16 (i : grid0.Coords) (k0_t3 : Fin (k0_t3_loop i).trips) : BitVec 32 :=
  let arg1 : BitVec 32 := BitVec.ofNat 32 (i 1).val
  let c1_i32 : BitVec 32 := 1#32
  let v315 : BitVec 32 := Scalar.addi arg1 c1_i32
  let c5_i32 : BitVec 32 := 5#32
  let v316 : BitVec 32 := Scalar.subi c5_i32 v315
  let c1_i32_180 : BitVec 32 := 1#32
  let v318 : BitVec 32 := Scalar.divsi v316 c1_i32_180
  let v319 : BitVec 32 := Scalar.muli v318 c1_i32_180
  let v320 : BitVec 32 := Scalar.addi v315 v319
  let c1_i32_182 : BitVec 32 := 1#32
  let arg13 : BitVec 32 := Scf.iv v320 c1_i32_182 k0_t3
  let c1664_i32_288 : BitVec 32 := 1664#32
  let v477 : BitVec 32 := Scalar.muli arg13 c1664_i32_288
  let c0_i32_289 : BitVec 32 := 0#32
  let v478 : BitVec 32 := Scalar.addi v477 c0_i32_289
  v478
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1664x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1664x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1664x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1664x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8320x256 : Shape := ⟨3, ![8, 8320, 256]⟩
abbrev S8x8320x128 : Shape := ⟨3, ![8, 8320, 128]⟩
abbrev S8208x1024 : Shape := ⟨2, ![8208, 1024]⟩
abbrev S8208x8x128 : Shape := ⟨3, ![8208, 8, 128]⟩
abbrev S8x8208x256 : Shape := ⟨3, ![8, 8208, 256]⟩
abbrev S8208 : Shape := ⟨1, ![8208]⟩
abbrev S_ : Shape := ⟨0, ![]⟩
abbrev S8x8208x8208 : Shape := ⟨3, ![8, 8208, 8208]⟩
abbrev S1x8208 : Shape := ⟨2, ![1, 8208]⟩
abbrev S8208x1 : Shape := ⟨2, ![8208, 1]⟩
abbrev S8208x8208 : Shape := ⟨2, ![8208, 8208]⟩
abbrev S1x8208x8208 : Shape := ⟨3, ![1, 8208, 8208]⟩
abbrev S8x8208 : Shape := ⟨2, ![8, 8208]⟩
abbrev S8x8208x1 : Shape := ⟨3, ![8, 8208, 1]⟩
abbrev S8x8208x128 : Shape := ⟨3, ![8, 8208, 128]⟩
abbrev S8x128x8208 : Shape := ⟨3, ![8, 128, 8208]⟩

abbrev nBuf : Space → Nat
  | .hbm => 129
  | .vmem => 0
  | .smem => 0
  | _ => 0

abbrev hbmTy0_0 (i : Nat) : BufTy := match i % 128 with
  | 0 => ⟨S8x8320x256, .bf16⟩
  | 1 => ⟨S8x8320x256, .bf16⟩
  | 2 => ⟨S8x8320x128, .bf16⟩
  | 3 => ⟨S8208x1024, .bf16⟩
  | 4 => ⟨S8208x1024, .f32⟩
  | 5 => ⟨S8208x8x128, .f32⟩
  | 6 => ⟨S8x8320x256, .f32⟩
  | 7 => ⟨S8x8320x256, .f32⟩
  | 8 => ⟨S8x8320x128, .f32⟩
  | 9 => ⟨S8x8208x256, .f32⟩
  | 10 => ⟨S8x8208x256, .f32⟩
  | 11 => ⟨S8208, .i32⟩
  | 12 => ⟨S_, .i32⟩
  | 13 => ⟨S8208, .i32⟩
  | 14 => ⟨S8208, .i1⟩
  | 15 => ⟨S_, .i32⟩
  | 16 => ⟨S8208, .i32⟩
  | 17 => ⟨S8208, .i32⟩
  | 18 => ⟨S_, .i32⟩
  | 19 => ⟨S_, .i32⟩
  | 20 => ⟨S8208, .i32⟩
  | 21 => ⟨S8208, .i32⟩
  | 22 => ⟨S8208, .i32⟩
  | 23 => ⟨S_, .i32⟩
  | 24 => ⟨S8208, .i32⟩
  | 25 => ⟨S8208, .i1⟩
  | 26 => ⟨S8208, .i32⟩
  | 27 => ⟨S8208, .i32⟩
  | 28 => ⟨S_, .i32⟩
  | 29 => ⟨S8208, .i32⟩
  | 30 => ⟨S8208, .i1⟩
  | 31 => ⟨S8208, .i1⟩
  | 32 => ⟨S_, .i32⟩
  | 33 => ⟨S8208, .i32⟩
  | 34 => ⟨S8208, .i32⟩
  | 35 => ⟨S8208, .i32⟩
  | 36 => ⟨S_, .i32⟩
  | 37 => ⟨S8208, .i32⟩
  | 38 => ⟨S8208, .i32⟩
  | 39 => ⟨S_, .i32⟩
  | 40 => ⟨S_, .i32⟩
  | 41 => ⟨S8208, .i32⟩
  | 42 => ⟨S8208, .i32⟩
  | 43 => ⟨S8x8208x8208, .f32⟩
  | 44 => ⟨S1x8208, .i32⟩
  | 45 => ⟨S8208x1, .i32⟩
  | 46 => ⟨S8208x8208, .i32⟩
  | 47 => ⟨S8208x8208, .i32⟩
  | 48 => ⟨S8208x8208, .i1⟩
  | 49 => ⟨S1x8208x8208, .i1⟩
  | 50 => ⟨S_, .f32⟩
  | 51 => ⟨S_, .f32⟩
  | 52 => ⟨S8x8208x8208, .i1⟩
  | 53 => ⟨S8x8208x8208, .f32⟩
  | 54 => ⟨S8x8208x8208, .f32⟩
  | 55 => ⟨S_, .f32⟩
  | 56 => ⟨S8x8208x8208, .f32⟩
  | 57 => ⟨S_, .f32⟩
  | 58 => ⟨S8x8208, .f32⟩
  | 59 => ⟨S8x8208x1, .f32⟩
  | 60 => ⟨S8x8208x8208, .f32⟩
  | 61 => ⟨S8x8208x8208, .i1⟩
  | 62 => ⟨S8x8208x8208, .f32⟩
  | 63 => ⟨S_, .f32⟩
  | 64 => ⟨S8x8208, .f32⟩
  | 65 => ⟨S_, .f32⟩
  | 66 => ⟨S8x8208, .f32⟩
  | 67 => ⟨S8x8208, .f32⟩
  | 68 => ⟨S_, .f32⟩
  | 69 => ⟨S8x8208, .f32⟩
  | 70 => ⟨S8x8208, .i1⟩
  | 71 => ⟨S_, .f32⟩
  | 72 => ⟨S8x8208, .f32⟩
  | 73 => ⟨S8x8208, .i1⟩
  | 74 => ⟨S_, .f32⟩
  | 75 => ⟨S8x8208, .f32⟩
  | 76 => ⟨S_, .f32⟩
  | 77 => ⟨S8x8208, .f32⟩
  | 78 => ⟨S_, .f32⟩
  | 79 => ⟨S8x8208, .f32⟩
  | 80 => ⟨S8x8208, .f32⟩
  | 81 => ⟨S8x8208, .f32⟩
  | 82 => ⟨S8x8208x1, .f32⟩
  | 83 => ⟨S8x8208x8208, .f32⟩
  | 84 => ⟨S8x8208x8208, .f32⟩
  | 85 => ⟨S8x8208x8208, .f32⟩
  | 86 => ⟨S_, .f32⟩
  | 87 => ⟨S8x8208, .f32⟩
  | 88 => ⟨S8x8208x1, .f32⟩
  | 89 => ⟨S8x8208x8208, .f32⟩
  | 90 => ⟨S8x8208x8208, .f32⟩
  | 91 => ⟨S8x8208x1, .f32⟩
  | 92 => ⟨S_, .f32⟩
  | 93 => ⟨S8x8208x1, .f32⟩
  | 94 => ⟨S8x8208x1, .f32⟩
  | 95 => ⟨S8x8208x128, .f32⟩
  | 96 => ⟨S8x128x8208, .f32⟩
  | 97 => ⟨S8208x8x128, .f32⟩
  | 98 => ⟨S8x128x8208, .f32⟩
  | 99 => ⟨S8x8208x8208, .f32⟩
  | 100 => ⟨S8x128x8208, .f32⟩
  | 101 => ⟨S8x8208x128, .f32⟩
  | 102 => ⟨S_, .f32⟩
  | 103 => ⟨S8x8320x128, .f32⟩
  | 104 => ⟨S8x8208x8208, .f32⟩
  | 105 => ⟨S8x8208x8208, .f32⟩
  | 106 => ⟨S8x8208x8208, .f32⟩
  | 107 => ⟨S_, .f32⟩
  | 108 => ⟨S8x8208, .f32⟩
  | 109 => ⟨S8x8208x1, .f32⟩
  | 110 => ⟨S8x8208x1, .f32⟩
  | 111 => ⟨S8x8208x8208, .f32⟩
  | 112 => ⟨S8x8208x8208, .f32⟩
  | 113 => ⟨S_, .f32⟩
  | 114 => ⟨S8x8208, .f32⟩
  | 115 => ⟨S8x8208x8208, .f32⟩
  | 116 => ⟨S8x8208x8208, .f32⟩
  | 117 => ⟨S8x8208x8208, .f32⟩
  | 118 => ⟨S_, .f32⟩
  | 119 => ⟨S8x8208x8208, .f32⟩
  | 120 => ⟨S8x8208x8208, .f32⟩
  | 121 => ⟨S8x8208x256, .f32⟩
  | 122 => ⟨S8x8208x256, .f32⟩
  | 123 => ⟨S_, .f32⟩
  | 124 => ⟨S8x8320x256, .f32⟩
  | 125 => ⟨S_, .f32⟩
  | 126 => ⟨S8x8320x256, .f32⟩
  | 127 => ⟨S8x8320x256, .bf16⟩
  | _ => ⟨S8x8320x256, .bf16⟩

abbrev hbmTy0_1 (i : Nat) : BufTy := match i % 128 with
  | 0 => ⟨S8x8320x128, .bf16⟩
  | _ => ⟨S8x8320x256, .bf16⟩

abbrev hbmTy (i : Nat) : BufTy := match i / 128 with
  | 0 => hbmTy0_0 i
  | 1 => hbmTy0_1 i
  | _ => ⟨S8x8320x256, .bf16⟩

abbrev bufTy : (tb : Table) → Fin (tcTables nBuf tb) → BufTy
  | .hbm, ⟨i, _⟩ => hbmTy i
  | _, _ => ⟨S8x8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_call2_v0 : Ref sig .tc := ⟨.hbm, 51, rfl⟩
abbrev main_v23_1 : Ref sig .tc := ⟨.hbm, 52, rfl⟩
abbrev main_call2_v2 : Ref sig .tc := ⟨.hbm, 53, rfl⟩
abbrev main_v23_0 : Ref sig .tc := ⟨.hbm, 54, rfl⟩
abbrev main_call2_cst : Ref sig .tc := ⟨.hbm, 55, rfl⟩
abbrev main_v23_2 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_v33 : Ref sig .tc := ⟨.hbm, 70, rfl⟩
abbrev main_cst_8 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_cst_10 : Ref sig .tc := ⟨.hbm, 76, rfl⟩
abbrev main_v37 : Ref sig .tc := ⟨.hbm, 77, rfl⟩
abbrev main_cst_11 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_12 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_13 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_14 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_15 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_16 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_call3_cst : Ref sig .tc := ⟨.hbm, 118, rfl⟩
abbrev main_call3_v0 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_17 : Ref sig .tc := ⟨.hbm, 123, rfl⟩
abbrev main_v75 : Ref sig .tc := ⟨.hbm, 124, rfl⟩
abbrev main_cst_18 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]
-- ==== Kernel2.lean ====
abbrev S8x8320x256 : Shape := ⟨3, ![8, 8320, 256]⟩
abbrev S8x8320x128 : Shape := ⟨3, ![8, 8320, 128]⟩
abbrev S8320x1024 : Shape := ⟨2, ![8320, 1024]⟩
abbrev S8x8320x1 : Shape := ⟨3, ![8, 8320, 1]⟩
abbrev S1x1664x256 : Shape := ⟨3, ![1, 1664, 256]⟩
abbrev S1x8320x256 : Shape := ⟨3, ![1, 8320, 256]⟩
abbrev S1x8320x128 : Shape := ⟨3, ![1, 8320, 128]⟩
abbrev S1664x128 : Shape := ⟨2, ![1664, 128]⟩
abbrev S1x1664x1 : Shape := ⟨3, ![1, 1664, 1]⟩
abbrev S416x1 : Shape := ⟨2, ![416, 1]⟩
abbrev S416x128 : Shape := ⟨2, ![416, 128]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S1x416x256 : Shape := ⟨3, ![1, 416, 256]⟩
abbrev S416x256 : Shape := ⟨2, ![416, 256]⟩
abbrev S416x512 : Shape := ⟨2, ![416, 512]⟩
abbrev S416 : Shape := ⟨1, ![416]⟩
abbrev S1x896x256 : Shape := ⟨3, ![1, 896, 256]⟩
abbrev S896x256 : Shape := ⟨2, ![896, 256]⟩
abbrev S1x896x128 : Shape := ⟨3, ![1, 896, 128]⟩
abbrev S896x128 : Shape := ⟨2, ![896, 128]⟩
abbrev S416x896 : Shape := ⟨2, ![416, 896]⟩
abbrev S1x1280x256 : Shape := ⟨3, ![1, 1280, 256]⟩
abbrev S1280x256 : Shape := ⟨2, ![1280, 256]⟩
abbrev S1x1280x128 : Shape := ⟨3, ![1, 1280, 128]⟩
abbrev S1280x128 : Shape := ⟨2, ![1280, 128]⟩
abbrev S416x1280 : Shape := ⟨2, ![416, 1280]⟩
abbrev S1664x256 : Shape := ⟨2, ![1664, 256]⟩
abbrev S1x1664x128 : Shape := ⟨3, ![1, 1664, 128]⟩
abbrev S416x1664 : Shape := ⟨2, ![416, 1664]⟩
abbrev S1x416x1 : Shape := ⟨3, ![1, 416, 1]⟩
abbrev S8208x1024 : Shape := ⟨2, ![8208, 1024]⟩
abbrev S8x8208x1 : Shape := ⟨3, ![8, 8208, 1]⟩

abbrev nBuf : Space → Nat
  | .hbm => 7
  | .vmem => 22
  | .smem => 0
  | _ => 0

abbrev bufTy : (tb : Table) → Fin (tcTables nBuf tb) → BufTy
  | .hbm, ⟨0, _⟩ => ⟨S8x8320x256, .bf16⟩
  | .hbm, ⟨1, _⟩ => ⟨S8x8320x256, .bf16⟩
  | .hbm, ⟨2, _⟩ => ⟨S8x8320x128, .bf16⟩
  | .hbm, ⟨3, _⟩ => ⟨S8320x1024, .bf16⟩
  | .hbm, ⟨4, _⟩ => ⟨S8x8320x1, .f32⟩
  | .hbm, ⟨5, _⟩ => ⟨S8208x1024, .bf16⟩
  | .hbm, ⟨6, _⟩ => ⟨S8x8208x1, .f32⟩
  | .local _ .vmem, ⟨0, _⟩ => ⟨S1x1664x256, .bf16⟩
  | .local _ .vmem, ⟨1, _⟩ => ⟨S1x1664x256, .bf16⟩
  | .local _ .vmem, ⟨2, _⟩ => ⟨S1x8320x256, .bf16⟩
  | .local _ .vmem, ⟨3, _⟩ => ⟨S1x8320x256, .bf16⟩
  | .local _ .vmem, ⟨4, _⟩ => ⟨S1x8320x128, .bf16⟩
  | .local _ .vmem, ⟨5, _⟩ => ⟨S1x8320x128, .bf16⟩
  | .local _ .vmem, ⟨6, _⟩ => ⟨S1664x128, .bf16⟩
  | .local _ .vmem, ⟨7, _⟩ => ⟨S1664x128, .bf16⟩
  | .local _ .vmem, ⟨8, _⟩ => ⟨S1x1664x1, .f32⟩
  | .local _ .vmem, ⟨9, _⟩ => ⟨S1x1664x1, .f32⟩
  | .local _ .vmem, ⟨10, _⟩ => ⟨S416x1, .f32⟩
  | .local _ .vmem, ⟨11, _⟩ => ⟨S416x1, .f32⟩
  | .local _ .vmem, ⟨12, _⟩ => ⟨S416x1, .f32⟩
  | .local _ .vmem, ⟨13, _⟩ => ⟨S416x1, .f32⟩
  | .local _ .vmem, ⟨14, _⟩ => ⟨S416x1, .f32⟩
  | .local _ .vmem, ⟨15, _⟩ => ⟨S416x1, .f32⟩
  | .local _ .vmem, ⟨16, _⟩ => ⟨S416x1, .f32⟩
  | .local _ .vmem, ⟨17, _⟩ => ⟨S416x1, .f32⟩
  | .local _ .vmem, ⟨18, _⟩ => ⟨S416x128, .f32⟩
  | .local _ .vmem, ⟨19, _⟩ => ⟨S416x128, .f32⟩
  | .local _ .vmem, ⟨20, _⟩ => ⟨S416x128, .f32⟩
  | .local _ .vmem, ⟨21, _⟩ => ⟨S416x128, .f32⟩
  | _, _ => ⟨S8x8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v48 : BitVec 1 := Scalar.cmpi .eq arg1 c0_i32
  let v49 : BitVec 32 := Scalar.extui v48
  let c0_i32_34 : BitVec 32 := 0#32
  let v50 : BitVec 1 := Scalar.cmpi .ne v49 c0_i32_34
  v50

def k0_mult1 : BitVec 32 :=
  let c0_i32_86 : BitVec 32 := 0#32
  c0_i32_86
def k0_cond2 (i : grid0.Coords) : BitVec 1 :=
  let arg1 : BitVec 32 := BitVec.ofNat 32 (i 1).val
  let c0_i32_35 : BitVec 32 := 0#32
  let v51 : BitVec 1 := Scalar.cmpi .sgt arg1 c0_i32_35
  let v52 : BitVec 32 := Scalar.extui v51
  let c0_i32_36 : BitVec 32 := 0#32
  let v53 : BitVec 1 := Scalar.cmpi .ne v52 c0_i32_36
  v53

def k0_mult2 : BitVec 32 :=
  let c0_i32_86 : BitVec 32 := 0#32
  c0_i32_86
@[reducible] def k0_t1_loop (i : grid0.Coords) : Scf.Loop 32 :=
  let c1_i32 : BitVec 32 := 1#32
  let arg1 : BitVec 32 := BitVec.ofNat 32 (i 1).val
  let v331 : BitVec 32 := Scalar.subi arg1 c1_i32
  let c1_i32_202 : BitVec 32 := 1#32
  let v333 : BitVec 32 := Scalar.divsi v331 c1_i32_202
  let v334 : BitVec 32 := Scalar.muli v333 c1_i32_202
  let v335 : BitVec 32 := Scalar.addi c1_i32 v334
  let c1_i32_203 : BitVec 32 := 1#32
  ⟨c1_i32, v335, c1_i32_203⟩
def k0_mult3 (i : grid0.Coords) (k0_t1 : Fin (k0_t1_loop i).trips) : BitVec 32 :=
  let c1_i32 : BitVec 32 := 1#32
  let c1_i32_203 : BitVec 32 := 1#32
  let arg19 : BitVec 32 := Scf.iv c1_i32 c1_i32_203 k0_t1
  let c1664_i32_326 : BitVec 32 := 1664#32
  let v566 : BitVec 32 := Scalar.muli arg19 c1664_i32_326
  v566
def k0_off1 (i : grid0.Coords) (k0_t1 : Fin (k0_t1_loop i).trips) : Fin 3 → Nat :=
  let c0_327 : Index := 0#32
  let c1_i32 : BitVec 32 := 1#32
  let c1_i32_203 : BitVec 32 := 1#32
  let arg19 : BitVec 32 := Scf.iv c1_i32 c1_i32_203 k0_t1
  let c1664_i32_326 : BitVec 32 := 1664#32
  let v566 : BitVec 32 := Scalar.muli arg19 c1664_i32_326
  let v567 : BitVec 32 := v566
  let v568 : Index := Scalar.indexCast v567
  let c0_328 : Index := 0#32
  ![0, v568.toNat, 0]
def k0_off2 (i : grid0.Coords) (k0_t1 : Fin (k0_t1_loop i).trips) : Fin 3 → Nat :=
  let c0_329 : Index := 0#32
  let c1_i32 : BitVec 32 := 1#32
  let c1_i32_203 : BitVec 32 := 1#32
  let arg19 : BitVec 32 := Scf.iv c1_i32 c1_i32_203 k0_t1
  let c1664_i32_326 : BitVec 32 := 1664#32
  let v566 : BitVec 32 := Scalar.muli arg19 c1664_i32_326
  let v567 : BitVec 32 := v566
  let v571 : Index := Scalar.indexCast v567
  let c0_330 : Index := 0#32
  ![0, v571.toNat, 0]
@[reducible] def k0_t2_loop (i : grid0.Coords) : Scf.Loop 32 :=
  let c1_i32 : BitVec 32 := 1#32
  let arg1 : BitVec 32 := BitVec.ofNat 32 (i 1).val
  let v331 : BitVec 32 := Scalar.subi arg1 c1_i32
  let c1_i32_202 : BitVec 32 := 1#32
  let v333 : BitVec 32 := Scalar.divsi v331 c1_i32_202
  let v334 : BitVec 32 := Scalar.muli v333 c1_i32_202
  let v335 : BitVec 32 := Scalar.addi c1_i32 v334
  let v332 : BitVec 32 := Scalar.addi c1_i32 v331
  let c1_i32_204 : BitVec 32 := 1#32
  ⟨v335, v332, c1_i32_204⟩
def k0_mult4 (i : grid0.Coords) (k0_t2 : Fin (k0_t2_loop i).trips) : BitVec 32 :=
  let c1_i32 : BitVec 32 := 1#32
  let arg1 : BitVec 32 := BitVec.ofNat 32 (i 1).val
  let v331 : BitVec 32 := Scalar.subi arg1 c1_i32
  let c1_i32_202 : BitVec 32 := 1#32
  let v333 : BitVec 32 := Scalar.divsi v331 c1_i32_202
  let v334 : BitVec 32 := Scalar.muli v333 c1_i32_202
  let v335 : BitVec 32 := Scalar.addi c1_i32 v334
  let c1_i32_204 : BitVec 32 := 1#32
  let arg19 : BitVec 32 := Scf.iv v335 c1_i32_204 k0_t2
  let c1664_i32_326 : BitVec 32 := 1664#32
  let v566 : BitVec 32 := Scalar.muli arg19 c1664_i32_326
  v566
def k0_off3 (i : grid0.Coords) (k0_t2 : Fin (k0_t2_loop i).trips) : Fin 3 → Nat :=
  let c0_327 : Index := 0#32
  let c1_i32 : BitVec 32 := 1#32
  let arg1 : BitVec 32 := BitVec.ofNat 32 (i 1).val
  let v331 : BitVec 32 := Scalar.subi arg1 c1_i32
  let c1_i32_202 : BitVec 32 := 1#32
  let v333 : BitVec 32 := Scalar.divsi v331 c1_i32_202
  let v334 : BitVec 32 := Scalar.muli v333 c1_i32_202
  let v335 : BitVec 32 := Scalar.addi c1_i32 v334
  let c1_i32_204 : BitVec 32 := 1#32
  let arg19 : BitVec 32 := Scf.iv v335 c1_i32_204 k0_t2
  let c1664_i32_326 : BitVec 32 := 1664#32
  let v566 : BitVec 32 := Scalar.muli arg19 c1664_i32_326
  let v567 : BitVec 32 := v566
  let v568 : Index := Scalar.indexCast v567
  let c0_328 : Index := 0#32
  ![0, v568.toNat, 0]
def k0_off4 (i : grid0.Coords) (k0_t2 : Fin (k0_t2_loop i).trips) : Fin 3 → Nat :=
  let c0_329 : Index := 0#32
  let c1_i32 : BitVec 32 := 1#32
  let arg1 : BitVec 32 := BitVec.ofNat 32 (i 1).val
  let v331 : BitVec 32 := Scalar.subi arg1 c1_i32
  let c1_i32_202 : BitVec 32 := 1#32
  let v333 : BitVec 32 := Scalar.divsi v331 c1_i32_202
  let v334 : BitVec 32 := Scalar.muli v333 c1_i32_202
  let v335 : BitVec 32 := Scalar.addi c1_i32 v334
  let c1_i32_204 : BitVec 32 := 1#32
  let arg19 : BitVec 32 := Scf.iv v335 c1_i32_204 k0_t2
  let c1664_i32_326 : BitVec 32 := 1664#32
  let v566 : BitVec 32 := Scalar.muli arg19 c1664_i32_326
  let v567 : BitVec 32 := v566
  let v571 : Index := Scalar.indexCast v567
  let c0_330 : Index := 0#32
  ![0, v571.toNat, 0]
def k0_mult5 (i : grid0.Coords) : BitVec 32 :=
  let arg1 : BitVec 32 := BitVec.ofNat 32 (i 1).val
  let c1664_i32_205 : BitVec 32 := 1664#32
  let v336 : BitVec 32 := Scalar.muli arg1 c1664_i32_205
  v336
def k0_off5 (i : grid0.Coords) : Fin 3 → Nat :=
  let c0_206 : Index := 0#32
  let arg1 : BitVec 32 := BitVec.ofNat 32 (i 1).val
  let c1664_i32_205 : BitVec 32 := 1664#32
  let v336 : BitVec 32 := Scalar.muli arg1 c1664_i32_205
  let v337 : BitVec 32 := v336
  let v338 : Index := Scalar.indexCast v337
  let c0_207 : Index := 0#32
  ![0, v338.toNat, 0]
def k0_off6 (i : grid0.Coords) : Fin 3 → Nat :=
  let c0_208 : Index := 0#32
  let arg1 : BitVec 32 := BitVec.ofNat 32 (i 1).val
  let c1664_i32_205 : BitVec 32 := 1664#32
  let v336 : BitVec 32 := Scalar.muli arg1 c1664_i32_205
  let v337 : BitVec 32 := v336
  let v341 : Index := Scalar.indexCast v337
  let c0_209 : Index := 0#32
  ![0, v341.toNat, 0]
def k0_off7 (i : grid0.Coords) : Fin 3 → Nat :=
  let c0_236 : Index := 0#32
  let arg1 : BitVec 32 := BitVec.ofNat 32 (i 1).val
  let c1664_i32_205 : BitVec 32 := 1664#32
  let v336 : BitVec 32 := Scalar.muli arg1 c1664_i32_205
  let v337 : BitVec 32 := v336
  let v395 : Index := Scalar.indexCast v337
  let c0_237 : Index := 0#32
  ![0, v395.toNat, 0]
def k0_off8 (i : grid0.Coords) : Fin 3 → Nat :=
  let c0_238 : Index := 0#32
  let arg1 : BitVec 32 := BitVec.ofNat 32 (i 1).val
  let c1664_i32_205 : BitVec 32 := 1664#32
  let v336 : BitVec 32 := Scalar.muli arg1 c1664_i32_205
  let v337 : BitVec 32 := v336
  let v398 : Index := Scalar.indexCast v337
  let c0_239 : Index := 0#32
  ![0, v398.toNat, 0]
def k0_off9 (i : grid0.Coords) : Fin 3 → Nat :=
  let c0_266 : Index := 0#32
  let arg1 : BitVec 32 := BitVec.ofNat 32 (i 1).val
  let c1664_i32_205 : BitVec 32 := 1664#32
  let v336 : BitVec 32 := Scalar.muli arg1 c1664_i32_205
  let v337 : BitVec 32 := v336
  let v452 : Index := Scalar.indexCast v337
  let c0_267 : Index := 0#32
  ![0, v452.toNat, 0]
def k0_off10 (i : grid0.Coords) : Fin 3 → Nat :=
  let c0_268 : Index := 0#32
  let arg1 : BitVec 32 := BitVec.ofNat 32 (i 1).val
  let c1664_i32_205 : BitVec 32 := 1664#32
  let v336 : BitVec 32 := Scalar.muli arg1 c1664_i32_205
  let v337 : BitVec 32 := v336
  let v455 : Index := Scalar.indexCast v337
  let c0_269 : Index := 0#32
  ![0, v455.toNat, 0]
def k0_off11 (i : grid0.Coords) : Fin 3 → Nat :=
  let c0_296 : Index := 0#32
  let arg1 : BitVec 32 := BitVec.ofNat 32 (i 1).val
  let c1664_i32_205 : BitVec 32 := 1664#32
  let v336 : BitVec 32 := Scalar.muli arg1 c1664_i32_205
  let v337 : BitVec 32 := v336
  let v509 : Index := Scalar.indexCast v337
  let c0_297 : Index := 0#32
  ![0, v509.toNat, 0]
def k0_off12 (i : grid0.Coords) : Fin 3 → Nat :=
  let c0_298 : Index := 0#32
  let arg1 : BitVec 32 := BitVec.ofNat 32 (i 1).val
  let c1664_i32_205 : BitVec 32 := 1664#32
  let v336 : BitVec 32 := Scalar.muli arg1 c1664_i32_205
  let v337 : BitVec 32 := v336
  let v512 : Index := Scalar.indexCast v337
  let c0_299 : Index := 0#32
  ![0, v512.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1664x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1664x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8x8320x256 : Shape := ⟨3, ![8, 8320, 256]⟩
abbrev S8x8320x128 : Shape := ⟨3, ![8, 8320, 128]⟩
abbrev S8x8208x256 : Shape := ⟨3, ![8, 8208, 256]⟩
abbrev S8x8208x128 : Shape := ⟨3, ![8, 8208, 128]⟩
abbrev S8208 : Shape := ⟨1, ![8208]⟩
abbrev S_ : Shape := ⟨0, ![]⟩
abbrev S8x8208x8208 : Shape := ⟨3, ![8, 8208, 8208]⟩
abbrev S1x8208 : Shape := ⟨2, ![1, 8208]⟩
abbrev S8208x1 : Shape := ⟨2, ![8208, 1]⟩
abbrev S8208x8208 : Shape := ⟨2, ![8208, 8208]⟩
abbrev S1x8208x8208 : Shape := ⟨3, ![1, 8208, 8208]⟩
abbrev S8x8208 : Shape := ⟨2, ![8, 8208]⟩
abbrev S8x8208x1 : Shape := ⟨3, ![8, 8208, 1]⟩
abbrev S8x128x8208 : Shape := ⟨3, ![8, 128, 8208]⟩
abbrev S8208x8x128 : Shape := ⟨3, ![8208, 8, 128]⟩
abbrev S8208x1024 : Shape := ⟨2, ![8208, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x8320x256, .bf16⟩
  | .hbm, ⟨1, _⟩ => ⟨S8x8320x256, .bf16⟩
  | .hbm, ⟨2, _⟩ => ⟨S8x8320x128, .bf16⟩
  | .hbm, ⟨3, _⟩ => ⟨S8x8208x256, .bf16⟩
  | .hbm, ⟨4, _⟩ => ⟨S8x8208x256, .f32⟩
  | .hbm, ⟨5, _⟩ => ⟨S8x8208x256, .bf16⟩
  | .hbm, ⟨6, _⟩ => ⟨S8x8208x256, .f32⟩
  | .hbm, ⟨7, _⟩ => ⟨S8x8208x128, .bf16⟩
  | .hbm, ⟨8, _⟩ => ⟨S8x8208x128, .f32⟩
  | .hbm, ⟨9, _⟩ => ⟨S8208, .i32⟩
  | .hbm, ⟨10, _⟩ => ⟨S_, .i32⟩
  | .hbm, ⟨11, _⟩ => ⟨S8208, .i32⟩
  | .hbm, ⟨12, _⟩ => ⟨S8208, .i1⟩
  | .hbm, ⟨13, _⟩ => ⟨S_, .i32⟩
  | .hbm, ⟨14, _⟩ => ⟨S8208, .i32⟩
  | .hbm, ⟨15, _⟩ => ⟨S8208, .i32⟩
  | .hbm, ⟨16, _⟩ => ⟨S_, .i32⟩
  | .hbm, ⟨17, _⟩ => ⟨S_, .i32⟩
  | .hbm, ⟨18, _⟩ => ⟨S8208, .i32⟩
  | .hbm, ⟨19, _⟩ => ⟨S8208, .i32⟩
  | .hbm, ⟨20, _⟩ => ⟨S8208, .i32⟩
  | .hbm, ⟨21, _⟩ => ⟨S_, .i32⟩
  | .hbm, ⟨22, _⟩ => ⟨S8208, .i32⟩
  | .hbm, ⟨23, _⟩ => ⟨S8208, .i1⟩
  | .hbm, ⟨24, _⟩ => ⟨S8208, .i32⟩
  | .hbm, ⟨25, _⟩ => ⟨S8208, .i32⟩
  | .hbm, ⟨26, _⟩ => ⟨S_, .i32⟩
  | .hbm, ⟨27, _⟩ => ⟨S8208, .i32⟩
  | .hbm, ⟨28, _⟩ => ⟨S8208, .i1⟩
  | .hbm, ⟨29, _⟩ => ⟨S8208, .i1⟩
  | .hbm, ⟨30, _⟩ => ⟨S_, .i32⟩
  | .hbm, ⟨31, _⟩ => ⟨S8208, .i32⟩
  | .hbm, ⟨32, _⟩ => ⟨S8208, .i32⟩
  | .hbm, ⟨33, _⟩ => ⟨S8208, .i32⟩
  | .hbm, ⟨34, _⟩ => ⟨S_, .i32⟩
  | .hbm, ⟨35, _⟩ => ⟨S8208, .i32⟩
  | .hbm, ⟨36, _⟩ => ⟨S8208, .i32⟩
  | .hbm, ⟨37, _⟩ => ⟨S_, .i32⟩
  | .hbm, ⟨38, _⟩ => ⟨S_, .i32⟩
  | .hbm, ⟨39, _⟩ => ⟨S8208, .i32⟩
  | .hbm, ⟨40, _⟩ => ⟨S8208, .i32⟩
  | .hbm, ⟨41, _⟩ => ⟨S8x8208x8208, .f32⟩
  | .hbm, ⟨42, _⟩ => ⟨S1x8208, .i32⟩
  | .hbm, ⟨43, _⟩ => ⟨S8208x1, .i32⟩
  | .hbm, ⟨44, _⟩ => ⟨S8208x8208, .i32⟩
  | .hbm, ⟨45, _⟩ => ⟨S8208x8208, .i32⟩
  | .hbm, ⟨46, _⟩ => ⟨S8208x8208, .i1⟩
  | .hbm, ⟨47, _⟩ => ⟨S1x8208x8208, .i1⟩
  | .hbm, ⟨48, _⟩ => ⟨S_, .f32⟩
  | .hbm, ⟨49, _⟩ => ⟨S_, .f32⟩
  | .hbm, ⟨50, _⟩ => ⟨S8x8208x8208, .i1⟩
  | .hbm, ⟨51, _⟩ => ⟨S8x8208x8208, .f32⟩
  | .hbm, ⟨52, _⟩ => ⟨S8x8208x8208, .f32⟩
  | .hbm, ⟨53, _⟩ => ⟨S_, .f32⟩
  | .hbm, ⟨54, _⟩ => ⟨S8x8208, .f32⟩
  | .hbm, ⟨55, _⟩ => ⟨S_, .f32⟩
  | .hbm, ⟨56, _⟩ => ⟨S8x8208, .f32⟩
  | .hbm, ⟨57, _⟩ => ⟨S8x8208, .f32⟩
  | .hbm, ⟨58, _⟩ => ⟨S8x8208x1, .f32⟩
  | .hbm, ⟨59, _⟩ => ⟨S8x8208x8208, .f32⟩
  | .hbm, ⟨60, _⟩ => ⟨S8x8208x8208, .f32⟩
  | .hbm, ⟨61, _⟩ => ⟨S8x8208x8208, .f32⟩
  | .hbm, ⟨62, _⟩ => ⟨S_, .f32⟩
  | .hbm, ⟨63, _⟩ => ⟨S8x8208, .f32⟩
  | .hbm, ⟨64, _⟩ => ⟨S8x8208x1, .f32⟩
  | .hbm, ⟨65, _⟩ => ⟨S8x8208x8208, .f32⟩
  | .hbm, ⟨66, _⟩ => ⟨S8x8208x8208, .f32⟩
  | .hbm, ⟨67, _⟩ => ⟨S8x128x8208, .f32⟩
  | .hbm, ⟨68, _⟩ => ⟨S8208x8x128, .f32⟩
  | .hbm, ⟨69, _⟩ => ⟨S_, .f32⟩
  | .hbm, ⟨70, _⟩ => ⟨S8x8208, .f32⟩
  | .hbm, ⟨71, _⟩ => ⟨S8x8208x1, .f32⟩
  | .hbm, ⟨72, _⟩ => ⟨S8x8208x8208, .f32⟩
  | .hbm, ⟨73, _⟩ => ⟨S8x8208x8208, .f32⟩
  | .hbm, ⟨74, _⟩ => ⟨S8x8208x8208, .f32⟩
  | .hbm, ⟨75, _⟩ => ⟨S_, .f32⟩
  | .hbm, ⟨76, _⟩ => ⟨S8x8208, .f32⟩
  | .hbm, ⟨77, _⟩ => ⟨S8x8208x1, .f32⟩
  | .hbm, ⟨78, _⟩ => ⟨S8x8208x1, .f32⟩
  | .hbm, ⟨79, _⟩ => ⟨S8x8208x1, .f32⟩
  | .hbm, ⟨80, _⟩ => ⟨S8208x1024, .f32⟩
  | .hbm, ⟨81, _⟩ => ⟨S8208x1024, .bf16⟩
  | _, _ => ⟨S8x8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_cst_5 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩

abbrev nD : Nat := 1
abbrev τ : Topo := Topo.v7x

variable {F : FTy → Type} [FloatOps F]
-- ==== Kernel3.lean ====
abbrev S8320x2048 : Shape := ⟨2, ![8320, 2048]⟩
abbrev S1x2048 : Shape := ⟨2, ![1, 2048]⟩
abbrev S8320x1024 : Shape := ⟨2, ![8320, 1024]⟩
abbrev S320x2048 : Shape := ⟨2, ![320, 2048]⟩
abbrev S320x1024 : Shape := ⟨2, ![320, 1024]⟩
abbrev S1x1024 : Shape := ⟨2, ![1, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8320x2048, .bf16⟩
  | .hbm, ⟨1, _⟩ => ⟨S1x2048, .f32⟩
  | .hbm, ⟨2, _⟩ => ⟨S8320x1024, .bf16⟩
  | .hbm, ⟨3, _⟩ => ⟨S8320x1024, .bf16⟩
  | .hbm, ⟨4, _⟩ => ⟨S8320x1024, .bf16⟩
  | .hbm, ⟨5, _⟩ => ⟨S8320x1024, .bf16⟩
  | .hbm, ⟨6, _⟩ => ⟨S8320x1024, .bf16⟩
  | .hbm, ⟨7, _⟩ => ⟨S8320x2048, .bf16⟩
  | .hbm, ⟨8, _⟩ => ⟨S1x2048, .f32⟩
  | .local _ .vmem, ⟨0, _⟩ => ⟨S320x2048, .bf16⟩
  | .local _ .vmem, ⟨1, _⟩ => ⟨S320x2048, .bf16⟩
  | .local _ .vmem, ⟨2, _⟩ => ⟨S1x2048, .f32⟩
  | .local _ .vmem, ⟨3, _⟩ => ⟨S320x1024, .bf16⟩
  | .local _ .vmem, ⟨4, _⟩ => ⟨S320x1024, .bf16⟩
  | .local _ .vmem, ⟨5, _⟩ => ⟨S320x1024, .bf16⟩
  | .local _ .vmem, ⟨6, _⟩ => ⟨S320x1024, .bf16⟩
  | .local _ .vmem, ⟨7, _⟩ => ⟨S320x1024, .bf16⟩
  | .local _ .vmem, ⟨8, _⟩ => ⟨S320x1024, .bf16⟩
  | .local _ .vmem, ⟨9, _⟩ => ⟨S320x1024, .bf16⟩
  | .local _ .vmem, ⟨10, _⟩ => ⟨S320x1024, .bf16⟩
  | .local _ .vmem, ⟨11, _⟩ => ⟨S320x1024, .bf16⟩
  | .local _ .vmem, ⟨12, _⟩ => ⟨S320x1024, .bf16⟩
  | .local _ .vmem, ⟨13, _⟩ => ⟨S320x2048, .bf16⟩
  | .local _ .vmem, ⟨14, _⟩ => ⟨S320x2048, .bf16⟩
  | .local _ .vmem, ⟨15, _⟩ => ⟨S1x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8320x2048 : Shape := ⟨2, ![8320, 2048]⟩
abbrev S1x2048 : Shape := ⟨2, ![1, 2048]⟩
abbrev S8320x1024 : Shape := ⟨2, ![8320, 1024]⟩
abbrev S2048 : Shape := ⟨1, ![2048]⟩
abbrev S_ : Shape := ⟨0, ![]⟩
abbrev S8320x2x1024 : Shape := ⟨3, ![8320, 2, 1024]⟩
abbrev S8320x1x1024 : Shape := ⟨3, ![8320, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048, .f32⟩
  | .hbm, ⟨2, _⟩ => ⟨S8320x1024, .bf16⟩
  | .hbm, ⟨3, _⟩ => ⟨S8320x1024, .bf16⟩
  | .hbm, ⟨4, _⟩ => ⟨S8320x1024, .bf16⟩
  | .hbm, ⟨5, _⟩ => ⟨S8320x2048, .f32⟩
  | .hbm, ⟨6, _⟩ => ⟨S8320x1024, .f32⟩
  | .hbm, ⟨7, _⟩ => ⟨S8320x1024, .f32⟩
  | .hbm, ⟨8, _⟩ => ⟨S2048, .f32⟩
  | .hbm, ⟨9, _⟩ => ⟨S1x2048, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S8320x2x1024, .f32⟩
  | .hbm, ⟨25, _⟩ => ⟨S8320x1x1024, .f32⟩
  | .hbm, ⟨26, _⟩ => ⟨S8320x1024, .f32⟩
  | .hbm, ⟨27, _⟩ => ⟨S8320x1024, .f32⟩
  | .hbm, ⟨28, _⟩ => ⟨S8320x1x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1x1024, .f32⟩
  | .hbm, ⟨36, _⟩ => ⟨S_, .f32⟩
  | .hbm, ⟨37, _⟩ => ⟨S8320x2x1024, .f32⟩
  | .hbm, ⟨38, _⟩ => ⟨S8320x1024, .f32⟩
  | .hbm, ⟨39, _⟩ => ⟨S8320x1024, .f32⟩
  | .hbm, ⟨40, _⟩ => ⟨S8320x1x1024, .f32⟩
  | .hbm, ⟨41, _⟩ => ⟨S_, .f32⟩
  | .hbm, ⟨42, _⟩ => ⟨S8320x2x1024, .f32⟩
  | .hbm, ⟨43, _⟩ => ⟨S8320x2x1024, .f32⟩
  | .hbm, ⟨44, _⟩ => ⟨S8320x2048, .f32⟩
  | .hbm, ⟨45, _⟩ => ⟨S8320x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8320x1024, .bf16⟩
  | .hbm, ⟨53, _⟩ => ⟨S8320x1024, .bf16⟩
  | .hbm, ⟨54, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel4.lean ====
abbrev S8320x5632 : Shape := ⟨2, ![8320, 5632]⟩
abbrev S8320x2816 : Shape := ⟨2, ![8320, 2816]⟩
abbrev S320x2816 : Shape := ⟨2, ![320, 2816]⟩
abbrev S320x5632 : Shape := ⟨2, ![320, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8320x5632, .bf16⟩
  | .hbm, ⟨1, _⟩ => ⟨S8320x2816, .bf16⟩
  | .hbm, ⟨2, _⟩ => ⟨S8320x5632, .bf16⟩
  | .local _ .vmem, ⟨0, _⟩ => ⟨S320x2816, .bf16⟩
  | .local _ .vmem, ⟨1, _⟩ => ⟨S320x2816, .bf16⟩
  | .local _ .vmem, ⟨2, _⟩ => ⟨S320x2816, .bf16⟩
  | .local _ .vmem, ⟨3, _⟩ => ⟨S320x2816, .bf16⟩
  | .local _ .vmem, ⟨4, _⟩ => ⟨S320x2816, .bf16⟩
  | .local _ .vmem, ⟨5, _⟩ => ⟨S320x2816, .bf16⟩
  | .local _ .vmem, ⟨6, _⟩ => ⟨S320x5632, .bf16⟩
  | .local _ .vmem, ⟨7, _⟩ => ⟨S320x5632, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8320x5632 : Shape := ⟨2, ![8320, 5632]⟩
abbrev S8320x2816 : Shape := ⟨2, ![8320, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2816, .bf16⟩
  | .hbm, ⟨2, _⟩ => ⟨S8320x5632, .f32⟩
  | .hbm, ⟨3, _⟩ => ⟨S8320x2816, .f32⟩
  | .hbm, ⟨4, _⟩ => ⟨S8320x2816, .f32⟩
  | .hbm, ⟨5, _⟩ => ⟨S8320x2816, .f32⟩
  | .hbm, ⟨6, _⟩ => ⟨S8320x2816, .f32⟩
  | .hbm, ⟨7, _⟩ => ⟨S_, .f32⟩
  | .hbm, ⟨8, _⟩ => ⟨S8320x2816, .f32⟩
  | .hbm, ⟨9, _⟩ => ⟨S8320x2816, .f32⟩
  | .hbm, ⟨10, _⟩ => ⟨S_, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S8320x2816, .f32⟩
  | .hbm, ⟨26, _⟩ => ⟨S8320x5632, .f32⟩
  | .hbm, ⟨27, _⟩ => ⟨S8320x5632, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel5.lean ====
abbrev S8320x1024 : Shape := ⟨2, ![8320, 1024]⟩
abbrev S8320x5632 : Shape := ⟨2, ![8320, 5632]⟩
abbrev S1024x5632 : Shape := ⟨2, ![1024, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S1024x5632, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S8320x5632 : Shape := ⟨2, ![8320, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x5632, .bf16⟩
  | .hbm, ⟨2, _⟩ => ⟨S_, .f32⟩
  | .hbm, ⟨3, _⟩ => ⟨S1024x5632, .f32⟩
  | .hbm, ⟨4, _⟩ => ⟨S8320x1024, .f32⟩
  | .hbm, ⟨5, _⟩ => ⟨S8320x5632, .f32⟩
  | .hbm, ⟨6, _⟩ => ⟨S8320x5632, .f32⟩
  | .hbm, ⟨7, _⟩ => ⟨S5632x1024, .f32⟩
  | .hbm, ⟨8, _⟩ => ⟨S1024x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8320x5632 : Shape := ⟨2, ![8320, 5632]⟩
abbrev S1024x5632 : Shape := ⟨2, ![1024, 5632]⟩
abbrev S8320x1024 : Shape := ⟨2, ![8320, 1024]⟩
abbrev S1040x5632 : Shape := ⟨2, ![1040, 5632]⟩
abbrev S512x5632 : Shape := ⟨2, ![512, 5632]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S8320x1024, .f32⟩
  | .local _ .vmem, ⟨0, _⟩ => ⟨S1040x5632, .bf16⟩
  | .local _ .vmem, ⟨1, _⟩ => ⟨S1040x5632, .bf16⟩
  | .local _ .vmem, ⟨2, _⟩ => ⟨S512x5632, .bf16⟩
  | .local _ .vmem, ⟨3, _⟩ => ⟨S512x5632, .bf16⟩
  | .local _ .vmem, ⟨4, _⟩ => ⟨S1040x512, .f32⟩
  | .local _ .vmem, ⟨5, _⟩ => ⟨S1040x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8320x5632 : Shape := ⟨2, ![8320, 5632]⟩
abbrev S1024x5632 : Shape := ⟨2, ![1024, 5632]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S1024x5632, .bf16⟩
  | .hbm, ⟨2, _⟩ => ⟨S_, .f32⟩
  | .hbm, ⟨3, _⟩ => ⟨S8320x1024, .f32⟩
  | .hbm, ⟨4, _⟩ => ⟨S1024x5632, .f32⟩
  | .hbm, ⟨5, _⟩ => ⟨S8320x5632, .f32⟩
  | .hbm, ⟨6, _⟩ => ⟨S8320x5632, .f32⟩
  | .hbm, ⟨7, _⟩ => ⟨S8320x1024, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .bf16⟩
  | .local _ .vmem, ⟨0, _⟩ => ⟨S1664x1024, .bf16⟩
  | .local _ .vmem, ⟨1, _⟩ => ⟨S1664x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1408, .bf16⟩
  | .local _ .vmem, ⟨5, _⟩ => ⟨S1664x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S8320x2816, .f32⟩
  | .hbm, ⟨8, _⟩ => ⟨S8320x2816, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .bf16⟩
  | .local _ .vmem, ⟨5, _⟩ => ⟨S1664x1408, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | .hbm, ⟨5, _⟩ => ⟨S8320x5632, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8320x5632 : Shape := ⟨2, ![8320, 5632]⟩
abbrev S2816x1024 : Shape := ⟨2, ![2816, 1024]⟩
abbrev S8320x1024 : Shape := ⟨2, ![8320, 1024]⟩
abbrev S8320x2816 : Shape := ⟨2, ![8320, 2816]⟩
abbrev S320x2816 : Shape := ⟨2, ![320, 2816]⟩
abbrev S320x1024 : Shape := ⟨2, ![320, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8320x5632, .bf16⟩
  | .hbm, ⟨1, _⟩ => ⟨S2816x1024, .bf16⟩
  | .hbm, ⟨2, _⟩ => ⟨S8320x1024, .f32⟩
  | .hbm, ⟨3, _⟩ => ⟨S8320x1024, .f32⟩
  | .hbm, ⟨4, _⟩ => ⟨S8320x2816, .bf16⟩
  | .local _ .vmem, ⟨0, _⟩ => ⟨S320x2816, .bf16⟩
  | .local _ .vmem, ⟨1, _⟩ => ⟨S320x2816, .bf16⟩
  | .local _ .vmem, ⟨2, _⟩ => ⟨S320x2816, .bf16⟩
  | .local _ .vmem, ⟨3, _⟩ => ⟨S320x2816, .bf16⟩
  | .local _ .vmem, ⟨4, _⟩ => ⟨S2816x1024, .bf16⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x2816, .bf16⟩
  | .local _ .vmem, ⟨10, _⟩ => ⟨S320x2816, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8320x5632 : Shape := ⟨2, ![8320, 5632]⟩
abbrev S2816x1024 : Shape := ⟨2, ![2816, 1024]⟩
abbrev S8320x1024 : Shape := ⟨2, ![8320, 1024]⟩
abbrev S8320x2816 : Shape := ⟨2, ![8320, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2816x1024, .bf16⟩
  | .hbm, ⟨2, _⟩ => ⟨S8320x1024, .f32⟩
  | .hbm, ⟨3, _⟩ => ⟨S8320x5632, .f32⟩
  | .hbm, ⟨4, _⟩ => ⟨S8320x2816, .f32⟩
  | .hbm, ⟨5, _⟩ => ⟨S8320x2816, .f32⟩
  | .hbm, ⟨6, _⟩ => ⟨S8320x2816, .f32⟩
  | .hbm, ⟨7, _⟩ => ⟨S8320x2816, .f32⟩
  | .hbm, ⟨8, _⟩ => ⟨S_, .f32⟩
  | .hbm, ⟨9, _⟩ => ⟨S8320x2816, .f32⟩
  | .hbm, ⟨10, _⟩ => ⟨S8320x2816, .f32⟩
  | .hbm, ⟨11, _⟩ => ⟨S_, .f32⟩
  | .hbm, ⟨12, _⟩ => ⟨S8320x2816, .f32⟩
  | .hbm, ⟨13, _⟩ => ⟨S8320x2816, .f32⟩
  | .hbm, ⟨14, _⟩ => ⟨S8320x2816, .f32⟩
  | .hbm, ⟨15, _⟩ => ⟨S8320x2816, .f32⟩
  | .hbm, ⟨16, _⟩ => ⟨S2816x1024, .f32⟩
  | .hbm, ⟨17, _⟩ => ⟨S8320x1024, .f32⟩
  | .hbm, ⟨18, _⟩ => ⟨S8320x1024, .f32⟩
  | .hbm, ⟨19, _⟩ => ⟨S8320x2816, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel11.lean ====
abbrev S360x1024 : Shape := ⟨2, ![360, 1024]⟩

abbrev nBuf : Space → Nat
  | .hbm => 7
  | .vmem => 7
  | .smem => 0
  | _ => 0

abbrev bufTy : (tb : Table) → Fin (tcTables nBuf tb) → BufTy
  | .hbm, ⟨0, _⟩ => ⟨S360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S360x1024, .f32⟩
  | .hbm, ⟨5, _⟩ => ⟨S360x1024, .f32⟩
  | .hbm, ⟨6, _⟩ => ⟨S360x1024, .f32⟩
  | .local _ .vmem, ⟨0, _⟩ => ⟨S360x1024, .f32⟩
  | .local _ .vmem, ⟨1, _⟩ => ⟨S360x1024, .f32⟩
  | .local _ .vmem, ⟨2, _⟩ => ⟨S360x1024, .f32⟩
  | .local _ .vmem, ⟨3, _⟩ => ⟨S360x1024, .f32⟩
  | .local _ .vmem, ⟨4, _⟩ => ⟨S360x1024, .f32⟩
  | .local _ .vmem, ⟨5, _⟩ => ⟨S360x1024, .f32⟩
  | .local _ .vmem, ⟨6, _⟩ => ⟨S360x1024, .f32⟩
  | _, _ => ⟨S360x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S360x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S360x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S360x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S360x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S360x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S360x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S360x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
variable {F : FTy → Type} [FloatOps F] [Named F]
def κ : String → Option EReal := fun
  | "over_b1" => some ((8388608 / 5463681 : ℝ) : EReal)
  | "over_b2" => some ((268435456 / 2672307 : ℝ) : EReal)
  | _ => none
-- ==== Reference11Ideal.lean ====
abbrev S360x1024 : Shape := ⟨2, ![360, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S_, .f32⟩
  | .hbm, ⟨5, _⟩ => ⟨S360x1024, .f32⟩
  | .hbm, ⟨6, _⟩ => ⟨S360x1024, .f32⟩
  | .hbm, ⟨7, _⟩ => ⟨S_, .f32⟩
  | .hbm, ⟨8, _⟩ => ⟨S360x1024, .f32⟩
  | .hbm, ⟨9, _⟩ => ⟨S360x1024, .f32⟩
  | .hbm, ⟨10, _⟩ => ⟨S360x1024, .f32⟩
  | .hbm, ⟨11, _⟩ => ⟨S_, .f32⟩
  | .hbm, ⟨12, _⟩ => ⟨S360x1024, .f32⟩
  | .hbm, ⟨13, _⟩ => ⟨S360x1024, .f32⟩
  | .hbm, ⟨14, _⟩ => ⟨S360x1024, .f32⟩
  | .hbm, ⟨15, _⟩ => ⟨S_, .f32⟩
  | .hbm, ⟨16, _⟩ => ⟨S360x1024, .f32⟩
  | .hbm, ⟨17, _⟩ => ⟨S360x1024, .f32⟩
  | .hbm, ⟨18, _⟩ => ⟨S360x1024, .f32⟩
  | .hbm, ⟨19, _⟩ => ⟨S_, .f32⟩
  | .hbm, ⟨20, _⟩ => ⟨S360x1024, .f32⟩
  | .hbm, ⟨21, _⟩ => ⟨S360x1024, .f32⟩
  | .hbm, ⟨22, _⟩ => ⟨S_, .f32⟩
  | .hbm, ⟨23, _⟩ => ⟨S360x1024, .f32⟩
  | .hbm, ⟨24, _⟩ => ⟨S360x1024, .f32⟩
  | .hbm, ⟨25, _⟩ => ⟨S360x1024, .f32⟩
  | .hbm, ⟨26, _⟩ => ⟨S_, .f32⟩
  | .hbm, ⟨27, _⟩ => ⟨S360x1024, .f32⟩
  | .hbm, ⟨28, _⟩ => ⟨S360x1024, .f32⟩
  | .hbm, ⟨29, _⟩ => ⟨S360x1024, .f32⟩
  | .hbm, ⟨30, _⟩ => ⟨S_, .f32⟩
  | .hbm, ⟨31, _⟩ => ⟨S360x1024, .f32⟩
  | .hbm, ⟨32, _⟩ => ⟨S360x1024, .f32⟩
  | .hbm, ⟨33, _⟩ => ⟨S360x1024, .f32⟩
  | .hbm, ⟨34, _⟩ => ⟨S_, .f32⟩
  | .hbm, ⟨35, _⟩ => ⟨S360x1024, .f32⟩
  | .hbm, ⟨36, _⟩ => ⟨S360x1024, .f32⟩
  | _, _ => ⟨S360x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S_, .f32⟩
  | .hbm, ⟨41, _⟩ => ⟨S8320, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel13.lean ====
abbrev S512x1408 : Shape := ⟨2, ![512, 1408]⟩
abbrev S_ : Shape := ⟨0, ![]⟩
abbrev S1024x1408 : Shape := ⟨2, ![1024, 1408]⟩
abbrev S1 : Shape := ⟨1, ![1]⟩
abbrev S128x1408 : Shape := ⟨2, ![128, 1408]⟩

abbrev nBuf : Space → Nat
  | .hbm => 10
  | .vmem => 18
  | .smem => 1
  | _ => 0

abbrev bufTy : (tb : Table) → Fin (tcTables nBuf tb) → BufTy
  | .hbm, ⟨0, _⟩ => ⟨S512x1408, .f32⟩
  | .hbm, ⟨1, _⟩ => ⟨S512x1408, .f32⟩
  | .hbm, ⟨2, _⟩ => ⟨S_, .i32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13Ideal.lean ====
variable {F : FTy → Type} [FloatOps F] [Named F]
def κ : String → Option EReal := fun
  | "over_b1" => some ((8388608 / 5463681 : ℝ) : EReal)
  | "over_b2" => some ((268435456 / 2672307 : ℝ) : EReal)
  | _ => none
-- ==== Reference13Ideal.lean ====
abbrev S512x1408 : Shape := ⟨2, ![512, 1408]⟩
abbrev S_ : Shape := ⟨0, ![]⟩
abbrev S1024x1408 : Shape := ⟨2, ![1024, 1408]⟩

abbrev nBuf : Space → Nat
  | .hbm => 46
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S512x1408, .f32⟩
  | .hbm, ⟨2, _⟩ => ⟨S_, .i32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .i32⟩
  | .hbm, ⟨7, _⟩ => ⟨S_, .i1⟩
  | .hbm, ⟨8, _⟩ => ⟨S512x1408, .f32⟩
  | .hbm, ⟨9, _⟩ => ⟨S_, .i32⟩
  | .hbm, ⟨10, _⟩ => ⟨S_, .i1⟩
  | .hbm, ⟨11, _⟩ => ⟨S512x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S_, .f32⟩
  | .hbm, ⟨40, _⟩ => ⟨S1024x1408, .f32⟩
  | .hbm, ⟨41, _⟩ => ⟨S1024x1408, .f32⟩
  | .hbm, ⟨42, _⟩ => ⟨S1024x1408, .f32⟩
  | .hbm, ⟨43, _⟩ => ⟨S_, .f32⟩
  | .hbm, ⟨44, _⟩ => ⟨S1024x1408, .f32⟩
  | .hbm, ⟨45, _⟩ => ⟨S1024x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Attn.lean ====
module
public import proofs.«01_k».proof.Proof.Gen.KernelIdeal.Frame
public import proofs.«01_k».proof.Proof.Gen.KernelIdeal.Loops
public import Idealize.ShloMosaic.Lib.Pipeline.ValueKit
public import Idealize.ShloMosaic.Lib.WritesUnit
@[expose] public section
set_option maxRecDepth 16384
noncomputable section
namespace Cert.KernelIdeal.Hand
open Idealize.ShloMosaic Idealize.ShloMosaic.TcCoe Idealize.ShloMosaic.WordCmp Cert.KernelIdeal Cert.KernelIdeal.Gen
open scoped BigOperators

/-- Key row `c` is seen from query row `x` (both counted with the 112 rows in front). -/
abbrev vis (c x : ℕ) : Prop := c / 64 ≤ x / 64 ∧ 112 ≤ c

/-- The transposed score of key row `c` and query row `x`. -/
def st (Q K : ℕ → ℕ → EReal) (c x : ℕ) : EReal := ∑ d : Fin 256, K c d.val * Q x d.val

/-- The weight of key row `c` for query row `x`. -/
def pm (Q K : ℕ → ℕ → EReal) (L : ℕ → EReal) (c x : ℕ) : EReal :=
  Ideal.exp ((if vis c x then st Q K c x else ⊥) - L x)

/-- The product of a value row and a cotangent row. -/
def dp (V O : ℕ → ℕ → EReal) (c x : ℕ) : EReal := ∑ e : Fin 128, V c e.val * O x e.val

/-- The gradient of the score of key row `c` and query row `x`. -/
def ds (Q K V O : ℕ → ℕ → EReal) (L D : ℕ → EReal) (c x : ℕ) : EReal :=
  pm Q K L c x * (dp V O c x - D x)

/-- The kernel's words for "chunk of the key is not after the chunk of the query and the key is no row in front". -/
theorem mask_word {c x : ℕ} (hc : c < 2 ^ 20) (hx : x < 2 ^ 20) :
    IntOp.andi (IntOp.cmpi .sle (IntOp.shrsi .vector (BitVec.ofNat 32 c) 6#32) (IntOp.shrsi .vector (BitVec.ofNat 32 x) 6#32))
      (IntOp.cmpi .sge (BitVec.ofNat 32 c) 112#32) = BitVec.ofBool (decide (vis c x)) := by
  have hs : ∀ a : ℕ, a < 2 ^ 20 → IntOp.shrsi .vector (BitVec.ofNat 32 a) 6#32 = BitVec.ofNat 32 (a / 64) := by
    intro a ha
    have h1 : (BitVec.ofNat 32 a).msb = false := by
      rw [BitVec.msb_eq_decide]; simp; omega
    simp only [IntOp.shrsi]
    apply BitVec.eq_of_toNat_eq
    simp [BitVec.toNat_sshiftRight, h1]
    omega
  rw [hs c hc, hs x hx, cmpi_sle_ofNat (by omega) (by omega), cmpi_sge_ofNat (by omega) (by omega), andi_ofBool]
  simp [vis]

/-- The words' selection between a score and the mask's value. -/
theorem mask_sel {α : Type} {c x : ℕ} (a b : α) (hc : c < 2 ^ 20) (hx : x < 2 ^ 20) :
    Scalar.select (IntOp.andi (IntOp.cmpi .sle (IntOp.shrsi .vector (BitVec.ofNat 32 c) 6#32) (IntOp.shrsi .vector (BitVec.ofNat 32 x) 6#32))
      (IntOp.cmpi .sge (BitVec.ofNat 32 c) 112#32)) a b = if vis c x then a else b := by
  rw [mask_word hc hx]
  by_cases h : vis c x <;> simp [Scalar.select, h]

/-- The kernel's mask constant, named minus infinity. -/
theorem mask_named : (Named.named (F := Ideal) κ "mask" (φ := .f32) 4048155338#32) = (⊥ : EReal) := rfl

/-- The word of a row number: a block number times the block's height, plus a first row, plus a row. -/
theorem word_lin (a b c d : ℕ) : IntOp.addi (Scalar.addi (Scalar.muli (BitVec.ofNat 32 a) (BitVec.ofNat 32 b)) (BitVec.ofNat 32 c)) (BitVec.ofNat 32 d) = BitVec.ofNat 32 (b*a+c+d) := by
  show (BitVec.ofNat 32 a * BitVec.ofNat 32 b + BitVec.ofNat 32 c) + BitVec.ofNat 32 d = _
  simp only [BitVec.ofNat_add, BitVec.ofNat_mul, BitVec.mul_comm]

/-- The word of the first loop's block number. -/
theorem iv_one {k : ℕ} (hk : k < 4) : Scf.iv 1#32 1#32 k = BitVec.ofNat 32 (k + 1) := by
  revert hk; revert k; decide

/-- A number word is its number's word. -/
theorem word_zero : (0#32 : BitVec 32) = BitVec.ofNat 32 0 := rfl

/-- What query rows `o + x`, `x < n`, add to the gradient of value row `c`. -/
def dvS (Q K O : ℕ → ℕ → EReal) (L : ℕ → EReal) (n c o e : ℕ) : EReal :=
  ∑ x : Fin n, pm Q K L c (o + x.val) * O (o + x.val) e

/-- What query rows `o + x`, `x < n`, add to the gradient of key row `c`. -/
def dkS (Q K V O : ℕ → ℕ → EReal) (L D : ℕ → EReal) (n c o d : ℕ) : EReal :=
  ∑ x : Fin n, ds Q K V O L D c (o + x.val) * Q (o + x.val) d

/-- What key rows `b + c`, `c < n`, add to the gradient of query row `x`. -/
def dqS (Q K V O : ℕ → ℕ → EReal) (L D : ℕ → EReal) (n b x d : ℕ) : EReal :=
  ∑ c : Fin n, ds Q K V O L D (b + c.val) x * K (b + c.val) d

/-- The second coordinate of a triple. -/
theorem ix3_1 {n0 n1 n2 : ℕ} (a : Fin n0) (b : Fin n1) (c : Fin n2) : (ix3 a b c) 1 = b := rfl
/-- The third coordinate of a triple. -/
theorem ix3_2 {n0 n1 n2 : ℕ} (a : Fin n0) (b : Fin n1) (c : Fin n2) : (ix3 a b c) 2 = c := rfl
/-- The first coordinate of a pair. -/
theorem ix2_0 {n0 n1 : ℕ} (a : Fin n0) (b : Fin n1) : (ix2 a b) 0 = a := rfl
/-- The second coordinate of a pair. -/
theorem ix2_1 {n0 n1 : ℕ} (a : Fin n0) (b : Fin n1) : (ix2 a b) 1 = b := rfl

/-- The four chains of a block are the block. -/
theorem dqS_four (Q K V O : ℕ → ℕ → EReal) (L D : ℕ → EReal) (b x d : ℕ) :
    dqS Q K V O L D 416 b x d + dqS Q K V O L D 416 (b + 416) x d + dqS Q K V O L D 416 (b + 832) x d
      + dqS Q K V O L D 416 (b + 1248) x d = dqS Q K V O L D 1664 b x d := by
  unfold dqS
  have h : ∀ n b, (∑ c : Fin n, ds Q K V O L D (b + c.val) x * K (b + c.val) d)
      = ∑ c ∈ Finset.range n, ds Q K V O L D (b + c) x * K (b + c) d := fun n b =>
    (Finset.sum_range (fun c => ds Q K V O L D (b + c) x * K (b + c) d)).symm
  rw [h, h, h, h, h, show (1664 : ℕ) = 416 + 416 + 416 + 416 from rfl, Finset.sum_range_add, Finset.sum_range_add,
    Finset.sum_range_add]
  simp only [Nat.add_assoc]
  rfl

/-- A key row a query row does not see has weight zero. -/
theorem pm_zero (Q K : ℕ → ℕ → EReal) (L : ℕ → EReal) {c x : ℕ} (h : ¬ vis c x) : pm Q K L c x = 0 := by
  unfold pm
  rw [if_neg h, EReal.bot_sub]
  exact Ideal.exp_bot

/-- A key row a query row does not see has no gradient of its score. -/
theorem ds_zero (Q K V O : ℕ → ℕ → EReal) (L D : ℕ → EReal) {c x : ℕ} (h : ¬ vis c x) : ds Q K V O L D c x = 0 := by
  unfold ds
  rw [pm_zero Q K L h, zero_mul]

/-- Key rows that a query row does not see add nothing to its gradient. -/
theorem dqS_zero (Q K V O : ℕ → ℕ → EReal) (L D : ℕ → EReal) (n b x d : ℕ) (h : ∀ c < n, ¬ vis (b + c) x) :
    dqS Q K V O L D n b x d = 0 := by
  unfold dqS
  exact Finset.sum_eq_zero fun c _ => by rw [ds_zero Q K V O L D (h c.val c.isLt), zero_mul]

/-- A sum over the rows from `o` to the end of the block, and over `t` more blocks, is the sum over all rows
    when the rows before `o` add nothing. -/
theorem sum_blocks (F : ℕ → EReal) (W o n j t : ℕ) (hn : o + n = W * j + W) (h0 : ∀ x < o, F x = 0) :
    (∑ x : Fin n, F (o + x.val)) + ∑ m ∈ Finset.range t, ∑ x : Fin W, F (W * j + W * m + W + x.val)
      = ∑ x ∈ Finset.range (W * j + W + W * t), F x := by
  have hs : ∀ a b : ℕ, ∑ x ∈ Finset.range (a + b), F x = ∑ x ∈ Finset.range a, F x + ∑ x : Fin b, F (a + x.val) := fun a b => by
    rw [Finset.sum_range_add, Finset.sum_range (n := b)]
  induction t with
  | zero =>
    rw [Finset.sum_range_zero, add_zero, Nat.mul_zero, Nat.add_zero, ← hn, hs,
      Finset.sum_eq_zero (fun x hx => h0 x (Finset.mem_range.mp hx)), zero_add]
  | succ t ih =>
    rw [Finset.sum_range_succ, ← add_assoc, ih, Nat.mul_succ, ← Nat.add_assoc (W * j + W), hs (W * j + W + W * t) W]
    have he : ∀ x : ℕ, W * j + W * t + W + x = W * j + W + W * t + x := fun x => by omega
    simp only [he]

/-- The gradient of value row `c`: the sum over all query rows. -/
def dvT (Q K O : ℕ → ℕ → EReal) (L : ℕ → EReal) (c e : ℕ) : EReal :=
  ∑ x ∈ Finset.range 8320, pm Q K L c x * O x e

/-- The gradient of key row `c`: the sum over all query rows. -/
def dkT (Q K V O : ℕ → ℕ → EReal) (L D : ℕ → EReal) (c d : ℕ) : EReal :=
  ∑ x ∈ Finset.range 8320, ds Q K V O L D c x * Q x d

/-- The diagonal step and the steps after it make the gradient of a value row. -/
theorem dv_total (Q K O : ℕ → ℕ → EReal) (L : ℕ → EReal) (c e o n j : ℕ) (hj : j < 5) (hn : o + n = 1664 * j + 1664)
    (h0 : ∀ x < o, ¬ vis c x) :
    dvS Q K O L n c o e + ∑ m ∈ Finset.range (4 - j), dvS Q K O L 1664 c (1664 * j + 1664 * m + 1664) e = dvT Q K O L c e := by
  unfold dvS dvT
  rw [sum_blocks (fun x => pm Q K L c x * O x e) 1664 o n j (4 - j) hn (fun x hx => by rw [pm_zero Q K L (h0 x hx), zero_mul]),
    show 1664 * j + 1664 + 1664 * (4 - j) = 8320 by omega]

/-- The diagonal step and the steps after it make the gradient of a key row. -/
theorem dk_total (Q K V O : ℕ → ℕ → EReal) (L D : ℕ → EReal) (c d o n j : ℕ) (hj : j < 5) (hn : o + n = 1664 * j + 1664)
    (h0 : ∀ x < o, ¬ vis c x) :
    dkS Q K V O L D n c o d + ∑ m ∈ Finset.range (4 - j), dkS Q K V O L D 1664 c (1664 * j + 1664 * m + 1664) d = dkT Q K V O L D c d := by
  unfold dkS dkT
  rw [sum_blocks (fun x => ds Q K V O L D c x * Q x d) 1664 o n j (4 - j) hn (fun x hx => by rw [ds_zero Q K V O L D (h0 x hx), zero_mul]),
    show 1664 * j + 1664 + 1664 * (4 - j) = 8320 by omega]

end Cert.KernelIdeal.Hand
-- ==== Proof.Stage.lean ====
module
public import proofs.«01_k».proof.Proof.Attn
public import Idealize.ShloMosaic.Lib.StableHlo.ReadAt
public import Idealize.ShloMosaic.Lib.IdealHost
public import Idealize.ShloMosaic.Lib.Pointwise
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open scoped BigOperators

/-! ## The arrays computed before the launch, stage by stage -/

/-- Row numbers. -/
abbrev rowNo : IVec S8208 32 := iotaInDim S8208 32 0
/-- One word at every row. -/
abbrev word (w : BitVec 32) : IVec S8208 32 := broadcastInDim S8208 ![] bcast_S_S8208 (constantI S_ 32 w)
/-- The row number less the sixteen leading rows. -/
abbrev lessNo : IVec S8208 32 := subi rowNo (word 16#32)
/-- The chunk of each row: zero for the leading rows, then one more each sixty-four rows. -/
def chunk : IVec S8208 32 :=
  select (cmpi .slt rowNo (word 16#32)) (word 0#32)
    (addi (select (andi (cmpi .ne (signi lessNo) (broadcastInDim S8208 ![] bcast_S_S8208 (signi (constantI S_ 32 64#32))))
        (cmpi .ne (Host.remsi lessNo (word 64#32)) (word 0#32)))
      (subi (Host.divsi lessNo (word 64#32)) (word 1#32)) (Host.divsi lessNo (word 64#32))) (word 1#32))
/-- Whether the key's chunk is not after the query's. -/
def seen : IVec S8208x8208 1 :=
  cmpi .sle (broadcastInDim S8208x8208 ![0, 1] bcast_S1x8208_S8208x8208_0_1 (broadcastInDim S1x8208 ![1] bcast_S8208_S1x8208_1 chunk))
    (broadcastInDim S8208x8208 ![0, 1] bcast_S8208x1_S8208x8208_0_1 (broadcastInDim S8208x1 ![0] bcast_S8208_S8208x1_0 chunk))
/-- The same at every head. -/
abbrev seenH : IVec S8x8208x8208 1 :=
  broadcastInDim S8x8208x8208 ![0, 1, 2] bcast_S1x8208x8208_S8x8208x8208_0_1_2 (broadcastInDim S1x8208x8208 ![1, 2] bcast_S8208x8208_S1x8208x8208_1_2 seen)
/-- The scores, minus infinity where the key is not seen. -/
def scores (q k : FVec Ideal S8x8208x256 .f32) : FVec Ideal S8x8208x8208 .f32 :=
  select seenH (Host.dotGeneral dot_S8x8208x256_S8x8208x256_S8x8208x8208_2_2_1_1_0_0 none q k)
    (broadcastInDim S8x8208x8208 ![] bcast_S_S8x8208x8208 (constant S_ .f32 0xFF800000#32))
/-- A row's largest score. -/
def top (s : FVec Ideal S8x8208x8208 .f32) : FVec Ideal S8x8208 .f32 :=
  Host.reduce FloatOps.maximumf s (constant S_ .f32 0xFF800000#32) reducesTo_S8x8208x8208_S8x8208_d2 h_S_
/-- The same, not below minus infinity. -/
def top' (s : FVec Ideal S8x8208x8208 .f32) : FVec Ideal S8x8208 .f32 :=
  maximumf (broadcastInDim S8x8208 ![] bcast_S_S8x8208 (constant S_ .f32 0xFF800000#32)) (top s)
/-- One number per row, at every key. -/
abbrev wide (r : FVec Ideal S8x8208 .f32) : FVec Ideal S8x8208x8208 .f32 :=
  broadcastInDim S8x8208x8208 ![0, 1, 2] bcast_S8x8208x1_S8x8208x8208_0_1_2 (broadcastInDim S8x8208x1 ![0, 1] bcast_S8x8208_S8x8208x1_0_1 r)
/-- The exponentials of the scores less a number per row. -/
def expo (s : FVec Ideal S8x8208x8208 .f32) (r : FVec Ideal S8x8208 .f32) : FVec Ideal S8x8208x8208 .f32 := Host.exp (subf s (wide r))
/-- The sum along the keys. -/
def total (x : FVec Ideal S8x8208x8208 .f32) : FVec Ideal S8x8208 .f32 :=
  Host.reduceAdd x (constant S_ .f32 0x00000000#32) reducesTo_S8x8208x8208_S8x8208_d2 h_S_
/-- A row's log-sum-exp. -/
def lse (s : FVec Ideal S8x8208x8208 .f32) : FVec Ideal S8x8208 .f32 := addf (top s) (Host.log (total (expo s (top s))))
/-- The softmax of the scores. -/
def soft (s : FVec Ideal S8x8208x8208 .f32) : FVec Ideal S8x8208x8208 .f32 := Host.divf (expo s (top' s)) (wide (total (expo s (top' s))))
/-- The cotangent by head. -/
def byHead (o : FVec Ideal S8208x1024 .bf16) : FVec Ideal S8208x8x128 .f32 := shapeCast S8208x8x128 (extf .f32 o bitsLt_bf16_f32) shapeCasts_S8208x1024_S8208x8x128
/-- Each row's product of the attention's output and its cotangent. -/
def delta (v : FVec Ideal S8x8208x128 .f32) (s : FVec Ideal S8x8208x8208 .f32) (o : FVec Ideal S8208x1024 .bf16) : FVec Ideal S8x8208 .f32 :=
  transpose S8x8208 [1, 0] (Host.reduceAdd (mulf (transpose S8208x8x128 [2, 0, 1]
      (Host.dotGeneral dot_S8x8208x128_S8x8208x8208_S8x128x8208_1_2_2_1_0_0 none v (soft s)) transposes_S8x128x8208_S8208x8x128_2_0_1) (byHead o))
    (constant S_ .f32 0x00000000#32) reducesTo_S8208x8x128_S8208x8_d2 h_S_) transposes_S8208x8_S8x8208_1_0
/-- The rows that are not in front, widened. -/
def rows256 (a : FVec Ideal S8x8320x256 .bf16) : FVec Ideal S8x8208x256 .f32 :=
  extf .f32 (extractStridedSlice S8x8208x256 ![0, 112, 0] a slices_S8x8320x256_S8x8208x256_0_112_0) bitsLt_bf16_f32
/-- The rows that are not in front, widened. -/
def rows128 (a : FVec Ideal S8x8320x128 .bf16) : FVec Ideal S8x8208x128 .f32 :=
  extf .f32 (extractStridedSlice S8x8208x128 ![0, 112, 0] a slices_S8x8320x128_S8x8208x128_0_112_0) bitsLt_bf16_f32
/-- A number per row with zeros for the rows in front, with a unit axis. -/
def front (r : FVec Ideal S8x8208 .f32) : FVec Ideal S8x1x8320 .f32 :=
  broadcastInDim S8x1x8320 ![0, 2] bcast_S8x8320_S8x1x8320_0_2
    (pad S8x8320 ![0, 112] ![0, 0] ![0, 0] r (sitofp .f32 (constantI S_ 32 0#32)) pads_S8x8208_S8x8320_000_11200 h_S_)

end Cert.KernelIdeal.Hand
-- ==== Proof.StageAt.lean ====
module
public import proofs.«01_k».proof.Proof.Stage
@[expose] public section
set_option maxRecDepth 16384
noncomputable section
namespace Cert.KernelIdeal.Hand
open Idealize.ShloMosaic Idealize.ShloMosaic.TcCoe Idealize.ShloMosaic.Tactic Idealize.ShloMosaic.WordCmp Cert.KernelIdeal Cert.KernelIdeal.Gen
open scoped BigOperators

/-! ## The stages, at an index -/

/-- The word of minus infinity. -/
theorem word_bot : Ideal.ofBits .f32 4286578688#32 = ⊥ := by simp [Ideal.ofBits, Ideal.ieee]

/-- The chunk's number. -/
def chNo (i : ℕ) : ℕ := if i < 16 then 0 else (i - 16) / 64 + 1

/-- The words that compute a chunk's number. -/
def chWord (w : BitVec 32) : BitVec 32 :=
  Scalar.select (IntOp.cmpi CmpIPredicate.slt w 16#32) (0#32)
      (IntOp.addi
        (Scalar.select
          (IntOp.andi
            (IntOp.cmpi CmpIPredicate.ne
              (if IntOp.subi w 16#32 = 0 then (0 : BitVec 32)
              else if (IntOp.subi w 16#32).msb = true then -1 else 1)
              (if (64#32 : BitVec 32) = 0 then (0 : BitVec 32) else if (64#32 : BitVec 32).msb = true then -1 else 1))
            (IntOp.cmpi CmpIPredicate.ne (IntOp.remsi ArithUnit.host (IntOp.subi w 16#32) 64#32)
              0#32))
          (IntOp.subi (IntOp.divsi ArithUnit.host (IntOp.subi w 16#32) 64#32) 1#32)
          (IntOp.divsi ArithUnit.host (IntOp.subi w 16#32) 64#32))
        1#32)

/-- They do, for every row. -/
theorem chWord_all : ∀ a : Fin 129, ∀ b : Fin 64, chWord (BitVec.ofNat 32 (64 * a.val + b.val)) = BitVec.ofNat 32 (chNo (64 * a.val + b.val)) := by
  decide +kernel

/-- A row's chunk is its number's word. -/
theorem chunk_at (i : Fin 8208) : chunk (ix1 i) = BitVec.ofNat 32 (chNo i.val) := by
  have h : chunk (ix1 i) = chWord (BitVec.ofNat 32 i.val) := by
    unfold chunk chWord
    pointwise
  have g := chWord_all ⟨i.val / 64, by omega⟩ ⟨i.val % 64, by omega⟩
  rw [h]
  have e : 64 * (i.val / 64) + i.val % 64 = i.val := Nat.div_add_mod _ _
  simpa only [e] using g

/-- A key is seen exactly when its chunk, the rows in front counted, is not after the query's. -/
theorem seen_at (i k : Fin 8208) : seen (ix2 i k) = BitVec.ofBool (decide (vis (112 + k.val) (112 + i.val))) := by
  have h : seen (ix2 i k) = IntOp.cmpi .sle (chunk (ix1 k)) (chunk (ix1 i)) := by
    unfold seen
    pointwise
  rw [h, chunk_at, chunk_at, cmpi_sle_ofNat (by unfold chNo; split <;> omega) (by unfold chNo; split <;> omega)]
  congr 1
  apply decide_eq_decide.mpr
  unfold chNo vis
  split <;> split <;> omega

/-- A score: the product of query and key row, minus infinity if the key is not seen. -/
theorem scores_at (q k : FVec Ideal S8x8208x256 .f32) (h : Fin 8) (i j : Fin 8208) :
    scores q k (ix3 h i j) = if vis (112 + j.val) (112 + i.val) then ∑ d : Fin 256, q (ix3 h i d) * k (ix3 h j d) else ⊥ := by
  have e : scores q k (ix3 h i j) = Scalar.select (seen (ix2 i j)) (∑ d : Fin 256, q (ix3 h i d) * k (ix3 h j d)) (Ideal.ofBits FTy.f32 4286578688#32) := by
    unfold scores
    pointwise
  rw [e, seen_at, word_bot]
  by_cases g : vis (112 + j.val) (112 + i.val) <;> simp [Scalar.select, g]

/-- An exponential. -/
theorem expo_at (s : FVec Ideal S8x8208x8208 .f32) (r : FVec Ideal S8x8208 .f32) (h : Fin 8) (i j : Fin 8208) :
    expo s r (ix3 h i j) = Ideal.exp (s (ix3 h i j) - r (ix2 h i)) := by
  unfold expo
  pointwise

/-- A sum along the keys. -/
theorem total_at (s : FVec Ideal S8x8208x8208 .f32) (h : Fin 8) (i : Fin 8208) : total s (ix2 h i) = ∑ j : Fin 8208, s (ix3 h i j) := by
  unfold total
  pointwise

/-- A row's largest score. -/
theorem top_at (s : FVec Ideal S8x8208x8208 .f32) (h : Fin 8) (i : Fin 8208) :
    top s (ix2 h i) = Finset.fold max ⊥ (fun j : Fin 8208 => s (ix3 h i j)) Finset.univ := by
  have e : top s (ix2 h i) = Finset.fold max (Ideal.ofBits FTy.f32 4286578688#32) (fun j : Fin 8208 => s (ix3 h i j)) Finset.univ := by
    unfold top
    pointwise
  rw [e, word_bot]

/-- A number, not below minus infinity. -/
theorem maxBot_at (b : FVec Ideal S8x8208 .f32) (y : S8x8208.Idx) :
    maximumf (broadcastInDim S8x8208 ![] bcast_S_S8x8208 (constant S_ .f32 0xFF800000#32)) b y = max (Ideal.ofBits FTy.f32 4286578688#32) (b y) := rfl
/-- The largest score is not below minus infinity. -/
theorem top'_eq (s : FVec Ideal S8x8208x8208 .f32) : top' s = top s := by
  funext y
  unfold top'
  rw [maxBot_at, word_bot]
  exact max_eq_right bot_le

/-- A sum and a logarithm. -/
theorem addLog_at (a b : FVec Ideal S8x8208 .f32) (y : S8x8208.Idx) : addf a (Host.log b) y = a y + Ideal.log (b y) := rfl
/-- A row's log-sum-exp. -/
theorem lse_at (s : FVec Ideal S8x8208x8208 .f32) (h : Fin 8) (i : Fin 8208) :
    lse s (ix2 h i) = top s (ix2 h i) + Ideal.log (total (expo s (top s)) (ix2 h i)) := by
  unfold lse
  rw [addLog_at]

/-- A quotient by a number per row. -/
theorem divWide_at (a : FVec Ideal S8x8208x8208 .f32) (b : FVec Ideal S8x8208 .f32) (h : Fin 8) (i j : Fin 8208) :
    Host.divf a (wide b) (ix3 h i j) = Ideal.div (a (ix3 h i j)) (b (ix2 h i)) := by
  pointwise
/-- A weight. -/
theorem soft_at (s : FVec Ideal S8x8208x8208 .f32) (h : Fin 8) (i j : Fin 8208) :
    soft s (ix3 h i j) = Ideal.div (expo s (top s) (ix3 h i j)) (total (expo s (top s)) (ix2 h i)) := by
  unfold soft
  rw [divWide_at, top'_eq]

/-- The cotangent by head. -/
theorem byHead_at (o : FVec Ideal S8208x1024 .bf16) (i : Fin 8208) (h : Fin 8) (e : Fin 128) :
    byHead o (ix3 i h e) = o (ix2 i ⟨h.val * 128 + e.val, by omega⟩) := by
  unfold byHead
  pointwise

/-- The stage of `delta` after the softmax. -/
def deltaOf (v : FVec Ideal S8x8208x128 .f32) (p : FVec Ideal S8x8208x8208 .f32) (g : FVec Ideal S8208x8x128 .f32) : FVec Ideal S8x8208 .f32 :=
  transpose S8x8208 [1, 0] (Host.reduceAdd (mulf (transpose S8208x8x128 [2, 0, 1]
      (Host.dotGeneral dot_S8x8208x128_S8x8208x8208_S8x128x8208_1_2_2_1_0_0 none v p) transposes_S8x128x8208_S8208x8x128_2_0_1) g)
    (constant S_ .f32 0x00000000#32) reducesTo_S8208x8x128_S8208x8_d2 h_S_) transposes_S8208x8_S8x8208_1_0
/-- At an index. -/
theorem deltaOf_at (v : FVec Ideal S8x8208x128 .f32) (p : FVec Ideal S8x8208x8208 .f32) (g : FVec Ideal S8208x8x128 .f32) (h : Fin 8) (i : Fin 8208) :
    deltaOf v p g (ix2 h i) = ∑ e : Fin 128, (∑ j : Fin 8208, v (ix3 h j e) * p (ix3 h i j)) * g (ix3 i h e) := by
  unfold deltaOf
  pointwise
/-- A row's product of output and cotangent. -/
theorem delta_at (v : FVec Ideal S8x8208x128 .f32) (s : FVec Ideal S8x8208x8208 .f32) (o : FVec Ideal S8208x1024 .bf16) (h : Fin 8) (i : Fin 8208) :
    delta v s o (ix2 h i) = ∑ e : Fin 128, (∑ j : Fin 8208, v (ix3 h j e) * soft s (ix3 h i j)) * byHead o (ix3 i h e) :=
  deltaOf_at v (soft s) (byHead o) h i

/-- A row of queries or keys. -/
theorem rows256_at (a : FVec Ideal S8x8320x256 .bf16) (h : Fin 8) (i : Fin 8208) (d : Fin 256) : rows256 a (ix3 h i d) = a (ix3 h ⟨112 + i.val, by omega⟩ d) := by
  unfold rows256
  pointwise

/-- A row of values. -/
theorem rows128_at (a : FVec Ideal S8x8320x128 .bf16) (h : Fin 8) (i : Fin 8208) (d : Fin 128) : rows128 a (ix3 h i d) = a (ix3 h ⟨112 + i.val, by omega⟩ d) := by
  unfold rows128
  pointwise

/-- The integer zero as a number. -/
theorem zero_word (φ : FTy) : (FloatOps.sitofp φ 0#32 : Ideal φ) = (0 : EReal) := by
  show (((0#32 : BitVec 32).toInt : ℝ) : EReal) = 0
  simp

/-- A number per row, with the rows in front. -/
theorem front_at (r : FVec Ideal S8x8208 .f32) (h : Fin 8) (x : Fin 8320) :
    front r (ix3 h 0 x) = if g : 112 ≤ x.val then r (ix2 h ⟨x.val - 112, by omega⟩) else 0 := by
  have e : front r (ix3 h 0 x) = if g : 112 ≤ x.val ∧ x.val - 112 < 8208 then r (ix2 h ⟨x.val - 112, g.2⟩) else (FloatOps.sitofp .f32 0#32 : Ideal .f32) := by
    unfold front
    pointwise
  rw [e, zero_word]
  by_cases g : 112 ≤ x.val
  · rw [dif_pos ⟨g, by omega⟩, dif_pos g]
  · rw [dif_neg (fun t => g t.1), dif_neg g]

/-- The cotangent with the rows in front. -/
theorem cot_at (o : FVec Ideal S8208x1024 .bf16) (x : Fin 8320) (z : Fin 1024) :
    pad S8320x1024 ![112, 0] ![0, 0] ![0, 0] o (sitofp (F := Ideal) .bf16 (constantI S_ 32 0#32)) pads_S8208x1024_S8320x1024_11200_000 h_S_ (ix2 x z)
      = if g : 112 ≤ x.val then o (ix2 ⟨x.val - 112, by omega⟩ z) else (0 : EReal) := by
  have e : pad S8320x1024 ![112, 0] ![0, 0] ![0, 0] o (sitofp (F := Ideal) .bf16 (constantI S_ 32 0#32)) pads_S8208x1024_S8320x1024_11200_000 h_S_ (ix2 x z)
      = if g : 112 ≤ x.val ∧ x.val - 112 < 8208 then o (ix2 ⟨x.val - 112, g.2⟩ z) else (FloatOps.sitofp .bf16 0#32 : Ideal .bf16) := by
    pointwise
  rw [e, zero_word]
  by_cases g : 112 ≤ x.val
  · rw [dif_pos ⟨g, by omega⟩, dif_pos g]
  · rw [dif_neg (fun t => g t.1), dif_neg g]
end Cert.KernelIdeal.Hand
-- ==== Proof.Ref.lean ====
module
public import proofs.«01_k».proof.Proof.StageAt
public import proofs.«01_k».proof.Proof.Gen.ReferenceIdeal.Run
@[expose] public section
set_option maxRecDepth 16384
noncomputable section
namespace Cert.ReferenceIdeal.Hand
open Idealize.ShloMosaic Idealize.ShloMosaic.TcCoe Idealize.ShloMosaic.Tactic Cert.ReferenceIdeal Cert.ReferenceIdeal.Gen Cert.ReferenceIdeal.Value
open Cert.KernelIdeal.Hand (scores top top' expo total soft byHead seen seenH wide)
open scoped BigOperators

/-! ## The reference, stage by stage -/

/-- The rows that are not in front, widened. -/
def wid256 (a : FVec Ideal S8x8320x256 .bf16) : FVec Ideal S8x8208x256 .f32 :=
  extractStridedSlice S8x8208x256 ![0, 112, 0] (extf .f32 a bitsLt_bf16_f32) slices_S8x8320x256_S8x8208x256_0_112_0
/-- The rows that are not in front, widened. -/
def wid128 (a : FVec Ideal S8x8320x128 .bf16) : FVec Ideal S8x8208x128 .f32 :=
  extractStridedSlice S8x8208x128 ![0, 112, 0] (extf .f32 a bitsLt_bf16_f32) slices_S8x8320x128_S8x8208x128_0_112_0
/-- The cotangent by head, its rows last. -/
def cotR (o : FVec Ideal S8208x1024 .bf16) : FVec Ideal S8x128x8208 .f32 := transpose S8x128x8208 [1, 2, 0] (byHead o) transposes_S8208x8x128_S8x128x8208_1_2_0
/-- The values' gradient. -/
def dvR (g : FVec Ideal S8x128x8208 .f32) (p : FVec Ideal S8x8208x8208 .f32) : FVec Ideal S8x8208x128 .f32 :=
  transpose S8x8208x128 [0, 2, 1] (Host.dotGeneral dot_S8x128x8208_S8x8208x8208_S8x128x8208_2_1_1_2_0_0 none g p) transposes_S8x128x8208_S8x8208x128_0_2_1
/-- The gradient of the weights. -/
def dpR (g : FVec Ideal S8x128x8208 .f32) (v : FVec Ideal S8x8208x128 .f32) : FVec Ideal S8x8208x8208 .f32 :=
  Host.dotGeneral dot_S8x128x8208_S8x8208x128_S8x8208x8208_1_2_2_1_0_0 none g v
/-- A number per row with a unit axis. -/
abbrev unitR (l : FVec Ideal S8x8208 .f32) : FVec Ideal S8x8208x1 .f32 := broadcastInDim S8x8208x1 ![0, 1] bcast_S8x8208_S8x8208x1_0_1 l
/-- A number per row with a unit axis, at every key. -/
abbrev keysR (l : FVec Ideal S8x8208x1 .f32) : FVec Ideal S8x8208x8208 .f32 := broadcastInDim S8x8208x8208 ![0, 1, 2] bcast_S8x8208x1_S8x8208x8208_0_1_2 l
/-- One over the square. -/
def invR (l : FVec Ideal S8x8208 .f32) : FVec Ideal S8x8208x1 .f32 :=
  Host.divf (broadcastInDim S8x8208x1 ![] bcast_S_S8x8208x1 (constant S_ .f32 0x3F800000#32)) (mulf (unitR l) (unitR l))
/-- What a row of weights' gradients loses. -/
def lossR (t : FVec Ideal S8x8208 .f32) : FVec Ideal S8x8208 .f32 :=
  Host.reduceAdd (Host.negf (shapeCast S8x8208x1 t shapeCasts_S8x8208_S8x8208x1)) (constant S_ .f32 0x00000000#32) reducesTo_S8x8208x1_S8x8208_d2 h_S_
/-- The gradient of the scores from the weights' gradient, the exponentials and their sums. -/
def dsR (p e : FVec Ideal S8x8208x8208 .f32) (l : FVec Ideal S8x8208 .f32) (t : FVec Ideal S8x8208 .f32) : FVec Ideal S8x8208x8208 .f32 :=
  select seenH (mulf (addf (Host.divf p (keysR (unitR l))) (broadcastInDim S8x8208x8208 ![0, 1] bcast_S8x8208_S8x8208x8208_0_1 (lossR t))) e)
    (broadcastInDim S8x8208x8208 ![] bcast_S_S8x8208x8208 (constant S_ .f32 0x00000000#32))
/-- A row's sum of products of gradients and weights, as the quotient's derivative has it. -/
def rowR (p e : FVec Ideal S8x8208x8208 .f32) (l : FVec Ideal S8x8208 .f32) : FVec Ideal S8x8208 .f32 := total (mulf (mulf p (keysR (invR l))) e)
/-- The scores' gradient. -/
def gradR (s : FVec Ideal S8x8208x8208 .f32) (p : FVec Ideal S8x8208x8208 .f32) : FVec Ideal S8x8208x8208 .f32 :=
  dsR p (expo s (top' s)) (total (expo s (top' s))) (rowR p (expo s (top' s)) (total (expo s (top' s))))
/-- Zeros for the rows in front. -/
def front256 (a : FVec Ideal S8x8208x256 .f32) : FVec Ideal S8x8320x256 .f32 :=
  pad S8x8320x256 ![0, 112, 0] ![0, 0, 0] ![0, 0, 0] a (constant S_ .f32 0x00000000#32) pads_S8x8208x256_S8x8320x256_000_11200_000 h_S_
/-- Zeros for the rows in front. -/
def front128 (a : FVec Ideal S8x8208x128 .f32) : FVec Ideal S8x8320x128 .f32 :=
  pad S8x8320x128 ![0, 112, 0] ![0, 0, 0] ![0, 0, 0] a (constant S_ .f32 0x00000000#32) pads_S8x8208x128_S8x8320x128_000_11200_000 h_S_
/-- The keys' gradient from the scores'. -/
def dkR (g : FVec Ideal S8x8208x8208 .f32) (q : FVec Ideal S8x8208x256 .f32) : FVec Ideal S8x8208x256 .f32 :=
  Host.dotGeneral dot_S8x8208x8208_S8x8208x256_S8x8208x256_1_1_2_2_0_0 none g q
/-- The queries' gradient from the scores'. -/
def dqR (g : FVec Ideal S8x8208x8208 .f32) (k : FVec Ideal S8x8208x256 .f32) : FVec Ideal S8x8208x256 .f32 :=
  Host.dotGeneral dot_S8x8208x8208_S8x8208x256_S8x8208x256_2_1_1_2_0_0 none g k

/-- The reference's queries' gradient. -/
def outQ (q k : FVec Ideal S8x8320x256 .bf16) (v : FVec Ideal S8x8320x128 .bf16) (o : FVec Ideal S8208x1024 .bf16) : FVec Ideal S8x8320x256 .f32 :=
  front256 (dqR (gradR (scores (wid256 q) (wid256 k)) (dpR (cotR o) (wid128 v))) (wid256 k))
/-- The reference's keys' gradient. -/
def outK (q k : FVec Ideal S8x8320x256 .bf16) (v : FVec Ideal S8x8320x128 .bf16) (o : FVec Ideal S8208x1024 .bf16) : FVec Ideal S8x8320x256 .bf16 :=
  truncf .bf16 (front256 (dkR (gradR (scores (wid256 q) (wid256 k)) (dpR (cotR o) (wid128 v))) (wid256 q))) bitsLt_bf16_f32
/-- The reference's values' gradient. -/
def outV (q k : FVec Ideal S8x8320x256 .bf16) (o : FVec Ideal S8208x1024 .bf16) : FVec Ideal S8x8320x128 .bf16 :=
  truncf .bf16 (front128 (dvR (cotR o) (soft (scores (wid256 q) (wid256 k))))) bitsLt_bf16_f32

variable (m : (ℓ : Loc nD τ sig) → Buf (Elt Ideal) ℓ) (c : Dev nD)

set_option maxHeartbeats 4000000 in
/-- The reference's first result. -/
theorem res0 : res_out0 m c = outQ (m ((c.tc : Thread nD τ).loc main_arg0)) (m ((c.tc : Thread nD τ).loc main_arg1)) (m ((c.tc : Thread nD τ).loc main_arg2)) (m ((c.tc : Thread nD τ).loc main_arg3)) := by
  unfold res_out0 res_main_v76
  rfl
set_option maxHeartbeats 4000000 in
/-- The reference's second result. -/
theorem res1 : res_out1 m c = outK (m ((c.tc : Thread nD τ).loc main_arg0)) (m ((c.tc : Thread nD τ).loc main_arg1)) (m ((c.tc : Thread nD τ).loc main_arg2)) (m ((c.tc : Thread nD τ).loc main_arg3)) := by
  unfold res_out1 res_main_v77
  rfl
set_option maxHeartbeats 4000000 in
/-- The reference's third result. -/
theorem res2 : res_out2 m c = outV (m ((c.tc : Thread nD τ).loc main_arg0)) (m ((c.tc : Thread nD τ).loc main_arg1)) (m ((c.tc : Thread nD τ).loc main_arg3)) := by
  unfold res_out2 res_main_v78
  rfl

/-! ## At an index -/

/-- A row of queries or keys. -/
theorem wid256_at (a : FVec Ideal S8x8320x256 .bf16) (h : Fin 8) (i : Fin 8208) (d : Fin 256) : wid256 a (ix3 h i d) = a (ix3 h ⟨112 + i.val, by omega⟩ d) := by
  unfold wid256
  pointwise
/-- A row of values. -/
theorem wid128_at (a : FVec Ideal S8x8320x128 .bf16) (h : Fin 8) (i : Fin 8208) (d : Fin 128) : wid128 a (ix3 h i d) = a (ix3 h ⟨112 + i.val, by omega⟩ d) := by
  unfold wid128
  pointwise
/-- The cotangent by head and column. -/
theorem cotR_at (o : FVec Ideal S8208x1024 .bf16) (h : Fin 8) (e : Fin 128) (i : Fin 8208) : cotR o (ix3 h e i) = byHead o (ix3 i h e) := by
  unfold cotR
  pointwise
/-- A value's gradient. -/
theorem dvR_at (g : FVec Ideal S8x128x8208 .f32) (p : FVec Ideal S8x8208x8208 .f32) (h : Fin 8) (j : Fin 8208) (e : Fin 128) :
    dvR g p (ix3 h j e) = ∑ i : Fin 8208, g (ix3 h e i) * p (ix3 h i j) := by
  unfold dvR
  pointwise
/-- A weight's gradient. -/
theorem dpR_at (g : FVec Ideal S8x128x8208 .f32) (v : FVec Ideal S8x8208x128 .f32) (h : Fin 8) (i j : Fin 8208) :
    dpR g v (ix3 h i j) = ∑ e : Fin 128, g (ix3 h e i) * v (ix3 h j e) := by
  unfold dpR
  pointwise
/-- One over the square. -/
theorem invR_at (l : FVec Ideal S8x8208 .f32) (h : Fin 8) (i : Fin 8208) :
    invR l (ix3 h i 0) = Ideal.div 1 (l (ix2 h i) * l (ix2 h i)) := by
  unfold invR
  pointwise
  try simp
/-- What a row loses. -/
theorem lossR_at (t : FVec Ideal S8x8208 .f32) (h : Fin 8) (i : Fin 8208) : lossR t (ix2 h i) = -(t (ix2 h i)) := by
  unfold lossR
  pointwise
  try simp
/-- A score's gradient. -/
theorem dsR_at (p e : FVec Ideal S8x8208x8208 .f32) (l t : FVec Ideal S8x8208 .f32) (h : Fin 8) (i j : Fin 8208) :
    dsR p e l t (ix3 h i j) = Scalar.select (seen (ix2 i j)) ((Ideal.div (p (ix3 h i j)) (l (ix2 h i)) + lossR t (ix2 h i)) * e (ix3 h i j)) 0 := by
  unfold dsR
  pointwise
/-- A row's sum. -/
theorem rowR_at (p e : FVec Ideal S8x8208x8208 .f32) (l : FVec Ideal S8x8208 .f32) (h : Fin 8) (i : Fin 8208) :
    rowR p e l (ix2 h i) = ∑ j : Fin 8208, p (ix3 h i j) * invR l (ix3 h i 0) * e (ix3 h i j) := by
  unfold rowR
  rw [Cert.KernelIdeal.Hand.total_at]
  pointwise
/-- Zeros for the rows in front. -/
theorem front256_at (a : FVec Ideal S8x8208x256 .f32) (h : Fin 8) (x : Fin 8320) (d : Fin 256) :
    front256 a (ix3 h x d) = if g : 112 ≤ x.val ∧ x.val - 112 < 8208 then a (ix3 h ⟨x.val - 112, g.2⟩ d) else 0 := by
  unfold front256
  pointwise
/-- Zeros for the rows in front. -/
theorem front128_at (a : FVec Ideal S8x8208x128 .f32) (h : Fin 8) (x : Fin 8320) (d : Fin 128) :
    front128 a (ix3 h x d) = if g : 112 ≤ x.val ∧ x.val - 112 < 8208 then a (ix3 h ⟨x.val - 112, g.2⟩ d) else 0 := by
  unfold front128
  pointwise
/-- A key's gradient. -/
theorem dkR_at (g : FVec Ideal S8x8208x8208 .f32) (q : FVec Ideal S8x8208x256 .f32) (h : Fin 8) (j : Fin 8208) (d : Fin 256) :
    dkR g q (ix3 h j d) = ∑ i : Fin 8208, g (ix3 h i j) * q (ix3 h i d) := by
  unfold dkR
  pointwise
/-- A query's gradient. -/
theorem dqR_at (g : FVec Ideal S8x8208x8208 .f32) (k : FVec Ideal S8x8208x256 .f32) (h : Fin 8) (i : Fin 8208) (d : Fin 256) :
    dqR g k (ix3 h i d) = ∑ j : Fin 8208, g (ix3 h i j) * k (ix3 h j d) := by
  unfold dqR
  pointwise
end Cert.ReferenceIdeal.Hand
-- ==== Proof.Alg.lean ====
module
public import proofs.«01_k».proof.Proof.StageAt
public import Mathlib.Analysis.SpecialFunctions.Log.Basic
@[expose] public section
set_option maxRecDepth 16384
noncomputable section
namespace Cert.KernelIdeal.Hand
open Idealize.ShloMosaic
open scoped BigOperators

/-! ## Sums and softmax of real numbers, in the extended reals -/

/-- A sum of real numbers is a real number. -/
theorem coe_sum' {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers. -/
theorem coe_dot {ι : Type} (s : Finset ι) (f g : ι → ℝ) : ∑ i ∈ s, (f i : EReal) * (g i : EReal) = ((∑ i ∈ s, f i * g i : ℝ) : EReal) := by
  rw [← coe_sum']
  exact Finset.sum_congr rfl fun i _ => (EReal.coe_mul _ _).symm

/-- The largest of finitely many numbers, each real or minus infinity and one real, is real. -/
theorem fold_real {n : ℕ} (s : Fin n → EReal) (hs : ∀ j, s j ≠ ⊤) (hb : ∃ j, s j ≠ ⊥) :
    ∃ μ : ℝ, Finset.fold max ⊥ s Finset.univ = (μ : EReal) := by
  have h1 : Finset.fold max ⊥ s Finset.univ ≠ ⊤ := by
    refine ne_of_lt (Finset.fold_max_lt _ |>.mpr ⟨bot_lt_top, fun j _ => lt_top_iff_ne_top.mpr (hs j)⟩)
  have h2 : Finset.fold max ⊥ s Finset.univ ≠ ⊥ := by
    obtain ⟨j, hj⟩ := hb
    exact ne_of_gt (Finset.lt_fold_max _ |>.mpr (Or.inr ⟨j, Finset.mem_univ j, bot_lt_iff_ne_bot.mpr hj⟩))
  exact ⟨_, (EReal.coe_toReal h1 h2).symm⟩

/-- One row of scores: its largest, the exponentials, their sum, the weights. -/
theorem row_real {n : ℕ} (b : Fin n → Prop) [DecidablePred b] (r : Fin n → ℝ) (hb : ∃ j, b j) (s : Fin n → EReal)
    (hs : ∀ j, s j = if b j then (r j : EReal) else ⊥) :
    ∃ (μ lam : ℝ) (ε : Fin n → ℝ), 0 < lam ∧ Finset.fold max ⊥ s Finset.univ = (μ : EReal)
      ∧ (∀ j, Ideal.exp (s j - (μ : EReal)) = (ε j : EReal)) ∧ ∑ j, ε j = lam ∧ (∀ j, ¬ b j → ε j = 0)
      ∧ ∀ j, Ideal.exp (s j - ((μ + Real.log lam : ℝ) : EReal)) = ((ε j / lam : ℝ) : EReal) := by
  have hm := fold_real s (fun j => by rw [hs j]; split <;> simp) (by
    obtain ⟨j, hj⟩ := hb
    exact ⟨j, by rw [hs j, if_pos hj]; simp⟩)
  obtain ⟨μ, hμ⟩ := hm
  let ε : Fin n → ℝ := fun j => if b j then Real.exp (r j - μ) else 0
  have hε : ∀ j, 0 ≤ ε j := fun j => by
    show 0 ≤ if b j then Real.exp (r j - μ) else 0
    split
    · exact (Real.exp_pos _).le
    · exact le_rfl
  have hl : 0 < ∑ j, ε j := by
    obtain ⟨j, hj⟩ := hb
    refine Finset.sum_pos' (fun i _ => hε i) ⟨j, Finset.mem_univ j, ?_⟩
    show 0 < if b j then Real.exp (r j - μ) else 0
    rw [if_pos hj]
    exact Real.exp_pos _
  refine ⟨μ, ∑ j, ε j, ε, hl, hμ, fun j => ?_, rfl, fun j hj => if_neg hj, fun j => ?_⟩
  · show _ = ((if b j then Real.exp (r j - μ) else 0 : ℝ) : EReal)
    rw [hs j]
    by_cases h : b j
    · rw [if_pos h, if_pos h, ← EReal.coe_sub, Ideal.exp_coe]
    · rw [if_neg h, if_neg h, EReal.bot_sub, Ideal.exp_bot]; rfl
  · show _ = (((if b j then Real.exp (r j - μ) else 0) / (∑ j, ε j) : ℝ) : EReal)
    rw [hs j]
    by_cases h : b j
    · rw [if_pos h, if_pos h, ← EReal.coe_sub, Ideal.exp_coe, ← sub_sub, Real.exp_sub, Real.exp_log hl]
    · rw [if_neg h, if_neg h, EReal.bot_sub, Ideal.exp_bot, zero_div]; rfl

/-- The quotient of two real numbers. -/
theorem div_real (a : ℝ) {b : ℝ} (hb : b ≠ 0) : Ideal.div (a : EReal) (b : EReal) = ((a / b : ℝ) : EReal) := by
  rw [Ideal.div_coe hb, ← EReal.coe_mul, mul_one_div]

/-- One row of scores' gradients: the weight times the weight's gradient less the row's sum, against the quotient's derivative. -/
theorem grad_real {n : ℕ} (lam : ℝ) (hl : 0 < lam) (ε p : Fin n → ℝ) (j : Fin n) :
    (p j / lam + -(∑ i, p i * (1 / (lam * lam)) * ε i)) * ε j = ε j / lam * (p j - ∑ i, p i * (ε i / lam)) := by
  have h0 : lam ≠ 0 := hl.ne'
  have e : ∑ i, p i * (1 / (lam * lam)) * ε i = (∑ i, p i * (ε i / lam)) / lam := by
    rw [Finset.sum_div]
    refine Finset.sum_congr rfl fun i _ => ?_
    field_simp
  rw [e]
  field_simp
  ring

/-- The output's product with its cotangent is the sum of the weights' gradients and the weights. -/
theorem delta_real {n k : ℕ} (v : Fin n → Fin k → ℝ) (w : Fin n → ℝ) (o : Fin k → ℝ) :
    ∑ e, (∑ j, v j e * w j) * o e = ∑ j, (∑ e, v j e * o e) * w j := by
  simp only [Finset.sum_mul]
  rw [Finset.sum_comm]
  refine Finset.sum_congr rfl fun j _ => Finset.sum_congr rfl fun e _ => ?_
  ring
end Cert.KernelIdeal.Hand
-- ==== Proof.Final.lean ====
module
public import proofs.«01_k».proof.Proof.Ref
public import proofs.«01_k».proof.Proof.Alg
@[expose] public section
set_option maxRecDepth 16384
noncomputable section
namespace Cert.KernelIdeal.Hand
open Idealize.ShloMosaic Idealize.ShloMosaic.TcCoe Cert.KernelIdeal Cert.KernelIdeal.Gen
open Cert.ReferenceIdeal.Hand
open scoped BigOperators

/-! ## The kernel's sums are the reference's, for arrays of real numbers -/

/-- Both programs take the same rows of queries and keys. -/
theorem wid256_eq (a : FVec Ideal S8x8320x256 .bf16) : wid256 a = rows256 a := by
  funext y
  rw [eq_ix3 y]
  exact (wid256_at a _ _ _).trans (rows256_at a _ _ _).symm
/-- Both programs take the same rows of values. -/
theorem wid128_eq (a : FVec Ideal S8x8320x128 .bf16) : wid128 a = rows128 a := by
  funext y
  rw [eq_ix3 y]
  exact (wid128_at a _ _ _).trans (rows128_at a _ _ _).symm

/-- A sum over all rows is the sum over those not in front, when those in front add nothing. -/
theorem sum_rows (f : ℕ → EReal) (h0 : ∀ x, x < 112 → f x = 0) : ∑ x ∈ Finset.range 8320, f x = ∑ i : Fin 8208, f (112 + i.val) := by
  rw [show (8320 : ℕ) = 112 + 8208 from rfl, Finset.sum_range_add, Finset.sum_eq_zero fun x hx => h0 x (Finset.mem_range.mp hx), zero_add, Finset.sum_range]

/-- A row in front is no key a row attends to. -/
theorem not_vis {c x : ℕ} (h : c < 112) : ¬ vis c x := fun hv => by have := hv.2; omega

variable (q k : FVec Ideal S8x8320x256 .bf16) (v : FVec Ideal S8x8320x128 .bf16) (o : FVec Ideal S8208x1024 .bf16)
  (qr kr : S8x8320x256.Idx → ℝ) (vr : S8x8320x128.Idx → ℝ) (or' : S8208x1024.Idx → ℝ)
  (hq : ∀ y, q y = (qr y : EReal)) (hk : ∀ y, k y = (kr y : EReal)) (hv : ∀ y, v y = (vr y : EReal)) (ho : ∀ y, o y = (or' y : EReal))

/-- The scores of the arrays. -/
abbrev sc : FVec Ideal S8x8208x8208 .f32 := scores (rows256 q) (rows256 k)

include hq hk in
/-- A score is real, or minus infinity where the key is not seen. -/
theorem sc_at (h : Fin 8) (i j : Fin 8208) :
    sc q k (ix3 h i j) = if vis (112 + j.val) (112 + i.val) then ((∑ d : Fin 256, qr (ix3 h ⟨112 + i.val, by omega⟩ d) * kr (ix3 h ⟨112 + j.val, by omega⟩ d) : ℝ) : EReal) else ⊥ := by
  refine (scores_at _ _ h i j).trans ?_
  split
  · simp only [rows256_at, hq, hk, coe_dot]
  · rfl

include hq hk in
/-- One row of scores: its largest, the exponentials, their sum, the log-sum-exp, the weights. -/
theorem row_at (h : Fin 8) (i : Fin 8208) : ∃ (lam : ℝ) (ε : Fin 8208 → ℝ), 0 < lam
    ∧ (∀ j, expo (sc q k) (top (sc q k)) (ix3 h i j) = (ε j : EReal))
    ∧ total (expo (sc q k) (top (sc q k))) (ix2 h i) = (lam : EReal)
    ∧ ∀ j, Ideal.exp (sc q k (ix3 h i j) - lse (sc q k) (ix2 h i)) = ((ε j / lam : ℝ) : EReal) := by
  obtain ⟨μ, lam, ε, hl, h1, h2, h3, _, h5⟩ := row_real (fun j : Fin 8208 => vis (112 + j.val) (112 + i.val))
    (fun j => ∑ d : Fin 256, qr (ix3 h ⟨112 + i.val, by omega⟩ d) * kr (ix3 h ⟨112 + j.val, by omega⟩ d)) ⟨⟨0, by decide⟩, by
      refine ⟨?_, ?_⟩
      · show (112 + 0) / 64 ≤ (112 + i.val) / 64
        omega
      · show 112 ≤ 112 + 0
        omega⟩ (fun j : Fin 8208 => sc q k (ix3 h i j)) (fun j => sc_at q k qr kr hq hk h i j)
  have ht : top (sc q k) (ix2 h i) = (μ : EReal) := (top_at _ h i).trans h1
  have he : ∀ j, expo (sc q k) (top (sc q k)) (ix3 h i j) = (ε j : EReal) := fun j => by
    rw [expo_at, ht]
    exact h2 j
  have hs : total (expo (sc q k) (top (sc q k))) (ix2 h i) = (lam : EReal) := by
    rw [total_at]
    simp only [he]
    rw [coe_sum', h3]
  refine ⟨lam, ε, hl, he, hs, fun j => ?_⟩
  rw [lse_at, hs, ht, Ideal.log_coe, if_neg (not_le.mpr hl), ← EReal.coe_add]
  exact h5 j

variable (h : Fin 8) (Q K W O : ℕ → ℕ → EReal) (L D : ℕ → EReal)
  (hQ : ∀ (x : Fin 8320) (d : Fin 256), Q x.val d.val = q (ix3 h x d))
  (hK : ∀ (x : Fin 8320) (d : Fin 256), K x.val d.val = k (ix3 h x d))
  (hW : ∀ (x : Fin 8320) (e : Fin 128), W x.val e.val = v (ix3 h x e))
  (hO : ∀ (x : Fin 8208) (e : Fin 128), O (112 + x.val) e.val = byHead o (ix3 x h e))
  (hO' : ∀ (x : ℕ) (e : Fin 128), x < 112 → O x e.val = 0)
  (hL : ∀ x : Fin 8208, L (112 + x.val) = lse (sc q k) (ix2 h x))
  (hD : ∀ x : Fin 8208, D (112 + x.val) = delta (rows128 v) (sc q k) o (ix2 h x))
  (hD' : ∀ x : ℕ, x < 112 → D x = 0)

include hQ hK hL in
/-- The kernel's weight: the exponential of the score less the log-sum-exp. -/
theorem pm_exp (i j : Fin 8208) : pm Q K L (112 + j.val) (112 + i.val) = Ideal.exp (sc q k (ix3 h i j) - lse (sc q k) (ix2 h i)) := by
  unfold pm
  rw [hL, show sc q k (ix3 h i j) = _ from scores_at _ _ h i j]
  congr 2
  split
  · unfold st
    refine Finset.sum_congr rfl fun d _ => ?_
    rw [rows256_at, rows256_at, mul_comm]
    exact congrArg₂ (· * ·) (hQ ⟨112 + i.val, by omega⟩ d) (hK ⟨112 + j.val, by omega⟩ d)
  · rfl

include hq hk hQ hK hL in
/-- The kernel's weight is the reference's. -/
theorem pm_soft (i j : Fin 8208) : pm Q K L (112 + j.val) (112 + i.val) = soft (sc q k) (ix3 h i j) := by
  obtain ⟨lam, ε, hl, h1, h2, h3⟩ := row_at q k qr kr hq hk h i
  rw [pm_exp q k h Q K L hQ hK hL i j, h3 j, soft_at, h1, h2, div_real _ hl.ne']

include hq hk hv ho hQ hK hW hO hL hD in
/-- The kernel's gradient of a score is the reference's. -/
theorem ds_grad (i j : Fin 8208) : ds Q K W O L D (112 + j.val) (112 + i.val) = gradR (sc q k) (dpR (cotR o) (rows128 v)) (ix3 h i j) := by
  obtain ⟨lam, ε, hl, h1, h2, h3⟩ := row_at q k qr kr hq hk h i
  let p : Fin 8208 → ℝ := fun j => ∑ e : Fin 128, or' (ix2 i ⟨h.val * 128 + e.val, by omega⟩) * vr (ix3 h ⟨112 + j.val, by omega⟩ e)
  have hp : ∀ j, dpR (cotR o) (rows128 v) (ix3 h i j) = (p j : EReal) := fun j => by
    rw [dpR_at]
    simp only [cotR_at, byHead_at, rows128_at, ho, hv, coe_dot]
    rfl
  have hdp : dp W O (112 + j.val) (112 + i.val) = (p j : EReal) := by
    rw [← hp j, dpR_at]
    unfold dp
    refine Finset.sum_congr rfl fun e _ => ?_
    rw [hO i e, cotR_at, rows128_at, mul_comm]
    exact congrArg _ (hW ⟨112 + j.val, by omega⟩ e)
  have hd : D (112 + i.val) = ((∑ j, p j * (ε j / lam) : ℝ) : EReal) := by
    rw [hD i, delta_at]
    have hs : ∀ j, soft (sc q k) (ix3 h i j) = ((ε j / lam : ℝ) : EReal) := fun j => by
      rw [soft_at, h1, h2, div_real _ hl.ne']
    simp only [hs, byHead_at, rows128_at, ho, hv, coe_dot]
    rw [delta_real]
    refine congrArg _ (Finset.sum_congr rfl fun j _ => congrArg (· * _) (Finset.sum_congr rfl fun e _ => mul_comm _ _))
  unfold gradR
  rw [top'_eq, dsR_at, seen_at, lossR_at, rowR_at, invR_at]
  simp only [h1, h2, hp]
  by_cases hvis : vis (112 + j.val) (112 + i.val)
  · rw [show decide (vis (112 + j.val) (112 + i.val)) = true from decide_eq_true hvis]
    show _ = (Ideal.div (p j : EReal) (lam : EReal) + -(∑ j, (p j : EReal) * Ideal.div 1 ((lam : EReal) * (lam : EReal)) * (ε j : EReal))) * (ε j : EReal)
    have e1 : Ideal.div 1 ((lam : EReal) * (lam : EReal)) = ((1 / (lam * lam) : ℝ) : EReal) := by
      rw [← EReal.coe_mul, ← EReal.coe_one]
      exact div_real 1 (mul_pos hl hl).ne'
    rw [e1, div_real _ hl.ne']
    simp only [← EReal.coe_mul]
    rw [coe_sum', ← EReal.coe_neg, ← EReal.coe_add, ← EReal.coe_mul, grad_real lam hl ε p j]
    unfold ds
    rw [pm_exp q k h Q K L hQ hK hL i j, h3 j, hdp, hd, ← EReal.coe_sub, ← EReal.coe_mul]
  · rw [show decide (vis (112 + j.val) (112 + i.val)) = false from decide_eq_false hvis, ds_zero Q K W O L D hvis]
    rfl

include hO' hD' in
/-- A query row in front has no gradient. -/
theorem ds_front (c x : ℕ) (hx : x < 112) : ds Q K W O L D c x = 0 := by
  unfold ds dp
  rw [Finset.sum_eq_zero fun e _ => by rw [hO' x e hx, mul_zero], hD' x hx, sub_zero, mul_zero]

include hq hk hv ho hQ hK hW hO hO' hL hD hD' in
/-- The queries' gradients agree. -/
theorem same_q (x : Fin 8320) (d : Fin 256) : dqS Q K W O L D 8320 0 x.val d.val = outQ q k v o (ix3 h x d) := by
  unfold outQ
  rw [wid256_eq, wid256_eq, wid128_eq, front256_at]
  unfold dqS
  refine (Finset.sum_range (fun c : ℕ => ds Q K W O L D (0 + c) x.val * K (0 + c) d.val)).symm.trans ?_
  simp only [Nat.zero_add]
  by_cases hx : x.val < 112
  · rw [dif_neg (fun g => by have := g.1; omega)]
    exact Finset.sum_eq_zero fun c _ => by rw [ds_front Q K W O L D hO' hD' c x.val hx, zero_mul]
  · have g : 112 ≤ x.val ∧ x.val - 112 < 8208 := ⟨by omega, by have := x.isLt; omega⟩
    rw [dif_pos g, sum_rows _ fun c hc => by rw [ds_zero Q K W O L D (not_vis hc), zero_mul], dqR_at]
    refine Finset.sum_congr rfl fun j _ => ?_
    have e := ds_grad q k v o qr kr vr or' hq hk hv ho h Q K W O L D hQ hK hW hO hL hD ⟨x.val - 112, g.2⟩ j
    rw [show 112 + (⟨x.val - 112, g.2⟩ : Fin 8208).val = x.val from Nat.add_sub_of_le g.1] at e
    rw [e, rows256_at]
    exact congrArg _ (hK ⟨112 + j.val, by omega⟩ d)

include hq hk hv ho hQ hK hW hO hO' hL hD hD' in
/-- The keys' gradients agree. -/
theorem same_k (x : Fin 8320) (d : Fin 256) : dkT Q K W O L D x.val d.val = outK q k v o (ix3 h x d) := by
  show _ = front256 (dkR (gradR (scores (wid256 q) (wid256 k)) (dpR (cotR o) (wid128 v))) (wid256 q)) (ix3 h x d)
  rw [wid256_eq, wid256_eq, wid128_eq, front256_at]
  unfold dkT
  by_cases hx : x.val < 112
  · rw [dif_neg (fun g => by have := g.1; omega)]
    exact Finset.sum_eq_zero fun c _ => by rw [ds_zero Q K W O L D (not_vis hx), zero_mul]
  · have g : 112 ≤ x.val ∧ x.val - 112 < 8208 := ⟨by omega, by have := x.isLt; omega⟩
    rw [dif_pos g, sum_rows _ fun c hc => by rw [ds_front Q K W O L D hO' hD' _ c hc, zero_mul], dkR_at]
    refine Finset.sum_congr rfl fun i _ => ?_
    have e := ds_grad q k v o qr kr vr or' hq hk hv ho h Q K W O L D hQ hK hW hO hL hD i ⟨x.val - 112, g.2⟩
    rw [show 112 + (⟨x.val - 112, g.2⟩ : Fin 8208).val = x.val from Nat.add_sub_of_le g.1] at e
    rw [e, rows256_at]
    exact congrArg _ (hQ ⟨112 + i.val, by omega⟩ d)

include hq hk hQ hK hO hO' hL in
/-- The values' gradients agree. -/
theorem same_v (x : Fin 8320) (e : Fin 128) : dvT Q K O L x.val e.val = outV q k o (ix3 h x e) := by
  show _ = front128 (dvR (cotR o) (soft (scores (wid256 q) (wid256 k)))) (ix3 h x e)
  rw [wid256_eq, wid256_eq, front128_at]
  unfold dvT
  by_cases hx : x.val < 112
  · rw [dif_neg (fun g => by have := g.1; omega)]
    exact Finset.sum_eq_zero fun c _ => by rw [pm_zero Q K L (not_vis hx), zero_mul]
  · have g : 112 ≤ x.val ∧ x.val - 112 < 8208 := ⟨by omega, by have := x.isLt; omega⟩
    rw [dif_pos g, sum_rows _ fun c hc => by rw [hO' c e hc, mul_zero], dvR_at]
    refine Finset.sum_congr rfl fun i _ => ?_
    have p := pm_soft q k qr kr hq hk h Q K L hQ hK hL i ⟨x.val - 112, g.2⟩
    rw [show 112 + (⟨x.val - 112, g.2⟩ : Fin 8208).val = x.val from Nat.add_sub_of_le g.1] at p
    rw [p, hO i e, cotR_at, mul_comm]

end Cert.KernelIdeal.Hand
-- ==== Proof.Trip1.lean ====
module
public import proofs.«01_k».proof.Proof.Attn
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open scoped BigOperators
/-- The queries in their buffer. -/
abbrev T1h2 (a2 : Memref sig .tc .vmem S1x8320x256 .bf16) (X2 : BufTy.Contents (Elt Ideal) a2.view.ty) (Q : ℕ → ℕ → EReal) : Prop := ∀ y : S1x8320x256.Idx, a2.view.read (Elt Ideal) X2 y = Q (y 1).val (y 2).val
/-- The keys in their buffer. -/
abbrev T1h3 (a3 : Memref sig .tc .vmem S1x1664x256 .bf16) (X3 : BufTy.Contents (Elt Ideal) a3.view.ty) (K : ℕ → ℕ → EReal) : Prop := ∀ y : S1x1664x256.Idx, a3.view.read (Elt Ideal) X3 y = K ((y 1).val) (y 2).val
/-- The values in their buffer. -/
abbrev T1h4 (a4 : Memref sig .tc .vmem S1x1664x128 .bf16) (X4 : BufTy.Contents (Elt Ideal) a4.view.ty) (V : ℕ → ℕ → EReal) : Prop := ∀ y : S1x1664x128.Idx, a4.view.read (Elt Ideal) X4 y = V ((y 1).val) (y 2).val
/-- The output's gradients in their buffer. -/
abbrev T1h5 (a5 : Memref sig .tc .vmem S8320x128 .bf16) (X5 : BufTy.Contents (Elt Ideal) a5.view.ty) (O : ℕ → ℕ → EReal) : Prop := ∀ y : S8320x128.Idx, a5.view.read (Elt Ideal) X5 y = O (y 0).val (y 1).val
/-- The logarithms in their buffer. -/
abbrev T1h6 (a6 : Memref sig .tc .vmem S1x1x8320 .f32) (X6 : BufTy.Contents (Elt Ideal) a6.view.ty) (L : ℕ → EReal) : Prop := ∀ y : S1x1x8320.Idx, a6.view.read (Elt Ideal) X6 y = L (y 2).val
/-- The row sums in their buffer. -/
abbrev T1h7 (a7 : Memref sig .tc .vmem S1x1x8320 .f32) (X7 : BufTy.Contents (Elt Ideal) a7.view.ty) (D : ℕ → EReal) : Prop := ∀ y : S1x1x8320.Idx, a7.view.read (Elt Ideal) X7 y = D (y 2).val

variable (𝒱 : Variants) (c : Dev nD) (bd : Option 𝒱.V) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty)
  (f8 : BufTy.Contents (Elt Ideal) a8.view.ty) (f11 : BufTy.Contents (Elt Ideal) a11.view.ty) (f12 : BufTy.Contents (Elt Ideal) a12.view.ty)
  (Q K V O : ℕ → ℕ → EReal) (L D : ℕ → EReal)

/-- A trip of loop 1 on the rows of chain 0: the gradient of the values. -/
theorem t1_dv0 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 128) (hr : r.val < 1664) :
  a12.view.read (Elt Ideal) (a12.view.writes (Elt Ideal) f12 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.2) (ix2 (⟨r.val, hr⟩ : Fin 1664) e)
   = a12.view.read (Elt Ideal) f12 (ix2 (⟨r.val, hr⟩ : Fin 1664) e) + dvS Q K O L 1664 (r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 r e) rfl (by exact (Nat.zero_add _).symm) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ (by simp only [Nat.zero_add])) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 0: the gradient of the keys. -/
theorem t1_dk0 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 256) (hr : r.val < 1664) :
  a11.view.read (Elt Ideal) (a11.view.writes (Elt Ideal) f11 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.1) (ix2 (⟨r.val, hr⟩ : Fin 1664) e)
   = a11.view.read (Elt Ideal) f11 (ix2 (⟨r.val, hr⟩ : Fin 1664) e) + dkS Q K V O L D 1664 (r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 r e) rfl (by exact (Nat.zero_add _).symm) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ (by simp only [Nat.zero_add])) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 1: the gradient of the values. -/
theorem t1_dv1 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 128) (hr : 416 + r.val < 1664) :
  a12.view.read (Elt Ideal) (a12.view.writes (Elt Ideal) f12 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.2) (ix2 (⟨416 + r.val, hr⟩ : Fin 1664) e)
   = a12.view.read (Elt Ideal) f12 (ix2 (⟨416 + r.val, hr⟩ : Fin 1664) e) + dvS Q K O L 1664 (416 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 1: the gradient of the keys. -/
theorem t1_dk1 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 256) (hr : 416 + r.val < 1664) :
  a11.view.read (Elt Ideal) (a11.view.writes (Elt Ideal) f11 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.1) (ix2 (⟨416 + r.val, hr⟩ : Fin 1664) e)
   = a11.view.read (Elt Ideal) f11 (ix2 (⟨416 + r.val, hr⟩ : Fin 1664) e) + dkS Q K V O L D 1664 (416 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 2: the gradient of the values. -/
theorem t1_dv2 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 128) (hr : 832 + r.val < 1664) :
  a12.view.read (Elt Ideal) (a12.view.writes (Elt Ideal) f12 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.2) (ix2 (⟨832 + r.val, hr⟩ : Fin 1664) e)
   = a12.view.read (Elt Ideal) f12 (ix2 (⟨832 + r.val, hr⟩ : Fin 1664) e) + dvS Q K O L 1664 (832 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 2: the gradient of the keys. -/
theorem t1_dk2 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 256) (hr : 832 + r.val < 1664) :
  a11.view.read (Elt Ideal) (a11.view.writes (Elt Ideal) f11 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.1) (ix2 (⟨832 + r.val, hr⟩ : Fin 1664) e)
   = a11.view.read (Elt Ideal) f11 (ix2 (⟨832 + r.val, hr⟩ : Fin 1664) e) + dkS Q K V O L D 1664 (832 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 3: the gradient of the values. -/
theorem t1_dv3 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 128) (hr : 1248 + r.val < 1664) :
  a12.view.read (Elt Ideal) (a12.view.writes (Elt Ideal) f12 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.2) (ix2 (⟨1248 + r.val, hr⟩ : Fin 1664) e)
   = a12.view.read (Elt Ideal) f12 (ix2 (⟨1248 + r.val, hr⟩ : Fin 1664) e) + dvS Q K O L 1664 (1248 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_mem (o := 1248) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the rows of chain 3: the gradient of the keys. -/
theorem t1_dk3 (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 416) (e : Fin 256) (hr : 1248 + r.val < 1664) :
  a11.view.read (Elt Ideal) (a11.view.writes (Elt Ideal) f11 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.1) (ix2 (⟨1248 + r.val, hr⟩ : Fin 1664) e)
   = a11.view.read (Elt Ideal) f11 (ix2 (⟨1248 + r.val, hr⟩ : Fin 1664) e) + dkS Q K V O L D 1664 (1248 + r.val) (1664 * k.val + 1664) e.val := by
  have hk : k.val < 4 := Nat.lt_of_lt_of_le k.isLt k0_t1_abs.2.1
  subst w1
  have hr' := r.isLt
  unfold tripL_k0_t1 trip_k0_t1
  dsimp only
  refine (View.read_writes_cons_rows_of_mem (o := 1248) _ _ _ _ _ _ (ix2 r e) rfl (by rfl) (by rfl)).trans ?_
  sl_unfold_run_names
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [k0_off13_eq, k0_off14_eq, k0_off15_eq, h2, h3, h4, h5, h6, h7, mask_named]
  simp (disch := omega) only [iv_one, word_zero]
  simp (disch := omega) only [word_lin, mask_sel]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  rfl

/-- A trip of loop 1 on the query rows of its block: the gradient of the queries. -/
theorem t1_dq (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D)
  (r : Fin 1664) (d : Fin 256) (hr : 1664 * k.val + 1664 + r.val < 8320) :
  a8.view.read (Elt Ideal) (a8.view.writes (Elt Ideal) f8 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).1) (ix3 0 (⟨1664 * k.val + 1664 + r.val, hr⟩ : Fin 8320) d)
   = ((((a8.view.read (Elt Ideal) f8 (ix3 0 (⟨1664 * k.val + 1664 + r.val, hr⟩ : Fin 8320) d) + dqS Q K V O L D 416 (0) (1664 * k.val + 1664 + r.val) d.val) + dqS Q K V O L D 416 416 (1664 * k.val + 1664 + r.val) d.val) + dqS Q K V O L D 416 832 (1664 * k.val + 1664 + r.val) d.val) + dqS Q K V O L D 416 1248 (1664 * k.val + 1664 + r.val) d.val) := by
  have hk : k.val < 4 := Nat.lt_of_lt_of_le k.isLt k0_t1_abs.2.1
  subst w1
  have hr' := r.isLt
  unfold tripL_k0_t1 trip_k0_t1
  dsimp only
  refine (View.read_writes_cons_unit_of_mem _ _ _ _ _ _ (ix3 0 r d) (k0_off13_eq k) (by intro a; fin_cases a <;> first | rfl | exact (Nat.zero_add _).symm)).trans ?_
  sl_unfold_run_names
  simp only [View.readCov_cons_toLoadRect]
  pointwise [View.readAt_eq_ld, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  refine congrArg₂ (fun a b : EReal => a + b) ?_ ?_
  rotate_left
  · simp only [k0_off13_eq, k0_off14_eq, k0_off15_eq, h2, h3, h4, h5, h6, h7, mask_named]
    simp (disch := omega) only [iv_one, word_zero]
    simp (disch := omega) only [word_lin, mask_sel]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    rfl
  refine congrArg₂ (fun a b : EReal => a + b) ?_ ?_
  rotate_left
  · simp only [k0_off13_eq, k0_off14_eq, k0_off15_eq, h2, h3, h4, h5, h6, h7, mask_named]
    simp (disch := omega) only [iv_one, word_zero]
    simp (disch := omega) only [word_lin, mask_sel]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    rfl
  refine congrArg₂ (fun a b : EReal => a + b) ?_ ?_
  rotate_left
  · simp only [k0_off13_eq, k0_off14_eq, k0_off15_eq, h2, h3, h4, h5, h6, h7, mask_named]
    simp (disch := omega) only [iv_one, word_zero]
    simp (disch := omega) only [word_lin, mask_sel]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    rfl
  refine congrArg₂ (fun a b : EReal => a + b) ?_ ?_
  rotate_left
  · simp only [k0_off13_eq, k0_off14_eq, k0_off15_eq, h2, h3, h4, h5, h6, h7, mask_named]
    simp (disch := omega) only [iv_one, word_zero]
    simp (disch := omega) only [word_lin, mask_sel]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    rfl
  simp only [k0_off13_eq, k0_off14_eq, k0_off15_eq]
  exact congrArg _ (congrArg₂ (ix3 0) (Fin.ext (by rfl)) (Fin.ext (by exact Nat.zero_add _)))

/-- A trip of loop 1 leaves the query rows of the other blocks alone. -/
theorem t1_dq_out (a1 : BitVec 32) (w1 : a1 = 0#32) (k0_h2 : k0_cond2 i = 1#1) (k : Fin k0_t1_loop.trips) (y : S1x8320x256.Idx) (hy : (y 1).val < 1664 * k.val + 1664 ∨ 1664 * k.val + 1664 + 1664 ≤ (y 1).val) :
  a8.view.read (Elt Ideal) (a8.view.writes (Elt Ideal) f8 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).1) y = a8.view.read (Elt Ideal) f8 y := by
  have hk : k.val < 4 := Nat.lt_of_lt_of_le k.isLt k0_t1_abs.2.1
  subst w1
  unfold tripL_k0_t1 trip_k0_t1
  dsimp only
  refine (View.read_writes_cons_unit_of_not_mem _ _ _ _ _ _ (k0_off13_eq k) 1 (by exact hy)).trans ?_
  sl_unfold_run_names
  refine (View.read_writes_cons_unit_of_not_mem _ _ _ _ _ _ (k0_off13_eq k) 1 (by exact hy)).trans ?_
  refine (View.read_writes_cons_unit_of_not_mem _ _ _ _ _ _ (k0_off13_eq k) 1 (by exact hy)).trans ?_
  refine (View.read_writes_cons_unit_of_not_mem _ _ _ _ _ _ (k0_off13_eq k) 1 (by exact hy)).trans ?_
  rfl

/-- A trip of loop 1: the gradient of the values, every row. -/
theorem t1_dv (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D) (y : S1664x128.Idx) :
  a12.view.read (Elt Ideal) (a12.view.writes (Elt Ideal) f12 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.2) y
   = a12.view.read (Elt Ideal) f12 y + dvS Q K O L 1664 ((y 0).val) (1664 * k.val + 1664) (y 1).val := by
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact t1_dv3 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  by_cases hc2 : 832 ≤ a
  · obtain ⟨r, rfl⟩ := Nat.exists_eq_add_of_le hc2
    exact t1_dv2 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  by_cases hc1 : 416 ≤ a
  · obtain ⟨r, rfl⟩ := Nat.exists_eq_add_of_le hc1
    exact t1_dv1 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  exact t1_dv0 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨a, by omega⟩ e (by exact ha')

/-- A trip of loop 1: the gradient of the keys, every row. -/
theorem t1_dk (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D) (y : S1664x256.Idx) :
  a11.view.read (Elt Ideal) (a11.view.writes (Elt Ideal) f11 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).2.1) y
   = a11.view.read (Elt Ideal) f11 y + dkS Q K V O L D 1664 ((y 0).val) (1664 * k.val + 1664) (y 1).val := by
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact t1_dk3 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  by_cases hc2 : 832 ≤ a
  · obtain ⟨r, rfl⟩ := Nat.exists_eq_add_of_le hc2
    exact t1_dk2 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  by_cases hc1 : 416 ≤ a
  · obtain ⟨r, rfl⟩ := Nat.exists_eq_add_of_le hc1
    exact t1_dk1 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ e (by exact ha')
  exact t1_dk0 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨a, by omega⟩ e (by exact ha')

/-- A trip of loop 1: the gradient of the queries, every row. -/
theorem t1_dqy (a1 : BitVec 32) (w1 : a1 = 0#32) (k0_h2 : k0_cond2 i = 1#1) (k : Fin k0_t1_loop.trips) (h2 : T1h2 a2 X2 Q) (h3 : T1h3 a3 X3 K) (h4 : T1h4 a4 X4 V) (h5 : T1h5 a5 X5 O) (h6 : T1h6 a6 X6 L) (h7 : T1h7 a7 X7 D) (y : S1x8320x256.Idx) :
  a8.view.read (Elt Ideal) (a8.view.writes (Elt Ideal) f8 (tripL_k0_t1 (F := Ideal) 𝒱 c bd i a2 w2 a3 w3 a4 w4 a5 w5 a6 w6 a7 w7 a8 w8 a9 w9 a10 w10 a11 w11 a12 w12 a1 k0_h2 X2 X3 X4 X5 X6 X7 k f8 f11 f12).1) y
   = if 1664 * k.val + 1664 ≤ (y 1).val ∧ (y 1).val < 1664 * k.val + 1664 + 1664 then a8.view.read (Elt Ideal) f8 y + dqS Q K V O L D 1664 0 (y 1).val (y 2).val
     else a8.view.read (Elt Ideal) f8 y := by
  have hk : k.val < 4 := Nat.lt_of_lt_of_le k.isLt k0_t1_abs.2.1
  split_ifs with hy
  · have h0 : y 0 = (0 : Fin 1) := Fin.ext (Nat.lt_one_iff.mp (y 0).isLt)
    rw [eq_ix3 y, h0]
    generalize (y 1) = a at hy ⊢
    generalize (y 2) = d
    obtain ⟨a, ha⟩ := a
    simp only at hy
    obtain ⟨r, rfl⟩ := Nat.exists_eq_add_of_le hy.1
    refine (t1_dq 𝒱 c bd i a2 w2 a3 w3 a4 w4 a5 w5 a6 w6 a7 w7 a8 w8 a9 w9 a10 w10 a11 w11 a12 w12 X2 X3 X4 X5 X6 X7 f8 f11 f12 Q K V O L D a1 w1 k0_h2 k h2 h3 h4 h5 h6 h7 ⟨r, by omega⟩ d (by exact ha)).trans ?_
    rw [← dqS_four, add_assoc, add_assoc, add_assoc, ← add_assoc (dqS _ _ _ _ _ _ _ _ _ _) (dqS _ _ _ _ _ _ _ _ _ _)]
    simp only [Nat.zero_add, add_assoc]
    rfl
  · exact t1_dq_out 𝒱 c bd i a2 w2 a3 w3 a4 w4 a5 w5 a6 w6 a7 w7 a8 w8 a9 w9 a10 w10 a11 w11 a12 w12 X2 X3 X4 X5 X6 X7 f8 f11 f12 a1 w1 k0_h2 k y (by omega)

/-- Loop 1 after `n` trips. -/
theorem t1_loop (a1 : BitVec 32) (w1 : a1 = 0#32) (k0_h2 : k0_cond2 i = 1#1) (h2 : T1h2 a2 X2 Q) (h3 : T1h3 a3 X3 K) (h4 : T1h4 a4 X4 V) (h5 : T1h5 a5 X5 O) (h6 : T1h6 a6 X6 L) (h7 : T1h7 a7 X7 D) : ∀ n ≤ k0_t1_loop.trips,
  (∀ y : S1664x128.Idx, a12.view.read (Elt Ideal) (a12.view.writes (Elt Ideal) f12 (pb_k0_t1 (F := Ideal) 𝒱 c bd i a2 w2 a3 w3 a4 w4 a5 w5 a6 w6 a7 w7 a8 w8 a9 w9 a10 w10 a11 w11 a12 w12 a1 k0_h2 X2 X3 X4 X5 X6 X7 f8 f11 f12 n).2.2) y
   = a12.view.read (Elt Ideal) f12 y + ∑ m ∈ Finset.range n, dvS Q K O L 1664 ((y 0).val) (1664 * m + 1664) (y 1).val) ∧
  (∀ y : S1664x256.Idx, a11.view.read (Elt Ideal) (a11.view.writes (Elt Ideal) f11 (pb_k0_t1 (F := Ideal) 𝒱 c bd i a2 w2 a3 w3 a4 w4 a5 w5 a6 w6 a7 w7 a8 w8 a9 w9 a10 w10 a11 w11 a12 w12 a1 k0_h2 X2 X3 X4 X5 X6 X7 f8 f11 f12 n).2.1) y
   = a11.view.read (Elt Ideal) f11 y + ∑ m ∈ Finset.range n, dkS Q K V O L D 1664 ((y 0).val) (1664 * m + 1664) (y 1).val) ∧
  (∀ y : S1x8320x256.Idx, a8.view.read (Elt Ideal) (a8.view.writes (Elt Ideal) f8 (pb_k0_t1 (F := Ideal) 𝒱 c bd i a2 w2 a3 w3 a4 w4 a5 w5 a6 w6 a7 w7 a8 w8 a9 w9 a10 w10 a11 w11 a12 w12 a1 k0_h2 X2 X3 X4 X5 X6 X7 f8 f11 f12 n).1) y
   = if 1664 * 0 + 1664 ≤ (y 1).val ∧ (y 1).val < 1664 * n + 1664 then a8.view.read (Elt Ideal) f8 y + dqS Q K V O L D 1664 0 (y 1).val (y 2).val
     else a8.view.read (Elt Ideal) f8 y) := by
  intro n
  induction n with
  | zero =>
    intro _
    refine ⟨fun y => ?_, fun y => ?_, fun y => ?_⟩
    · simp only [Finset.range_zero, Finset.sum_empty, add_zero]; rfl
    · simp only [Finset.range_zero, Finset.sum_empty, add_zero]; rfl
    · rw [if_neg (by omega)]; rfl
  | succ n ih =>
    intro hn
    obtain ⟨i12, i11, i8⟩ := ih (by omega)
    have hp := pb_k0_t1_succ (F := Ideal) 𝒱 c bd i a2 w2 a3 w3 a4 w4 a5 w5 a6 w6 a7 w7 a8 w8 a9 w9 a10 w10 a11 w11 a12 w12 a1 k0_h2 X2 X3 X4 X5 X6 X7 f8 f11 f12 ⟨n, by omega⟩
    simp only at hp
    rw [hp]
    simp only [View.writes_append]
    refine ⟨fun y => ?_, fun y => ?_, fun y => ?_⟩
    · rw [t1_dv 𝒱 c bd i a2 w2 a3 w3 a4 w4 a5 w5 a6 w6 a7 w7 a8 w8 a9 w9 a10 w10 a11 w11 a12 w12 X2 X3 X4 X5 X6 X7 _ _ _ Q K V O L D a1 w1 k0_h2 ⟨n, by omega⟩ h2 h3 h4 h5 h6 h7 y, i12 y, Finset.sum_range_succ, add_assoc]
    · rw [t1_dk 𝒱 c bd i a2 w2 a3 w3 a4 w4 a5 w5 a6 w6 a7 w7 a8 w8 a9 w9 a10 w10 a11 w11 a12 w12 X2 X3 X4 X5 X6 X7 _ _ _ Q K V O L D a1 w1 k0_h2 ⟨n, by omega⟩ h2 h3 h4 h5 h6 h7 y, i11 y, Finset.sum_range_succ, add_assoc]
    · rw [t1_dqy 𝒱 c bd i a2 w2 a3 w3 a4 w4 a5 w5 a6 w6 a7 w7 a8 w8 a9 w9 a10 w10 a11 w11 a12 w12 X2 X3 X4 X5 X6 X7 _ _ _ Q K V O L D a1 w1 k0_h2 ⟨n, by omega⟩ h2 h3 h4 h5 h6 h7 y, i8 y]
      simp only
      by_cases h1 : 1664 * n + 1664 ≤ (y 1).val ∧ (y 1).val < 1664 * n + 1664 + 1664
      · rw [if_pos h1, if_neg (by omega), if_pos (by omega)]
      · rw [if_neg h1]
        by_cases h2' : 1664 * 0 + 1664 ≤ (y 1).val ∧ (y 1).val < 1664 * n + 1664
        · rw [if_pos h2', if_pos (by omega)]
        · rw [if_neg h2', if_neg (by omega)]

end Cert.KernelIdeal.Hand
-- ==== Proof.Trip2.lean ====
module
public import proofs.«01_k».proof.Proof.Attn
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open scoped BigOperators
/-- The queries in their buffer. -/
abbrev T2h2 (a2 : Memref sig .tc .vmem S1x8320x256 .bf16) (X2 : BufTy.Contents (Elt Ideal) a2.view.ty) (Q : ℕ → ℕ → EReal) : Prop := ∀ y : S1x8320x256.Idx, a2.view.read (Elt Ideal) X2 y = Q (y 1).val (y 2).val
/-- The keys in their buffer. -/
abbrev T2h3 (i : grid0.Coords) (a3 : Memref sig .tc .vmem S1x1664x256 .bf16) (X3 : BufTy.Contents (Elt Ideal) a3.view.ty) (K : ℕ → ℕ → EReal) : Prop := ∀ y : S1x1664x256.Idx, a3.view.read (Elt Ideal) X3 y = K (1664 * (i 1).val + (y 1).val) (y 2).val
/-- The values in their buffer. -/
abbrev T2h4 (i : grid0.Coords) (a4 : Memref sig .tc .vmem S1x1664x128 .bf16) (X4 : BufTy.Contents (Elt Ideal) a4.view.ty) (V : ℕ → ℕ → EReal) : Prop := ∀ y : S1x1664x128.Idx, a4.view.read (Elt Ideal) X4 y = V (1664 * (i 1).val + (y 1).val) (y 2).val
/-- The output's gradients in their buffer. -/
abbrev T2h5 (a5 : Memref sig .tc .vmem S8320x128 .bf16) (X5 : BufTy.Contents (Elt Ideal) a5.view.ty) (O : ℕ → ℕ → EReal) : Prop := ∀ y : S8320x128.Idx, a5.view.read (Elt Ideal) X5 y = O (y 0).val (y 1).val
/-- The logarithms in their buffer. -/
abbrev T2h6 (a6 : Memref sig .tc .vmem S1x1x8320 .f32) (X6 : BufTy.Contents (Elt Ideal) a6.view.ty) (L : ℕ → EReal) : Prop := ∀ y : S1x1x8320.Idx, a6.view.read (Elt Ideal) X6 y = L (y 2).val
/-- The row sums in their buffer. -/
abbrev T2h7 (a7 : Memref sig .tc .vmem S1x1x8320 .f32) (X7 : BufTy.Contents (Elt Ideal) a7.view.ty) (D : ℕ → EReal) : Prop := ∀ y : S1x1x8320.Idx, a7.view.read (Elt Ideal) X7 y = D (y 2).val

variable (𝒱 : Variants) (c : Dev nD) (bd : Option 𝒱.V) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty)
  (f8 : BufTy.Contents (Elt Ideal) a8.view.ty) (f11 : BufTy.Contents (Elt Ideal) a11.view.ty) (f12 : BufTy.Contents (Elt Ideal) a12.view.ty)
  (Q K V O : ℕ → ℕ → EReal) (L D : ℕ → EReal)

/-- The trips of the second loop end with the last block. -/
theorem t2_lt (i : grid0.Coords) (k : Fin (k0_t2_loop i).trips) : 1664 * (i 1).val + 1664 * k.val + 1664 + 1664 ≤ 8320 := by
  revert i k; decide +kernel

/-- A trip of loop 2 on the rows of chain 0: the gradient of the values. -/
theorem t2_dv0 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 128) (hr : r.val < 1664) :
  a12.view.read (Elt Ideal) (a12.view.writes (Elt Ideal) f12 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.2) (ix2 (⟨r.val, hr⟩ : Fin 1664) e)
   = a12.view.read (Elt Ideal) f12 (ix2 (⟨r.val, hr⟩ : Fin 1664) e) + dvS Q K O L 1664 (1664 * (i 1).val + (r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 r e) rfl (by exact (Nat.zero_add _).symm) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ (by simp only [Nat.zero_add])) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold pm
  rw [if_pos (by unfold vis; omega)]
  rfl

/-- A trip of loop 2 on the rows of chain 0: the gradient of the keys. -/
theorem t2_dk0 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 256) (hr : r.val < 1664) :
  a11.view.read (Elt Ideal) (a11.view.writes (Elt Ideal) f11 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.1) (ix2 (⟨r.val, hr⟩ : Fin 1664) e)
   = a11.view.read (Elt Ideal) f11 (ix2 (⟨r.val, hr⟩ : Fin 1664) e) + dkS Q K V O L D 1664 (1664 * (i 1).val + (r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 r e) rfl (by exact (Nat.zero_add _).symm) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ (by simp only [Nat.zero_add])) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold ds pm
  rw [if_pos (by unfold vis; omega)]
  rfl

/-- A trip of loop 2 on the rows of chain 1: the gradient of the values. -/
theorem t2_dv1 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 128) (hr : 416 + r.val < 1664) :
  a12.view.read (Elt Ideal) (a12.view.writes (Elt Ideal) f12 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.2) (ix2 (⟨416 + r.val, hr⟩ : Fin 1664) e)
   = a12.view.read (Elt Ideal) f12 (ix2 (⟨416 + r.val, hr⟩ : Fin 1664) e) + dvS Q K O L 1664 (1664 * (i 1).val + (416 + r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold pm
  rw [if_pos (by unfold vis; omega)]
  rfl

/-- A trip of loop 2 on the rows of chain 1: the gradient of the keys. -/
theorem t2_dk1 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 256) (hr : 416 + r.val < 1664) :
  a11.view.read (Elt Ideal) (a11.view.writes (Elt Ideal) f11 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.1) (ix2 (⟨416 + r.val, hr⟩ : Fin 1664) e)
   = a11.view.read (Elt Ideal) f11 (ix2 (⟨416 + r.val, hr⟩ : Fin 1664) e) + dkS Q K V O L D 1664 (1664 * (i 1).val + (416 + r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold ds pm
  rw [if_pos (by unfold vis; omega)]
  rfl

/-- A trip of loop 2 on the rows of chain 2: the gradient of the values. -/
theorem t2_dv2 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 128) (hr : 832 + r.val < 1664) :
  a12.view.read (Elt Ideal) (a12.view.writes (Elt Ideal) f12 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.2) (ix2 (⟨832 + r.val, hr⟩ : Fin 1664) e)
   = a12.view.read (Elt Ideal) f12 (ix2 (⟨832 + r.val, hr⟩ : Fin 1664) e) + dvS Q K O L 1664 (1664 * (i 1).val + (832 + r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold pm
  rw [if_pos (by unfold vis; omega)]
  rfl

/-- A trip of loop 2 on the rows of chain 2: the gradient of the keys. -/
theorem t2_dk2 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 256) (hr : 832 + r.val < 1664) :
  a11.view.read (Elt Ideal) (a11.view.writes (Elt Ideal) f11 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.1) (ix2 (⟨832 + r.val, hr⟩ : Fin 1664) e)
   = a11.view.read (Elt Ideal) f11 (ix2 (⟨832 + r.val, hr⟩ : Fin 1664) e) + dkS Q K V O L D 1664 (1664 * (i 1).val + (832 + r.val)) (1664 * (i 1).val + 1664 * k.val + 1664) e.val := by
  have hk := t2_lt i k
  have hr' := r.isLt
  unfold tripL_k0_t2 trip_k0_t2
  dsimp only
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold ds pm
  rw [if_pos (by unfold vis; omega)]
  rfl

/-- A trip of loop 2 on the rows of chain 3: the gradient of the values. -/
theorem t2_dv3 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 128) (hr : 1248 + r.val < 1664) :
  a12.view.read (Elt Ideal) (a12.view.writes (Elt Ideal) f12 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.2) (ix2 (⟨1248 + r.val, hr⟩ : Fin 1664) e)
   = a12.view.read (Elt Ideal) f12 (ix2 (⟨1248 + r.val, hr⟩ : Fin 1664) e) + dvS Q K O L 1664 (1664 * (i 1).val + (1248 + r.val)) (1664 * (i 1).val + 1664 * k.val + 1664) e.val := by
  have hk := t2_lt i k
  have hr' := r.isLt
  unfold tripL_k0_t2 trip_k0_t2
  dsimp only
  refine (View.read_writes_cons_rows_of_mem (o := 1248) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold pm
  rw [if_pos (by unfold vis; omega)]
  rfl

/-- A trip of loop 2 on the rows of chain 3: the gradient of the keys. -/
theorem t2_dk3 (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 416) (e : Fin 256) (hr : 1248 + r.val < 1664) :
  a11.view.read (Elt Ideal) (a11.view.writes (Elt Ideal) f11 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.1) (ix2 (⟨1248 + r.val, hr⟩ : Fin 1664) e)
   = a11.view.read (Elt Ideal) f11 (ix2 (⟨1248 + r.val, hr⟩ : Fin 1664) e) + dkS Q K V O L D 1664 (1664 * (i 1).val + (1248 + r.val)) (1664 * (i 1).val + 1664 * k.val + 1664) e.val := by
  have hk := t2_lt i k
  have hr' := r.isLt
  unfold tripL_k0_t2 trip_k0_t2
  dsimp only
  refine (View.read_writes_cons_rows_of_mem (o := 1248) _ _ _ _ _ _ (ix2 r e) rfl (by rfl) (by rfl)).trans ?_
  sl_unfold_run_names
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [k0_off16_eq, k0_off17_eq, k0_off18_eq, h2, h3, h4, h5, h6, h7, mask_named]
  refine congrArg₂ (fun a b : EReal => a + b) (congrArg _ rfl) (Finset.sum_congr rfl fun x _ => ?_)
  have hx := x.isLt
  simp only [Fin.isValue, ix3_1, ix3_2, ix2_0, ix2_1, Matrix.cons_val_zero, Matrix.cons_val_one, Matrix.cons_val, Nat.zero_add, Nat.add_zero, Nat.mul_zero]
  unfold ds pm
  rw [if_pos (by unfold vis; omega)]
  rfl

/-- A trip of loop 2 on the query rows of its block: the gradient of the queries. -/
theorem t2_dq (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D)
  (r : Fin 1664) (d : Fin 256) (hr : 1664 * (i 1).val + 1664 * k.val + 1664 + r.val < 8320) :
  a8.view.read (Elt Ideal) (a8.view.writes (Elt Ideal) f8 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).1) (ix3 0 (⟨1664 * (i 1).val + 1664 * k.val + 1664 + r.val, hr⟩ : Fin 8320) d)
   = ((((a8.view.read (Elt Ideal) f8 (ix3 0 (⟨1664 * (i 1).val + 1664 * k.val + 1664 + r.val, hr⟩ : Fin 8320) d) + dqS Q K V O L D 416 (1664 * (i 1).val) (1664 * (i 1).val + 1664 * k.val + 1664 + r.val) d.val) + dqS Q K V O L D 416 (1664 * (i 1).val + 416) (1664 * (i 1).val + 1664 * k.val + 1664 + r.val) d.val) + dqS Q K V O L D 416 (1664 * (i 1).val + 832) (1664 * (i 1).val + 1664 * k.val + 1664 + r.val) d.val) + dqS Q K V O L D 416 (1664 * (i 1).val + 1248) (1664 * (i 1).val + 1664 * k.val + 1664 + r.val) d.val) := by
  have hk := t2_lt i k
  have hr' := r.isLt
  unfold tripL_k0_t2 trip_k0_t2
  dsimp only
  refine (View.read_writes_cons_unit_of_mem _ _ _ _ _ _ (ix3 0 r d) (k0_off16_eq i k) (by intro a; fin_cases a <;> first | rfl | exact (Nat.zero_add _).symm)).trans ?_
  sl_unfold_run_names
  simp only [View.readCov_cons_toLoadRect]
  pointwise [View.readAt_eq_ld, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  refine congrArg₂ (fun a b : EReal => a + b) ?_ ?_
  rotate_left
  · simp only [k0_off16_eq, k0_off17_eq, k0_off18_eq, h2, h3, h4, h5, h6, h7, mask_named]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    unfold ds pm
    rw [if_pos (by unfold vis; omega)]
    rfl
  refine congrArg₂ (fun a b : EReal => a + b) ?_ ?_
  rotate_left
  · simp only [k0_off16_eq, k0_off17_eq, k0_off18_eq, h2, h3, h4, h5, h6, h7, mask_named]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    unfold ds pm
    rw [if_pos (by unfold vis; omega)]
    rfl
  refine congrArg₂ (fun a b : EReal => a + b) ?_ ?_
  rotate_left
  · simp only [k0_off16_eq, k0_off17_eq, k0_off18_eq, h2, h3, h4, h5, h6, h7, mask_named]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    unfold ds pm
    rw [if_pos (by unfold vis; omega)]
    rfl
  refine congrArg₂ (fun a b : EReal => a + b) ?_ ?_
  rotate_left
  · simp only [k0_off16_eq, k0_off17_eq, k0_off18_eq, h2, h3, h4, h5, h6, h7, mask_named]
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    unfold ds pm
    rw [if_pos (by unfold vis; omega)]
    rfl
  simp only [k0_off16_eq, k0_off17_eq, k0_off18_eq]
  exact congrArg _ (congrArg₂ (ix3 0) (Fin.ext (by rfl)) (Fin.ext (by exact Nat.zero_add _)))

/-- A trip of loop 2 leaves the query rows of the other blocks alone. -/
theorem t2_dq_out (a1 : BitVec 32) (k0_h3 : k0_cond3 i = 1#1) (hj : 1 ≤ (i 1).val) (k : Fin (k0_t2_loop i).trips) (y : S1x8320x256.Idx) (hy : (y 1).val < 1664 * (i 1).val + 1664 * k.val + 1664 ∨ 1664 * (i 1).val + 1664 * k.val + 1664 + 1664 ≤ (y 1).val) :
  a8.view.read (Elt Ideal) (a8.view.writes (Elt Ideal) f8 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).1) y = a8.view.read (Elt Ideal) f8 y := by
  have hk := t2_lt i k
  unfold tripL_k0_t2 trip_k0_t2
  dsimp only
  refine (View.read_writes_cons_unit_of_not_mem _ _ _ _ _ _ (k0_off16_eq i k) 1 (by exact hy)).trans ?_
  sl_unfold_run_names
  refine (View.read_writes_cons_unit_of_not_mem _ _ _ _ _ _ (k0_off16_eq i k) 1 (by exact hy)).trans ?_
  refine (View.read_writes_cons_unit_of_not_mem _ _ _ _ _ _ (k0_off16_eq i k) 1 (by exact hy)).trans ?_
  refine (View.read_writes_cons_unit_of_not_mem _ _ _ _ _ _ (k0_off16_eq i k) 1 (by exact hy)).trans ?_
  rfl

/-- A trip of loop 2: the gradient of the values, every row. -/
theorem t2_dv (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D) (y : S1664x128.Idx) :
  a12.view.read (Elt Ideal) (a12.view.writes (Elt Ideal) f12 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.2) y
   = a12.view.read (Elt Ideal) f12 y + dvS Q K O L 1664 (1664 * (i 1).val + (y 0).val) (1664 * (i 1).val + 1664 * k.val + 1664) (y 1).val := by
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact t2_dv3 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  by_cases hc2 : 832 ≤ a
  · obtain ⟨r, rfl⟩ := Nat.exists_eq_add_of_le hc2
    exact t2_dv2 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  by_cases hc1 : 416 ≤ a
  · obtain ⟨r, rfl⟩ := Nat.exists_eq_add_of_le hc1
    exact t2_dv1 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  exact t2_dv0 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨a, by omega⟩ e (by exact ha')

/-- A trip of loop 2: the gradient of the keys, every row. -/
theorem t2_dk (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D) (y : S1664x256.Idx) :
  a11.view.read (Elt Ideal) (a11.view.writes (Elt Ideal) f11 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).2.1) y
   = a11.view.read (Elt Ideal) f11 y + dkS Q K V O L D 1664 (1664 * (i 1).val + (y 0).val) (1664 * (i 1).val + 1664 * k.val + 1664) (y 1).val := by
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact t2_dk3 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  by_cases hc2 : 832 ≤ a
  · obtain ⟨r, rfl⟩ := Nat.exists_eq_add_of_le hc2
    exact t2_dk2 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  by_cases hc1 : 416 ≤ a
  · obtain ⟨r, rfl⟩ := Nat.exists_eq_add_of_le hc1
    exact t2_dk1 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ e (by exact ha')
  exact t2_dk0 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨a, by omega⟩ e (by exact ha')

/-- A trip of loop 2: the gradient of the queries, every row. -/
theorem t2_dqy (a1 : BitVec 32) (k0_h3 : k0_cond3 i = 1#1) (hj : 1 ≤ (i 1).val) (k : Fin (k0_t2_loop i).trips) (h2 : T2h2 a2 X2 Q) (h3 : T2h3 i a3 X3 K) (h4 : T2h4 i a4 X4 V) (h5 : T2h5 a5 X5 O) (h6 : T2h6 a6 X6 L) (h7 : T2h7 a7 X7 D) (y : S1x8320x256.Idx) :
  a8.view.read (Elt Ideal) (a8.view.writes (Elt Ideal) f8 (tripL_k0_t2 (F := Ideal) 𝒱 c bd i a2 w2 a3 w3 a4 w4 a5 w5 a6 w6 a7 w7 a8 w8 a9 w9 a10 w10 a11 w11 a12 w12 k0_h3 a1 X2 X3 X4 X5 X6 X7 k f8 f11 f12).1) y
   = if 1664 * (i 1).val + 1664 * k.val + 1664 ≤ (y 1).val ∧ (y 1).val < 1664 * (i 1).val + 1664 * k.val + 1664 + 1664 then a8.view.read (Elt Ideal) f8 y + dqS Q K V O L D 1664 (1664 * (i 1).val) (y 1).val (y 2).val
     else a8.view.read (Elt Ideal) f8 y := by
  have hk := t2_lt i k
  split_ifs with hy
  · have h0 : y 0 = (0 : Fin 1) := Fin.ext (Nat.lt_one_iff.mp (y 0).isLt)
    rw [eq_ix3 y, h0]
    generalize (y 1) = a at hy ⊢
    generalize (y 2) = d
    obtain ⟨a, ha⟩ := a
    simp only at hy
    obtain ⟨r, rfl⟩ := Nat.exists_eq_add_of_le hy.1
    refine (t2_dq 𝒱 c bd i a2 w2 a3 w3 a4 w4 a5 w5 a6 w6 a7 w7 a8 w8 a9 w9 a10 w10 a11 w11 a12 w12 X2 X3 X4 X5 X6 X7 f8 f11 f12 Q K V O L D a1 k0_h3 hj k h2 h3 h4 h5 h6 h7 ⟨r, by omega⟩ d (by exact ha)).trans ?_
    rw [← dqS_four, add_assoc, add_assoc, add_assoc, ← add_assoc (dqS _ _ _ _ _ _ _ _ _ _) (dqS _ _ _ _ _ _ _ _ _ _)]
    simp only [Nat.zero_add, add_assoc]
    rfl
  · exact t2_dq_out 𝒱 c bd i a2 w2 a3 w3 a4 w4 a5 w5 a6 w6 a7 w7 a8 w8 a9 w9 a10 w10 a11 w11 a12 w12 X2 X3 X4 X5 X6 X7 f8 f11 f12 a1 k0_h3 hj k y (by omega)

/-- Loop 2 after `n` trips. -/
theorem t2_loop (a1 : BitVec 32) (k0_h3 : k0_cond3 i = 1#1) (hj : 1 ≤ (i 1).val) (h2 : T2h2 a2 X2 Q) (h3 : T2h3 i a3 X3 K) (h4 : T2h4 i a4 X4 V) (h5 : T2h5 a5 X5 O) (h6 : T2h6 a6 X6 L) (h7 : T2h7 a7 X7 D) : ∀ n ≤ (k0_t2_loop i).trips,
  (∀ y : S1664x128.Idx, a12.view.read (Elt Ideal) (a12.view.writes (Elt Ideal) f12 (pb_k0_t2 (F := Ideal) 𝒱 c bd i a2 w2 a3 w3 a4 w4 a5 w5 a6 w6 a7 w7 a8 w8 a9 w9 a10 w10 a11 w11 a12 w12 k0_h3 a1 X2 X3 X4 X5 X6 X7 f8 f11 f12 n).2.2) y
   = a12.view.read (Elt Ideal) f12 y + ∑ m ∈ Finset.range n, dvS Q K O L 1664 (1664 * (i 1).val + (y 0).val) (1664 * (i 1).val + 1664 * m + 1664) (y 1).val) ∧
  (∀ y : S1664x256.Idx, a11.view.read (Elt Ideal) (a11.view.writes (Elt Ideal) f11 (pb_k0_t2 (F := Ideal) 𝒱 c bd i a2 w2 a3 w3 a4 w4 a5 w5 a6 w6 a7 w7 a8 w8 a9 w9 a10 w10 a11 w11 a12 w12 k0_h3 a1 X2 X3 X4 X5 X6 X7 f8 f11 f12 n).2.1) y
   = a11.view.read (Elt Ideal) f11 y + ∑ m ∈ Finset.range n, dkS Q K V O L D 1664 (1664 * (i 1).val + (y 0).val) (1664 * (i 1).val + 1664 * m + 1664) (y 1).val) ∧
  (∀ y : S1x8320x256.Idx, a8.view.read (Elt Ideal) (a8.view.writes (Elt Ideal) f8 (pb_k0_t2 (F := Ideal) 𝒱 c bd i a2 w2 a3 w3 a4 w4 a5 w5 a6 w6 a7 w7 a8 w8 a9 w9 a10 w10 a11 w11 a12 w12 k0_h3 a1 X2 X3 X4 X5 X6 X7 f8 f11 f12 n).1) y
   = if 1664 * (i 1).val + 1664 * 0 + 1664 ≤ (y 1).val ∧ (y 1).val < 1664 * (i 1).val + 1664 * n + 1664 then a8.view.read (Elt Ideal) f8 y + dqS Q K V O L D 1664 (1664 * (i 1).val) (y 1).val (y 2).val
     else a8.view.read (Elt Ideal) f8 y) := by
  intro n
  induction n with
  | zero =>
    intro _
    refine ⟨fun y => ?_, fun y => ?_, fun y => ?_⟩
    · simp only [Finset.range_zero, Finset.sum_empty, add_zero]; rfl
    · simp only [Finset.range_zero, Finset.sum_empty, add_zero]; rfl
    · rw [if_neg (by omega)]; rfl
  | succ n ih =>
    intro hn
    obtain ⟨i12, i11, i8⟩ := ih (by omega)
    have hp := pb_k0_t2_succ (F := Ideal) 𝒱 c bd i a2 w2 a3 w3 a4 w4 a5 w5 a6 w6 a7 w7 a8 w8 a9 w9 a10 w10 a11 w11 a12 w12 k0_h3 a1 X2 X3 X4 X5 X6 X7 f8 f11 f12 ⟨n, by omega⟩
    simp only at hp
    rw [hp]
    simp only [View.writes_append]
    refine ⟨fun y => ?_, fun y => ?_, fun y => ?_⟩
    · rw [t2_dv 𝒱 c bd i a2 w2 a3 w3 a4 w4 a5 w5 a6 w6 a7 w7 a8 w8 a9 w9 a10 w10 a11 w11 a12 w12 X2 X3 X4 X5 X6 X7 _ _ _ Q K V O L D a1 k0_h3 hj ⟨n, by omega⟩ h2 h3 h4 h5 h6 h7 y, i12 y, Finset.sum_range_succ, add_assoc]
    · rw [t2_dk 𝒱 c bd i a2 w2 a3 w3 a4 w4 a5 w5 a6 w6 a7 w7 a8 w8 a9 w9 a10 w10 a11 w11 a12 w12 X2 X3 X4 X5 X6 X7 _ _ _ Q K V O L D a1 k0_h3 hj ⟨n, by omega⟩ h2 h3 h4 h5 h6 h7 y, i11 y, Finset.sum_range_succ, add_assoc]
    · rw [t2_dqy 𝒱 c bd i a2 w2 a3 w3 a4 w4 a5 w5 a6 w6 a7 w7 a8 w8 a9 w9 a10 w10 a11 w11 a12 w12 X2 X3 X4 X5 X6 X7 _ _ _ Q K V O L D a1 k0_h3 hj ⟨n, by omega⟩ h2 h3 h4 h5 h6 h7 y, i8 y]
      simp only
      by_cases h1 : 1664 * (i 1).val + 1664 * n + 1664 ≤ (y 1).val ∧ (y 1).val < 1664 * (i 1).val + 1664 * n + 1664 + 1664
      · rw [if_pos h1, if_neg (by omega), if_pos (by omega)]
      · rw [if_neg h1]
        by_cases h2' : 1664 * (i 1).val + 1664 * 0 + 1664 ≤ (y 1).val ∧ (y 1).val < 1664 * (i 1).val + 1664 * n + 1664
        · rw [if_pos h2', if_pos (by omega)]
        · rw [if_neg h2', if_neg (by omega)]

end Cert.KernelIdeal.Hand
-- ==== Proof.RunA.lean ====
module
public import proofs.«01_k».proof.Proof.Trip1
public import proofs.«01_k».proof.Proof.Trip2
public import Idealize.ShloMosaic.Lib.Pipeline.FrameBody
public import Idealize.ShloMosaic.Lib.VecWindow
public import Idealize.ShloMosaic.Lib.Ring
public import Idealize.ShloMosaic.Lib.Tactic
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators
local notation "𝕄" => MT nD τ sig Unit (Elt Ideal) ℕ (UR sig nD τ) ℕ

set_option maxHeartbeats 1000000 in
/-- What one point of the grid leaves in its three output blocks (first key block of a head), with the triple. -/
@[irreducible] def runA (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole) (hc0 : ((Scalar.cmpi .ne (Scalar.extui (Scalar.cmpi .eq (BitVec.ofNat 32 (i 1).val) 0#32)) 0#32) = 1#1)) (hc1 : (k0_cond2 i = 1#1)) (hc2 : ¬(k0_cond3 i = 1#1))
    (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) :
      Σ' (y8 : Vec Ideal S1x8320x256 .f32) (y9 : Vec Ideal S1x1664x256 .bf16) (y10 : Vec Ideal S1x1664x128 .bf16), ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ owns (c : Thread nD τ) a9 fullShare y9 ∗ owns (c : Thread nD τ) a10 fullShare y10 ∗ (∃ d, owns (c : Thread nD τ) a11 fullShare d) ∗ (∃ d, owns (c : Thread nD τ) a12 fullShare d)) -∗ K ⟨⟩))
          ⊢ wp frame (wpE (defs₀ (F := Ideal)) Variants.none c none) E (cc0_flash_bwd i a2 w2 a3 w3 a4 w4 a5 w5 a6 w6 a7 w7 a8 w8 a9 w9 a10 w10 a11 w11 a12 w12) K := by
    refine ⟨?_, ?_, ?_, fun E K => ?run⟩
    case run =>
      simp only [cc0_flash_bwd_eq_skeleton]; unfold cc0_flash_bwd_skel
      simp only [k0_part21_eq_skeleton, k0_part22_eq_skeleton, k0_part23_eq_skeleton, k0_part24_eq_skeleton, k0_part25_eq_skeleton, k0_part26_eq_skeleton, k0_part27_eq_skeleton, k0_part28_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
      obtain rfl := w2.eq_unread hf0; obtain rfl := w3.eq_unread hf1; obtain rfl := w4.eq_unread hf2; obtain rfl := w5.eq_unread hf3; obtain rfl := w6.eq_unread hf4; obtain rfl := w7.eq_unread hf5;
      sl_exec (disch := first | sl_exact hc0 | sl_exact hc1 | sl_exact hc2)
      sl_step
      iapply Hk
      isplitl [H0]
      · iexists _; isplitr; · ipureintro; exact w2.read_unread _
        iexact H0
      isplitl [H1]
      · iexists _; isplitr; · ipureintro; exact w3.read_unread _
        iexact H1
      isplitl [H2]
      · iexists _; isplitr; · ipureintro; exact w4.read_unread _
        iexact H2
      isplitl [H3]
      · iexists _; isplitr; · ipureintro; exact w5.read_unread _
        iexact H3
      isplitl [H4]
      · iexists _; isplitr; · ipureintro; exact w6.read_unread _
        iexact H4
      isplitl [H5]
      · iexists _; isplitr; · ipureintro; exact w7.read_unread _
        iexact H5
      isplitl [H6]
      · iexists _; isplitr; swap; · iexact H6
        ipureintro
        rfl
      isplitl [H7]
      · iexists _; isplitr; swap; · iexact H7
        ipureintro
        exact View.read_writes_full _ _ _ _ _
      isplitl [H8]
      · iexists _; isplitr; swap; · iexact H8
        ipureintro
        exact View.read_writes_full _ _ _ _ _
      isplitl [HS0]
      · iexists _, _; isplitr; swap; · iexact HS0
        ipureintro; rfl
      iexists _, _; isplitr; swap; · iexact HS1
      ipureintro; rfl

end Cert.KernelIdeal.Hand
-- ==== Proof.DiagA.lean ====
module
public import proofs.«01_k».proof.Proof.RunA
public import Idealize.ShloMosaic.Lib.Pipeline.ReadBack
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step on the rows of chain 0: the gradient of the values. -/
theorem dA_dv0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : r.val < 1664) :
  a12.view.read (Elt Ideal) (a12.view.writes (Elt Ideal) a12.view.junk (runA.sl.HS1_5 c i a2 w2 a3 w3 a5 w5 a6 w6 a12 x0 x1 x3 x4)) (ix2 (⟨r.val, hr⟩ : Fin 1664) e)
   = dvS Q K O L 1664 (1664 * (i 1).val + (r.val)) (1664 * (i 1).val) e.val := by
  have hr' := r.isLt
  have hi : (i 1).val < 5 := (i 1).isLt
  unfold runA.sl.HS1_5
  refine (View.read_writes_cons_rows_of_not_mem (o := 1248) (W := 416) _ _ _ _ _ _ rfl rfl (by refine Or.inl ?_; simp only [ix2_0]; omega)).trans ?_
  unfold runA.sl.HS1_4
  refine (View.read_writes_cons_rows_of_not_mem (o := 832) (W := 416) _ _ _ _ _ _ rfl rfl (by refine Or.inl ?_; simp only [ix2_0]; omega)).trans ?_
  unfold runA.sl.HS1_3
  refine (View.read_writes_cons_rows_of_not_mem (o := 416) (W := 416) _ _ _ _ _ _ rfl rfl (by refine Or.inl ?_; simp only [ix2_0]; omega)).trans ?_
  unfold runA.sl.HS1_2
  refine (View.read_writes_cons_rows_of_mem (o := 0) _ _ _ _ _ _ (ix2 r e) rfl (by exact (Nat.zero_add _).symm) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 1: the gradient of the values. -/
theorem dA_dv1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 416 + r.val < 1664) :
  a12.view.read (Elt Ideal) (a12.view.writes (Elt Ideal) a12.view.junk (runA.sl.HS1_5 c i a2 w2 a3 w3 a5 w5 a6 w6 a12 x0 x1 x3 x4)) (ix2 (⟨416 + r.val, hr⟩ : Fin 1664) e)
   = dvS Q K O L 1280 (1664 * (i 1).val + (416 + r.val)) (1664 * (i 1).val + 384) e.val := by
  have hr' := r.isLt
  have hi : (i 1).val < 5 := (i 1).isLt
  unfold runA.sl.HS1_5
  refine (View.read_writes_cons_rows_of_not_mem (o := 1248) (W := 416) _ _ _ _ _ _ rfl rfl (by refine Or.inl ?_; simp only [ix2_0]; omega)).trans ?_
  unfold runA.sl.HS1_4
  refine (View.read_writes_cons_rows_of_not_mem (o := 832) (W := 416) _ _ _ _ _ _ rfl rfl (by refine Or.inl ?_; simp only [ix2_0]; omega)).trans ?_
  unfold runA.sl.HS1_3
  refine (View.read_writes_cons_rows_of_mem (o := 416) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 2: the gradient of the values. -/
theorem dA_dv2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 832 + r.val < 1664) :
  a12.view.read (Elt Ideal) (a12.view.writes (Elt Ideal) a12.view.junk (runA.sl.HS1_5 c i a2 w2 a3 w3 a5 w5 a6 w6 a12 x0 x1 x3 x4)) (ix2 (⟨832 + r.val, hr⟩ : Fin 1664) e)
   = dvS Q K O L 896 (1664 * (i 1).val + (832 + r.val)) (1664 * (i 1).val + 768) e.val := by
  have hr' := r.isLt
  have hi : (i 1).val < 5 := (i 1).isLt
  unfold runA.sl.HS1_5
  refine (View.read_writes_cons_rows_of_not_mem (o := 1248) (W := 416) _ _ _ _ _ _ rfl rfl (by refine Or.inl ?_; simp only [ix2_0]; omega)).trans ?_
  unfold runA.sl.HS1_4
  refine (View.read_writes_cons_rows_of_mem (o := 832) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 3: the gradient of the values. -/
theorem dA_dv3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 1248 + r.val < 1664) :
  a12.view.read (Elt Ideal) (a12.view.writes (Elt Ideal) a12.view.junk (runA.sl.HS1_5 c i a2 w2 a3 w3 a5 w5 a6 w6 a12 x0 x1 x3 x4)) (ix2 (⟨1248 + r.val, hr⟩ : Fin 1664) e)
   = dvS Q K O L 512 (1664 * (i 1).val + (1248 + r.val)) (1664 * (i 1).val + 1152) e.val := by
  have hr' := r.isLt
  have hi : (i 1).val < 5 := (i 1).isLt
  unfold runA.sl.HS1_5
  refine (View.read_writes_cons_rows_of_mem (o := 1248) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 0: the gradient of the keys. -/
theorem dA_dk0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : r.val < 1664) :
  a11.view.read (Elt Ideal) (a11.view.writes (Elt Ideal) a11.view.junk (runA.sl.HS0_5 c i a2 w2 a3 w3 a4 w4 a5 w5 a6 w6 a7 w7 a11 x0 x1 x2 x3 x4 x5)) (ix2 (⟨r.val, hr⟩ : Fin 1664) e)
   = dkS Q K V O L D 1664 (1664 * (i 1).val + (r.val)) (1664 * (i 1).val) e.val := by
  have hr' := r.isLt
  have hi : (i 1).val < 5 := (i 1).isLt
  unfold runA.sl.HS0_5
  refine (View.read_writes_cons_rows_of_not_mem (o := 1248) (W := 416) _ _ _ _ _ _ rfl rfl (by refine Or.inl ?_; simp only [ix2_0]; omega)).trans ?_
  unfold runA.sl.HS0_4
  refine (View.read_writes_cons_rows_of_not_mem (o := 832) (W := 416) _ _ _ _ _ _ rfl rfl (by refine Or.inl ?_; simp only [ix2_0]; omega)).trans ?_
  unfold runA.sl.HS0_3
  refine (View.read_writes_cons_rows_of_not_mem (o := 416) (W := 416) _ _ _ _ _ _ rfl rfl (by refine Or.inl ?_; simp only [ix2_0]; omega)).trans ?_
  unfold runA.sl.HS0_2
  refine (View.read_writes_cons_rows_of_mem (o := 0) _ _ _ _ _ _ (ix2 r e) rfl (by exact (Nat.zero_add _).symm) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 1: the gradient of the keys. -/
theorem dA_dk1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 416 + r.val < 1664) :
  a11.view.read (Elt Ideal) (a11.view.writes (Elt Ideal) a11.view.junk (runA.sl.HS0_5 c i a2 w2 a3 w3 a4 w4 a5 w5 a6 w6 a7 w7 a11 x0 x1 x2 x3 x4 x5)) (ix2 (⟨416 + r.val, hr⟩ : Fin 1664) e)
   = dkS Q K V O L D 1280 (1664 * (i 1).val + (416 + r.val)) (1664 * (i 1).val + 384) e.val := by
  have hr' := r.isLt
  have hi : (i 1).val < 5 := (i 1).isLt
  unfold runA.sl.HS0_5
  refine (View.read_writes_cons_rows_of_not_mem (o := 1248) (W := 416) _ _ _ _ _ _ rfl rfl (by refine Or.inl ?_; simp only [ix2_0]; omega)).trans ?_
  unfold runA.sl.HS0_4
  refine (View.read_writes_cons_rows_of_not_mem (o := 832) (W := 416) _ _ _ _ _ _ rfl rfl (by refine Or.inl ?_; simp only [ix2_0]; omega)).trans ?_
  unfold runA.sl.HS0_3
  refine (View.read_writes_cons_rows_of_mem (o := 416) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 2: the gradient of the keys. -/
theorem dA_dk2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 832 + r.val < 1664) :
  a11.view.read (Elt Ideal) (a11.view.writes (Elt Ideal) a11.view.junk (runA.sl.HS0_5 c i a2 w2 a3 w3 a4 w4 a5 w5 a6 w6 a7 w7 a11 x0 x1 x2 x3 x4 x5)) (ix2 (⟨832 + r.val, hr⟩ : Fin 1664) e)
   = dkS Q K V O L D 896 (1664 * (i 1).val + (832 + r.val)) (1664 * (i 1).val + 768) e.val := by
  have hr' := r.isLt
  have hi : (i 1).val < 5 := (i 1).isLt
  unfold runA.sl.HS0_5
  refine (View.read_writes_cons_rows_of_not_mem (o := 1248) (W := 416) _ _ _ _ _ _ rfl rfl (by refine Or.inl ?_; simp only [ix2_0]; omega)).trans ?_
  unfold runA.sl.HS0_4
  refine (View.read_writes_cons_rows_of_mem (o := 832) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 3: the gradient of the keys. -/
theorem dA_dk3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 1248 + r.val < 1664) :
  a11.view.read (Elt Ideal) (a11.view.writes (Elt Ideal) a11.view.junk (runA.sl.HS0_5 c i a2 w2 a3 w3 a4 w4 a5 w5 a6 w6 a7 w7 a11 x0 x1 x2 x3 x4 x5)) (ix2 (⟨1248 + r.val, hr⟩ : Fin 1664) e)
   = dkS Q K V O L D 512 (1664 * (i 1).val + (1248 + r.val)) (1664 * (i 1).val + 1152) e.val := by
  have hr' := r.isLt
  have hi : (i 1).val < 5 := (i 1).isLt
  unfold runA.sl.HS0_5
  refine (View.read_writes_cons_rows_of_mem (o := 1248) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

end Cert.KernelIdeal.Hand
-- ==== Proof.AccA.lean ====
module
public import proofs.«01_k».proof.Proof.DiagA
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step and the later steps together: the gradient of the values, every row. -/
theorem dA_dv (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (y : S1664x128.Idx) :
  a12.view.read (Elt Ideal) (a12.view.writes (Elt Ideal) a12.view.junk (runA.sl.HS1_5 c i a2 w2 a3 w3 a5 w5 a6 w6 a12 x0 x1 x3 x4)) y
    + ∑ m ∈ Finset.range (4 - (i 1).val), dvS Q K O L 1664 (1664 * (i 1).val + (y 0).val) (1664 * (i 1).val + 1664 * m + 1664) (y 1).val
   = dvT Q K O L (1664 * (i 1).val + (y 0).val) (y 1).val := by
  have hi : (i 1).val < 5 := (i 1).isLt
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact (congrArg (· + _) (dA_dv3 c i a2 w2 a3 w3 a5 w5 a6 w6 a12 x0 x1 x2 x3 x4 x5 Q K V O L D h0 h1 h2 h3 h4 h5 ⟨r, by omega⟩ e ha')).trans (dv_total Q K O L (1664 * (i 1).val + (1248 + r)) e.val (1664 * (i 1).val + 1152) 512 (i 1).val hi (by omega) (fun x hx hv => by have := hv.1; omega))
  by_cases hc2 : 832 ≤ a
  · obtain ⟨r, rfl⟩ := Nat.exists_eq_add_of_le hc2
    exact (congrArg (· + _) (dA_dv2 c i a2 w2 a3 w3 a5 w5 a6 w6 a12 x0 x1 x2 x3 x4 x5 Q K V O L D h0 h1 h2 h3 h4 h5 ⟨r, by omega⟩ e ha')).trans (dv_total Q K O L (1664 * (i 1).val + (832 + r)) e.val (1664 * (i 1).val + 768) 896 (i 1).val hi (by omega) (fun x hx hv => by have := hv.1; omega))
  by_cases hc1 : 416 ≤ a
  · obtain ⟨r, rfl⟩ := Nat.exists_eq_add_of_le hc1
    exact (congrArg (· + _) (dA_dv1 c i a2 w2 a3 w3 a5 w5 a6 w6 a12 x0 x1 x2 x3 x4 x5 Q K V O L D h0 h1 h2 h3 h4 h5 ⟨r, by omega⟩ e ha')).trans (dv_total Q K O L (1664 * (i 1).val + (416 + r)) e.val (1664 * (i 1).val + 384) 1280 (i 1).val hi (by omega) (fun x hx hv => by have := hv.1; omega))
  exact (congrArg (· + _) (dA_dv0 c i a2 w2 a3 w3 a5 w5 a6 w6 a12 x0 x1 x2 x3 x4 x5 Q K V O L D h0 h1 h2 h3 h4 h5 ⟨a, by omega⟩ e ha')).trans (dv_total Q K O L (1664 * (i 1).val + (a)) e.val (1664 * (i 1).val) 1664 (i 1).val hi (by omega) (fun x hx hv => by have := hv.1; omega))

/-- The diagonal step and the later steps together: the gradient of the keys, every row. -/
theorem dA_dk (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (y : S1664x256.Idx) :
  a11.view.read (Elt Ideal) (a11.view.writes (Elt Ideal) a11.view.junk (runA.sl.HS0_5 c i a2 w2 a3 w3 a4 w4 a5 w5 a6 w6 a7 w7 a11 x0 x1 x2 x3 x4 x5)) y
    + ∑ m ∈ Finset.range (4 - (i 1).val), dkS Q K V O L D 1664 (1664 * (i 1).val + (y 0).val) (1664 * (i 1).val + 1664 * m + 1664) (y 1).val
   = dkT Q K V O L D (1664 * (i 1).val + (y 0).val) (y 1).val := by
  have hi : (i 1).val < 5 := (i 1).isLt
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact (congrArg (· + _) (dA_dk3 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (1248 + r)) e.val (1664 * (i 1).val + 1152) 512 (i 1).val hi (by omega) (fun x hx hv => by have := hv.1; omega))
  by_cases hc2 : 832 ≤ a
  · obtain ⟨r, rfl⟩ := Nat.exists_eq_add_of_le hc2
    exact (congrArg (· + _) (dA_dk2 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (832 + r)) e.val (1664 * (i 1).val + 768) 896 (i 1).val hi (by omega) (fun x hx hv => by have := hv.1; omega))
  by_cases hc1 : 416 ≤ a
  · obtain ⟨r, rfl⟩ := Nat.exists_eq_add_of_le hc1
    exact (congrArg (· + _) (dA_dk1 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (416 + r)) e.val (1664 * (i 1).val + 384) 1280 (i 1).val hi (by omega) (fun x hx hv => by have := hv.1; omega))
  exact (congrArg (· + _) (dA_dk0 c i a2 w2 a3 w3 a4 w4 a5 w5 a6 w6 a7 w7 a11 x0 x1 x2 x3 x4 x5 Q K V O L D h0 h1 h2 h3 h4 h5 ⟨a, by omega⟩ e ha')).trans (dk_total Q K V O L D (1664 * (i 1).val + (a)) e.val (1664 * (i 1).val) 1664 (i 1).val hi (by omega) (fun x hx hv => by have := hv.1; omega))

end Cert.KernelIdeal.Hand
-- ==== Proof.DiagQA.lean ====
module
public import proofs.«01_k».proof.Proof.RunA
public import Idealize.ShloMosaic.Lib.Pipeline.ReadBack
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step through chain 0: the gradient of the queries of the block. -/
theorem dA_dq0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runA.sl.H6_2 c i a2 w2 a3 w3 a4 w4 a5 w5 a6 w6 a7 w7 a8 x0 x1 x2 x3 x4 x5)) y = (dqS Q K V O L D 416 (1664 * (i 1).val) (y 1).val (y 2).val) := by
  have hi : (i 1).val < 5 := (i 1).isLt
  have hq : 1664 * (i 1).val ≤ (y 1).val := hy.1
  have hz : y 0 = (0 : Fin 1) := Fin.ext (Nat.lt_one_iff.mp (y 0).isLt)
  obtain ⟨r, hr⟩ := Nat.exists_eq_add_of_le hq
  obtain ⟨d, hd⟩ : ∃ d : Fin 256, d = y 2 := ⟨y 2, rfl⟩
  have hr' : r < 1664 := by omega
  unfold runA.sl.H6_2
  refine (View.read_writes_cons_unit_of_mem _ _ _ _ _ _ (ix3 0 (⟨r, hr'⟩ : Fin 1664) d) (k0_off1_eq i) (by intro a; fin_cases a <;> first | exact congrArg Fin.val hz | exact hr | exact (congrArg Fin.val hd).symm.trans (Nat.zero_add _).symm)).trans ?_
  sl_unfold_run_names
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  refine (congrArg₂ (fun a b : EReal => a + b) ?_ ?_).trans (zero_add _)
  · refine (congrFun (View.read_writes_full _ _ _ _ _) _).trans ?_
    pointwise []
  · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
    simp (disch := omega) only [word_lin, mask_sel, word_zero]
    rw [hr, ← hd]
    unfold dqS
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    try rfl

/-- The diagonal step through chain 1: the gradient of the queries of the block. -/
theorem dA_dq1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runA.sl.H6_3 c i a2 w2 a3 w3 a4 w4 a5 w5 a6 w6 a7 w7 a8 x0 x1 x2 x3 x4 x5)) y = ((dqS Q K V O L D 416 (1664 * (i 1).val) (y 1).val (y 2).val) + dqS Q K V O L D 416 (1664 * (i 1).val + 416) (y 1).val (y 2).val) := by
  have hi : (i 1).val < 5 := (i 1).isLt
  by_cases hq : 1664 * (i 1).val + 384 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 1280 := by omega
    unfold runA.sl.H6_3
    refine (View.read_writes_cons_unit_of_mem _ _ _ _ _ _ (ix3 0 (⟨r, hr'⟩ : Fin 1280) d) (k0_off4_eq i) (by intro a; fin_cases a <;> first | exact congrArg Fin.val hz | exact hr | exact (congrArg Fin.val hd).symm.trans (Nat.zero_add _).symm)).trans ?_
    generalize hb : runA.sl.v145 c i a2 w2 a3 w3 a4 w4 a5 w5 a6 w6 a7 w7 a8 x0 x1 x2 x3 x4 x5 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runA.sl.v145 View.readCov
      rw [View.readAt_eq_ld]
      refine Eq.trans ?_ (dA_dq0 c i a2 w2 a3 w3 a4 w4 a5 w5 a6 w6 a7 w7 a8 x0 x1 x2 x3 x4 x5 Q K V O L D h0 h1 h2 h3 h4 h5 a8.view.junk y hy)
      refine congrArg (a8.view.read (Elt Ideal) _) (funext fun a => ?_)
      fin_cases a <;> refine Fin.ext ?_
      · exact ((congrFun (k0_off4_eq i) 0).trans rfl).trans (congrArg Fin.val hz).symm
      · exact (congrArg (k0_off4 i 1 + ·) (Nat.one_mul r)).trans ((congrArg (· + r) (congrFun (k0_off4_eq i) 1)).trans hr.symm)
      · exact (congrArg (k0_off4 i 2 + ·) (Nat.one_mul d.val)).trans (((congrArg (· + d.val) (congrFun (k0_off4_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 384 := not_le.mp hq
    unfold runA.sl.H6_3
    refine (View.read_writes_cons_unit_of_not_mem _ _ _ _ _ _ (k0_off4_eq i) 1 (Or.inl hq')).trans ?_
    refine (dA_dq0 c i a2 w2 a3 w3 a4 w4 a5 w5 a6 w6 a7 w7 a8 x0 x1 x2 x3 x4 x5 Q K V O L D h0 h1 h2 h3 h4 h5 f y hy).trans ?_
    rw [dqS_zero Q K V O L D 416 (1664 * (i 1).val + 416) _ _ (fun c' hc' hv => by have := hv.1; omega), add_zero]

/-- The diagonal step through chain 2: the gradient of the queries of the block. -/
theorem dA_dq2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runA.sl.H6_4 c i a2 w2 a3 w3 a4 w4 a5 w5 a6 w6 a7 w7 a8 x0 x1 x2 x3 x4 x5)) y = (((dqS Q K V O L D 416 (1664 * (i 1).val) (y 1).val (y 2).val) + dqS Q K V O L D 416 (1664 * (i 1).val + 416) (y 1).val (y 2).val) + dqS Q K V O L D 416 (1664 * (i 1).val + 832) (y 1).val (y 2).val) := by
  have hi : (i 1).val < 5 := (i 1).isLt
  by_cases hq : 1664 * (i 1).val + 768 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 896 := by omega
    unfold runA.sl.H6_4
    refine (View.read_writes_cons_unit_of_mem _ _ _ _ _ _ (ix3 0 (⟨r, hr'⟩ : Fin 896) d) (k0_off7_eq i) (by intro a; fin_cases a <;> first | exact congrArg Fin.val hz | exact hr | exact (congrArg Fin.val hd).symm.trans (Nat.zero_add _).symm)).trans ?_
    generalize hb : runA.sl.v217 c i a2 w2 a3 w3 a4 w4 a5 w5 a6 w6 a7 w7 a8 x0 x1 x2 x3 x4 x5 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runA.sl.v217 View.readCov
      rw [View.readAt_eq_ld]
      refine Eq.trans ?_ (dA_dq1 c i a2 w2 a3 w3 a4 w4 a5 w5 a6 w6 a7 w7 a8 x0 x1 x2 x3 x4 x5 Q K V O L D h0 h1 h2 h3 h4 h5 a8.view.junk y hy)
      refine congrArg (a8.view.read (Elt Ideal) _) (funext fun a => ?_)
      fin_cases a <;> refine Fin.ext ?_
      · exact ((congrFun (k0_off7_eq i) 0).trans rfl).trans (congrArg Fin.val hz).symm
      · exact (congrArg (k0_off7 i 1 + ·) (Nat.one_mul r)).trans ((congrArg (· + r) (congrFun (k0_off7_eq i) 1)).trans hr.symm)
      · exact (congrArg (k0_off7 i 2 + ·) (Nat.one_mul d.val)).trans (((congrArg (· + d.val) (congrFun (k0_off7_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 768 := not_le.mp hq
    unfold runA.sl.H6_4
    refine (View.read_writes_cons_unit_of_not_mem _ _ _ _ _ _ (k0_off7_eq i) 1 (Or.inl hq')).trans ?_
    refine (dA_dq1 c i a2 w2 a3 w3 a4 w4 a5 w5 a6 w6 a7 w7 a8 x0 x1 x2 x3 x4 x5 Q K V O L D h0 h1 h2 h3 h4 h5 f y hy).trans ?_
    rw [dqS_zero Q K V O L D 416 (1664 * (i 1).val + 832) _ _ (fun c' hc' hv => by have := hv.1; omega), add_zero]

/-- The diagonal step through chain 3: the gradient of the queries of the block. -/
theorem dA_dq3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) y = ((((dqS Q K V O L D 416 (1664 * (i 1).val) (y 1).val (y 2).val) + dqS Q K V O L D 416 (1664 * (i 1).val + 416) (y 1).val (y 2).val) + dqS Q K V O L D 416 (1664 * (i 1).val + 832) (y 1).val (y 2).val) + dqS Q K V O L D 416 (1664 * (i 1).val + 1248) (y 1).val (y 2).val) := by
  have hi : (i 1).val < 5 := (i 1).isLt
  by_cases hq : 1664 * (i 1).val + 1152 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 512 := by omega
    refine (View.read_writes_cons_unit_of_mem _ _ _ _ _ _ (ix3 0 (⟨r, hr'⟩ : Fin 512) d) (k0_off10_eq i) (by intro a; fin_cases a <;> first | exact congrArg Fin.val hz | exact hr | exact (congrArg Fin.val hd).symm.trans (Nat.zero_add _).symm)).trans ?_
    generalize hb : runA.sl.v289 c i a2 w2 a3 w3 a4 w4 a5 w5 a6 w6 a7 w7 a8 x0 x1 x2 x3 x4 x5 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runA.sl.v289 View.readCov
      rw [View.readAt_eq_ld]
      refine Eq.trans ?_ (dA_dq2 c i a2 w2 a3 w3 a4 w4 a5 w5 a6 w6 a7 w7 a8 x0 x1 x2 x3 x4 x5 Q K V O L D h0 h1 h2 h3 h4 h5 a8.view.junk y hy)
      refine congrArg (a8.view.read (Elt Ideal) _) (funext fun a => ?_)
      fin_cases a <;> refine Fin.ext ?_
      · exact ((congrFun (k0_off10_eq i) 0).trans rfl).trans (congrArg Fin.val hz).symm
      · exact (congrArg (k0_off10 i 1 + ·) (Nat.one_mul r)).trans ((congrArg (· + r) (congrFun (k0_off10_eq i) 1)).trans hr.symm)
      · exact (congrArg (k0_off10 i 2 + ·) (Nat.one_mul d.val)).trans (((congrArg (· + d.val) (congrFun (k0_off10_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 1152 := not_le.mp hq
    skip
    refine (View.read_writes_cons_unit_of_not_mem _ _ _ _ _ _ (k0_off10_eq i) 1 (Or.inl hq')).trans ?_
    refine (dA_dq2 c i a2 w2 a3 w3 a4 w4 a5 w5 a6 w6 a7 w7 a8 x0 x1 x2 x3 x4 x5 Q K V O L D h0 h1 h2 h3 h4 h5 f y hy).trans ?_
    rw [dqS_zero Q K V O L D 416 (1664 * (i 1).val + 1248) _ _ (fun c' hc' hv => by have := hv.1; omega), add_zero]

/-- The diagonal step leaves the query rows of the other blocks at zero. -/
theorem dA_dq_out (y : S1x8320x256.Idx) (hy : (y 1).val < 1664 * (i 1).val ∨ 1664 * (i 1).val + 1664 ≤ (y 1).val) :
  a8.view.read (Elt Ideal) (a8.view.writes (Elt Ideal) a8.view.junk (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) y = (0 : EReal) := by
  refine (View.read_writes_cons_unit_of_not_mem _ _ _ _ _ _ (k0_off10_eq i) 1 (show (y 1).val < 1664 * (i 1).val + 1152 ∨ 1664 * (i 1).val + 1152 + 512 ≤ (y 1).val by omega)).trans ?_
  unfold runA.sl.H6_4
  refine (View.read_writes_cons_unit_of_not_mem _ _ _ _ _ _ (k0_off7_eq i) 1 (show (y 1).val < 1664 * (i 1).val + 768 ∨ 1664 * (i 1).val + 768 + 896 ≤ (y 1).val by omega)).trans ?_
  unfold runA.sl.H6_3
  refine (View.read_writes_cons_unit_of_not_mem _ _ _ _ _ _ (k0_off4_eq i) 1 (show (y 1).val < 1664 * (i 1).val + 384 ∨ 1664 * (i 1).val + 384 + 1280 ≤ (y 1).val by omega)).trans ?_
  unfold runA.sl.H6_2
  refine (View.read_writes_cons_unit_of_not_mem _ _ _ _ _ _ (k0_off1_eq i) 1 (show (y 1).val < 1664 * (i 1).val ∨ 1664 * (i 1).val + 1664 ≤ (y 1).val by omega)).trans ?_
  unfold runA.sl.H6_1
  refine (View.read_writes_cons_unit_of_mem _ _ _ _ _ _ y rfl (by intro a; fin_cases a <;> exact (Nat.zero_add _).symm)).trans ?_
  pointwise [k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1, k0_pay105, k0_pay106]

end Cert.KernelIdeal.Hand
-- ==== Proof.ValA.lean ====
module
public import proofs.«01_k».proof.Proof.AccA
public import proofs.«01_k».proof.Proof.DiagQA
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The first loop runs over the blocks after the first one. -/
theorem t1_trips : k0_t1_loop.trips = 4 := by decide +kernel

/-- What one point leaves in the keys' output block: the gradient of its rows. -/
theorem runA_dk (hc0 : ((Scalar.cmpi .ne (Scalar.extui (Scalar.cmpi .eq (BitVec.ofNat 32 (i 1).val) 0#32)) 0#32) = 1#1)) (hc1 : (k0_cond2 i = 1#1)) (hc2 : ¬(k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : (i 1).val = 0) (y : S1x1664x256.Idx) :
  (runA c i a2 w2 a3 w3 a4 w4 a5 w5 a6 w6 a7 w7 a8 w8 a9 w9 a10 w10 a11 w11 a12 w12 hc0 hc1 hc2 x0 x1 x2 x3 x4 x5).2.1 y = dkT Q K V O L D (1664 * (i 1).val + (y 1).val) (y 2).val := by
  have hz : y 0 = (0 : Fin 1) := Fin.ext (Nat.lt_one_iff.mp (y 0).isLt)
  have hL := (t1_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) a8.view.junk (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) (a11.view.writes (Elt Ideal) a11.view.junk (runA.sl.HS0_5 c i a2 w2 a3 w3 a4 w4 a5 w5 a6 w6 a7 w7 a11 x0 x1 x2 x3 x4 x5)) (a12.view.writes (Elt Ideal) a12.view.junk (runA.sl.HS1_5 c i a2 w2 a3 w3 a5 w5 a6 w6 a12 x0 x1 x3 x4)) Q K V O L D (BitVec.ofNat 32 (i 1).val) (by rw [hj]) hc1 (fun y => (congrFun (Memref.IsWhole.read_unread w2 x0) y).trans (h0 y)) (fun y => (congrFun (Memref.IsWhole.read_unread w3 x1) y).trans ((h1 y).trans (by rw [hj, Nat.mul_zero, Nat.zero_add]))) (fun y => (congrFun (Memref.IsWhole.read_unread w4 x2) y).trans ((h2 y).trans (by rw [hj, Nat.mul_zero, Nat.zero_add]))) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) k0_t1_loop.trips le_rfl).2.1 (ix2 (y 1 : Fin 1664) (y 2 : Fin 256))
  have hd := dA_dk c i a2 w2 a3 w3 a4 w4 a5 w5 a6 w6 a7 w7 a11 x0 x1 x2 x3 x4 x5 Q K V O L D h0 h1 h2 h3 h4 h5 (ix2 (y 1 : Fin 1664) (y 2 : Fin 256))
  have hs : ∀ n : ℕ, n = 4 - (i 1).val → (∑ m ∈ Finset.range n, dkS Q K V O L D 1664 ((y 1).val) (1664 * m + 1664) (y 2).val)
      = ∑ m ∈ Finset.range (4 - (i 1).val), dkS Q K V O L D 1664 (1664 * (i 1).val + (y 1).val) (1664 * (i 1).val + 1664 * m + 1664) (y 2).val := fun n hn => by
    rw [hn]; simp only [hj, Nat.mul_zero, Nat.zero_add]
  rw [eq_ix3 y, hz]
  unfold runA
  dsimp only
  generalize hb : runA.sl.v305 c i a2 w2 a3 w3 a4 w4 a5 w5 a6 w6 a7 w7 a8 w8 a9 w9 a10 w10 a11 w11 a12 w12 _ x0 x1 x2 x3 x4 x5 = bs
  pointwise [k0_pay2]
  subst hb
  unfold runA.sl.v305
  refine (congrFun (View.readAt_full _ _ _) _).trans ?_
  rw [View.writes_append]
  exact (hL.trans (congrArg (_ + ·) (hs _ (t1_trips.trans (by rw [hj]))))).trans hd

/-- What one point leaves in the values' output block: the gradient of its rows. -/
theorem runA_dv (hc0 : ((Scalar.cmpi .ne (Scalar.extui (Scalar.cmpi .eq (BitVec.ofNat 32 (i 1).val) 0#32)) 0#32) = 1#1)) (hc1 : (k0_cond2 i = 1#1)) (hc2 : ¬(k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : (i 1).val = 0) (y : S1x1664x128.Idx) :
  (runA c i a2 w2 a3 w3 a4 w4 a5 w5 a6 w6 a7 w7 a8 w8 a9 w9 a10 w10 a11 w11 a12 w12 hc0 hc1 hc2 x0 x1 x2 x3 x4 x5).2.2.1 y = dvT Q K O L (1664 * (i 1).val + (y 1).val) (y 2).val := by
  have hz : y 0 = (0 : Fin 1) := Fin.ext (Nat.lt_one_iff.mp (y 0).isLt)
  have hL := (t1_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) a8.view.junk (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) (a11.view.writes (Elt Ideal) a11.view.junk (runA.sl.HS0_5 c i a2 w2 a3 w3 a4 w4 a5 w5 a6 w6 a7 w7 a11 x0 x1 x2 x3 x4 x5)) (a12.view.writes (Elt Ideal) a12.view.junk (runA.sl.HS1_5 c i a2 w2 a3 w3 a5 w5 a6 w6 a12 x0 x1 x3 x4)) Q K V O L D (BitVec.ofNat 32 (i 1).val) (by rw [hj]) hc1 (fun y => (congrFun (Memref.IsWhole.read_unread w2 x0) y).trans (h0 y)) (fun y => (congrFun (Memref.IsWhole.read_unread w3 x1) y).trans ((h1 y).trans (by rw [hj, Nat.mul_zero, Nat.zero_add]))) (fun y => (congrFun (Memref.IsWhole.read_unread w4 x2) y).trans ((h2 y).trans (by rw [hj, Nat.mul_zero, Nat.zero_add]))) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) k0_t1_loop.trips le_rfl).1 (ix2 (y 1 : Fin 1664) (y 2 : Fin 128))
  have hd := dA_dv c i a2 w2 a3 w3 a5 w5 a6 w6 a12 x0 x1 x2 x3 x4 x5 Q K V O L D h0 h1 h2 h3 h4 h5 (ix2 (y 1 : Fin 1664) (y 2 : Fin 128))
  have hs : ∀ n : ℕ, n = 4 - (i 1).val → (∑ m ∈ Finset.range n, dvS Q K O L 1664 ((y 1).val) (1664 * m + 1664) (y 2).val)
      = ∑ m ∈ Finset.range (4 - (i 1).val), dvS Q K O L 1664 (1664 * (i 1).val + (y 1).val) (1664 * (i 1).val + 1664 * m + 1664) (y 2).val := fun n hn => by
    rw [hn]; simp only [hj, Nat.mul_zero, Nat.zero_add]
  rw [eq_ix3 y, hz]
  unfold runA
  dsimp only
  generalize hb : runA.sl.v310 c i a2 w2 a3 w3 a4 w4 a5 w5 a6 w6 a7 w7 a8 w8 a9 w9 a10 w10 a11 w11 a12 w12 _ x0 x1 x2 x3 x4 x5 = bs
  pointwise [k0_pay3]
  subst hb
  unfold runA.sl.v310
  refine (congrFun (View.readAt_full _ _ _) _).trans ?_
  rw [View.writes_append]
  exact (hL.trans (congrArg (_ + ·) (hs _ (t1_trips.trans (by rw [hj]))))).trans hd

/-- What one point leaves in the queries' output block: its key block's part of the gradient of every row. -/
theorem runA_dq (hc0 : ((Scalar.cmpi .ne (Scalar.extui (Scalar.cmpi .eq (BitVec.ofNat 32 (i 1).val) 0#32)) 0#32) = 1#1)) (hc1 : (k0_cond2 i = 1#1)) (hc2 : ¬(k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : (i 1).val = 0) (y : S1x8320x256.Idx) :
  (runA c i a2 w2 a3 w3 a4 w4 a5 w5 a6 w6 a7 w7 a8 w8 a9 w9 a10 w10 a11 w11 a12 w12 hc0 hc1 hc2 x0 x1 x2 x3 x4 x5).1 y = dqS Q K V O L D 1664 0 (y 1).val (y 2).val := by
  have hi : (i 1).val < 5 := (i 1).isLt
  have hy1 : (y 1).val < 8320 := (y 1).isLt
  have hL := (t1_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) a8.view.junk (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) (a11.view.writes (Elt Ideal) a11.view.junk (runA.sl.HS0_5 c i a2 w2 a3 w3 a4 w4 a5 w5 a6 w6 a7 w7 a11 x0 x1 x2 x3 x4 x5)) (a12.view.writes (Elt Ideal) a12.view.junk (runA.sl.HS1_5 c i a2 w2 a3 w3 a5 w5 a6 w6 a12 x0 x1 x3 x4)) Q K V O L D (BitVec.ofNat 32 (i 1).val) (by rw [hj]) hc1 (fun y => (congrFun (Memref.IsWhole.read_unread w2 x0) y).trans (h0 y)) (fun y => (congrFun (Memref.IsWhole.read_unread w3 x1) y).trans ((h1 y).trans (by rw [hj, Nat.mul_zero, Nat.zero_add]))) (fun y => (congrFun (Memref.IsWhole.read_unread w4 x2) y).trans ((h2 y).trans (by rw [hj, Nat.mul_zero, Nat.zero_add]))) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) k0_t1_loop.trips le_rfl).2.2 y
  have hT := t1_trips
  have hin : 1664 * (i 1).val ≤ (y 1).val ∧ (y 1).val < 1664 * (i 1).val + 1664 → a8.view.read (Elt Ideal) (a8.view.writes (Elt Ideal) a8.view.junk (⟨Rect.unit (k0_off10 i) S1x512x256.size (k0_off10_inb i), k0_pay1 (runA.sl.r_25 c i a2 w2 a3 w3 a4 w4 a5 w5 a6 w6 a7 w7 x0 x1 x2 x3 x4 x5) (runA.sl.v289 c i a2 w2 a3 w3 a4 w4 a5 w5 a6 w6 a7 w7 a8 x0 x1 x2 x3 x4 x5) (View.readAt (Elt Ideal) a3.view (Rect.unit (s := S1x1664x256) ![0, 1248, 0] S1x416x256.size inb_S1x1664x256_S1x416x256_0_1248_0).toLoadRect (w3.unread x1))⟩ :: runA.sl.H6_4 c i a2 w2 a3 w3 a4 w4 a5 w5 a6 w6 a7 w7 a8 x0 x1 x2 x3 x4 x5)) y = dqS Q K V O L D 1664 0 (y 1).val (y 2).val := fun hy => by
    refine (dA_dq3 c i a2 w2 a3 w3 a4 w4 a5 w5 a6 w6 a7 w7 a8 x0 x1 x2 x3 x4 x5 Q K V O L D h0 h1 h2 h3 h4 h5 a8.view.junk y hy).trans ?_
    have h4' := dqS_four Q K V O L D (1664 * (i 1).val) (y 1).val (y 2).val
    rw [hj, Nat.mul_zero] at h4' ⊢; exact h4'
  unfold runA
  dsimp only
  rw [View.writes_append]
  refine hL.trans ?_
  split_ifs with hc
  · have hout := dA_dq_out c i a2 w2 a3 w3 a4 w4 a5 w5 a6 w6 a7 w7 a8 x0 x1 x2 x3 x4 x5 y (Or.inr (by omega))
    exact (congrArg (· + _) hout).trans (zero_add _)
  · by_cases hlt : (y 1).val < 1664 * (i 1).val
    · have hout := dA_dq_out c i a2 w2 a3 w3 a4 w4 a5 w5 a6 w6 a7 w7 a8 x0 x1 x2 x3 x4 x5 y (Or.inl hlt)
      rw [dqS_zero Q K V O L D 1664 0 _ _ (fun c' hc' hv => by have := hv.1; omega)]
      exact hout
    · exact hin (by omega)

end Cert.KernelIdeal.Hand
-- ==== Proof.RunB.lean ====
module
public import proofs.«01_k».proof.Proof.Trip1
public import proofs.«01_k».proof.Proof.Trip2
public import Idealize.ShloMosaic.Lib.Pipeline.FrameBody
public import Idealize.ShloMosaic.Lib.VecWindow
public import Idealize.ShloMosaic.Lib.Ring
public import Idealize.ShloMosaic.Lib.Tactic
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators
local notation "𝕄" => MT nD τ sig Unit (Elt Ideal) ℕ (UR sig nD τ) ℕ

set_option maxHeartbeats 1000000 in
/-- What one point of the grid leaves in its three output blocks (a later key block), with the triple. -/
@[irreducible] def runB (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole) (hc0 : ¬((Scalar.cmpi .ne (Scalar.extui (Scalar.cmpi .eq (BitVec.ofNat 32 (i 1).val) 0#32)) 0#32) = 1#1)) (hc1 : ¬(k0_cond2 i = 1#1)) (hc2 : (k0_cond3 i = 1#1))
    (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32) :
      Σ' (y8 : Vec Ideal S1x8320x256 .f32) (y9 : Vec Ideal S1x1664x256 .bf16) (y10 : Vec Ideal S1x1664x128 .bf16), ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ owns (c : Thread nD τ) a9 fullShare y9 ∗ owns (c : Thread nD τ) a10 fullShare y10 ∗ (∃ d, owns (c : Thread nD τ) a11 fullShare d) ∗ (∃ d, owns (c : Thread nD τ) a12 fullShare d)) -∗ K ⟨⟩))
          ⊢ wp frame (wpE (defs₀ (F := Ideal)) Variants.none c none) E (cc0_flash_bwd i a2 w2 a3 w3 a4 w4 a5 w5 a6 w6 a7 w7 a8 w8 a9 w9 a10 w10 a11 w11 a12 w12) K := by
    refine ⟨?_, ?_, ?_, fun E K => ?run⟩
    case run =>
      simp only [cc0_flash_bwd_eq_skeleton]; unfold cc0_flash_bwd_skel
      simp only [k0_part21_eq_skeleton, k0_part22_eq_skeleton, k0_part23_eq_skeleton, k0_part24_eq_skeleton, k0_part25_eq_skeleton, k0_part26_eq_skeleton, k0_part27_eq_skeleton, k0_part28_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
      obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6;
      sl_exec (disch := first | sl_exact hc0 | sl_exact hc1 | sl_exact hc2)
      sl_step
      iapply Hk
      isplitl [H0]
      · iexists _; isplitr; · ipureintro; exact w2.read_unread _
        iexact H0
      isplitl [H1]
      · iexists _; isplitr; · ipureintro; exact w3.read_unread _
        iexact H1
      isplitl [H2]
      · iexists _; isplitr; · ipureintro; exact w4.read_unread _
        iexact H2
      isplitl [H3]
      · iexists _; isplitr; · ipureintro; exact w5.read_unread _
        iexact H3
      isplitl [H4]
      · iexists _; isplitr; · ipureintro; exact w6.read_unread _
        iexact H4
      isplitl [H5]
      · iexists _; isplitr; · ipureintro; exact w7.read_unread _
        iexact H5
      isplitl [H6]
      · iexists _; isplitr; swap; · iexact H6
        ipureintro
        rfl
      isplitl [H7]
      · iexists _; isplitr; swap; · iexact H7
        ipureintro
        exact View.read_writes_full _ _ _ _ _
      isplitl [H8]
      · iexists _; isplitr; swap; · iexact H8
        ipureintro
        exact View.read_writes_full _ _ _ _ _
      isplitl [HS0]
      · iexists _, _; isplitr; swap; · iexact HS0
        ipureintro; rfl
      iexists _, _; isplitr; swap; · iexact HS1
      ipureintro; rfl

end Cert.KernelIdeal.Hand
-- ==== Proof.DiagB.lean ====
module
public import proofs.«01_k».proof.Proof.RunB
public import Idealize.ShloMosaic.Lib.Pipeline.ReadBack
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step on the rows of chain 0: the gradient of the values. -/
theorem dB_dv0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : r.val < 1664) :
  a12.view.read (Elt Ideal) (a12.view.writes (Elt Ideal) a12.view.junk (runB.sl.HS1_5 c i a2 w2 a3 w3 a5 w5 a6 w6 a12 x0 x1 x3 x4)) (ix2 (⟨r.val, hr⟩ : Fin 1664) e)
   = dvS Q K O L 1664 (1664 * (i 1).val + (r.val)) (1664 * (i 1).val) e.val := by
  have hr' := r.isLt
  have hi : (i 1).val < 5 := (i 1).isLt
  unfold runB.sl.HS1_5
  refine (View.read_writes_cons_rows_of_not_mem (o := 1248) (W := 416) _ _ _ _ _ _ rfl rfl (by refine Or.inl ?_; simp only [ix2_0]; omega)).trans ?_
  unfold runB.sl.HS1_4
  refine (View.read_writes_cons_rows_of_not_mem (o := 832) (W := 416) _ _ _ _ _ _ rfl rfl (by refine Or.inl ?_; simp only [ix2_0]; omega)).trans ?_
  unfold runB.sl.HS1_3
  refine (View.read_writes_cons_rows_of_not_mem (o := 416) (W := 416) _ _ _ _ _ _ rfl rfl (by refine Or.inl ?_; simp only [ix2_0]; omega)).trans ?_
  unfold runB.sl.HS1_2
  refine (View.read_writes_cons_rows_of_mem (o := 0) _ _ _ _ _ _ (ix2 r e) rfl (by exact (Nat.zero_add _).symm) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 1: the gradient of the values. -/
theorem dB_dv1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 416 + r.val < 1664) :
  a12.view.read (Elt Ideal) (a12.view.writes (Elt Ideal) a12.view.junk (runB.sl.HS1_5 c i a2 w2 a3 w3 a5 w5 a6 w6 a12 x0 x1 x3 x4)) (ix2 (⟨416 + r.val, hr⟩ : Fin 1664) e)
   = dvS Q K O L 1280 (1664 * (i 1).val + (416 + r.val)) (1664 * (i 1).val + 384) e.val := by
  have hr' := r.isLt
  have hi : (i 1).val < 5 := (i 1).isLt
  unfold runB.sl.HS1_5
  refine (View.read_writes_cons_rows_of_not_mem (o := 1248) (W := 416) _ _ _ _ _ _ rfl rfl (by refine Or.inl ?_; simp only [ix2_0]; omega)).trans ?_
  unfold runB.sl.HS1_4
  refine (View.read_writes_cons_rows_of_not_mem (o := 832) (W := 416) _ _ _ _ _ _ rfl rfl (by refine Or.inl ?_; simp only [ix2_0]; omega)).trans ?_
  unfold runB.sl.HS1_3
  refine (View.read_writes_cons_rows_of_mem (o := 416) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 2: the gradient of the values. -/
theorem dB_dv2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 832 + r.val < 1664) :
  a12.view.read (Elt Ideal) (a12.view.writes (Elt Ideal) a12.view.junk (runB.sl.HS1_5 c i a2 w2 a3 w3 a5 w5 a6 w6 a12 x0 x1 x3 x4)) (ix2 (⟨832 + r.val, hr⟩ : Fin 1664) e)
   = dvS Q K O L 896 (1664 * (i 1).val + (832 + r.val)) (1664 * (i 1).val + 768) e.val := by
  have hr' := r.isLt
  have hi : (i 1).val < 5 := (i 1).isLt
  unfold runB.sl.HS1_5
  refine (View.read_writes_cons_rows_of_not_mem (o := 1248) (W := 416) _ _ _ _ _ _ rfl rfl (by refine Or.inl ?_; simp only [ix2_0]; omega)).trans ?_
  unfold runB.sl.HS1_4
  refine (View.read_writes_cons_rows_of_mem (o := 832) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 3: the gradient of the values. -/
theorem dB_dv3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 128) (hr : 1248 + r.val < 1664) :
  a12.view.read (Elt Ideal) (a12.view.writes (Elt Ideal) a12.view.junk (runB.sl.HS1_5 c i a2 w2 a3 w3 a5 w5 a6 w6 a12 x0 x1 x3 x4)) (ix2 (⟨1248 + r.val, hr⟩ : Fin 1664) e)
   = dvS Q K O L 512 (1664 * (i 1).val + (1248 + r.val)) (1664 * (i 1).val + 1152) e.val := by
  have hr' := r.isLt
  have hi : (i 1).val < 5 := (i 1).isLt
  unfold runB.sl.HS1_5
  refine (View.read_writes_cons_rows_of_mem (o := 1248) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 0: the gradient of the keys. -/
theorem dB_dk0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : r.val < 1664) :
  a11.view.read (Elt Ideal) (a11.view.writes (Elt Ideal) a11.view.junk (runB.sl.HS0_5 c i a2 w2 a3 w3 a4 w4 a5 w5 a6 w6 a7 w7 a11 x0 x1 x2 x3 x4 x5)) (ix2 (⟨r.val, hr⟩ : Fin 1664) e)
   = dkS Q K V O L D 1664 (1664 * (i 1).val + (r.val)) (1664 * (i 1).val) e.val := by
  have hr' := r.isLt
  have hi : (i 1).val < 5 := (i 1).isLt
  unfold runB.sl.HS0_5
  refine (View.read_writes_cons_rows_of_not_mem (o := 1248) (W := 416) _ _ _ _ _ _ rfl rfl (by refine Or.inl ?_; simp only [ix2_0]; omega)).trans ?_
  unfold runB.sl.HS0_4
  refine (View.read_writes_cons_rows_of_not_mem (o := 832) (W := 416) _ _ _ _ _ _ rfl rfl (by refine Or.inl ?_; simp only [ix2_0]; omega)).trans ?_
  unfold runB.sl.HS0_3
  refine (View.read_writes_cons_rows_of_not_mem (o := 416) (W := 416) _ _ _ _ _ _ rfl rfl (by refine Or.inl ?_; simp only [ix2_0]; omega)).trans ?_
  unfold runB.sl.HS0_2
  refine (View.read_writes_cons_rows_of_mem (o := 0) _ _ _ _ _ _ (ix2 r e) rfl (by exact (Nat.zero_add _).symm) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 1: the gradient of the keys. -/
theorem dB_dk1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 416 + r.val < 1664) :
  a11.view.read (Elt Ideal) (a11.view.writes (Elt Ideal) a11.view.junk (runB.sl.HS0_5 c i a2 w2 a3 w3 a4 w4 a5 w5 a6 w6 a7 w7 a11 x0 x1 x2 x3 x4 x5)) (ix2 (⟨416 + r.val, hr⟩ : Fin 1664) e)
   = dkS Q K V O L D 1280 (1664 * (i 1).val + (416 + r.val)) (1664 * (i 1).val + 384) e.val := by
  have hr' := r.isLt
  have hi : (i 1).val < 5 := (i 1).isLt
  unfold runB.sl.HS0_5
  refine (View.read_writes_cons_rows_of_not_mem (o := 1248) (W := 416) _ _ _ _ _ _ rfl rfl (by refine Or.inl ?_; simp only [ix2_0]; omega)).trans ?_
  unfold runB.sl.HS0_4
  refine (View.read_writes_cons_rows_of_not_mem (o := 832) (W := 416) _ _ _ _ _ _ rfl rfl (by refine Or.inl ?_; simp only [ix2_0]; omega)).trans ?_
  unfold runB.sl.HS0_3
  refine (View.read_writes_cons_rows_of_mem (o := 416) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 2: the gradient of the keys. -/
theorem dB_dk2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 832 + r.val < 1664) :
  a11.view.read (Elt Ideal) (a11.view.writes (Elt Ideal) a11.view.junk (runB.sl.HS0_5 c i a2 w2 a3 w3 a4 w4 a5 w5 a6 w6 a7 w7 a11 x0 x1 x2 x3 x4 x5)) (ix2 (⟨832 + r.val, hr⟩ : Fin 1664) e)
   = dkS Q K V O L D 896 (1664 * (i 1).val + (832 + r.val)) (1664 * (i 1).val + 768) e.val := by
  have hr' := r.isLt
  have hi : (i 1).val < 5 := (i 1).isLt
  unfold runB.sl.HS0_5
  refine (View.read_writes_cons_rows_of_not_mem (o := 1248) (W := 416) _ _ _ _ _ _ rfl rfl (by refine Or.inl ?_; simp only [ix2_0]; omega)).trans ?_
  unfold runB.sl.HS0_4
  refine (View.read_writes_cons_rows_of_mem (o := 832) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

/-- The diagonal step on the rows of chain 3: the gradient of the keys. -/
theorem dB_dk3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (r : Fin 416) (e : Fin 256) (hr : 1248 + r.val < 1664) :
  a11.view.read (Elt Ideal) (a11.view.writes (Elt Ideal) a11.view.junk (runB.sl.HS0_5 c i a2 w2 a3 w3 a4 w4 a5 w5 a6 w6 a7 w7 a11 x0 x1 x2 x3 x4 x5)) (ix2 (⟨1248 + r.val, hr⟩ : Fin 1664) e)
   = dkS Q K V O L D 512 (1664 * (i 1).val + (1248 + r.val)) (1664 * (i 1).val + 1152) e.val := by
  have hr' := r.isLt
  have hi : (i 1).val < 5 := (i 1).isLt
  unfold runB.sl.HS0_5
  refine (View.read_writes_cons_rows_of_mem (o := 1248) _ _ _ _ _ _ (ix2 r e) rfl (by rfl) (by rfl)).trans ?_
  sl_unfold_run_names
  simp (disch := first | decide | rfl) only [↓View.readCov_skip, ↓View.readCov_fill]
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
  simp (disch := omega) only [word_lin, mask_sel, word_zero]
  refine Finset.sum_congr rfl fun x _ => ?_
  simp only [Fin.isValue, ix3_1, ix3_2, ix2_0, ix2_1, Matrix.cons_val_zero, Matrix.cons_val_one, Matrix.cons_val, Nat.zero_add, Nat.add_zero, Nat.mul_zero]
  try simp only [← Nat.add_assoc]
  rfl

end Cert.KernelIdeal.Hand
-- ==== Proof.AccB.lean ====
module
public import proofs.«01_k».proof.Proof.DiagB
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step and the later steps together: the gradient of the values, every row. -/
theorem dB_dv (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (y : S1664x128.Idx) :
  a12.view.read (Elt Ideal) (a12.view.writes (Elt Ideal) a12.view.junk (runB.sl.HS1_5 c i a2 w2 a3 w3 a5 w5 a6 w6 a12 x0 x1 x3 x4)) y
    + ∑ m ∈ Finset.range (4 - (i 1).val), dvS Q K O L 1664 (1664 * (i 1).val + (y 0).val) (1664 * (i 1).val + 1664 * m + 1664) (y 1).val
   = dvT Q K O L (1664 * (i 1).val + (y 0).val) (y 1).val := by
  have hi : (i 1).val < 5 := (i 1).isLt
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact (congrArg (· + _) (dB_dv3 c i a2 w2 a3 w3 a5 w5 a6 w6 a12 x0 x1 x2 x3 x4 x5 Q K V O L D h0 h1 h2 h3 h4 h5 ⟨r, by omega⟩ e ha')).trans (dv_total Q K O L (1664 * (i 1).val + (1248 + r)) e.val (1664 * (i 1).val + 1152) 512 (i 1).val hi (by omega) (fun x hx hv => by have := hv.1; omega))
  by_cases hc2 : 832 ≤ a
  · obtain ⟨r, rfl⟩ := Nat.exists_eq_add_of_le hc2
    exact (congrArg (· + _) (dB_dv2 c i a2 w2 a3 w3 a5 w5 a6 w6 a12 x0 x1 x2 x3 x4 x5 Q K V O L D h0 h1 h2 h3 h4 h5 ⟨r, by omega⟩ e ha')).trans (dv_total Q K O L (1664 * (i 1).val + (832 + r)) e.val (1664 * (i 1).val + 768) 896 (i 1).val hi (by omega) (fun x hx hv => by have := hv.1; omega))
  by_cases hc1 : 416 ≤ a
  · obtain ⟨r, rfl⟩ := Nat.exists_eq_add_of_le hc1
    exact (congrArg (· + _) (dB_dv1 c i a2 w2 a3 w3 a5 w5 a6 w6 a12 x0 x1 x2 x3 x4 x5 Q K V O L D h0 h1 h2 h3 h4 h5 ⟨r, by omega⟩ e ha')).trans (dv_total Q K O L (1664 * (i 1).val + (416 + r)) e.val (1664 * (i 1).val + 384) 1280 (i 1).val hi (by omega) (fun x hx hv => by have := hv.1; omega))
  exact (congrArg (· + _) (dB_dv0 c i a2 w2 a3 w3 a5 w5 a6 w6 a12 x0 x1 x2 x3 x4 x5 Q K V O L D h0 h1 h2 h3 h4 h5 ⟨a, by omega⟩ e ha')).trans (dv_total Q K O L (1664 * (i 1).val + (a)) e.val (1664 * (i 1).val) 1664 (i 1).val hi (by omega) (fun x hx hv => by have := hv.1; omega))

/-- The diagonal step and the later steps together: the gradient of the keys, every row. -/
theorem dB_dk (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (y : S1664x256.Idx) :
  a11.view.read (Elt Ideal) (a11.view.writes (Elt Ideal) a11.view.junk (runB.sl.HS0_5 c i a2 w2 a3 w3 a4 w4 a5 w5 a6 w6 a7 w7 a11 x0 x1 x2 x3 x4 x5)) y
    + ∑ m ∈ Finset.range (4 - (i 1).val), dkS Q K V O L D 1664 (1664 * (i 1).val + (y 0).val) (1664 * (i 1).val + 1664 * m + 1664) (y 1).val
   = dkT Q K V O L D (1664 * (i 1).val + (y 0).val) (y 1).val := by
  have hi : (i 1).val < 5 := (i 1).isLt
  have ha : (y 0).val < 1664 := (y 0).isLt
  rw [eq_ix2 y]
  generalize (y 0) = a at ha ⊢
  generalize (y 1) = e
  obtain ⟨a, ha'⟩ := a
  simp only at ha
  by_cases hc3 : 1248 ≤ a
  · obtain ⟨r, rfl⟩ := Nat.exists_eq_add_of_le hc3
    exact (congrArg (· + _) (dB_dk3 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (1248 + r)) e.val (1664 * (i 1).val + 1152) 512 (i 1).val hi (by omega) (fun x hx hv => by have := hv.1; omega))
  by_cases hc2 : 832 ≤ a
  · obtain ⟨r, rfl⟩ := Nat.exists_eq_add_of_le hc2
    exact (congrArg (· + _) (dB_dk2 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (832 + r)) e.val (1664 * (i 1).val + 768) 896 (i 1).val hi (by omega) (fun x hx hv => by have := hv.1; omega))
  by_cases hc1 : 416 ≤ a
  · obtain ⟨r, rfl⟩ := Nat.exists_eq_add_of_le hc1
    exact (congrArg (· + _) (dB_dk1 c i a2 w2 a3 w3 a4 w4 a5 w5 a6 w6 a7 w7 a11 x0 x1 x2 x3 x4 x5 Q K V O L D h0 h1 h2 h3 h4 h5 ⟨r, by omega⟩ e ha')).trans (dk_total Q K V O L D (1664 * (i 1).val + (416 + r)) e.val (1664 * (i 1).val + 384) 1280 (i 1).val hi (by omega) (fun x hx hv => by have := hv.1; omega))
  exact (congrArg (· + _) (dB_dk0 c i a2 w2 a3 w3 a4 w4 a5 w5 a6 w6 a7 w7 a11 x0 x1 x2 x3 x4 x5 Q K V O L D h0 h1 h2 h3 h4 h5 ⟨a, by omega⟩ e ha')).trans (dk_total Q K V O L D (1664 * (i 1).val + (a)) e.val (1664 * (i 1).val) 1664 (i 1).val hi (by omega) (fun x hx hv => by have := hv.1; omega))

end Cert.KernelIdeal.Hand
-- ==== Proof.DiagQB.lean ====
module
public import proofs.«01_k».proof.Proof.RunB
public import Idealize.ShloMosaic.Lib.Pipeline.ReadBack
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The diagonal step through chain 0: the gradient of the queries of the block. -/
theorem dB_dq0 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runB.sl.H6_1 c i a2 w2 a3 w3 a4 w4 a5 w5 a6 w6 a7 w7 a8 w8 x0 x1 x2 x3 x4 x5 x6)) y = (x6 y + dqS Q K V O L D 416 (1664 * (i 1).val) (y 1).val (y 2).val) := by
  have hi : (i 1).val < 5 := (i 1).isLt
  have hq : 1664 * (i 1).val ≤ (y 1).val := hy.1
  have hz : y 0 = (0 : Fin 1) := Fin.ext (Nat.lt_one_iff.mp (y 0).isLt)
  obtain ⟨r, hr⟩ := Nat.exists_eq_add_of_le hq
  obtain ⟨d, hd⟩ : ∃ d : Fin 256, d = y 2 := ⟨y 2, rfl⟩
  have hr' : r < 1664 := by omega
  unfold runB.sl.H6_1
  refine (View.read_writes_cons_unit_of_mem _ _ _ _ _ _ (ix3 0 (⟨r, hr'⟩ : Fin 1664) d) (k0_off1_eq i) (by intro a; fin_cases a <;> first | exact congrArg Fin.val hz | exact hr | exact (congrArg Fin.val hd).symm.trans (Nat.zero_add _).symm)).trans ?_
  sl_unfold_run_names
  pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
  refine congrArg₂ (fun a b : EReal => a + b) ?_ ?_
  · simp only [Memref.IsWhole.read_unread]
    refine congrArg x6 (funext fun a => ?_)
    fin_cases a <;> refine Fin.ext ?_
    · exact ((congrFun (k0_off1_eq i) 0).trans rfl).trans (congrArg Fin.val hz).symm
    · exact (congrArg (· + r) (congrFun (k0_off1_eq i) 1)).trans hr.symm
    · exact ((congrArg (· + d.val) (congrFun (k0_off1_eq i) 2)).trans (Nat.zero_add _)).trans (congrArg Fin.val hd)
  · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
    simp (disch := omega) only [word_lin, mask_sel, word_zero]
    rw [hr, ← hd]
    unfold dqS
    refine Finset.sum_congr rfl fun x _ => ?_
    have hx := x.isLt
    simp only [Fin.isValue, ix3_1, ix3_2, ix2_0, ix2_1, Matrix.cons_val_zero, Matrix.cons_val_one, Matrix.cons_val, Nat.zero_add, Nat.add_zero, Nat.mul_zero]
    try simp only [← Nat.add_assoc]
    try rfl

/-- The diagonal step through chain 1: the gradient of the queries of the block. -/
theorem dB_dq1 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runB.sl.H6_2 c i a2 w2 a3 w3 a4 w4 a5 w5 a6 w6 a7 w7 a8 w8 x0 x1 x2 x3 x4 x5 x6)) y = ((x6 y + dqS Q K V O L D 416 (1664 * (i 1).val) (y 1).val (y 2).val) + dqS Q K V O L D 416 (1664 * (i 1).val + 416) (y 1).val (y 2).val) := by
  have hi : (i 1).val < 5 := (i 1).isLt
  by_cases hq : 1664 * (i 1).val + 384 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 1280 := by omega
    unfold runB.sl.H6_2
    refine (View.read_writes_cons_unit_of_mem _ _ _ _ _ _ (ix3 0 (⟨r, hr'⟩ : Fin 1280) d) (k0_off4_eq i) (by intro a; fin_cases a <;> first | exact congrArg Fin.val hz | exact hr | exact (congrArg Fin.val hd).symm.trans (Nat.zero_add _).symm)).trans ?_
    generalize hb : runB.sl.v145 c i a2 w2 a3 w3 a4 w4 a5 w5 a6 w6 a7 w7 a8 w8 x0 x1 x2 x3 x4 x5 x6 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runB.sl.v145 View.readCov
      rw [View.readAt_eq_ld]
      refine Eq.trans ?_ (dB_dq0 c i a2 w2 a3 w3 a4 w4 a5 w5 a6 w6 a7 w7 a8 w8 x0 x1 x2 x3 x4 x5 x6 Q K V O L D h0 h1 h2 h3 h4 h5 a8.view.junk y hy)
      refine congrArg (a8.view.read (Elt Ideal) _) (funext fun a => ?_)
      fin_cases a <;> refine Fin.ext ?_
      · exact ((congrFun (k0_off4_eq i) 0).trans rfl).trans (congrArg Fin.val hz).symm
      · exact (congrArg (k0_off4 i 1 + ·) (Nat.one_mul r)).trans ((congrArg (· + r) (congrFun (k0_off4_eq i) 1)).trans hr.symm)
      · exact (congrArg (k0_off4 i 2 + ·) (Nat.one_mul d.val)).trans (((congrArg (· + d.val) (congrFun (k0_off4_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 384 := not_le.mp hq
    unfold runB.sl.H6_2
    refine (View.read_writes_cons_unit_of_not_mem _ _ _ _ _ _ (k0_off4_eq i) 1 (Or.inl hq')).trans ?_
    refine (dB_dq0 c i a2 w2 a3 w3 a4 w4 a5 w5 a6 w6 a7 w7 a8 w8 x0 x1 x2 x3 x4 x5 x6 Q K V O L D h0 h1 h2 h3 h4 h5 f y hy).trans ?_
    rw [dqS_zero Q K V O L D 416 (1664 * (i 1).val + 416) _ _ (fun c' hc' hv => by have := hv.1; omega), add_zero]

/-- The diagonal step through chain 2: the gradient of the queries of the block. -/
theorem dB_dq2 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (runB.sl.H6_3 c i a2 w2 a3 w3 a4 w4 a5 w5 a6 w6 a7 w7 a8 w8 x0 x1 x2 x3 x4 x5 x6)) y = (((x6 y + dqS Q K V O L D 416 (1664 * (i 1).val) (y 1).val (y 2).val) + dqS Q K V O L D 416 (1664 * (i 1).val + 416) (y 1).val (y 2).val) + dqS Q K V O L D 416 (1664 * (i 1).val + 832) (y 1).val (y 2).val) := by
  have hi : (i 1).val < 5 := (i 1).isLt
  by_cases hq : 1664 * (i 1).val + 768 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 896 := by omega
    unfold runB.sl.H6_3
    refine (View.read_writes_cons_unit_of_mem _ _ _ _ _ _ (ix3 0 (⟨r, hr'⟩ : Fin 896) d) (k0_off7_eq i) (by intro a; fin_cases a <;> first | exact congrArg Fin.val hz | exact hr | exact (congrArg Fin.val hd).symm.trans (Nat.zero_add _).symm)).trans ?_
    generalize hb : runB.sl.v217 c i a2 w2 a3 w3 a4 w4 a5 w5 a6 w6 a7 w7 a8 w8 x0 x1 x2 x3 x4 x5 x6 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runB.sl.v217 View.readCov
      rw [View.readAt_eq_ld]
      refine Eq.trans ?_ (dB_dq1 c i a2 w2 a3 w3 a4 w4 a5 w5 a6 w6 a7 w7 a8 w8 x0 x1 x2 x3 x4 x5 x6 Q K V O L D h0 h1 h2 h3 h4 h5 a8.view.junk y hy)
      refine congrArg (a8.view.read (Elt Ideal) _) (funext fun a => ?_)
      fin_cases a <;> refine Fin.ext ?_
      · exact ((congrFun (k0_off7_eq i) 0).trans rfl).trans (congrArg Fin.val hz).symm
      · exact (congrArg (k0_off7 i 1 + ·) (Nat.one_mul r)).trans ((congrArg (· + r) (congrFun (k0_off7_eq i) 1)).trans hr.symm)
      · exact (congrArg (k0_off7 i 2 + ·) (Nat.one_mul d.val)).trans (((congrArg (· + d.val) (congrFun (k0_off7_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 768 := not_le.mp hq
    unfold runB.sl.H6_3
    refine (View.read_writes_cons_unit_of_not_mem _ _ _ _ _ _ (k0_off7_eq i) 1 (Or.inl hq')).trans ?_
    refine (dB_dq1 c i a2 w2 a3 w3 a4 w4 a5 w5 a6 w6 a7 w7 a8 w8 x0 x1 x2 x3 x4 x5 x6 Q K V O L D h0 h1 h2 h3 h4 h5 f y hy).trans ?_
    rw [dqS_zero Q K V O L D 416 (1664 * (i 1).val + 832) _ _ (fun c' hc' hv => by have := hv.1; omega), add_zero]

/-- The diagonal step through chain 3: the gradient of the queries of the block. -/
theorem dB_dq3 (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (f : BufTy.Contents (Elt Ideal) a8.view.ty) (y : S1x8320x256.Idx) (hy : 1664 * (i 1).val ≤ (y 1).val ∧ (y 1).val < 1664 * (i 1).val + 1664) :
  a8.view.read (Elt Ideal) (a8.view.writes (Elt Ideal) f (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) y = ((((x6 y + dqS Q K V O L D 416 (1664 * (i 1).val) (y 1).val (y 2).val) + dqS Q K V O L D 416 (1664 * (i 1).val + 416) (y 1).val (y 2).val) + dqS Q K V O L D 416 (1664 * (i 1).val + 832) (y 1).val (y 2).val) + dqS Q K V O L D 416 (1664 * (i 1).val + 1248) (y 1).val (y 2).val) := by
  have hi : (i 1).val < 5 := (i 1).isLt
  by_cases hq : 1664 * (i 1).val + 1152 ≤ (y 1).val
  · have hz : y 0 = (0 : Fin 1) := Fin.ext (Nat.lt_one_iff.mp (y 0).isLt)
    obtain ⟨r, hr⟩ := Nat.exists_eq_add_of_le hq
    obtain ⟨d, hd⟩ : ∃ d : Fin 256, d = y 2 := ⟨y 2, rfl⟩
    have hr' : r < 512 := by omega
    refine (View.read_writes_cons_unit_of_mem _ _ _ _ _ _ (ix3 0 (⟨r, hr'⟩ : Fin 512) d) (k0_off10_eq i) (by intro a; fin_cases a <;> first | exact congrArg Fin.val hz | exact hr | exact (congrArg Fin.val hd).symm.trans (Nat.zero_add _).symm)).trans ?_
    generalize hb : runB.sl.v289 c i a2 w2 a3 w3 a4 w4 a5 w5 a6 w6 a7 w7 a8 w8 x0 x1 x2 x3 x4 x5 x6 = bs
    sl_unfold_run_names
    pointwise [View.readAt_eq_ld, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay1]
    refine congrArg₂ (fun a b : EReal => a + b) ?_ ?_
    · subst hb
      unfold runB.sl.v289 View.readCov
      rw [View.readAt_eq_ld]
      refine Eq.trans ?_ (dB_dq2 c i a2 w2 a3 w3 a4 w4 a5 w5 a6 w6 a7 w7 a8 w8 x0 x1 x2 x3 x4 x5 x6 Q K V O L D h0 h1 h2 h3 h4 h5 a8.view.junk y hy)
      refine congrArg (a8.view.read (Elt Ideal) _) (funext fun a => ?_)
      fin_cases a <;> refine Fin.ext ?_
      · exact ((congrFun (k0_off10_eq i) 0).trans rfl).trans (congrArg Fin.val hz).symm
      · exact (congrArg (k0_off10 i 1 + ·) (Nat.one_mul r)).trans ((congrArg (· + r) (congrFun (k0_off10_eq i) 1)).trans hr.symm)
      · exact (congrArg (k0_off10 i 2 + ·) (Nat.one_mul d.val)).trans (((congrArg (· + d.val) (congrFun (k0_off10_eq i) 2)).trans (Nat.zero_add _)).trans (congrArg Fin.val hd))
    · simp only [k0_off1_eq, k0_off2_eq, k0_off3_eq, k0_off4_eq, k0_off5_eq, k0_off6_eq, k0_off7_eq, k0_off8_eq, k0_off9_eq, k0_off10_eq, k0_off11_eq, k0_off12_eq, Memref.IsWhole.read_unread, h0, h1, h2, h3, h4, h5, mask_named]
      simp (disch := omega) only [word_lin, mask_sel, word_zero]
      rw [hr, ← hd]
      unfold dqS
      refine Finset.sum_congr rfl fun x _ => ?_
      have hx := x.isLt
      simp only [Fin.isValue, ix3_1, ix3_2, ix2_0, ix2_1, Matrix.cons_val_zero, Matrix.cons_val_one, Matrix.cons_val, Nat.zero_add, Nat.add_zero, Nat.mul_zero]
      try simp only [← Nat.add_assoc]
      try rfl
  · have hq' : (y 1).val < 1664 * (i 1).val + 1152 := not_le.mp hq
    skip
    refine (View.read_writes_cons_unit_of_not_mem _ _ _ _ _ _ (k0_off10_eq i) 1 (Or.inl hq')).trans ?_
    refine (dB_dq2 c i a2 w2 a3 w3 a4 w4 a5 w5 a6 w6 a7 w7 a8 w8 x0 x1 x2 x3 x4 x5 x6 Q K V O L D h0 h1 h2 h3 h4 h5 f y hy).trans ?_
    rw [dqS_zero Q K V O L D 416 (1664 * (i 1).val + 1248) _ _ (fun c' hc' hv => by have := hv.1; omega), add_zero]

/-- The diagonal step leaves the query rows of the other blocks alone. -/
theorem dB_dq_out (y : S1x8320x256.Idx) (hy : (y 1).val < 1664 * (i 1).val ∨ 1664 * (i 1).val + 1664 ≤ (y 1).val) :
  a8.view.read (Elt Ideal) (a8.view.writes (Elt Ideal) (w8.unread x6) (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) y = x6 y := by
  refine (View.read_writes_cons_unit_of_not_mem _ _ _ _ _ _ (k0_off10_eq i) 1 (show (y 1).val < 1664 * (i 1).val + 1152 ∨ 1664 * (i 1).val + 1152 + 512 ≤ (y 1).val by omega)).trans ?_
  unfold runB.sl.H6_3
  refine (View.read_writes_cons_unit_of_not_mem _ _ _ _ _ _ (k0_off7_eq i) 1 (show (y 1).val < 1664 * (i 1).val + 768 ∨ 1664 * (i 1).val + 768 + 896 ≤ (y 1).val by omega)).trans ?_
  unfold runB.sl.H6_2
  refine (View.read_writes_cons_unit_of_not_mem _ _ _ _ _ _ (k0_off4_eq i) 1 (show (y 1).val < 1664 * (i 1).val + 384 ∨ 1664 * (i 1).val + 384 + 1280 ≤ (y 1).val by omega)).trans ?_
  unfold runB.sl.H6_1
  refine (View.read_writes_cons_unit_of_not_mem _ _ _ _ _ _ (k0_off1_eq i) 1 (show (y 1).val < 1664 * (i 1).val ∨ 1664 * (i 1).val + 1664 ≤ (y 1).val by omega)).trans ?_
  exact congrFun (Memref.IsWhole.read_unread w8 x6) y

end Cert.KernelIdeal.Hand
-- ==== Proof.ValB.lean ====
module
public import proofs.«01_k».proof.Proof.AccB
public import proofs.«01_k».proof.Proof.DiagQB
public import Idealize.ShloMosaic.Lib.WritesUnit
@[expose] public section
set_option maxRecDepth 16384
noncomputable section
namespace Cert.KernelIdeal.Hand
open Idealize.ShloMosaic Idealize.ShloMosaic.TcCoe Cert.KernelIdeal Cert.KernelIdeal.Gen
open Idealize.ShloMosaic.WordCmp
open scoped BigOperators
variable (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole)
  (x0 : Vec Ideal S1x8320x256 .bf16) (x1 : Vec Ideal S1x1664x256 .bf16) (x2 : Vec Ideal S1x1664x128 .bf16) (x3 : Vec Ideal S8320x128 .bf16) (x4 : Vec Ideal S1x1x8320 .f32) (x5 : Vec Ideal S1x1x8320 .f32) (x6 : Vec Ideal S1x8320x256 .f32)
  (Q K V O : ℕ → ℕ → EReal) (L D : ℕ → EReal)

/-- The second loop runs over the blocks after the diagonal one. -/
theorem t2_trips (i : grid0.Coords) : (k0_t2_loop i).trips = 4 - (i 1).val := by revert i; decide +kernel

/-- The third loop does not run. -/
theorem t3_trips (i : grid0.Coords) : Scf.trips (k0_t3_loop i).lb (k0_t3_loop i).ub (k0_t3_loop i).st = 0 := by revert i; decide +kernel

/-- The third loop stores nothing. -/
theorem t3_nil (𝒱 : Variants) (c : Dev nD) (bd : Option 𝒱.V) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole) (k0_h3 : k0_cond3 i = 1#1) (v320 : BitVec 32) (X_arg2 : BufTy.Contents (Elt Ideal) a2.view.ty) (X_arg3 : BufTy.Contents (Elt Ideal) a3.view.ty) (X_arg4 : BufTy.Contents (Elt Ideal) a4.view.ty) (X_arg5 : BufTy.Contents (Elt Ideal) a5.view.ty) (X_arg6 : BufTy.Contents (Elt Ideal) a6.view.ty) (X_arg7 : BufTy.Contents (Elt Ideal) a7.view.ty) (G_arg8 : BufTy.Contents (Elt Ideal) a8.view.ty) (G_arg11 : BufTy.Contents (Elt Ideal) a11.view.ty) (G_arg12 : BufTy.Contents (Elt Ideal) a12.view.ty) :
    pb_k0_t3 (F := Ideal) 𝒱 c bd i a2 w2 a3 w3 a4 w4 a5 w5 a6 w6 a7 w7 a8 w8 a9 w9 a10 w10 a11 w11 a12 w12 k0_h3 v320 X_arg2 X_arg3 X_arg4 X_arg5 X_arg6 X_arg7 G_arg8 G_arg11 G_arg12 (Scf.trips (k0_t3_loop i).lb (k0_t3_loop i).ub (k0_t3_loop i).st) = ([], [], []) := by
  rw [t3_trips]
  rfl

/-- What one point leaves in the keys' output block: the gradient of its rows. -/
theorem runB_dk (hc0 : ¬((Scalar.cmpi .ne (Scalar.extui (Scalar.cmpi .eq (BitVec.ofNat 32 (i 1).val) 0#32)) 0#32) = 1#1)) (hc1 : ¬(k0_cond2 i = 1#1)) (hc2 : (k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : 1 ≤ (i 1).val) (y : S1x1664x256.Idx) :
  (runB c i a2 w2 a3 w3 a4 w4 a5 w5 a6 w6 a7 w7 a8 w8 a9 w9 a10 w10 a11 w11 a12 w12 hc0 hc1 hc2 x0 x1 x2 x3 x4 x5 x6).2.1 y = dkT Q K V O L D (1664 * (i 1).val + (y 1).val) (y 2).val := by
  have hz : y 0 = (0 : Fin 1) := Fin.ext (Nat.lt_one_iff.mp (y 0).isLt)
  have hL := (t2_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) (w8.unread x6) (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) (a11.view.writes (Elt Ideal) a11.view.junk (runB.sl.HS0_5 c i a2 w2 a3 w3 a4 w4 a5 w5 a6 w6 a7 w7 a11 x0 x1 x2 x3 x4 x5)) (a12.view.writes (Elt Ideal) a12.view.junk (runB.sl.HS1_5 c i a2 w2 a3 w3 a5 w5 a6 w6 a12 x0 x1 x3 x4)) Q K V O L D (Scalar.addi (BitVec.ofNat 32 (i 1).val) 1#32) hc2 hj (fun y => (congrFun (Memref.IsWhole.read_unread w2 x0) y).trans (h0 y)) (fun y => (congrFun (Memref.IsWhole.read_unread w3 x1) y).trans (h1 y)) (fun y => (congrFun (Memref.IsWhole.read_unread w4 x2) y).trans (h2 y)) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) (k0_t2_loop i).trips le_rfl).2.1 (ix2 (y 1 : Fin 1664) (y 2 : Fin 256))
  have hd := dB_dk c i a2 w2 a3 w3 a4 w4 a5 w5 a6 w6 a7 w7 a11 x0 x1 x2 x3 x4 x5 Q K V O L D h0 h1 h2 h3 h4 h5 (ix2 (y 1 : Fin 1664) (y 2 : Fin 256))
  have hs : ∀ n : ℕ, n = 4 - (i 1).val → (∑ m ∈ Finset.range n, dkS Q K V O L D 1664 (1664 * (i 1).val + (y 1).val) (1664 * (i 1).val + 1664 * m + 1664) (y 2).val)
      = ∑ m ∈ Finset.range (4 - (i 1).val), dkS Q K V O L D 1664 (1664 * (i 1).val + (y 1).val) (1664 * (i 1).val + 1664 * m + 1664) (y 2).val := fun n hn => by
    rw [hn]
  rw [eq_ix3 y, hz]
  unfold runB
  dsimp only
  generalize hb : runB.sl.v305 c i a2 w2 a3 w3 a4 w4 a5 w5 a6 w6 a7 w7 a8 w8 a9 w9 a10 w10 a11 w11 a12 w12 _ x0 x1 x2 x3 x4 x5 x6 = bs
  pointwise [k0_pay2]
  subst hb
  unfold runB.sl.v305
  refine (congrFun (View.readAt_full _ _ _) _).trans ?_
  rw [t3_nil, List.nil_append, View.writes_append]
  exact (hL.trans (congrArg (_ + ·) (hs _ (t2_trips i)))).trans hd

/-- What one point leaves in the values' output block: the gradient of its rows. -/
theorem runB_dv (hc0 : ¬((Scalar.cmpi .ne (Scalar.extui (Scalar.cmpi .eq (BitVec.ofNat 32 (i 1).val) 0#32)) 0#32) = 1#1)) (hc1 : ¬(k0_cond2 i = 1#1)) (hc2 : (k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : 1 ≤ (i 1).val) (y : S1x1664x128.Idx) :
  (runB c i a2 w2 a3 w3 a4 w4 a5 w5 a6 w6 a7 w7 a8 w8 a9 w9 a10 w10 a11 w11 a12 w12 hc0 hc1 hc2 x0 x1 x2 x3 x4 x5 x6).2.2.1 y = dvT Q K O L (1664 * (i 1).val + (y 1).val) (y 2).val := by
  have hz : y 0 = (0 : Fin 1) := Fin.ext (Nat.lt_one_iff.mp (y 0).isLt)
  have hL := (t2_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) (w8.unread x6) (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) (a11.view.writes (Elt Ideal) a11.view.junk (runB.sl.HS0_5 c i a2 w2 a3 w3 a4 w4 a5 w5 a6 w6 a7 w7 a11 x0 x1 x2 x3 x4 x5)) (a12.view.writes (Elt Ideal) a12.view.junk (runB.sl.HS1_5 c i a2 w2 a3 w3 a5 w5 a6 w6 a12 x0 x1 x3 x4)) Q K V O L D (Scalar.addi (BitVec.ofNat 32 (i 1).val) 1#32) hc2 hj (fun y => (congrFun (Memref.IsWhole.read_unread w2 x0) y).trans (h0 y)) (fun y => (congrFun (Memref.IsWhole.read_unread w3 x1) y).trans (h1 y)) (fun y => (congrFun (Memref.IsWhole.read_unread w4 x2) y).trans (h2 y)) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) (k0_t2_loop i).trips le_rfl).1 (ix2 (y 1 : Fin 1664) (y 2 : Fin 128))
  have hd := dB_dv c i a2 w2 a3 w3 a5 w5 a6 w6 a12 x0 x1 x2 x3 x4 x5 Q K V O L D h0 h1 h2 h3 h4 h5 (ix2 (y 1 : Fin 1664) (y 2 : Fin 128))
  have hs : ∀ n : ℕ, n = 4 - (i 1).val → (∑ m ∈ Finset.range n, dvS Q K O L 1664 (1664 * (i 1).val + (y 1).val) (1664 * (i 1).val + 1664 * m + 1664) (y 2).val)
      = ∑ m ∈ Finset.range (4 - (i 1).val), dvS Q K O L 1664 (1664 * (i 1).val + (y 1).val) (1664 * (i 1).val + 1664 * m + 1664) (y 2).val := fun n hn => by
    rw [hn]
  rw [eq_ix3 y, hz]
  unfold runB
  dsimp only
  generalize hb : runB.sl.v310 c i a2 w2 a3 w3 a4 w4 a5 w5 a6 w6 a7 w7 a8 w8 a9 w9 a10 w10 a11 w11 a12 w12 _ x0 x1 x2 x3 x4 x5 x6 = bs
  pointwise [k0_pay3]
  subst hb
  unfold runB.sl.v310
  refine (congrFun (View.readAt_full _ _ _) _).trans ?_
  rw [t3_nil, List.nil_append, View.writes_append]
  exact (hL.trans (congrArg (_ + ·) (hs _ (t2_trips i)))).trans hd

/-- What one point leaves in the queries' output block: its key block's part of the gradient of every row. -/
theorem runB_dq (hc0 : ¬((Scalar.cmpi .ne (Scalar.extui (Scalar.cmpi .eq (BitVec.ofNat 32 (i 1).val) 0#32)) 0#32) = 1#1)) (hc1 : ¬(k0_cond2 i = 1#1)) (hc2 : (k0_cond3 i = 1#1)) (h0 : ∀ y : S1x8320x256.Idx, x0 y = Q (y 1).val (y 2).val)
  (h1 : ∀ y : S1x1664x256.Idx, x1 y = K (1664 * (i 1).val + (y 1).val) (y 2).val)
  (h2 : ∀ y : S1x1664x128.Idx, x2 y = V (1664 * (i 1).val + (y 1).val) (y 2).val)
  (h3 : ∀ y : S8320x128.Idx, x3 y = O (y 0).val (y 1).val)
  (h4 : ∀ y : S1x1x8320.Idx, x4 y = L (y 2).val)
  (h5 : ∀ y : S1x1x8320.Idx, x5 y = D (y 2).val) (hj : 1 ≤ (i 1).val) (y : S1x8320x256.Idx) :
  (runB c i a2 w2 a3 w3 a4 w4 a5 w5 a6 w6 a7 w7 a8 w8 a9 w9 a10 w10 a11 w11 a12 w12 hc0 hc1 hc2 x0 x1 x2 x3 x4 x5 x6).1 y = x6 y + dqS Q K V O L D 1664 (1664 * (i 1).val) (y 1).val (y 2).val := by
  have hi : (i 1).val < 5 := (i 1).isLt
  have hy1 : (y 1).val < 8320 := (y 1).isLt
  have hL := (t2_loop Variants.none c none i a2 w2 a3 w3 a4 w4 a5 w5 a6 w6 a7 w7 a8 w8 a9 w9 a10 w10 a11 w11 a12 w12 (w2.unread x0) (w3.unread x1) (w4.unread x2) (w5.unread x3) (w6.unread x4) (w7.unread x5) (a8.view.writes (Elt Ideal) (w8.unread x6) (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) (a11.view.writes (Elt Ideal) a11.view.junk (runB.sl.HS0_5 c i a2 w2 a3 w3 a4 w4 a5 w5 a6 w6 a7 w7 a11 x0 x1 x2 x3 x4 x5)) (a12.view.writes (Elt Ideal) a12.view.junk (runB.sl.HS1_5 c i a2 w2 a3 w3 a5 w5 a6 w6 a12 x0 x1 x3 x4)) Q K V O L D (Scalar.addi (BitVec.ofNat 32 (i 1).val) 1#32) hc2 hj (fun y => (congrFun (Memref.IsWhole.read_unread w2 x0) y).trans (h0 y)) (fun y => (congrFun (Memref.IsWhole.read_unread w3 x1) y).trans (h1 y)) (fun y => (congrFun (Memref.IsWhole.read_unread w4 x2) y).trans (h2 y)) (fun y => (congrFun (Memref.IsWhole.read_unread w5 x3) y).trans (h3 y)) (fun y => (congrFun (Memref.IsWhole.read_unread w6 x4) y).trans (h4 y)) (fun y => (congrFun (Memref.IsWhole.read_unread w7 x5) y).trans (h5 y)) (k0_t2_loop i).trips le_rfl).2.2 y
  have hT := t2_trips i
  have hin : 1664 * (i 1).val ≤ (y 1).val ∧ (y 1).val < 1664 * (i 1).val + 1664 → a8.view.read (Elt Ideal) (a8.view.writes (Elt Ideal) (w8.unread x6) (⟨Rect.unit (k0_off10 i) S1x512x256.size (k0_off10_inb i), k0_pay1 (runB.sl.r_25 c i a2 w2 a3 w3 a4 w4 a5 w5 a6 w6 a7 w7 x0 x1 x2 x3 x4 x5) (runB.sl.v289 c i a2 w2 a3 w3 a4 w4 a5 w5 a6 w6 a7 w7 a8 w8 x0 x1 x2 x3 x4 x5 x6) (View.readAt (Elt Ideal) a3.view (Rect.unit (s := S1x1664x256) ![0, 1248, 0] S1x416x256.size inb_S1x1664x256_S1x416x256_0_1248_0).toLoadRect (w3.unread x1))⟩ :: runB.sl.H6_3 c i a2 w2 a3 w3 a4 w4 a5 w5 a6 w6 a7 w7 a8 w8 x0 x1 x2 x3 x4 x5 x6)) y = x6 y + dqS Q K V O L D 1664 (1664 * (i 1).val) (y 1).val (y 2).val := fun hy => by
    refine (dB_dq3 c i a2 w2 a3 w3 a4 w4 a5 w5 a6 w6 a7 w7 a8 w8 x0 x1 x2 x3 x4 x5 x6 Q K V O L D h0 h1 h2 h3 h4 h5 (w8.unread x6) y hy).trans ?_
    have h4' := dqS_four Q K V O L D (1664 * (i 1).val) (y 1).val (y 2).val
    rw [← h4']; simp only [add_assoc]
  unfold runB
  dsimp only
  rw [t3_nil, List.nil_append, View.writes_append]
  refine hL.trans ?_
  split_ifs with hc
  · have hout := dB_dq_out c i a2 w2 a3 w3 a4 w4 a5 w5 a6 w6 a7 w7 a8 w8 x0 x1 x2 x3 x4 x5 x6 y (Or.inr (by omega))
    exact (congrArg (· + _) hout).trans rfl
  · by_cases hlt : (y 1).val < 1664 * (i 1).val
    · have hout := dB_dq_out c i a2 w2 a3 w3 a4 w4 a5 w5 a6 w6 a7 w7 a8 w8 x0 x1 x2 x3 x4 x5 x6 y (Or.inl hlt)
      rw [dqS_zero Q K V O L D 1664 (1664 * (i 1).val) _ _ (fun c' hc' hv => by have := hv.1; omega), add_zero]
      exact hout
    · exact hin (by omega)

end Cert.KernelIdeal.Hand
-- ==== Proof.Blocks.lean ====
module
public import proofs.«01_k».proof.Proof.ValA
public import proofs.«01_k».proof.Proof.ValB
public import proofs.«01_k».proof.Proof.Gen.KernelIdeal.Frame
public import Idealize.ShloMosaic.Lib.Pipeline.ValueKit
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

/-! ## The branches, point by point -/

/-- Point `t` works on head `t / 5`. -/
theorem pt_head (t : Fin cfg0.N) : (grid0.coords t 0).val = t.val / 5 := by
  have ht : t.val < 40 := Nat.lt_of_lt_of_eq t.isLt N_0
  have e0 : (grid0.coords t 0).val = t.val / 5 % 8 := Pipeline.Grid.coords_val t 0 (by decide) rfl
  omega

/-- Point `t` works on block `t % 5` of the keys. -/
theorem pt_block (t : Fin cfg0.N) : (grid0.coords t 1).val = t.val % 5 := by
  have e1 : (grid0.coords t 1).val = t.val / 1 % 5 := Pipeline.Grid.coords_val t 1 (by decide) rfl
  omega

/-- The first branch is taken at each head's first block. -/
theorem br0 (t : Fin cfg0.N) : (Scalar.cmpi .ne (Scalar.extui (Scalar.cmpi .eq (BitVec.ofNat 32 (grid0.coords t 1).val) 0#32)) 0#32) = 1#1 ↔ t.val % 5 = 0 := by
  rw [pt_block]
  have h5 : t.val % 5 < 5 := Nat.mod_lt _ (by decide)
  generalize t.val % 5 = j at h5 ⊢
  revert j; decide

/-- The second branch is taken at each head's first block. -/
theorem br1 (t : Fin cfg0.N) : k0_cond2 (grid0.coords t) = 1#1 ↔ t.val % 5 = 0 := by
  unfold k0_cond2
  rw [pt_block]
  have h5 : t.val % 5 < 5 := Nat.mod_lt _ (by decide)
  generalize t.val % 5 = j at h5 ⊢
  revert j; decide

/-- The third branch is taken at every other block. -/
theorem br2 : ∀ t : Fin cfg0.N, k0_cond3 (grid0.coords t) = 1#1 ↔ 1 ≤ t.val % 5 :=
  (by decide +kernel : ∀ t : Fin grid0.N, k0_cond3 (grid0.coords t) = 1#1 ↔ 1 ≤ t.val % 5)

/-! ## Arrays read at natural numbers -/

/-- A stack of matrices read at natural numbers, zero outside. -/
def rd3 {n0 n1 n2 : ℕ} (A : (⟨3, ![n0, n1, n2]⟩ : Shape).Idx → EReal) (a b d : ℕ) : EReal :=
  if h : a < n0 ∧ b < n1 ∧ d < n2 then A (ix3 ⟨a, h.1⟩ ⟨b, h.2.1⟩ ⟨d, h.2.2⟩) else 0

/-- A matrix read at natural numbers, zero outside. -/
def rd2 {n0 n1 : ℕ} (A : (⟨2, ![n0, n1]⟩ : Shape).Idx → EReal) (a b : ℕ) : EReal :=
  if h : a < n0 ∧ b < n1 then A (ix2 ⟨a, h.1⟩ ⟨b, h.2⟩) else 0

/-- Inside, it is the array's element. -/
theorem rd3_eq {n0 n1 n2 : ℕ} (A : (⟨3, ![n0, n1, n2]⟩ : Shape).Idx → EReal) (y : (⟨3, ![n0, n1, n2]⟩ : Shape).Idx) {a b d : ℕ}
    (ha : (y 0).val = a) (hb : (y 1).val = b) (hd : (y 2).val = d) : A y = rd3 A a b d := by
  subst ha hb hd
  unfold rd3
  rw [dif_pos ⟨(y 0).isLt, (y 1).isLt, (y 2).isLt⟩]
  exact congrArg A (eq_ix3 y)

/-- Inside, it is the array's element. -/
theorem rd2_eq {n0 n1 : ℕ} (A : (⟨2, ![n0, n1]⟩ : Shape).Idx → EReal) (y : (⟨2, ![n0, n1]⟩ : Shape).Idx) {a b : ℕ}
    (ha : (y 0).val = a) (hb : (y 1).val = b) : A y = rd2 A a b := by
  subst ha hb
  unfold rd2
  rw [dif_pos ⟨(y 0).isLt, (y 1).isLt⟩]
  exact congrArg A (eq_ix2 y)

variable (m : (ℓ : Loc nD τ sig) → Buf (Elt Ideal) ℓ) (c : Dev nD)

/-- Head `h`'s queries, read at row and feature. -/
def qF (h : ℕ) (x d : ℕ) : EReal := rd3 (n0 := 8) (n1 := 8320) (n2 := 256) (V m c main_arg0) h x d
/-- Head `h`'s keys. -/
def kF (h : ℕ) (x d : ℕ) : EReal := rd3 (n0 := 8) (n1 := 8320) (n2 := 256) (V m c main_arg1) h x d
/-- Head `h`'s values. -/
def vF (h : ℕ) (x e : ℕ) : EReal := rd3 (n0 := 8) (n1 := 8320) (n2 := 128) (V m c main_arg2) h x e
/-- Head `h`'s gradient of the output. -/
def oF (h : ℕ) (x e : ℕ) : EReal := rd2 (n0 := 8320) (n1 := 1024) (V m c main_v53) x (128 * h + e)
/-- Head `h`'s log of the row sums. -/
def lF (h : ℕ) (x : ℕ) : EReal := rd3 (n0 := 8) (n1 := 1) (n2 := 8320) (V m c main_v50) h 0 x
/-- Head `h`'s row products of output and gradient. -/
def dF (h : ℕ) (x : ℕ) : EReal := rd3 (n0 := 8) (n1 := 1) (n2 := 8320) (V m c main_v52) h 0 x

/-! ## The windows' blocks at coordinates -/

/-- Which block of its array window 0 is on. -/
theorem at_0 (t : Fin cfg0.N) : win0_0.index t = ![t.val / 5, 0, 0] :=
  (by decide +kernel : ∀ t : Fin grid0.N, win0_0.index t = ![t.val / 5, 0, 0]) t

/-- Which block of its array window 1 is on. -/
theorem at_1 (t : Fin cfg0.N) : win0_1.index t = ![t.val / 5, t.val % 5, 0] :=
  (by decide +kernel : ∀ t : Fin grid0.N, win0_1.index t = ![t.val / 5, t.val % 5, 0]) t

/-- Which block of its array window 2 is on. -/
theorem at_2 (t : Fin cfg0.N) : win0_2.index t = ![t.val / 5, t.val % 5, 0] :=
  (by decide +kernel : ∀ t : Fin grid0.N, win0_2.index t = ![t.val / 5, t.val % 5, 0]) t

/-- Which block of its array window 3 is on. -/
theorem at_3 (t : Fin cfg0.N) : win0_3.index t = ![0, t.val / 5] :=
  (by decide +kernel : ∀ t : Fin grid0.N, win0_3.index t = ![0, t.val / 5]) t

/-- Which block of its array window 4 is on. -/
theorem at_4 (t : Fin cfg0.N) : win0_4.index t = ![t.val / 5, 0, 0] :=
  (by decide +kernel : ∀ t : Fin grid0.N, win0_4.index t = ![t.val / 5, 0, 0]) t

/-- Which block of its array window 5 is on. -/
theorem at_5 (t : Fin cfg0.N) : win0_5.index t = ![t.val / 5, 0, 0] :=
  (by decide +kernel : ∀ t : Fin grid0.N, win0_5.index t = ![t.val / 5, 0, 0]) t

/-- Which block of its array window 6 is on. -/
theorem at_6 (t : Fin cfg0.N) : win0_6.index t = ![t.val / 5, 0, 0] :=
  (by decide +kernel : ∀ t : Fin grid0.N, win0_6.index t = ![t.val / 5, 0, 0]) t

/-- Which block of its array window 7 is on. -/
theorem at_7 (t : Fin cfg0.N) : win0_7.index t = ![t.val / 5, t.val % 5, 0] :=
  (by decide +kernel : ∀ t : Fin grid0.N, win0_7.index t = ![t.val / 5, t.val % 5, 0]) t

/-- Which block of its array window 8 is on. -/
theorem at_8 (t : Fin cfg0.N) : win0_8.index t = ![t.val / 5, t.val % 5, 0] :=
  (by decide +kernel : ∀ t : Fin grid0.N, win0_8.index t = ![t.val / 5, t.val % 5, 0]) t

/-- What window 0 holds at point `t`, at coordinates. -/
theorem blk_0 (t : Fin cfg0.N) (y : S1x8320x256.Idx) : iblk m c 0 t y = qF m c (t.val / 5) (y 1).val (y 2).val := by
  idx_bounds y
  blk_simp [iblk]
  refine rd3_eq _ _ ?_ ?_ ?_ <;> blk_simp [at_0] <;> omega

/-- What window 1 holds at point `t`, at coordinates. -/
theorem blk_1 (t : Fin cfg0.N) (y : S1x1664x256.Idx) : iblk m c 1 t y = kF m c (t.val / 5) (1664 * (t.val % 5) + (y 1).val) (y 2).val := by
  idx_bounds y
  blk_simp [iblk]
  refine rd3_eq _ _ ?_ ?_ ?_ <;> blk_simp [at_1] <;> omega

/-- What window 2 holds at point `t`, at coordinates. -/
theorem blk_2 (t : Fin cfg0.N) (y : S1x1664x128.Idx) : iblk m c 2 t y = vF m c (t.val / 5) (1664 * (t.val % 5) + (y 1).val) (y 2).val := by
  idx_bounds y
  blk_simp [iblk]
  refine rd3_eq _ _ ?_ ?_ ?_ <;> blk_simp [at_2] <;> omega

/-- What window 3 holds at point `t`, at coordinates. -/
theorem blk_3 (t : Fin cfg0.N) (y : S8320x128.Idx) : iblk m c 3 t y = oF m c (t.val / 5) (y 0).val (y 1).val := by
  idx_bounds y
  blk_simp [iblk]
  refine rd2_eq _ _ ?_ ?_ <;> blk_simp [at_3] <;> omega

/-- What window 4 holds at point `t`, at coordinates. -/
theorem blk_4 (t : Fin cfg0.N) (y : S1x1x8320.Idx) : iblk m c 4 t y = lF m c (t.val / 5) (y 2).val := by
  idx_bounds y
  blk_simp [iblk]
  refine rd3_eq _ _ ?_ ?_ ?_ <;> blk_simp [at_4] <;> omega

/-- What window 5 holds at point `t`, at coordinates. -/
theorem blk_5 (t : Fin cfg0.N) (y : S1x1x8320.Idx) : iblk m c 5 t y = dF m c (t.val / 5) (y 2).val := by
  idx_bounds y
  blk_simp [iblk]
  refine rd3_eq _ _ ?_ ?_ ?_ <;> blk_simp [at_5] <;> omega

end Cert.KernelIdeal.Hand
end
-- ==== Proof.Host.lean ====
module
public import proofs.«01_k».proof.Proof.Blocks
public import proofs.«01_k».proof.Proof.Stage
public import Idealize.ShloMosaic.Lib.StableHlo.ReadAt
public import Idealize.ShloMosaic.Lib.Claim
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open scoped BigOperators

/-! ## What the launch reads -/

variable (m : (ℓ : Loc nD τ sig) → Buf (Elt Ideal) ℓ)

set_option maxHeartbeats 4000000 in
/-- The log-sum-exps the launch reads. -/
theorem V_lse (c : Dev nD) : V m c main_v50 = front (lse (scores (rows256 (m (c, Proc.devRef .tc main_arg0))) (rows256 (m (c, Proc.devRef .tc main_arg1))))) := by
  entry_read
  after_reads_simp
  simp -implicitDefEqProofs only [StableHlo.TRef.toBuf, StableHlo.TRef.ofBuf, cast_cast, cast_eq]
  rfl

set_option maxHeartbeats 4000000 in
/-- The products of output and cotangent the launch reads. -/
theorem V_delta (c : Dev nD) : V m c main_v52 = front (delta (rows128 (m (c, Proc.devRef .tc main_arg2)))
    (scores (rows256 (m (c, Proc.devRef .tc main_arg0))) (rows256 (m (c, Proc.devRef .tc main_arg1)))) (m (c, Proc.devRef .tc main_arg3))) := by
  entry_read
  after_reads_simp
  simp -implicitDefEqProofs only [StableHlo.TRef.toBuf, StableHlo.TRef.ofBuf, cast_cast, cast_eq]
  rfl

/-- The cotangent the launch reads: zeros for the rows in front. -/
theorem V_cot (c : Dev nD) : V m c main_v53 = pad S8320x1024 ![112, 0] ![0, 0] ![0, 0] (m (c, Proc.devRef .tc main_arg3))
    (sitofp (F := Ideal) .bf16 (constantI S_ 32 0#32)) pads_S8208x1024_S8320x1024_11200_000 h_S_ := by
  entry_read
  after_reads_simp
  simp -implicitDefEqProofs only [StableHlo.TRef.toBuf, StableHlo.TRef.ofBuf, cast_cast, cast_eq]
end Cert.KernelIdeal.Hand
-- ==== Proof.Launched.lean ====
module
public import proofs.«01_k».proof.Proof.Blocks
@[expose] public section
set_option maxRecDepth 16384
noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

variable (m : (ℓ : Loc nD τ sig) → Buf (Elt Ideal) ℓ) (ρ : Dev nD → PrngReg)

/-- The queries' gradient over a longer range of keys is the sum over the two parts. -/
theorem dqS_add (Q K V O : ℕ → ℕ → EReal) (L D : ℕ → EReal) (a n x d : ℕ) :
    dqS Q K V O L D (a + n) 0 x d = dqS Q K V O L D a 0 x d + dqS Q K V O L D n a x d := by
  unfold dqS
  rw [Fin.sum_univ_add]
  simp only [Fin.val_castAdd, Fin.val_natAdd, Nat.zero_add]

/-! ## What each point leaves -/

/-- The queries' gradient after point `t`: the keys up to its block. -/
def left6 (c : Dev nD) (t : Fin cfg0.N) : S1x8320x256.Idx → EReal := fun y =>
  dqS (qF m c (t.val / 5)) (kF m c (t.val / 5)) (vF m c (t.val / 5)) (oF m c (t.val / 5)) (lF m c (t.val / 5)) (dF m c (t.val / 5)) (1664 * (t.val % 5 + 1)) 0 (y 1).val (y 2).val
/-- The keys' gradient of point `t`'s block. -/
def left7 (c : Dev nD) (t : Fin cfg0.N) : S1x1664x256.Idx → EReal := fun y =>
  dkT (qF m c (t.val / 5)) (kF m c (t.val / 5)) (vF m c (t.val / 5)) (oF m c (t.val / 5)) (lF m c (t.val / 5)) (dF m c (t.val / 5)) (1664 * (t.val % 5) + (y 1).val) (y 2).val
/-- The values' gradient of point `t`'s block. -/
def left8 (c : Dev nD) (t : Fin cfg0.N) : S1x1664x128.Idx → EReal := fun y =>
  dvT (qF m c (t.val / 5)) (kF m c (t.val / 5)) (oF m c (t.val / 5)) (lF m c (t.val / 5)) (1664 * (t.val % 5) + (y 1).val) (y 2).val

/-- The pipeline's data: the inputs stay as fetched; the outputs hold the gradients so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t
    | ⟨7, _⟩ => left7 m c t
    | ⟨8, _⟩ => left8 m c t
  Φ _ := Pipeline.ΦA spec0 c
  q _ := fullShare
  owed _ := 0

/-- The data's arrays are those the region finds. -/
theorem dats_A (c : Dev nD) (w : Fin cfg0.W) : (dats m 0 c).A w = V m c (Pipeline.arrRef spec0 w) := by
  dsimp only [dats]

/-- Input window 0 is left as fetched. -/
theorem aft_0 (c : Dev nD) (t : Fin cfg0.N) : (dats m 0 c).after 0 t = iblk m c 0 t := by dsimp only [dats]
/-- Input window 0 holds its block when the body starts. -/
theorem bef_0 (c : Dev nD) (t : Fin cfg0.N) (d) : (dats m 0 c).before 0 t d = iblk m c 0 t :=
  before0_0_of m (dats m 0 c) (dats_A m c 0) (aft_0 m c) t d
/-- Input window 1 is left as fetched. -/
theorem aft_1 (c : Dev nD) (t : Fin cfg0.N) : (dats m 0 c).after 1 t = iblk m c 1 t := by dsimp only [dats]
/-- Input window 1 holds its block when the body starts. -/
theorem bef_1 (c : Dev nD) (t : Fin cfg0.N) (d) : (dats m 0 c).before 1 t d = iblk m c 1 t :=
  before0_1_of m (dats m 0 c) (dats_A m c 1) (aft_1 m c) t d
/-- Input window 2 is left as fetched. -/
theorem aft_2 (c : Dev nD) (t : Fin cfg0.N) : (dats m 0 c).after 2 t = iblk m c 2 t := by dsimp only [dats]
/-- Input window 2 holds its block when the body starts. -/
theorem bef_2 (c : Dev nD) (t : Fin cfg0.N) (d) : (dats m 0 c).before 2 t d = iblk m c 2 t :=
  before0_2_of m (dats m 0 c) (dats_A m c 2) (aft_2 m c) t d
/-- Input window 3 is left as fetched. -/
theorem aft_3 (c : Dev nD) (t : Fin cfg0.N) : (dats m 0 c).after 3 t = iblk m c 3 t := by dsimp only [dats]
/-- Input window 3 holds its block when the body starts. -/
theorem bef_3 (c : Dev nD) (t : Fin cfg0.N) (d) : (dats m 0 c).before 3 t d = iblk m c 3 t :=
  before0_3_of m (dats m 0 c) (dats_A m c 3) (aft_3 m c) t d
/-- Input window 4 is left as fetched. -/
theorem aft_4 (c : Dev nD) (t : Fin cfg0.N) : (dats m 0 c).after 4 t = iblk m c 4 t := by dsimp only [dats]
/-- Input window 4 holds its block when the body starts. -/
theorem bef_4 (c : Dev nD) (t : Fin cfg0.N) (d) : (dats m 0 c).before 4 t d = iblk m c 4 t :=
  before0_4_of m (dats m 0 c) (dats_A m c 4) (aft_4 m c) t d
/-- Input window 5 is left as fetched. -/
theorem aft_5 (c : Dev nD) (t : Fin cfg0.N) : (dats m 0 c).after 5 t = iblk m c 5 t := by dsimp only [dats]
/-- Input window 5 holds its block when the body starts. -/
theorem bef_5 (c : Dev nD) (t : Fin cfg0.N) (d) : (dats m 0 c).before 5 t d = iblk m c 5 t :=
  before0_5_of m (dats m 0 c) (dats_A m c 5) (aft_5 m c) t d
/-- What output window 6 is left with. -/
theorem aft_6 (c : Dev nD) (t : Fin cfg0.N) : (dats m 0 c).after 6 t = left6 m c t := by dsimp only [dats]
/-- What output window 7 is left with. -/
theorem aft_7 (c : Dev nD) (t : Fin cfg0.N) : (dats m 0 c).after 7 t = left7 m c t := by dsimp only [dats]
/-- What output window 8 is left with. -/
theorem aft_8 (c : Dev nD) (t : Fin cfg0.N) : (dats m 0 c).after 8 t = left8 m c t := by dsimp only [dats]

/-- Past a head's first block, the queries' gradient buffer holds what the point before left. -/
theorem bef_6 (c : Dev nD) (t : Fin cfg0.N) (h : 1 ≤ t.val % 5) (d) :
    (dats m 0 c).before 6 t d = left6 m c ⟨t.val - 1, Nat.lt_of_le_of_lt (Nat.sub_le _ _) t.isLt⟩ := by
  have hf : (cfg0.win 6).flush ⟨t.val - 1, Nat.lt_of_le_of_lt (Nat.sub_le _ _) t.isLt⟩ = false := by
    rw [Bool.eq_false_iff]
    intro hc
    have := (flush0_6 _).mp hc
    dsimp only at this
    omega
  refine ((dats m 0 c).before_out_kept 6 rfl t (by omega) hf (fun _ => rfl) (fun _ _ => rfl) d).trans ?_
  rw [aft_6]

/-- The buffers the body is called on at point `t`. -/
abbrev mr0 (t : Fin cfg0.N) : Memref sig .tc .vmem S1x8320x256 .bf16 := win0_0.stage (cfg0.slots t 0)
abbrev mr1 (t : Fin cfg0.N) : Memref sig .tc .vmem S1x1664x256 .bf16 := win0_1.stage (cfg0.slots t 1)
abbrev mr2 (t : Fin cfg0.N) : Memref sig .tc .vmem S1x1664x128 .bf16 := win0_2.stage (cfg0.slots t 2)
abbrev mr3 (t : Fin cfg0.N) : Memref sig .tc .vmem S8320x128 .bf16 := win0_3.stage (cfg0.slots t 3)
abbrev mr4 (t : Fin cfg0.N) : Memref sig .tc .vmem S1x1x8320 .f32 := win0_4.stage (cfg0.slots t 4)
abbrev mr5 (t : Fin cfg0.N) : Memref sig .tc .vmem S1x1x8320 .f32 := win0_5.stage (cfg0.slots t 5)
abbrev mr6 (t : Fin cfg0.N) : Memref sig .tc .vmem S1x8320x256 .f32 := win0_6.stage (cfg0.slots t 6)
abbrev mr7 (t : Fin cfg0.N) : Memref sig .tc .vmem S1x1664x256 .bf16 := win0_7.stage (cfg0.slots t 7)
abbrev mr8 (t : Fin cfg0.N) : Memref sig .tc .vmem S1x1664x128 .bf16 := win0_8.stage (cfg0.slots t 8)

/-- The pipeline's invariant, its two scratch buffers named. -/
theorem inv_eq (c : Dev nD) :
    (Pipeline.ΦA spec0 c : sProp 𝕄)
      = iprop(iprop((∃ d, owns (c : Thread nD τ) (Memref.whole cc0_scratch0 : Memref sig .tc .vmem S1664x256 .f32) fullShare d) ∗ (∃ d, owns (c : Thread nD τ) (Memref.whole cc0_scratch1 : Memref sig .tc .vmem S1664x128 .f32) fullShare d)) ∗ (∃ r, prngReg c r)) := by
  unfold Pipeline.ΦA; rw [scopedRest0_eq]; simp only [owns_whole]; try rfl

/-- What the body starts from at point `t`. -/
def pre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d))
    ∗ (∃ d, owns (c : Thread nD τ) (mr5 t) fullShare ((dats m 0 c).before 5 t d))
    ∗ (∃ d, owns (c : Thread nD τ) (mr6 t) fullShare ((dats m 0 c).before 6 t d))
    ∗ (∃ d, owns (c : Thread nD τ) (mr7 t) fullShare ((dats m 0 c).before 7 t d))
    ∗ (∃ d, owns (c : Thread nD τ) (mr8 t) fullShare ((dats m 0 c).before 8 t d)))

/-- What it must leave. -/
def post (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t)
    ∗ owns (c : Thread nD τ) (mr5 t) fullShare ((dats m 0 c).after 5 t)
    ∗ owns (c : Thread nD τ) (mr6 t) fullShare ((dats m 0 c).after 6 t)
    ∗ owns (c : Thread nD τ) (mr7 t) fullShare ((dats m 0 c).after 7 t)
    ∗ owns (c : Thread nD τ) (mr8 t) fullShare ((dats m 0 c).after 8 t))

/-- What the body computes at point `t` (a first block), with its triple. -/
abbrev atA (c : Dev nD) (t : Fin cfg0.N) (h : t.val % 5 = 0) :=
  runA c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (mr5 t) (hstage0_5 ((cfg0.slots t 5).cast nbuf0_5)) (mr6 t) (hstage0_6 ((cfg0.slots t 6).cast nbuf0_6)) (mr7 t) (hstage0_7 ((cfg0.slots t 7).cast nbuf0_7)) (mr8 t) (hstage0_8 ((cfg0.slots t 8).cast nbuf0_8)) (Memref.whole cc0_scratch0) (Memref.isWhole_whole _) (Memref.whole cc0_scratch1) (Memref.isWhole_whole _) ((br0 t).mpr h) ((br1 t).mpr h) (fun h2 => by have := (br2 t).mp h2; omega) (iblk m c 0 t) (iblk m c 1 t) (iblk m c 2 t) (iblk m c 3 t) (iblk m c 4 t) (iblk m c 5 t)

/-- What the body computes for output window 6 (a first block). -/
theorem outA_6 (c : Dev nD) (t : Fin cfg0.N) (h : t.val % 5 = 0) :
    (atA m c t h).1 = left6 m c t := by
  funext y
  refine (runA_dq _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) ((br0 t).mpr h) ((br1 t).mpr h) (fun h2 => by have := (br2 t).mp h2; omega) (blk_0 m c t) (fun y => (blk_1 m c t y).trans (by rw [pt_block])) (fun y => (blk_2 m c t y).trans (by rw [pt_block])) (blk_3 m c t) (blk_4 m c t) (blk_5 m c t) ((pt_block t).trans h) y).trans ?_
  unfold left6
  rw [h]

/-- What the body computes for output window 7 (a first block). -/
theorem outA_7 (c : Dev nD) (t : Fin cfg0.N) (h : t.val % 5 = 0) :
    (atA m c t h).2.1 = left7 m c t := by
  funext y
  refine (runA_dk _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) ((br0 t).mpr h) ((br1 t).mpr h) (fun h2 => by have := (br2 t).mp h2; omega) (blk_0 m c t) (fun y => (blk_1 m c t y).trans (by rw [pt_block])) (fun y => (blk_2 m c t y).trans (by rw [pt_block])) (blk_3 m c t) (blk_4 m c t) (blk_5 m c t) ((pt_block t).trans h) y).trans ?_
  unfold left7
  rw [pt_block]

/-- What the body computes for output window 8 (a first block). -/
theorem outA_8 (c : Dev nD) (t : Fin cfg0.N) (h : t.val % 5 = 0) :
    (atA m c t h).2.2.1 = left8 m c t := by
  funext y
  refine (runA_dv _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) ((br0 t).mpr h) ((br1 t).mpr h) (fun h2 => by have := (br2 t).mp h2; omega) (blk_0 m c t) (fun y => (blk_1 m c t y).trans (by rw [pt_block])) (fun y => (blk_2 m c t y).trans (by rw [pt_block])) (blk_3 m c t) (blk_4 m c t) (blk_5 m c t) ((pt_block t).trans h) y).trans ?_
  unfold left8
  rw [pt_block]

set_option maxHeartbeats 1600000 in
/-- The body at a head's first block. -/
theorem bodyA (c : Dev nD) (t : Fin cfg0.N) (h : t.val % 5 = 0) :
    pre m c t ⊢ wp frame (wpE (defs₀ (F := Ideal)) Variants.none c none) Set.univ (bodyAt0 t) (fun _ => post m c t) := by
  unfold pre post bodyAt0
  simp only [bef_0, bef_1, bef_2, bef_3, bef_4, bef_5]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8]
  rw [show (dats m 0 c).Φ t.castSucc = Pipeline.ΦA spec0 c from rfl, inv_eq]
  rw [← outA_6 m c t h, ← outA_7 m c t h, ← outA_8 m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atA m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the body computes at point `t` (a later block), with its triple. -/
abbrev atB (c : Dev nD) (t : Fin cfg0.N) (h : 1 ≤ t.val % 5) :=
  runB c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (mr5 t) (hstage0_5 ((cfg0.slots t 5).cast nbuf0_5)) (mr6 t) (hstage0_6 ((cfg0.slots t 6).cast nbuf0_6)) (mr7 t) (hstage0_7 ((cfg0.slots t 7).cast nbuf0_7)) (mr8 t) (hstage0_8 ((cfg0.slots t 8).cast nbuf0_8)) (Memref.whole cc0_scratch0) (Memref.isWhole_whole _) (Memref.whole cc0_scratch1) (Memref.isWhole_whole _) (fun h0 => by have := (br0 t).mp h0; omega) (fun h1 => by have := (br1 t).mp h1; omega) ((br2 t).mpr h) (iblk m c 0 t) (iblk m c 1 t) (iblk m c 2 t) (iblk m c 3 t) (iblk m c 4 t) (iblk m c 5 t) (left6 m c ⟨t.val - 1, Nat.lt_of_le_of_lt (Nat.sub_le _ _) t.isLt⟩)

/-- What the body computes for output window 6 (a later block). -/
theorem outB_6 (c : Dev nD) (t : Fin cfg0.N) (h : 1 ≤ t.val % 5) :
    (atB m c t h).1 = left6 m c t := by
  funext y
  refine (runB_dq _ _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) (fun h0 => by have := (br0 t).mp h0; omega) (fun h1 => by have := (br1 t).mp h1; omega) ((br2 t).mpr h) (blk_0 m c t) (fun y => (blk_1 m c t y).trans (by rw [pt_block])) (fun y => (blk_2 m c t y).trans (by rw [pt_block])) (blk_3 m c t) (blk_4 m c t) (blk_5 m c t) (by rw [pt_block]; exact h) y).trans ?_
  have e1 : (t.val - 1) / 5 = t.val / 5 := by omega
  have e2 : 1664 * ((t.val - 1) % 5 + 1) = 1664 * (t.val % 5) := by omega
  unfold left6
  dsimp only
  rw [e1, e2, pt_block]
  refine (dqS_add _ _ _ _ _ _ _ _ _ _).symm.trans ?_
  rw [show 1664 * (t.val % 5) + 1664 = 1664 * (t.val % 5 + 1) by omega]

/-- What the body computes for output window 7 (a later block). -/
theorem outB_7 (c : Dev nD) (t : Fin cfg0.N) (h : 1 ≤ t.val % 5) :
    (atB m c t h).2.1 = left7 m c t := by
  funext y
  refine (runB_dk _ _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) (fun h0 => by have := (br0 t).mp h0; omega) (fun h1 => by have := (br1 t).mp h1; omega) ((br2 t).mpr h) (blk_0 m c t) (fun y => (blk_1 m c t y).trans (by rw [pt_block])) (fun y => (blk_2 m c t y).trans (by rw [pt_block])) (blk_3 m c t) (blk_4 m c t) (blk_5 m c t) (by rw [pt_block]; exact h) y).trans ?_
  unfold left7
  rw [pt_block]

/-- What the body computes for output window 8 (a later block). -/
theorem outB_8 (c : Dev nD) (t : Fin cfg0.N) (h : 1 ≤ t.val % 5) :
    (atB m c t h).2.2.1 = left8 m c t := by
  funext y
  refine (runB_dv _ _ _ _ _ _ _ _ _ _ _ _ _ _ _ _ _ _ _ _ _ _ _ _ _ _ _ _ _ _ _ (qF m c (t.val / 5)) (kF m c (t.val / 5)) (vF m c (t.val / 5)) (oF m c (t.val / 5)) (lF m c (t.val / 5)) (dF m c (t.val / 5)) (fun h0 => by have := (br0 t).mp h0; omega) (fun h1 => by have := (br1 t).mp h1; omega) ((br2 t).mpr h) (blk_0 m c t) (fun y => (blk_1 m c t y).trans (by rw [pt_block])) (fun y => (blk_2 m c t y).trans (by rw [pt_block])) (blk_3 m c t) (blk_4 m c t) (blk_5 m c t) (by rw [pt_block]; exact h) y).trans ?_
  unfold left8
  rw [pt_block]

set_option maxHeartbeats 1600000 in
/-- The body at any later block. -/
theorem bodyB (c : Dev nD) (t : Fin cfg0.N) (h : 1 ≤ t.val % 5) :
    pre m c t ⊢ wp frame (wpE (defs₀ (F := Ideal)) Variants.none c none) Set.univ (bodyAt0 t) (fun _ => post m c t) := by
  unfold pre post bodyAt0
  simp only [bef_0, bef_1, bef_2, bef_3, bef_4, bef_5, bef_6 m c t h]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8]
  rw [show (dats m 0 c).Φ t.castSucc = Pipeline.ΦA spec0 c from rfl, inv_eq]
  rw [← outB_6 m c t h, ← outB_7 m c t h, ← outB_8 m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atB m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem body_any (c : Dev nD) (t : Fin cfg0.N) :
    pre m c t ⊢ wp frame (wpE (defs₀ (F := Ideal)) Variants.none c none) Set.univ (bodyAt0 t) (fun _ => post m c t) := by
  by_cases h : t.val % 5 = 0
  · exact bodyA m c t h
  · exact bodyB m c t (by omega)

/-- The body table's row at point `t` is the body. -/
theorem row_eq (t : Fin cfg0.N) :
    defs₀ (F := Ideal) .tc cfg0.body (cfg0.bodyArgs t (cfg0.slots t)) = bodyAt0 t := by
  unfold defs₀; rw [Defs.onTc_tc]

/-- The obligation of the pipeline's body. -/
theorem obligation (c : Dev nD) : BodyObligation (dats m 0 c) (defs₀ (F := Ideal)) Variants.none () Set.univ := fun t => by
  rw [bigSep_W0, bigSep_W0, row_eq]
  exact triple_restated (body_any m c t) rfl .rfl fun _ => .rfl

set_option backward.isDefEq.respectTransparency.types false in
/-- The run: every execution ends, with the pipeline's arrays as the data say and no signal left. -/
theorem run_all : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-! ## The result arrays -/

/-- The queries' gradient, at an index. -/
def gq (c : Dev nD) : S8x8320x256.Idx → EReal := fun y => dqS (qF m c (y 0).val) (kF m c (y 0).val) (vF m c (y 0).val) (oF m c (y 0).val) (lF m c (y 0).val) (dF m c (y 0).val) 8320 0 (y 1).val (y 2).val

/-- The same, its coordinates named. -/
theorem gq_at (c : Dev nD) (y : S8x8320x256.Idx) (h x d : ℕ) (e0 : (y 0).val = h) (e1 : (y 1).val = x) (e2 : (y 2).val = d) :
    gq m c y = dqS (qF m c h) (kF m c h) (vF m c h) (oF m c h) (lF m c h) (dF m c h) 8320 0 x d := by
  subst e0 e1 e2
  rfl

/-- The queries' gradient array after the run. -/
theorem final_6 (c : Dev nD) : (dats m 0 c).arrAt 6 cfg0.N = gq m c := by
  refine (dats m 0 c).arrAt_eq_of_covers 6 _ (by decide +kernel) fun t hf y => ?_
  have ht4 : t.val % 5 = 4 := (flush0_6 t).mp hf
  blk_simp
  rw [aft_6]
  refine Eq.trans ?_ (gq_at m c _ (t.val / 5) ((y 1).val) (y 2).val ?_ ?_ ?_).symm
  · unfold left6
    rw [ht4]
  all_goals
    idx_bounds y
    blk_simp [at_6]
    try omega

/-- The keys' gradient, at an index. -/
def gk (c : Dev nD) : S8x8320x256.Idx → EReal := fun y => dkT (qF m c (y 0).val) (kF m c (y 0).val) (vF m c (y 0).val) (oF m c (y 0).val) (lF m c (y 0).val) (dF m c (y 0).val) (y 1).val (y 2).val

/-- The same, its coordinates named. -/
theorem gk_at (c : Dev nD) (y : S8x8320x256.Idx) (h x d : ℕ) (e0 : (y 0).val = h) (e1 : (y 1).val = x) (e2 : (y 2).val = d) :
    gk m c y = dkT (qF m c h) (kF m c h) (vF m c h) (oF m c h) (lF m c h) (dF m c h) x d := by
  subst e0 e1 e2
  rfl

/-- The keys' gradient array after the run. -/
theorem final_7 (c : Dev nD) : (dats m 0 c).arrAt 7 cfg0.N = gk m c := by
  refine (dats m 0 c).arrAt_eq_of_covers 7 _ (by decide +kernel) fun t hf y => ?_
  blk_simp
  rw [aft_7]
  refine Eq.trans ?_ (gk_at m c _ (t.val / 5) (1664 * (t.val % 5) + (y 1).val) (y 2).val ?_ ?_ ?_).symm
  · unfold left7
    rfl
  all_goals
    idx_bounds y
    blk_simp [at_7]
    try omega

/-- The values' gradient, at an index. -/
def gv (c : Dev nD) : S8x8320x128.Idx → EReal := fun y => dvT (qF m c (y 0).val) (kF m c (y 0).val) (oF m c (y 0).val) (lF m c (y 0).val) (y 1).val (y 2).val

/-- The same, its coordinates named. -/
theorem gv_at (c : Dev nD) (y : S8x8320x128.Idx) (h x d : ℕ) (e0 : (y 0).val = h) (e1 : (y 1).val = x) (e2 : (y 2).val = d) :
    gv m c y = dvT (qF m c h) (kF m c h) (oF m c h) (lF m c h) x d := by
  subst e0 e1 e2
  rfl

/-- The values' gradient array after the run. -/
theorem final_8 (c : Dev nD) : (dats m 0 c).arrAt 8 cfg0.N = gv m c := by
  refine (dats m 0 c).arrAt_eq_of_covers 8 _ (by decide +kernel) fun t hf y => ?_
  blk_simp
  rw [aft_8]
  refine Eq.trans ?_ (gv_at m c _ (t.val / 5) (1664 * (t.val % 5) + (y 1).val) (y 2).val ?_ ?_ ?_).symm
  · unfold left8
    rfl
  all_goals
    idx_bounds y
    blk_simp [at_8]
    try omega

end Cert.KernelIdeal.Hand
end
-- ==== Proof.Meet.lean ====
module
public import proofs.«01_k».proof.Proof.Final
public import proofs.«01_k».proof.Proof.Host
public import proofs.«01_k».proof.Proof.Launched
public import proofs.«01_k».proof.Pre_finite
public import proofs.«01_k».proof.Proof.Gen.Pre_finite
public import Idealize.ShloMosaic.Lib.ReduceAll
public import Idealize.ShloMosaic.Lib.Affine
@[expose] public section
set_option maxRecDepth 16384
noncomputable section
namespace Cert.KernelIdeal.Hand
open Idealize.ShloMosaic Idealize.ShloMosaic.TcCoe Cert.KernelIdeal Cert.KernelIdeal.Gen
open Cert.ReferenceIdeal.Hand
open scoped BigOperators

/-! ## The precondition -/

/-- The word the precondition compares with stands for infinity. -/
theorem inf_word : Ideal.ofBits .bf16 32640#16 = ⊤ := by simp [Ideal.ofBits, Ideal.ieee]

/-- A number whose absolute value is below infinity is real. -/
theorem real_of_lt (x : EReal) (h : Ideal.cmp .olt (max x (-x)) (Ideal.ofBits .bf16 32640#16) = 1#1) : x = (x.toReal : EReal) := by
  rw [inf_word] at h
  have h1 : max x (-x) < ⊤ := by
    by_contra hc
    have : Ideal.cmp .olt (max x (-x)) ⊤ = 0#1 := by
      unfold Ideal.cmp
      simp only [decide_eq_false hc]
      rfl
    rw [this] at h
    exact absurd h (by decide)
  rw [max_lt_iff] at h1
  refine (EReal.coe_toReal h1.1.ne fun hb => ?_).symm
  rw [hb] at h1
  exact absurd h1.2 (by simp)

/-- Arrays that pass the precondition's test hold real numbers. -/
theorem finite_real (q k : S8x8320x256.Idx → EReal) (v : S8x8320x128.Idx → EReal) (o : S8208x1024.Idx → EReal)
    (h : Cert.Pre_finite.fn (F := Ideal) q k v o = fun _ => 1#1) :
    (∀ y, q y = ((q y).toReal : EReal)) ∧ (∀ y, k y = ((k y).toReal : EReal)) ∧ (∀ y, v y = ((v y).toReal : EReal)) ∧ ∀ y, o y = ((o y).toReal : EReal) := by
  have e := congrFun h ix0
  dsimp only [Cert.Pre_finite.fn, Cert.Pre_finite.fn_part1] at e
  obtain ⟨e, e4⟩ := IntOp.andi_eq_one.1 e
  obtain ⟨e, e3⟩ := IntOp.andi_eq_one.1 e
  obtain ⟨e1, e2⟩ := IntOp.andi_eq_one.1 e
  haveI : Subsingleton Cert.Pre_finite.S_.Idx := ⟨fun a b => funext fun i => i.elim0⟩
  exact ⟨fun y => real_of_lt _ (Host.reduce_andi_all _ _ _ _ _ e1 y), fun y => real_of_lt _ (Host.reduce_andi_all _ _ _ _ _ e2 y),
    fun y => real_of_lt _ (Host.reduce_andi_all _ _ _ _ _ e3 y), fun y => real_of_lt _ (Host.reduce_andi_all _ _ _ _ _ e4 y)⟩

/-! ## The kernel's results are the reference's -/

variable (m : (ℓ : Loc nD τ sig) → Buf (Elt Ideal) ℓ) (c : Dev nD)

/-- The queries as launched. -/
abbrev mQ : FVec Ideal S8x8320x256 .bf16 := m ((c.tc : Thread nD τ).loc main_arg0)
/-- The keys as launched. -/
abbrev mK : FVec Ideal S8x8320x256 .bf16 := m ((c.tc : Thread nD τ).loc main_arg1)
/-- The values as launched. -/
abbrev mV : FVec Ideal S8x8320x128 .bf16 := m ((c.tc : Thread nD τ).loc main_arg2)
/-- The output's gradient as launched. -/
abbrev mO : FVec Ideal S8208x1024 .bf16 := m ((c.tc : Thread nD τ).loc main_arg3)

/-- The queries the kernel reads. -/
theorem qF_at (h : Fin 8) (x : Fin 8320) (d : Fin 256) : qF m c h.val x.val d.val = mQ m c (ix3 h x d) := by
  unfold qF
  rw [V_main_arg0]
  exact (rd3_eq (n0 := 8) (n1 := 8320) (n2 := 256) _ (ix3 h x d) rfl rfl rfl).symm
/-- The keys the kernel reads. -/
theorem kF_at (h : Fin 8) (x : Fin 8320) (d : Fin 256) : kF m c h.val x.val d.val = mK m c (ix3 h x d) := by
  unfold kF
  rw [V_main_arg1]
  exact (rd3_eq (n0 := 8) (n1 := 8320) (n2 := 256) _ (ix3 h x d) rfl rfl rfl).symm
/-- The values the kernel reads. -/
theorem vF_at (h : Fin 8) (x : Fin 8320) (e : Fin 128) : vF m c h.val x.val e.val = mV m c (ix3 h x e) := by
  unfold vF
  rw [V_main_arg2]
  exact (rd3_eq (n0 := 8) (n1 := 8320) (n2 := 128) _ (ix3 h x e) rfl rfl rfl).symm
/-- The output's gradient the kernel reads. -/
theorem oF_all (h : Fin 8) (x : Fin 8320) (e : Fin 128) : oF m c h.val x.val e.val
    = if g : 112 ≤ x.val then mO m c (ix2 ⟨x.val - 112, by omega⟩ ⟨h.val * 128 + e.val, by omega⟩) else 0 := by
  unfold oF
  rw [V_cot]
  refine (rd2_eq (n0 := 8320) (n1 := 1024) _ (ix2 x ⟨h.val * 128 + e.val, by omega⟩) rfl ?_).symm.trans ?_
  · show h.val * 128 + e.val = 128 * h.val + e.val
    omega
  · exact cot_at _ x _
/-- The output's gradient at a row that is not in front. -/
theorem oF_at (h : Fin 8) (x : Fin 8208) (e : Fin 128) : oF m c h.val (112 + x.val) e.val = byHead (mO m c) (ix3 x h e) := by
  rw [byHead_at]
  refine (oF_all m c h ⟨112 + x.val, by omega⟩ e).trans ?_
  rw [dif_pos (Nat.le_add_right 112 x.val)]
  exact congrArg _ (congrArg (fun a => ix2 a _) (Fin.ext (Nat.add_sub_cancel_left 112 x.val)))
/-- The output's gradient at a row in front. -/
theorem oF_front (h : Fin 8) (x : ℕ) (e : Fin 128) (hx : x < 112) : oF m c h.val x e.val = 0 := by
  refine (oF_all m c h ⟨x, by omega⟩ e).trans ?_
  rw [dif_neg]
  show ¬ 112 ≤ x
  omega
/-- The log-sum-exp the kernel reads. -/
theorem lF_at (h : Fin 8) (x : Fin 8208) : lF m c h.val (112 + x.val) = lse (sc (mQ m c) (mK m c)) (ix2 h x) := by
  unfold lF
  rw [V_lse]
  refine (rd3_eq (n0 := 8) (n1 := 1) (n2 := 8320) _ (ix3 h 0 ⟨112 + x.val, by omega⟩) rfl rfl rfl).symm.trans ?_
  refine (front_at _ h _).trans ?_
  rw [dif_pos (Nat.le_add_right 112 x.val)]
  exact congrArg _ (congrArg (fun a => ix2 h a) (Fin.ext (Nat.add_sub_cancel_left 112 x.val)))
/-- The row products the kernel reads. -/
theorem dF_at (h : Fin 8) (x : Fin 8208) : dF m c h.val (112 + x.val) = delta (rows128 (mV m c)) (sc (mQ m c) (mK m c)) (mO m c) (ix2 h x) := by
  unfold dF
  rw [V_delta]
  refine (rd3_eq (n0 := 8) (n1 := 1) (n2 := 8320) _ (ix3 h 0 ⟨112 + x.val, by omega⟩) rfl rfl rfl).symm.trans ?_
  refine (front_at _ h _).trans ?_
  rw [dif_pos (Nat.le_add_right 112 x.val)]
  exact congrArg _ (congrArg (fun a => ix2 h a) (Fin.ext (Nat.add_sub_cancel_left 112 x.val)))
/-- The row products of a row in front. -/
theorem dF_front (h : Fin 8) (x : ℕ) (hx : x < 112) : dF m c h.val x = 0 := by
  unfold dF
  rw [V_delta]
  refine (rd3_eq (n0 := 8) (n1 := 1) (n2 := 8320) _ (ix3 h 0 ⟨x, by omega⟩) rfl rfl rfl).symm.trans ?_
  refine (front_at _ h _).trans ?_
  rw [dif_neg]
  show ¬ 112 ≤ x
  omega

variable (fin : Cert.Pre_finite.fn (F := Ideal) (mQ m c) (mK m c) (mV m c) (mO m c) = fun _ => 1#1)

include fin in
/-- The queries' gradient is the reference's. -/
theorem meet_q : gq m c = outQ (mQ m c) (mK m c) (mV m c) (mO m c) := by
  obtain ⟨h1, h2, h3, h4⟩ := finite_real _ _ _ _ fin
  funext y
  rw [eq_ix3 y]
  refine (gq_at m c _ _ _ _ rfl rfl rfl).trans ?_
  exact same_q _ _ _ _ _ _ _ _ h1 h2 h3 h4 (y 0) _ _ _ _ _ _ (qF_at m c _) (kF_at m c _) (vF_at m c _) (oF_at m c _)
    (oF_front m c _) (lF_at m c _) (dF_at m c _) (dF_front m c _) (y 1) (y 2)

include fin in
/-- The keys' gradient is the reference's. -/
theorem meet_k : gk m c = outK (mQ m c) (mK m c) (mV m c) (mO m c) := by
  obtain ⟨h1, h2, h3, h4⟩ := finite_real _ _ _ _ fin
  funext y
  rw [eq_ix3 y]
  refine (gk_at m c _ _ _ _ rfl rfl rfl).trans ?_
  exact same_k _ _ _ _ _ _ _ _ h1 h2 h3 h4 (y 0) _ _ _ _ _ _ (qF_at m c _) (kF_at m c _) (vF_at m c _) (oF_at m c _)
    (oF_front m c _) (lF_at m c _) (dF_at m c _) (dF_front m c _) (y 1) (y 2)

include fin in
/-- The values' gradient is the reference's. -/
theorem meet_v : gv m c = outV (mQ m c) (mK m c) (mO m c) := by
  obtain ⟨h1, h2, _, _⟩ := finite_real _ _ _ _ fin
  funext y
  rw [eq_ix3 y]
  refine (gv_at m c _ _ _ _ rfl rfl rfl).trans ?_
  exact same_v _ _ _ _ _ h1 h2 (y 0) _ _ _ _ (qF_at m c _) (kF_at m c _) (oF_at m c _)
    (oF_front m c _) (lF_at m c _) (y 1) (y 2)

end Cert.KernelIdeal.Hand
-- ==== Proof.WordA.lean ====
module
public import proofs.«01_k».proof.Proof.Gen.Kernel.Frame
public import proofs.«01_k».proof.Proof.Gen.Kernel.Loops
public import Idealize.ShloMosaic.Lib.Pipeline.FrameBody
public import Idealize.ShloMosaic.Lib.Tactic
public import Idealize.ShloMosaic.PureOps.BitExact
@[expose] public section
set_option maxRecDepth 16384
noncomputable section
namespace Cert.Kernel.Hand
open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Bits) ℕ (UR sig nD τ) ℕ

set_option maxHeartbeats 1000000 in
/-- The kernel on machine words, at a head's first key blocks: from blocks of any contents it runs to its end and hands every block back. -/
theorem bodyA (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole) (hc0 : ((Scalar.cmpi .ne (Scalar.extui (Scalar.cmpi .eq (BitVec.ofNat 32 (i 1).val) 0#32)) 0#32) = 1#1)) (hc1 : (k0_cond2 i = 1#1)) (hc2 : ¬(k0_cond3 i = 1#1))
    (x0 : Vec Bits S1x8320x256 .bf16) (x1 : Vec Bits S1x1664x256 .bf16) (x2 : Vec Bits S1x1664x128 .bf16) (x3 : Vec Bits S8320x128 .bf16) (x4 : Vec Bits S1x1x8320 .f32) (x5 : Vec Bits S1x1x8320 .f32) (x6 : Vec Bits S1x8320x256 .f32)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)) -∗ K ⟨⟩))
          ⊢ wp frame (wpE (defs₀ (F := Bits)) Variants.none c none) E (cc0_flash_bwd i a2 w2 a3 w3 a4 w4 a5 w5 a6 w6 a7 w7 a8 w8 a9 w9 a10 w10 a11 w11 a12 w12) K := by
    simp only [cc0_flash_bwd_eq_skeleton]; unfold cc0_flash_bwd_skel
    simp only [k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6
    sl_exec (disch := first | sl_exact hc0 | sl_exact hc1 | sl_exact hc2)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Hand
-- ==== Proof.WordB.lean ====
module
public import proofs.«01_k».proof.Proof.Gen.Kernel.Frame
public import proofs.«01_k».proof.Proof.Gen.Kernel.Loops
public import Idealize.ShloMosaic.Lib.Pipeline.FrameBody
public import Idealize.ShloMosaic.Lib.Tactic
public import Idealize.ShloMosaic.PureOps.BitExact
@[expose] public section
set_option maxRecDepth 16384
noncomputable section
namespace Cert.Kernel.Hand
open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Bits) ℕ (UR sig nD τ) ℕ

set_option maxHeartbeats 1000000 in
/-- The kernel on machine words, at a head's later key blocks: from blocks of any contents it runs to its end and hands every block back. -/
theorem bodyB (c : Dev nD) (i : grid0.Coords) (a2 : Memref sig .tc .vmem S1x8320x256 .bf16) (w2 : a2.IsWhole) (a3 : Memref sig .tc .vmem S1x1664x256 .bf16) (w3 : a3.IsWhole) (a4 : Memref sig .tc .vmem S1x1664x128 .bf16) (w4 : a4.IsWhole) (a5 : Memref sig .tc .vmem S8320x128 .bf16) (w5 : a5.IsWhole) (a6 : Memref sig .tc .vmem S1x1x8320 .f32) (w6 : a6.IsWhole) (a7 : Memref sig .tc .vmem S1x1x8320 .f32) (w7 : a7.IsWhole) (a8 : Memref sig .tc .vmem S1x8320x256 .f32) (w8 : a8.IsWhole) (a9 : Memref sig .tc .vmem S1x1664x256 .bf16) (w9 : a9.IsWhole) (a10 : Memref sig .tc .vmem S1x1664x128 .bf16) (w10 : a10.IsWhole) (a11 : Memref sig .tc .vmem S1664x256 .f32) (w11 : a11.IsWhole) (a12 : Memref sig .tc .vmem S1664x128 .f32) (w12 : a12.IsWhole) (hc0 : ¬((Scalar.cmpi .ne (Scalar.extui (Scalar.cmpi .eq (BitVec.ofNat 32 (i 1).val) 0#32)) 0#32) = 1#1)) (hc1 : ¬(k0_cond2 i = 1#1)) (hc2 : (k0_cond3 i = 1#1))
    (x0 : Vec Bits S1x8320x256 .bf16) (x1 : Vec Bits S1x1664x256 .bf16) (x2 : Vec Bits S1x1664x128 .bf16) (x3 : Vec Bits S8320x128 .bf16) (x4 : Vec Bits S1x1x8320 .f32) (x5 : Vec Bits S1x1x8320 .f32) (x6 : Vec Bits S1x8320x256 .f32)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
            ∗ (iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)) -∗ K ⟨⟩))
          ⊢ wp frame (wpE (defs₀ (F := Bits)) Variants.none c none) E (cc0_flash_bwd i a2 w2 a3 w3 a4 w4 a5 w5 a6 w6 a7 w7 a8 w8 a9 w9 a10 w10 a11 w11 a12 w12) K := by
    simp only [cc0_flash_bwd_eq_skeleton]; unfold cc0_flash_bwd_skel
    simp only [k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6
    sl_exec (disch := first | sl_exact hc0 | sl_exact hc1 | sl_exact hc2)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Hand
-- ==== Proof.Words.lean ====
module
public import proofs.«01_k».proof.Proof.WordA
public import proofs.«01_k».proof.Proof.WordB
@[expose] public section
set_option maxRecDepth 16384
noncomputable section
namespace Cert.Kernel.Hand
open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
local notation "𝕄" => MT nD τ sig Unit (Elt Bits) ℕ (UR sig nD τ) ℕ

/-! ## The branches, point by point -/

/-- Point `t` works on block `t % 5` of the keys. -/
theorem pt_block (t : Fin cfg0.N) : (grid0.coords t 1).val = t.val % 5 := by
  have e1 : (grid0.coords t 1).val = t.val / 1 % 5 := Pipeline.Grid.coords_val t 1 (by decide) rfl
  omega

/-- The first branch is taken at each head's first block. -/
theorem br0 (t : Fin cfg0.N) : (Scalar.cmpi .ne (Scalar.extui (Scalar.cmpi .eq (BitVec.ofNat 32 (grid0.coords t 1).val) 0#32)) 0#32) = 1#1 ↔ t.val % 5 = 0 := by
  rw [pt_block]
  have h5 : t.val % 5 < 5 := Nat.mod_lt _ (by decide)
  generalize t.val % 5 = j at h5 ⊢
  revert j; decide

/-- The second branch is taken at each head's first block. -/
theorem br1 (t : Fin cfg0.N) : k0_cond2 (grid0.coords t) = 1#1 ↔ t.val % 5 = 0 := by
  unfold k0_cond2
  rw [pt_block]
  have h5 : t.val % 5 < 5 := Nat.mod_lt _ (by decide)
  generalize t.val % 5 = j at h5 ⊢
  revert j; decide

/-- The third branch is taken at every other block. -/
theorem br2 : ∀ t : Fin cfg0.N, k0_cond3 (grid0.coords t) = 1#1 ↔ 1 ≤ t.val % 5 :=
  (by decide +kernel : ∀ t : Fin grid0.N, k0_cond3 (grid0.coords t) = 1#1 ↔ 1 ≤ t.val % 5)

variable (m : (ℓ : Loc nD τ sig) → Buf (Elt Bits) ℓ) (ρ : Dev nD → PrngReg)

/-- The pipeline's data on machine words: of what the body leaves in a block nothing is said. -/
def dats (c : Dev nD) : RDat τ (Elt Bits) Unit ℕ (UR sig nD τ) ℕ cfg0 c where
  A w := V m c (Pipeline.arrRef spec0 w)
  after _ _ _ _ := True
  Φ _ := Pipeline.ΦA spec0 c
  q _ := fullShare
  owed _ := 0

/-- The buffers the body is called on at point `t`. -/
abbrev mr0 (t : Fin cfg0.N) : Memref sig .tc .vmem S1x8320x256 .bf16 := win0_0.stage (cfg0.slots t 0)
abbrev mr1 (t : Fin cfg0.N) : Memref sig .tc .vmem S1x1664x256 .bf16 := win0_1.stage (cfg0.slots t 1)
abbrev mr2 (t : Fin cfg0.N) : Memref sig .tc .vmem S1x1664x128 .bf16 := win0_2.stage (cfg0.slots t 2)
abbrev mr3 (t : Fin cfg0.N) : Memref sig .tc .vmem S8320x128 .bf16 := win0_3.stage (cfg0.slots t 3)
abbrev mr4 (t : Fin cfg0.N) : Memref sig .tc .vmem S1x1x8320 .f32 := win0_4.stage (cfg0.slots t 4)
abbrev mr5 (t : Fin cfg0.N) : Memref sig .tc .vmem S1x1x8320 .f32 := win0_5.stage (cfg0.slots t 5)
abbrev mr6 (t : Fin cfg0.N) : Memref sig .tc .vmem S1x8320x256 .f32 := win0_6.stage (cfg0.slots t 6)
abbrev mr7 (t : Fin cfg0.N) : Memref sig .tc .vmem S1x1664x256 .bf16 := win0_7.stage (cfg0.slots t 7)
abbrev mr8 (t : Fin cfg0.N) : Memref sig .tc .vmem S1x1664x128 .bf16 := win0_8.stage (cfg0.slots t 8)

/-- The pipeline's invariant, its two scratch buffers named. -/
theorem inv_eq (c : Dev nD) :
    (Pipeline.ΦA spec0 c : sProp 𝕄)
      = iprop(iprop((∃ d, owns (c : Thread nD τ) (Memref.whole cc0_scratch0 : Memref sig .tc .vmem S1664x256 .f32) fullShare d) ∗ (∃ d, owns (c : Thread nD τ) (Memref.whole cc0_scratch1 : Memref sig .tc .vmem S1664x128 .f32) fullShare d)) ∗ (∃ r, prngReg c r)) := by
  unfold Pipeline.ΦA; rw [scopedRest0_eq]; simp only [owns_whole]; try rfl

/-- What the body starts from at point `t`, its blocks holding `Y`. -/
def pre (c : Dev nD) (t : Fin cfg0.N) (Y : (w : Fin cfg0.W) → (cfg0.win w).block.Idx → Elt Bits (cfg0.win w).elt) : sProp 𝕄 :=
  iprop((dats m c).Φ t.castSucc ∗ (dats m c).owesAt () t.castSucc
    ∗ owns (c : Thread nD τ) (mr0 t) fullShare (Y 0)
    ∗ owns (c : Thread nD τ) (mr1 t) fullShare (Y 1)
    ∗ owns (c : Thread nD τ) (mr2 t) fullShare (Y 2)
    ∗ owns (c : Thread nD τ) (mr3 t) fullShare (Y 3)
    ∗ owns (c : Thread nD τ) (mr4 t) fullShare (Y 4)
    ∗ owns (c : Thread nD τ) (mr5 t) fullShare (Y 5)
    ∗ owns (c : Thread nD τ) (mr6 t) fullShare (Y 6)
    ∗ owns (c : Thread nD τ) (mr7 t) fullShare (Y 7)
    ∗ owns (c : Thread nD τ) (mr8 t) fullShare (Y 8))

/-- What it must leave: every block, at any contents. -/
def post (c : Dev nD) (t : Fin cfg0.N) : sProp 𝕄 :=
  iprop((dats m c).Φ t.succ ∗ (dats m c).owesAt () t.succ
    ∗ (∃ X, ⌜True⌝ ∗ owns (c : Thread nD τ) (mr0 t) fullShare X)
    ∗ (∃ X, ⌜True⌝ ∗ owns (c : Thread nD τ) (mr1 t) fullShare X)
    ∗ (∃ X, ⌜True⌝ ∗ owns (c : Thread nD τ) (mr2 t) fullShare X)
    ∗ (∃ X, ⌜True⌝ ∗ owns (c : Thread nD τ) (mr3 t) fullShare X)
    ∗ (∃ X, ⌜True⌝ ∗ owns (c : Thread nD τ) (mr4 t) fullShare X)
    ∗ (∃ X, ⌜True⌝ ∗ owns (c : Thread nD τ) (mr5 t) fullShare X)
    ∗ (∃ X, ⌜True⌝ ∗ owns (c : Thread nD τ) (mr6 t) fullShare X)
    ∗ (∃ X, ⌜True⌝ ∗ owns (c : Thread nD τ) (mr7 t) fullShare X)
    ∗ (∃ X, ⌜True⌝ ∗ owns (c : Thread nD τ) (mr8 t) fullShare X))

set_option maxHeartbeats 1600000 in
/-- The body at a head's first block. -/
theorem pointA (c : Dev nD) (t : Fin cfg0.N) (h : t.val % 5 = 0) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  unfold pre post bodyAt0
  rw [show (dats m c).Φ t.succ = (dats m c).Φ t.castSucc from rfl,
    show (dats m c).owesAt () t.succ = (dats m c).owesAt () t.castSucc from rfl]
  rw [show (dats m c).Φ t.castSucc = Pipeline.ΦA spec0 c from rfl, inv_eq]
  iintro ⟨⟨⟨HS0, HS1⟩, Hg⟩, Ho, H0, H1, H2, H3, H4, H5, H6, H7, H8⟩
  iapply (bodyA c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (mr5 t) (hstage0_5 ((cfg0.slots t 5).cast nbuf0_5)) (mr6 t) (hstage0_6 ((cfg0.slots t 6).cast nbuf0_6)) (mr7 t) (hstage0_7 ((cfg0.slots t 7).cast nbuf0_7)) (mr8 t) (hstage0_8 ((cfg0.slots t 8).cast nbuf0_8)) (Memref.whole cc0_scratch0) (Memref.isWhole_whole _) (Memref.whole cc0_scratch1) (Memref.isWhole_whole _) ((br0 t).mpr h) ((br1 t).mpr h) (fun h2 => by have := (br2 t).mp h2; omega) (Y 0) (Y 1) (Y 2) (Y 3) (Y 4) (Y 5) (Y 6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  isplitl [H7]
  · iexists _; isplitr; · ipureintro; trivial
    iexact H7
  iexists _; isplitr; · ipureintro; trivial
  iexact H8

set_option maxHeartbeats 1600000 in
/-- The body at any later block. -/
theorem pointB (c : Dev nD) (t : Fin cfg0.N) (h : 1 ≤ t.val % 5) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  unfold pre post bodyAt0
  rw [show (dats m c).Φ t.succ = (dats m c).Φ t.castSucc from rfl,
    show (dats m c).owesAt () t.succ = (dats m c).owesAt () t.castSucc from rfl]
  rw [show (dats m c).Φ t.castSucc = Pipeline.ΦA spec0 c from rfl, inv_eq]
  iintro ⟨⟨⟨HS0, HS1⟩, Hg⟩, Ho, H0, H1, H2, H3, H4, H5, H6, H7, H8⟩
  iapply (bodyB c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (mr5 t) (hstage0_5 ((cfg0.slots t 5).cast nbuf0_5)) (mr6 t) (hstage0_6 ((cfg0.slots t 6).cast nbuf0_6)) (mr7 t) (hstage0_7 ((cfg0.slots t 7).cast nbuf0_7)) (mr8 t) (hstage0_8 ((cfg0.slots t 8).cast nbuf0_8)) (Memref.whole cc0_scratch0) (Memref.isWhole_whole _) (Memref.whole cc0_scratch1) (Memref.isWhole_whole _) (fun h0 => by have := (br0 t).mp h0; omega) (fun h1 => by have := (br1 t).mp h1; omega) ((br2 t).mpr h) (Y 0) (Y 1) (Y 2) (Y 3) (Y 4) (Y 5) (Y 6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  isplitl [H7]
  · iexists _; isplitr; · ipureintro; trivial
    iexact H7
  iexists _; isplitr; · ipureintro; trivial
  iexact H8

/-- The body at any point. -/
theorem point_any (c : Dev nD) (t : Fin cfg0.N) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  by_cases h : t.val % 5 = 0
  · exact pointA m c t h Y
  · exact pointB m c t (by omega) Y

/-- The body table's row at point `t` is the body. -/
theorem row_eq (t : Fin cfg0.N) :
    defs₀ (F := Bits) .tc cfg0.body (cfg0.bodyArgs t (cfg0.slots t)) = bodyAt0 t := by
  unfold defs₀; rw [Defs.onTc_tc]

/-- The obligation of the pipeline's body. -/
theorem obligation (c : Dev nD) : (dats m c).BodyObligation (defs₀ (F := Bits)) Variants.none () Set.univ := fun t Y _ => by
  rw [bigSep_W0, bigSep_W0, row_eq]
  exact triple_restated (point_any m c t Y) rfl .rfl fun _ => .rfl

/-- Each array is held whole. -/
theorem share_full (c : Dev nD) (w : Fin cfg0.W) : (dats m c).share w = fullShare := by
  unfold RDat.share; split <;> rfl

set_option backward.isDefEq.respectTransparency.types false in
set_option maxHeartbeats 2000000 in
/-- The run on machine words: every execution ends, the arguments as they were and no signal left. -/
theorem run_words : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.RDat.θ_run_frame cfgs (0 : Fin 1) launch0 defs₀ Variants.none (dats m) m ρ main
    (hbody := obligation m) (hshare := share_full m)
    (howed := fun _ _ => rfl) (V := V m) (hmain := hmain m Variants.none) (hA := fun _ _ => rfl) (hΦ := fun _ _ => rfl)
    (Q' := _) (hQ' := fun _ h => ⟨fun c => ⟨(h.1.arr_in c 0 rfl).trans (V_main_arg0 m c), (h.1.arr_in c 1 rfl).trans (V_main_arg1 m c),
      (h.1.arr_in c 2 rfl).trans (V_main_arg2 m c),
      ((h.1 c).2 main_arg3 (Pipeline.mem_restRefs_of main_arg3 (by decide) (by decide))).trans (V_main_arg3 m c)⟩, h.2⟩)

end Cert.Kernel.Hand
-- ==== Proof.FwdLoop.lean ====
module
public import proofs.«01_k».proof.Proof.Gen.Kernel2Ideal.Frame
public import proofs.«01_k».proof.Proof.Gen.Kernel2Ideal.Points
public import proofs.«01_k».proof.Proof.Gen.Kernel2Ideal.Loops
public import Idealize.ShloMosaic.Lib.Pipeline.FrameBody
public import Idealize.ShloMosaic.Lib.VecWindow
public import Idealize.ShloMosaic.Lib.Ring
public import Idealize.ShloMosaic.Lib.Tactic
@[expose] public section
set_option maxRecDepth 16384
noncomputable section
namespace Cert.Kernel2Ideal.Hand
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (UR sig nD τ) ℕ

/-- The loop over what is left after the whole steps makes no trip. -/
theorem no_rest (i : grid0.Coords) (h : k0_cond2 i = 1#1) : (k0_t2_loop i).trips = 0 := by
  have h5 : (i 1).val < 5 := (i 1).isLt
  revert h
  unfold k0_cond2 k0_t2_loop
  generalize (i 1).val = j at h5 ⊢
  revert j; decide

/-- What one trip of the loop over whole key blocks owns: the three inputs and the twelve running buffers. -/
abbrev Own (c : Dev nD) (a2 : Memref sig .tc .vmem S1x1664x256 .bf16) (_w2 : a2.IsWhole) (a3 : Memref sig .tc .vmem S1x8320x256 .bf16) (_w3 : a3.IsWhole) (a4 : Memref sig .tc .vmem S1x8320x128 .bf16) (_w4 : a4.IsWhole) (a5 : Memref sig .tc .vmem S1664x128 .bf16) (_w5 : a5.IsWhole) (a6 : Memref sig .tc .vmem S1x1664x1 .f32) (_w6 : a6.IsWhole) (a7 : Memref sig .tc .vmem S416x1 .f32) (_w7 : a7.IsWhole) (a8 : Memref sig .tc .vmem S416x1 .f32) (_w8 : a8.IsWhole) (a9 : Memref sig .tc .vmem S416x1 .f32) (_w9 : a9.IsWhole) (a10 : Memref sig .tc .vmem S416x1 .f32) (_w10 : a10.IsWhole) (a11 : Memref sig .tc .vmem S416x1 .f32) (_w11 : a11.IsWhole) (a12 : Memref sig .tc .vmem S416x1 .f32) (_w12 : a12.IsWhole) (a13 : Memref sig .tc .vmem S416x1 .f32) (_w13 : a13.IsWhole) (a14 : Memref sig .tc .vmem S416x1 .f32) (_w14 : a14.IsWhole) (a15 : Memref sig .tc .vmem S416x128 .f32) (_w15 : a15.IsWhole) (a16 : Memref sig .tc .vmem S416x128 .f32) (_w16 : a16.IsWhole) (a17 : Memref sig .tc .vmem S416x128 .f32) (_w17 : a17.IsWhole) (a18 : Memref sig .tc .vmem S416x128 .f32) (_w18 : a18.IsWhole) (X2 : BufTy.Contents (Elt Ideal) a2.view.ty) (X3 : BufTy.Contents (Elt Ideal) a3.view.ty) (X4 : BufTy.Contents (Elt Ideal) a4.view.ty) (G7 : BufTy.Contents (Elt Ideal) a7.view.ty) (G8 : BufTy.Contents (Elt Ideal) a8.view.ty) (G9 : BufTy.Contents (Elt Ideal) a9.view.ty) (G10 : BufTy.Contents (Elt Ideal) a10.view.ty) (G11 : BufTy.Contents (Elt Ideal) a11.view.ty) (G12 : BufTy.Contents (Elt Ideal) a12.view.ty) (G13 : BufTy.Contents (Elt Ideal) a13.view.ty) (G14 : BufTy.Contents (Elt Ideal) a14.view.ty) (G15 : BufTy.Contents (Elt Ideal) a15.view.ty) (G16 : BufTy.Contents (Elt Ideal) a16.view.ty) (G17 : BufTy.Contents (Elt Ideal) a17.view.ty) (G18 : BufTy.Contents (Elt Ideal) a18.view.ty) : sProp 𝕄 :=
  iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a7.view.loc (c : Thread nD τ) ↦[a7.view.set]{fullShare} G7) ∗ (a8.view.loc (c : Thread nD τ) ↦[a8.view.set]{fullShare} G8) ∗ (a9.view.loc (c : Thread nD τ) ↦[a9.view.set]{fullShare} G9) ∗ (a10.view.loc (c : Thread nD τ) ↦[a10.view.set]{fullShare} G10) ∗ (a11.view.loc (c : Thread nD τ) ↦[a11.view.set]{fullShare} G11) ∗ (a12.view.loc (c : Thread nD τ) ↦[a12.view.set]{fullShare} G12) ∗ (a13.view.loc (c : Thread nD τ) ↦[a13.view.set]{fullShare} G13) ∗ (a14.view.loc (c : Thread nD τ) ↦[a14.view.set]{fullShare} G14) ∗ (a15.view.loc (c : Thread nD τ) ↦[a15.view.set]{fullShare} G15) ∗ (a16.view.loc (c : Thread nD τ) ↦[a16.view.set]{fullShare} G16) ∗ (a17.view.loc (c : Thread nD τ) ↦[a17.view.set]{fullShare} G17) ∗ (a18.view.loc (c : Thread nD τ) ↦[a18.view.set]{fullShare} G18))

/-- What one trip stores in each running buffer, as functions of the contents it finds in the buffers of the same chain. -/
structure Lists (a2 : Memref sig .tc .vmem S1x1664x256 .bf16) (_w2 : a2.IsWhole) (a3 : Memref sig .tc .vmem S1x8320x256 .bf16) (_w3 : a3.IsWhole) (a4 : Memref sig .tc .vmem S1x8320x128 .bf16) (_w4 : a4.IsWhole) (a5 : Memref sig .tc .vmem S1664x128 .bf16) (_w5 : a5.IsWhole) (a6 : Memref sig .tc .vmem S1x1664x1 .f32) (_w6 : a6.IsWhole) (a7 : Memref sig .tc .vmem S416x1 .f32) (_w7 : a7.IsWhole) (a8 : Memref sig .tc .vmem S416x1 .f32) (_w8 : a8.IsWhole) (a9 : Memref sig .tc .vmem S416x1 .f32) (_w9 : a9.IsWhole) (a10 : Memref sig .tc .vmem S416x1 .f32) (_w10 : a10.IsWhole) (a11 : Memref sig .tc .vmem S416x1 .f32) (_w11 : a11.IsWhole) (a12 : Memref sig .tc .vmem S416x1 .f32) (_w12 : a12.IsWhole) (a13 : Memref sig .tc .vmem S416x1 .f32) (_w13 : a13.IsWhole) (a14 : Memref sig .tc .vmem S416x1 .f32) (_w14 : a14.IsWhole) (a15 : Memref sig .tc .vmem S416x128 .f32) (_w15 : a15.IsWhole) (a16 : Memref sig .tc .vmem S416x128 .f32) (_w16 : a16.IsWhole) (a17 : Memref sig .tc .vmem S416x128 .f32) (_w17 : a17.IsWhole) (a18 : Memref sig .tc .vmem S416x128 .f32) (_w18 : a18.IsWhole) where
  l7 : BufTy.Contents (Elt Ideal) a7.view.ty → BufTy.Contents (Elt Ideal) a11.view.ty → BufTy.Contents (Elt Ideal) a15.view.ty → List (View.Piece (Elt Ideal) S416x1 .f32)
  l8 : BufTy.Contents (Elt Ideal) a8.view.ty → BufTy.Contents (Elt Ideal) a12.view.ty → BufTy.Contents (Elt Ideal) a16.view.ty → List (View.Piece (Elt Ideal) S416x1 .f32)
  l9 : BufTy.Contents (Elt Ideal) a9.view.ty → BufTy.Contents (Elt Ideal) a13.view.ty → BufTy.Contents (Elt Ideal) a17.view.ty → List (View.Piece (Elt Ideal) S416x1 .f32)
  l10 : BufTy.Contents (Elt Ideal) a10.view.ty → BufTy.Contents (Elt Ideal) a14.view.ty → BufTy.Contents (Elt Ideal) a18.view.ty → List (View.Piece (Elt Ideal) S416x1 .f32)
  l11 : BufTy.Contents (Elt Ideal) a7.view.ty → BufTy.Contents (Elt Ideal) a11.view.ty → BufTy.Contents (Elt Ideal) a15.view.ty → List (View.Piece (Elt Ideal) S416x1 .f32)
  l12 : BufTy.Contents (Elt Ideal) a8.view.ty → BufTy.Contents (Elt Ideal) a12.view.ty → BufTy.Contents (Elt Ideal) a16.view.ty → List (View.Piece (Elt Ideal) S416x1 .f32)
  l13 : BufTy.Contents (Elt Ideal) a9.view.ty → BufTy.Contents (Elt Ideal) a13.view.ty → BufTy.Contents (Elt Ideal) a17.view.ty → List (View.Piece (Elt Ideal) S416x1 .f32)
  l14 : BufTy.Contents (Elt Ideal) a10.view.ty → BufTy.Contents (Elt Ideal) a14.view.ty → BufTy.Contents (Elt Ideal) a18.view.ty → List (View.Piece (Elt Ideal) S416x1 .f32)
  l15 : BufTy.Contents (Elt Ideal) a7.view.ty → BufTy.Contents (Elt Ideal) a11.view.ty → BufTy.Contents (Elt Ideal) a15.view.ty → List (View.Piece (Elt Ideal) S416x128 .f32)
  l16 : BufTy.Contents (Elt Ideal) a8.view.ty → BufTy.Contents (Elt Ideal) a12.view.ty → BufTy.Contents (Elt Ideal) a16.view.ty → List (View.Piece (Elt Ideal) S416x128 .f32)
  l17 : BufTy.Contents (Elt Ideal) a9.view.ty → BufTy.Contents (Elt Ideal) a13.view.ty → BufTy.Contents (Elt Ideal) a17.view.ty → List (View.Piece (Elt Ideal) S416x128 .f32)
  l18 : BufTy.Contents (Elt Ideal) a10.view.ty → BufTy.Contents (Elt Ideal) a14.view.ty → BufTy.Contents (Elt Ideal) a18.view.ty → List (View.Piece (Elt Ideal) S416x128 .f32)

/-- The contents of the running buffers, one after another. -/
structure Bufs (a2 : Memref sig .tc .vmem S1x1664x256 .bf16) (_w2 : a2.IsWhole) (a3 : Memref sig .tc .vmem S1x8320x256 .bf16) (_w3 : a3.IsWhole) (a4 : Memref sig .tc .vmem S1x8320x128 .bf16) (_w4 : a4.IsWhole) (a5 : Memref sig .tc .vmem S1664x128 .bf16) (_w5 : a5.IsWhole) (a6 : Memref sig .tc .vmem S1x1664x1 .f32) (_w6 : a6.IsWhole) (a7 : Memref sig .tc .vmem S416x1 .f32) (_w7 : a7.IsWhole) (a8 : Memref sig .tc .vmem S416x1 .f32) (_w8 : a8.IsWhole) (a9 : Memref sig .tc .vmem S416x1 .f32) (_w9 : a9.IsWhole) (a10 : Memref sig .tc .vmem S416x1 .f32) (_w10 : a10.IsWhole) (a11 : Memref sig .tc .vmem S416x1 .f32) (_w11 : a11.IsWhole) (a12 : Memref sig .tc .vmem S416x1 .f32) (_w12 : a12.IsWhole) (a13 : Memref sig .tc .vmem S416x1 .f32) (_w13 : a13.IsWhole) (a14 : Memref sig .tc .vmem S416x1 .f32) (_w14 : a14.IsWhole) (a15 : Memref sig .tc .vmem S416x128 .f32) (_w15 : a15.IsWhole) (a16 : Memref sig .tc .vmem S416x128 .f32) (_w16 : a16.IsWhole) (a17 : Memref sig .tc .vmem S416x128 .f32) (_w17 : a17.IsWhole) (a18 : Memref sig .tc .vmem S416x128 .f32) (_w18 : a18.IsWhole) where
  b7 : BufTy.Contents (Elt Ideal) a7.view.ty
  b8 : BufTy.Contents (Elt Ideal) a8.view.ty
  b9 : BufTy.Contents (Elt Ideal) a9.view.ty
  b10 : BufTy.Contents (Elt Ideal) a10.view.ty
  b11 : BufTy.Contents (Elt Ideal) a11.view.ty
  b12 : BufTy.Contents (Elt Ideal) a12.view.ty
  b13 : BufTy.Contents (Elt Ideal) a13.view.ty
  b14 : BufTy.Contents (Elt Ideal) a14.view.ty
  b15 : BufTy.Contents (Elt Ideal) a15.view.ty
  b16 : BufTy.Contents (Elt Ideal) a16.view.ty
  b17 : BufTy.Contents (Elt Ideal) a17.view.ty
  b18 : BufTy.Contents (Elt Ideal) a18.view.ty

/-- What stands before the first trip, or after `n + 1` trips. -/
@[reducible] def sel {α : Type} (k : ℕ) (a : α) (b : ℕ → α) : α := match k with
  | 0 => a
  | n + 1 => b n

/-- The running buffers' contents, before the first trip written apart. -/
theorem sel_eq {α : Type} (k : ℕ) (b : ℕ → α) : sel k (b 0) (fun n => b (n + 1)) = b k := by
  cases k <;> rfl

section
variable (c : Dev nD) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (a1 : BitVec 32) (k0_h2 : k0_cond2 i = 1#1) (c1_i32 : BitVec 32) (X2 : BufTy.Contents (Elt Ideal) a2.view.ty) (X3 : BufTy.Contents (Elt Ideal) a3.view.ty) (X4 : BufTy.Contents (Elt Ideal) a4.view.ty)
include c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4

set_option maxHeartbeats 1000000 in
/-- One trip of the loop over whole key blocks: what it stores in each of the twelve running buffers, with the triple. -/
@[irreducible] def trip (k : Fin (k0_t1_loop i).trips) :
    Σ' (L : Lists a2 w2 a3 w3 a4 w4 a5 w5 a6 w6 a7 w7 a8 w8 a9 w9 a10 w10 a11 w11 a12 w12 a13 w13 a14 w14 a15 w15 a16 w16 a17 w17 a18 w18), ∀ (E : Set ℕ) (G7 : BufTy.Contents (Elt Ideal) a7.view.ty) (G8 : BufTy.Contents (Elt Ideal) a8.view.ty) (G9 : BufTy.Contents (Elt Ideal) a9.view.ty) (G10 : BufTy.Contents (Elt Ideal) a10.view.ty) (G11 : BufTy.Contents (Elt Ideal) a11.view.ty) (G12 : BufTy.Contents (Elt Ideal) a12.view.ty) (G13 : BufTy.Contents (Elt Ideal) a13.view.ty) (G14 : BufTy.Contents (Elt Ideal) a14.view.ty) (G15 : BufTy.Contents (Elt Ideal) a15.view.ty) (G16 : BufTy.Contents (Elt Ideal) a16.view.ty) (G17 : BufTy.Contents (Elt Ideal) a17.view.ty) (G18 : BufTy.Contents (Elt Ideal) a18.view.ty),
      Own c a2 w2 a3 w3 a4 w4 a5 w5 a6 w6 a7 w7 a8 w8 a9 w9 a10 w10 a11 w11 a12 w12 a13 w13 a14 w14 a15 w15 a16 w16 a17 w17 a18 w18 X2 X3 X4 G7 G8 G9 G10 G11 G12 G13 G14 G15 G16 G17 G18
      ⊢ wp frame (wpE (defs₀ (F := Ideal)) Variants.none (c : Thread nD τ) none) E (k0_t1_body (F := Ideal) i a2 w2 a3 w3 a4 w4 a5 w5 a6 w6 a7 w7 a8 w8 a9 w9 a10 w10 a11 w11 a12 w12 a13 w13 a14 w14 a15 w15 a16 w16 a17 w17 a18 w18 a1 k0_h2 c1_i32 k PUnit.unit)
          (fun _ => Own c a2 w2 a3 w3 a4 w4 a5 w5 a6 w6 a7 w7 a8 w8 a9 w9 a10 w10 a11 w11 a12 w12 a13 w13 a14 w14 a15 w15 a16 w16 a17 w17 a18 w18 X2 X3 X4 (a7.view.writes (Elt Ideal) G7 (L.l7 G7 G11 G15)) (a8.view.writes (Elt Ideal) G8 (L.l8 G8 G12 G16)) (a9.view.writes (Elt Ideal) G9 (L.l9 G9 G13 G17)) (a10.view.writes (Elt Ideal) G10 (L.l10 G10 G14 G18)) (a11.view.writes (Elt Ideal) G11 (L.l11 G7 G11 G15)) (a12.view.writes (Elt Ideal) G12 (L.l12 G8 G12 G16)) (a13.view.writes (Elt Ideal) G13 (L.l13 G9 G13 G17)) (a14.view.writes (Elt Ideal) G14 (L.l14 G10 G14 G18)) (a15.view.writes (Elt Ideal) G15 (L.l15 G7 G11 G15)) (a16.view.writes (Elt Ideal) G16 (L.l16 G8 G12 G16)) (a17.view.writes (Elt Ideal) G17 (L.l17 G9 G13 G17)) (a18.view.writes (Elt Ideal) G18 (L.l18 G10 G14 G18))) := by
  refine ⟨⟨?_, ?_, ?_, ?_, ?_, ?_, ?_, ?_, ?_, ?_, ?_, ?_⟩, fun E G7 G8 G9 G10 G11 G12 G13 G14 G15 G16 G17 G18 => ?run⟩
  case run =>
    unfold k0_t1_body
    dsimp only
    iintro ⟨H2, H3, H4, H7, H8, H9, H10, H11, H12, H13, H14, H15, H16, H17, H18⟩
    sl_exec
    sl_step
    sl_close

/-- What one trip makes of the running buffers. -/
@[irreducible] def stepB (k : ℕ) (p : Bufs a2 w2 a3 w3 a4 w4 a5 w5 a6 w6 a7 w7 a8 w8 a9 w9 a10 w10 a11 w11 a12 w12 a13 w13 a14 w14 a15 w15 a16 w16 a17 w17 a18 w18) : Bufs a2 w2 a3 w3 a4 w4 a5 w5 a6 w6 a7 w7 a8 w8 a9 w9 a10 w10 a11 w11 a12 w12 a13 w13 a14 w14 a15 w15 a16 w16 a17 w17 a18 w18 :=
  if h : k < (k0_t1_loop i).trips then
    (fun L : Lists a2 w2 a3 w3 a4 w4 a5 w5 a6 w6 a7 w7 a8 w8 a9 w9 a10 w10 a11 w11 a12 w12 a13 w13 a14 w14 a15 w15 a16 w16 a17 w17 a18 w18 => (⟨a7.view.writes (Elt Ideal) p.b7 (L.l7 p.b7 p.b11 p.b15),
      a8.view.writes (Elt Ideal) p.b8 (L.l8 p.b8 p.b12 p.b16),
      a9.view.writes (Elt Ideal) p.b9 (L.l9 p.b9 p.b13 p.b17),
      a10.view.writes (Elt Ideal) p.b10 (L.l10 p.b10 p.b14 p.b18),
      a11.view.writes (Elt Ideal) p.b11 (L.l11 p.b7 p.b11 p.b15),
      a12.view.writes (Elt Ideal) p.b12 (L.l12 p.b8 p.b12 p.b16),
      a13.view.writes (Elt Ideal) p.b13 (L.l13 p.b9 p.b13 p.b17),
      a14.view.writes (Elt Ideal) p.b14 (L.l14 p.b10 p.b14 p.b18),
      a15.view.writes (Elt Ideal) p.b15 (L.l15 p.b7 p.b11 p.b15),
      a16.view.writes (Elt Ideal) p.b16 (L.l16 p.b8 p.b12 p.b16),
      a17.view.writes (Elt Ideal) p.b17 (L.l17 p.b9 p.b13 p.b17),
      a18.view.writes (Elt Ideal) p.b18 (L.l18 p.b10 p.b14 p.b18)⟩ : Bufs a2 w2 a3 w3 a4 w4 a5 w5 a6 w6 a7 w7 a8 w8 a9 w9 a10 w10 a11 w11 a12 w12 a13 w13 a14 w14 a15 w15 a16 w16 a17 w17 a18 w18)) (trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 ⟨k, h⟩).1
  else p

/-- A trip's effect on running buffer 7. -/
theorem step_b7 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f7 : BufTy.Contents (Elt Ideal) a7.view.ty) (f11 : BufTy.Contents (Elt Ideal) a11.view.ty) (f15 : BufTy.Contents (Elt Ideal) a15.view.ty) (h7 : f7 = p.b7) (h11 : f11 = p.b11) (h15 : f15 = p.b15) :
    a7.view.writes (Elt Ideal) f7 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l7 f7 f11 f15) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b7 := by
  subst h7 h11 h15
  unfold stepB
  rw [dif_pos k.isLt]

/-- A trip's effect on running buffer 8. -/
theorem step_b8 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f8 : BufTy.Contents (Elt Ideal) a8.view.ty) (f12 : BufTy.Contents (Elt Ideal) a12.view.ty) (f16 : BufTy.Contents (Elt Ideal) a16.view.ty) (h8 : f8 = p.b8) (h12 : f12 = p.b12) (h16 : f16 = p.b16) :
    a8.view.writes (Elt Ideal) f8 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l8 f8 f12 f16) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b8 := by
  subst h8 h12 h16
  unfold stepB
  rw [dif_pos k.isLt]

/-- A trip's effect on running buffer 9. -/
theorem step_b9 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f9 : BufTy.Contents (Elt Ideal) a9.view.ty) (f13 : BufTy.Contents (Elt Ideal) a13.view.ty) (f17 : BufTy.Contents (Elt Ideal) a17.view.ty) (h9 : f9 = p.b9) (h13 : f13 = p.b13) (h17 : f17 = p.b17) :
    a9.view.writes (Elt Ideal) f9 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l9 f9 f13 f17) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b9 := by
  subst h9 h13 h17
  unfold stepB
  rw [dif_pos k.isLt]

/-- A trip's effect on running buffer 10. -/
theorem step_b10 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f10 : BufTy.Contents (Elt Ideal) a10.view.ty) (f14 : BufTy.Contents (Elt Ideal) a14.view.ty) (f18 : BufTy.Contents (Elt Ideal) a18.view.ty) (h10 : f10 = p.b10) (h14 : f14 = p.b14) (h18 : f18 = p.b18) :
    a10.view.writes (Elt Ideal) f10 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l10 f10 f14 f18) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b10 := by
  subst h10 h14 h18
  unfold stepB
  rw [dif_pos k.isLt]

/-- A trip's effect on running buffer 11. -/
theorem step_b11 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f7 : BufTy.Contents (Elt Ideal) a7.view.ty) (f11 : BufTy.Contents (Elt Ideal) a11.view.ty) (f15 : BufTy.Contents (Elt Ideal) a15.view.ty) (h7 : f7 = p.b7) (h11 : f11 = p.b11) (h15 : f15 = p.b15) :
    a11.view.writes (Elt Ideal) f11 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l11 f7 f11 f15) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b11 := by
  subst h7 h11 h15
  unfold stepB
  rw [dif_pos k.isLt]

/-- A trip's effect on running buffer 12. -/
theorem step_b12 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f8 : BufTy.Contents (Elt Ideal) a8.view.ty) (f12 : BufTy.Contents (Elt Ideal) a12.view.ty) (f16 : BufTy.Contents (Elt Ideal) a16.view.ty) (h8 : f8 = p.b8) (h12 : f12 = p.b12) (h16 : f16 = p.b16) :
    a12.view.writes (Elt Ideal) f12 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l12 f8 f12 f16) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b12 := by
  subst h8 h12 h16
  unfold stepB
  rw [dif_pos k.isLt]

/-- A trip's effect on running buffer 13. -/
theorem step_b13 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f9 : BufTy.Contents (Elt Ideal) a9.view.ty) (f13 : BufTy.Contents (Elt Ideal) a13.view.ty) (f17 : BufTy.Contents (Elt Ideal) a17.view.ty) (h9 : f9 = p.b9) (h13 : f13 = p.b13) (h17 : f17 = p.b17) :
    a13.view.writes (Elt Ideal) f13 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l13 f9 f13 f17) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b13 := by
  subst h9 h13 h17
  unfold stepB
  rw [dif_pos k.isLt]

/-- A trip's effect on running buffer 14. -/
theorem step_b14 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f10 : BufTy.Contents (Elt Ideal) a10.view.ty) (f14 : BufTy.Contents (Elt Ideal) a14.view.ty) (f18 : BufTy.Contents (Elt Ideal) a18.view.ty) (h10 : f10 = p.b10) (h14 : f14 = p.b14) (h18 : f18 = p.b18) :
    a14.view.writes (Elt Ideal) f14 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l14 f10 f14 f18) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b14 := by
  subst h10 h14 h18
  unfold stepB
  rw [dif_pos k.isLt]

/-- A trip's effect on running buffer 15. -/
theorem step_b15 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f7 : BufTy.Contents (Elt Ideal) a7.view.ty) (f11 : BufTy.Contents (Elt Ideal) a11.view.ty) (f15 : BufTy.Contents (Elt Ideal) a15.view.ty) (h7 : f7 = p.b7) (h11 : f11 = p.b11) (h15 : f15 = p.b15) :
    a15.view.writes (Elt Ideal) f15 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l15 f7 f11 f15) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b15 := by
  subst h7 h11 h15
  unfold stepB
  rw [dif_pos k.isLt]

/-- A trip's effect on running buffer 16. -/
theorem step_b16 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f8 : BufTy.Contents (Elt Ideal) a8.view.ty) (f12 : BufTy.Contents (Elt Ideal) a12.view.ty) (f16 : BufTy.Contents (Elt Ideal) a16.view.ty) (h8 : f8 = p.b8) (h12 : f12 = p.b12) (h16 : f16 = p.b16) :
    a16.view.writes (Elt Ideal) f16 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l16 f8 f12 f16) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b16 := by
  subst h8 h12 h16
  unfold stepB
  rw [dif_pos k.isLt]

/-- A trip's effect on running buffer 17. -/
theorem step_b17 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f9 : BufTy.Contents (Elt Ideal) a9.view.ty) (f13 : BufTy.Contents (Elt Ideal) a13.view.ty) (f17 : BufTy.Contents (Elt Ideal) a17.view.ty) (h9 : f9 = p.b9) (h13 : f13 = p.b13) (h17 : f17 = p.b17) :
    a17.view.writes (Elt Ideal) f17 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l17 f9 f13 f17) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b17 := by
  subst h9 h13 h17
  unfold stepB
  rw [dif_pos k.isLt]

/-- A trip's effect on running buffer 18. -/
theorem step_b18 (k : Fin (k0_t1_loop i).trips) (p : Bufs a2 w2 a3 w3 a4 w4 a5 w5 a6 w6 a7 w7 a8 w8 a9 w9 a10 w10 a11 w11 a12 w12 a13 w13 a14 w14 a15 w15 a16 w16 a17 w17 a18 w18) (f10 : BufTy.Contents (Elt Ideal) a10.view.ty) (f14 : BufTy.Contents (Elt Ideal) a14.view.ty) (f18 : BufTy.Contents (Elt Ideal) a18.view.ty) (h10 : f10 = p.b10) (h14 : f14 = p.b14) (h18 : f18 = p.b18) :
    a18.view.writes (Elt Ideal) f18 ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).1.l18 f10 f14 f18) = (stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k.val p).b18 := by
  subst h10 h14 h18
  unfold stepB
  rw [dif_pos k.isLt]

/-- The running buffers before trip `k`. -/
def bufs (G7 : BufTy.Contents (Elt Ideal) a7.view.ty) (G8 : BufTy.Contents (Elt Ideal) a8.view.ty) (G9 : BufTy.Contents (Elt Ideal) a9.view.ty) (G10 : BufTy.Contents (Elt Ideal) a10.view.ty) (G11 : BufTy.Contents (Elt Ideal) a11.view.ty) (G12 : BufTy.Contents (Elt Ideal) a12.view.ty) (G13 : BufTy.Contents (Elt Ideal) a13.view.ty) (G14 : BufTy.Contents (Elt Ideal) a14.view.ty) (G15 : BufTy.Contents (Elt Ideal) a15.view.ty) (G16 : BufTy.Contents (Elt Ideal) a16.view.ty) (G17 : BufTy.Contents (Elt Ideal) a17.view.ty) (G18 : BufTy.Contents (Elt Ideal) a18.view.ty) : ℕ → Bufs a2 w2 a3 w3 a4 w4 a5 w5 a6 w6 a7 w7 a8 w8 a9 w9 a10 w10 a11 w11 a12 w12 a13 w13 a14 w14 a15 w15 a16 w16 a17 w17 a18 w18
  | 0 => ⟨G7, G8, G9, G10, G11, G12, G13, G14, G15, G16, G17, G18⟩
  | k + 1 => stepB c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k (bufs G7 G8 G9 G10 G11 G12 G13 G14 G15 G16 G17 G18 k)

/-- The invariant of the loop over whole key blocks. -/
abbrev inv1 (G7 : BufTy.Contents (Elt Ideal) a7.view.ty) (G8 : BufTy.Contents (Elt Ideal) a8.view.ty) (G9 : BufTy.Contents (Elt Ideal) a9.view.ty) (G10 : BufTy.Contents (Elt Ideal) a10.view.ty) (G11 : BufTy.Contents (Elt Ideal) a11.view.ty) (G12 : BufTy.Contents (Elt Ideal) a12.view.ty) (G13 : BufTy.Contents (Elt Ideal) a13.view.ty) (G14 : BufTy.Contents (Elt Ideal) a14.view.ty) (G15 : BufTy.Contents (Elt Ideal) a15.view.ty) (G16 : BufTy.Contents (Elt Ideal) a16.view.ty) (G17 : BufTy.Contents (Elt Ideal) a17.view.ty) (G18 : BufTy.Contents (Elt Ideal) a18.view.ty) (k : ℕ) (_ : Unit) : sProp 𝕄 :=
  iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (∃ f, (a7.view.loc (c : Thread nD τ) ↦[a7.view.set]{fullShare} f) ∗ ⌜f = sel k G7 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b7)⌝) ∗ (∃ f, (a8.view.loc (c : Thread nD τ) ↦[a8.view.set]{fullShare} f) ∗ ⌜f = sel k G8 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b8)⌝) ∗ (∃ f, (a9.view.loc (c : Thread nD τ) ↦[a9.view.set]{fullShare} f) ∗ ⌜f = sel k G9 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b9)⌝) ∗ (∃ f, (a10.view.loc (c : Thread nD τ) ↦[a10.view.set]{fullShare} f) ∗ ⌜f = sel k G10 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b10)⌝) ∗ (∃ f, (a11.view.loc (c : Thread nD τ) ↦[a11.view.set]{fullShare} f) ∗ ⌜f = sel k G11 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b11)⌝) ∗ (∃ f, (a12.view.loc (c : Thread nD τ) ↦[a12.view.set]{fullShare} f) ∗ ⌜f = sel k G12 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b12)⌝) ∗ (∃ f, (a13.view.loc (c : Thread nD τ) ↦[a13.view.set]{fullShare} f) ∗ ⌜f = sel k G13 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b13)⌝) ∗ (∃ f, (a14.view.loc (c : Thread nD τ) ↦[a14.view.set]{fullShare} f) ∗ ⌜f = sel k G14 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b14)⌝) ∗ (∃ f, (a15.view.loc (c : Thread nD τ) ↦[a15.view.set]{fullShare} f) ∗ ⌜f = sel k G15 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b15)⌝) ∗ (∃ f, (a16.view.loc (c : Thread nD τ) ↦[a16.view.set]{fullShare} f) ∗ ⌜f = sel k G16 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b16)⌝) ∗ (∃ f, (a17.view.loc (c : Thread nD τ) ↦[a17.view.set]{fullShare} f) ∗ ⌜f = sel k G17 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b17)⌝) ∗ (∃ f, (a18.view.loc (c : Thread nD τ) ↦[a18.view.set]{fullShare} f) ∗ ⌜f = sel k G18 (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 (n + 1)).b18)⌝))

end

set_option warn.classDefReducibility false in
set_option maxHeartbeats 1000000 in
/-- The loop over whole key blocks keeps its invariant. -/
@[sl_loop] def loop1 (c : Dev nD) (E : Set ℕ) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (a1 : BitVec 32) (k0_h2 : k0_cond2 i = 1#1) (c1_i32 : BitVec 32) (X2 : BufTy.Contents (Elt Ideal) a2.view.ty) (X3 : BufTy.Contents (Elt Ideal) a3.view.ty) (X4 : BufTy.Contents (Elt Ideal) a4.view.ty) (G7 : BufTy.Contents (Elt Ideal) a7.view.ty) (G8 : BufTy.Contents (Elt Ideal) a8.view.ty) (G9 : BufTy.Contents (Elt Ideal) a9.view.ty) (G10 : BufTy.Contents (Elt Ideal) a10.view.ty) (G11 : BufTy.Contents (Elt Ideal) a11.view.ty) (G12 : BufTy.Contents (Elt Ideal) a12.view.ty) (G13 : BufTy.Contents (Elt Ideal) a13.view.ty) (G14 : BufTy.Contents (Elt Ideal) a14.view.ty) (G15 : BufTy.Contents (Elt Ideal) a15.view.ty) (G16 : BufTy.Contents (Elt Ideal) a16.view.ty) (G17 : BufTy.Contents (Elt Ideal) a17.view.ty) (G18 : BufTy.Contents (Elt Ideal) a18.view.ty) :
    LoopInvTy_k0_t1 (F := Ideal) Unit ℕ (UR sig nD τ) ℕ Variants.none c none E i a2 w2 a3 w3 a4 w4 a5 w5 a6 w6 a7 w7 a8 w8 a9 w9 a10 w10 a11 w11 a12 w12 a13 w13 a14 w14 a15 w15 a16 w16 a17 w17 a18 w18 a1 k0_h2 c1_i32 where
  inv := inv1 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18
  step k acc := by
    iintro ⟨H2, H3, H4, ⟨%f7, H7, %h7⟩, ⟨%f8, H8, %h8⟩, ⟨%f9, H9, %h9⟩, ⟨%f10, H10, %h10⟩, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩⟩
    replace h7 : f7 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b7 := h7.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b7))
    replace h8 : f8 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b8 := h8.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b8))
    replace h9 : f9 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b9 := h9.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b9))
    replace h10 : f10 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b10 := h10.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b10))
    replace h11 : f11 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b11 := h11.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b11))
    replace h12 : f12 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b12 := h12.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b12))
    replace h13 : f13 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b13 := h13.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b13))
    replace h14 : f14 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b14 := h14.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b14))
    replace h15 : f15 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b15 := h15.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b15))
    replace h16 : f16 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b16 := h16.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b16))
    replace h17 : f17 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b17 := h17.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b17))
    replace h18 : f18 = (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 k.val).b18 := h18.trans (sel_eq k.val (fun n => (bufs c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 G7 G8 G9 G10 G11 G12 G13 G14 G15 G16 G17 G18 n).b18))
    iapply (wp_wand_r Idealize.ShloMosaic.frame (wpE (defs₀ (F := Ideal)) Variants.none (c : Thread nD τ) none) E)
    isplitl [H2 H3 H4 H7 H8 H9 H10 H11 H12 H13 H14 H15 H16 H17 H18]
    · iapply ((trip c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k).2 E f7 f8 f9 f10 f11 f12 f13 f14 f15 f16 f17 f18)
      isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · iintro %_ ⟨H2, H3, H4, H7, H8, H9, H10, H11, H12, H13, H14, H15, H16, H17, H18⟩
      isplitl [H2]; · iexact H2
      isplitl [H3]; · iexact H3
      isplitl [H4]; · iexact H4
      isplitl [H7]
      · iexists _; isplitl [H7]; · iexact H7
        ipureintro; exact step_b7 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f7 f11 f15 h7 h11 h15
      isplitl [H8]
      · iexists _; isplitl [H8]; · iexact H8
        ipureintro; exact step_b8 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f8 f12 f16 h8 h12 h16
      isplitl [H9]
      · iexists _; isplitl [H9]; · iexact H9
        ipureintro; exact step_b9 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f9 f13 f17 h9 h13 h17
      isplitl [H10]
      · iexists _; isplitl [H10]; · iexact H10
        ipureintro; exact step_b10 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f10 f14 f18 h10 h14 h18
      isplitl [H11]
      · iexists _; isplitl [H11]; · iexact H11
        ipureintro; exact step_b11 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f7 f11 f15 h7 h11 h15
      isplitl [H12]
      · iexists _; isplitl [H12]; · iexact H12
        ipureintro; exact step_b12 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f8 f12 f16 h8 h12 h16
      isplitl [H13]
      · iexists _; isplitl [H13]; · iexact H13
        ipureintro; exact step_b13 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f9 f13 f17 h9 h13 h17
      isplitl [H14]
      · iexists _; isplitl [H14]; · iexact H14
        ipureintro; exact step_b14 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f10 f14 f18 h10 h14 h18
      isplitl [H15]
      · iexists _; isplitl [H15]; · iexact H15
        ipureintro; exact step_b15 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f7 f11 f15 h7 h11 h15
      isplitl [H16]
      · iexists _; isplitl [H16]; · iexact H16
        ipureintro; exact step_b16 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f8 f12 f16 h8 h12 h16
      isplitl [H17]
      · iexists _; isplitl [H17]; · iexact H17
        ipureintro; exact step_b17 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f9 f13 f17 h9 h13 h17
      iexists _; isplitl [H18]; · iexact H18
      ipureintro; exact step_b18 c i a2 w2 a3 w3 a4 w4 a5 w5 a6 w6 a7 w7 a8 w8 a9 w9 a10 w10 a11 w11 a12 w12 a13 w13 a14 w14 a15 w15 a16 w16 a17 w17 a18 w18 a1 k0_h2 c1_i32 X2 X3 X4 k _ f10 f14 f18 h10 h14 h18

end Cert.Kernel2Ideal.Hand
end
-- ==== Proof.FwdMath.lean ====
module
public import proofs.«01_k».proof.Proof.Alg
@[expose] public section
noncomputable section
namespace Cert.Kernel2Ideal.Hand
open Idealize.ShloMosaic
open Cert.KernelIdeal.Hand (coe_sum' div_real)
open scoped BigOperators

/-! ## The running softmax of one row, over the real numbers -/

/-- The weight of key `y` against the running maximum `μ`: nothing where the key is not seen. -/
def ew (p : ℕ → Prop) [DecidablePred p] (S : ℕ → ℝ) (μ : ℝ) (y : ℕ) : ℝ := if p y then Real.exp (S y - μ) else 0

/-- The running maximum, sum and weighted sum of a row before any key. -/
def Start (m l : EReal) (a : ℕ → EReal) : Prop := m = ⊥ ∧ l = 0 ∧ ∀ e < 128, a e = 0

/-- The running sum and weighted sum of a row after `n` keys, against some real number `m`. -/
def Good (p : ℕ → Prop) [DecidablePred p] (S : ℕ → ℝ) (V : ℕ → ℕ → ℝ) (n : ℕ) (m l : EReal) (a : ℕ → EReal) : Prop :=
  ∃ μ : ℝ, m = (μ : EReal) ∧ l = ((∑ y ∈ Finset.range n, ew p S μ y : ℝ) : EReal)
    ∧ ∀ e < 128, a e = ((∑ y ∈ Finset.range n, ew p S μ y * V y e : ℝ) : EReal)

variable {p : ℕ → Prop} [DecidablePred p] {S : ℕ → ℝ} {V : ℕ → ℕ → ℝ}

/-- The maximum of real numbers and minus infinities, one of them real, is real. -/
theorem max_real {W : ℕ} (m : EReal) (t : Fin W → EReal) (hm : m ≠ ⊤) (ht : ∀ j, t j ≠ ⊤) (hb : m ≠ ⊥ ∨ ∃ j, t j ≠ ⊥) :
    ∃ μ : ℝ, max m (Finset.fold max ⊥ t Finset.univ) = (μ : EReal) := by
  have h1 : max m (Finset.fold max ⊥ t Finset.univ) ≠ ⊤ :=
    ne_of_lt (max_lt (lt_top_iff_ne_top.mpr hm) (Finset.fold_max_lt _ |>.mpr ⟨bot_lt_top, fun j _ => lt_top_iff_ne_top.mpr (ht j)⟩))
  have h2 : max m (Finset.fold max ⊥ t Finset.univ) ≠ ⊥ := by
    rcases hb with hb | ⟨j, hj⟩
    · exact ne_of_gt (lt_max_of_lt_left (bot_lt_iff_ne_bot.mpr hb))
    · exact ne_of_gt (lt_max_of_lt_right (Finset.lt_fold_max _ |>.mpr (Or.inr ⟨j, Finset.mem_univ j, bot_lt_iff_ne_bot.mpr hj⟩)))
  exact ⟨_, (EReal.coe_toReal h1 h2).symm⟩

/-- The weight of a key, as the kernel computes it from the masked score. -/
theorem exp_mask (y : ℕ) (μ : ℝ) : Ideal.exp ((if p y then (S y : EReal) else ⊥) - (μ : EReal)) = (ew p S μ y : EReal) := by
  unfold ew
  by_cases h : p y
  · rw [if_pos h, if_pos h, ← EReal.coe_sub, Ideal.exp_coe]
  · rw [if_neg h, if_neg h, EReal.bot_sub, Ideal.exp_bot]; rfl

/-- Changing the running maximum rescales every weight. -/
theorem ew_scale (μ ν : ℝ) (y : ℕ) : Real.exp (μ - ν) * ew p S μ y = ew p S ν y := by
  unfold ew
  by_cases h : p y
  · rw [if_pos h, if_pos h, ← Real.exp_add]; congr 1; ring
  · rw [if_neg h, if_neg h, mul_zero]

/-- One block of `W` keys after the first `n`: the running numbers it leaves. -/
theorem upd {W n : ℕ} {m l : EReal} {a : ℕ → EReal} (t : Fin W → EReal) (ht : ∀ j, t j = if p (n + j.val) then (S (n + j.val) : EReal) else ⊥)
    (hg : Good p S V n m l a ∨ (n = 0 ∧ Start m l a ∧ ∃ j : Fin W, p (n + j.val)))
    {m' l' : EReal} {a' : ℕ → EReal} (hm : m' = max m (Finset.fold max ⊥ t Finset.univ))
    (hl : l' = Ideal.exp (m - m') * l + ∑ j, Ideal.exp (t j - m'))
    (ha : ∀ e < 128, a' e = Ideal.exp (m - m') * a e + ∑ j : Fin W, Ideal.exp (t j - m') * (V (n + j.val) e : EReal)) :
    Good p S V (n + W) m' l' a' := by
  have htop : ∀ j, t j ≠ ⊤ := fun j => by
    rw [ht]; split
    · exact EReal.coe_ne_top _
    · exact bot_ne_top
  have hμ : ∃ μ : ℝ, m' = (μ : EReal) := by
    rw [hm]
    rcases hg with ⟨μ, h1, -, -⟩ | ⟨-, ⟨h1, -, -⟩, j, hj⟩
    · exact max_real m t (h1 ▸ EReal.coe_ne_top _) htop (Or.inl (h1 ▸ EReal.coe_ne_bot _))
    · exact max_real m t (h1 ▸ bot_ne_top) htop (Or.inr ⟨j, by rw [ht, if_pos hj]; exact EReal.coe_ne_bot _⟩)
  obtain ⟨ν, hν⟩ := hμ
  have hw : ∀ j : Fin W, Ideal.exp (t j - m') = (ew p S ν (n + j.val) : EReal) := fun j => by rw [ht, hν, exp_mask]
  have hs : ∑ j : Fin W, Ideal.exp (t j - m') = ((∑ j ∈ Finset.range W, ew p S ν (n + j) : ℝ) : EReal) := by
    rw [Finset.sum_congr rfl fun j _ => hw j, coe_sum', Fin.sum_univ_eq_sum_range (fun j => ew p S ν (n + j))]
  have hv : ∀ e, ∑ j : Fin W, Ideal.exp (t j - m') * (V (n + j.val) e : EReal) = ((∑ j ∈ Finset.range W, ew p S ν (n + j) * V (n + j) e : ℝ) : EReal) := fun e => by
    rw [Finset.sum_congr rfl fun (j : Fin W) _ => show _ = ((ew p S ν (n + j.val) * V (n + j.val) e : ℝ) : EReal) by rw [hw, EReal.coe_mul], coe_sum',
      Fin.sum_univ_eq_sum_range (fun j => ew p S ν (n + j) * V (n + j) e)]
  refine ⟨ν, hν, ?_, fun e he => ?_⟩
  · rw [hl, hs, Finset.sum_range_add]
    rcases hg with ⟨μ, h1, h2, -⟩ | ⟨h0, ⟨h1, h2, -⟩, -⟩
    · rw [h1, h2, hν, ← EReal.coe_sub, Ideal.exp_coe, ← EReal.coe_mul, ← EReal.coe_add, Finset.mul_sum,
        Finset.sum_congr rfl fun y _ => ew_scale μ ν y]
    · rw [h2, h0, mul_zero, zero_add, Finset.sum_range_zero, zero_add]
  · rw [ha e he, hv, Finset.sum_range_add]
    rcases hg with ⟨μ, h1, -, h3⟩ | ⟨h0, ⟨h1, -, h3⟩, -⟩
    · rw [h1, h3 e he, hν, ← EReal.coe_sub, Ideal.exp_coe, ← EReal.coe_mul, ← EReal.coe_add, Finset.mul_sum,
        Finset.sum_congr rfl fun y _ => show Real.exp (μ - ν) * (ew p S μ y * V y e) = ew p S ν y * V y e by rw [← mul_assoc, ew_scale]]
    · rw [h3 e he, h0, mul_zero, zero_add, Finset.sum_range_zero, zero_add]

/-- The sum of a row's weights. -/
def rowSum (p : ℕ → Prop) [DecidablePred p] (S : ℕ → ℝ) (n : ℕ) : ℝ := ∑ y ∈ Finset.range n, ew p S 0 y
/-- The weighted sum of a row's values. -/
def rowDot (p : ℕ → Prop) [DecidablePred p] (S : ℕ → ℝ) (V : ℕ → ℕ → ℝ) (n e : ℕ) : ℝ := ∑ y ∈ Finset.range n, ew p S 0 y * V y e

/-- A row that sees a key has a positive sum. -/
theorem rowSum_pos {n : ℕ} (h : ∃ y < n, p y) : 0 < rowSum p S n := by
  obtain ⟨y, hy, hp⟩ := h
  refine Finset.sum_pos' (fun z _ => ?_) ⟨y, Finset.mem_range.mpr hy, ?_⟩
  · unfold ew; split
    · exact (Real.exp_pos _).le
    · exact le_rfl
  · unfold ew; rw [if_pos hp]; exact Real.exp_pos _

/-- Keys that are not seen may be left out of a row's sum. -/
theorem rowSum_more {n k : ℕ} (h : ∀ y, n ≤ y → ¬ p y) : rowSum p S (n + k) = rowSum p S n := by
  unfold rowSum
  rw [Finset.sum_range_add, Finset.sum_eq_zero (s := Finset.range k) (fun y _ => by unfold ew; rw [if_neg (h _ (by omega))]), add_zero]
/-- Keys that are not seen may be left out of a row's weighted sum. -/
theorem rowDot_more {n k e : ℕ} (h : ∀ y, n ≤ y → ¬ p y) : rowDot p S V (n + k) e = rowDot p S V n e := by
  unfold rowDot
  rw [Finset.sum_range_add, Finset.sum_eq_zero (s := Finset.range k) (fun y _ => by unfold ew; rw [if_neg (h _ (by omega)), zero_mul]), add_zero]

/-- The quotient of the running numbers is the row's softmax applied to the values. -/
theorem good_div {n : ℕ} {m l : EReal} {a : ℕ → EReal} (hg : Good p S V n m l a) (hp : ∃ y < n, p y) (e : ℕ) (he : e < 128) :
    Ideal.div (a e) l = ((rowDot p S V n e / rowSum p S n : ℝ) : EReal) := by
  obtain ⟨μ, -, h2, h3⟩ := hg
  have hs : ∑ y ∈ Finset.range n, ew p S μ y = Real.exp (0 - μ) * rowSum p S n := by
    unfold rowSum; rw [Finset.mul_sum]; exact Finset.sum_congr rfl fun y _ => (ew_scale 0 μ y).symm
  have hd : ∑ y ∈ Finset.range n, ew p S μ y * V y e = Real.exp (0 - μ) * rowDot p S V n e := by
    unfold rowDot; rw [Finset.mul_sum]; exact Finset.sum_congr rfl fun y _ => by rw [← mul_assoc, ew_scale]
  have hpos := rowSum_pos (S := S) hp
  rw [h2, h3 e he, hs, hd, div_real _ (mul_pos (Real.exp_pos _) hpos).ne', mul_div_mul_left _ _ (Real.exp_pos _).ne']

/-- The running maximum plus the logarithm of the running sum is the logarithm of the row's sum. -/
theorem good_log {n : ℕ} {m l : EReal} {a : ℕ → EReal} (hg : Good p S V n m l a) (hp : ∃ y < n, p y) :
    m + Ideal.log l = ((Real.log (rowSum p S n) : ℝ) : EReal) := by
  obtain ⟨μ, h1, h2, -⟩ := hg
  have hs : ∑ y ∈ Finset.range n, ew p S μ y = Real.exp (0 - μ) * rowSum p S n := by
    unfold rowSum; rw [Finset.mul_sum]; exact Finset.sum_congr rfl fun y _ => (ew_scale 0 μ y).symm
  have hpos := rowSum_pos (S := S) hp
  rw [h1, h2, hs, Ideal.log_coe, if_neg (not_le.mpr (mul_pos (Real.exp_pos _) hpos)), ← EReal.coe_add,
    Real.log_mul (Real.exp_pos _).ne' hpos.ne', Real.log_exp]
  congr 1
  ring

end Cert.Kernel2Ideal.Hand
end
-- ==== Proof.FwdUpd.lean ====
module
public import proofs.«01_k».proof.Proof.FwdLoop
public import proofs.«01_k».proof.Proof.FwdMath
public import proofs.«01_k».proof.Proof.StageAt
public import Idealize.ShloMosaic.Lib.Pipeline.ValueKit
public import Idealize.ShloMosaic.Lib.WritesUnit
@[expose] public section
set_option maxRecDepth 16384
noncomputable section
namespace Cert.Kernel2Ideal.Hand
open Idealize.ShloMosaic Idealize.ShloMosaic.TcCoe Idealize.ShloMosaic.WordCmp Cert.Kernel2Ideal Cert.Kernel2Ideal.Gen
open Cert.KernelIdeal.Hand (vis mask_word mask_sel word_bot coe_sum')
open scoped BigOperators

/-- The score of query row `x` and key row `y`, over the real numbers. -/
def sR (Q K : ℕ → ℕ → ℝ) (x y : ℕ) : ℝ := ∑ d : Fin 256, Q x d.val * K y d.val

/-- Row `r` of a chain's running weighted sum, by column number. -/
def row128 (a : FVec Ideal S416x128 .f32) (r : Fin 416) (e : ℕ) : EReal := if h : e < 128 then a (ix2 r ⟨e, h⟩) else 0

/-- Every row of the chain that starts at query row `x0` has seen the first `n` keys. Rows of padding in front are left out. -/
def CGood (Q K V : ℕ → ℕ → ℝ) (x0 n : ℕ) (m l : FVec Ideal S416x1 .f32) (a : FVec Ideal S416x128 .f32) : Prop :=
  ∀ r : Fin 416, 112 ≤ x0 + r.val → Good (fun y => vis y (x0 + r.val)) (sR Q K (x0 + r.val)) V n (m (ix2 r 0)) (l (ix2 r 0)) (row128 a r)

/-- No row of the chain has seen a key. -/
def CStart (m l : FVec Ideal S416x1 .f32) (a : FVec Ideal S416x128 .f32) : Prop :=
  ∀ r : Fin 416, Start (m (ix2 r 0)) (l (ix2 r 0)) (row128 a r)

/-- A sum of products of real numbers, taken over the extended reals. -/
theorem coe_dot256 (Q K : ℕ → ℕ → ℝ) (x y : ℕ) : ∑ d : Fin 256, (Q x d.val : EReal) * (K y d.val : EReal) = (sR Q K x y : EReal) := by
  unfold sR
  rw [← coe_sum']
  exact Finset.sum_congr rfl fun d _ => (EReal.coe_mul _ _).symm

/-- The running maximum after a block of 512 keys. -/
def mN512 (s : FVec Ideal S416x512 .f32) (m : FVec Ideal S416x1 .f32) : FVec Ideal S416x1 .f32 :=
  maximumf m (shapeCast S416x1 (multiReduction .maximumf [1] S416 s 0xFF800000#32 reduces_S416x512_S416 (.inl rfl) rfl) shapeCasts_S416_S416x1)
/-- The weights of a block of 512 keys. -/
def pN512 (s : FVec Ideal S416x512 .f32) (m : FVec Ideal S416x1 .f32) : FVec Ideal S416x512 .f32 :=
  exp (subf s (broadcastTo S416x512 m broadcasts_S416x1_S416x512))
/-- The running sum after a block of 512 keys. -/
def lN512 (s : FVec Ideal S416x512 .f32) (m l : FVec Ideal S416x1 .f32) : FVec Ideal S416x1 .f32 :=
  addf (mulf (exp (subf m (mN512 s m))) l) (shapeCast S416x1 (multiReduction .add [1] S416 (pN512 s (mN512 s m)) 0x00000000#32 reduces_S416x512_S416 (.inl rfl) rfl) shapeCasts_S416_S416x1)
/-- The running weighted sum after a block of 512 keys. -/
def aN512 (s : FVec Ideal S416x512 .f32) (m : FVec Ideal S416x1 .f32) (a : FVec Ideal S416x128 .f32) (v : FVec Ideal S1x512x128 .bf16) : FVec Ideal S416x128 .f32 :=
  addf (mulf (broadcastTo S416x128 (exp (subf m (mN512 s m))) broadcasts_S416x1_S416x128) a)
   (matmul (φ₂ := .bf16) dot_S416x512_S512x128_S416x128_1_0_0_1_n_n none (truncf .bf16 (pN512 s (mN512 s m)) bitsLt_bf16_f32) (shapeCast S512x128 v shapeCasts_S1x512x128_S512x128) (constant S416x128 .f32 0x00000000#32))
/-- The scores of a chain against a block of 512 keys. -/
def sU512 (q : FVec Ideal S1x416x256 .bf16) (k : FVec Ideal S1x512x256 .bf16) : FVec Ideal S416x512 .f32 :=
  matmul (φ₁ := .bf16) (φ₂ := .bf16) dot_S416x256_S512x256_S416x512_1_1_0_0_n_n none (shapeCast S416x256 q shapeCasts_S1x416x256_S416x256) (shapeCast S512x256 k shapeCasts_S1x512x256_S512x256) (constant S416x512 .f32 0x00000000#32)
/-- The same scores under the mask; the chain starts at row `x0`, the block of keys at row `n`. -/
def sM512 (x0 n : BitVec 32) (s : FVec Ideal S416x512 .f32) : FVec Ideal S416x512 .f32 :=
  select (andi (cmpi .sle (shrsi (addi (broadcast S416x512 n) (iota .tc S416x512 32 [1] iota_S416x512_d1_w32)) (broadcast S416x512 6#32))
      (shrsi (addi (broadcast S416x512 x0) (iota .tc S416x512 32 [0] iota_S416x512_d0_w32)) (broadcast S416x512 6#32)))
    (cmpi .sge (addi (broadcast S416x512 n) (iota .tc S416x512 32 [1] iota_S416x512_d1_w32)) (broadcast S416x512 112#32)))
    s (broadcast S416x512 (Named.named κ "mask" 0xF149F2CA#32))

/-- A score, over the real numbers. -/
theorem sU512_at (Q K : ℕ → ℕ → ℝ) (x0 n : ℕ) (q : FVec Ideal S1x416x256 .bf16) (k : FVec Ideal S1x512x256 .bf16)
    (hq : ∀ (r : Fin 416) (d : Fin 256), q (ix3 0 r d) = (Q (x0 + r.val) d.val : EReal)) (hk : ∀ (j : Fin 512) (d : Fin 256), k (ix3 0 j d) = (K (n + j.val) d.val : EReal))
    (r : Fin 416) (j : Fin 512) : sU512 q k (ix2 r j) = (sR Q K (x0 + r.val) (n + j.val) : EReal) := by
  rw [← coe_dot256]
  pointwise [sU512]
  exact Finset.sum_congr rfl fun d _ => by rw [hq, hk]

/-- A score under the mask. -/
theorem sM512_at (x0 n : ℕ) (hx : x0 < 8320) (hn : n < 8320) (s : FVec Ideal S416x512 .f32) (r : Fin 416) (j : Fin 512) :
    sM512 (BitVec.ofNat 32 x0) (BitVec.ofNat 32 n) s (ix2 r j) = if vis (n + j.val) (x0 + r.val) then s (ix2 r j) else ⊥ := by
  have h1 := r.isLt
  have h2 := j.isLt
  have hw : ∀ a b : ℕ, IntOp.addi (BitVec.ofNat 32 a) (BitVec.ofNat 32 b) = BitVec.ofNat 32 (a + b) := fun a b => by
    show BitVec.ofNat 32 a + BitVec.ofNat 32 b = _
    rw [BitVec.ofNat_add]
  pointwise [sM512]
  rw [hw, hw]
  exact mask_sel _ _ (by omega) (by omega)

/-- A block of 512 keys takes every row of a chain from `n` keys to `n + 512`. -/
theorem upd512 {Q K V : ℕ → ℕ → ℝ} {x0 n : ℕ} {m l : FVec Ideal S416x1 .f32} {a : FVec Ideal S416x128 .f32} (s : FVec Ideal S416x512 .f32) (v : FVec Ideal S1x512x128 .bf16)
    (hs : ∀ (r : Fin 416) (j : Fin 512), 112 ≤ x0 + r.val → s (ix2 r j) = if vis (n + j.val) (x0 + r.val) then (sR Q K (x0 + r.val) (n + j.val) : EReal) else ⊥)
    (hv : ∀ (j : Fin 512) (e : Fin 128), v (ix3 0 j e) = (V (n + j.val) e.val : EReal)) (hg : CGood Q K V x0 n m l a ∨ (n = 0 ∧ CStart m l a)) :
    CGood Q K V x0 (n + 512) (mN512 s m) (lN512 s m l) (aN512 s m a v) := by
  intro r hr
  refine upd (fun j => s (ix2 r j)) (fun j => hs r j hr) (m := m (ix2 r 0)) (l := l (ix2 r 0)) (a := row128 a r) ?_ ?_ ?_ ?_
  · rcases hg with hg | ⟨h0, hg⟩
    · exact Or.inl (hg r hr)
    · refine Or.inr ⟨h0, hg r, ⟨⟨112, by omega⟩, ?_⟩⟩
      subst h0
      show (0 + 112) / 64 ≤ (x0 + r.val) / 64 ∧ 112 ≤ 0 + 112
      omega
  · rw [← word_bot]
    pointwise [mN512]
  · unfold lN512
    generalize mN512 s m = M
    pointwise [pN512]
  · intro e he
    unfold row128
    rw [dif_pos he, dif_pos he]
    unfold aN512
    generalize mN512 s m = M
    pointwise [pN512]
    refine congrArg (_ + ·) (Finset.sum_congr rfl fun j _ => ?_)
    rw [hv]

/-- The running maximum after a block of 896 keys. -/
def mN896 (s : FVec Ideal S416x896 .f32) (m : FVec Ideal S416x1 .f32) : FVec Ideal S416x1 .f32 :=
  maximumf m (shapeCast S416x1 (multiReduction .maximumf [1] S416 s 0xFF800000#32 reduces_S416x896_S416 (.inl rfl) rfl) shapeCasts_S416_S416x1)
/-- The weights of a block of 896 keys. -/
def pN896 (s : FVec Ideal S416x896 .f32) (m : FVec Ideal S416x1 .f32) : FVec Ideal S416x896 .f32 :=
  exp (subf s (broadcastTo S416x896 m broadcasts_S416x1_S416x896))
/-- The running sum after a block of 896 keys. -/
def lN896 (s : FVec Ideal S416x896 .f32) (m l : FVec Ideal S416x1 .f32) : FVec Ideal S416x1 .f32 :=
  addf (mulf (exp (subf m (mN896 s m))) l) (shapeCast S416x1 (multiReduction .add [1] S416 (pN896 s (mN896 s m)) 0x00000000#32 reduces_S416x896_S416 (.inl rfl) rfl) shapeCasts_S416_S416x1)
/-- The running weighted sum after a block of 896 keys. -/
def aN896 (s : FVec Ideal S416x896 .f32) (m : FVec Ideal S416x1 .f32) (a : FVec Ideal S416x128 .f32) (v : FVec Ideal S1x896x128 .bf16) : FVec Ideal S416x128 .f32 :=
  addf (mulf (broadcastTo S416x128 (exp (subf m (mN896 s m))) broadcasts_S416x1_S416x128) a)
   (matmul (φ₂ := .bf16) dot_S416x896_S896x128_S416x128_1_0_0_1_n_n none (truncf .bf16 (pN896 s (mN896 s m)) bitsLt_bf16_f32) (shapeCast S896x128 v shapeCasts_S1x896x128_S896x128) (constant S416x128 .f32 0x00000000#32))
/-- The scores of a chain against a block of 896 keys. -/
def sU896 (q : FVec Ideal S1x416x256 .bf16) (k : FVec Ideal S1x896x256 .bf16) : FVec Ideal S416x896 .f32 :=
  matmul (φ₁ := .bf16) (φ₂ := .bf16) dot_S416x256_S896x256_S416x896_1_1_0_0_n_n none (shapeCast S416x256 q shapeCasts_S1x416x256_S416x256) (shapeCast S896x256 k shapeCasts_S1x896x256_S896x256) (constant S416x896 .f32 0x00000000#32)
/-- The same scores under the mask; the chain starts at row `x0`, the block of keys at row `n`. -/
def sM896 (x0 n : BitVec 32) (s : FVec Ideal S416x896 .f32) : FVec Ideal S416x896 .f32 :=
  select (andi (cmpi .sle (shrsi (addi (broadcast S416x896 n) (iota .tc S416x896 32 [1] iota_S416x896_d1_w32)) (broadcast S416x896 6#32))
      (shrsi (addi (broadcast S416x896 x0) (iota .tc S416x896 32 [0] iota_S416x896_d0_w32)) (broadcast S416x896 6#32)))
    (cmpi .sge (addi (broadcast S416x896 n) (iota .tc S416x896 32 [1] iota_S416x896_d1_w32)) (broadcast S416x896 112#32)))
    s (broadcast S416x896 (Named.named κ "mask" 0xF149F2CA#32))

/-- A score, over the real numbers. -/
theorem sU896_at (Q K : ℕ → ℕ → ℝ) (x0 n : ℕ) (q : FVec Ideal S1x416x256 .bf16) (k : FVec Ideal S1x896x256 .bf16)
    (hq : ∀ (r : Fin 416) (d : Fin 256), q (ix3 0 r d) = (Q (x0 + r.val) d.val : EReal)) (hk : ∀ (j : Fin 896) (d : Fin 256), k (ix3 0 j d) = (K (n + j.val) d.val : EReal))
    (r : Fin 416) (j : Fin 896) : sU896 q k (ix2 r j) = (sR Q K (x0 + r.val) (n + j.val) : EReal) := by
  rw [← coe_dot256]
  pointwise [sU896]
  exact Finset.sum_congr rfl fun d _ => by rw [hq, hk]

/-- A score under the mask. -/
theorem sM896_at (x0 n : ℕ) (hx : x0 < 8320) (hn : n < 8320) (s : FVec Ideal S416x896 .f32) (r : Fin 416) (j : Fin 896) :
    sM896 (BitVec.ofNat 32 x0) (BitVec.ofNat 32 n) s (ix2 r j) = if vis (n + j.val) (x0 + r.val) then s (ix2 r j) else ⊥ := by
  have h1 := r.isLt
  have h2 := j.isLt
  have hw : ∀ a b : ℕ, IntOp.addi (BitVec.ofNat 32 a) (BitVec.ofNat 32 b) = BitVec.ofNat 32 (a + b) := fun a b => by
    show BitVec.ofNat 32 a + BitVec.ofNat 32 b = _
    rw [BitVec.ofNat_add]
  pointwise [sM896]
  rw [hw, hw]
  exact mask_sel _ _ (by omega) (by omega)

/-- A block of 896 keys takes every row of a chain from `n` keys to `n + 896`. -/
theorem upd896 {Q K V : ℕ → ℕ → ℝ} {x0 n : ℕ} {m l : FVec Ideal S416x1 .f32} {a : FVec Ideal S416x128 .f32} (s : FVec Ideal S416x896 .f32) (v : FVec Ideal S1x896x128 .bf16)
    (hs : ∀ (r : Fin 416) (j : Fin 896), 112 ≤ x0 + r.val → s (ix2 r j) = if vis (n + j.val) (x0 + r.val) then (sR Q K (x0 + r.val) (n + j.val) : EReal) else ⊥)
    (hv : ∀ (j : Fin 896) (e : Fin 128), v (ix3 0 j e) = (V (n + j.val) e.val : EReal)) (hg : CGood Q K V x0 n m l a ∨ (n = 0 ∧ CStart m l a)) :
    CGood Q K V x0 (n + 896) (mN896 s m) (lN896 s m l) (aN896 s m a v) := by
  intro r hr
  refine upd (fun j => s (ix2 r j)) (fun j => hs r j hr) (m := m (ix2 r 0)) (l := l (ix2 r 0)) (a := row128 a r) ?_ ?_ ?_ ?_
  · rcases hg with hg | ⟨h0, hg⟩
    · exact Or.inl (hg r hr)
    · refine Or.inr ⟨h0, hg r, ⟨⟨112, by omega⟩, ?_⟩⟩
      subst h0
      show (0 + 112) / 64 ≤ (x0 + r.val) / 64 ∧ 112 ≤ 0 + 112
      omega
  · rw [← word_bot]
    pointwise [mN896]
  · unfold lN896
    generalize mN896 s m = M
    pointwise [pN896]
  · intro e he
    unfold row128
    rw [dif_pos he, dif_pos he]
    unfold aN896
    generalize mN896 s m = M
    pointwise [pN896]
    refine congrArg (_ + ·) (Finset.sum_congr rfl fun j _ => ?_)
    rw [hv]

/-- The running maximum after a block of 1280 keys. -/
def mN1280 (s : FVec Ideal S416x1280 .f32) (m : FVec Ideal S416x1 .f32) : FVec Ideal S416x1 .f32 :=
  maximumf m (shapeCast S416x1 (multiReduction .maximumf [1] S416 s 0xFF800000#32 reduces_S416x1280_S416 (.inl rfl) rfl) shapeCasts_S416_S416x1)
/-- The weights of a block of 1280 keys. -/
def pN1280 (s : FVec Ideal S416x1280 .f32) (m : FVec Ideal S416x1 .f32) : FVec Ideal S416x1280 .f32 :=
  exp (subf s (broadcastTo S416x1280 m broadcasts_S416x1_S416x1280))
/-- The running sum after a block of 1280 keys. -/
def lN1280 (s : FVec Ideal S416x1280 .f32) (m l : FVec Ideal S416x1 .f32) : FVec Ideal S416x1 .f32 :=
  addf (mulf (exp (subf m (mN1280 s m))) l) (shapeCast S416x1 (multiReduction .add [1] S416 (pN1280 s (mN1280 s m)) 0x00000000#32 reduces_S416x1280_S416 (.inl rfl) rfl) shapeCasts_S416_S416x1)
/-- The running weighted sum after a block of 1280 keys. -/
def aN1280 (s : FVec Ideal S416x1280 .f32) (m : FVec Ideal S416x1 .f32) (a : FVec Ideal S416x128 .f32) (v : FVec Ideal S1x1280x128 .bf16) : FVec Ideal S416x128 .f32 :=
  addf (mulf (broadcastTo S416x128 (exp (subf m (mN1280 s m))) broadcasts_S416x1_S416x128) a)
   (matmul (φ₂ := .bf16) dot_S416x1280_S1280x128_S416x128_1_0_0_1_n_n none (truncf .bf16 (pN1280 s (mN1280 s m)) bitsLt_bf16_f32) (shapeCast S1280x128 v shapeCasts_S1x1280x128_S1280x128) (constant S416x128 .f32 0x00000000#32))
/-- The scores of a chain against a block of 1280 keys. -/
def sU1280 (q : FVec Ideal S1x416x256 .bf16) (k : FVec Ideal S1x1280x256 .bf16) : FVec Ideal S416x1280 .f32 :=
  matmul (φ₁ := .bf16) (φ₂ := .bf16) dot_S416x256_S1280x256_S416x1280_1_1_0_0_n_n none (shapeCast S416x256 q shapeCasts_S1x416x256_S416x256) (shapeCast S1280x256 k shapeCasts_S1x1280x256_S1280x256) (constant S416x1280 .f32 0x00000000#32)
/-- The same scores under the mask; the chain starts at row `x0`, the block of keys at row `n`. -/
def sM1280 (x0 n : BitVec 32) (s : FVec Ideal S416x1280 .f32) : FVec Ideal S416x1280 .f32 :=
  select (andi (cmpi .sle (shrsi (addi (broadcast S416x1280 n) (iota .tc S416x1280 32 [1] iota_S416x1280_d1_w32)) (broadcast S416x1280 6#32))
      (shrsi (addi (broadcast S416x1280 x0) (iota .tc S416x1280 32 [0] iota_S416x1280_d0_w32)) (broadcast S416x1280 6#32)))
    (cmpi .sge (addi (broadcast S416x1280 n) (iota .tc S416x1280 32 [1] iota_S416x1280_d1_w32)) (broadcast S416x1280 112#32)))
    s (broadcast S416x1280 (Named.named κ "mask" 0xF149F2CA#32))

/-- A score, over the real numbers. -/
theorem sU1280_at (Q K : ℕ → ℕ → ℝ) (x0 n : ℕ) (q : FVec Ideal S1x416x256 .bf16) (k : FVec Ideal S1x1280x256 .bf16)
    (hq : ∀ (r : Fin 416) (d : Fin 256), q (ix3 0 r d) = (Q (x0 + r.val) d.val : EReal)) (hk : ∀ (j : Fin 1280) (d : Fin 256), k (ix3 0 j d) = (K (n + j.val) d.val : EReal))
    (r : Fin 416) (j : Fin 1280) : sU1280 q k (ix2 r j) = (sR Q K (x0 + r.val) (n + j.val) : EReal) := by
  rw [← coe_dot256]
  pointwise [sU1280]
  exact Finset.sum_congr rfl fun d _ => by rw [hq, hk]

/-- A score under the mask. -/
theorem sM1280_at (x0 n : ℕ) (hx : x0 < 8320) (hn : n < 8320) (s : FVec Ideal S416x1280 .f32) (r : Fin 416) (j : Fin 1280) :
    sM1280 (BitVec.ofNat 32 x0) (BitVec.ofNat 32 n) s (ix2 r j) = if vis (n + j.val) (x0 + r.val) then s (ix2 r j) else ⊥ := by
  have h1 := r.isLt
  have h2 := j.isLt
  have hw : ∀ a b : ℕ, IntOp.addi (BitVec.ofNat 32 a) (BitVec.ofNat 32 b) = BitVec.ofNat 32 (a + b) := fun a b => by
    show BitVec.ofNat 32 a + BitVec.ofNat 32 b = _
    rw [BitVec.ofNat_add]
  pointwise [sM1280]
  rw [hw, hw]
  exact mask_sel _ _ (by omega) (by omega)

/-- A block of 1280 keys takes every row of a chain from `n` keys to `n + 1280`. -/
theorem upd1280 {Q K V : ℕ → ℕ → ℝ} {x0 n : ℕ} {m l : FVec Ideal S416x1 .f32} {a : FVec Ideal S416x128 .f32} (s : FVec Ideal S416x1280 .f32) (v : FVec Ideal S1x1280x128 .bf16)
    (hs : ∀ (r : Fin 416) (j : Fin 1280), 112 ≤ x0 + r.val → s (ix2 r j) = if vis (n + j.val) (x0 + r.val) then (sR Q K (x0 + r.val) (n + j.val) : EReal) else ⊥)
    (hv : ∀ (j : Fin 1280) (e : Fin 128), v (ix3 0 j e) = (V (n + j.val) e.val : EReal)) (hg : CGood Q K V x0 n m l a ∨ (n = 0 ∧ CStart m l a)) :
    CGood Q K V x0 (n + 1280) (mN1280 s m) (lN1280 s m l) (aN1280 s m a v) := by
  intro r hr
  refine upd (fun j => s (ix2 r j)) (fun j => hs r j hr) (m := m (ix2 r 0)) (l := l (ix2 r 0)) (a := row128 a r) ?_ ?_ ?_ ?_
  · rcases hg with hg | ⟨h0, hg⟩
    · exact Or.inl (hg r hr)
    · refine Or.inr ⟨h0, hg r, ⟨⟨112, by omega⟩, ?_⟩⟩
      subst h0
      show (0 + 112) / 64 ≤ (x0 + r.val) / 64 ∧ 112 ≤ 0 + 112
      omega
  · rw [← word_bot]
    pointwise [mN1280]
  · unfold lN1280
    generalize mN1280 s m = M
    pointwise [pN1280]
  · intro e he
    unfold row128
    rw [dif_pos he, dif_pos he]
    unfold aN1280
    generalize mN1280 s m = M
    pointwise [pN1280]
    refine congrArg (_ + ·) (Finset.sum_congr rfl fun j _ => ?_)
    rw [hv]

/-- The running maximum after a block of 1664 keys. -/
def mN1664 (s : FVec Ideal S416x1664 .f32) (m : FVec Ideal S416x1 .f32) : FVec Ideal S416x1 .f32 :=
  maximumf m (shapeCast S416x1 (multiReduction .maximumf [1] S416 s 0xFF800000#32 reduces_S416x1664_S416 (.inl rfl) rfl) shapeCasts_S416_S416x1)
/-- The weights of a block of 1664 keys. -/
def pN1664 (s : FVec Ideal S416x1664 .f32) (m : FVec Ideal S416x1 .f32) : FVec Ideal S416x1664 .f32 :=
  exp (subf s (broadcastTo S416x1664 m broadcasts_S416x1_S416x1664))
/-- The running sum after a block of 1664 keys. -/
def lN1664 (s : FVec Ideal S416x1664 .f32) (m l : FVec Ideal S416x1 .f32) : FVec Ideal S416x1 .f32 :=
  addf (mulf (exp (subf m (mN1664 s m))) l) (shapeCast S416x1 (multiReduction .add [1] S416 (pN1664 s (mN1664 s m)) 0x00000000#32 reduces_S416x1664_S416 (.inl rfl) rfl) shapeCasts_S416_S416x1)
/-- The running weighted sum after a block of 1664 keys. -/
def aN1664 (s : FVec Ideal S416x1664 .f32) (m : FVec Ideal S416x1 .f32) (a : FVec Ideal S416x128 .f32) (v : FVec Ideal S1x1664x128 .bf16) : FVec Ideal S416x128 .f32 :=
  addf (mulf (broadcastTo S416x128 (exp (subf m (mN1664 s m))) broadcasts_S416x1_S416x128) a)
   (matmul (φ₂ := .bf16) dot_S416x1664_S1664x128_S416x128_1_0_0_1_n_n none (truncf .bf16 (pN1664 s (mN1664 s m)) bitsLt_bf16_f32) (shapeCast S1664x128 v shapeCasts_S1x1664x128_S1664x128) (constant S416x128 .f32 0x00000000#32))
/-- The scores of a chain against a block of 1664 keys. -/
def sU1664 (q : FVec Ideal S1x416x256 .bf16) (k : FVec Ideal S1x1664x256 .bf16) : FVec Ideal S416x1664 .f32 :=
  matmul (φ₁ := .bf16) (φ₂ := .bf16) dot_S416x256_S1664x256_S416x1664_1_1_0_0_n_n none (shapeCast S416x256 q shapeCasts_S1x416x256_S416x256) (shapeCast S1664x256 k shapeCasts_S1x1664x256_S1664x256) (constant S416x1664 .f32 0x00000000#32)
/-- The same scores under the mask; the chain starts at row `x0`, the block of keys at row `n`. -/
def sM1664 (x0 n : BitVec 32) (s : FVec Ideal S416x1664 .f32) : FVec Ideal S416x1664 .f32 :=
  select (andi (cmpi .sle (shrsi (addi (broadcast S416x1664 n) (iota .tc S416x1664 32 [1] iota_S416x1664_d1_w32)) (broadcast S416x1664 6#32))
      (shrsi (addi (broadcast S416x1664 x0) (iota .tc S416x1664 32 [0] iota_S416x1664_d0_w32)) (broadcast S416x1664 6#32)))
    (cmpi .sge (addi (broadcast S416x1664 n) (iota .tc S416x1664 32 [1] iota_S416x1664_d1_w32)) (broadcast S416x1664 112#32)))
    s (broadcast S416x1664 (Named.named κ "mask" 0xF149F2CA#32))

/-- A score, over the real numbers. -/
theorem sU1664_at (Q K : ℕ → ℕ → ℝ) (x0 n : ℕ) (q : FVec Ideal S1x416x256 .bf16) (k : FVec Ideal S1x1664x256 .bf16)
    (hq : ∀ (r : Fin 416) (d : Fin 256), q (ix3 0 r d) = (Q (x0 + r.val) d.val : EReal)) (hk : ∀ (j : Fin 1664) (d : Fin 256), k (ix3 0 j d) = (K (n + j.val) d.val : EReal))
    (r : Fin 416) (j : Fin 1664) : sU1664 q k (ix2 r j) = (sR Q K (x0 + r.val) (n + j.val) : EReal) := by
  rw [← coe_dot256]
  pointwise [sU1664]
  exact Finset.sum_congr rfl fun d _ => by rw [hq, hk]

/-- A score under the mask. -/
theorem sM1664_at (x0 n : ℕ) (hx : x0 < 8320) (hn : n < 8320) (s : FVec Ideal S416x1664 .f32) (r : Fin 416) (j : Fin 1664) :
    sM1664 (BitVec.ofNat 32 x0) (BitVec.ofNat 32 n) s (ix2 r j) = if vis (n + j.val) (x0 + r.val) then s (ix2 r j) else ⊥ := by
  have h1 := r.isLt
  have h2 := j.isLt
  have hw : ∀ a b : ℕ, IntOp.addi (BitVec.ofNat 32 a) (BitVec.ofNat 32 b) = BitVec.ofNat 32 (a + b) := fun a b => by
    show BitVec.ofNat 32 a + BitVec.ofNat 32 b = _
    rw [BitVec.ofNat_add]
  pointwise [sM1664]
  rw [hw, hw]
  exact mask_sel _ _ (by omega) (by omega)

/-- A block of 1664 keys takes every row of a chain from `n` keys to `n + 1664`. -/
theorem upd1664 {Q K V : ℕ → ℕ → ℝ} {x0 n : ℕ} {m l : FVec Ideal S416x1 .f32} {a : FVec Ideal S416x128 .f32} (s : FVec Ideal S416x1664 .f32) (v : FVec Ideal S1x1664x128 .bf16)
    (hs : ∀ (r : Fin 416) (j : Fin 1664), 112 ≤ x0 + r.val → s (ix2 r j) = if vis (n + j.val) (x0 + r.val) then (sR Q K (x0 + r.val) (n + j.val) : EReal) else ⊥)
    (hv : ∀ (j : Fin 1664) (e : Fin 128), v (ix3 0 j e) = (V (n + j.val) e.val : EReal)) (hg : CGood Q K V x0 n m l a ∨ (n = 0 ∧ CStart m l a)) :
    CGood Q K V x0 (n + 1664) (mN1664 s m) (lN1664 s m l) (aN1664 s m a v) := by
  intro r hr
  refine upd (fun j => s (ix2 r j)) (fun j => hs r j hr) (m := m (ix2 r 0)) (l := l (ix2 r 0)) (a := row128 a r) ?_ ?_ ?_ ?_
  · rcases hg with hg | ⟨h0, hg⟩
    · exact Or.inl (hg r hr)
    · refine Or.inr ⟨h0, hg r, ⟨⟨112, by omega⟩, ?_⟩⟩
      subst h0
      show (0 + 112) / 64 ≤ (x0 + r.val) / 64 ∧ 112 ≤ 0 + 112
      omega
  · rw [← word_bot]
    pointwise [mN1664]
  · unfold lN1664
    generalize mN1664 s m = M
    pointwise [pN1664]
  · intro e he
    unfold row128
    rw [dif_pos he, dif_pos he]
    unfold aN1664
    generalize mN1664 s m = M
    pointwise [pN1664]
    refine congrArg (_ + ·) (Finset.sum_congr rfl fun j _ => ?_)
    rw [hv]

end Cert.Kernel2Ideal.Hand
end
-- ==== Proof.FwdRow.lean ====
module
public import proofs.«01_k».proof.Proof.FwdUpd
@[expose] public section
set_option maxRecDepth 16384
noncomputable section
namespace Cert.Kernel2Ideal.Hand
open Idealize.ShloMosaic Idealize.ShloMosaic.TcCoe Idealize.ShloMosaic.Tactic Cert.Kernel2Ideal Cert.Kernel2Ideal.Gen
open Cert.KernelIdeal.Hand (vis)
open scoped BigOperators

/-! ## A row's two results -/

variable (Q K V : ℕ → ℕ → ℝ)

/-- A row's output: the softmax of its scores applied to the values. -/
def oR (x e : ℕ) : ℝ := rowDot (fun y => vis y x) (sR Q K x) V 8320 e / rowSum (fun y => vis y x) (sR Q K x) 8320
/-- The logarithm of the sum of a row's exponentials. -/
def lR (x : ℕ) : ℝ := Real.log (rowSum (fun y => vis y x) (sR Q K x) 8320)

/-- The division a point ends a chain with. -/
theorem pay_o (a : FVec Ideal S416x128 .f32) (l : FVec Ideal S416x1 .f32) (k : Fin 416) (e : Fin 128) :
    (k0_pay205 (F := Ideal) a l (ix2 k e) : EReal) = Ideal.div (a (ix2 k e)) (l (ix2 k 0)) := by
  pointwise [k0_pay205]
/-- The logarithm a point ends a chain with. -/
theorem pay_l (m l : FVec Ideal S416x1 .f32) (k : Fin 416) :
    (k0_pay206 (F := Ideal) m l (ix3 0 k 0) : EReal) = m (ix2 k 0) + Ideal.log (l (ix2 k 0)) := by
  pointwise [k0_pay206]

variable {x0 n : ℕ} {m l : FVec Ideal S416x1 .f32} {a : FVec Ideal S416x128 .f32}

/-- Past a chain's last block of keys nothing more is seen. -/
theorem no_more (h1 : x0 + 416 ≤ n) (h2 : n % 64 = 0) (k : Fin 416) (y : ℕ) (hy : n ≤ y) : ¬ vis y (x0 + k.val) := by
  intro h
  have := h.1
  have hk := k.isLt
  omega

/-- The output of a row whose keys have all been gone through. -/
theorem fin_o (hg : CGood Q K V x0 n m l a) (h1 : x0 + 416 ≤ n) (h2 : n % 64 = 0) (h3 : n ≤ 8320) (k : Fin 416) (e : Fin 128) (hr : 112 ≤ x0 + k.val)
    {a' : FVec Ideal S416x128 .f32} {l' : FVec Ideal S416x1 .f32} (ea : a' = a) (el : l' = l) :
    Ideal.div (a' (ix2 k e)) (l' (ix2 k 0)) = (oR Q K V (x0 + k.val) e.val : EReal) := by
  subst ea el
  have h := good_div (hg k hr) ⟨x0 + k.val, by have := k.isLt; omega, le_rfl, hr⟩ e.val e.isLt
  unfold row128 at h
  rw [dif_pos e.isLt] at h
  refine h.trans ?_
  unfold oR
  obtain ⟨d, hd⟩ := Nat.exists_eq_add_of_le h3
  rw [hd, rowSum_more (no_more h1 h2 k), rowDot_more (no_more h1 h2 k)]

/-- The logarithm of a row whose keys have all been gone through. -/
theorem fin_l (hg : CGood Q K V x0 n m l a) (h1 : x0 + 416 ≤ n) (h2 : n % 64 = 0) (h3 : n ≤ 8320) (k : Fin 416) (hr : 112 ≤ x0 + k.val)
    {m' l' : FVec Ideal S416x1 .f32} (em : m' = m) (el : l' = l) :
    m' (ix2 k 0) + Ideal.log (l' (ix2 k 0)) = (lR Q K (x0 + k.val) : EReal) := by
  subst em el
  refine (good_log (hg k hr) ⟨x0 + k.val, by have := k.isLt; omega, le_rfl, hr⟩).trans ?_
  unfold lR
  obtain ⟨d, hd⟩ := Nat.exists_eq_add_of_le h3
  rw [hd, rowSum_more (no_more h1 h2 k)]

end Cert.Kernel2Ideal.Hand
end
-- ==== Proof.FwdRef.lean ====
module
public import proofs.«01_k».proof.Proof.StageAt
public import proofs.«01_k».proof.Proof.FwdRow
public import proofs.«01_k».proof.Proof.Gen.Reference2Ideal.Run
@[expose] public section
set_option maxRecDepth 16384
noncomputable section
namespace Cert.Reference2Ideal.Hand
open Idealize.ShloMosaic Idealize.ShloMosaic.TcCoe Idealize.ShloMosaic.Tactic Cert.Reference2Ideal Cert.Reference2Ideal.Gen Cert.Reference2Ideal.Value
open Cert.KernelIdeal.Hand (scores scores_at top top' top_at expo expo_at total total_at soft soft_at rows256 rows256_at rows128 rows128_at vis coe_dot coe_sum' div_real)
open Cert.Kernel2Ideal.Hand (ew Good upd exp_mask good_div good_log rowSum rowDot)
open scoped BigOperators

/-! ## The reference's two results -/

/-- The scores of queries and keys as launched. -/
abbrev scR (q k : FVec Ideal S8x8320x256 .bf16) : FVec Ideal S8x8208x8208 .f32 := scores (rows256 q) (rows256 k)
/-- The values weighted by the softmax, by row and head. -/
def mixR (v : FVec Ideal S8x8208x128 .f32) (p : FVec Ideal S8x8208x8208 .f32) : FVec Ideal S8208x8x128 .f32 :=
  transpose S8208x8x128 [2, 0, 1] (Host.dotGeneral dot_S8x8208x128_S8x8208x8208_S8x128x8208_1_2_2_1_0_0 none v p) transposes_S8x128x8208_S8208x8x128_2_0_1
/-- The attention's output. -/
def outO (q k : FVec Ideal S8x8320x256 .bf16) (v : FVec Ideal S8x8320x128 .bf16) : FVec Ideal S8208x1024 .bf16 :=
  truncf .bf16 (shapeCast S8208x1024 (mixR (rows128 v) (soft (scR q k))) shapeCasts_S8208x8x128_S8208x1024) bitsLt_bf16_f32
/-- A number per row with a unit axis. -/
abbrev unitR (l : FVec Ideal S8x8208 .f32) : FVec Ideal S8x8208x1 .f32 := broadcastInDim S8x8208x1 ![0, 1] bcast_S8x8208_S8x8208x1_0_1 l
/-- A number plus a logarithm, with a unit axis. -/
def logR (a b : FVec Ideal S8x8208 .f32) : FVec Ideal S8x8208x1 .f32 := addf (unitR a) (Host.log (unitR b))
/-- The logarithms of the rows' sums of exponentials. -/
def outL (q k : FVec Ideal S8x8320x256 .bf16) : FVec Ideal S8x8208x1 .f32 := logR (top (scR q k)) (total (expo (scR q k) (top (scR q k))))

variable (m : (ℓ : Loc nD τ sig) → Buf (Elt Ideal) ℓ) (c : Dev nD)

set_option maxHeartbeats 4000000 in
/-- The reference's first result. -/
theorem res0 : res_out0 m c = outO (m ((c.tc : Thread nD τ).loc main_arg0)) (m ((c.tc : Thread nD τ).loc main_arg1)) (m ((c.tc : Thread nD τ).loc main_arg2)) := by
  unfold res_out0 res_main_v46
  rfl
set_option maxHeartbeats 4000000 in
/-- The reference's second result. -/
theorem res1 : res_out1 m c = outL (m ((c.tc : Thread nD τ).loc main_arg0)) (m ((c.tc : Thread nD τ).loc main_arg1)) := by
  unfold res_out1 res_main_v44
  rfl

/-! ## At an index -/

/-- A weighted value. -/
theorem mixR_at (v : FVec Ideal S8x8208x128 .f32) (p : FVec Ideal S8x8208x8208 .f32) (i : Fin 8208) (h : Fin 8) (e : Fin 128) :
    mixR v p (ix3 i h e) = ∑ j : Fin 8208, v (ix3 h j e) * p (ix3 h i j) := by
  unfold mixR
  pointwise
/-- The output's column `z` is head `z / 128`'s value `z % 128`. -/
theorem outO_at (q k : FVec Ideal S8x8320x256 .bf16) (v : FVec Ideal S8x8320x128 .bf16) (i : Fin 8208) (h : Fin 8) (e : Fin 128) :
    outO q k v (ix2 i ⟨h.val * 128 + e.val, by omega⟩) = mixR (rows128 v) (soft (scR q k)) (ix3 i h e) := by
  unfold outO
  pointwise
/-- A number plus a logarithm. -/
theorem logR_at (a b : FVec Ideal S8x8208 .f32) (h : Fin 8) (i : Fin 8208) : logR a b (ix3 h i 0) = a (ix2 h i) + Ideal.log (b (ix2 h i)) := by
  unfold logR
  pointwise

/-! ## One row, over the real numbers -/

section
variable {W : ℕ} {p : ℕ → Prop} [DecidablePred p] {S : ℕ → ℝ} {V : ℕ → ℕ → ℝ} (t : Fin W → EReal)
  (ht : ∀ j, t j = if p j.val then (S j.val : EReal) else ⊥) (hp : ∃ j : Fin W, p j.val)

include ht hp in
/-- A row's maximum, sum and weighted sum taken at once. -/
theorem once : Good p S V W (Finset.fold max ⊥ t Finset.univ) (∑ j, Ideal.exp (t j - Finset.fold max ⊥ t Finset.univ))
    (fun e => ∑ j : Fin W, Ideal.exp (t j - Finset.fold max ⊥ t Finset.univ) * (V j.val e : EReal)) := by
  have h := upd (p := p) (S := S) (V := V) (n := 0) (m := ⊥) (l := 0) (a := fun _ => 0) t (fun j => by rw [Nat.zero_add]; exact ht j)
    (Or.inr ⟨rfl, ⟨rfl, rfl, fun _ _ => rfl⟩, by obtain ⟨j, hj⟩ := hp; exact ⟨j, by rw [Nat.zero_add]; exact hj⟩⟩)
    (m' := Finset.fold max ⊥ t Finset.univ) (l' := ∑ j, Ideal.exp (t j - Finset.fold max ⊥ t Finset.univ))
    (a' := fun e => ∑ j : Fin W, Ideal.exp (t j - Finset.fold max ⊥ t Finset.univ) * (V j.val e : EReal))
    (max_eq_right bot_le).symm (by rw [mul_zero, zero_add])
    (fun e _ => by
      rw [mul_zero, zero_add]
      exact Finset.sum_congr rfl fun j _ => by rw [Nat.zero_add])
  rwa [Nat.zero_add] at h

include ht hp in
/-- A row's log-sum-exp. -/
theorem row_log : Finset.fold max ⊥ t Finset.univ + Ideal.log (∑ j, Ideal.exp (t j - Finset.fold max ⊥ t Finset.univ))
    = ((Real.log (rowSum p S W) : ℝ) : EReal) :=
  good_log (once (V := fun _ _ => 0) t ht hp) (by obtain ⟨j, hj⟩ := hp; exact ⟨j.val, j.isLt, hj⟩)

include ht hp in
/-- The values weighted by a row's softmax. -/
theorem row_mix (e : ℕ) (he : e < 128) : ∑ j : Fin W, (V j.val e : EReal) * Ideal.div (Ideal.exp (t j - Finset.fold max ⊥ t Finset.univ))
      (∑ j, Ideal.exp (t j - Finset.fold max ⊥ t Finset.univ))
    = ((rowDot p S V W e / rowSum p S W : ℝ) : EReal) := by
  have hg := once (V := V) t ht hp
  have hw : ∃ y < W, p y := by obtain ⟨j, hj⟩ := hp; exact ⟨j.val, j.isLt, hj⟩
  refine Eq.trans ?_ (good_div hg hw e he)
  obtain ⟨μ, h1, h2, -⟩ := hg
  have hl : 0 < ∑ y ∈ Finset.range W, ew p S μ y := by
    obtain ⟨y, hy, hpy⟩ := hw
    refine Finset.sum_pos' (fun z _ => ?_) ⟨y, Finset.mem_range.mpr hy, ?_⟩
    · unfold ew; split
      · exact (Real.exp_pos _).le
      · exact le_rfl
    · unfold ew; rw [if_pos hpy]; exact Real.exp_pos _
  have hE : ∀ j : Fin W, Ideal.exp (t j - Finset.fold max ⊥ t Finset.univ) = (ew p S μ j.val : EReal) := fun j => by rw [h1, ht j, exp_mask]
  rw [h2]
  simp only [hE, div_real _ hl.ne', coe_dot]
  congr 1
  rw [Finset.sum_div]
  exact Finset.sum_congr rfl fun j _ => by ring

end

/-- Sums over the rows' numbers, the rows in front seeing nothing. -/
theorem shift (f : ℕ → ℝ) (hf : ∀ y < 112, f y = 0) : ∑ y ∈ Finset.range 8320, f y = ∑ y ∈ Finset.range 8208, f (112 + y) := by
  rw [show 8320 = 112 + 8208 from rfl, Finset.sum_range_add, Finset.sum_eq_zero fun y hy => hf y (Finset.mem_range.mp hy), zero_add]

end Cert.Reference2Ideal.Hand
end
-- ==== Proof.FwdStep.lean ====
module
public import proofs.«01_k».proof.Proof.FwdUpd
@[expose] public section
set_option maxRecDepth 16384
noncomputable section
namespace Cert.Kernel2Ideal.Hand
open Idealize.ShloMosaic Idealize.ShloMosaic.TcCoe Cert.Kernel2Ideal Cert.Kernel2Ideal.Gen
open Cert.KernelIdeal.Hand (vis)
open scoped BigOperators

/-- A load of `W` rows of an input that holds real numbers. -/
theorem rd {R C W n b : ℕ} (a : Memref sig .tc .vmem ⟨3, ![1, R, C]⟩ .bf16) (ha : a.IsWhole) (x : Vec Ideal ⟨3, ![1, R, C]⟩ .bf16) (G : ℕ → ℕ → ℝ)
    (hx : ∀ y : Shape.Idx ⟨3, ![1, R, C]⟩, x y = (G (b + (y 1).val) (y 2).val : EReal)) (off : Fin 3 → ℕ) (h : off = ![0, n, 0])
    (inb : ∀ d, off d + (![1, W, C] : Fin 3 → ℕ) d ≤ (![1, R, C] : Fin 3 → ℕ) d) (j : Fin W) (d : Fin C) :
    a.view.readAt (Elt Ideal) (Rect.unit (s := ⟨3, ![1, R, C]⟩) off ![1, W, C] inb).toLoadRect (ha.unread x) (ix3 0 j d) = (G (b + n + j.val) d.val : EReal) := by
  subst h
  refine (congrFun (ha.read_unread x) _).trans ((hx _).trans ?_)
  show ((G (b + (n + 1 * j.val)) (0 + 1 * d.val) : ℝ) : EReal) = _
  rw [Nat.one_mul, Nat.one_mul, Nat.zero_add, ← Nat.add_assoc]

/-- A point with a second branch is not at a first block of queries. -/
theorem one_le (i : grid0.Coords) (h : k0_cond2 i = 1#1) : 1 ≤ (i 1).val := by
  have h5 : (i 1).val < 5 := (i 1).isLt
  revert h
  unfold k0_cond2
  generalize (i 1).val = j at h5 ⊢
  revert j; decide
/-- The loop over whole key blocks runs from the second block to the one before the diagonal. -/
theorem trips_eq (i : grid0.Coords) : (k0_t1_loop i).trips = (i 1).val - 1 := by
  have h5 : (i 1).val < 5 := (i 1).isLt
  unfold k0_t1_loop
  generalize (i 1).val = j at h5 ⊢
  revert j; decide

/-- Where a trip's block of keys starts. -/
theorem off1_eq (i : grid0.Coords) (k : Fin (k0_t1_loop i).trips) : k0_off1 i k = ![0, 1664 * (k.val + 1), 0] := by
  have h5 : k.val < 4 := by have := k.isLt; have := trips_eq i; have h5 : (i 1).val < 5 := (i 1).isLt; omega
  unfold k0_off1
  generalize k.val = j at h5 ⊢
  revert j; decide

/-- Where a trip's block of keys starts. -/
theorem off2_eq (i : grid0.Coords) (k : Fin (k0_t1_loop i).trips) : k0_off2 i k = ![0, 1664 * (k.val + 1), 0] := by
  have h5 : k.val < 4 := by have := k.isLt; have := trips_eq i; have h5 : (i 1).val < 5 := (i 1).isLt; omega
  unfold k0_off2
  generalize k.val = j at h5 ⊢
  revert j; decide

/-- Where the diagonal block of keys starts. -/
theorem off5_eq (i : grid0.Coords) : k0_off5 i = ![0, 1664 * (i 1).val, 0] := by
  have h5 : (i 1).val < 5 := (i 1).isLt
  unfold k0_off5
  generalize (i 1).val = j at h5 ⊢
  revert j; decide

/-- Where the diagonal block of keys starts. -/
theorem off6_eq (i : grid0.Coords) : k0_off6 i = ![0, 1664 * (i 1).val, 0] := by
  have h5 : (i 1).val < 5 := (i 1).isLt
  unfold k0_off6
  generalize (i 1).val = j at h5 ⊢
  revert j; decide

/-- Where the diagonal block of keys starts. -/
theorem off7_eq (i : grid0.Coords) : k0_off7 i = ![0, 1664 * (i 1).val, 0] := by
  have h5 : (i 1).val < 5 := (i 1).isLt
  unfold k0_off7
  generalize (i 1).val = j at h5 ⊢
  revert j; decide

/-- Where the diagonal block of keys starts. -/
theorem off8_eq (i : grid0.Coords) : k0_off8 i = ![0, 1664 * (i 1).val, 0] := by
  have h5 : (i 1).val < 5 := (i 1).isLt
  unfold k0_off8
  generalize (i 1).val = j at h5 ⊢
  revert j; decide

/-- Where the diagonal block of keys starts. -/
theorem off9_eq (i : grid0.Coords) : k0_off9 i = ![0, 1664 * (i 1).val, 0] := by
  have h5 : (i 1).val < 5 := (i 1).isLt
  unfold k0_off9
  generalize (i 1).val = j at h5 ⊢
  revert j; decide

/-- Where the diagonal block of keys starts. -/
theorem off10_eq (i : grid0.Coords) : k0_off10 i = ![0, 1664 * (i 1).val, 0] := by
  have h5 : (i 1).val < 5 := (i 1).isLt
  unfold k0_off10
  generalize (i 1).val = j at h5 ⊢
  revert j; decide

/-- Where the diagonal block of keys starts. -/
theorem off11_eq (i : grid0.Coords) : k0_off11 i = ![0, 1664 * (i 1).val, 0] := by
  have h5 : (i 1).val < 5 := (i 1).isLt
  unfold k0_off11
  generalize (i 1).val = j at h5 ⊢
  revert j; decide

/-- Where the diagonal block of keys starts. -/
theorem off12_eq (i : grid0.Coords) : k0_off12 i = ![0, 1664 * (i 1).val, 0] := by
  have h5 : (i 1).val < 5 := (i 1).isLt
  unfold k0_off12
  generalize (i 1).val = j at h5 ⊢
  revert j; decide
/-- The queries of a point are `Q`'s. -/
abbrev In2 (i : grid0.Coords) (x2 : Vec Ideal S1x1664x256 .bf16) (Q : ℕ → ℕ → ℝ) : Prop := ∀ y : S1x1664x256.Idx, x2 y = (Q (1664 * (i 1).val + (y 1).val) (y 2).val : EReal)
/-- The keys are `K`'s. -/
abbrev In3 (x3 : Vec Ideal S1x8320x256 .bf16) (K : ℕ → ℕ → ℝ) : Prop := ∀ y : S1x8320x256.Idx, x3 y = (K (0 + (y 1).val) (y 2).val : EReal)
/-- The values are `V`'s. -/
abbrev In4 (x4 : Vec Ideal S1x8320x128 .bf16) (V : ℕ → ℕ → ℝ) : Prop := ∀ y : S1x8320x128.Idx, x4 y = (V (0 + (y 1).val) (y 2).val : EReal)
/-- A load of a rectangle of a buffer that reads `x`. -/
abbrev bk {s : Shape} {e : EltTy} {a : Memref sig .tc .vmem s e} (w : a.IsWhole) (x : Vec Ideal s e) {o z : Fin s.rank → ℕ} (h : ∀ d, o d + z d ≤ s.size d) :=
  a.view.readAt (Elt Ideal) (Rect.unit (s := s) o z h).toLoadRect (w.unread x)
/-- What a buffer reads after some stores. -/
abbrev wr {s : Shape} {e : EltTy} (a : Memref sig .tc .vmem s e) (T : List (View.Piece (Elt Ideal) s e)) : Vec Ideal s e :=
  a.view.read (Elt Ideal) (a.view.writes (Elt Ideal) a.view.junk T)

variable {c : Dev nD} {i : grid0.Coords} {a2 : Memref sig .tc .vmem S1x1664x256 .bf16} {w2 : a2.IsWhole} {a3 : Memref sig .tc .vmem S1x8320x256 .bf16} {w3 : a3.IsWhole} {a4 : Memref sig .tc .vmem S1x8320x128 .bf16} {w4 : a4.IsWhole} {a5 : Memref sig .tc .vmem S1664x128 .bf16} {w5 : a5.IsWhole} {a6 : Memref sig .tc .vmem S1x1664x1 .f32} {w6 : a6.IsWhole} {a7 : Memref sig .tc .vmem S416x1 .f32} {w7 : a7.IsWhole} {a8 : Memref sig .tc .vmem S416x1 .f32} {w8 : a8.IsWhole} {a9 : Memref sig .tc .vmem S416x1 .f32} {w9 : a9.IsWhole} {a10 : Memref sig .tc .vmem S416x1 .f32} {w10 : a10.IsWhole} {a11 : Memref sig .tc .vmem S416x1 .f32} {w11 : a11.IsWhole} {a12 : Memref sig .tc .vmem S416x1 .f32} {w12 : a12.IsWhole} {a13 : Memref sig .tc .vmem S416x1 .f32} {w13 : a13.IsWhole} {a14 : Memref sig .tc .vmem S416x1 .f32} {w14 : a14.IsWhole} {a15 : Memref sig .tc .vmem S416x128 .f32} {w15 : a15.IsWhole} {a16 : Memref sig .tc .vmem S416x128 .f32} {w16 : a16.IsWhole} {a17 : Memref sig .tc .vmem S416x128 .f32} {w17 : a17.IsWhole} {a18 : Memref sig .tc .vmem S416x128 .f32} {w18 : a18.IsWhole}
  {x2 : Vec Ideal S1x1664x256 .bf16} {x3 : Vec Ideal S1x8320x256 .bf16} {x4 : Vec Ideal S1x8320x128 .bf16} {Q K V : ℕ → ℕ → ℝ}

variable (c x2 x3 x4) in
/-- One trip. -/
abbrev st (hc2 : k0_cond2 i = 1#1) (k : ℕ) (p : Bufs a2 w2 a3 w3 a4 w4 a5 w5 a6 w6 a7 w7 a8 w8 a9 w9 a10 w10 a11 w11 a12 w12 a13 w13 a14 w14 a15 w15 a16 w16 a17 w17 a18 w18) : Bufs a2 w2 a3 w3 a4 w4 a5 w5 a6 w6 a7 w7 a8 w8 a9 w9 a10 w10 a11 w11 a12 w12 a13 w13 a14 w14 a15 w15 a16 w16 a17 w17 a18 w18 :=
  stepB c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) k p

set_option maxHeartbeats 1000000 in
/-- A trip's running maximum, chain 0. -/
theorem stepB_7 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a7.view.read (Elt Ideal) (st c x2 x3 x4 hc2 k p).b7 = mN1664 (sU1664 (bk w2 x2 inb_S1x1664x256_S1x416x256_0_0_0) (bk w3 x3 (k0_off1_inb i ⟨k, hk⟩ hc2))) (a7.view.read (Elt Ideal) p.b7) := by
  unfold st stepB
  rw [dif_pos hk]
  unfold trip
  dsimp only
  rw [← View.readAt_full a7.view p.b7 inb_S416x1_S416x1_0_0]
  refine (View.read_writes_full _ _ _ _ _).trans ?_
  unfold trip.sl.v605
  exact (shapeCast_self _ _).trans rfl

set_option maxHeartbeats 1000000 in
/-- A trip's running sum, chain 0. -/
theorem stepB_11 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a11.view.read (Elt Ideal) (st c x2 x3 x4 hc2 k p).b11 = lN1664 (sU1664 (bk w2 x2 inb_S1x1664x256_S1x416x256_0_0_0) (bk w3 x3 (k0_off1_inb i ⟨k, hk⟩ hc2))) (a7.view.read (Elt Ideal) p.b7) (a11.view.read (Elt Ideal) p.b11) := by
  unfold st stepB
  rw [dif_pos hk]
  unfold trip
  dsimp only
  rw [← View.readAt_full a7.view p.b7 inb_S416x1_S416x1_0_0]
  rw [← View.readAt_full a11.view p.b11 inb_S416x1_S416x1_0_0]
  refine (View.read_writes_full _ _ _ _ _).trans ?_
  unfold trip.sl.v593
  exact (shapeCast_self _ _).trans rfl

set_option maxHeartbeats 1000000 in
/-- A trip's running weighted sum, chain 0. -/
theorem stepB_15 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a15.view.read (Elt Ideal) (st c x2 x3 x4 hc2 k p).b15 = aN1664 (sU1664 (bk w2 x2 inb_S1x1664x256_S1x416x256_0_0_0) (bk w3 x3 (k0_off1_inb i ⟨k, hk⟩ hc2))) (a7.view.read (Elt Ideal) p.b7) (a15.view.read (Elt Ideal) p.b15) (bk w4 x4 (k0_off2_inb i ⟨k, hk⟩ hc2)) := by
  unfold st stepB
  rw [dif_pos hk]
  unfold trip
  dsimp only
  rw [← View.readAt_full a7.view p.b7 inb_S416x1_S416x1_0_0]
  rw [← View.readAt_full a15.view p.b15 inb_S416x128_S416x128_0_0]
  refine (View.read_writes_full _ _ _ _ _).trans ?_
  unfold trip.sl.v602
  exact (shapeCast_self _ _).trans rfl

/-- A trip takes chain 0 over one more block of keys. -/
theorem stepB_c0 (hc2 : k0_cond2 i = 1#1) (h2 : In2 i x2 Q) (h3 : In3 x3 K) (h4 : In4 x4 V)
    (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18)
    (hg : CGood Q K V (1664 * (i 1).val + 0) (1664 * (k + 1)) (a7.view.read (Elt Ideal) p.b7) (a11.view.read (Elt Ideal) p.b11) (a15.view.read (Elt Ideal) p.b15)) :
    CGood Q K V (1664 * (i 1).val + 0) (1664 * (k + 1) + 1664) (a7.view.read (Elt Ideal) (st c x2 x3 x4 hc2 k p).b7) (a11.view.read (Elt Ideal) (st c x2 x3 x4 hc2 k p).b11) (a15.view.read (Elt Ideal) (st c x2 x3 x4 hc2 k p).b15) := by
  have ht := trips_eq i
  have hn : 0 + 1664 * (k + 1) = 1664 * (k + 1) := Nat.zero_add _
  rw [stepB_7 hc2 k hk p, stepB_11 hc2 k hk p, stepB_15 hc2 k hk p]
  refine upd1664 _ _ (fun r j _ => ?_) (fun j e => ?_) (Or.inl hg)
  · have hj := j.isLt
    rw [if_pos ⟨Nat.div_le_div_right (by omega), by omega⟩]
    refine sU1664_at Q K (1664 * (i 1).val + 0) (1664 * (k + 1)) _ _ (fun r d => ?_) (fun j d => ?_) r j
    · exact rd a2 w2 x2 Q h2 _ rfl _ r d
    · exact hn ▸ rd a3 w3 x3 K h3 _ (off1_eq i ⟨k, hk⟩) _ j d
  · exact hn ▸ rd a4 w4 x4 V h4 _ (off2_eq i ⟨k, hk⟩) _ j e

/-- The loop takes chain 0 from the first block of keys to the diagonal. -/
theorem bufs_c0 (hc2 : k0_cond2 i = 1#1) (h2 : In2 i x2 Q) (h3 : In3 x3 K) (h4 : In4 x4 V)
    (B : ℕ → Bufs a2 w2 a3 w3 a4 w4 a5 w5 a6 w6 a7 w7 a8 w8 a9 w9 a10 w10 a11 w11 a12 w12 a13 w13 a14 w14 a15 w15 a16 w16 a17 w17 a18 w18) (hB : ∀ k, B (k + 1) = st c x2 x3 x4 hc2 k (B k))
    (hg : CGood Q K V (1664 * (i 1).val + 0) 1664 (a7.view.read (Elt Ideal) (B 0).b7) (a11.view.read (Elt Ideal) (B 0).b11) (a15.view.read (Elt Ideal) (B 0).b15)) (k : ℕ) (hk : k ≤ (k0_t1_loop i).trips) :
    CGood Q K V (1664 * (i 1).val + 0) (1664 * (k + 1)) (a7.view.read (Elt Ideal) (B k).b7) (a11.view.read (Elt Ideal) (B k).b11) (a15.view.read (Elt Ideal) (B k).b15) := by
  induction k with
  | zero => exact hg
  | succ k ih => exact hB k ▸ stepB_c0 hc2 h2 h3 h4 k hk _ (ih (Nat.le_of_lt hk))

/-- What chain 0 holds after the loop. -/
theorem loop_c0 (hc2 : k0_cond2 i = 1#1) (h2 : In2 i x2 Q) (h3 : In3 x3 K) (h4 : In4 x4 V)
    {G7 : BufTy.Contents (Elt Ideal) a7.view.ty} {G8 : BufTy.Contents (Elt Ideal) a8.view.ty} {G9 : BufTy.Contents (Elt Ideal) a9.view.ty} {G10 : BufTy.Contents (Elt Ideal) a10.view.ty} {G11 : BufTy.Contents (Elt Ideal) a11.view.ty} {G12 : BufTy.Contents (Elt Ideal) a12.view.ty} {G13 : BufTy.Contents (Elt Ideal) a13.view.ty} {G14 : BufTy.Contents (Elt Ideal) a14.view.ty} {G15 : BufTy.Contents (Elt Ideal) a15.view.ty} {G16 : BufTy.Contents (Elt Ideal) a16.view.ty} {G17 : BufTy.Contents (Elt Ideal) a17.view.ty} {G18 : BufTy.Contents (Elt Ideal) a18.view.ty} (hg : CGood Q K V (1664 * (i 1).val + 0) 1664 (a7.view.read (Elt Ideal) G7) (a11.view.read (Elt Ideal) G11) (a15.view.read (Elt Ideal) G15)) :
    CGood Q K V (1664 * (i 1).val + 0) (1664 * (i 1).val) (a7.view.read (Elt Ideal) (sel (k0_t1_loop i).trips G7 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b7)) (a11.view.read (Elt Ideal) (sel (k0_t1_loop i).trips G11 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b11)) (a15.view.read (Elt Ideal) (sel (k0_t1_loop i).trips G15 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b15)) := by
  have h := bufs_c0 hc2 h2 h3 h4 (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18) (fun _ => rfl) hg (k0_t1_loop i).trips le_rfl
  have ht : 1664 * ((k0_t1_loop i).trips + 1) = 1664 * (i 1).val := by have := trips_eq i; have := one_le i hc2; omega
  rw [ht] at h
  generalize (k0_t1_loop i).trips = n at h ⊢
  cases n <;> exact h

set_option maxHeartbeats 1000000 in
/-- A trip's running maximum, chain 1. -/
theorem stepB_8 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a8.view.read (Elt Ideal) (st c x2 x3 x4 hc2 k p).b8 = mN1664 (sU1664 (bk w2 x2 inb_S1x1664x256_S1x416x256_0_416_0) (bk w3 x3 (k0_off1_inb i ⟨k, hk⟩ hc2))) (a8.view.read (Elt Ideal) p.b8) := by
  unfold st stepB
  rw [dif_pos hk]
  unfold trip
  dsimp only
  rw [← View.readAt_full a8.view p.b8 inb_S416x1_S416x1_0_0]
  refine (View.read_writes_full _ _ _ _ _).trans ?_
  unfold trip.sl.v643
  exact (shapeCast_self _ _).trans rfl

set_option maxHeartbeats 1000000 in
/-- A trip's running sum, chain 1. -/
theorem stepB_12 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a12.view.read (Elt Ideal) (st c x2 x3 x4 hc2 k p).b12 = lN1664 (sU1664 (bk w2 x2 inb_S1x1664x256_S1x416x256_0_416_0) (bk w3 x3 (k0_off1_inb i ⟨k, hk⟩ hc2))) (a8.view.read (Elt Ideal) p.b8) (a12.view.read (Elt Ideal) p.b12) := by
  unfold st stepB
  rw [dif_pos hk]
  unfold trip
  dsimp only
  rw [← View.readAt_full a8.view p.b8 inb_S416x1_S416x1_0_0]
  rw [← View.readAt_full a12.view p.b12 inb_S416x1_S416x1_0_0]
  refine (View.read_writes_full _ _ _ _ _).trans ?_
  unfold trip.sl.v631
  exact (shapeCast_self _ _).trans rfl

set_option maxHeartbeats 1000000 in
/-- A trip's running weighted sum, chain 1. -/
theorem stepB_16 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a16.view.read (Elt Ideal) (st c x2 x3 x4 hc2 k p).b16 = aN1664 (sU1664 (bk w2 x2 inb_S1x1664x256_S1x416x256_0_416_0) (bk w3 x3 (k0_off1_inb i ⟨k, hk⟩ hc2))) (a8.view.read (Elt Ideal) p.b8) (a16.view.read (Elt Ideal) p.b16) (bk w4 x4 (k0_off2_inb i ⟨k, hk⟩ hc2)) := by
  unfold st stepB
  rw [dif_pos hk]
  unfold trip
  dsimp only
  rw [← View.readAt_full a8.view p.b8 inb_S416x1_S416x1_0_0]
  rw [← View.readAt_full a16.view p.b16 inb_S416x128_S416x128_0_0]
  refine (View.read_writes_full _ _ _ _ _).trans ?_
  unfold trip.sl.v640
  exact (shapeCast_self _ _).trans rfl

/-- A trip takes chain 1 over one more block of keys. -/
theorem stepB_c1 (hc2 : k0_cond2 i = 1#1) (h2 : In2 i x2 Q) (h3 : In3 x3 K) (h4 : In4 x4 V)
    (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18)
    (hg : CGood Q K V (1664 * (i 1).val + 416) (1664 * (k + 1)) (a8.view.read (Elt Ideal) p.b8) (a12.view.read (Elt Ideal) p.b12) (a16.view.read (Elt Ideal) p.b16)) :
    CGood Q K V (1664 * (i 1).val + 416) (1664 * (k + 1) + 1664) (a8.view.read (Elt Ideal) (st c x2 x3 x4 hc2 k p).b8) (a12.view.read (Elt Ideal) (st c x2 x3 x4 hc2 k p).b12) (a16.view.read (Elt Ideal) (st c x2 x3 x4 hc2 k p).b16) := by
  have ht := trips_eq i
  have hn : 0 + 1664 * (k + 1) = 1664 * (k + 1) := Nat.zero_add _
  rw [stepB_8 hc2 k hk p, stepB_12 hc2 k hk p, stepB_16 hc2 k hk p]
  refine upd1664 _ _ (fun r j _ => ?_) (fun j e => ?_) (Or.inl hg)
  · have hj := j.isLt
    rw [if_pos ⟨Nat.div_le_div_right (by omega), by omega⟩]
    refine sU1664_at Q K (1664 * (i 1).val + 416) (1664 * (k + 1)) _ _ (fun r d => ?_) (fun j d => ?_) r j
    · exact rd a2 w2 x2 Q h2 _ rfl _ r d
    · exact hn ▸ rd a3 w3 x3 K h3 _ (off1_eq i ⟨k, hk⟩) _ j d
  · exact hn ▸ rd a4 w4 x4 V h4 _ (off2_eq i ⟨k, hk⟩) _ j e

/-- The loop takes chain 1 from the first block of keys to the diagonal. -/
theorem bufs_c1 (hc2 : k0_cond2 i = 1#1) (h2 : In2 i x2 Q) (h3 : In3 x3 K) (h4 : In4 x4 V)
    (B : ℕ → Bufs a2 w2 a3 w3 a4 w4 a5 w5 a6 w6 a7 w7 a8 w8 a9 w9 a10 w10 a11 w11 a12 w12 a13 w13 a14 w14 a15 w15 a16 w16 a17 w17 a18 w18) (hB : ∀ k, B (k + 1) = st c x2 x3 x4 hc2 k (B k))
    (hg : CGood Q K V (1664 * (i 1).val + 416) 1664 (a8.view.read (Elt Ideal) (B 0).b8) (a12.view.read (Elt Ideal) (B 0).b12) (a16.view.read (Elt Ideal) (B 0).b16)) (k : ℕ) (hk : k ≤ (k0_t1_loop i).trips) :
    CGood Q K V (1664 * (i 1).val + 416) (1664 * (k + 1)) (a8.view.read (Elt Ideal) (B k).b8) (a12.view.read (Elt Ideal) (B k).b12) (a16.view.read (Elt Ideal) (B k).b16) := by
  induction k with
  | zero => exact hg
  | succ k ih => exact hB k ▸ stepB_c1 hc2 h2 h3 h4 k hk _ (ih (Nat.le_of_lt hk))

/-- What chain 1 holds after the loop. -/
theorem loop_c1 (hc2 : k0_cond2 i = 1#1) (h2 : In2 i x2 Q) (h3 : In3 x3 K) (h4 : In4 x4 V)
    {G7 : BufTy.Contents (Elt Ideal) a7.view.ty} {G8 : BufTy.Contents (Elt Ideal) a8.view.ty} {G9 : BufTy.Contents (Elt Ideal) a9.view.ty} {G10 : BufTy.Contents (Elt Ideal) a10.view.ty} {G11 : BufTy.Contents (Elt Ideal) a11.view.ty} {G12 : BufTy.Contents (Elt Ideal) a12.view.ty} {G13 : BufTy.Contents (Elt Ideal) a13.view.ty} {G14 : BufTy.Contents (Elt Ideal) a14.view.ty} {G15 : BufTy.Contents (Elt Ideal) a15.view.ty} {G16 : BufTy.Contents (Elt Ideal) a16.view.ty} {G17 : BufTy.Contents (Elt Ideal) a17.view.ty} {G18 : BufTy.Contents (Elt Ideal) a18.view.ty} (hg : CGood Q K V (1664 * (i 1).val + 416) 1664 (a8.view.read (Elt Ideal) G8) (a12.view.read (Elt Ideal) G12) (a16.view.read (Elt Ideal) G16)) :
    CGood Q K V (1664 * (i 1).val + 416) (1664 * (i 1).val) (a8.view.read (Elt Ideal) (sel (k0_t1_loop i).trips G8 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b8)) (a12.view.read (Elt Ideal) (sel (k0_t1_loop i).trips G12 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b12)) (a16.view.read (Elt Ideal) (sel (k0_t1_loop i).trips G16 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b16)) := by
  have h := bufs_c1 hc2 h2 h3 h4 (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18) (fun _ => rfl) hg (k0_t1_loop i).trips le_rfl
  have ht : 1664 * ((k0_t1_loop i).trips + 1) = 1664 * (i 1).val := by have := trips_eq i; have := one_le i hc2; omega
  rw [ht] at h
  generalize (k0_t1_loop i).trips = n at h ⊢
  cases n <;> exact h

set_option maxHeartbeats 1000000 in
/-- A trip's running maximum, chain 2. -/
theorem stepB_9 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a9.view.read (Elt Ideal) (st c x2 x3 x4 hc2 k p).b9 = mN1664 (sU1664 (bk w2 x2 inb_S1x1664x256_S1x416x256_0_832_0) (bk w3 x3 (k0_off1_inb i ⟨k, hk⟩ hc2))) (a9.view.read (Elt Ideal) p.b9) := by
  unfold st stepB
  rw [dif_pos hk]
  unfold trip
  dsimp only
  rw [← View.readAt_full a9.view p.b9 inb_S416x1_S416x1_0_0]
  refine (View.read_writes_full _ _ _ _ _).trans ?_
  unfold trip.sl.v681
  exact (shapeCast_self _ _).trans rfl

set_option maxHeartbeats 1000000 in
/-- A trip's running sum, chain 2. -/
theorem stepB_13 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a13.view.read (Elt Ideal) (st c x2 x3 x4 hc2 k p).b13 = lN1664 (sU1664 (bk w2 x2 inb_S1x1664x256_S1x416x256_0_832_0) (bk w3 x3 (k0_off1_inb i ⟨k, hk⟩ hc2))) (a9.view.read (Elt Ideal) p.b9) (a13.view.read (Elt Ideal) p.b13) := by
  unfold st stepB
  rw [dif_pos hk]
  unfold trip
  dsimp only
  rw [← View.readAt_full a9.view p.b9 inb_S416x1_S416x1_0_0]
  rw [← View.readAt_full a13.view p.b13 inb_S416x1_S416x1_0_0]
  refine (View.read_writes_full _ _ _ _ _).trans ?_
  unfold trip.sl.v669
  exact (shapeCast_self _ _).trans rfl

set_option maxHeartbeats 1000000 in
/-- A trip's running weighted sum, chain 2. -/
theorem stepB_17 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a17.view.read (Elt Ideal) (st c x2 x3 x4 hc2 k p).b17 = aN1664 (sU1664 (bk w2 x2 inb_S1x1664x256_S1x416x256_0_832_0) (bk w3 x3 (k0_off1_inb i ⟨k, hk⟩ hc2))) (a9.view.read (Elt Ideal) p.b9) (a17.view.read (Elt Ideal) p.b17) (bk w4 x4 (k0_off2_inb i ⟨k, hk⟩ hc2)) := by
  unfold st stepB
  rw [dif_pos hk]
  unfold trip
  dsimp only
  rw [← View.readAt_full a9.view p.b9 inb_S416x1_S416x1_0_0]
  rw [← View.readAt_full a17.view p.b17 inb_S416x128_S416x128_0_0]
  refine (View.read_writes_full _ _ _ _ _).trans ?_
  unfold trip.sl.v678
  exact (shapeCast_self _ _).trans rfl

/-- A trip takes chain 2 over one more block of keys. -/
theorem stepB_c2 (hc2 : k0_cond2 i = 1#1) (h2 : In2 i x2 Q) (h3 : In3 x3 K) (h4 : In4 x4 V)
    (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18)
    (hg : CGood Q K V (1664 * (i 1).val + 832) (1664 * (k + 1)) (a9.view.read (Elt Ideal) p.b9) (a13.view.read (Elt Ideal) p.b13) (a17.view.read (Elt Ideal) p.b17)) :
    CGood Q K V (1664 * (i 1).val + 832) (1664 * (k + 1) + 1664) (a9.view.read (Elt Ideal) (st c x2 x3 x4 hc2 k p).b9) (a13.view.read (Elt Ideal) (st c x2 x3 x4 hc2 k p).b13) (a17.view.read (Elt Ideal) (st c x2 x3 x4 hc2 k p).b17) := by
  have ht := trips_eq i
  have hn : 0 + 1664 * (k + 1) = 1664 * (k + 1) := Nat.zero_add _
  rw [stepB_9 hc2 k hk p, stepB_13 hc2 k hk p, stepB_17 hc2 k hk p]
  refine upd1664 _ _ (fun r j _ => ?_) (fun j e => ?_) (Or.inl hg)
  · have hj := j.isLt
    rw [if_pos ⟨Nat.div_le_div_right (by omega), by omega⟩]
    refine sU1664_at Q K (1664 * (i 1).val + 832) (1664 * (k + 1)) _ _ (fun r d => ?_) (fun j d => ?_) r j
    · exact rd a2 w2 x2 Q h2 _ rfl _ r d
    · exact hn ▸ rd a3 w3 x3 K h3 _ (off1_eq i ⟨k, hk⟩) _ j d
  · exact hn ▸ rd a4 w4 x4 V h4 _ (off2_eq i ⟨k, hk⟩) _ j e

/-- The loop takes chain 2 from the first block of keys to the diagonal. -/
theorem bufs_c2 (hc2 : k0_cond2 i = 1#1) (h2 : In2 i x2 Q) (h3 : In3 x3 K) (h4 : In4 x4 V)
    (B : ℕ → Bufs a2 w2 a3 w3 a4 w4 a5 w5 a6 w6 a7 w7 a8 w8 a9 w9 a10 w10 a11 w11 a12 w12 a13 w13 a14 w14 a15 w15 a16 w16 a17 w17 a18 w18) (hB : ∀ k, B (k + 1) = st c x2 x3 x4 hc2 k (B k))
    (hg : CGood Q K V (1664 * (i 1).val + 832) 1664 (a9.view.read (Elt Ideal) (B 0).b9) (a13.view.read (Elt Ideal) (B 0).b13) (a17.view.read (Elt Ideal) (B 0).b17)) (k : ℕ) (hk : k ≤ (k0_t1_loop i).trips) :
    CGood Q K V (1664 * (i 1).val + 832) (1664 * (k + 1)) (a9.view.read (Elt Ideal) (B k).b9) (a13.view.read (Elt Ideal) (B k).b13) (a17.view.read (Elt Ideal) (B k).b17) := by
  induction k with
  | zero => exact hg
  | succ k ih => exact hB k ▸ stepB_c2 hc2 h2 h3 h4 k hk _ (ih (Nat.le_of_lt hk))

/-- What chain 2 holds after the loop. -/
theorem loop_c2 (hc2 : k0_cond2 i = 1#1) (h2 : In2 i x2 Q) (h3 : In3 x3 K) (h4 : In4 x4 V)
    {G7 : BufTy.Contents (Elt Ideal) a7.view.ty} {G8 : BufTy.Contents (Elt Ideal) a8.view.ty} {G9 : BufTy.Contents (Elt Ideal) a9.view.ty} {G10 : BufTy.Contents (Elt Ideal) a10.view.ty} {G11 : BufTy.Contents (Elt Ideal) a11.view.ty} {G12 : BufTy.Contents (Elt Ideal) a12.view.ty} {G13 : BufTy.Contents (Elt Ideal) a13.view.ty} {G14 : BufTy.Contents (Elt Ideal) a14.view.ty} {G15 : BufTy.Contents (Elt Ideal) a15.view.ty} {G16 : BufTy.Contents (Elt Ideal) a16.view.ty} {G17 : BufTy.Contents (Elt Ideal) a17.view.ty} {G18 : BufTy.Contents (Elt Ideal) a18.view.ty} (hg : CGood Q K V (1664 * (i 1).val + 832) 1664 (a9.view.read (Elt Ideal) G9) (a13.view.read (Elt Ideal) G13) (a17.view.read (Elt Ideal) G17)) :
    CGood Q K V (1664 * (i 1).val + 832) (1664 * (i 1).val) (a9.view.read (Elt Ideal) (sel (k0_t1_loop i).trips G9 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b9)) (a13.view.read (Elt Ideal) (sel (k0_t1_loop i).trips G13 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b13)) (a17.view.read (Elt Ideal) (sel (k0_t1_loop i).trips G17 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b17)) := by
  have h := bufs_c2 hc2 h2 h3 h4 (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18) (fun _ => rfl) hg (k0_t1_loop i).trips le_rfl
  have ht : 1664 * ((k0_t1_loop i).trips + 1) = 1664 * (i 1).val := by have := trips_eq i; have := one_le i hc2; omega
  rw [ht] at h
  generalize (k0_t1_loop i).trips = n at h ⊢
  cases n <;> exact h

set_option maxHeartbeats 1000000 in
/-- A trip's running maximum, chain 3. -/
theorem stepB_10 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a10.view.read (Elt Ideal) (st c x2 x3 x4 hc2 k p).b10 = mN1664 (sU1664 (bk w2 x2 inb_S1x1664x256_S1x416x256_0_1248_0) (bk w3 x3 (k0_off1_inb i ⟨k, hk⟩ hc2))) (a10.view.read (Elt Ideal) p.b10) := by
  unfold st stepB
  rw [dif_pos hk]
  unfold trip
  dsimp only
  rw [← View.readAt_full a10.view p.b10 inb_S416x1_S416x1_0_0]
  refine (View.read_writes_full _ _ _ _ _).trans ?_
  exact (shapeCast_self _ _).trans rfl

set_option maxHeartbeats 1000000 in
/-- A trip's running sum, chain 3. -/
theorem stepB_14 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a14.view.read (Elt Ideal) (st c x2 x3 x4 hc2 k p).b14 = lN1664 (sU1664 (bk w2 x2 inb_S1x1664x256_S1x416x256_0_1248_0) (bk w3 x3 (k0_off1_inb i ⟨k, hk⟩ hc2))) (a10.view.read (Elt Ideal) p.b10) (a14.view.read (Elt Ideal) p.b14) := by
  unfold st stepB
  rw [dif_pos hk]
  unfold trip
  dsimp only
  rw [← View.readAt_full a10.view p.b10 inb_S416x1_S416x1_0_0]
  rw [← View.readAt_full a14.view p.b14 inb_S416x1_S416x1_0_0]
  refine (View.read_writes_full _ _ _ _ _).trans ?_
  unfold trip.sl.v707
  exact (shapeCast_self _ _).trans rfl

set_option maxHeartbeats 1000000 in
/-- A trip's running weighted sum, chain 3. -/
theorem stepB_18 (hc2 : k0_cond2 i = 1#1) (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18) :
    a18.view.read (Elt Ideal) (st c x2 x3 x4 hc2 k p).b18 = aN1664 (sU1664 (bk w2 x2 inb_S1x1664x256_S1x416x256_0_1248_0) (bk w3 x3 (k0_off1_inb i ⟨k, hk⟩ hc2))) (a10.view.read (Elt Ideal) p.b10) (a18.view.read (Elt Ideal) p.b18) (bk w4 x4 (k0_off2_inb i ⟨k, hk⟩ hc2)) := by
  unfold st stepB
  rw [dif_pos hk]
  unfold trip
  dsimp only
  rw [← View.readAt_full a10.view p.b10 inb_S416x1_S416x1_0_0]
  rw [← View.readAt_full a18.view p.b18 inb_S416x128_S416x128_0_0]
  refine (View.read_writes_full _ _ _ _ _).trans ?_
  exact (shapeCast_self _ _).trans rfl

/-- A trip takes chain 3 over one more block of keys. -/
theorem stepB_c3 (hc2 : k0_cond2 i = 1#1) (h2 : In2 i x2 Q) (h3 : In3 x3 K) (h4 : In4 x4 V)
    (k : ℕ) (hk : k < (k0_t1_loop i).trips) (p : Bufs a2 w2 a3 w3 a4 w4 a5 w5 a6 w6 a7 w7 a8 w8 a9 w9 a10 w10 a11 w11 a12 w12 a13 w13 a14 w14 a15 w15 a16 w16 a17 w17 a18 w18)
    (hg : CGood Q K V (1664 * (i 1).val + 1248) (1664 * (k + 1)) (a10.view.read (Elt Ideal) p.b10) (a14.view.read (Elt Ideal) p.b14) (a18.view.read (Elt Ideal) p.b18)) :
    CGood Q K V (1664 * (i 1).val + 1248) (1664 * (k + 1) + 1664) (a10.view.read (Elt Ideal) (st c x2 x3 x4 hc2 k p).b10) (a14.view.read (Elt Ideal) (st c x2 x3 x4 hc2 k p).b14) (a18.view.read (Elt Ideal) (st c x2 x3 x4 hc2 k p).b18) := by
  have ht := trips_eq i
  have hn : 0 + 1664 * (k + 1) = 1664 * (k + 1) := Nat.zero_add _
  rw [stepB_10 hc2 k hk p, stepB_14 hc2 k hk p, stepB_18 hc2 k hk p]
  refine upd1664 _ _ (fun r j _ => ?_) (fun j e => ?_) (Or.inl hg)
  · have hj := j.isLt
    rw [if_pos ⟨Nat.div_le_div_right (by omega), by omega⟩]
    refine sU1664_at Q K (1664 * (i 1).val + 1248) (1664 * (k + 1)) _ _ (fun r d => ?_) (fun j d => ?_) r j
    · exact rd a2 w2 x2 Q h2 _ rfl _ r d
    · exact hn ▸ rd a3 w3 x3 K h3 _ (off1_eq i ⟨k, hk⟩) _ j d
  · exact hn ▸ rd a4 w4 x4 V h4 _ (off2_eq i ⟨k, hk⟩) _ j e

/-- The loop takes chain 3 from the first block of keys to the diagonal. -/
theorem bufs_c3 (hc2 : k0_cond2 i = 1#1) (h2 : In2 i x2 Q) (h3 : In3 x3 K) (h4 : In4 x4 V)
    (B : ℕ → Bufs a2 w2 a3 w3 a4 w4 a5 w5 a6 w6 a7 w7 a8 w8 a9 w9 a10 w10 a11 w11 a12 w12 a13 w13 a14 w14 a15 w15 a16 w16 a17 w17 a18 w18) (hB : ∀ k, B (k + 1) = st c x2 x3 x4 hc2 k (B k))
    (hg : CGood Q K V (1664 * (i 1).val + 1248) 1664 (a10.view.read (Elt Ideal) (B 0).b10) (a14.view.read (Elt Ideal) (B 0).b14) (a18.view.read (Elt Ideal) (B 0).b18)) (k : ℕ) (hk : k ≤ (k0_t1_loop i).trips) :
    CGood Q K V (1664 * (i 1).val + 1248) (1664 * (k + 1)) (a10.view.read (Elt Ideal) (B k).b10) (a14.view.read (Elt Ideal) (B k).b14) (a18.view.read (Elt Ideal) (B k).b18) := by
  induction k with
  | zero => exact hg
  | succ k ih => exact hB k ▸ stepB_c3 hc2 h2 h3 h4 k hk _ (ih (Nat.le_of_lt hk))

/-- What chain 3 holds after the loop. -/
theorem loop_c3 (hc2 : k0_cond2 i = 1#1) (h2 : In2 i x2 Q) (h3 : In3 x3 K) (h4 : In4 x4 V)
    {G7 : BufTy.Contents (Elt Ideal) a7.view.ty} {G8 : BufTy.Contents (Elt Ideal) a8.view.ty} {G9 : BufTy.Contents (Elt Ideal) a9.view.ty} {G10 : BufTy.Contents (Elt Ideal) a10.view.ty} {G11 : BufTy.Contents (Elt Ideal) a11.view.ty} {G12 : BufTy.Contents (Elt Ideal) a12.view.ty} {G13 : BufTy.Contents (Elt Ideal) a13.view.ty} {G14 : BufTy.Contents (Elt Ideal) a14.view.ty} {G15 : BufTy.Contents (Elt Ideal) a15.view.ty} {G16 : BufTy.Contents (Elt Ideal) a16.view.ty} {G17 : BufTy.Contents (Elt Ideal) a17.view.ty} {G18 : BufTy.Contents (Elt Ideal) a18.view.ty} (hg : CGood Q K V (1664 * (i 1).val + 1248) 1664 (a10.view.read (Elt Ideal) G10) (a14.view.read (Elt Ideal) G14) (a18.view.read (Elt Ideal) G18)) :
    CGood Q K V (1664 * (i 1).val + 1248) (1664 * (i 1).val) (a10.view.read (Elt Ideal) (sel (k0_t1_loop i).trips G10 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b10)) (a14.view.read (Elt Ideal) (sel (k0_t1_loop i).trips G14 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b14)) (a18.view.read (Elt Ideal) (sel (k0_t1_loop i).trips G18 fun n => (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18 (n + 1)).b18)) := by
  have h := bufs_c3 hc2 h2 h3 h4 (bufs c i a2 w2 a3 w3 a4 w4 a5 w5 a6 w6 a7 w7 a8 w8 a9 w9 a10 w10 a11 w11 a12 w12 a13 w13 a14 w14 a15 w15 a16 w16 a17 w17 a18 w18 (BitVec.ofNat 32 (i 1).val) hc2 1#32 (w2.unread x2) (w3.unread x3) (w4.unread x4) G7 G8 G9 G10 G11 G12 G13 G14 G15 G16 G17 G18) (fun _ => rfl) hg (k0_t1_loop i).trips le_rfl
  have ht : 1664 * ((k0_t1_loop i).trips + 1) = 1664 * (i 1).val := by have := trips_eq i; have := one_le i hc2; omega
  rw [ht] at h
  generalize (k0_t1_loop i).trips = n at h ⊢
  cases n <;> exact h

end Cert.Kernel2Ideal.Hand
end
-- ==== Proof.FwdRunA.lean ====
module
public import proofs.«01_k».proof.Proof.FwdLoop
public import Idealize.ShloMosaic.Lib.Pipeline.FrameBody
public import Idealize.ShloMosaic.Lib.VecWindow
public import Idealize.ShloMosaic.Lib.Ring
public import Idealize.ShloMosaic.Lib.Tactic
@[expose] public section
set_option maxRecDepth 16384
noncomputable section
namespace Cert.Kernel2Ideal.Hand
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (UR sig nD τ) ℕ

set_option maxHeartbeats 4000000 in
/-- What one point of the grid leaves in its two output blocks (the first query block), with the triple. -/
@[irreducible] def runA (c : Dev nD) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (hc1 : k0_cond1 i = 1#1) (hc2 : ¬ k0_cond2 i = 1#1)
    (x2 : Vec Ideal S1x1664x256 .bf16) (x3 : Vec Ideal S1x8320x256 .bf16) (x4 : Vec Ideal S1x8320x128 .bf16) :
      Σ' (y5 : Vec Ideal S1664x128 .bf16) (y6 : Vec Ideal S1x1664x1 .f32), ∀ (E : Set ℕ) (K : PUnit → sProp 𝕄),
        iprop(owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
            ∗ (iprop(owns (c : Thread nD τ) a2 fullShare x2 ∗ owns (c : Thread nD τ) a3 fullShare x3 ∗ owns (c : Thread nD τ) a4 fullShare x4 ∗ owns (c : Thread nD τ) a5 fullShare y5 ∗ owns (c : Thread nD τ) a6 fullShare y6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)) -∗ K PUnit.unit))
          ⊢ wp frame (wpE (defs₀ (F := Ideal)) Variants.none c none) E (cc0_flash_fwd i a2 w2 a3 w3 a4 w4 a5 w5 a6 w6 a7 w7 a8 w8 a9 w9 a10 w10 a11 w11 a12 w12 a13 w13 a14 w14 a15 w15 a16 w16 a17 w17 a18 w18) K := by
    refine ⟨?_, ?_, fun E K => ?run⟩
    case run =>
      simp only [cc0_flash_fwd_eq_skeleton]; unfold cc0_flash_fwd_skel
      simp only [k0_part27_eq_skeleton, k0_part28_eq_skeleton, k0_part29_eq_skeleton]
      unfold owns
      iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
      obtain rfl := w2.eq_unread hf2; obtain rfl := w3.eq_unread hf3; obtain rfl := w4.eq_unread hf4
      sl_exec! (disch := first | sl_exact hc1 | sl_exact hc2)
      sl_step
      iapply Hk
      isplitl [H2]
      · iexists _; isplitr; · ipureintro; exact w2.read_unread _
        iexact H2
      isplitl [H3]
      · iexists _; isplitr; · ipureintro; exact w3.read_unread _
        iexact H3
      isplitl [H4]
      · iexists _; isplitr; · ipureintro; exact w4.read_unread _
        iexact H4
      isplitl [H5]
      · iexists _; isplitr; swap; · iexact H5
        ipureintro
        rfl
      isplitl [H6]
      · iexists _; isplitr; swap; · iexact H6
        ipureintro
        rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      iexists _, _; isplitr; swap; · iexact H18
      ipureintro; rfl

end Cert.Kernel2Ideal.Hand
end
-- ==== Proof.FwdA.lean ====
module
public import proofs.«01_k».proof.Proof.FwdStep
public import proofs.«01_k».proof.Proof.FwdRunA
@[expose] public section
set_option maxRecDepth 16384
noncomputable section
namespace Cert.Kernel2Ideal.Hand
open Idealize.ShloMosaic Idealize.ShloMosaic.TcCoe Cert.Kernel2Ideal Cert.Kernel2Ideal.Gen
open Cert.KernelIdeal.Hand (vis)
open scoped BigOperators

/-- The word of a chain's first row. -/
theorem row_word (a b : ℕ) : Scalar.addi (Scalar.muli (BitVec.ofNat 32 a) 1664#32) (BitVec.ofNat 32 b) = BitVec.ofNat 32 (1664 * a + b) := by
  show BitVec.ofNat 32 a * BitVec.ofNat 32 1664 + BitVec.ofNat 32 b = _
  rw [← BitVec.ofNat_mul, ← BitVec.ofNat_add, Nat.mul_comm]
/-- The word of a block's first row. -/
theorem blk_word (a : ℕ) : Scalar.muli (BitVec.ofNat 32 a) 1664#32 = BitVec.ofNat 32 (1664 * a) := by
  show BitVec.ofNat 32 a * BitVec.ofNat 32 1664 = _
  rw [← BitVec.ofNat_mul, Nat.mul_comm]

variable {c : Dev nD} {i : grid0.Coords} {a2 : Memref sig .tc .vmem S1x1664x256 .bf16} {w2 : a2.IsWhole} {a3 : Memref sig .tc .vmem S1x8320x256 .bf16} {w3 : a3.IsWhole} {a4 : Memref sig .tc .vmem S1x8320x128 .bf16} {w4 : a4.IsWhole} {a5 : Memref sig .tc .vmem S1664x128 .bf16} {w5 : a5.IsWhole} {a6 : Memref sig .tc .vmem S1x1664x1 .f32} {w6 : a6.IsWhole} {a7 : Memref sig .tc .vmem S416x1 .f32} {w7 : a7.IsWhole} {a8 : Memref sig .tc .vmem S416x1 .f32} {w8 : a8.IsWhole} {a9 : Memref sig .tc .vmem S416x1 .f32} {w9 : a9.IsWhole} {a10 : Memref sig .tc .vmem S416x1 .f32} {w10 : a10.IsWhole} {a11 : Memref sig .tc .vmem S416x1 .f32} {w11 : a11.IsWhole} {a12 : Memref sig .tc .vmem S416x1 .f32} {w12 : a12.IsWhole} {a13 : Memref sig .tc .vmem S416x1 .f32} {w13 : a13.IsWhole} {a14 : Memref sig .tc .vmem S416x1 .f32} {w14 : a14.IsWhole} {a15 : Memref sig .tc .vmem S416x128 .f32} {w15 : a15.IsWhole} {a16 : Memref sig .tc .vmem S416x128 .f32} {w16 : a16.IsWhole} {a17 : Memref sig .tc .vmem S416x128 .f32} {w17 : a17.IsWhole} {a18 : Memref sig .tc .vmem S416x128 .f32} {w18 : a18.IsWhole}
  {x2 : Vec Ideal S1x1664x256 .bf16} {x3 : Vec Ideal S1x8320x256 .bf16} {x4 : Vec Ideal S1x8320x128 .bf16} {Q K V : ℕ → ℕ → ℝ}

/-- Chain 0 starts empty. -/
theorem startA_0 : CStart (runA.sl.v134 c a7) (runA.sl.v143 c a11) (runA.sl.v151 c a15) := by
  intro r
  refine ⟨?_, ?_, fun e he => ?_⟩
  · unfold runA.sl.v134 runA.sl.H7_1
    rw [View.readCov_full]
    rfl
  · unfold runA.sl.v143 runA.sl.H11_1
    rw [View.readCov_full]
    exact Ideal.ofBits_zero_f32
  · unfold row128 runA.sl.v151 runA.sl.H15_1
    rw [dif_pos he, View.readCov_full]
    exact Ideal.ofBits_zero_f32

set_option maxHeartbeats 1000000 in
/-- Chain 0 after the first block of keys. -/
theorem blockA_0 (h2 : In2 i x2 Q) (h3 : In3 x3 K) (h4 : In4 x4 V) :
    CGood Q K V (1664 * (i 1).val + 0) 512 (wr a7 (runA.sl.H7_2 c i a2 w2 a3 w3 a7 x2 x3)) (wr a11 (runA.sl.H11_2 c i a2 w2 a3 w3 a7 a11 x2 x3)) (wr a15 (runA.sl.H15_2 c i a2 w2 a3 w3 a4 w4 a7 a15 x2 x3 x4)) := by
  have hi : (i 1).val < 5 := (i 1).isLt
  rw [← Nat.zero_add 512]
  have e7 : (wr a7 (runA.sl.H7_2 c i a2 w2 a3 w3 a7 x2 x3)) = mN512 (sM512 (Scalar.addi (Scalar.muli (BitVec.ofNat 32 (i 1).val) 1664#32) 0#32) 0#32 (sU512 (bk w2 x2 inb_S1x1664x256_S1x416x256_0_0_0) (bk w3 x3 inb_S1x8320x256_S1x512x256_0_0_0))) (runA.sl.v134 c a7) := by
    unfold runA.sl.H7_2; refine (View.read_writes_full _ _ _ _ _).trans ?_; unfold runA.sl.v162; exact (shapeCast_self _ _).trans rfl
  have e11 : (wr a11 (runA.sl.H11_2 c i a2 w2 a3 w3 a7 a11 x2 x3)) = lN512 (sM512 (Scalar.addi (Scalar.muli (BitVec.ofNat 32 (i 1).val) 1664#32) 0#32) 0#32 (sU512 (bk w2 x2 inb_S1x1664x256_S1x416x256_0_0_0) (bk w3 x3 inb_S1x8320x256_S1x512x256_0_0_0))) (runA.sl.v134 c a7) (runA.sl.v143 c a11) := by
    unfold runA.sl.H11_2; refine (View.read_writes_full _ _ _ _ _).trans ?_; unfold runA.sl.v150; exact (shapeCast_self _ _).trans rfl
  have e15 : (wr a15 (runA.sl.H15_2 c i a2 w2 a3 w3 a4 w4 a7 a15 x2 x3 x4)) = aN512 (sM512 (Scalar.addi (Scalar.muli (BitVec.ofNat 32 (i 1).val) 1664#32) 0#32) 0#32 (sU512 (bk w2 x2 inb_S1x1664x256_S1x416x256_0_0_0) (bk w3 x3 inb_S1x8320x256_S1x512x256_0_0_0))) (runA.sl.v134 c a7) (runA.sl.v151 c a15) (bk w4 x4 inb_S1x8320x128_S1x512x128_0_0_0) := by
    unfold runA.sl.H15_2; refine (View.read_writes_full _ _ _ _ _).trans ?_; unfold runA.sl.v159; exact (shapeCast_self _ _).trans rfl
  rw [e7, e11, e15]
  refine upd512 _ _ (fun r j _ => ?_) (fun j e => ?_) (Or.inr ⟨rfl, startA_0⟩)
  · rw [row_word]
    refine (sM512_at _ 0 (by omega) (by omega) _ r j).trans ?_
    refine congrArg (fun s => if vis (0 + j.val) (1664 * (i 1).val + 0 + r.val) then s else ⊥) ?_
    refine sU512_at Q K (1664 * (i 1).val + 0) 0 _ _ (fun r d => ?_) (fun j d => ?_) r j
    · exact rd a2 w2 x2 Q h2 _ rfl _ r d
    · exact rd a3 w3 x3 K h3 _ rfl _ j d
  · exact rd a4 w4 x4 V h4 _ rfl _ j e

/-- Chain 1 starts empty. -/
theorem startA_1 : CStart (runA.sl.v190 c a8) (runA.sl.v199 c a12) (runA.sl.v207 c a16) := by
  intro r
  refine ⟨?_, ?_, fun e he => ?_⟩
  · unfold runA.sl.v190 runA.sl.H8_1
    rw [View.readCov_full]
    rfl
  · unfold runA.sl.v199 runA.sl.H12_1
    rw [View.readCov_full]
    exact Ideal.ofBits_zero_f32
  · unfold row128 runA.sl.v207 runA.sl.H16_1
    rw [dif_pos he, View.readCov_full]
    exact Ideal.ofBits_zero_f32

set_option maxHeartbeats 1000000 in
/-- Chain 1 after the first block of keys. -/
theorem blockA_1 (h2 : In2 i x2 Q) (h3 : In3 x3 K) (h4 : In4 x4 V) :
    CGood Q K V (1664 * (i 1).val + 416) 896 (wr a8 (runA.sl.H8_2 c i a2 w2 a3 w3 a8 x2 x3)) (wr a12 (runA.sl.H12_2 c i a2 w2 a3 w3 a8 a12 x2 x3)) (wr a16 (runA.sl.H16_2 c i a2 w2 a3 w3 a4 w4 a8 a16 x2 x3 x4)) := by
  have hi : (i 1).val < 5 := (i 1).isLt
  rw [← Nat.zero_add 896]
  have e8 : (wr a8 (runA.sl.H8_2 c i a2 w2 a3 w3 a8 x2 x3)) = mN896 (sM896 (Scalar.addi (Scalar.muli (BitVec.ofNat 32 (i 1).val) 1664#32) 416#32) 0#32 (sU896 (bk w2 x2 inb_S1x1664x256_S1x416x256_0_416_0) (bk w3 x3 inb_S1x8320x256_S1x896x256_0_0_0))) (runA.sl.v190 c a8) := by
    unfold runA.sl.H8_2; refine (View.read_writes_full _ _ _ _ _).trans ?_; exact (shapeCast_self _ _).trans rfl
  have e12 : (wr a12 (runA.sl.H12_2 c i a2 w2 a3 w3 a8 a12 x2 x3)) = lN896 (sM896 (Scalar.addi (Scalar.muli (BitVec.ofNat 32 (i 1).val) 1664#32) 416#32) 0#32 (sU896 (bk w2 x2 inb_S1x1664x256_S1x416x256_0_416_0) (bk w3 x3 inb_S1x8320x256_S1x896x256_0_0_0))) (runA.sl.v190 c a8) (runA.sl.v199 c a12) := by
    unfold runA.sl.H12_2; refine (View.read_writes_full _ _ _ _ _).trans ?_; exact (shapeCast_self _ _).trans rfl
  have e16 : (wr a16 (runA.sl.H16_2 c i a2 w2 a3 w3 a4 w4 a8 a16 x2 x3 x4)) = aN896 (sM896 (Scalar.addi (Scalar.muli (BitVec.ofNat 32 (i 1).val) 1664#32) 416#32) 0#32 (sU896 (bk w2 x2 inb_S1x1664x256_S1x416x256_0_416_0) (bk w3 x3 inb_S1x8320x256_S1x896x256_0_0_0))) (runA.sl.v190 c a8) (runA.sl.v207 c a16) (bk w4 x4 inb_S1x8320x128_S1x896x128_0_0_0) := by
    unfold runA.sl.H16_2; refine (View.read_writes_full _ _ _ _ _).trans ?_; exact (shapeCast_self _ _).trans rfl
  rw [e8, e12, e16]
  refine upd896 _ _ (fun r j _ => ?_) (fun j e => ?_) (Or.inr ⟨rfl, startA_1⟩)
  · rw [row_word]
    refine (sM896_at _ 0 (by omega) (by omega) _ r j).trans ?_
    refine congrArg (fun s => if vis (0 + j.val) (1664 * (i 1).val + 416 + r.val) then s else ⊥) ?_
    refine sU896_at Q K (1664 * (i 1).val + 416) 0 _ _ (fun r d => ?_) (fun j d => ?_) r j
    · exact rd a2 w2 x2 Q h2 _ rfl _ r d
    · exact rd a3 w3 x3 K h3 _ rfl _ j d
  · exact rd a4 w4 x4 V h4 _ rfl _ j e

/-- Chain 2 starts empty. -/
theorem startA_2 : CStart (runA.sl.v246 c a9) (runA.sl.v255 c a13) (runA.sl.v263 c a17) := by
  intro r
  refine ⟨?_, ?_, fun e he => ?_⟩
  · unfold runA.sl.v246 runA.sl.H9_1
    rw [View.readCov_full]
    rfl
  · unfold runA.sl.v255 runA.sl.H13_1
    rw [View.readCov_full]
    exact Ideal.ofBits_zero_f32
  · unfold row128 runA.sl.v263 runA.sl.H17_1
    rw [dif_pos he, View.readCov_full]
    exact Ideal.ofBits_zero_f32

set_option maxHeartbeats 1000000 in
/-- Chain 2 after the first block of keys. -/
theorem blockA_2 (h2 : In2 i x2 Q) (h3 : In3 x3 K) (h4 : In4 x4 V) :
    CGood Q K V (1664 * (i 1).val + 832) 1280 (wr a9 (runA.sl.H9_2 c i a2 w2 a3 w3 a9 x2 x3)) (wr a13 (runA.sl.H13_2 c i a2 w2 a3 w3 a9 a13 x2 x3)) (wr a17 (runA.sl.H17_2 c i a2 w2 a3 w3 a4 w4 a9 a17 x2 x3 x4)) := by
  have hi : (i 1).val < 5 := (i 1).isLt
  rw [← Nat.zero_add 1280]
  have e9 : (wr a9 (runA.sl.H9_2 c i a2 w2 a3 w3 a9 x2 x3)) = mN1280 (sM1280 (Scalar.addi (Scalar.muli (BitVec.ofNat 32 (i 1).val) 1664#32) 832#32) 0#32 (sU1280 (bk w2 x2 inb_S1x1664x256_S1x416x256_0_832_0) (bk w3 x3 inb_S1x8320x256_S1x1280x256_0_0_0))) (runA.sl.v246 c a9) := by
    unfold runA.sl.H9_2; refine (View.read_writes_full _ _ _ _ _).trans ?_; unfold runA.sl.v274; exact (shapeCast_self _ _).trans rfl
  have e13 : (wr a13 (runA.sl.H13_2 c i a2 w2 a3 w3 a9 a13 x2 x3)) = lN1280 (sM1280 (Scalar.addi (Scalar.muli (BitVec.ofNat 32 (i 1).val) 1664#32) 832#32) 0#32 (sU1280 (bk w2 x2 inb_S1x1664x256_S1x416x256_0_832_0) (bk w3 x3 inb_S1x8320x256_S1x1280x256_0_0_0))) (runA.sl.v246 c a9) (runA.sl.v255 c a13) := by
    unfold runA.sl.H13_2; refine (View.read_writes_full _ _ _ _ _).trans ?_; unfold runA.sl.v262; exact (shapeCast_self _ _).trans rfl
  have e17 : (wr a17 (runA.sl.H17_2 c i a2 w2 a3 w3 a4 w4 a9 a17 x2 x3 x4)) = aN1280 (sM1280 (Scalar.addi (Scalar.muli (BitVec.ofNat 32 (i 1).val) 1664#32) 832#32) 0#32 (sU1280 (bk w2 x2 inb_S1x1664x256_S1x416x256_0_832_0) (bk w3 x3 inb_S1x8320x256_S1x1280x256_0_0_0))) (runA.sl.v246 c a9) (runA.sl.v263 c a17) (bk w4 x4 inb_S1x8320x128_S1x1280x128_0_0_0) := by
    unfold runA.sl.H17_2; refine (View.read_writes_full _ _ _ _ _).trans ?_; unfold runA.sl.v271; exact (shapeCast_self _ _).trans rfl
  rw [e9, e13, e17]
  refine upd1280 _ _ (fun r j _ => ?_) (fun j e => ?_) (Or.inr ⟨rfl, startA_2⟩)
  · rw [row_word]
    refine (sM1280_at _ 0 (by omega) (by omega) _ r j).trans ?_
    refine congrArg (fun s => if vis (0 + j.val) (1664 * (i 1).val + 832 + r.val) then s else ⊥) ?_
    refine sU1280_at Q K (1664 * (i 1).val + 832) 0 _ _ (fun r d => ?_) (fun j d => ?_) r j
    · exact rd a2 w2 x2 Q h2 _ rfl _ r d
    · exact rd a3 w3 x3 K h3 _ rfl _ j d
  · exact rd a4 w4 x4 V h4 _ rfl _ j e

/-- Chain 3 starts empty. -/
theorem startA_3 : CStart (runA.sl.v302 c a10) (runA.sl.v311 c a14) (runA.sl.v319 c a18) := by
  intro r
  refine ⟨?_, ?_, fun e he => ?_⟩
  · unfold runA.sl.v302 runA.sl.H10_1
    rw [View.readCov_full]
    rfl
  · unfold runA.sl.v311 runA.sl.H14_1
    rw [View.readCov_full]
    exact Ideal.ofBits_zero_f32
  · unfold row128 runA.sl.v319 runA.sl.H18_1
    rw [dif_pos he, View.readCov_full]
    exact Ideal.ofBits_zero_f32

set_option maxHeartbeats 1000000 in
/-- Chain 3 after the first block of keys. -/
theorem blockA_3 (h2 : In2 i x2 Q) (h3 : In3 x3 K) (h4 : In4 x4 V) :
    CGood Q K V (1664 * (i 1).val + 1248) 1664 (wr a10 (runA.sl.H10_2 c i a2 w2 a3 w3 a10 x2 x3)) (wr a14 (runA.sl.H14_2 c i a2 w2 a3 w3 a10 a14 x2 x3)) (wr a18 (runA.sl.H18_2 c i a2 w2 a3 w3 a4 w4 a10 a18 x2 x3 x4)) := by
  have hi : (i 1).val < 5 := (i 1).isLt
  rw [← Nat.zero_add 1664]
  have e10 : (wr a10 (runA.sl.H10_2 c i a2 w2 a3 w3 a10 x2 x3)) = mN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runA.sl.v302 c a10) := by
    unfold runA.sl.H10_2; refine (View.read_writes_full _ _ _ _ _).trans ?_; exact (shapeCast_self _ _).trans rfl
  have e14 : (wr a14 (runA.sl.H14_2 c i a2 w2 a3 w3 a10 a14 x2 x3)) = lN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runA.sl.v302 c a10) (runA.sl.v311 c a14) := by
    unfold runA.sl.H14_2; refine (View.read_writes_full _ _ _ _ _).trans ?_; exact (shapeCast_self _ _).trans rfl
  have e18 : (wr a18 (runA.sl.H18_2 c i a2 w2 a3 w3 a4 w4 a10 a18 x2 x3 x4)) = aN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runA.sl.v302 c a10) (runA.sl.v319 c a18) (bk w4 x4 inb_S1x8320x128_S1x1664x128_0_0_0) := by
    unfold runA.sl.H18_2; refine (View.read_writes_full _ _ _ _ _).trans ?_; exact (shapeCast_self _ _).trans rfl
  rw [e10, e14, e18]
  refine upd1664 _ _ (fun r j _ => ?_) (fun j e => ?_) (Or.inr ⟨rfl, startA_3⟩)
  · rw [row_word]
    refine (sM1664_at _ 0 (by omega) (by omega) _ r j).trans ?_
    refine congrArg (fun s => if vis (0 + j.val) (1664 * (i 1).val + 1248 + r.val) then s else ⊥) ?_
    refine sU1664_at Q K (1664 * (i 1).val + 1248) 0 _ _ (fun r d => ?_) (fun j d => ?_) r j
    · exact rd a2 w2 x2 Q h2 _ rfl _ r d
    · exact rd a3 w3 x3 K h3 _ rfl _ j d
  · exact rd a4 w4 x4 V h4 _ rfl _ j e

end Cert.Kernel2Ideal.Hand
end
-- ==== Proof.FwdValA.lean ====
module
public import proofs.«01_k».proof.Proof.FwdA
public import proofs.«01_k».proof.Proof.FwdRow
public import Idealize.ShloMosaic.Lib.WritesUnit
@[expose] public section
set_option maxRecDepth 16384
noncomputable section
namespace Cert.Kernel2Ideal.Hand
open Idealize.ShloMosaic Idealize.ShloMosaic.TcCoe Cert.Kernel2Ideal Cert.Kernel2Ideal.Gen
open Cert.KernelIdeal.Hand (vis)
open scoped BigOperators
variable {c : Dev nD} {i : grid0.Coords} {a2 : Memref sig .tc .vmem S1x1664x256 .bf16} {w2 : a2.IsWhole} {a3 : Memref sig .tc .vmem S1x8320x256 .bf16} {w3 : a3.IsWhole} {a4 : Memref sig .tc .vmem S1x8320x128 .bf16} {w4 : a4.IsWhole} {a5 : Memref sig .tc .vmem S1664x128 .bf16} {w5 : a5.IsWhole} {a6 : Memref sig .tc .vmem S1x1664x1 .f32} {w6 : a6.IsWhole} {a7 : Memref sig .tc .vmem S416x1 .f32} {w7 : a7.IsWhole} {a8 : Memref sig .tc .vmem S416x1 .f32} {w8 : a8.IsWhole} {a9 : Memref sig .tc .vmem S416x1 .f32} {w9 : a9.IsWhole} {a10 : Memref sig .tc .vmem S416x1 .f32} {w10 : a10.IsWhole} {a11 : Memref sig .tc .vmem S416x1 .f32} {w11 : a11.IsWhole} {a12 : Memref sig .tc .vmem S416x1 .f32} {w12 : a12.IsWhole} {a13 : Memref sig .tc .vmem S416x1 .f32} {w13 : a13.IsWhole} {a14 : Memref sig .tc .vmem S416x1 .f32} {w14 : a14.IsWhole} {a15 : Memref sig .tc .vmem S416x128 .f32} {w15 : a15.IsWhole} {a16 : Memref sig .tc .vmem S416x128 .f32} {w16 : a16.IsWhole} {a17 : Memref sig .tc .vmem S416x128 .f32} {w17 : a17.IsWhole} {a18 : Memref sig .tc .vmem S416x128 .f32} {w18 : a18.IsWhole}
  {x2 : Vec Ideal S1x1664x256 .bf16} {x3 : Vec Ideal S1x8320x256 .bf16} {x4 : Vec Ideal S1x8320x128 .bf16} {Q K V : ℕ → ℕ → ℝ}
include a4 w4 a15 a16 a17 a18

/-- Rows 0 to 415 of the output block. -/
theorem oA_0 (hi0 : (i 1).val = 0) (h2 : In2 i x2 Q) (h3 : In3 x3 K) (h4 : In4 x4 V) (k : Fin 416) (e : Fin 128) (hr : 112 ≤ 1664 * (i 1).val + 0 + k.val) :
    (wr a5 (runA.sl.H5_4 c i a2 w2 a3 w3 a4 w4 a7 a8 a9 a10 a11 a12 a13 a14 a15 a16 a17 a18 x2 x3 x4)) (ix2 ⟨0 + k.val, by omega⟩ e) = (oR Q K V (1664 * (i 1).val + 0 + k.val) e.val : EReal) := by
  have hi : (i 1).val < 5 := (i 1).isLt
  unfold runA.sl.H5_4
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 k e) rfl (by rfl) (by rfl)).trans ?_
  unfold runA.sl.r_12
  refine (pay_o _ _ k e).trans ?_
  unfold runA.sl.v54 runA.sl.v55
  exact fin_o Q K V (blockA_0 (a4 := a4) (w4 := w4) (a15 := a15) h2 h3 h4) (by omega) (by omega) (by omega) k e hr (View.readAt_full _ _ _) (View.readAt_full _ _ _)
/-- Rows 0 to 415 of the logarithms' block. -/
theorem lA_0 (hi0 : (i 1).val = 0) (h2 : In2 i x2 Q) (h3 : In3 x3 K) (h4 : In4 x4 V) (k : Fin 416) (hr : 112 ≤ 1664 * (i 1).val + 0 + k.val) :
    (wr a6 (runA.sl.H6_4 c i a2 w2 a3 w3 a7 a8 a9 a10 a11 a12 a13 a14 x2 x3)) (ix3 0 ⟨0 + k.val, by omega⟩ 0) = (lR Q K (1664 * (i 1).val + 0 + k.val) : EReal) := by
  have hi : (i 1).val < 5 := (i 1).isLt
  unfold runA.sl.H6_4
  refine Eq.trans (View.read_writes_cons_unit_of_not_mem (off' := ![0, 1248, 0]) _ _ _ _ _ _ rfl 1 (Or.inl ?_)) ?_
  · show 0 + k.val < 1248
    omega
  refine Eq.trans (View.read_writes_cons_unit_of_not_mem (off' := ![0, 832, 0]) _ _ _ _ _ _ rfl 1 (Or.inl ?_)) ?_
  · show 0 + k.val < 832
    omega
  refine Eq.trans (View.read_writes_cons_unit_of_not_mem (off' := ![0, 416, 0]) _ _ _ _ _ _ rfl 1 (Or.inl ?_)) ?_
  · show 0 + k.val < 416
    omega
  refine Eq.trans (View.read_writes_cons_unit_of_mem (off' := ![0, 0, 0]) _ _ _ _ _ _ (ix3 0 k 0) rfl ?_) ?_
  · intro a; fin_cases a <;> first | rfl | exact (Nat.zero_add _).symm
  refine (pay_l _ _ k).trans ?_
  unfold runA.sl.v60 runA.sl.v55
  exact fin_l Q K V (blockA_0 (a4 := a4) (w4 := w4) (a15 := a15) h2 h3 h4) (by omega) (by omega) (by omega) k hr (View.readAt_full _ _ _) (View.readAt_full _ _ _)

/-- Rows 416 to 831 of the output block. -/
theorem oA_1 (hi0 : (i 1).val = 0) (h2 : In2 i x2 Q) (h3 : In3 x3 K) (h4 : In4 x4 V) (k : Fin 416) (e : Fin 128) (hr : 112 ≤ 1664 * (i 1).val + 416 + k.val) :
    (wr a5 (runA.sl.H5_4 c i a2 w2 a3 w3 a4 w4 a7 a8 a9 a10 a11 a12 a13 a14 a15 a16 a17 a18 x2 x3 x4)) (ix2 ⟨416 + k.val, by omega⟩ e) = (oR Q K V (1664 * (i 1).val + 416 + k.val) e.val : EReal) := by
  have hi : (i 1).val < 5 := (i 1).isLt
  unfold runA.sl.H5_4
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 k e) rfl (by rfl) (by rfl)).trans ?_
  refine (pay_o _ _ k e).trans ?_
  unfold runA.sl.v67 runA.sl.v68
  exact fin_o Q K V (blockA_1 (a4 := a4) (w4 := w4) (a16 := a16) h2 h3 h4) (by omega) (by omega) (by omega) k e hr (View.readAt_full _ _ _) (View.readAt_full _ _ _)
/-- Rows 416 to 831 of the logarithms' block. -/
theorem lA_1 (hi0 : (i 1).val = 0) (h2 : In2 i x2 Q) (h3 : In3 x3 K) (h4 : In4 x4 V) (k : Fin 416) (hr : 112 ≤ 1664 * (i 1).val + 416 + k.val) :
    (wr a6 (runA.sl.H6_4 c i a2 w2 a3 w3 a7 a8 a9 a10 a11 a12 a13 a14 x2 x3)) (ix3 0 ⟨416 + k.val, by omega⟩ 0) = (lR Q K (1664 * (i 1).val + 416 + k.val) : EReal) := by
  have hi : (i 1).val < 5 := (i 1).isLt
  unfold runA.sl.H6_4
  refine Eq.trans (View.read_writes_cons_unit_of_not_mem (off' := ![0, 1248, 0]) _ _ _ _ _ _ rfl 1 (Or.inl ?_)) ?_
  · show 416 + k.val < 1248
    omega
  refine Eq.trans (View.read_writes_cons_unit_of_not_mem (off' := ![0, 832, 0]) _ _ _ _ _ _ rfl 1 (Or.inl ?_)) ?_
  · show 416 + k.val < 832
    omega
  refine Eq.trans (View.read_writes_cons_unit_of_mem (off' := ![0, 416, 0]) _ _ _ _ _ _ (ix3 0 k 0) rfl ?_) ?_
  · intro a; fin_cases a <;> first | rfl | exact (Nat.zero_add _).symm
  refine (pay_l _ _ k).trans ?_
  unfold runA.sl.v73 runA.sl.v68
  exact fin_l Q K V (blockA_1 (a4 := a4) (w4 := w4) (a16 := a16) h2 h3 h4) (by omega) (by omega) (by omega) k hr (View.readAt_full _ _ _) (View.readAt_full _ _ _)

/-- Rows 832 to 1247 of the output block. -/
theorem oA_2 (hi0 : (i 1).val = 0) (h2 : In2 i x2 Q) (h3 : In3 x3 K) (h4 : In4 x4 V) (k : Fin 416) (e : Fin 128) (hr : 112 ≤ 1664 * (i 1).val + 832 + k.val) :
    (wr a5 (runA.sl.H5_4 c i a2 w2 a3 w3 a4 w4 a7 a8 a9 a10 a11 a12 a13 a14 a15 a16 a17 a18 x2 x3 x4)) (ix2 ⟨832 + k.val, by omega⟩ e) = (oR Q K V (1664 * (i 1).val + 832 + k.val) e.val : EReal) := by
  have hi : (i 1).val < 5 := (i 1).isLt
  unfold runA.sl.H5_4
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 k e) rfl (by rfl) (by rfl)).trans ?_
  refine (pay_o _ _ k e).trans ?_
  unfold runA.sl.v80 runA.sl.v81
  exact fin_o Q K V (blockA_2 (a4 := a4) (w4 := w4) (a17 := a17) h2 h3 h4) (by omega) (by omega) (by omega) k e hr (View.readAt_full _ _ _) (View.readAt_full _ _ _)
/-- Rows 832 to 1247 of the logarithms' block. -/
theorem lA_2 (hi0 : (i 1).val = 0) (h2 : In2 i x2 Q) (h3 : In3 x3 K) (h4 : In4 x4 V) (k : Fin 416) (hr : 112 ≤ 1664 * (i 1).val + 832 + k.val) :
    (wr a6 (runA.sl.H6_4 c i a2 w2 a3 w3 a7 a8 a9 a10 a11 a12 a13 a14 x2 x3)) (ix3 0 ⟨832 + k.val, by omega⟩ 0) = (lR Q K (1664 * (i 1).val + 832 + k.val) : EReal) := by
  have hi : (i 1).val < 5 := (i 1).isLt
  unfold runA.sl.H6_4
  refine Eq.trans (View.read_writes_cons_unit_of_not_mem (off' := ![0, 1248, 0]) _ _ _ _ _ _ rfl 1 (Or.inl ?_)) ?_
  · show 832 + k.val < 1248
    omega
  refine Eq.trans (View.read_writes_cons_unit_of_mem (off' := ![0, 832, 0]) _ _ _ _ _ _ (ix3 0 k 0) rfl ?_) ?_
  · intro a; fin_cases a <;> first | rfl | exact (Nat.zero_add _).symm
  refine (pay_l _ _ k).trans ?_
  unfold runA.sl.v86 runA.sl.v87
  exact fin_l Q K V (blockA_2 (a4 := a4) (w4 := w4) (a17 := a17) h2 h3 h4) (by omega) (by omega) (by omega) k hr (View.readAt_full _ _ _) (View.readAt_full _ _ _)

/-- Rows 1248 to 1663 of the output block. -/
theorem oA_3 (hi0 : (i 1).val = 0) (h2 : In2 i x2 Q) (h3 : In3 x3 K) (h4 : In4 x4 V) (k : Fin 416) (e : Fin 128) (hr : 112 ≤ 1664 * (i 1).val + 1248 + k.val) :
    (wr a5 (runA.sl.H5_4 c i a2 w2 a3 w3 a4 w4 a7 a8 a9 a10 a11 a12 a13 a14 a15 a16 a17 a18 x2 x3 x4)) (ix2 ⟨1248 + k.val, by omega⟩ e) = (oR Q K V (1664 * (i 1).val + 1248 + k.val) e.val : EReal) := by
  have hi : (i 1).val < 5 := (i 1).isLt
  unfold runA.sl.H5_4
  refine (View.read_writes_cons_rows_of_mem (o := 1248) _ _ _ _ _ _ (ix2 k e) rfl (by rfl) (by rfl)).trans ?_
  refine (pay_o _ _ k e).trans ?_
  unfold runA.sl.v93 runA.sl.v94
  exact fin_o Q K V (blockA_3 (a4 := a4) (w4 := w4) (a18 := a18) h2 h3 h4) (by omega) (by omega) (by omega) k e hr (View.readAt_full _ _ _) (View.readAt_full _ _ _)
/-- Rows 1248 to 1663 of the logarithms' block. -/
theorem lA_3 (hi0 : (i 1).val = 0) (h2 : In2 i x2 Q) (h3 : In3 x3 K) (h4 : In4 x4 V) (k : Fin 416) (hr : 112 ≤ 1664 * (i 1).val + 1248 + k.val) :
    (wr a6 (runA.sl.H6_4 c i a2 w2 a3 w3 a7 a8 a9 a10 a11 a12 a13 a14 x2 x3)) (ix3 0 ⟨1248 + k.val, by omega⟩ 0) = (lR Q K (1664 * (i 1).val + 1248 + k.val) : EReal) := by
  have hi : (i 1).val < 5 := (i 1).isLt
  unfold runA.sl.H6_4
  refine Eq.trans (View.read_writes_cons_unit_of_mem (off' := ![0, 1248, 0]) _ _ _ _ _ _ (ix3 0 k 0) rfl ?_) ?_
  · intro a; fin_cases a <;> first | rfl | exact (Nat.zero_add _).symm
  refine (pay_l _ _ k).trans ?_
  unfold runA.sl.v99 runA.sl.v94
  exact fin_l Q K V (blockA_3 (a4 := a4) (w4 := w4) (a18 := a18) h2 h3 h4) (by omega) (by omega) (by omega) k hr (View.readAt_full _ _ _) (View.readAt_full _ _ _)

/-- The output a point leaves, row by row, past the rows in front. -/
theorem runA_o (hc1 : k0_cond1 i = 1#1) (hc2 : ¬ k0_cond2 i = 1#1) (hi0 : (i 1).val = 0) (h2 : In2 i x2 Q) (h3 : In3 x3 K) (h4 : In4 x4 V) (y : S1664x128.Idx) (hr : 112 ≤ 1664 * (i 1).val + (y 0).val) :
    (runA c i a2 w2 a3 w3 a4 w4 a5 w5 a6 w6 a7 w7 a8 w8 a9 w9 a10 w10 a11 w11 a12 w12 a13 w13 a14 w14 a15 w15 a16 w16 a17 w17 a18 w18 hc1 hc2 x2 x3 x4).1 y = (oR Q K V (1664 * (i 1).val + (y 0).val) (y 1).val : EReal) := by
  have hy : (y 0).val < 1664 := (y 0).isLt
  unfold runA
  dsimp only
  rcases Nat.lt_or_ge (y 0).val 416 with hb0 | hb0
  · have ey : y = ix2 (⟨0 + ((y 0).val - 0), by omega⟩ : Fin 1664) (y 1 : Fin 128) := (eq_ix2 y).trans (congrArg (fun a => ix2 a (y 1)) (Fin.ext (by show (y 0).val = 0 + ((y 0).val - 0); omega)))
    have ex : 1664 * (i 1).val + (y 0).val = 1664 * (i 1).val + 0 + ((y 0).val - 0) := by omega
    refine (congrArg _ ey).trans ?_
    rw [ex]
    exact oA_0 (a4 := a4) (w4 := w4) (a15 := a15) (a16 := a16) (a17 := a17) (a18 := a18) hi0 h2 h3 h4 ⟨(y 0).val - 0, by omega⟩ (y 1) (by dsimp only; omega)
  rcases Nat.lt_or_ge (y 0).val 832 with hb1 | hb1
  · have ey : y = ix2 (⟨416 + ((y 0).val - 416), by omega⟩ : Fin 1664) (y 1 : Fin 128) := (eq_ix2 y).trans (congrArg (fun a => ix2 a (y 1)) (Fin.ext (by show (y 0).val = 416 + ((y 0).val - 416); omega)))
    have ex : 1664 * (i 1).val + (y 0).val = 1664 * (i 1).val + 416 + ((y 0).val - 416) := by omega
    refine (congrArg _ ey).trans ?_
    rw [ex]
    exact oA_1 (a4 := a4) (w4 := w4) (a15 := a15) (a16 := a16) (a17 := a17) (a18 := a18) hi0 h2 h3 h4 ⟨(y 0).val - 416, by omega⟩ (y 1) (by dsimp only; omega)
  rcases Nat.lt_or_ge (y 0).val 1248 with hb2 | hb2
  · have ey : y = ix2 (⟨832 + ((y 0).val - 832), by omega⟩ : Fin 1664) (y 1 : Fin 128) := (eq_ix2 y).trans (congrArg (fun a => ix2 a (y 1)) (Fin.ext (by show (y 0).val = 832 + ((y 0).val - 832); omega)))
    have ex : 1664 * (i 1).val + (y 0).val = 1664 * (i 1).val + 832 + ((y 0).val - 832) := by omega
    refine (congrArg _ ey).trans ?_
    rw [ex]
    exact oA_2 (a4 := a4) (w4 := w4) (a15 := a15) (a16 := a16) (a17 := a17) (a18 := a18) hi0 h2 h3 h4 ⟨(y 0).val - 832, by omega⟩ (y 1) (by dsimp only; omega)
  have ey : y = ix2 (⟨1248 + ((y 0).val - 1248), by omega⟩ : Fin 1664) (y 1 : Fin 128) := (eq_ix2 y).trans (congrArg (fun a => ix2 a (y 1)) (Fin.ext (by show (y 0).val = 1248 + ((y 0).val - 1248); omega)))
  have ex : 1664 * (i 1).val + (y 0).val = 1664 * (i 1).val + 1248 + ((y 0).val - 1248) := by omega
  refine (congrArg _ ey).trans ?_
  rw [ex]
  exact oA_3 (a4 := a4) (w4 := w4) (a15 := a15) (a16 := a16) (a17 := a17) (a18 := a18) hi0 h2 h3 h4 ⟨(y 0).val - 1248, by omega⟩ (y 1) (by dsimp only; omega)

/-- The logarithms a point leaves, row by row, past the rows in front. -/
theorem runA_l (hc1 : k0_cond1 i = 1#1) (hc2 : ¬ k0_cond2 i = 1#1) (hi0 : (i 1).val = 0) (h2 : In2 i x2 Q) (h3 : In3 x3 K) (h4 : In4 x4 V) (y : S1x1664x1.Idx) (hr : 112 ≤ 1664 * (i 1).val + (y 1).val) :
    (runA c i a2 w2 a3 w3 a4 w4 a5 w5 a6 w6 a7 w7 a8 w8 a9 w9 a10 w10 a11 w11 a12 w12 a13 w13 a14 w14 a15 w15 a16 w16 a17 w17 a18 w18 hc1 hc2 x2 x3 x4).2.1 y = (lR Q K (1664 * (i 1).val + (y 1).val) : EReal) := by
  have hy : (y 1).val < 1664 := (y 1).isLt
  unfold runA
  dsimp only
  have z0 : y 0 = (0 : Fin 1) := Fin.ext (Nat.lt_one_iff.mp (y 0).isLt)
  have z2 : y 2 = (0 : Fin 1) := Fin.ext (Nat.lt_one_iff.mp (y 2).isLt)
  rcases Nat.lt_or_ge (y 1).val 416 with hb0 | hb0
  · have ey : y = ix3 (0 : Fin 1) (⟨0 + ((y 1).val - 0), by omega⟩ : Fin 1664) (0 : Fin 1) := (eq_ix3 y).trans (by rw [z0, z2]; exact congrArg (fun a => ix3 0 a 0) (Fin.ext (by show (y 1).val = 0 + ((y 1).val - 0); omega)))
    have ex : 1664 * (i 1).val + (y 1).val = 1664 * (i 1).val + 0 + ((y 1).val - 0) := by omega
    refine (congrArg _ ey).trans ?_
    rw [ex]
    exact lA_0 (a4 := a4) (w4 := w4) (a15 := a15) (a16 := a16) (a17 := a17) (a18 := a18) hi0 h2 h3 h4 ⟨(y 1).val - 0, by omega⟩ (by dsimp only; omega)
  rcases Nat.lt_or_ge (y 1).val 832 with hb1 | hb1
  · have ey : y = ix3 (0 : Fin 1) (⟨416 + ((y 1).val - 416), by omega⟩ : Fin 1664) (0 : Fin 1) := (eq_ix3 y).trans (by rw [z0, z2]; exact congrArg (fun a => ix3 0 a 0) (Fin.ext (by show (y 1).val = 416 + ((y 1).val - 416); omega)))
    have ex : 1664 * (i 1).val + (y 1).val = 1664 * (i 1).val + 416 + ((y 1).val - 416) := by omega
    refine (congrArg _ ey).trans ?_
    rw [ex]
    exact lA_1 (a4 := a4) (w4 := w4) (a15 := a15) (a16 := a16) (a17 := a17) (a18 := a18) hi0 h2 h3 h4 ⟨(y 1).val - 416, by omega⟩ (by dsimp only; omega)
  rcases Nat.lt_or_ge (y 1).val 1248 with hb2 | hb2
  · have ey : y = ix3 (0 : Fin 1) (⟨832 + ((y 1).val - 832), by omega⟩ : Fin 1664) (0 : Fin 1) := (eq_ix3 y).trans (by rw [z0, z2]; exact congrArg (fun a => ix3 0 a 0) (Fin.ext (by show (y 1).val = 832 + ((y 1).val - 832); omega)))
    have ex : 1664 * (i 1).val + (y 1).val = 1664 * (i 1).val + 832 + ((y 1).val - 832) := by omega
    refine (congrArg _ ey).trans ?_
    rw [ex]
    exact lA_2 (a4 := a4) (w4 := w4) (a15 := a15) (a16 := a16) (a17 := a17) (a18 := a18) hi0 h2 h3 h4 ⟨(y 1).val - 832, by omega⟩ (by dsimp only; omega)
  have ey : y = ix3 (0 : Fin 1) (⟨1248 + ((y 1).val - 1248), by omega⟩ : Fin 1664) (0 : Fin 1) := (eq_ix3 y).trans (by rw [z0, z2]; exact congrArg (fun a => ix3 0 a 0) (Fin.ext (by show (y 1).val = 1248 + ((y 1).val - 1248); omega)))
  have ex : 1664 * (i 1).val + (y 1).val = 1664 * (i 1).val + 1248 + ((y 1).val - 1248) := by omega
  refine (congrArg _ ey).trans ?_
  rw [ex]
  exact lA_3 (a4 := a4) (w4 := w4) (a15 := a15) (a16 := a16) (a17 := a17) (a18 := a18) hi0 h2 h3 h4 ⟨(y 1).val - 1248, by omega⟩ (by dsimp only; omega)

end Cert.Kernel2Ideal.Hand
end
-- ==== Proof.FwdRunB.lean ====
module
public import proofs.«01_k».proof.Proof.FwdLoop
public import Idealize.ShloMosaic.Lib.Pipeline.FrameBody
public import Idealize.ShloMosaic.Lib.VecWindow
public import Idealize.ShloMosaic.Lib.Ring
public import Idealize.ShloMosaic.Lib.Tactic
@[expose] public section
set_option maxRecDepth 16384
noncomputable section
namespace Cert.Kernel2Ideal.Hand
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (UR sig nD τ) ℕ

set_option maxHeartbeats 4000000 in
/-- What one point of the grid leaves in its two output blocks (a later query block), with the triple. -/
@[irreducible] def runB (c : Dev nD) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (hc1 : ¬ k0_cond1 i = 1#1) (hc2 : k0_cond2 i = 1#1)
    (x2 : Vec Ideal S1x1664x256 .bf16) (x3 : Vec Ideal S1x8320x256 .bf16) (x4 : Vec Ideal S1x8320x128 .bf16) :
      Σ' (y5 : Vec Ideal S1664x128 .bf16) (y6 : Vec Ideal S1x1664x1 .f32), ∀ (E : Set ℕ) (K : PUnit → sProp 𝕄),
        iprop(owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
            ∗ (iprop(owns (c : Thread nD τ) a2 fullShare x2 ∗ owns (c : Thread nD τ) a3 fullShare x3 ∗ owns (c : Thread nD τ) a4 fullShare x4 ∗ owns (c : Thread nD τ) a5 fullShare y5 ∗ owns (c : Thread nD τ) a6 fullShare y6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)) -∗ K PUnit.unit))
          ⊢ wp frame (wpE (defs₀ (F := Ideal)) Variants.none c none) E (cc0_flash_fwd i a2 w2 a3 w3 a4 w4 a5 w5 a6 w6 a7 w7 a8 w8 a9 w9 a10 w10 a11 w11 a12 w12 a13 w13 a14 w14 a15 w15 a16 w16 a17 w17 a18 w18) K := by
    refine ⟨?_, ?_, fun E K => ?run⟩
    case run =>
      simp only [cc0_flash_fwd_eq_skeleton]; unfold cc0_flash_fwd_skel
      simp only [k0_part27_eq_skeleton, k0_part28_eq_skeleton, k0_part29_eq_skeleton]
      unfold owns
      iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
      obtain rfl := w2.eq_unread hf2; obtain rfl := w3.eq_unread hf3; obtain rfl := w4.eq_unread hf4
      have htr := no_rest i hc2
      sl_exec! (disch := first | sl_exact hc1 | sl_exact hc2)
      sl_step
      iapply Hk
      isplitl [H2]
      · iexists _; isplitr; · ipureintro; exact w2.read_unread _
        iexact H2
      isplitl [H3]
      · iexists _; isplitr; · ipureintro; exact w3.read_unread _
        iexact H3
      isplitl [H4]
      · iexists _; isplitr; · ipureintro; exact w4.read_unread _
        iexact H4
      isplitl [H5]
      · iexists _; isplitr; swap; · iexact H5
        ipureintro
        rfl
      isplitl [H6]
      · iexists _; isplitr; swap; · iexact H6
        ipureintro
        rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      iexists _, _; isplitr; swap; · iexact H18
      ipureintro; rfl

end Cert.Kernel2Ideal.Hand
end
-- ==== Proof.FwdB.lean ====
module
public import proofs.«01_k».proof.Proof.FwdStep
public import proofs.«01_k».proof.Proof.FwdRunB
public import proofs.«01_k».proof.Proof.FwdA
@[expose] public section
set_option maxRecDepth 16384
noncomputable section
namespace Cert.Kernel2Ideal.Hand
open Idealize.ShloMosaic Idealize.ShloMosaic.TcCoe Cert.Kernel2Ideal Cert.Kernel2Ideal.Gen
open Cert.KernelIdeal.Hand (vis)
open scoped BigOperators
variable {c : Dev nD} {i : grid0.Coords} {a2 : Memref sig .tc .vmem S1x1664x256 .bf16} {w2 : a2.IsWhole} {a3 : Memref sig .tc .vmem S1x8320x256 .bf16} {w3 : a3.IsWhole} {a4 : Memref sig .tc .vmem S1x8320x128 .bf16} {w4 : a4.IsWhole} {a5 : Memref sig .tc .vmem S1664x128 .bf16} {w5 : a5.IsWhole} {a6 : Memref sig .tc .vmem S1x1664x1 .f32} {w6 : a6.IsWhole} {a7 : Memref sig .tc .vmem S416x1 .f32} {w7 : a7.IsWhole} {a8 : Memref sig .tc .vmem S416x1 .f32} {w8 : a8.IsWhole} {a9 : Memref sig .tc .vmem S416x1 .f32} {w9 : a9.IsWhole} {a10 : Memref sig .tc .vmem S416x1 .f32} {w10 : a10.IsWhole} {a11 : Memref sig .tc .vmem S416x1 .f32} {w11 : a11.IsWhole} {a12 : Memref sig .tc .vmem S416x1 .f32} {w12 : a12.IsWhole} {a13 : Memref sig .tc .vmem S416x1 .f32} {w13 : a13.IsWhole} {a14 : Memref sig .tc .vmem S416x1 .f32} {w14 : a14.IsWhole} {a15 : Memref sig .tc .vmem S416x128 .f32} {w15 : a15.IsWhole} {a16 : Memref sig .tc .vmem S416x128 .f32} {w16 : a16.IsWhole} {a17 : Memref sig .tc .vmem S416x128 .f32} {w17 : a17.IsWhole} {a18 : Memref sig .tc .vmem S416x128 .f32} {w18 : a18.IsWhole}
  {x2 : Vec Ideal S1x1664x256 .bf16} {x3 : Vec Ideal S1x8320x256 .bf16} {x4 : Vec Ideal S1x8320x128 .bf16} {Q K V : ℕ → ℕ → ℝ}

/-- Chain 0 starts empty. -/
theorem startB_0 : CStart (runB.sl.v134 c a7) (runB.sl.v143 c a11) (runB.sl.v151 c a15) := by
  intro r
  refine ⟨?_, ?_, fun e he => ?_⟩
  · unfold runB.sl.v134 runB.sl.H7_1
    rw [View.readCov_full]
    rfl
  · unfold runB.sl.v143 runB.sl.H11_1
    rw [View.readCov_full]
    exact Ideal.ofBits_zero_f32
  · unfold row128 runB.sl.v151 runB.sl.H15_1
    rw [dif_pos he, View.readCov_full]
    exact Ideal.ofBits_zero_f32

set_option maxHeartbeats 1000000 in
/-- Chain 0 after the first block of keys. -/
theorem blockB_0 (h2 : In2 i x2 Q) (h3 : In3 x3 K) (h4 : In4 x4 V) :
    CGood Q K V (1664 * (i 1).val + 0) 1664 (wr a7 (runB.sl.H7_2 c i a2 w2 a3 w3 a7 x2 x3)) (wr a11 (runB.sl.H11_2 c i a2 w2 a3 w3 a7 a11 x2 x3)) (wr a15 (runB.sl.H15_2 c i a2 w2 a3 w3 a4 w4 a7 a15 x2 x3 x4)) := by
  have hi : (i 1).val < 5 := (i 1).isLt
  rw [← Nat.zero_add 1664]
  have e7 : (wr a7 (runB.sl.H7_2 c i a2 w2 a3 w3 a7 x2 x3)) = mN1664 (sM1664 (Scalar.addi (Scalar.muli (BitVec.ofNat 32 (i 1).val) 1664#32) 0#32) 0#32 (sU1664 (bk w2 x2 inb_S1x1664x256_S1x416x256_0_0_0) (bk w3 x3 inb_S1x8320x256_S1x1664x256_0_0_0))) (runB.sl.v134 c a7) := by
    unfold runB.sl.H7_2; refine (View.read_writes_full _ _ _ _ _).trans ?_; unfold runB.sl.v162; exact (shapeCast_self _ _).trans rfl
  have e11 : (wr a11 (runB.sl.H11_2 c i a2 w2 a3 w3 a7 a11 x2 x3)) = lN1664 (sM1664 (Scalar.addi (Scalar.muli (BitVec.ofNat 32 (i 1).val) 1664#32) 0#32) 0#32 (sU1664 (bk w2 x2 inb_S1x1664x256_S1x416x256_0_0_0) (bk w3 x3 inb_S1x8320x256_S1x1664x256_0_0_0))) (runB.sl.v134 c a7) (runB.sl.v143 c a11) := by
    unfold runB.sl.H11_2; refine (View.read_writes_full _ _ _ _ _).trans ?_; unfold runB.sl.v150; exact (shapeCast_self _ _).trans rfl
  have e15 : (wr a15 (runB.sl.H15_2 c i a2 w2 a3 w3 a4 w4 a7 a15 x2 x3 x4)) = aN1664 (sM1664 (Scalar.addi (Scalar.muli (BitVec.ofNat 32 (i 1).val) 1664#32) 0#32) 0#32 (sU1664 (bk w2 x2 inb_S1x1664x256_S1x416x256_0_0_0) (bk w3 x3 inb_S1x8320x256_S1x1664x256_0_0_0))) (runB.sl.v134 c a7) (runB.sl.v151 c a15) (bk w4 x4 inb_S1x8320x128_S1x1664x128_0_0_0) := by
    unfold runB.sl.H15_2; refine (View.read_writes_full _ _ _ _ _).trans ?_; unfold runB.sl.v159; exact (shapeCast_self _ _).trans rfl
  rw [e7, e11, e15]
  refine upd1664 _ _ (fun r j _ => ?_) (fun j e => ?_) (Or.inr ⟨rfl, startB_0⟩)
  · rw [row_word]
    refine (sM1664_at _ 0 (by omega) (by omega) _ r j).trans ?_
    refine congrArg (fun s => if vis (0 + j.val) (1664 * (i 1).val + 0 + r.val) then s else ⊥) ?_
    refine sU1664_at Q K (1664 * (i 1).val + 0) 0 _ _ (fun r d => ?_) (fun j d => ?_) r j
    · exact rd a2 w2 x2 Q h2 _ rfl _ r d
    · exact rd a3 w3 x3 K h3 _ rfl _ j d
  · exact rd a4 w4 x4 V h4 _ rfl _ j e

set_option maxHeartbeats 1000000 in
/-- Chain 0 after the loop. -/
theorem loopB_0 (hc2 : k0_cond2 i = 1#1) (h2 : In2 i x2 Q) (h3 : In3 x3 K) (h4 : In4 x4 V) :
    CGood Q K V (1664 * (i 1).val + 0) (1664 * (i 1).val) (runB.sl.v366 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v375 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v383 c i a2 w2 a3 w3 a4 w4 a5 w5 a6 w6 a7 w7 a8 w8 a9 w9 a10 w10 a11 w11 a12 w12 a13 w13 a14 w14 a15 w15 a16 w16 a17 w17 a18 w18 hc2 x2 x3 x4) := by
  unfold runB.sl.v366 runB.sl.v375 runB.sl.v383
  rw [View.readAt_full, View.readAt_full, View.readAt_full]
  exact loop_c0 hc2 h2 h3 h4 (blockB_0 h2 h3 h4)

set_option maxHeartbeats 1000000 in
/-- Chain 0 after the diagonal block. -/
theorem diagB_0 (hc2 : k0_cond2 i = 1#1) (h2 : In2 i x2 Q) (h3 : In3 x3 K) (h4 : In4 x4 V) :
    CGood Q K V (1664 * (i 1).val + 0) (1664 * (i 1).val + 512) (wr a7 (runB.sl.H7_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a11 (runB.sl.H11_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a15 (runB.sl.H15_1_1 c i a2 w2 a3 w3 a4 w4 a5 w5 a6 w6 a7 w7 a8 w8 a9 w9 a10 w10 a11 w11 a12 w12 a13 w13 a14 w14 a15 w15 a16 w16 a17 w17 a18 w18 hc2 x2 x3 x4)) := by
  have hi : (i 1).val < 5 := (i 1).isLt
  have hn : 0 + 1664 * (i 1).val = 1664 * (i 1).val := Nat.zero_add _
  have e7 : (wr a7 (runB.sl.H7_1_1 c i a2 w2 a3 w3 a4 w4 a5 w5 a6 w6 a7 w7 a8 w8 a9 w9 a10 w10 a11 w11 a12 w12 a13 w13 a14 w14 a15 w15 a16 w16 a17 w17 a18 w18 hc2 x2 x3 x4)) = mN512 (sM512 (Scalar.addi (Scalar.muli (BitVec.ofNat 32 (i 1).val) 1664#32) 0#32) (Scalar.muli (BitVec.ofNat 32 (i 1).val) 1664#32) (sU512 (bk w2 x2 inb_S1x1664x256_S1x416x256_0_0_0) (bk w3 x3 (k0_off5_inb i hc2)))) (runB.sl.v366 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H7_1_1; refine (View.read_writes_full _ _ _ _ _).trans ?_; unfold runB.sl.v394; exact (shapeCast_self _ _).trans rfl
  have e11 : (wr a11 (runB.sl.H11_1_1 c i a2 w2 a3 w3 a4 w4 a5 w5 a6 w6 a7 w7 a8 w8 a9 w9 a10 w10 a11 w11 a12 w12 a13 w13 a14 w14 a15 w15 a16 w16 a17 w17 a18 w18 hc2 x2 x3 x4)) = lN512 (sM512 (Scalar.addi (Scalar.muli (BitVec.ofNat 32 (i 1).val) 1664#32) 0#32) (Scalar.muli (BitVec.ofNat 32 (i 1).val) 1664#32) (sU512 (bk w2 x2 inb_S1x1664x256_S1x416x256_0_0_0) (bk w3 x3 (k0_off5_inb i hc2)))) (runB.sl.v366 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v375 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H11_1_1; refine (View.read_writes_full _ _ _ _ _).trans ?_; unfold runB.sl.v382; exact (shapeCast_self _ _).trans rfl
  have e15 : (wr a15 (runB.sl.H15_1_1 c i a2 w2 a3 w3 a4 w4 a5 w5 a6 w6 a7 w7 a8 w8 a9 w9 a10 w10 a11 w11 a12 w12 a13 w13 a14 w14 a15 w15 a16 w16 a17 w17 a18 w18 hc2 x2 x3 x4)) = aN512 (sM512 (Scalar.addi (Scalar.muli (BitVec.ofNat 32 (i 1).val) 1664#32) 0#32) (Scalar.muli (BitVec.ofNat 32 (i 1).val) 1664#32) (sU512 (bk w2 x2 inb_S1x1664x256_S1x416x256_0_0_0) (bk w3 x3 (k0_off5_inb i hc2)))) (runB.sl.v366 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v383 c i a2 w2 a3 w3 a4 w4 a5 w5 a6 w6 a7 w7 a8 w8 a9 w9 a10 w10 a11 w11 a12 w12 a13 w13 a14 w14 a15 w15 a16 w16 a17 w17 a18 w18 hc2 x2 x3 x4) (bk w4 x4 (k0_off6_inb i hc2)) := by
    unfold runB.sl.H15_1_1; refine (View.read_writes_full _ _ _ _ _).trans ?_; unfold runB.sl.v391; exact (shapeCast_self _ _).trans rfl
  rw [e7, e11, e15]
  refine upd512 _ _ (fun r j _ => ?_) (fun j e => ?_) (Or.inl (loopB_0 hc2 h2 h3 h4))
  · rw [row_word, blk_word]
    refine (sM512_at _ (1664 * (i 1).val) (by omega) (by omega) _ r j).trans ?_
    refine congrArg (fun s => if vis ((1664 * (i 1).val) + j.val) (1664 * (i 1).val + 0 + r.val) then s else ⊥) ?_
    refine sU512_at Q K (1664 * (i 1).val + 0) (1664 * (i 1).val) _ _ (fun r d => ?_) (fun j d => ?_) r j
    · exact rd a2 w2 x2 Q h2 _ rfl _ r d
    · exact hn ▸ rd a3 w3 x3 K h3 _ (off5_eq i) _ j d
  · exact hn ▸ rd a4 w4 x4 V h4 _ (off6_eq i) _ j e

/-- Chain 1 starts empty. -/
theorem startB_1 : CStart (runB.sl.v190 c a8) (runB.sl.v199 c a12) (runB.sl.v207 c a16) := by
  intro r
  refine ⟨?_, ?_, fun e he => ?_⟩
  · unfold runB.sl.v190 runB.sl.H8_1
    rw [View.readCov_full]
    rfl
  · unfold runB.sl.v199 runB.sl.H12_1
    rw [View.readCov_full]
    exact Ideal.ofBits_zero_f32
  · unfold row128 runB.sl.v207 runB.sl.H16_1
    rw [dif_pos he, View.readCov_full]
    exact Ideal.ofBits_zero_f32

set_option maxHeartbeats 1000000 in
/-- Chain 1 after the first block of keys. -/
theorem blockB_1 (h2 : In2 i x2 Q) (h3 : In3 x3 K) (h4 : In4 x4 V) :
    CGood Q K V (1664 * (i 1).val + 416) 1664 (wr a8 (runB.sl.H8_2 c i a2 w2 a3 w3 a8 x2 x3)) (wr a12 (runB.sl.H12_2 c i a2 w2 a3 w3 a8 a12 x2 x3)) (wr a16 (runB.sl.H16_2 c i a2 w2 a3 w3 a4 w4 a8 a16 x2 x3 x4)) := by
  have hi : (i 1).val < 5 := (i 1).isLt
  rw [← Nat.zero_add 1664]
  have e8 : (wr a8 (runB.sl.H8_2 c i a2 w2 a3 w3 a8 x2 x3)) = mN1664 (sM1664 (Scalar.addi (Scalar.muli (BitVec.ofNat 32 (i 1).val) 1664#32) 416#32) 0#32 (sU1664 (bk w2 x2 inb_S1x1664x256_S1x416x256_0_416_0) (bk w3 x3 inb_S1x8320x256_S1x1664x256_0_0_0))) (runB.sl.v190 c a8) := by
    unfold runB.sl.H8_2; refine (View.read_writes_full _ _ _ _ _).trans ?_; exact (shapeCast_self _ _).trans rfl
  have e12 : (wr a12 (runB.sl.H12_2 c i a2 w2 a3 w3 a8 a12 x2 x3)) = lN1664 (sM1664 (Scalar.addi (Scalar.muli (BitVec.ofNat 32 (i 1).val) 1664#32) 416#32) 0#32 (sU1664 (bk w2 x2 inb_S1x1664x256_S1x416x256_0_416_0) (bk w3 x3 inb_S1x8320x256_S1x1664x256_0_0_0))) (runB.sl.v190 c a8) (runB.sl.v199 c a12) := by
    unfold runB.sl.H12_2; refine (View.read_writes_full _ _ _ _ _).trans ?_; exact (shapeCast_self _ _).trans rfl
  have e16 : (wr a16 (runB.sl.H16_2 c i a2 w2 a3 w3 a4 w4 a8 a16 x2 x3 x4)) = aN1664 (sM1664 (Scalar.addi (Scalar.muli (BitVec.ofNat 32 (i 1).val) 1664#32) 416#32) 0#32 (sU1664 (bk w2 x2 inb_S1x1664x256_S1x416x256_0_416_0) (bk w3 x3 inb_S1x8320x256_S1x1664x256_0_0_0))) (runB.sl.v190 c a8) (runB.sl.v207 c a16) (bk w4 x4 inb_S1x8320x128_S1x1664x128_0_0_0) := by
    unfold runB.sl.H16_2; refine (View.read_writes_full _ _ _ _ _).trans ?_; exact (shapeCast_self _ _).trans rfl
  rw [e8, e12, e16]
  refine upd1664 _ _ (fun r j _ => ?_) (fun j e => ?_) (Or.inr ⟨rfl, startB_1⟩)
  · rw [row_word]
    refine (sM1664_at _ 0 (by omega) (by omega) _ r j).trans ?_
    refine congrArg (fun s => if vis (0 + j.val) (1664 * (i 1).val + 416 + r.val) then s else ⊥) ?_
    refine sU1664_at Q K (1664 * (i 1).val + 416) 0 _ _ (fun r d => ?_) (fun j d => ?_) r j
    · exact rd a2 w2 x2 Q h2 _ rfl _ r d
    · exact rd a3 w3 x3 K h3 _ rfl _ j d
  · exact rd a4 w4 x4 V h4 _ rfl _ j e

set_option maxHeartbeats 1000000 in
/-- Chain 1 after the loop. -/
theorem loopB_1 (hc2 : k0_cond2 i = 1#1) (h2 : In2 i x2 Q) (h3 : In3 x3 K) (h4 : In4 x4 V) :
    CGood Q K V (1664 * (i 1).val + 416) (1664 * (i 1).val) (runB.sl.v423 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v432 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v440 c i a2 w2 a3 w3 a4 w4 a5 w5 a6 w6 a7 w7 a8 w8 a9 w9 a10 w10 a11 w11 a12 w12 a13 w13 a14 w14 a15 w15 a16 w16 a17 w17 a18 w18 hc2 x2 x3 x4) := by
  unfold runB.sl.v423 runB.sl.v432 runB.sl.v440
  rw [View.readAt_full, View.readAt_full, View.readAt_full]
  exact loop_c1 hc2 h2 h3 h4 (blockB_1 h2 h3 h4)

set_option maxHeartbeats 1000000 in
/-- Chain 1 after the diagonal block. -/
theorem diagB_1 (hc2 : k0_cond2 i = 1#1) (h2 : In2 i x2 Q) (h3 : In3 x3 K) (h4 : In4 x4 V) :
    CGood Q K V (1664 * (i 1).val + 416) (1664 * (i 1).val + 896) (wr a8 (runB.sl.H8_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a12 (runB.sl.H12_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a16 (runB.sl.H16_1_1 c i a2 w2 a3 w3 a4 w4 a5 w5 a6 w6 a7 w7 a8 w8 a9 w9 a10 w10 a11 w11 a12 w12 a13 w13 a14 w14 a15 w15 a16 w16 a17 w17 a18 w18 hc2 x2 x3 x4)) := by
  have hi : (i 1).val < 5 := (i 1).isLt
  have hn : 0 + 1664 * (i 1).val = 1664 * (i 1).val := Nat.zero_add _
  have e8 : (wr a8 (runB.sl.H8_1_1 c i a2 w2 a3 w3 a4 w4 a5 w5 a6 w6 a7 w7 a8 w8 a9 w9 a10 w10 a11 w11 a12 w12 a13 w13 a14 w14 a15 w15 a16 w16 a17 w17 a18 w18 hc2 x2 x3 x4)) = mN896 (sM896 (Scalar.addi (Scalar.muli (BitVec.ofNat 32 (i 1).val) 1664#32) 416#32) (Scalar.muli (BitVec.ofNat 32 (i 1).val) 1664#32) (sU896 (bk w2 x2 inb_S1x1664x256_S1x416x256_0_416_0) (bk w3 x3 (k0_off7_inb i hc2)))) (runB.sl.v423 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H8_1_1; refine (View.read_writes_full _ _ _ _ _).trans ?_; exact (shapeCast_self _ _).trans rfl
  have e12 : (wr a12 (runB.sl.H12_1_1 c i a2 w2 a3 w3 a4 w4 a5 w5 a6 w6 a7 w7 a8 w8 a9 w9 a10 w10 a11 w11 a12 w12 a13 w13 a14 w14 a15 w15 a16 w16 a17 w17 a18 w18 hc2 x2 x3 x4)) = lN896 (sM896 (Scalar.addi (Scalar.muli (BitVec.ofNat 32 (i 1).val) 1664#32) 416#32) (Scalar.muli (BitVec.ofNat 32 (i 1).val) 1664#32) (sU896 (bk w2 x2 inb_S1x1664x256_S1x416x256_0_416_0) (bk w3 x3 (k0_off7_inb i hc2)))) (runB.sl.v423 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v432 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H12_1_1; refine (View.read_writes_full _ _ _ _ _).trans ?_; exact (shapeCast_self _ _).trans rfl
  have e16 : (wr a16 (runB.sl.H16_1_1 c i a2 w2 a3 w3 a4 w4 a5 w5 a6 w6 a7 w7 a8 w8 a9 w9 a10 w10 a11 w11 a12 w12 a13 w13 a14 w14 a15 w15 a16 w16 a17 w17 a18 w18 hc2 x2 x3 x4)) = aN896 (sM896 (Scalar.addi (Scalar.muli (BitVec.ofNat 32 (i 1).val) 1664#32) 416#32) (Scalar.muli (BitVec.ofNat 32 (i 1).val) 1664#32) (sU896 (bk w2 x2 inb_S1x1664x256_S1x416x256_0_416_0) (bk w3 x3 (k0_off7_inb i hc2)))) (runB.sl.v423 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v440 c i a2 w2 a3 w3 a4 w4 a5 w5 a6 w6 a7 w7 a8 w8 a9 w9 a10 w10 a11 w11 a12 w12 a13 w13 a14 w14 a15 w15 a16 w16 a17 w17 a18 w18 hc2 x2 x3 x4) (bk w4 x4 (k0_off8_inb i hc2)) := by
    unfold runB.sl.H16_1_1; refine (View.read_writes_full _ _ _ _ _).trans ?_; exact (shapeCast_self _ _).trans rfl
  rw [e8, e12, e16]
  refine upd896 _ _ (fun r j _ => ?_) (fun j e => ?_) (Or.inl (loopB_1 hc2 h2 h3 h4))
  · rw [row_word, blk_word]
    refine (sM896_at _ (1664 * (i 1).val) (by omega) (by omega) _ r j).trans ?_
    refine congrArg (fun s => if vis ((1664 * (i 1).val) + j.val) (1664 * (i 1).val + 416 + r.val) then s else ⊥) ?_
    refine sU896_at Q K (1664 * (i 1).val + 416) (1664 * (i 1).val) _ _ (fun r d => ?_) (fun j d => ?_) r j
    · exact rd a2 w2 x2 Q h2 _ rfl _ r d
    · exact hn ▸ rd a3 w3 x3 K h3 _ (off7_eq i) _ j d
  · exact hn ▸ rd a4 w4 x4 V h4 _ (off8_eq i) _ j e

/-- Chain 2 starts empty. -/
theorem startB_2 : CStart (runB.sl.v246 c a9) (runB.sl.v255 c a13) (runB.sl.v263 c a17) := by
  intro r
  refine ⟨?_, ?_, fun e he => ?_⟩
  · unfold runB.sl.v246 runB.sl.H9_1
    rw [View.readCov_full]
    rfl
  · unfold runB.sl.v255 runB.sl.H13_1
    rw [View.readCov_full]
    exact Ideal.ofBits_zero_f32
  · unfold row128 runB.sl.v263 runB.sl.H17_1
    rw [dif_pos he, View.readCov_full]
    exact Ideal.ofBits_zero_f32

set_option maxHeartbeats 1000000 in
/-- Chain 2 after the first block of keys. -/
theorem blockB_2 (h2 : In2 i x2 Q) (h3 : In3 x3 K) (h4 : In4 x4 V) :
    CGood Q K V (1664 * (i 1).val + 832) 1664 (wr a9 (runB.sl.H9_2 c i a2 w2 a3 w3 a9 x2 x3)) (wr a13 (runB.sl.H13_2 c i a2 w2 a3 w3 a9 a13 x2 x3)) (wr a17 (runB.sl.H17_2 c i a2 w2 a3 w3 a4 w4 a9 a17 x2 x3 x4)) := by
  have hi : (i 1).val < 5 := (i 1).isLt
  rw [← Nat.zero_add 1664]
  have e9 : (wr a9 (runB.sl.H9_2 c i a2 w2 a3 w3 a9 x2 x3)) = mN1664 (sM1664 (Scalar.addi (Scalar.muli (BitVec.ofNat 32 (i 1).val) 1664#32) 832#32) 0#32 (sU1664 (bk w2 x2 inb_S1x1664x256_S1x416x256_0_832_0) (bk w3 x3 inb_S1x8320x256_S1x1664x256_0_0_0))) (runB.sl.v246 c a9) := by
    unfold runB.sl.H9_2; refine (View.read_writes_full _ _ _ _ _).trans ?_; unfold runB.sl.v274; exact (shapeCast_self _ _).trans rfl
  have e13 : (wr a13 (runB.sl.H13_2 c i a2 w2 a3 w3 a9 a13 x2 x3)) = lN1664 (sM1664 (Scalar.addi (Scalar.muli (BitVec.ofNat 32 (i 1).val) 1664#32) 832#32) 0#32 (sU1664 (bk w2 x2 inb_S1x1664x256_S1x416x256_0_832_0) (bk w3 x3 inb_S1x8320x256_S1x1664x256_0_0_0))) (runB.sl.v246 c a9) (runB.sl.v255 c a13) := by
    unfold runB.sl.H13_2; refine (View.read_writes_full _ _ _ _ _).trans ?_; unfold runB.sl.v262; exact (shapeCast_self _ _).trans rfl
  have e17 : (wr a17 (runB.sl.H17_2 c i a2 w2 a3 w3 a4 w4 a9 a17 x2 x3 x4)) = aN1664 (sM1664 (Scalar.addi (Scalar.muli (BitVec.ofNat 32 (i 1).val) 1664#32) 832#32) 0#32 (sU1664 (bk w2 x2 inb_S1x1664x256_S1x416x256_0_832_0) (bk w3 x3 inb_S1x8320x256_S1x1664x256_0_0_0))) (runB.sl.v246 c a9) (runB.sl.v263 c a17) (bk w4 x4 inb_S1x8320x128_S1x1664x128_0_0_0) := by
    unfold runB.sl.H17_2; refine (View.read_writes_full _ _ _ _ _).trans ?_; unfold runB.sl.v271; exact (shapeCast_self _ _).trans rfl
  rw [e9, e13, e17]
  refine upd1664 _ _ (fun r j _ => ?_) (fun j e => ?_) (Or.inr ⟨rfl, startB_2⟩)
  · rw [row_word]
    refine (sM1664_at _ 0 (by omega) (by omega) _ r j).trans ?_
    refine congrArg (fun s => if vis (0 + j.val) (1664 * (i 1).val + 832 + r.val) then s else ⊥) ?_
    refine sU1664_at Q K (1664 * (i 1).val + 832) 0 _ _ (fun r d => ?_) (fun j d => ?_) r j
    · exact rd a2 w2 x2 Q h2 _ rfl _ r d
    · exact rd a3 w3 x3 K h3 _ rfl _ j d
  · exact rd a4 w4 x4 V h4 _ rfl _ j e

set_option maxHeartbeats 1000000 in
/-- Chain 2 after the loop. -/
theorem loopB_2 (hc2 : k0_cond2 i = 1#1) (h2 : In2 i x2 Q) (h3 : In3 x3 K) (h4 : In4 x4 V) :
    CGood Q K V (1664 * (i 1).val + 832) (1664 * (i 1).val) (runB.sl.v480 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v489 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v497 c i a2 w2 a3 w3 a4 w4 a5 w5 a6 w6 a7 w7 a8 w8 a9 w9 a10 w10 a11 w11 a12 w12 a13 w13 a14 w14 a15 w15 a16 w16 a17 w17 a18 w18 hc2 x2 x3 x4) := by
  unfold runB.sl.v480 runB.sl.v489 runB.sl.v497
  rw [View.readAt_full, View.readAt_full, View.readAt_full]
  exact loop_c2 hc2 h2 h3 h4 (blockB_2 h2 h3 h4)

set_option maxHeartbeats 1000000 in
/-- Chain 2 after the diagonal block. -/
theorem diagB_2 (hc2 : k0_cond2 i = 1#1) (h2 : In2 i x2 Q) (h3 : In3 x3 K) (h4 : In4 x4 V) :
    CGood Q K V (1664 * (i 1).val + 832) (1664 * (i 1).val + 1280) (wr a9 (runB.sl.H9_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a13 (runB.sl.H13_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a17 (runB.sl.H17_1_1 c i a2 w2 a3 w3 a4 w4 a5 w5 a6 w6 a7 w7 a8 w8 a9 w9 a10 w10 a11 w11 a12 w12 a13 w13 a14 w14 a15 w15 a16 w16 a17 w17 a18 w18 hc2 x2 x3 x4)) := by
  have hi : (i 1).val < 5 := (i 1).isLt
  have hn : 0 + 1664 * (i 1).val = 1664 * (i 1).val := Nat.zero_add _
  have e9 : (wr a9 (runB.sl.H9_1_1 c i a2 w2 a3 w3 a4 w4 a5 w5 a6 w6 a7 w7 a8 w8 a9 w9 a10 w10 a11 w11 a12 w12 a13 w13 a14 w14 a15 w15 a16 w16 a17 w17 a18 w18 hc2 x2 x3 x4)) = mN1280 (sM1280 (Scalar.addi (Scalar.muli (BitVec.ofNat 32 (i 1).val) 1664#32) 832#32) (Scalar.muli (BitVec.ofNat 32 (i 1).val) 1664#32) (sU1280 (bk w2 x2 inb_S1x1664x256_S1x416x256_0_832_0) (bk w3 x3 (k0_off9_inb i hc2)))) (runB.sl.v480 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H9_1_1; refine (View.read_writes_full _ _ _ _ _).trans ?_; unfold runB.sl.v508; exact (shapeCast_self _ _).trans rfl
  have e13 : (wr a13 (runB.sl.H13_1_1 c i a2 w2 a3 w3 a4 w4 a5 w5 a6 w6 a7 w7 a8 w8 a9 w9 a10 w10 a11 w11 a12 w12 a13 w13 a14 w14 a15 w15 a16 w16 a17 w17 a18 w18 hc2 x2 x3 x4)) = lN1280 (sM1280 (Scalar.addi (Scalar.muli (BitVec.ofNat 32 (i 1).val) 1664#32) 832#32) (Scalar.muli (BitVec.ofNat 32 (i 1).val) 1664#32) (sU1280 (bk w2 x2 inb_S1x1664x256_S1x416x256_0_832_0) (bk w3 x3 (k0_off9_inb i hc2)))) (runB.sl.v480 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v489 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H13_1_1; refine (View.read_writes_full _ _ _ _ _).trans ?_; unfold runB.sl.v496; exact (shapeCast_self _ _).trans rfl
  have e17 : (wr a17 (runB.sl.H17_1_1 c i a2 w2 a3 w3 a4 w4 a5 w5 a6 w6 a7 w7 a8 w8 a9 w9 a10 w10 a11 w11 a12 w12 a13 w13 a14 w14 a15 w15 a16 w16 a17 w17 a18 w18 hc2 x2 x3 x4)) = aN1280 (sM1280 (Scalar.addi (Scalar.muli (BitVec.ofNat 32 (i 1).val) 1664#32) 832#32) (Scalar.muli (BitVec.ofNat 32 (i 1).val) 1664#32) (sU1280 (bk w2 x2 inb_S1x1664x256_S1x416x256_0_832_0) (bk w3 x3 (k0_off9_inb i hc2)))) (runB.sl.v480 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v497 c i a2 w2 a3 w3 a4 w4 a5 w5 a6 w6 a7 w7 a8 w8 a9 w9 a10 w10 a11 w11 a12 w12 a13 w13 a14 w14 a15 w15 a16 w16 a17 w17 a18 w18 hc2 x2 x3 x4) (bk w4 x4 (k0_off10_inb i hc2)) := by
    unfold runB.sl.H17_1_1; refine (View.read_writes_full _ _ _ _ _).trans ?_; unfold runB.sl.v505; exact (shapeCast_self _ _).trans rfl
  rw [e9, e13, e17]
  refine upd1280 _ _ (fun r j _ => ?_) (fun j e => ?_) (Or.inl (loopB_2 hc2 h2 h3 h4))
  · rw [row_word, blk_word]
    refine (sM1280_at _ (1664 * (i 1).val) (by omega) (by omega) _ r j).trans ?_
    refine congrArg (fun s => if vis ((1664 * (i 1).val) + j.val) (1664 * (i 1).val + 832 + r.val) then s else ⊥) ?_
    refine sU1280_at Q K (1664 * (i 1).val + 832) (1664 * (i 1).val) _ _ (fun r d => ?_) (fun j d => ?_) r j
    · exact rd a2 w2 x2 Q h2 _ rfl _ r d
    · exact hn ▸ rd a3 w3 x3 K h3 _ (off9_eq i) _ j d
  · exact hn ▸ rd a4 w4 x4 V h4 _ (off10_eq i) _ j e

/-- Chain 3 starts empty. -/
theorem startB_3 : CStart (runB.sl.v302 c a10) (runB.sl.v311 c a14) (runB.sl.v319 c a18) := by
  intro r
  refine ⟨?_, ?_, fun e he => ?_⟩
  · unfold runB.sl.v302 runB.sl.H10_1
    rw [View.readCov_full]
    rfl
  · unfold runB.sl.v311 runB.sl.H14_1
    rw [View.readCov_full]
    exact Ideal.ofBits_zero_f32
  · unfold row128 runB.sl.v319 runB.sl.H18_1
    rw [dif_pos he, View.readCov_full]
    exact Ideal.ofBits_zero_f32

set_option maxHeartbeats 1000000 in
/-- Chain 3 after the first block of keys. -/
theorem blockB_3 (h2 : In2 i x2 Q) (h3 : In3 x3 K) (h4 : In4 x4 V) :
    CGood Q K V (1664 * (i 1).val + 1248) 1664 (wr a10 (runB.sl.H10_2 c i a2 w2 a3 w3 a10 x2 x3)) (wr a14 (runB.sl.H14_2 c i a2 w2 a3 w3 a10 a14 x2 x3)) (wr a18 (runB.sl.H18_2 c i a2 w2 a3 w3 a4 w4 a10 a18 x2 x3 x4)) := by
  have hi : (i 1).val < 5 := (i 1).isLt
  rw [← Nat.zero_add 1664]
  have e10 : (wr a10 (runB.sl.H10_2 c i a2 w2 a3 w3 a10 x2 x3)) = mN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runB.sl.v302 c a10) := by
    unfold runB.sl.H10_2; refine (View.read_writes_full _ _ _ _ _).trans ?_; exact (shapeCast_self _ _).trans rfl
  have e14 : (wr a14 (runB.sl.H14_2 c i a2 w2 a3 w3 a10 a14 x2 x3)) = lN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runB.sl.v302 c a10) (runB.sl.v311 c a14) := by
    unfold runB.sl.H14_2; refine (View.read_writes_full _ _ _ _ _).trans ?_; exact (shapeCast_self _ _).trans rfl
  have e18 : (wr a18 (runB.sl.H18_2 c i a2 w2 a3 w3 a4 w4 a10 a18 x2 x3 x4)) = aN1664 (sM1664 (Scalar.addi (Scalar.muli (BitVec.ofNat 32 (i 1).val) 1664#32) 1248#32) 0#32 (sU1664 (bk w2 x2 inb_S1x1664x256_S1x416x256_0_1248_0) (bk w3 x3 inb_S1x8320x256_S1x1664x256_0_0_0))) (runB.sl.v302 c a10) (runB.sl.v319 c a18) (bk w4 x4 inb_S1x8320x128_S1x1664x128_0_0_0) := by
    unfold runB.sl.H18_2; refine (View.read_writes_full _ _ _ _ _).trans ?_; exact (shapeCast_self _ _).trans rfl
  rw [e10, e14, e18]
  refine upd1664 _ _ (fun r j _ => ?_) (fun j e => ?_) (Or.inr ⟨rfl, startB_3⟩)
  · rw [row_word]
    refine (sM1664_at _ 0 (by omega) (by omega) _ r j).trans ?_
    refine congrArg (fun s => if vis (0 + j.val) (1664 * (i 1).val + 1248 + r.val) then s else ⊥) ?_
    refine sU1664_at Q K (1664 * (i 1).val + 1248) 0 _ _ (fun r d => ?_) (fun j d => ?_) r j
    · exact rd a2 w2 x2 Q h2 _ rfl _ r d
    · exact rd a3 w3 x3 K h3 _ rfl _ j d
  · exact rd a4 w4 x4 V h4 _ rfl _ j e

set_option maxHeartbeats 1000000 in
/-- Chain 3 after the loop. -/
theorem loopB_3 (hc2 : k0_cond2 i = 1#1) (h2 : In2 i x2 Q) (h3 : In3 x3 K) (h4 : In4 x4 V) :
    CGood Q K V (1664 * (i 1).val + 1248) (1664 * (i 1).val) (runB.sl.v537 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v546 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v554 c i a2 w2 a3 w3 a4 w4 a5 w5 a6 w6 a7 w7 a8 w8 a9 w9 a10 w10 a11 w11 a12 w12 a13 w13 a14 w14 a15 w15 a16 w16 a17 w17 a18 w18 hc2 x2 x3 x4) := by
  unfold runB.sl.v537 runB.sl.v546 runB.sl.v554
  rw [View.readAt_full, View.readAt_full, View.readAt_full]
  exact loop_c3 hc2 h2 h3 h4 (blockB_3 h2 h3 h4)

set_option maxHeartbeats 1000000 in
/-- Chain 3 after the diagonal block. -/
theorem diagB_3 (hc2 : k0_cond2 i = 1#1) (h2 : In2 i x2 Q) (h3 : In3 x3 K) (h4 : In4 x4 V) :
    CGood Q K V (1664 * (i 1).val + 1248) (1664 * (i 1).val + 1664) (wr a10 (runB.sl.H10_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a14 (runB.sl.H14_1_1 c i a2 w2 a3 w3 a4 w4 a5 w5 a6 w6 a7 w7 a8 w8 a9 w9 a10 w10 a11 w11 a12 w12 a13 w13 a14 w14 a15 w15 a16 w16 a17 w17 a18 w18 hc2 x2 x3 x4)) (wr a18 (runB.sl.H18_1_1 c i a2 w2 a3 w3 a4 w4 a5 w5 a6 w6 a7 w7 a8 w8 a9 w9 a10 w10 a11 w11 a12 w12 a13 w13 a14 w14 a15 w15 a16 w16 a17 w17 a18 w18 hc2 x2 x3 x4)) := by
  have hi : (i 1).val < 5 := (i 1).isLt
  have hn : 0 + 1664 * (i 1).val = 1664 * (i 1).val := Nat.zero_add _
  have e10 : (wr a10 (runB.sl.H10_1_1 c i a2 w2 a3 w3 a4 w4 a5 w5 a6 w6 a7 w7 a8 w8 a9 w9 a10 w10 a11 w11 a12 w12 a13 w13 a14 w14 a15 w15 a16 w16 a17 w17 a18 w18 hc2 x2 x3 x4)) = mN1664 (sM1664 (Scalar.addi (Scalar.muli (BitVec.ofNat 32 (i 1).val) 1664#32) 1248#32) (Scalar.muli (BitVec.ofNat 32 (i 1).val) 1664#32) (sU1664 (bk w2 x2 inb_S1x1664x256_S1x416x256_0_1248_0) (bk w3 x3 (k0_off11_inb i hc2)))) (runB.sl.v537 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H10_1_1; refine (View.read_writes_full _ _ _ _ _).trans ?_; exact (shapeCast_self _ _).trans rfl
  have e14 : (wr a14 (runB.sl.H14_1_1 c i a2 w2 a3 w3 a4 w4 a5 w5 a6 w6 a7 w7 a8 w8 a9 w9 a10 w10 a11 w11 a12 w12 a13 w13 a14 w14 a15 w15 a16 w16 a17 w17 a18 w18 hc2 x2 x3 x4)) = lN1664 (sM1664 (Scalar.addi (Scalar.muli (BitVec.ofNat 32 (i 1).val) 1664#32) 1248#32) (Scalar.muli (BitVec.ofNat 32 (i 1).val) 1664#32) (sU1664 (bk w2 x2 inb_S1x1664x256_S1x416x256_0_1248_0) (bk w3 x3 (k0_off11_inb i hc2)))) (runB.sl.v537 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v546 c i a2 w2 a3 w3 a4 w4 a5 w5 a6 w6 a7 w7 a8 w8 a9 w9 a10 w10 a11 w11 a12 w12 a13 w13 a14 w14 a15 w15 a16 w16 a17 w17 a18 w18 hc2 x2 x3 x4) := by
    unfold runB.sl.H14_1_1; refine (View.read_writes_full _ _ _ _ _).trans ?_; exact (shapeCast_self _ _).trans rfl
  have e18 : (wr a18 (runB.sl.H18_1_1 c i a2 w2 a3 w3 a4 w4 a5 w5 a6 w6 a7 w7 a8 w8 a9 w9 a10 w10 a11 w11 a12 w12 a13 w13 a14 w14 a15 w15 a16 w16 a17 w17 a18 w18 hc2 x2 x3 x4)) = aN1664 (sM1664 (Scalar.addi (Scalar.muli (BitVec.ofNat 32 (i 1).val) 1664#32) 1248#32) (Scalar.muli (BitVec.ofNat 32 (i 1).val) 1664#32) (sU1664 (bk w2 x2 inb_S1x1664x256_S1x416x256_0_1248_0) (bk w3 x3 (k0_off11_inb i hc2)))) (runB.sl.v537 c i a2 w2 a3 w3 a4 w4 a5 w5 a6 w6 a7 w7 a8 w8 a9 w9 a10 w10 a11 w11 a12 w12 a13 w13 a14 w14 a15 w15 a16 w16 a17 w17 a18 w18 hc2 x2 x3 x4) (runB.sl.v554 c i a2 w2 a3 w3 a4 w4 a5 w5 a6 w6 a7 w7 a8 w8 a9 w9 a10 w10 a11 w11 a12 w12 a13 w13 a14 w14 a15 w15 a16 w16 a17 w17 a18 w18 hc2 x2 x3 x4) (bk w4 x4 (k0_off12_inb i hc2)) := by
    unfold runB.sl.H18_1_1; refine (View.read_writes_full _ _ _ _ _).trans ?_; exact (shapeCast_self _ _).trans rfl
  rw [e10, e14, e18]
  refine upd1664 _ _ (fun r j _ => ?_) (fun j e => ?_) (Or.inl (loopB_3 hc2 h2 h3 h4))
  · rw [row_word, blk_word]
    refine (sM1664_at _ (1664 * (i 1).val) (by omega) (by omega) _ r j).trans ?_
    refine congrArg (fun s => if vis ((1664 * (i 1).val) + j.val) (1664 * (i 1).val + 1248 + r.val) then s else ⊥) ?_
    refine sU1664_at Q K (1664 * (i 1).val + 1248) (1664 * (i 1).val) _ _ (fun r d => ?_) (fun j d => ?_) r j
    · exact rd a2 w2 x2 Q h2 _ rfl _ r d
    · exact hn ▸ rd a3 w3 x3 K h3 _ (off11_eq i) _ j d
  · exact hn ▸ rd a4 w4 x4 V h4 _ (off12_eq i) _ j e

end Cert.Kernel2Ideal.Hand
end
-- ==== Proof.FwdValB.lean ====
module
public import proofs.«01_k».proof.Proof.FwdB
public import proofs.«01_k».proof.Proof.FwdRow
public import Idealize.ShloMosaic.Lib.WritesUnit
@[expose] public section
set_option maxRecDepth 16384
noncomputable section
namespace Cert.Kernel2Ideal.Hand
open Idealize.ShloMosaic Idealize.ShloMosaic.TcCoe Cert.Kernel2Ideal Cert.Kernel2Ideal.Gen
open Cert.KernelIdeal.Hand (vis)
open scoped BigOperators
variable {c : Dev nD} {i : grid0.Coords} {a2 : Memref sig .tc .vmem S1x1664x256 .bf16} {w2 : a2.IsWhole} {a3 : Memref sig .tc .vmem S1x8320x256 .bf16} {w3 : a3.IsWhole} {a4 : Memref sig .tc .vmem S1x8320x128 .bf16} {w4 : a4.IsWhole} {a5 : Memref sig .tc .vmem S1664x128 .bf16} {w5 : a5.IsWhole} {a6 : Memref sig .tc .vmem S1x1664x1 .f32} {w6 : a6.IsWhole} {a7 : Memref sig .tc .vmem S416x1 .f32} {w7 : a7.IsWhole} {a8 : Memref sig .tc .vmem S416x1 .f32} {w8 : a8.IsWhole} {a9 : Memref sig .tc .vmem S416x1 .f32} {w9 : a9.IsWhole} {a10 : Memref sig .tc .vmem S416x1 .f32} {w10 : a10.IsWhole} {a11 : Memref sig .tc .vmem S416x1 .f32} {w11 : a11.IsWhole} {a12 : Memref sig .tc .vmem S416x1 .f32} {w12 : a12.IsWhole} {a13 : Memref sig .tc .vmem S416x1 .f32} {w13 : a13.IsWhole} {a14 : Memref sig .tc .vmem S416x1 .f32} {w14 : a14.IsWhole} {a15 : Memref sig .tc .vmem S416x128 .f32} {w15 : a15.IsWhole} {a16 : Memref sig .tc .vmem S416x128 .f32} {w16 : a16.IsWhole} {a17 : Memref sig .tc .vmem S416x128 .f32} {w17 : a17.IsWhole} {a18 : Memref sig .tc .vmem S416x128 .f32} {w18 : a18.IsWhole}
  {x2 : Vec Ideal S1x1664x256 .bf16} {x3 : Vec Ideal S1x8320x256 .bf16} {x4 : Vec Ideal S1x8320x128 .bf16} {Q K V : ℕ → ℕ → ℝ}

/-- Rows 0 to 415 of the output block. -/
theorem oB_0 (hc2 : k0_cond2 i = 1#1) (h2 : In2 i x2 Q) (h3 : In3 x3 K) (h4 : In4 x4 V) (k : Fin 416) (e : Fin 128) (hr : 112 ≤ 1664 * (i 1).val + 0 + k.val) :
    (wr a5 (runB.sl.H5_4 c i a2 w2 a3 w3 a4 w4 a5 w5 a6 w6 a7 w7 a8 w8 a9 w9 a10 w10 a11 w11 a12 w12 a13 w13 a14 w14 a15 w15 a16 w16 a17 w17 a18 w18 hc2 x2 x3 x4)) (ix2 ⟨0 + k.val, by omega⟩ e) = (oR Q K V (1664 * (i 1).val + 0 + k.val) e.val : EReal) := by
  have hi : (i 1).val < 5 := (i 1).isLt
  unfold runB.sl.H5_4
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_not_mem (o := 416) (W := 416) _ _ _ _ _ _ rfl rfl (by refine Or.inl ?_; simp only [ix2_0]; omega)).trans ?_
  refine (View.read_writes_cons_rows_of_mem (o := 0) _ _ _ _ _ _ (ix2 k e) rfl (by rfl) (by rfl)).trans ?_
  unfold runB.sl.r_21
  refine (pay_o _ _ k e).trans ?_
  unfold runB.sl.v54 runB.sl.v55
  exact fin_o Q K V (diagB_0 hc2 h2 h3 h4) (by omega) (by omega) (by omega) k e hr (View.readAt_full _ _ _) (View.readAt_full _ _ _)
/-- Rows 0 to 415 of the logarithms' block. -/
theorem lB_0 (hc2 : k0_cond2 i = 1#1) (h2 : In2 i x2 Q) (h3 : In3 x3 K) (h4 : In4 x4 V) (k : Fin 416) (hr : 112 ≤ 1664 * (i 1).val + 0 + k.val) :
    (wr a6 (runB.sl.H6_4 c i a2 w2 a3 w3 a4 w4 a5 w5 a6 w6 a7 w7 a8 w8 a9 w9 a10 w10 a11 w11 a12 w12 a13 w13 a14 w14 a15 w15 a16 w16 a17 w17 a18 w18 hc2 x2 x3 x4)) (ix3 0 ⟨0 + k.val, by omega⟩ 0) = (lR Q K (1664 * (i 1).val + 0 + k.val) : EReal) := by
  have hi : (i 1).val < 5 := (i 1).isLt
  unfold runB.sl.H6_4
  refine Eq.trans (View.read_writes_cons_unit_of_not_mem (off' := ![0, 1248, 0]) _ _ _ _ _ _ rfl 1 (Or.inl ?_)) ?_
  · show 0 + k.val < 1248
    omega
  refine Eq.trans (View.read_writes_cons_unit_of_not_mem (off' := ![0, 832, 0]) _ _ _ _ _ _ rfl 1 (Or.inl ?_)) ?_
  · show 0 + k.val < 832
    omega
  refine Eq.trans (View.read_writes_cons_unit_of_not_mem (off' := ![0, 416, 0]) _ _ _ _ _ _ rfl 1 (Or.inl ?_)) ?_
  · show 0 + k.val < 416
    omega
  refine Eq.trans (View.read_writes_cons_unit_of_mem (off' := ![0, 0, 0]) _ _ _ _ _ _ (ix3 0 k 0) rfl ?_) ?_
  · intro a; fin_cases a <;> first | rfl | exact (Nat.zero_add _).symm
  refine (pay_l _ _ k).trans ?_
  unfold runB.sl.v60 runB.sl.v55
  exact fin_l Q K V (diagB_0 hc2 h2 h3 h4) (by omega) (by omega) (by omega) k hr (View.readAt_full _ _ _) (View.readAt_full _ _ _)

/-- Rows 416 to 831 of the output block. -/
theorem oB_1 (hc2 : k0_cond2 i = 1#1) (h2 : In2 i x2 Q) (h3 : In3 x3 K) (h4 : In4 x4 V) (k : Fin 416) (e : Fin 128) (hr : 112 ≤ 1664 * (i 1).val + 416 + k.val) :
    (wr a5 (runB.sl.H5_4 c i a2 w2 a3 w3 a4 w4 a5 w5 a6 w6 a7 w7 a8 w8 a9 w9 a10 w10 a11 w11 a12 w12 a13 w13 a14 w14 a15 w15 a16 w16 a17 w17 a18 w18 hc2 x2 x3 x4)) (ix2 ⟨416 + k.val, by omega⟩ e) = (oR Q K V (1664 * (i 1).val + 416 + k.val) e.val : EReal) := by
  have hi : (i 1).val < 5 := (i 1).isLt
  unfold runB.sl.H5_4
  refine (View.read_writes_cons_rows_of_not_mem (o := 1248) (W := 416) _ _ _ _ _ _ rfl rfl (by refine Or.inl ?_; simp only [ix2_0]; omega)).trans ?_
  refine (View.read_writes_cons_rows_of_not_mem (o := 832) (W := 416) _ _ _ _ _ _ rfl rfl (by refine Or.inl ?_; simp only [ix2_0]; omega)).trans ?_
  refine (View.read_writes_cons_rows_of_mem (o := 416) _ _ _ _ _ _ (ix2 k e) rfl (by rfl) (by rfl)).trans ?_
  refine (pay_o _ _ k e).trans ?_
  unfold runB.sl.v67 runB.sl.v68
  exact fin_o Q K V (diagB_1 hc2 h2 h3 h4) (by omega) (by omega) (by omega) k e hr (View.readAt_full _ _ _) (View.readAt_full _ _ _)
/-- Rows 416 to 831 of the logarithms' block. -/
theorem lB_1 (hc2 : k0_cond2 i = 1#1) (h2 : In2 i x2 Q) (h3 : In3 x3 K) (h4 : In4 x4 V) (k : Fin 416) (hr : 112 ≤ 1664 * (i 1).val + 416 + k.val) :
    (wr a6 (runB.sl.H6_4 c i a2 w2 a3 w3 a4 w4 a5 w5 a6 w6 a7 w7 a8 w8 a9 w9 a10 w10 a11 w11 a12 w12 a13 w13 a14 w14 a15 w15 a16 w16 a17 w17 a18 w18 hc2 x2 x3 x4)) (ix3 0 ⟨416 + k.val, by omega⟩ 0) = (lR Q K (1664 * (i 1).val + 416 + k.val) : EReal) := by
  have hi : (i 1).val < 5 := (i 1).isLt
  unfold runB.sl.H6_4
  refine Eq.trans (View.read_writes_cons_unit_of_not_mem (off' := ![0, 1248, 0]) _ _ _ _ _ _ rfl 1 (Or.inl ?_)) ?_
  · show 416 + k.val < 1248
    omega
  refine Eq.trans (View.read_writes_cons_unit_of_not_mem (off' := ![0, 832, 0]) _ _ _ _ _ _ rfl 1 (Or.inl ?_)) ?_
  · show 416 + k.val < 832
    omega
  refine Eq.trans (View.read_writes_cons_unit_of_mem (off' := ![0, 416, 0]) _ _ _ _ _ _ (ix3 0 k 0) rfl ?_) ?_
  · intro a; fin_cases a <;> first | rfl | exact (Nat.zero_add _).symm
  refine (pay_l _ _ k).trans ?_
  unfold runB.sl.v73 runB.sl.v68
  exact fin_l Q K V (diagB_1 hc2 h2 h3 h4) (by omega) (by omega) (by omega) k hr (View.readAt_full _ _ _) (View.readAt_full _ _ _)

/-- Rows 832 to 1247 of the output block. -/
theorem oB_2 (hc2 : k0_cond2 i = 1#1) (h2 : In2 i x2 Q) (h3 : In3 x3 K) (h4 : In4 x4 V) (k : Fin 416) (e : Fin 128) (hr : 112 ≤ 1664 * (i 1).val + 832 + k.val) :
    (wr a5 (runB.sl.H5_4 c i a2 w2 a3 w3 a4 w4 a5 w5 a6 w6 a7 w7 a8 w8 a9 w9 a10 w10 a11 w11 a12 w12 a13 w13 a14 w14 a15 w15 a16 w16 a17 w17 a18 w18 hc2 x2 x3 x4)) (ix2 ⟨832 + k.val, by omega⟩ e) = (oR Q K V (1664 * (i 1).val + 832 + k.val) e.val : EReal) := by
  have hi : (i 1).val < 5 := (i 1).isLt
  unfold runB.sl.H5_4
  refine (View.read_writes_cons_rows_of_not_mem (o := 1248) (W := 416) _ _ _ _ _ _ rfl rfl (by refine Or.inl ?_; simp only [ix2_0]; omega)).trans ?_
  refine (View.read_writes_cons_rows_of_mem (o := 832) _ _ _ _ _ _ (ix2 k e) rfl (by rfl) (by rfl)).trans ?_
  refine (pay_o _ _ k e).trans ?_
  unfold runB.sl.v80 runB.sl.v81
  exact fin_o Q K V (diagB_2 hc2 h2 h3 h4) (by omega) (by omega) (by omega) k e hr (View.readAt_full _ _ _) (View.readAt_full _ _ _)
/-- Rows 832 to 1247 of the logarithms' block. -/
theorem lB_2 (hc2 : k0_cond2 i = 1#1) (h2 : In2 i x2 Q) (h3 : In3 x3 K) (h4 : In4 x4 V) (k : Fin 416) (hr : 112 ≤ 1664 * (i 1).val + 832 + k.val) :
    (wr a6 (runB.sl.H6_4 c i a2 w2 a3 w3 a4 w4 a5 w5 a6 w6 a7 w7 a8 w8 a9 w9 a10 w10 a11 w11 a12 w12 a13 w13 a14 w14 a15 w15 a16 w16 a17 w17 a18 w18 hc2 x2 x3 x4)) (ix3 0 ⟨832 + k.val, by omega⟩ 0) = (lR Q K (1664 * (i 1).val + 832 + k.val) : EReal) := by
  have hi : (i 1).val < 5 := (i 1).isLt
  unfold runB.sl.H6_4
  refine Eq.trans (View.read_writes_cons_unit_of_not_mem (off' := ![0, 1248, 0]) _ _ _ _ _ _ rfl 1 (Or.inl ?_)) ?_
  · show 832 + k.val < 1248
    omega
  refine Eq.trans (View.read_writes_cons_unit_of_mem (off' := ![0, 832, 0]) _ _ _ _ _ _ (ix3 0 k 0) rfl ?_) ?_
  · intro a; fin_cases a <;> first | rfl | exact (Nat.zero_add _).symm
  refine (pay_l _ _ k).trans ?_
  unfold runB.sl.v86 runB.sl.v87
  exact fin_l Q K V (diagB_2 hc2 h2 h3 h4) (by omega) (by omega) (by omega) k hr (View.readAt_full _ _ _) (View.readAt_full _ _ _)

/-- Rows 1248 to 1663 of the output block. -/
theorem oB_3 (hc2 : k0_cond2 i = 1#1) (h2 : In2 i x2 Q) (h3 : In3 x3 K) (h4 : In4 x4 V) (k : Fin 416) (e : Fin 128) (hr : 112 ≤ 1664 * (i 1).val + 1248 + k.val) :
    (wr a5 (runB.sl.H5_4 c i a2 w2 a3 w3 a4 w4 a5 w5 a6 w6 a7 w7 a8 w8 a9 w9 a10 w10 a11 w11 a12 w12 a13 w13 a14 w14 a15 w15 a16 w16 a17 w17 a18 w18 hc2 x2 x3 x4)) (ix2 ⟨1248 + k.val, by omega⟩ e) = (oR Q K V (1664 * (i 1).val + 1248 + k.val) e.val : EReal) := by
  have hi : (i 1).val < 5 := (i 1).isLt
  unfold runB.sl.H5_4
  refine (View.read_writes_cons_rows_of_mem (o := 1248) _ _ _ _ _ _ (ix2 k e) rfl (by rfl) (by rfl)).trans ?_
  refine (pay_o _ _ k e).trans ?_
  unfold runB.sl.v93 runB.sl.v94
  exact fin_o Q K V (diagB_3 hc2 h2 h3 h4) (by omega) (by omega) (by omega) k e hr (View.readAt_full _ _ _) (View.readAt_full _ _ _)
/-- Rows 1248 to 1663 of the logarithms' block. -/
theorem lB_3 (hc2 : k0_cond2 i = 1#1) (h2 : In2 i x2 Q) (h3 : In3 x3 K) (h4 : In4 x4 V) (k : Fin 416) (hr : 112 ≤ 1664 * (i 1).val + 1248 + k.val) :
    (wr a6 (runB.sl.H6_4 c i a2 w2 a3 w3 a4 w4 a5 w5 a6 w6 a7 w7 a8 w8 a9 w9 a10 w10 a11 w11 a12 w12 a13 w13 a14 w14 a15 w15 a16 w16 a17 w17 a18 w18 hc2 x2 x3 x4)) (ix3 0 ⟨1248 + k.val, by omega⟩ 0) = (lR Q K (1664 * (i 1).val + 1248 + k.val) : EReal) := by
  have hi : (i 1).val < 5 := (i 1).isLt
  unfold runB.sl.H6_4
  refine Eq.trans (View.read_writes_cons_unit_of_mem (off' := ![0, 1248, 0]) _ _ _ _ _ _ (ix3 0 k 0) rfl ?_) ?_
  · intro a; fin_cases a <;> first | rfl | exact (Nat.zero_add _).symm
  refine (pay_l _ _ k).trans ?_
  unfold runB.sl.v99 runB.sl.v94
  exact fin_l Q K V (diagB_3 hc2 h2 h3 h4) (by omega) (by omega) (by omega) k hr (View.readAt_full _ _ _) (View.readAt_full _ _ _)

/-- The output a point leaves, row by row, past the rows in front. -/
theorem runB_o (hc1 : ¬ k0_cond1 i = 1#1) (hc2 : k0_cond2 i = 1#1) (h2 : In2 i x2 Q) (h3 : In3 x3 K) (h4 : In4 x4 V) (y : S1664x128.Idx) (hr : 112 ≤ 1664 * (i 1).val + (y 0).val) :
    (runB c i a2 w2 a3 w3 a4 w4 a5 w5 a6 w6 a7 w7 a8 w8 a9 w9 a10 w10 a11 w11 a12 w12 a13 w13 a14 w14 a15 w15 a16 w16 a17 w17 a18 w18 hc1 hc2 x2 x3 x4).1 y = (oR Q K V (1664 * (i 1).val + (y 0).val) (y 1).val : EReal) := by
  have hy : (y 0).val < 1664 := (y 0).isLt
  unfold runB
  dsimp only
  rcases Nat.lt_or_ge (y 0).val 416 with hb0 | hb0
  · have ey : y = ix2 (⟨0 + ((y 0).val - 0), by omega⟩ : Fin 1664) (y 1 : Fin 128) := (eq_ix2 y).trans (congrArg (fun a => ix2 a (y 1)) (Fin.ext (by show (y 0).val = 0 + ((y 0).val - 0); omega)))
    have ex : 1664 * (i 1).val + (y 0).val = 1664 * (i 1).val + 0 + ((y 0).val - 0) := by omega
    refine (congrArg _ ey).trans ?_
    rw [ex]
    exact oB_0 hc2 h2 h3 h4 ⟨(y 0).val - 0, by omega⟩ (y 1) (by dsimp only; omega)
  rcases Nat.lt_or_ge (y 0).val 832 with hb1 | hb1
  · have ey : y = ix2 (⟨416 + ((y 0).val - 416), by omega⟩ : Fin 1664) (y 1 : Fin 128) := (eq_ix2 y).trans (congrArg (fun a => ix2 a (y 1)) (Fin.ext (by show (y 0).val = 416 + ((y 0).val - 416); omega)))
    have ex : 1664 * (i 1).val + (y 0).val = 1664 * (i 1).val + 416 + ((y 0).val - 416) := by omega
    refine (congrArg _ ey).trans ?_
    rw [ex]
    exact oB_1 hc2 h2 h3 h4 ⟨(y 0).val - 416, by omega⟩ (y 1) (by dsimp only; omega)
  rcases Nat.lt_or_ge (y 0).val 1248 with hb2 | hb2
  · have ey : y = ix2 (⟨832 + ((y 0).val - 832), by omega⟩ : Fin 1664) (y 1 : Fin 128) := (eq_ix2 y).trans (congrArg (fun a => ix2 a (y 1)) (Fin.ext (by show (y 0).val = 832 + ((y 0).val - 832); omega)))
    have ex : 1664 * (i 1).val + (y 0).val = 1664 * (i 1).val + 832 + ((y 0).val - 832) := by omega
    refine (congrArg _ ey).trans ?_
    rw [ex]
    exact oB_2 hc2 h2 h3 h4 ⟨(y 0).val - 832, by omega⟩ (y 1) (by dsimp only; omega)
  have ey : y = ix2 (⟨1248 + ((y 0).val - 1248), by omega⟩ : Fin 1664) (y 1 : Fin 128) := (eq_ix2 y).trans (congrArg (fun a => ix2 a (y 1)) (Fin.ext (by show (y 0).val = 1248 + ((y 0).val - 1248); omega)))
  have ex : 1664 * (i 1).val + (y 0).val = 1664 * (i 1).val + 1248 + ((y 0).val - 1248) := by omega
  refine (congrArg _ ey).trans ?_
  rw [ex]
  exact oB_3 hc2 h2 h3 h4 ⟨(y 0).val - 1248, by omega⟩ (y 1) (by dsimp only; omega)

/-- The logarithms a point leaves, row by row, past the rows in front. -/
theorem runB_l (hc1 : ¬ k0_cond1 i = 1#1) (hc2 : k0_cond2 i = 1#1) (h2 : In2 i x2 Q) (h3 : In3 x3 K) (h4 : In4 x4 V) (y : S1x1664x1.Idx) (hr : 112 ≤ 1664 * (i 1).val + (y 1).val) :
    (runB c i a2 w2 a3 w3 a4 w4 a5 w5 a6 w6 a7 w7 a8 w8 a9 w9 a10 w10 a11 w11 a12 w12 a13 w13 a14 w14 a15 w15 a16 w16 a17 w17 a18 w18 hc1 hc2 x2 x3 x4).2.1 y = (lR Q K (1664 * (i 1).val + (y 1).val) : EReal) := by
  have hy : (y 1).val < 1664 := (y 1).isLt
  unfold runB
  dsimp only
  have z0 : y 0 = (0 : Fin 1) := Fin.ext (Nat.lt_one_iff.mp (y 0).isLt)
  have z2 : y 2 = (0 : Fin 1) := Fin.ext (Nat.lt_one_iff.mp (y 2).isLt)
  rcases Nat.lt_or_ge (y 1).val 416 with hb0 | hb0
  · have ey : y = ix3 (0 : Fin 1) (⟨0 + ((y 1).val - 0), by omega⟩ : Fin 1664) (0 : Fin 1) := (eq_ix3 y).trans (by rw [z0, z2]; exact congrArg (fun a => ix3 0 a 0) (Fin.ext (by show (y 1).val = 0 + ((y 1).val - 0); omega)))
    have ex : 1664 * (i 1).val + (y 1).val = 1664 * (i 1).val + 0 + ((y 1).val - 0) := by omega
    refine (congrArg _ ey).trans ?_
    rw [ex]
    exact lB_0 hc2 h2 h3 h4 ⟨(y 1).val - 0, by omega⟩ (by dsimp only; omega)
  rcases Nat.lt_or_ge (y 1).val 832 with hb1 | hb1
  · have ey : y = ix3 (0 : Fin 1) (⟨416 + ((y 1).val - 416), by omega⟩ : Fin 1664) (0 : Fin 1) := (eq_ix3 y).trans (by rw [z0, z2]; exact congrArg (fun a => ix3 0 a 0) (Fin.ext (by show (y 1).val = 416 + ((y 1).val - 416); omega)))
    have ex : 1664 * (i 1).val + (y 1).val = 1664 * (i 1).val + 416 + ((y 1).val - 416) := by omega
    refine (congrArg _ ey).trans ?_
    rw [ex]
    exact lB_1 hc2 h2 h3 h4 ⟨(y 1).val - 416, by omega⟩ (by dsimp only; omega)
  rcases Nat.lt_or_ge (y 1).val 1248 with hb2 | hb2
  · have ey : y = ix3 (0 : Fin 1) (⟨832 + ((y 1).val - 832), by omega⟩ : Fin 1664) (0 : Fin 1) := (eq_ix3 y).trans (by rw [z0, z2]; exact congrArg (fun a => ix3 0 a 0) (Fin.ext (by show (y 1).val = 832 + ((y 1).val - 832); omega)))
    have ex : 1664 * (i 1).val + (y 1).val = 1664 * (i 1).val + 832 + ((y 1).val - 832) := by omega
    refine (congrArg _ ey).trans ?_
    rw [ex]
    exact lB_2 hc2 h2 h3 h4 ⟨(y 1).val - 832, by omega⟩ (by dsimp only; omega)
  have ey : y = ix3 (0 : Fin 1) (⟨1248 + ((y 1).val - 1248), by omega⟩ : Fin 1664) (0 : Fin 1) := (eq_ix3 y).trans (by rw [z0, z2]; exact congrArg (fun a => ix3 0 a 0) (Fin.ext (by show (y 1).val = 1248 + ((y 1).val - 1248); omega)))
  have ex : 1664 * (i 1).val + (y 1).val = 1664 * (i 1).val + 1248 + ((y 1).val - 1248) := by omega
  refine (congrArg _ ey).trans ?_
  rw [ex]
  exact lB_3 hc2 h2 h3 h4 ⟨(y 1).val - 1248, by omega⟩ (by dsimp only; omega)

end Cert.Kernel2Ideal.Hand
end
-- ==== Proof.FwdLaunched.lean ====
module
public import proofs.«01_k».proof.Proof.FwdValA
public import proofs.«01_k».proof.Proof.FwdValB
public import proofs.«01_k».proof.Proof.Blocks
public import Idealize.ShloMosaic.Lib.Pipeline.ValueKit
@[expose] public section
set_option maxRecDepth 16384
noncomputable section
namespace Cert.Kernel2Ideal.Hand
open Idealize.ShloMosaic Idealize.ShloMosaic.TcCoe Idealize.ShloMosaic.Tactic Cert.Kernel2Ideal Cert.Kernel2Ideal.Gen
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand (rd2 rd3 rd2_eq rd3_eq)
local notation "𝕄" => MT nD τ sig Unit (Elt Ideal) ℕ (UR sig nD τ) ℕ

/-! ## The branches, point by point -/

/-- Point `t` works on head `t / 5`. -/
theorem pt_head (t : Fin cfg0.N) : (grid0.coords t 0).val = t.val / 5 := by
  have ht : t.val < 40 := Nat.lt_of_lt_of_eq t.isLt N_0
  have e0 : (grid0.coords t 0).val = t.val / 5 % 8 := Pipeline.Grid.coords_val t 0 (by decide) rfl
  omega

/-- Point `t` works on block `t % 5` of the queries. -/
theorem pt_block (t : Fin cfg0.N) : (grid0.coords t 1).val = t.val % 5 := by
  have e1 : (grid0.coords t 1).val = t.val / 1 % 5 := Pipeline.Grid.coords_val t 1 (by decide) rfl
  omega

/-- The first branch is taken at each head's first block. -/
theorem br1 (t : Fin cfg0.N) : k0_cond1 (grid0.coords t) = 1#1 ↔ t.val % 5 = 0 := by
  unfold k0_cond1
  rw [pt_block]
  have h5 : t.val % 5 < 5 := Nat.mod_lt _ (by decide)
  generalize t.val % 5 = j at h5 ⊢
  revert j; decide

/-- The second branch is taken at every other block. -/
theorem br2 (t : Fin cfg0.N) : k0_cond2 (grid0.coords t) = 1#1 ↔ 1 ≤ t.val % 5 := by
  unfold k0_cond2
  rw [pt_block]
  have h5 : t.val % 5 < 5 := Nat.mod_lt _ (by decide)
  generalize t.val % 5 = j at h5 ⊢
  revert j; decide

variable (m : (ℓ : Loc nD τ sig) → Buf (Elt Ideal) ℓ) (ρ : Dev nD → PrngReg)

/-- The buffers the body is called on at point `t`. -/
abbrev mr0 (t : Fin cfg0.N) : Memref sig .tc .vmem S1x1664x256 .bf16 := win0_0.stage (cfg0.slots t 0)
abbrev mr1 (t : Fin cfg0.N) : Memref sig .tc .vmem S1x8320x256 .bf16 := win0_1.stage (cfg0.slots t 1)
abbrev mr2 (t : Fin cfg0.N) : Memref sig .tc .vmem S1x8320x128 .bf16 := win0_2.stage (cfg0.slots t 2)
abbrev mr3 (t : Fin cfg0.N) : Memref sig .tc .vmem S1664x128 .bf16 := win0_3.stage (cfg0.slots t 3)
abbrev mr4 (t : Fin cfg0.N) : Memref sig .tc .vmem S1x1664x1 .f32 := win0_4.stage (cfg0.slots t 4)

/-! ## The arrays at coordinates -/

/-- Head `h`'s queries, read at row and feature. -/
def qF (c : Dev nD) (h : ℕ) (x d : ℕ) : EReal := rd3 (n0 := 8) (n1 := 8320) (n2 := 256) (V m c main_arg0) h x d
/-- Head `h`'s keys. -/
def kF (c : Dev nD) (h : ℕ) (x d : ℕ) : EReal := rd3 (n0 := 8) (n1 := 8320) (n2 := 256) (V m c main_arg1) h x d
/-- Head `h`'s values. -/
def vF (c : Dev nD) (h : ℕ) (x e : ℕ) : EReal := rd3 (n0 := 8) (n1 := 8320) (n2 := 128) (V m c main_arg2) h x e

/-- Which block of its array window 0 is on. -/
theorem at_0 (t : Fin cfg0.N) : win0_0.index t = ![t.val / 5, t.val % 5, 0] :=
  (by decide +kernel : ∀ t : Fin grid0.N, win0_0.index t = ![t.val / 5, t.val % 5, 0]) t

/-- Which block of its array window 1 is on. -/
theorem at_1 (t : Fin cfg0.N) : win0_1.index t = ![t.val / 5, 0, 0] :=
  (by decide +kernel : ∀ t : Fin grid0.N, win0_1.index t = ![t.val / 5, 0, 0]) t

/-- Which block of its array window 2 is on. -/
theorem at_2 (t : Fin cfg0.N) : win0_2.index t = ![t.val / 5, 0, 0] :=
  (by decide +kernel : ∀ t : Fin grid0.N, win0_2.index t = ![t.val / 5, 0, 0]) t

/-- Which block of its array window 3 is on. -/
theorem at_3 (t : Fin cfg0.N) : win0_3.index t = ![t.val % 5, t.val / 5] :=
  (by decide +kernel : ∀ t : Fin grid0.N, win0_3.index t = ![t.val % 5, t.val / 5]) t

/-- Which block of its array window 4 is on. -/
theorem at_4 (t : Fin cfg0.N) : win0_4.index t = ![t.val / 5, t.val % 5, 0] :=
  (by decide +kernel : ∀ t : Fin grid0.N, win0_4.index t = ![t.val / 5, t.val % 5, 0]) t

/-- What window 0 holds at point `t`, at coordinates. -/
theorem blk_0 (c : Dev nD) (t : Fin cfg0.N) (y : S1x1664x256.Idx) : iblk m c 0 t y = qF m c (t.val / 5) (1664 * (t.val % 5) + (y 1).val) (y 2).val := by
  idx_bounds y
  blk_simp [iblk]
  refine rd3_eq _ _ ?_ ?_ ?_ <;> blk_simp [at_0] <;> omega

/-- What window 1 holds at point `t`, at coordinates. -/
theorem blk_1 (c : Dev nD) (t : Fin cfg0.N) (y : S1x8320x256.Idx) : iblk m c 1 t y = kF m c (t.val / 5) (0 + (y 1).val) (y 2).val := by
  idx_bounds y
  blk_simp [iblk]
  refine rd3_eq _ _ ?_ ?_ ?_ <;> blk_simp [at_1] <;> omega

/-- What window 2 holds at point `t`, at coordinates. -/
theorem blk_2 (c : Dev nD) (t : Fin cfg0.N) (y : S1x8320x128.Idx) : iblk m c 2 t y = vF m c (t.val / 5) (0 + (y 1).val) (y 2).val := by
  idx_bounds y
  blk_simp [iblk]
  refine rd3_eq _ _ ?_ ?_ ?_ <;> blk_simp [at_2] <;> omega

/-- The body's run at a head's first block. -/
abbrev atA (c : Dev nD) (t : Fin cfg0.N) (h : t.val % 5 = 0) :=
  runA c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) ((br1 t).mpr h) (fun h2 => absurd ((br2 t).mp h2) (by omega)) (iblk m c 0 t) (iblk m c 1 t) (iblk m c 2 t)

/-- The body's run at any later block. -/
abbrev atB (c : Dev nD) (t : Fin cfg0.N) (h : 1 ≤ t.val % 5) :=
  runB c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (fun h1 => absurd ((br1 t).mp h1) (by omega)) ((br2 t).mpr h) (iblk m c 0 t) (iblk m c 1 t) (iblk m c 2 t)

/-- The rows' output, as point `t` leaves it. -/
def left3 (c : Dev nD) (t : Fin cfg0.N) : S1664x128.Idx → EReal :=
  if h : t.val % 5 = 0 then (atA m c t h).1 else (atB m c t (by omega)).1
/-- The logs of the rows' sums, as point `t` leaves them. -/
def left4 (c : Dev nD) (t : Fin cfg0.N) : S1x1664x1.Idx → EReal :=
  if h : t.val % 5 = 0 then (atA m c t h).2.1 else (atB m c t (by omega)).2.1

/-- The pipeline's data: the inputs stay as fetched; the outputs hold what the body left. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 m c t
    | ⟨4, _⟩ => left4 m c t
  Φ _ := Pipeline.ΦA spec0 c
  q _ := fullShare
  owed _ := 0

/-- The data's arrays are those the region finds. -/
theorem dats_A (c : Dev nD) (w : Fin cfg0.W) : (dats m 0 c).A w = V m c (Pipeline.arrRef spec0 w) := by
  dsimp only [dats]

/-- Input window 0 is left as fetched. -/
theorem aft_0 (c : Dev nD) (t : Fin cfg0.N) : (dats m 0 c).after 0 t = iblk m c 0 t := by dsimp only [dats]
/-- Input window 0 holds its block when the body starts. -/
theorem bef_0 (c : Dev nD) (t : Fin cfg0.N) (d) : (dats m 0 c).before 0 t d = iblk m c 0 t :=
  before0_0_of m (dats m 0 c) (dats_A m c 0) (aft_0 m c) t d
/-- Input window 1 is left as fetched. -/
theorem aft_1 (c : Dev nD) (t : Fin cfg0.N) : (dats m 0 c).after 1 t = iblk m c 1 t := by dsimp only [dats]
/-- Input window 1 holds its block when the body starts. -/
theorem bef_1 (c : Dev nD) (t : Fin cfg0.N) (d) : (dats m 0 c).before 1 t d = iblk m c 1 t :=
  before0_1_of m (dats m 0 c) (dats_A m c 1) (aft_1 m c) t d
/-- Input window 2 is left as fetched. -/
theorem aft_2 (c : Dev nD) (t : Fin cfg0.N) : (dats m 0 c).after 2 t = iblk m c 2 t := by dsimp only [dats]
/-- Input window 2 holds its block when the body starts. -/
theorem bef_2 (c : Dev nD) (t : Fin cfg0.N) (d) : (dats m 0 c).before 2 t d = iblk m c 2 t :=
  before0_2_of m (dats m 0 c) (dats_A m c 2) (aft_2 m c) t d
/-- What output window 3 is left with. -/
theorem aft_3 (c : Dev nD) (t : Fin cfg0.N) : (dats m 0 c).after 3 t = left3 m c t := by dsimp only [dats]
/-- What output window 4 is left with. -/
theorem aft_4 (c : Dev nD) (t : Fin cfg0.N) : (dats m 0 c).after 4 t = left4 m c t := by dsimp only [dats]
/-- The pipeline's invariant, its scratch buffers named. -/
theorem inv_eq (c : Dev nD) :
    (Pipeline.ΦA spec0 c : sProp 𝕄)
      = iprop(iprop((∃ d, owns (c : Thread nD τ) (Memref.whole cc0_scratch0 : Memref sig .tc .vmem S416x1 .f32) fullShare d) ∗ (∃ d, owns (c : Thread nD τ) (Memref.whole cc0_scratch1 : Memref sig .tc .vmem S416x1 .f32) fullShare d) ∗ (∃ d, owns (c : Thread nD τ) (Memref.whole cc0_scratch2 : Memref sig .tc .vmem S416x1 .f32) fullShare d) ∗ (∃ d, owns (c : Thread nD τ) (Memref.whole cc0_scratch3 : Memref sig .tc .vmem S416x1 .f32) fullShare d) ∗ (∃ d, owns (c : Thread nD τ) (Memref.whole cc0_scratch4 : Memref sig .tc .vmem S416x1 .f32) fullShare d) ∗ (∃ d, owns (c : Thread nD τ) (Memref.whole cc0_scratch5 : Memref sig .tc .vmem S416x1 .f32) fullShare d) ∗ (∃ d, owns (c : Thread nD τ) (Memref.whole cc0_scratch6 : Memref sig .tc .vmem S416x1 .f32) fullShare d) ∗ (∃ d, owns (c : Thread nD τ) (Memref.whole cc0_scratch7 : Memref sig .tc .vmem S416x1 .f32) fullShare d) ∗ (∃ d, owns (c : Thread nD τ) (Memref.whole cc0_scratch8 : Memref sig .tc .vmem S416x128 .f32) fullShare d) ∗ (∃ d, owns (c : Thread nD τ) (Memref.whole cc0_scratch9 : Memref sig .tc .vmem S416x128 .f32) fullShare d) ∗ (∃ d, owns (c : Thread nD τ) (Memref.whole cc0_scratch10 : Memref sig .tc .vmem S416x128 .f32) fullShare d) ∗ (∃ d, owns (c : Thread nD τ) (Memref.whole cc0_scratch11 : Memref sig .tc .vmem S416x128 .f32) fullShare d)) ∗ (∃ r, prngReg c r)) := by
  unfold Pipeline.ΦA; rw [scopedRest0_eq]; simp only [owns_whole]; try rfl

/-- What the body starts from at point `t`. -/
def pre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d)))

/-- What it must leave. -/
def post (c : Dev nD) (t : Fin cfg0.N) : sProp 𝕄 :=
  iprop((dats m 0 c).Φ t.succ ∗ (dats m 0 c).owesAt () t.succ
    ∗ owns (c : Thread nD τ) (mr0 t) fullShare ((dats m 0 c).after 0 t)
    ∗ owns (c : Thread nD τ) (mr1 t) fullShare ((dats m 0 c).after 1 t)
    ∗ owns (c : Thread nD τ) (mr2 t) fullShare ((dats m 0 c).after 2 t)
    ∗ owns (c : Thread nD τ) (mr3 t) fullShare ((dats m 0 c).after 3 t)
    ∗ owns (c : Thread nD τ) (mr4 t) fullShare ((dats m 0 c).after 4 t))

set_option maxHeartbeats 1600000 in
/-- The body at a head's first block. -/
theorem pointA (c : Dev nD) (t : Fin cfg0.N) (h : t.val % 5 = 0) :
    pre m c t ⊢ wp frame (wpE (defs₀ (F := Ideal)) Variants.none c none) Set.univ (bodyAt0 t) (fun _ => post m c t) := by
  unfold pre post bodyAt0
  simp only [bef_0, bef_1, bef_2]
  rw [show (dats m 0 c).Φ t.succ = (dats m 0 c).Φ t.castSucc from rfl,
    show (dats m 0 c).owesAt () t.succ = (dats m 0 c).owesAt () t.castSucc from rfl, aft_0, aft_1, aft_2, aft_3, aft_4]
  rw [show (dats m 0 c).Φ t.castSucc = Pipeline.ΦA spec0 c from rfl, inv_eq]
  rw [show left3 m c t = (atA m c t h).1 from dif_pos h, show left4 m c t = (atA m c t h).2.1 from dif_pos h]
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩⟩
  iapply ((atA m c t h).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]
  · iexact H0
  isplitl [H1]
  · iexact H1
  isplitl [H2]
  · iexact H2
  isplitl [H3]
  · iexact H3
  iexact H4

set_option maxHeartbeats 1600000 in
/-- The body at any later block. -/
theorem pointB (c : Dev nD) (t : Fin cfg0.N) (h : 1 ≤ t.val % 5) :
    pre m c t ⊢ wp frame (wpE (defs₀ (F := Ideal)) Variants.none c none) Set.univ (bodyAt0 t) (fun _ => post m c t) := by
  unfold pre post bodyAt0
  simp only [bef_0, bef_1, bef_2]
  rw [show (dats m 0 c).Φ t.succ = (dats m 0 c).Φ t.castSucc from rfl,
    show (dats m 0 c).owesAt () t.succ = (dats m 0 c).owesAt () t.castSucc from rfl, aft_0, aft_1, aft_2, aft_3, aft_4]
  rw [show (dats m 0 c).Φ t.castSucc = Pipeline.ΦA spec0 c from rfl, inv_eq]
  rw [show left3 m c t = (atB m c t h).1 from dif_neg (show ¬ t.val % 5 = 0 by omega), show left4 m c t = (atB m c t h).2.1 from dif_neg (show ¬ t.val % 5 = 0 by omega)]
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩⟩
  iapply ((atB m c t h).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]
  · iexact H0
  isplitl [H1]
  · iexact H1
  isplitl [H2]
  · iexact H2
  isplitl [H3]
  · iexact H3
  iexact H4

/-- The body at any point. -/
theorem point_any (c : Dev nD) (t : Fin cfg0.N) :
    pre m c t ⊢ wp frame (wpE (defs₀ (F := Ideal)) Variants.none c none) Set.univ (bodyAt0 t) (fun _ => post m c t) := by
  by_cases h : t.val % 5 = 0
  · exact pointA m c t h
  · exact pointB m c t (by omega)

/-- The body table's row at point `t` is the body. -/
theorem row_eq (t : Fin cfg0.N) :
    defs₀ (F := Ideal) .tc cfg0.body (cfg0.bodyArgs t (cfg0.slots t)) = bodyAt0 t := by
  unfold defs₀; rw [Defs.onTc_tc]

/-- The obligation of the pipeline's body. -/
theorem obligation (c : Dev nD) : BodyObligation (dats m 0 c) (defs₀ (F := Ideal)) Variants.none () Set.univ := fun t => by
  rw [bigSep_W0, bigSep_W0, row_eq]
  exact triple_restated (point_any m c t) rfl .rfl fun _ => .rfl

set_option backward.isDefEq.respectTransparency.types false in
/-- The run: every execution ends, with the pipeline's arrays as the data say and no signal left. -/
theorem run_all : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-! ## The result arrays -/

/-- The point that works on row `x` of head `h`. -/
def ptOf (h x : ℕ) (hh : h < 8) (hx : x < 8320) : Fin cfg0.N := ⟨5 * h + x / 1664, by rw [show cfg0.N = 40 from N_0]; omega⟩

/-- The output array, at an index. -/
def go (c : Dev nD) : S8320x1024.Idx → EReal := fun y =>
  left3 m c (ptOf ((y 1).val / 128) (y 0).val (by have := (y 1).isLt; change _ < 1024 at this; omega) (y 0).isLt)
    (ix2 ⟨(y 0).val % 1664, Nat.mod_lt _ (by decide)⟩ ⟨(y 1).val % 128, Nat.mod_lt _ (by decide)⟩)

/-- The same, its coordinates named. -/
theorem go_at (c : Dev nD) (y : S8320x1024.Idx) (t : Fin cfg0.N) (z : S1664x128.Idx)
    (e0 : (y 0).val = 1664 * (t.val % 5) + (z 0).val) (e1 : (y 1).val = 128 * (t.val / 5) + (z 1).val) : go m c y = left3 m c t z := by
  have h0 : (z 0).val < 1664 := (z 0).isLt
  have h1 : (z 1).val < 128 := (z 1).isLt
  unfold go
  refine congr (congrArg _ (Fin.ext ?_)) ?_
  · show 5 * ((y 1).val / 128) + (y 0).val / 1664 = t.val
    omega
  · refine Eq.trans ?_ (eq_ix2 z).symm
    congr 1 <;> refine Fin.ext ?_ <;> dsimp only <;> omega

/-- The output array after the run. -/
theorem final_3 (c : Dev nD) : (dats m 0 c).arrAt 3 cfg0.N = go m c := by
  refine (dats m 0 c).arrAt_eq_of_covers 3 _ (by decide +kernel) fun t hf y => ?_
  blk_simp
  rw [aft_3]
  refine (go_at m c _ t y ?_ ?_).symm
  all_goals
    idx_bounds y
    blk_simp [at_3]
    try omega

/-- The array of the logs of the rows' sums, at an index. -/
def gl (c : Dev nD) : S8x8320x1.Idx → EReal := fun y =>
  left4 m c (ptOf (y 0).val (y 1).val (y 0).isLt (y 1).isLt) (ix3 0 ⟨(y 1).val % 1664, Nat.mod_lt _ (by decide)⟩ 0)

/-- The same, its coordinates named. -/
theorem gl_at (c : Dev nD) (y : S8x8320x1.Idx) (t : Fin cfg0.N) (z : S1x1664x1.Idx)
    (e0 : (y 0).val = t.val / 5) (e1 : (y 1).val = 1664 * (t.val % 5) + (z 1).val) : gl m c y = left4 m c t z := by
  have h1 : (z 1).val < 1664 := (z 1).isLt
  unfold gl
  refine congr (congrArg _ (Fin.ext ?_)) ?_
  · show 5 * (y 0).val + (y 1).val / 1664 = t.val
    omega
  · refine Eq.trans ?_ (eq_ix3 z).symm
    congr 1
    · exact (Fin.fin_one_eq_zero _).symm
    · refine Fin.ext ?_; dsimp only; omega
    · exact (Fin.fin_one_eq_zero _).symm

/-- The array of the logs of the rows' sums after the run. -/
theorem final_4 (c : Dev nD) : (dats m 0 c).arrAt 4 cfg0.N = gl m c := by
  refine (dats m 0 c).arrAt_eq_of_covers 4 _ (by decide +kernel) fun t hf y => ?_
  blk_simp
  rw [aft_4]
  refine (gl_at m c _ t y ?_ ?_).symm
  all_goals
    idx_bounds y
    blk_simp [at_4]
    try omega

/-- Distinct windows have distinct arrays. -/
theorem arr_inj : Function.Injective (Pipeline.arrRef spec0) := by decide

end Cert.Kernel2Ideal.Hand
end
-- ==== Proof.FwdMeet.lean ====
module
public import proofs.«01_k».proof.Proof.FwdRef
public import proofs.«01_k».proof.Proof.FwdLaunched
public import proofs.«01_k».proof.Proof.Meet
public import proofs.«01_k».proof.Pre_finite2
public import proofs.«01_k».proof.Proof.Gen.Pre_finite2
@[expose] public section
set_option maxRecDepth 16384
noncomputable section
namespace Cert.Kernel2Ideal.Hand
open Idealize.ShloMosaic Idealize.ShloMosaic.TcCoe Idealize.ShloMosaic.Tactic Idealize.SL.Sem Cert.Kernel2Ideal Cert.Kernel2Ideal.Gen
open Cert.KernelIdeal.Hand (real_of_lt rd3 rd3_eq scores scores_at top top_at expo_at total_at soft_at rows256 rows256_at rows128 rows128_at vis coe_dot)
open Cert.Reference2Ideal.Hand
open scoped BigOperators

/-! ## The precondition -/

/-- Arrays that pass the precondition's test hold real numbers. -/
theorem finite_real (q k : S8x8320x256.Idx → EReal) (v : S8x8320x128.Idx → EReal)
    (h : Cert.Pre_finite2.fn (F := Ideal) q k v = fun _ => 1#1) :
    (∀ y, q y = ((q y).toReal : EReal)) ∧ (∀ y, k y = ((k y).toReal : EReal)) ∧ ∀ y, v y = ((v y).toReal : EReal) := by
  have e := congrFun h ix0
  dsimp only [Cert.Pre_finite2.fn] at e
  obtain ⟨e, e3⟩ := IntOp.andi_eq_one.1 e
  obtain ⟨e1, e2⟩ := IntOp.andi_eq_one.1 e
  haveI : Subsingleton Cert.Pre_finite2.S_.Idx := ⟨fun a b => funext fun i => i.elim0⟩
  exact ⟨fun y => real_of_lt _ (Host.reduce_andi_all _ _ _ _ _ e1 y), fun y => real_of_lt _ (Host.reduce_andi_all _ _ _ _ _ e2 y),
    fun y => real_of_lt _ (Host.reduce_andi_all _ _ _ _ _ e3 y)⟩

/-- An array of real numbers, read at natural numbers, is real. -/
theorem rd3_real {n0 n1 n2 : ℕ} (A : (⟨3, ![n0, n1, n2]⟩ : Shape).Idx → EReal) (hA : ∀ y, A y = ((A y).toReal : EReal)) (a b d : ℕ) :
    rd3 A a b d = ((rd3 A a b d).toReal : EReal) := by
  unfold rd3
  split
  · exact hA _
  · simp

/-! ## The kernel's results -/

variable (m : (ℓ : Loc nD τ sig) → Buf (Elt Ideal) ℓ) (ρ : Dev nD → PrngReg) (c : Dev nD)

/-- The queries as launched. -/
abbrev mQ : FVec Ideal S8x8320x256 .bf16 := m ((c.tc : Thread nD τ).loc main_arg0)
/-- The keys as launched. -/
abbrev mK : FVec Ideal S8x8320x256 .bf16 := m ((c.tc : Thread nD τ).loc main_arg1)
/-- The values as launched. -/
abbrev mV : FVec Ideal S8x8320x128 .bf16 := m ((c.tc : Thread nD τ).loc main_arg2)

/-- The queries the kernel reads. -/
theorem qF_at (h : Fin 8) (x : Fin 8320) (d : Fin 256) : qF m c h.val x.val d.val = mQ m c (ix3 h x d) := by
  unfold qF
  rw [V_main_arg0]
  exact (rd3_eq (n0 := 8) (n1 := 8320) (n2 := 256) _ (ix3 h x d) rfl rfl rfl).symm
/-- The keys the kernel reads. -/
theorem kF_at (h : Fin 8) (x : Fin 8320) (d : Fin 256) : kF m c h.val x.val d.val = mK m c (ix3 h x d) := by
  unfold kF
  rw [V_main_arg1]
  exact (rd3_eq (n0 := 8) (n1 := 8320) (n2 := 256) _ (ix3 h x d) rfl rfl rfl).symm
/-- The values the kernel reads. -/
theorem vF_at (h : Fin 8) (x : Fin 8320) (e : Fin 128) : vF m c h.val x.val e.val = mV m c (ix3 h x e) := by
  unfold vF
  rw [V_main_arg2]
  exact (rd3_eq (n0 := 8) (n1 := 8320) (n2 := 128) _ (ix3 h x e) rfl rfl rfl).symm

/-- Head `h`'s queries, as real numbers. -/
def qR (h x d : ℕ) : ℝ := (qF m c h x d).toReal
/-- Head `h`'s keys, as real numbers. -/
def kR (h x d : ℕ) : ℝ := (kF m c h x d).toReal
/-- Head `h`'s values, as real numbers. -/
def vR (h x d : ℕ) : ℝ := (vF m c h x d).toReal

/-- The first result: the output array without the rows in front. -/
def resO : FVec Ideal S8208x1024 .bf16 := extractStridedSlice S8208x1024 ![112, 0] (go m c) slices_S8320x1024_S8208x1024_112_0
/-- The second result. -/
def resL : FVec Ideal S8x8208x1 .f32 := extractStridedSlice S8x8208x1 ![0, 112, 0] (gl m c) slices_S8x8320x1_S8x8208x1_0_112_0

/-- The first result at an index. -/
theorem resO_at (i : Fin 8208) (z : Fin 1024) : resO m c (ix2 i z) = go m c (ix2 ⟨112 + i.val, by omega⟩ z) := by
  unfold resO
  pointwise
/-- The second result at an index. -/
theorem resL_at (h : Fin 8) (i : Fin 8208) : resL m c (ix3 h i 0) = gl m c (ix3 h ⟨112 + i.val, by omega⟩ 0) := by
  unfold resL
  pointwise

set_option backward.isDefEq.respectTransparency.types false in
set_option maxHeartbeats 1000000 in
/-- The run, read at the two results. -/
theorem kernel_run : θ_run (defs (F := Ideal)) (onTc (τ := τ) (main (F := Ideal))) ⟨m, fun _ => 0, ρ⟩ (fun r => ∀ c : Dev nD,
      r.2.mem ((c.tc : Thread nD τ).loc main_v1) = resO m c
      ∧ r.2.mem ((c.tc : Thread nD τ).loc main_v2) = resL m c) :=
  (θ_run defs _ _).mono (fun r h c => by
    have e3 : Pipeline.withArrays (cfgs 0).spec c (V0 m c) (fun w => (dats m 0 c).arrAt w (cfgs 0).N) (Proc.devRef .tc main_v0_0) = go m c :=
      (Pipeline.withArrays_arr spec0 arr_inj c (V0 m c) (fun w => (dats m 0 c).arrAt w cfg0.N) 3).trans (final_3 m c)
    have e4 : Pipeline.withArrays (cfgs 0).spec c (V0 m c) (fun w => (dats m 0 c).arrAt w (cfgs 0).N) (Proc.devRef .tc main_v0_1) = gl m c :=
      (Pipeline.withArrays_arr spec0 arr_inj c (V0 m c) (fun w => (dats m 0 c).arrAt w cfg0.N) 4).trans (final_4 m c)
    refine ⟨((h.1 c).2 main_v1 (Pipeline.mem_restRefs_of main_v1 (by decide) (by decide))).trans ?_,
      ((h.1 c).2 main_v2 (Pipeline.mem_restRefs_of main_v2 (by decide) (by decide))).trans ?_⟩
    · unfold Pipeline.afterTail₀ resO
      rw [← e3]
      simp only [hostOps1, List.flatten_cons, List.flatten_nil, List.append_nil]
      after_results_simp
    · unfold Pipeline.afterTail₀ resL
      rw [← e4]
      simp only [hostOps1, List.flatten_cons, List.flatten_nil, List.append_nil]
      after_results_simp)
    (run_all m ρ)

variable (fin : Cert.Pre_finite2.fn (F := Ideal) (mQ m c) (mK m c) (mV m c) = fun _ => 1#1)

include fin in
/-- The queries are real. -/
theorem q_real (h x d : ℕ) : qF m c h x d = (qR m c h x d : EReal) := by
  unfold qR qF
  rw [V_main_arg0]
  exact rd3_real (n0 := 8) (n1 := 8320) (n2 := 256) _ (finite_real _ _ _ fin).1 h x d
include fin in
/-- The keys are real. -/
theorem k_real (h x d : ℕ) : kF m c h x d = (kR m c h x d : EReal) := by
  unfold kR kF
  rw [V_main_arg1]
  exact rd3_real (n0 := 8) (n1 := 8320) (n2 := 256) _ (finite_real _ _ _ fin).2.1 h x d
include fin in
/-- The values are real. -/
theorem v_real (h x d : ℕ) : vF m c h x d = (vR m c h x d : EReal) := by
  unfold vR vF
  rw [V_main_arg2]
  exact rd3_real (n0 := 8) (n1 := 8320) (n2 := 128) _ (finite_real _ _ _ fin).2.2 h x d

include fin in
/-- A row of a point's output block. -/
theorem left3_real (t : Fin cfg0.N) (y : S1664x128.Idx) (hr : 112 ≤ 1664 * (t.val % 5) + (y 0).val) :
    left3 m c t y = (oR (qR m c (t.val / 5)) (kR m c (t.val / 5)) (vR m c (t.val / 5)) (1664 * (t.val % 5) + (y 0).val) (y 1).val : EReal) := by
  have h2 : ∀ y : S1x1664x256.Idx, iblk m c 0 t y = (qR m c (t.val / 5) (1664 * (grid0.coords t 1).val + (y 1).val) (y 2).val : EReal) := fun y => by
    rw [blk_0, q_real m c fin, pt_block]
  have h3 : ∀ y : S1x8320x256.Idx, iblk m c 1 t y = (kR m c (t.val / 5) (0 + (y 1).val) (y 2).val : EReal) := fun y => by rw [blk_1, k_real m c fin]
  have h4 : ∀ y : S1x8320x128.Idx, iblk m c 2 t y = (vR m c (t.val / 5) (0 + (y 1).val) (y 2).val : EReal) := fun y => by rw [blk_2, v_real m c fin]
  rw [← pt_block t] at hr ⊢
  unfold left3
  split
  · rename_i h
    exact runA_o _ _ ((pt_block t).trans h) h2 h3 h4 y hr
  · exact runB_o _ _ h2 h3 h4 y hr

include fin in
/-- A row of a point's block of logarithms. -/
theorem left4_real (t : Fin cfg0.N) (y : S1x1664x1.Idx) (hr : 112 ≤ 1664 * (t.val % 5) + (y 1).val) :
    left4 m c t y = (lR (qR m c (t.val / 5)) (kR m c (t.val / 5)) (1664 * (t.val % 5) + (y 1).val) : EReal) := by
  have h2 : ∀ y : S1x1664x256.Idx, iblk m c 0 t y = (qR m c (t.val / 5) (1664 * (grid0.coords t 1).val + (y 1).val) (y 2).val : EReal) := fun y => by
    rw [blk_0, q_real m c fin, pt_block]
  have h3 : ∀ y : S1x8320x256.Idx, iblk m c 1 t y = (kR m c (t.val / 5) (0 + (y 1).val) (y 2).val : EReal) := fun y => by rw [blk_1, k_real m c fin]
  have h4 : ∀ y : S1x8320x128.Idx, iblk m c 2 t y = (vR m c (t.val / 5) (0 + (y 1).val) (y 2).val : EReal) := fun y => by rw [blk_2, v_real m c fin]
  rw [← pt_block t] at hr ⊢
  unfold left4
  split
  · rename_i h
    exact runA_l _ _ ((pt_block t).trans h) h2 h3 h4 y hr
  · exact runB_l _ _ h2 h3 h4 y hr

include fin in
/-- The first result over the real numbers. -/
theorem resO_real (i : Fin 8208) (h : Fin 8) (e : Fin 128) : resO m c (ix2 i ⟨h.val * 128 + e.val, by omega⟩)
    = (oR (qR m c h.val) (kR m c h.val) (vR m c h.val) (112 + i.val) e.val : EReal) := by
  have hi := i.isLt
  have hh := h.isLt
  have he := e.isLt
  rw [resO_at]
  refine (go_at m c _ (ptOf h.val (112 + i.val) hh (by omega)) (ix2 ⟨(112 + i.val) % 1664, Nat.mod_lt _ (by decide)⟩ e) ?_ ?_).trans ?_
  · show 112 + i.val = 1664 * ((5 * h.val + (112 + i.val) / 1664) % 5) + (112 + i.val) % 1664
    omega
  · show h.val * 128 + e.val = 128 * ((5 * h.val + (112 + i.val) / 1664) / 5) + e.val
    omega
  have a1 : (ptOf h.val (112 + i.val) hh (by omega)).val / 5 = h.val := by
    show (5 * h.val + (112 + i.val) / 1664) / 5 = h.val
    omega
  have a2 : 1664 * ((ptOf h.val (112 + i.val) hh (by omega)).val % 5) + (112 + i.val) % 1664 = 112 + i.val := by
    show 1664 * ((5 * h.val + (112 + i.val) / 1664) % 5) + (112 + i.val) % 1664 = 112 + i.val
    omega
  refine (left3_real m c fin _ _ (le_of_le_of_eq (Nat.le_add_right 112 i.val) a2.symm)).trans ?_
  rw [a1]
  show (oR _ _ _ (1664 * ((ptOf h.val (112 + i.val) hh (by omega)).val % 5) + (112 + i.val) % 1664) e.val : EReal) = _
  rw [a2]

include fin in
/-- The second result over the real numbers. -/
theorem resL_real (h : Fin 8) (i : Fin 8208) : resL m c (ix3 h i 0) = (lR (qR m c h.val) (kR m c h.val) (112 + i.val) : EReal) := by
  have hi := i.isLt
  have hh := h.isLt
  rw [resL_at]
  refine (gl_at m c _ (ptOf h.val (112 + i.val) hh (by omega)) (ix3 0 ⟨(112 + i.val) % 1664, Nat.mod_lt _ (by decide)⟩ 0) ?_ ?_).trans ?_
  · show h.val = (5 * h.val + (112 + i.val) / 1664) / 5
    omega
  · show 112 + i.val = 1664 * ((5 * h.val + (112 + i.val) / 1664) % 5) + (112 + i.val) % 1664
    omega
  have a1 : (ptOf h.val (112 + i.val) hh (by omega)).val / 5 = h.val := by
    show (5 * h.val + (112 + i.val) / 1664) / 5 = h.val
    omega
  have a2 : 1664 * ((ptOf h.val (112 + i.val) hh (by omega)).val % 5) + (112 + i.val) % 1664 = 112 + i.val := by
    show 1664 * ((5 * h.val + (112 + i.val) / 1664) % 5) + (112 + i.val) % 1664 = 112 + i.val
    omega
  refine (left4_real m c fin _ _ (le_of_le_of_eq (Nat.le_add_right 112 i.val) a2.symm)).trans ?_
  rw [a1]
  show (lR _ _ (1664 * ((ptOf h.val (112 + i.val) hh (by omega)).val % 5) + (112 + i.val) % 1664) : EReal) = _
  rw [a2]

/-! ## The kernel's results are the reference's -/

include fin in
/-- A score of the reference, over the real numbers. -/
theorem sc_real (h : Fin 8) (i j : Fin 8208) : scR (mQ m c) (mK m c) (ix3 h i j)
    = if vis (112 + j.val) (112 + i.val) then (sR (qR m c h.val) (kR m c h.val) (112 + i.val) (112 + j.val) : EReal) else ⊥ := by
  refine (scores_at _ _ h i j).trans ?_
  refine if_congr Iff.rfl ?_ rfl
  unfold sR
  rw [← coe_dot]
  refine Finset.sum_congr rfl fun d _ => ?_
  rw [rows256_at, rows256_at, ← qF_at m c h ⟨112 + i.val, by omega⟩ d, ← kF_at m c h ⟨112 + j.val, by omega⟩ d, q_real m c fin, k_real m c fin]

/-- Every row sees its own key. -/
theorem sees (i : Fin 8208) : ∃ j : Fin 8208, vis (112 + j.val) (112 + i.val) := ⟨i, le_rfl, Nat.le_add_right _ _⟩

/-- A row's sum without the keys in front. -/
theorem sum_shift (S : ℕ → ℝ) (x : ℕ) : rowSum (fun y => vis y x) S 8320 = rowSum (fun y => vis (112 + y) x) (fun y => S (112 + y)) 8208 := by
  unfold rowSum
  refine shift _ fun y hy => ?_
  unfold ew
  rw [if_neg fun hv => absurd hv.2 (by omega)]
/-- A row's weighted sum without the keys in front. -/
theorem dot_shift (S : ℕ → ℝ) (V : ℕ → ℕ → ℝ) (x e : ℕ) :
    rowDot (fun y => vis y x) S V 8320 e = rowDot (fun y => vis (112 + y) x) (fun y => S (112 + y)) (fun y => V (112 + y)) 8208 e := by
  unfold rowDot
  refine shift _ fun y hy => ?_
  unfold ew
  rw [if_neg fun hv => absurd hv.2 (by omega), zero_mul]

include fin in
/-- A logarithm is the reference's. -/
theorem meet_l_at (h : Fin 8) (i : Fin 8208) : resL m c (ix3 h i 0) = outL (mQ m c) (mK m c) (ix3 h i 0) := by
  refine (resL_real m c fin h i).trans ?_
  unfold outL lR
  rw [logR_at, total_at, top_at, sum_shift]
  simp only [expo_at, top_at]
  exact (row_log (p := fun j => vis (112 + j) (112 + i.val)) (S := fun j => sR (qR m c h.val) (kR m c h.val) (112 + i.val) (112 + j))
    (fun j : Fin 8208 => scR (mQ m c) (mK m c) (ix3 h i j)) (sc_real m c fin h i) (sees i)).symm

include fin in
/-- The logarithms are the reference's. -/
theorem meet_l : resL m c = outL (mQ m c) (mK m c) := by
  funext y
  rw [eq_ix3 y, show y 2 = (0 : Fin 1) from Fin.fin_one_eq_zero _]
  exact meet_l_at m c fin (y 0) (y 1)

include fin in
/-- An output is the reference's. -/
theorem meet_o_at (i : Fin 8208) (h : Fin 8) (e : Fin 128) :
    resO m c (ix2 i ⟨h.val * 128 + e.val, by omega⟩) = outO (mQ m c) (mK m c) (mV m c) (ix2 i ⟨h.val * 128 + e.val, by omega⟩) := by
  refine (resO_real m c fin i h e).trans ?_
  rw [outO_at, mixR_at]
  simp only [soft_at, total_at, expo_at, top_at]
  unfold oR
  rw [sum_shift, dot_shift]
  refine (row_mix (p := fun j => vis (112 + j) (112 + i.val)) (S := fun j => sR (qR m c h.val) (kR m c h.val) (112 + i.val) (112 + j))
    (V := fun j => vR m c h.val (112 + j))
    (fun j : Fin 8208 => scR (mQ m c) (mK m c) (ix3 h i j)) (sc_real m c fin h i) (sees i) e.val e.isLt).symm.trans ?_
  refine Finset.sum_congr rfl fun j _ => ?_
  rw [rows128_at, ← vF_at m c h ⟨112 + j.val, by omega⟩ e, v_real m c fin]

include fin in
/-- The outputs are the reference's. -/
theorem meet_o : resO m c = outO (mQ m c) (mK m c) (mV m c) := by
  funext y
  have hz : (y 1).val < 1024 := (y 1).isLt
  have e1 : y = ix2 (y 0) (⟨(⟨(y 1).val / 128, by omega⟩ : Fin 8).val * 128 + (⟨(y 1).val % 128, by omega⟩ : Fin 128).val, by dsimp only; omega⟩ : Fin 1024) :=
    (eq_ix2 y).trans (congrArg (ix2 (y 0)) (Fin.ext (by dsimp only; omega)))
  rw [e1]
  exact meet_o_at m c fin (y 0) _ _

end Cert.Kernel2Ideal.Hand
end
-- ==== Proof.FwdWordLoop.lean ====
module
public import proofs.«01_k».proof.Proof.Gen.Kernel2.Frame
public import proofs.«01_k».proof.Proof.Gen.Kernel2.Points
public import proofs.«01_k».proof.Proof.Gen.Kernel2.Loops
public import Idealize.ShloMosaic.Lib.Pipeline.FrameBody
public import Idealize.ShloMosaic.Lib.VecWindow
public import Idealize.ShloMosaic.Lib.Ring
public import Idealize.ShloMosaic.Lib.Tactic
public import Idealize.ShloMosaic.PureOps.BitExact
@[expose] public section
set_option maxRecDepth 16384
noncomputable section
namespace Cert.Kernel2.Hand
open Idealize.ShloMosaic Idealize.ShloMosaic.TcCoe Idealize.ShloMosaic.Tactic Cert.Kernel2 Cert.Kernel2.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Bits) ℕ (UR sig nD τ) ℕ

/-- The loop over what is left after the whole steps makes no trip. -/
theorem no_rest (i : grid0.Coords) (h : k0_cond2 i = 1#1) : (k0_t2_loop i).trips = 0 := by
  have h5 : (i 1).val < 5 := (i 1).isLt
  revert h
  unfold k0_cond2 k0_t2_loop
  generalize (i 1).val = j at h5 ⊢
  revert j; decide

set_option warn.classDefReducibility false in
set_option maxHeartbeats 1000000 in
/-- On machine words a loop only has to hand its buffers back. -/
@[sl_loop] def loop1 (c : Dev nD) (E : Set ℕ) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (a1 : BitVec 32) (k0_h2 : k0_cond2 i = 1#1) (c1_i32 : BitVec 32) :
    LoopInvTy_k0_t1 (F := Bits) Unit ℕ (UR sig nD τ) ℕ Variants.none c none E i a2 w2 a3 w3 a4 w4 a5 w5 a6 w6 a7 w7 a8 w8 a9 w9 a10 w10 a11 w11 a12 w12 a13 w13 a14 w14 a15 w15 a16 w16 a17 w17 a18 w18 a1 k0_h2 c1_i32 where
  inv := fun _ _ => iprop((∃ f, (a2.view.loc (c : Thread nD τ) ↦[a2.view.set]{fullShare} f)) ∗ (∃ f, (a3.view.loc (c : Thread nD τ) ↦[a3.view.set]{fullShare} f)) ∗ (∃ f, (a4.view.loc (c : Thread nD τ) ↦[a4.view.set]{fullShare} f)) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (∃ f, (a10.view.loc (c : Thread nD τ) ↦[a10.view.set]{fullShare} f)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)))
  step k acc := by
    unfold k0_t1_body
    iintro ⟨⟨%f2, H2⟩, ⟨%f3, H3⟩, ⟨%f4, H4⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    sl_exec
    sl_step
    isplitl [H2]
    · iexists _; iexact H2
    isplitl [H3]
    · iexists _; iexact H3
    isplitl [H4]
    · iexists _; iexact H4
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists _; iexact H18

end Cert.Kernel2.Hand
end
-- ==== Proof.FwdWordA.lean ====
module
public import proofs.«01_k».proof.Proof.FwdWordLoop
public import Idealize.ShloMosaic.Lib.Pipeline.FrameBody
public import Idealize.ShloMosaic.Lib.VecWindow
public import Idealize.ShloMosaic.Lib.Ring
public import Idealize.ShloMosaic.Lib.Tactic
public import Idealize.ShloMosaic.PureOps.BitExact
@[expose] public section
set_option maxRecDepth 16384
noncomputable section
namespace Cert.Kernel2.Hand
open Idealize.ShloMosaic Idealize.ShloMosaic.TcCoe Idealize.ShloMosaic.Tactic Cert.Kernel2 Cert.Kernel2.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Bits) ℕ (UR sig nD τ) ℕ

set_option maxHeartbeats 4000000 in
/-- The kernel on machine words, at the first query block of a head: from blocks of any contents it runs to its end and hands every block back. -/
theorem bodyA (c : Dev nD) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (hc1 : k0_cond1 i = 1#1) (hc2 : ¬ k0_cond2 i = 1#1)
    (E : Set ℕ) (K : PUnit → sProp 𝕄) :
        iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
            ∗ (iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)) -∗ K PUnit.unit))
          ⊢ wp frame (wpE (defs₀ (F := Bits)) Variants.none c none) E (cc0_flash_fwd i a2 w2 a3 w3 a4 w4 a5 w5 a6 w6 a7 w7 a8 w8 a9 w9 a10 w10 a11 w11 a12 w12 a13 w13 a14 w14 a15 w15 a16 w16 a17 w17 a18 w18) K := by
      simp only [cc0_flash_fwd_eq_skeleton]; unfold cc0_flash_fwd_skel
      simp only [k0_part27_eq_skeleton, k0_part28_eq_skeleton, k0_part29_eq_skeleton]
      unfold owns
      iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
      sl_exec (disch := first | sl_exact hc1 | sl_exact hc2)
      sl_step
      iapply Hk
      isplitl [H2]
      · iexists _, _; isplitr; swap; · iexact H2
        ipureintro; rfl
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      iexists _, _; isplitr; swap; · iexact H18
      ipureintro; rfl

end Cert.Kernel2.Hand
end
-- ==== Proof.FwdWordB.lean ====
module
public import proofs.«01_k».proof.Proof.FwdWordLoop
public import Idealize.ShloMosaic.Lib.Pipeline.FrameBody
public import Idealize.ShloMosaic.Lib.VecWindow
public import Idealize.ShloMosaic.Lib.Ring
public import Idealize.ShloMosaic.Lib.Tactic
public import Idealize.ShloMosaic.PureOps.BitExact
@[expose] public section
set_option maxRecDepth 16384
noncomputable section
namespace Cert.Kernel2.Hand
open Idealize.ShloMosaic Idealize.ShloMosaic.TcCoe Idealize.ShloMosaic.Tactic Cert.Kernel2 Cert.Kernel2.Gen
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Bits) ℕ (UR sig nD τ) ℕ

set_option maxHeartbeats 4000000 in
/-- The kernel on machine words, at a later query block of a head: from blocks of any contents it runs to its end and hands every block back. -/
theorem bodyB (c : Dev nD) (i : grid0.Coords) (a2 : Memref sig .tc .vmem S1x1664x256 .bf16) (w2 : a2.IsWhole) (a3 : Memref sig .tc .vmem S1x8320x256 .bf16) (w3 : a3.IsWhole) (a4 : Memref sig .tc .vmem S1x8320x128 .bf16) (w4 : a4.IsWhole) (a5 : Memref sig .tc .vmem S1664x128 .bf16) (w5 : a5.IsWhole) (a6 : Memref sig .tc .vmem S1x1664x1 .f32) (w6 : a6.IsWhole) (a7 : Memref sig .tc .vmem S416x1 .f32) (w7 : a7.IsWhole) (a8 : Memref sig .tc .vmem S416x1 .f32) (w8 : a8.IsWhole) (a9 : Memref sig .tc .vmem S416x1 .f32) (w9 : a9.IsWhole) (a10 : Memref sig .tc .vmem S416x1 .f32) (w10 : a10.IsWhole) (a11 : Memref sig .tc .vmem S416x1 .f32) (w11 : a11.IsWhole) (a12 : Memref sig .tc .vmem S416x1 .f32) (w12 : a12.IsWhole) (a13 : Memref sig .tc .vmem S416x1 .f32) (w13 : a13.IsWhole) (a14 : Memref sig .tc .vmem S416x1 .f32) (w14 : a14.IsWhole) (a15 : Memref sig .tc .vmem S416x128 .f32) (w15 : a15.IsWhole) (a16 : Memref sig .tc .vmem S416x128 .f32) (w16 : a16.IsWhole) (a17 : Memref sig .tc .vmem S416x128 .f32) (w17 : a17.IsWhole) (a18 : Memref sig .tc .vmem S416x128 .f32) (w18 : a18.IsWhole) (hc1 : ¬ k0_cond1 i = 1#1) (hc2 : k0_cond2 i = 1#1)
    (E : Set ℕ) (K : PUnit → sProp 𝕄) :
        iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)
            ∗ (iprop((∃ d, owns (c : Thread nD τ) a2 fullShare d) ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d)) -∗ K PUnit.unit))
          ⊢ wp frame (wpE (defs₀ (F := Bits)) Variants.none c none) E (cc0_flash_fwd i a2 w2 a3 w3 a4 w4 a5 w5 a6 w6 a7 w7 a8 w8 a9 w9 a10 w10 a11 w11 a12 w12 a13 w13 a14 w14 a15 w15 a16 w16 a17 w17 a18 w18) K := by
      simp only [cc0_flash_fwd_eq_skeleton]; unfold cc0_flash_fwd_skel
      simp only [k0_part27_eq_skeleton, k0_part28_eq_skeleton, k0_part29_eq_skeleton]
      unfold owns
      iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
      have htr := no_rest i hc2
      sl_exec (disch := first | sl_exact hc1 | sl_exact hc2)
      sl_step
      iapply Hk
      isplitl [H2]
      · iexists _, _; isplitr; swap; · iexact H2
        ipureintro; rfl
      isplitl [H3]
      · iexists _, _; isplitr; swap; · iexact H3
        ipureintro; rfl
      isplitl [H4]
      · iexists _, _; isplitr; swap; · iexact H4
        ipureintro; rfl
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      iexists _, _; isplitr; swap; · iexact H18
      ipureintro; rfl

end Cert.Kernel2.Hand
end
-- ==== Proof.FwdWords.lean ====
module
public import proofs.«01_k».proof.Proof.FwdWordA
public import proofs.«01_k».proof.Proof.FwdWordB
@[expose] public section
set_option maxRecDepth 16384
noncomputable section
namespace Cert.Kernel2.Hand
open Idealize.ShloMosaic Idealize.ShloMosaic.TcCoe Idealize.ShloMosaic.Tactic Cert.Kernel2 Cert.Kernel2.Gen
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (RDat Cfg Window BodyObligation cellOf)
local notation "𝕄" => MT nD τ sig Unit (Elt Bits) ℕ (UR sig nD τ) ℕ

/-! ## The branches, point by point -/

/-- Point `t` works on block `t % 5` of the queries. -/
theorem pt_block (t : Fin cfg0.N) : (grid0.coords t 1).val = t.val % 5 := by
  have e1 : (grid0.coords t 1).val = t.val / 1 % 5 := Pipeline.Grid.coords_val t 1 (by decide) rfl
  omega

/-- The first branch is taken at each head's first block. -/
theorem br1 (t : Fin cfg0.N) : k0_cond1 (grid0.coords t) = 1#1 ↔ t.val % 5 = 0 := by
  unfold k0_cond1
  rw [pt_block]
  have h5 : t.val % 5 < 5 := Nat.mod_lt _ (by decide)
  generalize t.val % 5 = j at h5 ⊢
  revert j; decide

/-- The second branch is taken at every other block. -/
theorem br2 (t : Fin cfg0.N) : k0_cond2 (grid0.coords t) = 1#1 ↔ 1 ≤ t.val % 5 := by
  unfold k0_cond2
  rw [pt_block]
  have h5 : t.val % 5 < 5 := Nat.mod_lt _ (by decide)
  generalize t.val % 5 = j at h5 ⊢
  revert j; decide

variable (m : (ℓ : Loc nD τ sig) → Buf (Elt Bits) ℓ) (ρ : Dev nD → PrngReg)

/-- The buffers the body is called on at point `t`. -/
abbrev mr0 (t : Fin cfg0.N) : Memref sig .tc .vmem S1x1664x256 .bf16 := win0_0.stage (cfg0.slots t 0)
abbrev mr1 (t : Fin cfg0.N) : Memref sig .tc .vmem S1x8320x256 .bf16 := win0_1.stage (cfg0.slots t 1)
abbrev mr2 (t : Fin cfg0.N) : Memref sig .tc .vmem S1x8320x128 .bf16 := win0_2.stage (cfg0.slots t 2)
abbrev mr3 (t : Fin cfg0.N) : Memref sig .tc .vmem S1664x128 .bf16 := win0_3.stage (cfg0.slots t 3)
abbrev mr4 (t : Fin cfg0.N) : Memref sig .tc .vmem S1x1664x1 .f32 := win0_4.stage (cfg0.slots t 4)

/-- The pipeline's data on machine words: of what the body leaves in a block nothing is said. -/
def dats (c : Dev nD) : RDat τ (Elt Bits) Unit ℕ (UR sig nD τ) ℕ cfg0 c where
  A w := V m c (Pipeline.arrRef spec0 w)
  after _ _ _ _ := True
  Φ _ := Pipeline.ΦA spec0 c
  q _ := fullShare
  owed _ := 0

/-- The pipeline's invariant, its scratch buffers named. -/
theorem inv_eq (c : Dev nD) :
    (Pipeline.ΦA spec0 c : sProp 𝕄)
      = iprop(iprop((∃ d, owns (c : Thread nD τ) (Memref.whole cc0_scratch0 : Memref sig .tc .vmem S416x1 .f32) fullShare d) ∗ (∃ d, owns (c : Thread nD τ) (Memref.whole cc0_scratch1 : Memref sig .tc .vmem S416x1 .f32) fullShare d) ∗ (∃ d, owns (c : Thread nD τ) (Memref.whole cc0_scratch2 : Memref sig .tc .vmem S416x1 .f32) fullShare d) ∗ (∃ d, owns (c : Thread nD τ) (Memref.whole cc0_scratch3 : Memref sig .tc .vmem S416x1 .f32) fullShare d) ∗ (∃ d, owns (c : Thread nD τ) (Memref.whole cc0_scratch4 : Memref sig .tc .vmem S416x1 .f32) fullShare d) ∗ (∃ d, owns (c : Thread nD τ) (Memref.whole cc0_scratch5 : Memref sig .tc .vmem S416x1 .f32) fullShare d) ∗ (∃ d, owns (c : Thread nD τ) (Memref.whole cc0_scratch6 : Memref sig .tc .vmem S416x1 .f32) fullShare d) ∗ (∃ d, owns (c : Thread nD τ) (Memref.whole cc0_scratch7 : Memref sig .tc .vmem S416x1 .f32) fullShare d) ∗ (∃ d, owns (c : Thread nD τ) (Memref.whole cc0_scratch8 : Memref sig .tc .vmem S416x128 .f32) fullShare d) ∗ (∃ d, owns (c : Thread nD τ) (Memref.whole cc0_scratch9 : Memref sig .tc .vmem S416x128 .f32) fullShare d) ∗ (∃ d, owns (c : Thread nD τ) (Memref.whole cc0_scratch10 : Memref sig .tc .vmem S416x128 .f32) fullShare d) ∗ (∃ d, owns (c : Thread nD τ) (Memref.whole cc0_scratch11 : Memref sig .tc .vmem S416x128 .f32) fullShare d)) ∗ (∃ r, prngReg c r)) := by
  unfold Pipeline.ΦA; rw [scopedRest0_eq]; simp only [owns_whole]; try rfl

/-- What the body starts from at point `t`. -/
def pre (c : Dev nD) (t : Fin cfg0.N) (Y : (w : Fin cfg0.W) → (cfg0.win w).block.Idx → Elt Bits (cfg0.win w).elt) : sProp 𝕄 :=
  iprop((dats m c).Φ t.castSucc ∗ (dats m c).owesAt () t.castSucc
    ∗ owns (c : Thread nD τ) (mr0 t) fullShare (Y 0)
    ∗ owns (c : Thread nD τ) (mr1 t) fullShare (Y 1)
    ∗ owns (c : Thread nD τ) (mr2 t) fullShare (Y 2)
    ∗ owns (c : Thread nD τ) (mr3 t) fullShare (Y 3)
    ∗ owns (c : Thread nD τ) (mr4 t) fullShare (Y 4))

/-- What it must leave. -/
def post (c : Dev nD) (t : Fin cfg0.N) : sProp 𝕄 :=
  iprop((dats m c).Φ t.succ ∗ (dats m c).owesAt () t.succ
    ∗ (∃ X, ⌜True⌝ ∗ owns (c : Thread nD τ) (mr0 t) fullShare X)
    ∗ (∃ X, ⌜True⌝ ∗ owns (c : Thread nD τ) (mr1 t) fullShare X)
    ∗ (∃ X, ⌜True⌝ ∗ owns (c : Thread nD τ) (mr2 t) fullShare X)
    ∗ (∃ X, ⌜True⌝ ∗ owns (c : Thread nD τ) (mr3 t) fullShare X)
    ∗ (∃ X, ⌜True⌝ ∗ owns (c : Thread nD τ) (mr4 t) fullShare X))

set_option maxHeartbeats 1600000 in
/-- The body at a head's first block. -/
theorem pointA (c : Dev nD) (t : Fin cfg0.N) (h : t.val % 5 = 0) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  unfold pre post bodyAt0
  rw [show (dats m c).Φ t.succ = (dats m c).Φ t.castSucc from rfl,
    show (dats m c).owesAt () t.succ = (dats m c).owesAt () t.castSucc from rfl]
  rw [show (dats m c).Φ t.castSucc = Pipeline.ΦA spec0 c from rfl, inv_eq]
  iintro ⟨⟨⟨HS0, HS1, HS2, HS3, HS4, HS5, HS6, HS7, HS8, HS9, HS10, HS11⟩, Hg⟩, Ho, H0, H1, H2, H3, H4⟩
  iapply (bodyA c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) ((br1 t).mpr h) (fun h2 => absurd ((br2 t).mp h2) (by omega)) Set.univ _)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨⟨%d0, H0⟩, ⟨%d1, H1⟩, ⟨%d2, H2⟩, ⟨%d3, H3⟩, ⟨%d4, H4⟩, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  iexists _; isplitr; · ipureintro; trivial
  iexact H4

set_option maxHeartbeats 1600000 in
/-- The body at any later block. -/
theorem pointB (c : Dev nD) (t : Fin cfg0.N) (h : 1 ≤ t.val % 5) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  unfold pre post bodyAt0
  rw [show (dats m c).Φ t.succ = (dats m c).Φ t.castSucc from rfl,
    show (dats m c).owesAt () t.succ = (dats m c).owesAt () t.castSucc from rfl]
  rw [show (dats m c).Φ t.castSucc = Pipeline.ΦA spec0 c from rfl, inv_eq]
  iintro ⟨⟨⟨HS0, HS1, HS2, HS3, HS4, HS5, HS6, HS7, HS8, HS9, HS10, HS11⟩, Hg⟩, Ho, H0, H1, H2, H3, H4⟩
  iapply (bodyB c (grid0.coords t) (mr0 t) (hstage0_0 ((cfg0.slots t 0).cast nbuf0_0)) (mr1 t) (hstage0_1 ((cfg0.slots t 1).cast nbuf0_1)) (mr2 t) (hstage0_2 ((cfg0.slots t 2).cast nbuf0_2)) (mr3 t) (hstage0_3 ((cfg0.slots t 3).cast nbuf0_3)) (mr4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (fun h1 => absurd ((br1 t).mp h1) (by omega)) ((br2 t).mpr h) Set.univ _)
  isplitl [H0]; · iexists _; iexact H0
  isplitl [H1]; · iexists _; iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨⟨%d0, H0⟩, ⟨%d1, H1⟩, ⟨%d2, H2⟩, ⟨%d3, H3⟩, ⟨%d4, H4⟩, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  isplitl [H3]
  · iexists _; isplitr; · ipureintro; trivial
    iexact H3
  iexists _; isplitr; · ipureintro; trivial
  iexact H4

/-- The body at any point. -/
theorem point_any (c : Dev nD) (t : Fin cfg0.N) (Y : (w : Fin cfg0.W) → (cfg0.win w).block.Idx → Elt Bits (cfg0.win w).elt) :
    pre m c t Y ⊢ wp frame (wpE (defs₀ (F := Bits)) Variants.none c none) Set.univ (bodyAt0 t) (fun _ => post m c t) := by
  by_cases h : t.val % 5 = 0
  · exact pointA m c t h Y
  · exact pointB m c t (by omega) Y

/-- The body table's row at point `t` is the body. -/
theorem row_eq (t : Fin cfg0.N) :
    defs₀ (F := Bits) .tc cfg0.body (cfg0.bodyArgs t (cfg0.slots t)) = bodyAt0 t := by
  unfold defs₀; rw [Defs.onTc_tc]

/-- The obligation of the pipeline's body. -/
theorem obligation (c : Dev nD) : (dats m c).BodyObligation (defs₀ (F := Bits)) Variants.none () Set.univ := fun t Y _ => by
  rw [bigSep_W0, bigSep_W0, row_eq]
  exact triple_restated (point_any m c t Y) rfl .rfl fun _ => .rfl

/-- Each array is held whole. -/
theorem share_full (c : Dev nD) (w : Fin cfg0.W) : (dats m c).share w = fullShare := by
  unfold RDat.share; split <;> rfl

/-- The lines after the region write the two results only. -/
theorem sfx_T : ∀ ops ∈ ([hostOps1] : List (List (HloOp τ sig (Elt Bits)))), ∀ op ∈ ops, ∀ b : Ref sig .tc,
    Proc.devRef .tc b ∈ op.writes → b ∈ ({main_v1, main_v2} : Finset (Ref sig .tc)) := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, Finset.mem_singleton] at hb
    have := Proc.devRef_injective _ hb
    subst this
    decide

set_option backward.isDefEq.respectTransparency.types false in
set_option maxHeartbeats 2000000 in
/-- The run on machine words: every execution ends, the arguments as they were and no signal left. -/
theorem run_words : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.RDat.θ_run_frame_around_T cfgs (0 : Fin 1) launch0 defs₀ Variants.none (dats m) {main_v1, main_v2} m ρ main
    (hbody := obligation m) (hshare := share_full m)
    (howed := fun _ _ => rfl) (V₀ := V0 m) (opss := [hostOps1]) (hsub := sfx_sub) (hfresh := sfx_fresh) (hkeep := sfx_keeps) (hT := sfx_T)
    (hmain := hmain m Variants.none) (hA := fun _ _ => rfl) (hΦ := fun _ _ => rfl)
    (Q' := _) (hQ' := fun _ h => ⟨fun c => ⟨(h.1.arr_in c 0 rfl).trans (V_main_arg0 m c), (h.1.arr_in c 1 rfl).trans (V_main_arg1 m c),
      (h.1.arr_in c 2 rfl).trans (V_main_arg2 m c)⟩, h.2⟩)

end Cert.Kernel2.Hand
end
-- ==== Proof.Mat.lean ====
module
public import Idealize.ShloMosaic.Lib.Pipeline.ValueKit
@[expose] public section
noncomputable section
namespace Cert.Mat
open scoped BigOperators
open Idealize.ShloMosaic

/-- Two indices of a matrix with the same coordinates are the same. -/
theorem ext2 {n0 n1 : ℕ} {y z : (⟨2, ![n0, n1]⟩ : Shape).Idx} (h0 : (y 0).val = (z 0).val) (h1 : (y 1).val = (z 1).val) : y = z := by
  funext a
  match a with
  | ⟨0, _⟩ => exact Fin.ext h0
  | ⟨1, _⟩ => exact Fin.ext h1

/-- No offset on either axis. -/
theorem hz : (![0, 0] : Fin 2 → Nat) = fun _ => 0 := funext fun a => by fin_cases a <;> rfl

/-- A sum over `n` blocks of `b` terms. -/
theorem sum_blocks (n b : ℕ) (f : Fin (n * b) → EReal) :
    ∑ k, f k = ∑ s ∈ Finset.range n, ∑ k : Fin b, if h : b * s + k.val < n * b then f ⟨b * s + k.val, h⟩ else 0 := by
  rw [← finProdFinEquiv.sum_comp, Fintype.sum_prod_type, Finset.sum_range]
  refine Finset.sum_congr rfl fun s _ => Finset.sum_congr rfl fun k _ => ?_
  have h : b * s.val + k.val < n * b := by
    have h1 := k.isLt
    have h2 : b * (s.val + 1) ≤ b * n := Nat.mul_le_mul_left _ s.isLt
    rw [Nat.mul_comm n b]
    rw [Nat.mul_add, Nat.mul_one] at h2
    omega
  rw [dif_pos h]
  exact congrArg f (Fin.ext (by simp [finProdFinEquiv, Nat.add_comm]))

/-- A matrix of extended reals. -/
abbrev Mx (n k : ℕ) := (⟨2, ![n, k]⟩ : Shape).Idx → EReal

/-- The product of the rows of `a` and the rows of `b`. -/
def rows {n k p : ℕ} (a : Mx n k) (b : Mx p k) : Mx n p := fun i => ∑ x : Fin k, a (ix2 (i 0) x) * b (ix2 (i 1) x)
/-- The product of two matrices. -/
def prod {n k p : ℕ} (a : Mx n k) (b : Mx k p) : Mx n p := fun i => ∑ x : Fin k, a (ix2 (i 0) x) * b (ix2 x (i 1))
/-- The product of the columns of `a` and the columns of `b`. -/
def cols {n k p : ℕ} (a : Mx k n) (b : Mx k p) : Mx n p := fun i => ∑ x : Fin k, a (ix2 x (i 0)) * b (ix2 x (i 1))
/-- The part of it that the slab `s` of 1664 rows gives. -/
def slab {n p : ℕ} (a : Mx 8320 n) (b : Mx 8320 p) (s : ℕ) (i : (⟨2, ![n, p]⟩ : Shape).Idx) : EReal :=
  ∑ x : Fin 1664, if h : 1664 * s + x.val < 8320 then a (ix2 ⟨1664 * s + x.val, h⟩ (i 0)) * b (ix2 ⟨1664 * s + x.val, h⟩ (i 1)) else 0
/-- Five slabs are the whole. -/
theorem slabs {n p : ℕ} (a : Mx 8320 n) (b : Mx 8320 p) (i : (⟨2, ![n, p]⟩ : Shape).Idx) :
    ∑ s ∈ Finset.range (4 + 1), slab a b s i = cols a b i :=
  (sum_blocks 5 1664 fun x : Fin 8320 => a (ix2 x (i 0)) * b (ix2 x (i 1))).symm

end Cert.Mat
-- ==== Proof.MmDw.lean ====
module
public import proofs.«01_k».proof.Proof.Gen.Kernel5Ideal.Value
public import proofs.«01_k».proof.Proof.Gen.Reference5Ideal.Run
public import proofs.«01_k».proof.Proof.Gen.Kernel5.Frame
public import proofs.«01_k».proof.Defs
public import proofs.«01_k».proof.Proof.Mat
@[expose] public section
set_option maxRecDepth 16384
noncomputable section
namespace Cert.Kernel5Ideal.Hand
open Idealize.ShloMosaic Idealize.ShloMosaic.TcCoe Idealize.ShloMosaic.Tactic Cert.Kernel5Ideal Cert.Kernel5Ideal.Gen Cert.Mat
open scoped BigOperators

variable (m : (ℓ : Loc nD τ sig) → Buf (Elt Ideal) ℓ) (c : Dev nD)

/-- What the point `n` adds to its block: a slab of the product. -/
def part (a : Mx 8320 1024) (b : Mx 8320 5632) (n : ℕ) (y : S1024x1408.Idx) : EReal :=
  if h : 1408 * (n / 5) + (y 1).val < 5632 then slab a b (n % 5) (ix2 (y 0) ⟨1408 * (n / 5) + (y 1).val, h⟩) else 0

/-- The product of two blocks' columns. -/
def dotc (x : Vec Ideal S1664x1024 .bf16) (w : Vec Ideal S1664x1408 .bf16) (y : S1024x1408.Idx) : EReal := ∑ k : Fin 1664, x (ix2 k (y 0)) * w (ix2 k (y 1))

/-- A point adds the product of its blocks' columns. -/
theorem pay2_at (z : Vec Ideal S1024x1408 .f32) (x : Vec Ideal S1664x1024 .bf16) (w : Vec Ideal S1664x1408 .bf16) (y : S1024x1408.Idx) :
    k0_pay2 z x w y = z y + dotc x w y := by
  unfold k0_pay2 dotc
  rw [shapeCast_self]
  pointwise

/-- A fresh block is zero. -/
theorem pay1_at (y : S1024x1408.Idx) : (k0_pay1 (F := Ideal)) y = 0 := by
  unfold k0_pay1
  pointwise

/-- Which block of its array window 0 is on. -/
theorem at_0 (t : Fin cfg0.N) : win0_0.index t = ![t.val % 5, 0] :=
  (by decide +kernel : ∀ t : Fin grid0.N, win0_0.index t = ![t.val % 5, 0]) t
/-- Which block of its array window 1 is on. -/
theorem at_1 (t : Fin cfg0.N) : win0_1.index t = ![t.val % 5, t.val / 5] :=
  (by decide +kernel : ∀ t : Fin grid0.N, win0_1.index t = ![t.val % 5, t.val / 5]) t

/-- A point's blocks give its part. -/
theorem blk_part (t : Fin cfg0.N) (y : S1024x1408.Idx) :
    dotc (iblk m c 0 t) (iblk m c 1 t) y = part (m ((c : Thread nD τ).loc main_arg0)) (m ((c : Thread nD τ).loc main_arg1)) t.val y := by
  have ht : t.val < 20 := t.isLt
  have hy : (y 1).val < 1408 := (y 1).isLt
  unfold part dotc slab
  rw [dif_pos (by omega)]
  refine Finset.sum_congr rfl fun k _ => ?_
  have hk := k.isLt
  rw [dif_pos (by omega)]
  congr 1
  · refine congrArg (m ((c : Thread nD τ).loc main_arg0)) (ext2 ?_ ?_) <;> blk_simp [iblk, at_0] <;> (try dsimp only) <;> omega
  · refine congrArg (m ((c : Thread nD τ).loc main_arg1)) (ext2 ?_ ?_) <;> blk_simp [iblk, at_1] <;> (try dsimp only) <;> omega

/-- The array after the run. -/
theorem final : Value.G2 m c = cols (m ((c : Thread nD τ).loc main_arg0)) (m ((c : Thread nD τ).loc main_arg1)) := by
  funext i
  have h0 : (i 0).val < 1024 := (i 0).isLt
  have h1 : (i 1).val < 5632 := (i 1).isLt
  unfold Value.G2
  have hr : Value.run2Of i = (i 1).val / 1408 := by unfold Value.run2Of; omega
  have hN : cfg0.N = 20 := N_0
  rw [dif_pos (by rw [hr, hN]; omega)]
  rw [Pipeline.accAt_add_apply (Value.reset2 m c) (Value.step2 m c) (fun _ => (0 : EReal))
    (part (m ((c : Thread nD τ).loc main_arg0)) (m ((c : Thread nD τ).loc main_arg1))) (5 * Value.run2Of i) 4
    (fun h => by
      intros
      unfold Value.reset2
      rw [pay2_at, pay1_at, blk_part])
    (fun n h _ _ => by
      intros
      unfold Value.step2
      rw [pay2_at, blk_part]) 4 le_rfl]
  refine (zero_add (M := EReal) _).trans (Eq.trans ?_ (slabs _ _ i))
  refine Finset.sum_congr rfl fun s hs => ?_
  have hs5 : s < 5 := Finset.mem_range.mp hs
  have e : ∀ a : Fin 2, ((Value.loc2Of i) a).val = (i a).val % (![1024, 1408] a) := by
    intro a; match a with | 0 => rfl | 1 => rfl
  have e0 : ((Value.loc2Of i) 0).val = (i 0).val % 1024 := e 0
  have e1 : ((Value.loc2Of i) 1).val = (i 1).val % 1408 := e 1
  unfold part
  rw [dif_pos (by omega), show (5 * Value.run2Of i + s) % 5 = s by omega]
  refine congrArg (slab _ _ s) (ext2 ?_ ?_)
  · show ((Value.loc2Of i) 0).val = (i 0).val; omega
  · show 1408 * ((5 * Value.run2Of i + s) / 5) + ((Value.loc2Of i) 1).val = (i 1).val; omega

end Cert.Kernel5Ideal.Hand

namespace Cert.Reference5Ideal.Hand
open Idealize.ShloMosaic Idealize.ShloMosaic.TcCoe Idealize.ShloMosaic.Tactic Cert.Reference5Ideal Cert.Reference5Ideal.Gen Cert.Mat

/-- The reference's product, transposed. -/
theorem ref_eq (a : FVec Ideal S8320x1024 .bf16) (b : FVec Ideal S8320x5632 .bf16) :
    transpose S1024x5632 [1, 0] (Host.dotGeneral dot_S8320x5632_S8320x1024_S5632x1024_0_0_1_1_n_n none (extf .f32 b bitsLt_bf16_f32)
      (extf .f32 a bitsLt_bf16_f32)) transposes_S5632x1024_S1024x5632_1_0 = cols a b := by
  funext i
  unfold cols
  pointwise
  exact Finset.sum_congr rfl fun k _ => mul_comm _ _

end Cert.Reference5Ideal.Hand

namespace Cert.Proof
open Idealize.ShloMosaic Idealize.ShloMosaic.TcCoe Idealize.SL.Sem

/-- The printed kernel runs, its arguments unchanged and its counters at zero. -/
theorem frame_p5 : Cert.quiescent_Kernel5 := fun m g _ => Cert.Kernel5.Gen.frame m g
/-- So does the idealized one. -/
theorem frame_pi5 : Cert.quiescent_Kernel5Ideal := fun m g _ => Cert.Kernel5Ideal.Gen.frame m g
/-- So does the reference. -/
theorem frame_ri5 : Cert.quiescent_Reference5Ideal := fun m g _ =>
  (θ_run Cert.Reference5Ideal.defs _ _).mono (fun r h => ⟨fun c => (h c).2, sem_eq_zero_of_no_sems (by decide) r.2⟩) (Cert.Reference5Ideal.Value.run m g)
/-- No constant is named in the idealized kernel. -/
theorem named5 : Cert.preserves_Kernel5_Kernel5Ideal := trivial
/-- The idealized kernel's product is the reference's. -/
theorem same5 : Cert.algebraic_Kernel5Ideal_Reference5Ideal := by
  intro m g m' g' _ hargs
  refine ⟨fun c => Cert.Mat.cols (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Kernel5Ideal.Hand.final m c), (h c).2⟩) (Cert.Kernel5Ideal.Value.run m g)
  · refine (θ_run Cert.Reference5Ideal.defs _ _).mono (fun r h c => ?_) (Cert.Reference5Ideal.Value.run m' g')
    obtain ⟨e0, e1⟩ := hargs c
    refine ⟨(h c).1.trans ((Cert.Reference5Ideal.Hand.ref_eq _ _).trans ?_), (h c).2⟩
    rw [e0, e1]

end Cert.Proof
-- ==== Proof.MmZf.lean ====
module
public import proofs.«01_k».proof.Proof.Gen.Kernel6Ideal.Value
public import proofs.«01_k».proof.Proof.Gen.Reference6Ideal.Run
public import proofs.«01_k».proof.Proof.Gen.Kernel6.Frame
public import proofs.«01_k».proof.Defs
public import proofs.«01_k».proof.Proof.Mat
@[expose] public section
set_option maxRecDepth 16384
noncomputable section
namespace Cert.Kernel6Ideal.Hand
open Idealize.ShloMosaic Idealize.ShloMosaic.TcCoe Idealize.ShloMosaic.Tactic Cert.Kernel6Ideal Cert.Kernel6Ideal.Gen Cert.Mat
open scoped BigOperators

variable (m : (ℓ : Loc nD τ sig) → Buf (Elt Ideal) ℓ) (c : Dev nD)

/-- The block of a point, read back. -/
theorem out_at (x : Vec Ideal S1040x5632 .bf16) (w : Vec Ideal S512x5632 .bf16) (y : S1040x512.Idx) :
    out0_2 x w y = ∑ k : Fin 5632, x (ix2 (y 0) k) * w (ix2 (y 1) k) := by
  unfold out0_2 k0_pay1
  rw [View.canon_unit_zero hz, View.ld_unit_zero (S := S1040x5632) hz, View.ld_unit_zero (S := S512x5632) hz]
  pointwise

/-- Which block of its array window 0 is on. -/
theorem at_0 (t : Fin cfg0.N) : win0_0.index t = ![t.val / 2, 0] :=
  (by decide +kernel : ∀ t : Fin grid0.N, win0_0.index t = ![t.val / 2, 0]) t
/-- Which block of its array window 1 is on. -/
theorem at_1 (t : Fin cfg0.N) : win0_1.index t = ![t.val % 2, 0] :=
  (by decide +kernel : ∀ t : Fin grid0.N, win0_1.index t = ![t.val % 2, 0]) t
/-- Which block of its array window 2 is on. -/
theorem at_2 (t : Fin cfg0.N) : win0_2.index t = ![t.val / 2, t.val % 2] :=
  (by decide +kernel : ∀ t : Fin grid0.N, win0_2.index t = ![t.val / 2, t.val % 2]) t

/-- The array after the run. -/
theorem final (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  unfold rows
  refine Finset.sum_congr rfl fun k _ => ?_
  congr 1
  · refine congrArg (m ((c : Thread nD τ).loc main_arg0)) (ext2 ?_ ?_) <;> idx_bounds y <;> blk_simp [iblk, at_0, at_2] <;> omega
  · refine congrArg (m ((c : Thread nD τ).loc main_arg1)) (ext2 ?_ ?_) <;> idx_bounds y <;> blk_simp [iblk, at_1, at_2] <;> omega

end Cert.Kernel6Ideal.Hand

namespace Cert.Reference6Ideal.Hand
open Idealize.ShloMosaic Idealize.ShloMosaic.TcCoe Idealize.ShloMosaic.Tactic Cert.Reference6Ideal Cert.Reference6Ideal.Gen Cert.Mat

/-- The reference's product. -/
theorem ref_eq (a : FVec Ideal S8320x5632 .bf16) (b : FVec Ideal S1024x5632 .bf16) :
    Host.dotGeneral dot_S8320x5632_S1024x5632_S8320x1024_1_1_0_0_n_n none (extf .f32 a bitsLt_bf16_f32) (extf .f32 b bitsLt_bf16_f32) = rows a b := by
  funext i
  unfold rows
  pointwise

end Cert.Reference6Ideal.Hand

namespace Cert.Proof
open Idealize.ShloMosaic Idealize.ShloMosaic.TcCoe Idealize.SL.Sem

/-- The printed kernel runs, its arguments unchanged and its counters at zero. -/
theorem frame_p6 : Cert.quiescent_Kernel6 := fun m g _ => Cert.Kernel6.Gen.frame m g
/-- So does the idealized one. -/
theorem frame_pi6 : Cert.quiescent_Kernel6Ideal := fun m g _ => Cert.Kernel6Ideal.Gen.frame m g
/-- So does the reference. -/
theorem frame_ri6 : Cert.quiescent_Reference6Ideal := fun m g _ =>
  (θ_run Cert.Reference6Ideal.defs _ _).mono (fun r h => ⟨fun c => (h c).2, sem_eq_zero_of_no_sems (by decide) r.2⟩) (Cert.Reference6Ideal.Value.run m g)
/-- No constant is named in the idealized kernel. -/
theorem named6 : Cert.preserves_Kernel6_Kernel6Ideal := trivial
/-- The idealized kernel's product is the reference's. -/
theorem same6 : Cert.algebraic_Kernel6Ideal_Reference6Ideal := by
  intro m g m' g' _ hargs
  refine ⟨fun c => Cert.Mat.rows (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · exact (θ_run Cert.Kernel6Ideal.defs _ _).mono (fun r h c => ⟨(h c).1.trans (Cert.Kernel6Ideal.Hand.final m c), (h c).2⟩) (Cert.Kernel6Ideal.Value.run_blocks m g)
  · refine (θ_run Cert.Reference6Ideal.defs _ _).mono (fun r h c => ?_) (Cert.Reference6Ideal.Value.run m' g')
    obtain ⟨e0, e1⟩ := hargs c
    refine ⟨(h c).1.trans ((Cert.Reference6Ideal.Hand.ref_eq _ _).trans ?_), (h c).2⟩
    rw [e0, e1]

end Cert.Proof
-- ==== Proof.MmAct.lean ====
module
public import proofs.«01_k».proof.Proof.Gen.Kernel7Ideal.Value
public import proofs.«01_k».proof.Proof.Gen.Reference7Ideal.Run
public import proofs.«01_k».proof.Proof.Gen.Kernel7.Frame
public import proofs.«01_k».proof.Defs
public import proofs.«01_k».proof.Proof.Mat
@[expose] public section
set_option maxRecDepth 16384
noncomputable section
namespace Cert.Kernel7Ideal.Hand
open Idealize.ShloMosaic Idealize.ShloMosaic.TcCoe Idealize.ShloMosaic.Tactic Cert.Kernel7Ideal Cert.Kernel7Ideal.Gen Cert.Mat
open scoped BigOperators

variable (m : (ℓ : Loc nD τ sig) → Buf (Elt Ideal) ℓ) (c : Dev nD)

/-- The block of a point, read back. -/
theorem out_at (x : Vec Ideal S1664x1024 .bf16) (w : Vec Ideal S1408x1024 .bf16) (y : S1664x1408.Idx) :
    out0_2 x w y = ∑ k : Fin 1024, x (ix2 (y 0) k) * w (ix2 (y 1) k) := by
  unfold out0_2 k0_pay1
  rw [View.canon_unit_zero hz, View.ld_unit_zero (S := S1664x1024) hz, View.ld_unit_zero (S := S1408x1024) hz]
  pointwise

/-- Which block of its array window 0 is on. -/
theorem at_0 (t : Fin cfg0.N) : win0_0.index t = ![t.val % 5, 0] :=
  (by decide +kernel : ∀ t : Fin grid0.N, win0_0.index t = ![t.val % 5, 0]) t
/-- Which block of its array window 1 is on. -/
theorem at_1 (t : Fin cfg0.N) : win0_1.index t = ![t.val / 5, 0] :=
  (by decide +kernel : ∀ t : Fin grid0.N, win0_1.index t = ![t.val / 5, 0]) t
/-- Which block of its array window 2 is on. -/
theorem at_2 (t : Fin cfg0.N) : win0_2.index t = ![t.val % 5, t.val / 5] :=
  (by decide +kernel : ∀ t : Fin grid0.N, win0_2.index t = ![t.val % 5, t.val / 5]) t

/-- The array after the run. -/
theorem final (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  unfold rows
  refine Finset.sum_congr rfl fun k _ => ?_
  congr 1
  · refine congrArg (m ((c : Thread nD τ).loc main_arg0)) (ext2 ?_ ?_) <;> idx_bounds y <;> blk_simp [iblk, at_0, at_2] <;> omega
  · refine congrArg (m ((c : Thread nD τ).loc main_arg1)) (ext2 ?_ ?_) <;> idx_bounds y <;> blk_simp [iblk, at_1, at_2] <;> omega

end Cert.Kernel7Ideal.Hand

namespace Cert.Reference7Ideal.Hand
open Idealize.ShloMosaic Idealize.ShloMosaic.TcCoe Idealize.ShloMosaic.Tactic Cert.Reference7Ideal Cert.Reference7Ideal.Gen Cert.Mat

/-- The reference's product. -/
theorem ref_eq (a : FVec Ideal S8320x1024 .bf16) (b : FVec Ideal S2816x1024 .bf16) :
    truncf .bf16 (Host.dotGeneral dot_S8320x1024_S2816x1024_S8320x2816_1_1_0_0_n_n none (extf .f32 a bitsLt_bf16_f32) (extf .f32 b bitsLt_bf16_f32)) bitsLt_bf16_f32 = rows a b := by
  funext i
  unfold rows
  pointwise

end Cert.Reference7Ideal.Hand

namespace Cert.Proof
open Idealize.ShloMosaic Idealize.ShloMosaic.TcCoe Idealize.SL.Sem

/-- The printed kernel runs, its arguments unchanged and its counters at zero. -/
theorem frame_p7 : Cert.quiescent_Kernel7 := fun m g _ => Cert.Kernel7.Gen.frame m g
/-- So does the idealized one. -/
theorem frame_pi7 : Cert.quiescent_Kernel7Ideal := fun m g _ => Cert.Kernel7Ideal.Gen.frame m g
/-- So does the reference. -/
theorem frame_ri7 : Cert.quiescent_Reference7Ideal := fun m g _ =>
  (θ_run Cert.Reference7Ideal.defs _ _).mono (fun r h => ⟨fun c => (h c).2, sem_eq_zero_of_no_sems (by decide) r.2⟩) (Cert.Reference7Ideal.Value.run m g)
/-- No constant is named in the idealized kernel. -/
theorem named7 : Cert.preserves_Kernel7_Kernel7Ideal := trivial
/-- The idealized kernel's product is the reference's. -/
theorem same7 : Cert.algebraic_Kernel7Ideal_Reference7Ideal := by
  intro m g m' g' _ hargs
  refine ⟨fun c => Cert.Mat.rows (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Kernel7Ideal.Hand.final m c), (h c).2⟩) (Cert.Kernel7Ideal.Value.run_blocks m g)
  · refine (θ_run Cert.Reference7Ideal.defs _ _).mono (fun r h c => ?_) (Cert.Reference7Ideal.Value.run m' g')
    obtain ⟨e0, e1⟩ := hargs c
    refine ⟨(h c).1.trans ((Cert.Reference7Ideal.Hand.ref_eq _ _).trans ?_), (h c).2⟩
    rw [e0, e1]

end Cert.Proof
-- ==== Proof.MmDwo.lean ====
module
public import proofs.«01_k».proof.Proof.Gen.Kernel8Ideal.Value
public import proofs.«01_k».proof.Proof.Gen.Reference8Ideal.Run
public import proofs.«01_k».proof.Proof.Gen.Kernel8.Frame
public import proofs.«01_k».proof.Defs
public import proofs.«01_k».proof.Proof.Mat
@[expose] public section
set_option maxRecDepth 16384
noncomputable section
namespace Cert.Kernel8Ideal.Hand
open Idealize.ShloMosaic Idealize.ShloMosaic.TcCoe Idealize.ShloMosaic.Tactic Cert.Kernel8Ideal Cert.Kernel8Ideal.Gen Cert.Mat
open scoped BigOperators

variable (m : (ℓ : Loc nD τ sig) → Buf (Elt Ideal) ℓ) (c : Dev nD)

/-- What the point `n` adds to its block: a slab of the product. -/
def part (a : Mx 8320 2816) (b : Mx 8320 1024) (n : ℕ) (y : S1408x1024.Idx) : EReal :=
  if h : 1408 * (n / 5) + (y 0).val < 2816 then slab a b (n % 5) (ix2 ⟨1408 * (n / 5) + (y 0).val, h⟩ (y 1)) else 0

/-- The product of two blocks' columns. -/
def dotc (x : Vec Ideal S1664x1408 .bf16) (w : Vec Ideal S1664x1024 .bf16) (y : S1408x1024.Idx) : EReal := ∑ k : Fin 1664, x (ix2 k (y 0)) * w (ix2 k (y 1))

/-- A point adds the product of its blocks' columns. -/
theorem pay2_at (z : Vec Ideal S1408x1024 .f32) (x : Vec Ideal S1664x1408 .bf16) (w : Vec Ideal S1664x1024 .bf16) (y : S1408x1024.Idx) :
    k0_pay2 z x w y = z y + dotc x w y := by
  unfold k0_pay2 dotc
  rw [shapeCast_self]
  pointwise

/-- A fresh block is zero. -/
theorem pay1_at (y : S1408x1024.Idx) : (k0_pay1 (F := Ideal)) y = 0 := by
  unfold k0_pay1
  pointwise

/-- Which block of its array window 0 is on. -/
theorem at_0 (t : Fin cfg0.N) : win0_0.index t = ![t.val % 5, t.val / 5] :=
  (by decide +kernel : ∀ t : Fin grid0.N, win0_0.index t = ![t.val % 5, t.val / 5]) t
/-- Which block of its array window 1 is on. -/
theorem at_1 (t : Fin cfg0.N) : win0_1.index t = ![t.val % 5, 0] :=
  (by decide +kernel : ∀ t : Fin grid0.N, win0_1.index t = ![t.val % 5, 0]) t

/-- A point's blocks give its part. -/
theorem blk_part (t : Fin cfg0.N) (y : S1408x1024.Idx) :
    dotc (iblk m c 0 t) (iblk m c 1 t) y = part (m ((c : Thread nD τ).loc main_arg0)) (m ((c : Thread nD τ).loc main_arg1)) t.val y := by
  have ht : t.val < 10 := t.isLt
  have hy : (y 0).val < 1408 := (y 0).isLt
  unfold part dotc slab
  rw [dif_pos (by omega)]
  refine Finset.sum_congr rfl fun k _ => ?_
  have hk := k.isLt
  rw [dif_pos (by omega)]
  congr 1
  · refine congrArg (m ((c : Thread nD τ).loc main_arg0)) (ext2 ?_ ?_) <;> blk_simp [iblk, at_0] <;> (try dsimp only) <;> omega
  · refine congrArg (m ((c : Thread nD τ).loc main_arg1)) (ext2 ?_ ?_) <;> blk_simp [iblk, at_1] <;> (try dsimp only) <;> omega

/-- The array after the run. -/
theorem final : Value.G2 m c = cols (m ((c : Thread nD τ).loc main_arg0)) (m ((c : Thread nD τ).loc main_arg1)) := by
  funext i
  have h0 : (i 0).val < 2816 := (i 0).isLt
  have h1 : (i 1).val < 1024 := (i 1).isLt
  unfold Value.G2
  have hr : Value.run2Of i = (i 0).val / 1408 := by unfold Value.run2Of; omega
  have hN : cfg0.N = 10 := N_0
  rw [dif_pos (by rw [hr, hN]; omega)]
  rw [Pipeline.accAt_add_apply (Value.reset2 m c) (Value.step2 m c) (fun _ => (0 : EReal))
    (part (m ((c : Thread nD τ).loc main_arg0)) (m ((c : Thread nD τ).loc main_arg1))) (5 * Value.run2Of i) 4
    (fun h => by
      intros
      unfold Value.reset2
      rw [pay2_at, pay1_at, blk_part])
    (fun n h _ _ => by
      intros
      unfold Value.step2
      rw [pay2_at, blk_part]) 4 le_rfl]
  refine (zero_add (M := EReal) _).trans (Eq.trans ?_ (slabs _ _ i))
  refine Finset.sum_congr rfl fun s hs => ?_
  have hs5 : s < 5 := Finset.mem_range.mp hs
  have e : ∀ a : Fin 2, ((Value.loc2Of i) a).val = (i a).val % (![1408, 1024] a) := by
    intro a; match a with | 0 => rfl | 1 => rfl
  have e0 : ((Value.loc2Of i) 0).val = (i 0).val % 1408 := e 0
  have e1 : ((Value.loc2Of i) 1).val = (i 1).val % 1024 := e 1
  unfold part
  rw [dif_pos (by omega), show (5 * Value.run2Of i + s) % 5 = s by omega]
  refine congrArg (slab _ _ s) (ext2 ?_ ?_)
  · show 1408 * ((5 * Value.run2Of i + s) / 5) + ((Value.loc2Of i) 0).val = (i 0).val; omega
  · show ((Value.loc2Of i) 1).val = (i 1).val; omega

end Cert.Kernel8Ideal.Hand

namespace Cert.Reference8Ideal.Hand
open Idealize.ShloMosaic Idealize.ShloMosaic.TcCoe Idealize.ShloMosaic.Tactic Cert.Reference8Ideal Cert.Reference8Ideal.Gen Cert.Mat

/-- The reference's product, transposed. -/
theorem ref_eq (a : FVec Ideal S8320x2816 .bf16) (b : FVec Ideal S8320x1024 .bf16) :
    transpose S2816x1024 [1, 0] (Host.dotGeneral dot_S8320x1024_S8320x2816_S1024x2816_0_0_1_1_n_n none (extf .f32 b bitsLt_bf16_f32)
      (extf .f32 a bitsLt_bf16_f32)) transposes_S1024x2816_S2816x1024_1_0 = cols a b := by
  funext i
  unfold cols
  pointwise
  exact Finset.sum_congr rfl fun k _ => mul_comm _ _

end Cert.Reference8Ideal.Hand

namespace Cert.Proof
open Idealize.ShloMosaic Idealize.ShloMosaic.TcCoe Idealize.SL.Sem

/-- The printed kernel runs, its arguments unchanged and its counters at zero. -/
theorem frame_p8 : Cert.quiescent_Kernel8 := fun m g _ => Cert.Kernel8.Gen.frame m g
/-- So does the idealized one. -/
theorem frame_pi8 : Cert.quiescent_Kernel8Ideal := fun m g _ => Cert.Kernel8Ideal.Gen.frame m g
/-- So does the reference. -/
theorem frame_ri8 : Cert.quiescent_Reference8Ideal := fun m g _ =>
  (θ_run Cert.Reference8Ideal.defs _ _).mono (fun r h => ⟨fun c => (h c).2, sem_eq_zero_of_no_sems (by decide) r.2⟩) (Cert.Reference8Ideal.Value.run m g)
/-- No constant is named in the idealized kernel. -/
theorem named8 : Cert.preserves_Kernel8_Kernel8Ideal := trivial
/-- The idealized kernel's product is the reference's. -/
theorem same8 : Cert.algebraic_Kernel8Ideal_Reference8Ideal := by
  intro m g m' g' _ hargs
  refine ⟨fun c => Cert.Mat.cols (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Hand.final m c), (h c).2⟩) (Cert.Kernel8Ideal.Value.run m g)
  · refine (θ_run Cert.Reference8Ideal.defs _ _).mono (fun r h c => ?_) (Cert.Reference8Ideal.Value.run m' g')
    obtain ⟨e0, e1⟩ := hargs c
    refine ⟨(h c).1.trans ((Cert.Reference8Ideal.Hand.ref_eq _ _).trans ?_), (h c).2⟩
    rw [e0, e1]

end Cert.Proof
-- ==== Proof.MmFfn.lean ====
module
public import proofs.«01_k».proof.Proof.Gen.Kernel9Ideal.Value
public import proofs.«01_k».proof.Proof.Gen.Reference9Ideal.Run
public import proofs.«01_k».proof.Proof.Gen.Kernel9.Frame
public import proofs.«01_k».proof.Defs
public import proofs.«01_k».proof.Proof.Mat
@[expose] public section
set_option maxRecDepth 16384
noncomputable section
namespace Cert.Kernel9Ideal.Hand
open Idealize.ShloMosaic Idealize.ShloMosaic.TcCoe Idealize.ShloMosaic.Tactic Cert.Kernel9Ideal Cert.Kernel9Ideal.Gen Cert.Mat
open scoped BigOperators

variable (m : (ℓ : Loc nD τ sig) → Buf (Elt Ideal) ℓ) (c : Dev nD)

/-- The block of a point, read back. -/
theorem out_at (x : Vec Ideal S1664x1024 .bf16) (w : Vec Ideal S1024x1408 .bf16) (y : S1664x1408.Idx) :
    out0_2 x w y = ∑ k : Fin 1024, x (ix2 (y 0) k) * w (ix2 k (y 1)) := by
  unfold out0_2 k0_pay1
  rw [View.canon_unit_zero hz, View.ld_unit_zero (S := S1664x1024) hz, View.ld_unit_zero (S := S1024x1408) hz]
  pointwise

/-- Which block of its array window 0 is on. -/
theorem at_0 (t : Fin cfg0.N) : win0_0.index t = ![t.val / 4, 0] :=
  (by decide +kernel : ∀ t : Fin grid0.N, win0_0.index t = ![t.val / 4, 0]) t
/-- Which block of its array window 1 is on. -/
theorem at_1 (t : Fin cfg0.N) : win0_1.index t = ![0, t.val % 4] :=
  (by decide +kernel : ∀ t : Fin grid0.N, win0_1.index t = ![0, t.val % 4]) t
/-- Which block of its array window 2 is on. -/
theorem at_2 (t : Fin cfg0.N) : win0_2.index t = ![t.val / 4, t.val % 4] :=
  (by decide +kernel : ∀ t : Fin grid0.N, win0_2.index t = ![t.val / 4, t.val % 4]) t

/-- The array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  unfold prod
  refine Finset.sum_congr rfl fun k _ => ?_
  congr 1
  · refine congrArg (m ((c : Thread nD τ).loc main_arg0)) (ext2 ?_ ?_) <;> idx_bounds y <;> blk_simp [iblk, at_0, at_2] <;> omega
  · refine congrArg (m ((c : Thread nD τ).loc main_arg1)) (ext2 ?_ ?_) <;> idx_bounds y <;> blk_simp [iblk, at_1, at_2] <;> omega

end Cert.Kernel9Ideal.Hand

namespace Cert.Reference9Ideal.Hand
open Idealize.ShloMosaic Idealize.ShloMosaic.TcCoe Idealize.ShloMosaic.Tactic Cert.Reference9Ideal Cert.Reference9Ideal.Gen Cert.Mat

/-- The reference's product. -/
theorem ref_eq (a : FVec Ideal S8320x1024 .bf16) (b : FVec Ideal S1024x5632 .bf16) :
    truncf .bf16 (Host.dotGeneral dot_S8320x1024_S1024x5632_S8320x5632_1_0_0_1_n_n none (extf .f32 a bitsLt_bf16_f32) (extf .f32 b bitsLt_bf16_f32)) bitsLt_bf16_f32 = prod a b := by
  funext i
  unfold prod
  pointwise

end Cert.Reference9Ideal.Hand

namespace Cert.Proof
open Idealize.ShloMosaic Idealize.ShloMosaic.TcCoe Idealize.SL.Sem

/-- The printed kernel runs, its arguments unchanged and its counters at zero. -/
theorem frame_p9 : Cert.quiescent_Kernel9 := fun m g _ => Cert.Kernel9.Gen.frame m g
/-- So does the idealized one. -/
theorem frame_pi9 : Cert.quiescent_Kernel9Ideal := fun m g _ => Cert.Kernel9Ideal.Gen.frame m g
/-- So does the reference. -/
theorem frame_ri9 : Cert.quiescent_Reference9Ideal := fun m g _ =>
  (θ_run Cert.Reference9Ideal.defs _ _).mono (fun r h => ⟨fun c => (h c).2, sem_eq_zero_of_no_sems (by decide) r.2⟩) (Cert.Reference9Ideal.Value.run m g)
/-- No constant is named in the idealized kernel. -/
theorem named9 : Cert.preserves_Kernel9_Kernel9Ideal := trivial
/-- The idealized kernel's product is the reference's. -/
theorem same9 : Cert.algebraic_Kernel9Ideal_Reference9Ideal := by
  intro m g m' g' _ hargs
  refine ⟨fun c => Cert.Mat.prod (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.Kernel9Ideal.Hand.final m c), (h c).2⟩) (Cert.Kernel9Ideal.Value.run_blocks m g)
  · refine (θ_run Cert.Reference9Ideal.defs _ _).mono (fun r h c => ?_) (Cert.Reference9Ideal.Value.run m' g')
    obtain ⟨e0, e1⟩ := hargs c
    refine ⟨(h c).1.trans ((Cert.Reference9Ideal.Hand.ref_eq _ _).trans ?_), (h c).2⟩
    rw [e0, e1]

end Cert.Proof
-- ==== Proof.Swiglu.lean ====
module
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Pre_finite4
public import proofs.«01_k».proof.Proof.Meet
public import proofs.«01_k».proof.Proof.Mat
public import proofs.«01_k».proof.Defs
@[expose] public section
set_option maxRecDepth 16384
noncomputable section
namespace Cert.Swiglu
open Cert.Mat
open Idealize.ShloMosaic Idealize.ShloMosaic.Tactic Idealize.ShloMosaic.TcCoe

/-- The logistic function. -/
def sg (g : EReal) : EReal := Ideal.div 1 (1 + Ideal.exp (-g))
/-- It is real at a real number. -/
theorem sg_real (r : ℝ) : ∃ s : ℝ, sg r = s := by
  refine ⟨1 / (1 + Real.exp (-r)), ?_⟩
  unfold sg
  rw [← EReal.coe_neg, Ideal.exp_coe, ← EReal.coe_one, ← EReal.coe_add]
  exact Cert.KernelIdeal.Hand.div_real 1 (by positivity)
/-- The gradient of the gate, as the kernel writes it. -/
def dgate (g u d : EReal) : EReal := d * u * sg g * (1 + g * (1 - sg g))
/-- The gradient of the other half, as the kernel writes it. -/
def dup (g d : EReal) : EReal := d * g * sg g
/-- The gradient of the gate by the product rule. -/
theorem dgate_eq (g u d : ℝ) : dgate g u d = d * u * sg g + g * (d * u) * (sg g * (1 - sg g)) := by
  obtain ⟨s, hs⟩ := sg_real g
  unfold dgate
  rw [hs]
  norm_cast
  exact_mod_cast congrArg (fun x : ℝ => (x : EReal)) (by ring : d * u * s * (1 + g * (1 - s)) = d * u * s + g * (d * u) * (s * (1 - s)))

/-- Two matrices side by side. -/
def pair {n : ℕ} (A B : Mx n 2816) : Mx n 5632 := fun y =>
  if h : (y 1).val < 2816 then A (ix2 (y 0) ⟨(y 1).val, h⟩) else B (ix2 (y 0) ⟨(y 1).val - 2816, by have h1 : (y 1).val < 5632 := (y 1).isLt; omega⟩)
/-- On the left it is the first. -/
theorem pair_left {n : ℕ} (A B : Mx n 2816) (y : (⟨2, ![n, 5632]⟩ : Shape).Idx) (x : (⟨2, ![n, 2816]⟩ : Shape).Idx)
    (h0 : (y 0).val = (x 0).val) (h1 : (y 1).val = (x 1).val) : pair A B y = A x := by
  have hx : (x 1).val < 2816 := (x 1).isLt
  unfold pair
  rw [dif_pos (h1 ▸ hx)]
  exact congrArg A (ext2 h0 h1)
/-- On the right it is the second. -/
theorem pair_right {n : ℕ} (A B : Mx n 2816) (y : (⟨2, ![n, 5632]⟩ : Shape).Idx) (x : (⟨2, ![n, 2816]⟩ : Shape).Idx)
    (h0 : (y 0).val = (x 0).val) (h1 : (y 1).val = 2816 + (x 1).val) : pair A B y = B x := by
  unfold pair
  rw [dif_neg (by omega)]
  exact congrArg B (ext2 h0 (by show (y 1).val - 2816 = _; omega))
/-- The left half of a matrix. -/
def lo {n : ℕ} (A : Mx n 5632) : Mx n 2816 := fun i => A (ix2 (i 0) ⟨(i 1).val, by have h1 : (i 1).val < 2816 := (i 1).isLt; omega⟩)
/-- The right half of a matrix. -/
def hi {n : ℕ} (A : Mx n 5632) : Mx n 2816 := fun i => A (ix2 (i 0) ⟨2816 + (i 1).val, by have h1 : (i 1).val < 2816 := (i 1).isLt; omega⟩)
/-- Both gradients side by side. -/
def grads {n : ℕ} (g u d : Mx n 2816) : Mx n 5632 := pair (fun i => dgate (g i) (u i) (d i)) (fun i => dup (g i) (d i))

end Cert.Swiglu

namespace Cert.Kernel4Ideal.Hand
open Idealize.ShloMosaic Idealize.ShloMosaic.TcCoe Idealize.ShloMosaic.Tactic Cert.Kernel4Ideal Cert.Kernel4Ideal.Gen
open Cert.Mat Cert.Swiglu

variable (m : (ℓ : Loc nD τ sig) → Buf (Elt Ideal) ℓ) (c : Dev nD)

/-- The gate's gradient, at an index. -/
theorem pay4_at (g u d : Vec Ideal S320x2816 .bf16) (y : S320x2816.Idx) : k0_pay4 g d u y = dgate (g y) (u y) (d y) := by
  unfold k0_pay4 k0_pay3 k0_pay2 k0_pay1 dgate sg
  pointwise
  rw [sub_eq_add_neg 0, zero_add]
/-- The other half's gradient, at an index. -/
theorem pay5_at (g d : Vec Ideal S320x2816 .bf16) (y : S320x2816.Idx) : k0_pay5 g d y = dup (g y) (d y) := by
  unfold k0_pay5 k0_pay3 k0_pay2 k0_pay1 dup sg
  pointwise
  rw [sub_eq_add_neg, zero_add]
/-- The block of a point, read back. -/
theorem out_at (g u d : Vec Ideal S320x2816 .bf16) (y : S320x5632.Idx) : out0_3 g u d y = grads (n := 320) g u d y := by
  unfold out0_3
  rw [View.ld_unit_zero (S := S320x2816) hz, View.ld_unit_zero (S := S320x2816) hz, View.ld_unit_zero (S := S320x2816) hz]
  suffices h : View.PiecesOf (Val := Elt Ideal) (s := S320x5632) (e := .bf16) (grads (n := 320) g u d) [⟨r0_2, k0_pay5 g d⟩, ⟨r0_1, k0_pay4 g d u⟩] by
    exact View.canon_append_of_piecesOf _ [] _ h y (cover0_3 _ _ y)
  refine ⟨fun x => ?_, fun x => ?_, trivial⟩
  · refine (pay5_at g d x).trans (pair_right (n := 320) (fun i => dgate (g i) (u i) (d i)) (fun i => dup (g i) (d i)) (r0_2.emb x) x ?_ ?_).symm
    · show 0 + 1 * (x 0).val = (x 0).val; omega
    · show 2816 + 1 * (x 1).val = 2816 + (x 1).val; omega
  · refine (pay4_at g u d x).trans (pair_left (n := 320) (fun i => dgate (g i) (u i) (d i)) (fun i => dup (g i) (d i)) (r0_1.emb x) x ?_ ?_).symm
    · show 0 + 1 * (x 0).val = (x 0).val; omega
    · show 0 + 1 * (x 1).val = (x 1).val; omega

/-- Which block of its array window 0 is on. -/
theorem at_0 (t : Fin cfg0.N) : win0_0.index t = ![t.val, 0] :=
  (by decide +kernel : ∀ t : Fin grid0.N, win0_0.index t = ![t.val, 0]) t
/-- Which block of its array window 1 is on. -/
theorem at_1 (t : Fin cfg0.N) : win0_1.index t = ![t.val, 1] :=
  (by decide +kernel : ∀ t : Fin grid0.N, win0_1.index t = ![t.val, 1]) t
/-- Which block of its array window 2 is on. -/
theorem at_2 (t : Fin cfg0.N) : win0_2.index t = ![t.val, 0] :=
  (by decide +kernel : ∀ t : Fin grid0.N, win0_2.index t = ![t.val, 0]) t
/-- Which block of its array window 3 is on. -/
theorem at_3 (t : Fin cfg0.N) : win0_3.index t = ![t.val, 0] :=
  (by decide +kernel : ∀ t : Fin grid0.N, win0_3.index t = ![t.val, 0]) t

/-- The array after the run. -/
theorem final (c : Dev nD) : (dats m 0 c).arrAt 3 cfg0.N = grads (n := 8320) (lo (n := 8320) (m ((c : Thread nD τ).loc main_arg0)))
    (hi (n := 8320) (m ((c : Thread nD τ).loc main_arg0))) (m ((c : Thread nD τ).loc main_arg1)) := by
  refine (dats m 0 c).arrAt_eq_of_covers 3 _ (by decide +kernel) fun t hf y => ?_
  blk_simp
  rw [after0_3]
  refine (out_at _ _ _ _).trans ?_
  have ht : t.val < 26 := t.isLt
  have hy0 : (y 0).val < 320 := (y 0).isLt
  have hy1 : (y 1).val < 5632 := (y 1).isLt
  have hx : ∀ j : Fin 2816, ∀ i : (⟨2, ![320, 2816]⟩ : Shape).Idx, i = ix2 (y 0) j → ∀ i' : (⟨2, ![8320, 2816]⟩ : Shape).Idx, i' = ix2 ⟨320 * t.val + (y 0).val, by omega⟩ j →
      iblk m c 0 t i = lo (n := 8320) (m ((c : Thread nD τ).loc main_arg0)) i' ∧ iblk m c 1 t i = hi (n := 8320) (m ((c : Thread nD τ).loc main_arg0)) i'
        ∧ iblk m c 2 t i = m ((c : Thread nD τ).loc main_arg1) i' := by
    rintro j i rfl i' rfl
    refine ⟨congrArg (m ((c : Thread nD τ).loc main_arg0)) (ext2 ?_ ?_), congrArg (m ((c : Thread nD τ).loc main_arg0)) (ext2 ?_ ?_),
      congrArg (m ((c : Thread nD τ).loc main_arg1)) (ext2 ?_ ?_)⟩ <;> blk_simp [iblk, at_0, at_1, at_2] <;> (try dsimp only) <;> omega
  unfold grads
  by_cases h : (y 1).val < 2816
  · obtain ⟨e0, e1, e2⟩ := hx ⟨(y 1).val, h⟩ _ rfl _ rfl
    refine (pair_left (n := 320) _ _ y (ix2 (y 0) ⟨(y 1).val, h⟩) rfl rfl).trans
      (Eq.trans ?_ (pair_left (n := 8320) _ _ _ (ix2 ⟨320 * t.val + (y 0).val, by omega⟩ ⟨(y 1).val, h⟩) ?_ ?_).symm)
    · show dgate _ _ _ = dgate _ _ _
      exact congr (congr (congrArg dgate e0) e1) e2
    · blk_simp [at_3] <;> (try dsimp only) <;> omega
    · blk_simp [at_3] <;> (try dsimp only) <;> omega
  · obtain ⟨e0, e1, e2⟩ := hx ⟨(y 1).val - 2816, by omega⟩ _ rfl _ rfl
    refine (pair_right (n := 320) _ _ y (ix2 (y 0) ⟨(y 1).val - 2816, by omega⟩) rfl (by show (y 1).val = 2816 + ((y 1).val - 2816); omega)).trans
      (Eq.trans ?_ (pair_right (n := 8320) _ _ _ (ix2 ⟨320 * t.val + (y 0).val, by omega⟩ ⟨(y 1).val - 2816, by omega⟩) ?_ ?_).symm)
    · show dup _ _ = dup _ _
      exact congr (congrArg dup e0) e2
    · blk_simp [at_3] <;> (try dsimp only) <;> omega
    · blk_simp [at_3] <;> (try dsimp only) <;> omega

end Cert.Kernel4Ideal.Hand

namespace Cert.Reference4Ideal.Hand
open Idealize.ShloMosaic Idealize.ShloMosaic.TcCoe Idealize.ShloMosaic.Tactic Cert.Reference4Ideal Cert.Reference4Ideal.Gen
open Cert.Mat Cert.Swiglu

/-- Arrays that pass the precondition's test hold real numbers. -/
theorem finite_real (a : S8320x5632.Idx → EReal) (b : S8320x2816.Idx → EReal) (h : Cert.Pre_finite4.fn (F := Ideal) a b = fun _ => 1#1) :
    (∀ y, a y = ((a y).toReal : EReal)) ∧ ∀ y, b y = ((b y).toReal : EReal) := by
  have e := congrFun h ix0
  dsimp only [Cert.Pre_finite4.fn] at e
  obtain ⟨e1, e2⟩ := IntOp.andi_eq_one.1 e
  haveI : Subsingleton Cert.Pre_finite4.S_.Idx := ⟨fun a b => funext fun i => i.elim0⟩
  exact ⟨fun y => Cert.KernelIdeal.Hand.real_of_lt _ (Host.reduce_andi_all _ _ _ _ _ e1 y), fun y => Cert.KernelIdeal.Hand.real_of_lt _ (Host.reduce_andi_all _ _ _ _ _ e2 y)⟩

/-- The reference's gradients. -/
theorem ref_eq (ff : FVec Ideal S8320x5632 .bf16) (d : FVec Ideal S8320x2816 .bf16) (hf : ∀ i, ff i = ((ff i).toReal : EReal)) (hd : ∀ i, d i = ((d i).toReal : EReal)) :
    truncf .bf16 (concatenate S8320x5632 1 [⟨S8320x2816, (addf (mulf (mulf (extf .f32 d bitsLt_bf16_f32) (extractStridedSlice S8320x2816 ![0, 2816] (extf .f32 ff bitsLt_bf16_f32) slices_S8320x5632_S8320x2816_0_2816)) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (extractStridedSlice S8320x2816 ![0, 0] (extf .f32 ff bitsLt_bf16_f32) slices_S8320x5632_S8320x2816_0_0)))))) (mulf (mulf (extractStridedSlice S8320x2816 ![0, 0] (extf .f32 ff bitsLt_bf16_f32) slices_S8320x5632_S8320x2816_0_0) (mulf (extf .f32 d bitsLt_bf16_f32) (extractStridedSlice S8320x2816 ![0, 2816] (extf .f32 ff bitsLt_bf16_f32) slices_S8320x5632_S8320x2816_0_2816))) (mulf (Host.divf (broadcastInDim S8320x2816 ![] bcast_S_S8320x2816 (constant S_ .f32 0x3F800000#32)) (addf (broadcastInDim S8320x2816 ![] bcast_S_S8320x2816 (constant S_ .f32 0x3F800000#32)) (Host.exp (Host.negf (extractStridedSlice S8320x2816 ![0, 0] (extf .f32 ff bitsLt_bf16_f32) slices_S8320x5632_S8320x2816_0_0))))) (subf (broadcastInDim S8320x2816 ![] bcast_S_S8320x2816 (constant S_ .f32 0x3F800000#32)) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (extractStridedSlice S8320x2816 ![0, 0] (extf .f32 ff bitsLt_bf16_f32) slices_S8320x5632_S8320x2816_0_0)))))))))⟩, ⟨S8320x2816, (mulf (mulf (extractStridedSlice S8320x2816 ![0, 0] (extf .f32 ff bitsLt_bf16_f32) slices_S8320x5632_S8320x2816_0_0) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (extractStridedSlice S8320x2816 ![0, 0] (extf .f32 ff bitsLt_bf16_f32) slices_S8320x5632_S8320x2816_0_0)))))) (extf .f32 d bitsLt_bf16_f32))⟩] concatenates_S8320x2816_S8320x2816_S8320x5632_d1) bitsLt_bf16_f32
      = grads (n := 8320) (lo (n := 8320) ff) (hi (n := 8320) ff) d := by
  funext i
  unfold grads pair lo hi
  pointwise
  split
  · rw [hf i, hf (ix2 (i 0) _), hd (ix2 (i 0) _), dgate_eq]
    rfl
  · unfold dup sg
    rw [mul_comm, mul_assoc]

end Cert.Reference4Ideal.Hand

namespace Cert.Proof
open Idealize.ShloMosaic Idealize.ShloMosaic.TcCoe Idealize.SL.Sem

/-- The printed kernel runs, its arguments unchanged and its counters at zero. -/
theorem frame_p4 : Cert.quiescent_Kernel4 := fun m g _ => Cert.Kernel4.Gen.frame m g
/-- So does the idealized one. -/
theorem frame_pi4 : Cert.quiescent_Kernel4Ideal := fun m g _ => Cert.Kernel4Ideal.Gen.frame m g
/-- So does the reference. -/
theorem frame_ri4 : Cert.quiescent_Reference4Ideal := fun m g _ =>
  (θ_run Cert.Reference4Ideal.defs _ _).mono (fun r h => ⟨fun c => (h c).2, sem_eq_zero_of_no_sems (by decide) r.2⟩) (Cert.Reference4Ideal.Value.run m g)
/-- No constant is named in the idealized kernel. -/
theorem named4 : Cert.preserves_Kernel4_Kernel4Ideal := trivial
/-- The idealized kernel's gradients are the reference's, for finite arguments. -/
theorem same4 : Cert.algebraic_Kernel4Ideal_Reference4Ideal_pre_finite4 := by
  intro m g m' g' hpre hargs
  refine ⟨fun c => Cert.Swiglu.grads (n := 8320) (Cert.Swiglu.lo (n := 8320) (m ((c.tc : Thread Cert.Kernel4Ideal.nD Cert.Kernel4Ideal.τ).loc Cert.Kernel4Ideal.main_arg0)))
    (Cert.Swiglu.hi (n := 8320) (m ((c.tc : Thread Cert.Kernel4Ideal.nD Cert.Kernel4Ideal.τ).loc Cert.Kernel4Ideal.main_arg0)))
    (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Hand.final m c), (h c).2⟩) (Cert.Kernel4Ideal.Value.run_blocks m g)
  · refine (θ_run Cert.Reference4Ideal.defs _ _).mono (fun r h c => ?_) (Cert.Reference4Ideal.Value.run m' g')
    obtain ⟨e0, e1⟩ := hargs c
    obtain ⟨f0, f1⟩ := Cert.Reference4Ideal.Hand.finite_real _ _ (hpre c)
    refine ⟨(h c).1.trans ((Cert.Reference4Ideal.Hand.ref_eq _ _ (by rw [e0]; exact f0) (by rw [e1]; exact f1)).trans ?_), (h c).2⟩
    rw [e0, e1]

end Cert.Proof
-- ==== Proof.FfnOut.lean ====
module
public import proofs.«01_k».proof.Proof.Gen.Kernel10Ideal.Value
public import proofs.«01_k».proof.Proof.Gen.Reference10Ideal.Run
public import proofs.«01_k».proof.Proof.Gen.Kernel10.Frame
public import proofs.«01_k».proof.Defs
public import proofs.«01_k».proof.Proof.Swiglu
@[expose] public section
set_option maxRecDepth 16384
noncomputable section
namespace Cert.Kernel10Ideal.Hand
open Idealize.ShloMosaic Idealize.ShloMosaic.TcCoe Idealize.ShloMosaic.Tactic Cert.Kernel10Ideal Cert.Kernel10Ideal.Gen Cert.Mat Cert.Swiglu
open scoped BigOperators

variable (m : (ℓ : Loc nD τ sig) → Buf (Elt Ideal) ℓ) (c : Dev nD)

/-- The gated product, at an index. -/
def gated (g u : EReal) : EReal := g * sg g * u
/-- The gated product of a matrix's halves. -/
def act (ff : Mx 8320 5632) : Mx 8320 2816 := fun i => gated (lo ff i) (hi ff i)
/-- The output: the product of the gated halves with the weights, added to the residual. -/
def outp (ff : Mx 8320 5632) (w : Mx 2816 1024) (h : Mx 8320 1024) : Mx 8320 1024 := fun i => prod (act ff) w i + h i

/-- The gated product of a block. -/
theorem pay1_at (g u : Vec Ideal S320x2816 .bf16) (y : S320x2816.Idx) : k0_pay1 g u y = gated (g y) (u y) := by
  unfold k0_pay1 gated sg
  pointwise
  rw [sub_eq_add_neg, zero_add]
/-- The block of the gated product, read back. -/
theorem act_at (g u : Vec Ideal S320x2816 .bf16) (w : Vec Ideal S2816x1024 .bf16) (h : Vec Ideal S320x1024 .f32) (y : S320x2816.Idx) :
    out0_5 g u w h y = gated (g y) (u y) := by
  unfold out0_5
  rw [View.canon_unit_zero hz, View.ld_unit_zero (S := S320x2816) hz, View.ld_unit_zero (S := S320x2816) hz]
  exact pay1_at g u y
/-- The block of the output, read back. -/
theorem out_at (g u : Vec Ideal S320x2816 .bf16) (w : Vec Ideal S2816x1024 .bf16) (h : Vec Ideal S320x1024 .f32) (y : S320x1024.Idx) :
    out0_4 g u w h y = (∑ k : Fin 2816, gated (g (ix2 (y 0) k)) (u (ix2 (y 0) k)) * w (ix2 k (y 1))) + h y := by
  unfold out0_4
  rw [View.canon_unit_zero hz, View.ld_unit_zero (S := S320x2816) hz, View.ld_unit_zero (S := S320x2816) hz, View.ld_unit_zero (S := S2816x1024) hz,
    View.ld_unit_zero (S := S320x1024) hz]
  unfold k0_pay2
  pointwise
  simp only [pay1_at]

/-- Which block of its array window 0 is on. -/
theorem at_0 (t : Fin cfg0.N) : win0_0.index t = ![t.val, 0] :=
  (by decide +kernel : ∀ t : Fin grid0.N, win0_0.index t = ![t.val, 0]) t
/-- Which block of its array window 1 is on. -/
theorem at_1 (t : Fin cfg0.N) : win0_1.index t = ![t.val, 1] :=
  (by decide +kernel : ∀ t : Fin grid0.N, win0_1.index t = ![t.val, 1]) t
/-- Which block of its array window 2 is on. -/
theorem at_2 (t : Fin cfg0.N) : win0_2.index t = ![0, 0] :=
  (by decide +kernel : ∀ t : Fin grid0.N, win0_2.index t = ![0, 0]) t
/-- Which block of its array window 3 is on. -/
theorem at_3 (t : Fin cfg0.N) : win0_3.index t = ![t.val, 0] :=
  (by decide +kernel : ∀ t : Fin grid0.N, win0_3.index t = ![t.val, 0]) t
/-- Which block of its array window 4 is on. -/
theorem at_4 (t : Fin cfg0.N) : win0_4.index t = ![t.val, 0] :=
  (by decide +kernel : ∀ t : Fin grid0.N, win0_4.index t = ![t.val, 0]) t
/-- Which block of its array window 5 is on. -/
theorem at_5 (t : Fin cfg0.N) : win0_5.index t = ![t.val, 0] :=
  (by decide +kernel : ∀ t : Fin grid0.N, win0_5.index t = ![t.val, 0]) t

/-- The gated product's array after the run. -/
theorem final_act (c : Dev nD) : (dats m 0 c).arrAt 5 cfg0.N = act (m ((c : Thread nD τ).loc main_arg0)) := by
  refine (dats m 0 c).arrAt_eq_of_covers 5 _ (by decide +kernel) fun t hf y => ?_
  blk_simp
  rw [after0_5]
  refine (act_at _ _ _ _ _).trans ?_
  unfold act
  refine congr (congrArg gated ?_) ?_ <;> refine congrArg (m ((c : Thread nD τ).loc main_arg0)) (ext2 ?_ ?_) <;> idx_bounds y <;>
    blk_simp [iblk, at_0, at_1, at_5] <;> (try dsimp only) <;> omega

/-- The output's array after the run. -/
theorem final (c : Dev nD) : (dats m 0 c).arrAt 4 cfg0.N
    = outp (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (out_at _ _ _ _ _).trans ?_
  unfold outp prod
  refine congr (congrArg (fun a b : EReal => a + b) (Finset.sum_congr rfl fun k _ => ?_)) ?_
  · refine congr (congrArg (fun a b : EReal => a * b) ?_) ?_
    · unfold act
      refine congr (congrArg gated ?_) ?_ <;> refine congrArg (m ((c : Thread nD τ).loc main_arg0)) (ext2 ?_ ?_) <;> idx_bounds y <;>
        blk_simp [iblk, at_0, at_1, at_4] <;> (try dsimp only) <;> omega
    · refine congrArg (m ((c : Thread nD τ).loc main_arg1)) (ext2 ?_ ?_) <;> idx_bounds y <;> blk_simp [iblk, at_2, at_4] <;> (try dsimp only) <;> omega
  · refine congrArg (m ((c : Thread nD τ).loc main_arg2)) (ext2 ?_ ?_) <;> idx_bounds y <;> blk_simp [iblk, at_3, at_4] <;> (try dsimp only) <;> omega

end Cert.Kernel10Ideal.Hand

namespace Cert.Reference10Ideal.Hand
open Idealize.ShloMosaic Idealize.ShloMosaic.TcCoe Idealize.ShloMosaic.Tactic Cert.Reference10Ideal Cert.Reference10Ideal.Gen Cert.Mat Cert.Swiglu
open scoped BigOperators

/-- The reference's gated product. -/
abbrev ract (ff : FVec Ideal S8320x5632 .bf16) : FVec Ideal S8320x2816 .f32 :=
  (mulf (mulf (extractStridedSlice S8320x2816 ![0, 0] (extf .f32 ff bitsLt_bf16_f32) slices_S8320x5632_S8320x2816_0_0) (Host.divf (broadcastInDim S8320x2816 ![] bcast_S_S8320x2816 (constant S_ .f32 0x3F800000#32)) (addf (broadcastInDim S8320x2816 ![] bcast_S_S8320x2816 (constant S_ .f32 0x3F800000#32)) (Host.exp (Host.negf (extractStridedSlice S8320x2816 ![0, 0] (extf .f32 ff bitsLt_bf16_f32) slices_S8320x5632_S8320x2816_0_0)))))) (extractStridedSlice S8320x2816 ![0, 2816] (extf .f32 ff bitsLt_bf16_f32) slices_S8320x5632_S8320x2816_0_2816))
/-- It is the kernel's. -/
theorem ract_at (ff : FVec Ideal S8320x5632 .bf16) (i : S8320x2816.Idx) : ract ff i = Cert.Kernel10Ideal.Hand.act ff i := by
  unfold Cert.Kernel10Ideal.Hand.act Cert.Kernel10Ideal.Hand.gated lo hi sg
  pointwise
/-- The reference's gated product, rounded. -/
theorem ref_act (ff : FVec Ideal S8320x5632 .bf16) : truncf .bf16 (ract ff) bitsLt_bf16_f32 = Cert.Kernel10Ideal.Hand.act ff :=
  funext fun i => ract_at ff i
/-- The reference's output. -/
theorem ref_eq (ff : FVec Ideal S8320x5632 .bf16) (w : FVec Ideal S2816x1024 .bf16) (h : FVec Ideal S8320x1024 .f32) :
    addf h (Host.dotGeneral dot_S8320x2816_S2816x1024_S8320x1024_1_0_0_1_n_n none (ract ff) (extf .f32 w bitsLt_bf16_f32)) = Cert.Kernel10Ideal.Hand.outp ff w h := by
  have e : ract ff = Cert.Kernel10Ideal.Hand.act ff := funext fun i => ract_at ff i
  rw [e]
  funext i
  unfold Cert.Kernel10Ideal.Hand.outp prod
  pointwise
  exact add_comm _ _

end Cert.Reference10Ideal.Hand

namespace Cert.Proof
open Idealize.ShloMosaic Idealize.ShloMosaic.TcCoe Idealize.SL.Sem

/-- The printed kernel runs, its arguments unchanged and its counters at zero. -/
theorem frame_p10 : Cert.quiescent_Kernel10 := fun m g _ => Cert.Kernel10.Gen.frame m g
/-- So does the idealized one. -/
theorem frame_pi10 : Cert.quiescent_Kernel10Ideal := fun m g _ => Cert.Kernel10Ideal.Gen.frame m g
/-- So does the reference. -/
theorem frame_ri10 : Cert.quiescent_Reference10Ideal := fun m g _ =>
  (θ_run Cert.Reference10Ideal.defs _ _).mono (fun r h => ⟨fun c => (h c).2.2, sem_eq_zero_of_no_sems (by decide) r.2⟩) (Cert.Reference10Ideal.Value.run m g)
/-- No constant is named in the idealized kernel. -/
theorem named10 : Cert.preserves_Kernel10_Kernel10Ideal := trivial
/-- The idealized kernel's output and gated product are the reference's. -/
theorem same10 : Cert.algebraic_Kernel10Ideal_Reference10Ideal := by
  intro m g m' g' _ hargs
  refine ⟨fun c => Cert.Kernel10Ideal.Hand.outp (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Kernel10Ideal.Hand.act (m ((c.tc : Thread Cert.Kernel10Ideal.nD Cert.Kernel10Ideal.τ).loc Cert.Kernel10Ideal.main_arg0)), ?_, ?_⟩
  · exact (θ_run Cert.Kernel10Ideal.defs _ _).mono (fun r h c => ⟨(h c).1.trans (Cert.Kernel10Ideal.Hand.final m c),
      (h c).2.1.trans (Cert.Kernel10Ideal.Hand.final_act m c), (h c).2.2⟩) (Cert.Kernel10Ideal.Value.run_blocks m g)
  · refine (θ_run Cert.Reference10Ideal.defs _ _).mono (fun r h c => ?_) (Cert.Reference10Ideal.Value.run m' g')
    obtain ⟨e0, e1, e2⟩ := hargs c
    refine ⟨(h c).1.trans ((Cert.Reference10Ideal.Hand.ref_eq _ _ _).trans ?_), (h c).2.1.trans ((Cert.Reference10Ideal.Hand.ref_act _).trans ?_), (h c).2.2⟩
    · rw [e0, e1, e2]
    · rw [e0]

end Cert.Proof
-- ==== Proof.GateMix.lean ====
module
public import proofs.«01_k».proof.Proof.Gen.Kernel3Ideal.Value
public import proofs.«01_k».proof.Proof.Gen.Reference3Ideal.Run
public import proofs.«01_k».proof.Proof.Gen.Kernel3.Frame
public import proofs.«01_k».proof.Proof.Swiglu
public import proofs.«01_k».proof.Defs
@[expose] public section
set_option maxRecDepth 16384
noncomputable section
namespace Cert.GateMix
open Cert.Mat Cert.Swiglu
open Idealize.ShloMosaic Idealize.ShloMosaic.Tactic Idealize.ShloMosaic.TcCoe

/-- Sums of equal terms are equal. -/
theorem add2 {a b c d : EReal} (h : a = b) (k : c = d) : a + c = b + d := by rw [h, k]
/-- A column of a matrix of 1024 columns, counted from any of the 2048. -/
def col (j : Fin 2048) : Fin 1024 := ⟨j.val % 1024, Nat.mod_lt _ (by omega)⟩
/-- A gate. -/
def gt {n : ℕ} (u : Mx n 2048) (b : Mx 1 2048) (r : Fin n) (j : Fin 2048) : EReal := sg (u (ix2 r j) + b (ix2 0 j))
/-- The gradient of a branch. -/
def dp {n : ℕ} (u : Mx n 2048) (b : Mx 1 2048) (dm : Mx n 1024) (o : ℕ) (ho : o ≤ 1024) : Mx n 1024 :=
  fun y => dm y * gt u b (y 0) ⟨o + (y 1).val, by have h : (y 1).val < 1024 := (y 1).isLt; omega⟩
/-- The gradient in front of the gates. -/
def dg {n : ℕ} (u : Mx n 2048) (b : Mx 1 2048) (p q dm : Mx n 1024) (r : Fin n) (j : Fin 2048) : EReal :=
  dm (ix2 r (col j)) * (if j.val < 1024 then p (ix2 r (col j)) else q (ix2 r (col j))) * gt u b r j * (1 - gt u b r j)

/-- It, in the left half. -/
theorem dg_left {n : ℕ} (u : Mx n 2048) (b : Mx 1 2048) (p q dm : Mx n 1024) (y : (⟨2, ![n, 1024]⟩ : Shape).Idx) :
    have h : (y 1).val < 2048 := by have h : (y 1).val < 1024 := (y 1).isLt; omega
    dg u b p q dm (y 0) ⟨(y 1).val, h⟩ = dm y * p y * gt u b (y 0) ⟨(y 1).val, h⟩ * (1 - gt u b (y 0) ⟨(y 1).val, h⟩) := by
  intro h2
  have h : (y 1).val < 1024 := (y 1).isLt
  have e : ix2 (y 0) (col ⟨(y 1).val, h2⟩) = y := ext2 rfl (by show (y 1).val % 1024 = (y 1).val; omega)
  unfold dg
  rw [if_pos (by exact h)]
  have k := congr (congrArg (fun v w : EReal => v * w * gt u b (y 0) ⟨(y 1).val, h2⟩ * (1 - gt u b (y 0) ⟨(y 1).val, h2⟩)) (congrArg dm e)) (congrArg p e)
  exact k
/-- It, in the right half. -/
theorem dg_right {n : ℕ} (u : Mx n 2048) (b : Mx 1 2048) (p q dm : Mx n 1024) (y : (⟨2, ![n, 1024]⟩ : Shape).Idx) :
    have h : 1024 + (y 1).val < 2048 := by have h : (y 1).val < 1024 := (y 1).isLt; omega
    dg u b p q dm (y 0) ⟨1024 + (y 1).val, h⟩ = dm y * q y * gt u b (y 0) ⟨1024 + (y 1).val, h⟩ * (1 - gt u b (y 0) ⟨1024 + (y 1).val, h⟩) := by
  intro h2
  have h : (y 1).val < 1024 := (y 1).isLt
  have e : ix2 (y 0) (col ⟨1024 + (y 1).val, h2⟩) = y := ext2 rfl (by show (1024 + (y 1).val) % 1024 = (y 1).val; omega)
  unfold dg
  rw [if_neg (by show ¬1024 + (y 1).val < 1024; omega)]
  have k := congr (congrArg (fun v w : EReal => v * w * gt u b (y 0) ⟨1024 + (y 1).val, h2⟩ * (1 - gt u b (y 0) ⟨1024 + (y 1).val, h2⟩)) (congrArg dm e)) (congrArg q e)
  exact k

/-- The gradient in front of the gates, as an array. -/
def dgs (u : Mx 8320 2048) (b : Mx 1 2048) (p q dm : Mx 8320 1024) : Mx 8320 2048 := fun y => dg u b p q dm (y 0) (y 1)
/-- The gradient of the bias: its sum over the rows. -/
def dbs (u : Mx 8320 2048) (b : Mx 1 2048) (p q dm : Mx 8320 1024) : Mx 1 2048 := fun y => ∑ r : Fin 8320, dg u b p q dm r (y 1)
/-- Two halves written side by side are one matrix. -/
theorem halves {n : ℕ} {e : EltTy} (w1 w0 : (⟨2, ![n, 1024]⟩ : Shape).Idx → Elt Ideal e) (L : List (View.Piece (Elt Ideal) ⟨2, ![n, 2048]⟩ e))
    (i1 : ∀ a, (![0, 1024] : Fin 2 → ℕ) a + (![n, 1024] : Fin 2 → ℕ) a ≤ (⟨2, ![n, 2048]⟩ : Shape).size a)
    (i0 : ∀ a, (![0, 0] : Fin 2 → ℕ) a + (![n, 1024] : Fin 2 → ℕ) a ≤ (⟨2, ![n, 2048]⟩ : Shape).size a)
    (G : Fin n → Fin 2048 → Elt Ideal e)
    (h1 : ∀ x, w1 x = G (x 0) ⟨1024 + (x 1).val, by have h : (x 1).val < 1024 := (x 1).isLt; omega⟩)
    (h0 : ∀ x, w0 x = G (x 0) ⟨(x 1).val, by have h : (x 1).val < 1024 := (x 1).isLt; omega⟩) (y : (⟨2, ![n, 2048]⟩ : Shape).Idx) :
    View.canon (⟨Rect.unit (s := ⟨2, ![n, 2048]⟩) ![0, 1024] ![n, 1024] i1, w1⟩ :: ⟨Rect.unit (s := ⟨2, ![n, 2048]⟩) ![0, 0] ![n, 1024] i0, w0⟩ :: L) y = G (y 0) (y 1) := by
  suffices h : View.PiecesOf (Val := Elt Ideal) (s := ⟨2, ![n, 2048]⟩) (e := e) (fun y => G (y 0) (y 1))
      [⟨Rect.unit (s := ⟨2, ![n, 2048]⟩) ![0, 1024] ![n, 1024] i1, w1⟩, ⟨Rect.unit (s := ⟨2, ![n, 2048]⟩) ![0, 0] ![n, 1024] i0, w0⟩] by
    refine View.canon_append_of_piecesOf _ L _ h y ?_
    have hy : (y 1).val < 2048 := (y 1).isLt
    have hn : (y 0).val < n := (y 0).isLt
    by_cases hl : (y 1).val < 1024
    · refine ⟨_, List.mem_cons_of_mem _ List.mem_cons_self, (Rect.mem_set_unit (inb := i0)).2 fun a => ?_⟩
      match a with
      | ⟨0, _⟩ => exact ⟨Nat.zero_le _, by show (y 0).val < 0 + n; omega⟩
      | ⟨1, _⟩ => exact ⟨Nat.zero_le _, by show (y 1).val < 0 + 1024; omega⟩
    · refine ⟨_, List.mem_cons_self, (Rect.mem_set_unit (inb := i1)).2 fun a => ?_⟩
      match a with
      | ⟨0, _⟩ => exact ⟨Nat.zero_le _, by show (y 0).val < 0 + n; omega⟩
      | ⟨1, _⟩ => exact ⟨by show 1024 ≤ (y 1).val; omega, by show (y 1).val < 1024 + 1024; omega⟩
  refine ⟨fun x => (h1 x).trans ?_, fun x => (h0 x).trans ?_, trivial⟩
  · exact congr (congrArg G (Fin.ext (by show (x 0).val = 0 + 1 * (x 0).val; omega))) (Fin.ext (by show 1024 + (x 1).val = 1024 + 1 * (x 1).val; omega))
  · exact congr (congrArg G (Fin.ext (by show (x 0).val = 0 + 1 * (x 0).val; omega))) (Fin.ext (by show (x 1).val = 0 + 1 * (x 1).val; omega))

end Cert.GateMix

namespace Cert.Kernel3Ideal.Hand
open Idealize.ShloMosaic Idealize.ShloMosaic.TcCoe Idealize.ShloMosaic.Tactic Cert.Kernel3Ideal Cert.Kernel3Ideal.Gen Cert.Mat Cert.Swiglu Cert.GateMix
open scoped BigOperators

variable (m : (ℓ : Loc nD τ sig) → Buf (Elt Ideal) ℓ) (c : Dev nD)

variable (u : Vec Ideal S320x2048 .bf16) (b : Vec Ideal S1x2048 .f32) (p q d : Vec Ideal S320x1024 .bf16)
/-- The gates, at an index. -/
theorem pay7_at (y : S320x2048.Idx) : k0_pay7 u b y = gt (n := 320) u b (y 0) (y 1) := by
  unfold k0_pay7 gt sg
  pointwise
  rw [sub_eq_add_neg 0, zero_add]
/-- The left half of the gates. -/
theorem pay8_at (y : S320x1024.Idx) : k0_pay8 u b y = gt (n := 320) u b (y 0) ⟨(y 1).val, by have h : (y 1).val < 1024 := (y 1).isLt; omega⟩ :=
  (pay7_at u b _).trans (congr (congrArg (gt (n := 320) u b) (Fin.ext (by show 0 + (y 0).val = (y 0).val; omega))) (Fin.ext (by show 0 + (y 1).val = (y 1).val; omega)))
/-- The right half of the gates. -/
theorem pay9_at (y : S320x1024.Idx) : k0_pay9 u b y = gt (n := 320) u b (y 0) ⟨1024 + (y 1).val, by have h : (y 1).val < 1024 := (y 1).isLt; omega⟩ :=
  (pay7_at u b _).trans (congr (congrArg (gt (n := 320) u b) (Fin.ext (by show 0 + (y 0).val = (y 0).val; omega))) (Fin.ext (by show 1024 + (y 1).val = 1024 + (y 1).val; omega)))
/-- The gradient of the first branch. -/
theorem pay11_at (y : S320x1024.Idx) : k0_pay11 u b d y = dp (n := 320) u b d 0 (by omega) y := by
  unfold k0_pay11 k0_pay10 dp
  pointwise
  rw [pay8_at]
/-- The gradient of the second branch. -/
theorem pay12_at (y : S320x1024.Idx) : k0_pay12 u b d y = dp (n := 320) u b d 1024 (by omega) y := by
  unfold k0_pay12 k0_pay10 dp
  pointwise
  rw [pay9_at]
/-- The gradient in front of the first gate. -/
theorem pay13_at (y : S320x1024.Idx) : k0_pay13 u b d p y = dg (n := 320) u b p q d (y 0) ⟨(y 1).val, by have h : (y 1).val < 1024 := (y 1).isLt; omega⟩ := by
  refine Eq.trans ?_ (dg_left (n := 320) u b p q d y).symm
  unfold k0_pay13 k0_pay10
  pointwise
  rw [pay8_at]
/-- The gradient in front of the second gate. -/
theorem pay1_at (y : S320x1024.Idx) : k0_pay1 (k0_pay9 u b) (k0_pay14 u b d q) y
    = dg (n := 320) u b p q d (y 0) ⟨1024 + (y 1).val, by have h : (y 1).val < 1024 := (y 1).isLt; omega⟩ := by
  refine Eq.trans ?_ (dg_right (n := 320) u b p q d y).symm
  unfold k0_pay1 k0_pay14 k0_pay10
  pointwise
  rw [pay9_at]
/-- A row that sums over the block's rows. -/
theorem pay4_at (x : FVec Ideal S320x1024 .f32) (z : Vec Ideal S1x1024 .f32) (y : S1x1024.Idx) : k0_pay4 x z y = z y + ∑ r : Fin 320, x (ix2 r (y 1)) := by
  unfold k0_pay4
  rw [shapeCast_self]
  pointwise
/-- A row that sums over the block's rows, in the right half. -/
theorem pay5_at (g x : FVec Ideal S320x1024 .f32) (z : Vec Ideal S1x1024 .f32) (y : S1x1024.Idx) : k0_pay5 g x z y = z y + ∑ r : Fin 320, k0_pay1 g x (ix2 r (y 1)) := by
  unfold k0_pay5
  rw [shapeCast_self]
  pointwise

/-- The block's sum of a column. -/
def csum (t : Fin cfg0.N) (j : Fin 2048) : EReal := ∑ r : Fin 320, dg (n := 320) (iblk m c 0 t) (iblk m c 1 t) (iblk m c 2 t) (iblk m c 3 t) (iblk m c 4 t) r j

/-- What a point leaves of the first branch's gradient. -/
theorem out5 (t : Fin cfg0.N) : (outsAt0 m c t.val t.isLt).1 = dp (n := 320) (iblk m c 0 t) (iblk m c 1 t) (iblk m c 4 t) 0 (by omega) := by
  funext y
  refine Eq.trans (congrFun ?_ y) (pay11_at _ _ _ y)
  by_cases h0 : t.val % 26 = 0
  · rw [outsAt0_A m c t h0]
    dsimp only [out0_A_5, kernelRun0_A]
    rw [View.read_writes_junk_eq_canon, View.canon_unit_zero hz]
    simp only [View.readAt_eq_ld, Memref.IsWhole.read_unread, View.ld_unit_zero (S := S320x2048) hz, View.ld_unit_zero (S := S1x2048) hz, View.ld_unit_zero (S := S320x1024) hz]
  · rw [outsAt0_B m c t h0]
    dsimp only [out0_B_5, kernelRun0_B]
    rw [View.read_writes_junk_eq_canon, View.canon_unit_zero hz]
    simp only [View.readAt_eq_ld, Memref.IsWhole.read_unread, View.ld_unit_zero (S := S320x2048) hz, View.ld_unit_zero (S := S1x2048) hz, View.ld_unit_zero (S := S320x1024) hz]
/-- What a point leaves of the second branch's gradient. -/
theorem out6 (t : Fin cfg0.N) : (outsAt0 m c t.val t.isLt).2.1 = dp (n := 320) (iblk m c 0 t) (iblk m c 1 t) (iblk m c 4 t) 1024 (by omega) := by
  funext y
  refine Eq.trans (congrFun ?_ y) (pay12_at _ _ _ y)
  by_cases h0 : t.val % 26 = 0
  · rw [outsAt0_A m c t h0]
    dsimp only [out0_A_6, kernelRun0_A]
    rw [View.read_writes_junk_eq_canon, View.canon_unit_zero hz]
    simp only [View.readAt_eq_ld, Memref.IsWhole.read_unread, View.ld_unit_zero (S := S320x2048) hz, View.ld_unit_zero (S := S1x2048) hz, View.ld_unit_zero (S := S320x1024) hz]
  · rw [outsAt0_B m c t h0]
    dsimp only [out0_B_6, kernelRun0_B]
    rw [View.read_writes_junk_eq_canon, View.canon_unit_zero hz]
    simp only [View.readAt_eq_ld, Memref.IsWhole.read_unread, View.ld_unit_zero (S := S320x2048) hz, View.ld_unit_zero (S := S1x2048) hz, View.ld_unit_zero (S := S320x1024) hz]
/-- What a point leaves of the gradient in front of the gates. -/
theorem out7 (t : Fin cfg0.N) (y : S320x2048.Idx) : (outsAt0 m c t.val t.isLt).2.2.1 y
    = dg (n := 320) (iblk m c 0 t) (iblk m c 1 t) (iblk m c 2 t) (iblk m c 3 t) (iblk m c 4 t) (y 0) (y 1) := by
  by_cases h0 : t.val % 26 = 0
  · rw [outsAt0_A m c t h0]
    dsimp only [out0_A_7, kernelRun0_A]
    rw [View.read_writes_junk_eq_canon]
    unfold kernelRun0_A.sl.r kernelRun0_A.sl.r_1 kernelRun0_A.sl.r_2
    simp only [View.readAt_eq_ld, Memref.IsWhole.read_unread, View.ld_unit_zero (S := S320x2048) hz, View.ld_unit_zero (S := S1x2048) hz, View.ld_unit_zero (S := S320x1024) hz]
    exact halves (n := 320) (e := .bf16) _ _ _ _ _ (dg (n := 320) (iblk m c 0 t) (iblk m c 1 t) (iblk m c 2 t) (iblk m c 3 t) (iblk m c 4 t))
      (fun x => pay1_at _ _ _ _ _ x) (fun x => pay13_at _ _ _ _ _ x) y
  · rw [outsAt0_B m c t h0]
    dsimp only [out0_B_7, kernelRun0_B]
    rw [View.read_writes_junk_eq_canon]
    unfold kernelRun0_B.sl.r kernelRun0_B.sl.r_1 kernelRun0_B.sl.r_2
    simp only [View.readAt_eq_ld, Memref.IsWhole.read_unread, View.ld_unit_zero (S := S320x2048) hz, View.ld_unit_zero (S := S1x2048) hz, View.ld_unit_zero (S := S320x1024) hz]
    exact halves (n := 320) (e := .bf16) _ _ _ _ _ (dg (n := 320) (iblk m c 0 t) (iblk m c 1 t) (iblk m c 2 t) (iblk m c 3 t) (iblk m c 4 t))
      (fun x => pay1_at _ _ _ _ _ x) (fun x => pay13_at _ _ _ _ _ x) y

/-- The first point's sums of columns. -/
theorem out8_A (t : Fin cfg0.N) (h0 : t.val % 26 = 0) (y : S1x2048.Idx) : (outsAt0 m c t.val t.isLt).2.2.2 y = 0 + csum m c t (y 1) := by
  rw [outsAt0_A m c t h0]
  dsimp only [out0_A_8, kernelRun0_A]
  rw [View.read_writes_junk_eq_canon]
  unfold kernelRun0_A.sl.r kernelRun0_A.sl.r_2 kernelRun0_A.sl.v49 kernelRun0_A.sl.H8_2 kernelRun0_A.sl.r_1 kernelRun0_A.sl.v43 kernelRun0_A.sl.H8_1
  simp only [View.readAt_eq_ld, Memref.IsWhole.read_unread, View.ld_unit_zero (S := S320x2048) hz, View.ld_unit_zero (S := S1x2048) hz, View.ld_unit_zero (S := S320x1024) hz,
    View.readCov_eq_canon']
  have z : ∀ y : S1x2048.Idx, (k0_pay6 (F := Ideal)) y = 0 := by
    intro y
    unfold k0_pay6
    pointwise
  refine halves (n := 1) (e := .f32) _ _ _ _ _ (fun _ j => 0 + csum m c t j) (fun x => (pay5_at _ _ _ x).trans (add2 ?_ ?_))
    (fun x => (pay4_at _ _ x).trans (add2 ?_ ?_)) y
  · refine (View.canon_cons_of_not_mem _ _ ?_).trans ?_
    · intro hm
      have := ((Rect.mem_set_unit (inb := inb_S1x2048_S1x1024_0_0)).1 hm (1 : Fin 2)).2
      have e : 1024 + 1 * (x 1).val < 0 + 1024 := this
      omega
    · rw [View.canon_unit_zero (S := S1x2048) hz]
      exact z _
  · exact Finset.sum_congr rfl fun r _ => pay1_at _ _ _ _ _ (ix2 r (x 1))
  · rw [View.canon_unit_zero (S := S1x2048) hz]
    exact z _
  · exact Finset.sum_congr rfl fun r _ => pay13_at _ _ _ _ _ (ix2 r (x 1))
/-- A later point adds its sums. -/
theorem out8_B (t : Fin cfg0.N) (h0 : ¬t.val % 26 = 0) (y : S1x2048.Idx) : (outsAt0 m c t.val t.isLt).2.2.2 y
    = (outsAt0 m c (t.val - 1) (Nat.lt_of_le_of_lt (Nat.sub_le _ _) t.isLt)).2.2.2 y + csum m c t (y 1) := by
  rw [outsAt0_B m c t h0]
  dsimp only [out0_B_8, kernelRun0_B]
  rw [View.read_writes_junk_eq_canon]
  unfold kernelRun0_B.sl.r kernelRun0_B.sl.r_1 kernelRun0_B.sl.r_2 kernelRun0_B.sl.v49
  simp only [View.readAt_eq_ld, Memref.IsWhole.read_unread, View.ld_unit_zero (S := S320x2048) hz, View.ld_unit_zero (S := S1x2048) hz, View.ld_unit_zero (S := S320x1024) hz]
  generalize outsAt0 m c (t.val - 1) _ = o
  have hi : ∀ i j : S1x2048.Idx, (i 1).val = (j 1).val → o.2.2.2 i = o.2.2.2 j := fun i j h => congrArg o.2.2.2 (ext2 (by
    have h1 : (i 0).val < 1 := (i 0).isLt
    have h2 : (j 0).val < 1 := (j 0).isLt
    omega) h)
  refine (halves (n := 1) (e := .f32) _ _ [] _ _ (fun _ j => o.2.2.2 (ix2 0 j) + csum m c t j) (fun x => (pay5_at _ _ _ x).trans (add2 (hi _ _ ?_) ?_))
    (fun x => (pay4_at _ _ x).trans (add2 (hi _ _ ?_) ?_)) y).trans (congrArg (· + csum m c t (y 1)) (hi _ _ rfl))
  · show 1024 + 1 * (x 1).val = 1024 + (x 1).val; omega
  · exact Finset.sum_congr rfl fun r _ => pay1_at _ _ _ _ _ (ix2 r (x 1))
  · show 0 + 1 * (x 1).val = (x 1).val; omega
  · exact Finset.sum_congr rfl fun r _ => pay13_at _ _ _ _ _ (ix2 r (x 1))

/-- Which blocks a point's rows are on, whose column block is always the first. -/
theorem at_rows : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![0, 0])

/-- The five arguments. -/
abbrev aU : Mx 8320 2048 := m ((c : Thread nD τ).loc main_arg0)
/-- The bias. -/
abbrev aB : Mx 1 2048 := m ((c : Thread nD τ).loc main_arg1)
/-- The first branch. -/
abbrev aP : Mx 8320 1024 := m ((c : Thread nD τ).loc main_arg2)
/-- The second branch. -/
abbrev aQ : Mx 8320 1024 := m ((c : Thread nD τ).loc main_arg3)
/-- The gradient of the merge. -/
abbrev aD : Mx 8320 1024 := m ((c : Thread nD τ).loc main_arg4)

/-- A row of the arguments' blocks is a row of the arguments. -/
theorem row (t : Fin cfg0.N) (r : Fin 320) (r' : Fin 8320) (h : r'.val = 320 * t.val + r.val) :
    (∀ j, iblk m c 0 t (ix2 r j) = aU m c (ix2 r' j)) ∧ (∀ j, iblk m c 1 t (ix2 0 j) = aB m c (ix2 0 j)) ∧ (∀ j, iblk m c 2 t (ix2 r j) = aP m c (ix2 r' j))
      ∧ (∀ j, iblk m c 3 t (ix2 r j) = aQ m c (ix2 r' j)) ∧ ∀ j, iblk m c 4 t (ix2 r j) = aD m c (ix2 r' j) := by
  obtain ⟨e0, e1, e2, e3, e4, -⟩ := at_rows t
  refine ⟨fun j => congrArg (aU m c) (ext2 ?_ ?_), fun j => congrArg (aB m c) (ext2 ?_ ?_), fun j => congrArg (aP m c) (ext2 ?_ ?_),
    fun j => congrArg (aQ m c) (ext2 ?_ ?_), fun j => congrArg (aD m c) (ext2 ?_ ?_)⟩ <;> blk_simp [iblk, e0, e1, e2, e3, e4] <;> (try dsimp only) <;> omega

/-- So the gradients of the blocks are the arguments'. -/
theorem dg_row (t : Fin cfg0.N) (r : Fin 320) (r' : Fin 8320) (h : r'.val = 320 * t.val + r.val) (j : Fin 2048) :
    dg (n := 320) (iblk m c 0 t) (iblk m c 1 t) (iblk m c 2 t) (iblk m c 3 t) (iblk m c 4 t) r j = dg (aU m c) (aB m c) (aP m c) (aQ m c) (aD m c) r' j := by
  obtain ⟨f0, f1, f2, f3, f4⟩ := row m c t r r' h
  have g0 := f0 j
  have g1 := f1 j
  have g2 := f2 (col j)
  have g3 := f3 (col j)
  have g4 := f4 (col j)
  unfold dg gt
  generalize aU m c (ix2 r' j) = x0 at g0 ⊢
  generalize aB m c (ix2 0 j) = x1 at g1 ⊢
  generalize aP m c (ix2 r' (col j)) = x2 at g2 ⊢
  generalize aQ m c (ix2 r' (col j)) = x3 at g3 ⊢
  generalize aD m c (ix2 r' (col j)) = x4 at g4 ⊢
  subst g0 g1 g2 g3 g4
  rfl
/-- And the branches' gradients. -/
theorem dp_row (t : Fin cfg0.N) (y : S320x1024.Idx) (y' : S8320x1024.Idx) (h : (y' 0).val = 320 * t.val + (y 0).val) (h1 : (y' 1).val = (y 1).val) (o : ℕ) (ho : o ≤ 1024) :
    dp (n := 320) (iblk m c 0 t) (iblk m c 1 t) (iblk m c 4 t) o ho y = dp (aU m c) (aB m c) (aD m c) o ho y' := by
  obtain ⟨f0, f1, f2, f3, f4⟩ := row m c t (y 0) (y' 0) h
  have hy : (y 1).val < 1024 := (y 1).isLt
  have g0 := f0 ⟨o + (y 1).val, by omega⟩
  have g1 := f1 ⟨o + (y 1).val, by omega⟩
  have g4 := f4 (y 1)
  have e : y = ix2 (y 0) (y 1) := ext2 rfl rfl
  have e' : y' = ix2 (y' 0) (y 1) := ext2 rfl h1
  have ej : (⟨o + (y' 1).val, by omega⟩ : Fin 2048) = ⟨o + (y 1).val, by omega⟩ := Fin.ext (by show o + (y' 1).val = o + (y 1).val; omega)
  have k := congr (congrArg (fun v w : EReal => v * w) ((congrArg (iblk m c 4 t) e).trans (g4.trans (congrArg (aD m c) e').symm))) (congrArg sg (add2 g0 g1))
  refine k.trans ?_
  unfold dp gt
  rw [ej]

/-- The sums of columns after each point. -/
theorem out8 : ∀ (n : ℕ) (h : n < cfg0.N) (y : S1x2048.Idx), (outsAt0 m c n h).2.2.2 y = ∑ s ∈ Finset.range (n + 1), if hs : s < cfg0.N then csum m c ⟨s, hs⟩ (y 1) else 0
  | 0, h, y => by
    rw [out8_A m c ⟨0, h⟩ (Nat.zero_mod _) y, Finset.sum_range_one, dif_pos h]
    exact zero_add (M := EReal) _
  | n + 1, h, y => by
    have hN : n + 1 < 26 := h
    rw [out8_B m c ⟨n + 1, h⟩ (by show ¬(n + 1) % 26 = 0; omega) y, Finset.sum_range_succ, dif_pos h]
    exact congrArg (· + csum m c ⟨n + 1, h⟩ (y 1)) (out8 n (by omega) y)

/-- The four arrays after the run. -/
theorem final5 : (dats m 0 c).arrAt 5 cfg0.N = dp (aU m c) (aB m c) (aD m c) 0 (by omega) := by
  refine (dats m 0 c).arrAt_eq_of_covers 5 _ (by decide +kernel) fun t hf y => ?_
  obtain ⟨-, -, -, -, -, e, -⟩ := at_rows t
  blk_simp
  rw [after0_5, out5]
  refine dp_row m c t _ _ ?_ ?_ 0 (by omega) <;> blk_simp [e] <;> (try dsimp only) <;> omega
/-- The second branch's gradient. -/
theorem final6 : (dats m 0 c).arrAt 6 cfg0.N = dp (aU m c) (aB m c) (aD m c) 1024 (by omega) := by
  refine (dats m 0 c).arrAt_eq_of_covers 6 _ (by decide +kernel) fun t hf y => ?_
  obtain ⟨-, -, -, -, -, -, e, -⟩ := at_rows t
  blk_simp
  rw [after0_6, out6]
  refine dp_row m c t _ _ ?_ ?_ 1024 (by omega) <;> blk_simp [e] <;> (try dsimp only) <;> omega
/-- The gradient in front of the gates. -/
theorem final7 : (dats m 0 c).arrAt 7 cfg0.N = dgs (aU m c) (aB m c) (aP m c) (aQ m c) (aD m c) := by
  refine (dats m 0 c).arrAt_eq_of_covers 7 _ (by decide +kernel) fun t hf y => ?_
  obtain ⟨-, -, -, -, -, -, -, e, -⟩ := at_rows t
  blk_simp
  rw [after0_7, out7]
  have hj : ∀ (r : Fin 8320) (j j' : Fin 2048), j = j' → dg (aU m c) (aB m c) (aP m c) (aQ m c) (aD m c) r j = dg (aU m c) (aB m c) (aP m c) (aQ m c) (aD m c) r j' := by
    rintro r j j' rfl
    rfl
  refine (dg_row m c t _ _ ?_ _).trans (hj _ _ _ (Fin.ext ?_)) <;> blk_simp [e] <;> (try dsimp only) <;> omega
/-- The gradient of the bias. -/
theorem final8 : (dats m 0 c).arrAt 8 cfg0.N = dbs (aU m c) (aB m c) (aP m c) (aQ m c) (aD m c) := by
  refine (dats m 0 c).arrAt_eq_of_covers 8 _ (by decide +kernel) fun t hf y => ?_
  obtain ⟨-, -, -, -, -, -, -, -, e⟩ := at_rows t
  have ht : t.val = 25 := (by decide +kernel : ∀ t : Fin cfg0.N, (cfg0.win 8).flush t = true → t.val = 25) t hf
  blk_simp
  rw [after0_8]
  have hN : cfg0.N = 26 := N_0
  refine (out8 m c t.val t.isLt _).trans ?_
  rw [ht]
  refine Eq.trans (Finset.sum_congr rfl fun s hs => ?_) (sum_blocks 26 320 fun r : Fin 8320 => dg (aU m c) (aB m c) (aP m c) (aQ m c) (aD m c) r _).symm
  have h26 : s < 26 := Finset.mem_range.mp hs
  rw [dif_pos (by omega)]
  refine Finset.sum_congr rfl fun r _ => ?_
  have hr := r.isLt
  rw [dif_pos (by omega)]
  have hj : ∀ (r : Fin 8320) (j j' : Fin 2048), j = j' → dg (aU m c) (aB m c) (aP m c) (aQ m c) (aD m c) r j = dg (aU m c) (aB m c) (aP m c) (aQ m c) (aD m c) r j' := by
    rintro r j j' rfl
    rfl
  refine (dg_row m c ⟨s, by omega⟩ r ⟨320 * s + r.val, by omega⟩ rfl _).trans (hj _ _ _ (Fin.ext ?_)) <;> blk_simp [e] <;> (try dsimp only) <;> omega

end Cert.Kernel3Ideal.Hand

namespace Cert.Reference3Ideal.Hand
open Idealize.ShloMosaic Idealize.ShloMosaic.TcCoe Idealize.ShloMosaic.Tactic Cert.Reference3Ideal Cert.Reference3Ideal.Gen Cert.Mat Cert.Swiglu Cert.GateMix

variable (u : FVec Ideal S8320x2048 .bf16) (b : FVec Ideal S1x2048 .f32) (p q d : FVec Ideal S8320x1024 .bf16)
/-- The reference's gates. -/
def gate : FVec Ideal S8320x2048 .f32 := (Host.divf (broadcastInDim S8320x2048 ![] bcast_S_S8320x2048 (constant S_ .f32 0x3F800000#32)) (addf (broadcastInDim S8320x2048 ![] bcast_S_S8320x2048 (constant S_ .f32 0x3F800000#32)) (Host.exp (Host.negf (addf (extf .f32 u bitsLt_bf16_f32) (broadcastInDim S8320x2048 ![0, 1] bcast_S1x2048_S8320x2048_0_1 (broadcastInDim S1x2048 ![1] bcast_S2048_S1x2048_1 (shapeCast _ b shapeCasts_S1x2048_S2048))))))))
/-- They are the gates. -/
theorem gate_at (y : S8320x2048.Idx) : gate u b y = gt (n := 8320) u b (y 0) (y 1) := by
  unfold gate gt sg
  pointwise
/-- The first branch's gradient. -/
theorem ref5 : truncf .bf16 (mulf (shapeCast _ (extractStridedSlice S8320x1x1024 ![0, 0, 0] (shapeCast _ (gate u b) shapeCasts_S8320x2048_S8320x2x1024) slices_S8320x2x1024_S8320x1x1024_0_0_0) shapeCasts_S8320x1x1024_S8320x1024) (extf .f32 d bitsLt_bf16_f32)) bitsLt_bf16_f32 = dp (n := 8320) u b d 0 (by omega) := by
  funext y
  unfold dp
  pointwise
  rw [gate_at]
  exact mul_comm _ _
/-- The second branch's gradient. -/
theorem ref6 : truncf .bf16 (mulf (shapeCast _ (extractStridedSlice S8320x1x1024 ![0, 1, 0] (shapeCast _ (gate u b) shapeCasts_S8320x2048_S8320x2x1024) slices_S8320x2x1024_S8320x1x1024_0_1_0) shapeCasts_S8320x1x1024_S8320x1024) (extf .f32 d bitsLt_bf16_f32)) bitsLt_bf16_f32 = dp (n := 8320) u b d 1024 (by omega) := by
  funext y
  unfold dp
  pointwise
  rw [gate_at]
  exact mul_comm _ _
/-- The reference's gradient of the gates: each branch's part, padded by zeros. -/
def both : FVec Ideal S8320x2x1024 .f32 := addf (pad S8320x2x1024 ![0, 1, 0] ![0, 0, 0] ![0, 0, 0] (broadcastInDim S8320x1x1024 ![0, 2] bcast_S8320x1024_S8320x1x1024_0_2 (mulf (extf .f32 d bitsLt_bf16_f32) (extf .f32 q bitsLt_bf16_f32))) (constant S_ .f32 0x00000000#32) pads_S8320x1x1024_S8320x2x1024_000_100_000 h_S_) (pad S8320x2x1024 ![0, 0, 0] ![0, 1, 0] ![0, 0, 0] (broadcastInDim S8320x1x1024 ![0, 2] bcast_S8320x1024_S8320x1x1024_0_2 (mulf (extf .f32 d bitsLt_bf16_f32) (extf .f32 p bitsLt_bf16_f32))) (constant S_ .f32 0x00000000#32) pads_S8320x1x1024_S8320x2x1024_000_010_000 h_S_)
/-- The reference's gradient in front of the gates. -/
def front : FVec Ideal S8320x2048 .f32 := mulf (shapeCast _ (both p q d) shapeCasts_S8320x2x1024_S8320x2048) (mulf (gate u b) (subf (broadcastInDim S8320x2048 ![] bcast_S_S8320x2048 (constant S_ .f32 0x3F800000#32)) (gate u b)))
/-- One of two terms is there. -/
theorem one_of (j : Fin 2048) (P Q : EReal) : ((if _ : (1 ≤ j.val / 1024 ∧ j.val / 1024 - 1 < 1) ∧ j.val % 1024 < 1024 then Q else 0) +
    if _ : j.val / 1024 < 1 ∧ j.val % 1024 < 1024 then P else 0) = if j.val < 1024 then P else Q := by
  have hj := j.isLt
  by_cases h : j.val < 1024
  · rw [dif_neg (by omega), dif_pos (by omega), if_pos h, zero_add]
  · rw [dif_pos (by omega), dif_neg (by omega), if_neg h, add_zero]
/-- A gradient times a choice. -/
theorem pick (j : Fin 2048) (D P Q g : EReal) : (if j.val < 1024 then D * P else D * Q) * (g * (1 - g)) = D * (if j.val < 1024 then P else Q) * g * (1 - g) := by
  rw [← mul_assoc, ← apply_ite (D * ·)]
/-- A gradient in front of gates `g`. -/
def frontOf (g : FVec Ideal S8320x2048 .f32) : FVec Ideal S8320x2048 .f32 := mulf (shapeCast _ (both p q d) shapeCasts_S8320x2x1024_S8320x2048) (mulf g (subf (broadcastInDim S8320x2048 ![] bcast_S_S8320x2048 (constant S_ .f32 0x3F800000#32)) g))
/-- It is the branch's part times the gate and its complement. -/
theorem frontOf_ix (g : FVec Ideal S8320x2048 .f32) (r : Fin 8320) (j : Fin 2048) :
    frontOf p q d g (ix2 r j) = (d (ix2 r (col j)) * (if j.val < 1024 then p (ix2 r (col j)) else q (ix2 r (col j)))) * g (ix2 r j) * (1 - g (ix2 r j)) := by
  unfold frontOf both
  pointwise
  refine Eq.trans (congrArg (· * _) (one_of j (d (ix2 r (col j)) * p (ix2 r (col j))) (d (ix2 r (col j)) * q (ix2 r (col j))))) ?_
  exact pick j _ _ _ _
/-- It is the gradient in front of the gates. -/
theorem front_ix (r : Fin 8320) (j : Fin 2048) : front u b p q d (ix2 r j) = dg (n := 8320) u b p q d r j := by
  have h := frontOf_ix p q d (gate u b) r j
  have e : gate u b (ix2 r j) = gt (n := 8320) u b r j := gate_at u b (ix2 r j)
  rw [e] at h
  exact h
/-- At an index. -/
theorem front_at (y : S8320x2048.Idx) : front u b p q d y = dg (n := 8320) u b p q d (y 0) (y 1) :=
  (congrArg (front u b p q d) (ext2 (y := y) (z := ix2 (y 0) (y 1)) rfl rfl)).trans (front_ix u b p q d (y 0) (y 1))
/-- The gradient in front of the gates. -/
theorem ref7 : truncf .bf16 (front u b p q d) bitsLt_bf16_f32 = dgs u b p q d := funext (front_at u b p q d)
/-- The gradient of the bias. -/
theorem ref8 : shapeCast _ (Host.reduceAdd (shapeCast _ (Host.reduceAdd (front u b p q d) (constant S_ .f32 0x00000000#32) reducesTo_S8320x2048_S2048_d0 h_S_) shapeCasts_S2048_S1x2048) (constant S_ .f32 0x00000000#32) reducesTo_S1x2048_S2048_d0 h_S_) shapeCasts_S2048_S1x2048 = dbs u b p q d := by
  funext y
  unfold dbs
  pointwise
  simp only [front_at]
  exact Fin.sum_univ_one _

end Cert.Reference3Ideal.Hand

namespace Cert.Proof
open Idealize.ShloMosaic Idealize.ShloMosaic.TcCoe Idealize.SL.Sem Cert.GateMix Cert.Kernel3Ideal.Hand

/-- The printed kernel runs, its arguments unchanged and its counters at zero. -/
theorem frame_p3 : Cert.quiescent_Kernel3 := fun m g _ => Cert.Kernel3.Gen.frame m g
/-- So does the idealized one. -/
theorem frame_pi3 : Cert.quiescent_Kernel3Ideal := fun m g _ => Cert.Kernel3Ideal.Gen.frame m g
/-- So does the reference. -/
theorem frame_ri3 : Cert.quiescent_Reference3Ideal := fun m g _ =>
  (θ_run Cert.Reference3Ideal.defs _ _).mono (fun r h => ⟨fun c => (h c).2.2.2.2, sem_eq_zero_of_no_sems (by decide) r.2⟩) (Cert.Reference3Ideal.Value.run m g)
/-- No constant is named in the idealized kernel. -/
theorem named3 : Cert.preserves_Kernel3_Kernel3Ideal := trivial
/-- The idealized kernel's four gradients are the reference's. -/
theorem same3 : Cert.algebraic_Kernel3Ideal_Reference3Ideal := by
  intro m g m' g' _ hargs
  refine ⟨fun c => dp (n := 8320) (aU m c) (aB m c) (aD m c) 0 (by omega), fun c => dp (n := 8320) (aU m c) (aB m c) (aD m c) 1024 (by omega),
    fun c => dgs (aU m c) (aB m c) (aP m c) (aQ m c) (aD m c),
    fun c => dbs (aU m c) (aB m c) (aP m c) (aQ m c) (aD m c), ?_, ?_⟩
  · exact (θ_run Cert.Kernel3Ideal.defs _ _).mono (fun r h c => ⟨(h c).1.trans (final5 m c), (h c).2.1.trans (final6 m c),
      (h c).2.2.1.trans (final7 m c), (h c).2.2.2.1.trans (final8 m c), (h c).2.2.2.2⟩) (Cert.Kernel3Ideal.Value.run_blocks m g)
  · refine (θ_run Cert.Reference3Ideal.defs _ _).mono (fun r h c => ?_) (Cert.Reference3Ideal.Value.run m' g')
    obtain ⟨e0, e1, e2, e3, e4⟩ := hargs c
    refine ⟨(h c).1.trans ((Cert.Reference3Ideal.Hand.ref5 _ _ _).trans ?_), (h c).2.1.trans ((Cert.Reference3Ideal.Hand.ref6 _ _ _).trans ?_),
      (h c).2.2.1.trans ((Cert.Reference3Ideal.Hand.ref7 _ _ _ _ _).trans ?_), (h c).2.2.2.1.trans ((Cert.Reference3Ideal.Hand.ref8 _ _ _ _ _).trans ?_), (h c).2.2.2.2⟩
    · rw [e0, e1, e4]
    · rw [e0, e1, e4]
    · rw [e0, e1, e2, e3, e4]
    · rw [e0, e1, e2, e3, e4]

end Cert.Proof
-- ==== Proof.Adam.lean ====
module
public import proofs.«01_k».proof.Proof.Gen.Kernel11Ideal.Value
public import proofs.«01_k».proof.Proof.Gen.Reference11Ideal.Run
public import proofs.«01_k».proof.Proof.Gen.Kernel11.Frame
public import proofs.«01_k».proof.Defs
public import proofs.«01_k».proof.Proof.Mat
@[expose] public section
set_option maxRecDepth 16384
noncomputable section
namespace Cert.Adam
open Idealize.ShloMosaic Idealize.ShloMosaic.Tactic Idealize.ShloMosaic.TcCoe

/-- The number that a word is. -/
abbrev num (b : BitVec 32) : EReal := (Scalar.ofBits .f32 b : Ideal .f32)
/-- The new average of the gradient. -/
def avg (g m : EReal) : EReal := num 0x3F666666#32 * m + num 0x3DCCCCCD#32 * g
/-- The new average of its square. -/
def avg2 (g v : EReal) : EReal := num 0x3F7FBE77#32 * v + num 0x3A83126F#32 * (g * g)
/-- The step that is taken, the averages divided. -/
def step (g w m v : EReal) : EReal :=
  num 0xBA83126F#32 * (Ideal.div (Ideal.div (avg g m) (num 0x3F26BD02#32)) (Ideal.sqrt (Ideal.div (avg2 g v) (num 0x3C231ACC#32)) + num 0x322BCC77#32) + num 0x3C23D70A#32 * w)
/-- The first divisor. -/
theorem num_b1 : num 0x3F26BD02#32 = ((5463681 / 8388608 : ℝ) : EReal) := by
  show Ideal.ofBits .f32 _ = _
  simp [Ideal.ofBits, Ideal.ieee, -EReal.coe_mul]; norm_num
/-- The second divisor. -/
theorem num_b2 : num 0x3C231ACC#32 = ((2672307 / 268435456 : ℝ) : EReal) := by
  show Ideal.ofBits .f32 _ = _
  simp [Ideal.ofBits, Ideal.ieee, -EReal.coe_mul]; norm_num
/-- Dividing by the first divisor is multiplying by its inverse. -/
theorem over_b1 (x : EReal) : Ideal.div x (num 0x3F26BD02#32) = x * ((8388608 / 5463681 : ℝ) : EReal) := by
  rw [num_b1, Ideal.div_coe (by norm_num)]
  norm_num
/-- Dividing by the second one too. -/
theorem over_b2 (x : EReal) : Ideal.div x (num 0x3C231ACC#32) = x * ((268435456 / 2672307 : ℝ) : EReal) := by
  rw [num_b2, Ideal.div_coe (by norm_num)]
  norm_num

end Cert.Adam
namespace Cert.Kernel11Ideal.Hand
open Idealize.ShloMosaic Idealize.ShloMosaic.TcCoe Idealize.ShloMosaic.Tactic Cert.Kernel11Ideal Cert.Kernel11Ideal.Gen Cert.Adam

/-- The step that the kernel takes. -/
theorem step_at (g m v w : Vec Ideal S360x1024 .f32) : Value.G4 g m v w = fun y => step (g y) (w y) (m y) (v y) := by
  funext y
  unfold step
  rw [over_b1, over_b2]
  unfold avg avg2
  rfl

end Cert.Kernel11Ideal.Hand
namespace Cert.Reference11Ideal.Hand
open Idealize.ShloMosaic Idealize.ShloMosaic.TcCoe Idealize.ShloMosaic.Tactic Cert.Reference11Ideal Cert.Reference11Ideal.Gen Cert.Adam
end Cert.Reference11Ideal.Hand

namespace Cert.Proof
open Idealize.ShloMosaic Idealize.ShloMosaic.TcCoe Idealize.SL.Sem Cert.Adam

/-- The printed kernel runs, its arguments unchanged and its counters at zero. -/
theorem frame_p11 : Cert.quiescent_Kernel11 := fun m g _ => Cert.Kernel11.Gen.frame m g
/-- So does the idealized one. -/
theorem frame_pi11 : Cert.quiescent_Kernel11Ideal := fun m g _ => Cert.Kernel11Ideal.Gen.frame m g
/-- So does the reference. -/
theorem frame_ri11 : Cert.quiescent_Reference11Ideal := fun m g _ =>
  (θ_run Cert.Reference11Ideal.defs _ _).mono (fun r h => ⟨fun c => (h c).2.2.2, sem_eq_zero_of_no_sems (by decide) r.2⟩) (Cert.Reference11Ideal.Value.run m g)
/-- The named constants are what they stand for. -/
theorem named11 : Cert.preserves_Kernel11_Kernel11Ideal := ⟨IdealRules.named_const.statement _ _ _ _ _ rfl, IdealRules.named_const.statement _ _ _ _ _ rfl⟩
/-- The step and the averages are the reference's. -/
theorem same11 : Cert.algebraic_Kernel11Ideal_Reference11Ideal := by
  intro m g m' g' _ hargs
  refine ⟨_, _, _, (θ_run Cert.Kernel11Ideal.defs _ _).mono (fun r h c => ⟨(h c).1.trans (Cert.Kernel11Ideal.Hand.step_at _ _ _ _), (h c).2⟩) (Cert.Kernel11Ideal.Value.run m g), ?_⟩
  refine (θ_run Cert.Reference11Ideal.defs _ _).mono (fun r h c => ?_) (Cert.Reference11Ideal.Value.run m' g')
  obtain ⟨e0, e1, e2, e3⟩ := hargs c
  refine ⟨(h c).1.trans ?_, (h c).2.1.trans ?_, (h c).2.2.1.trans ?_, (h c).2.2.2⟩
  all_goals rw [e0]
  · rw [e1, e2, e3]
    rfl
  · rw [e2]
    rfl
  · rw [e3]
    rfl

end Cert.Proof
-- ==== Proof.Norm.lean ====
module
public import proofs.«01_k».proof.Proof.Gen.Kernel12Ideal.Value
public import proofs.«01_k».proof.Proof.Gen.Reference12Ideal.Run
public import proofs.«01_k».proof.Proof.Gen.Kernel12.Frame
public import proofs.«01_k».proof.Proof.Gen.Pre_finite12
public import proofs.«01_k».proof.Proof.GateMix
public import proofs.«01_k».proof.Proof.Adam
public import proofs.«01_k».proof.Defs
@[expose] public section
set_option maxRecDepth 16384
noncomputable section
namespace Cert.Norm
open Cert.Mat Cert.Adam Cert.KernelIdeal.Hand
open Idealize.ShloMosaic Idealize.ShloMosaic.Tactic Idealize.ShloMosaic.TcCoe
open scoped BigOperators

/-- The number of columns, as the programs write it. -/
theorem num_n : num 0x44800000#32 = ((1024 : ℝ) : EReal) := by
  show Ideal.ofBits .f32 _ = _
  simp [Ideal.ofBits, Ideal.ieee, -EReal.coe_mul]; norm_num
/-- Minus one half. -/
theorem num_h : num 0xBF000000#32 = ((-(1 / 2) : ℝ) : EReal) := by
  show Ideal.ofBits .f32 _ = _
  simp [Ideal.ofBits, Ideal.ieee, -EReal.coe_mul]; norm_num
/-- What is added to a mean square is a positive real number. -/
theorem num_e : ∃ e : ℝ, 0 < e ∧ num 0x358637BD#32 = (e : EReal) := by
  refine ⟨8796093 * 2 ^ (-43 : ℤ), by positivity, ?_⟩
  show Ideal.ofBits .f32 _ = _
  simp [Ideal.ofBits, Ideal.ieee, -EReal.coe_mul]

/-- A row's mean square and the number added to it. -/
def ms (x : Fin 1024 → EReal) : EReal := Ideal.div (∑ k, x k * x k) (num 0x44800000#32) + num 0x358637BD#32
/-- The gradient of a row through its norm, its normalised row's mean product taken away. -/
def dr (x g d : Fin 1024 → EReal) (j : Fin 1024) : EReal :=
  Ideal.rsqrt (ms x) * (d j * g j - x j * Ideal.rsqrt (ms x) * Ideal.div (∑ k, d k * g k * (x k * Ideal.rsqrt (ms x))) (num 0x44800000#32))
/-- The factor of the row itself in the gradient, as the chain rule has it. -/
def half (x g d : Fin 1024 → EReal) : EReal :=
  Ideal.div ((∑ k, x k * (d k * g k)) * (num 0xBF000000#32 * Ideal.div (Ideal.rsqrt (ms x)) (ms x))) (num 0x44800000#32)

/-- The chain rule's gradient of a row of real numbers is the gradient above. -/
theorem dr_eq (x g d : Fin 1024 → ℝ) (j : Fin 1024) :
    (d j : EReal) * g j * Ideal.rsqrt (ms fun k => (x k : EReal)) + ((x j : EReal) * half (fun k => (x k : EReal)) (fun k => (g k : EReal)) (fun k => (d k : EReal))
      + half (fun k => (x k : EReal)) (fun k => (g k : EReal)) (fun k => (d k : EReal)) * x j)
      = dr (fun k => (x k : EReal)) (fun k => (g k : EReal)) (fun k => (d k : EReal)) j := by
  obtain ⟨e, he, hn⟩ := num_e
  have h0 : (0 : ℝ) ≤ ∑ k, x k * x k := Finset.sum_nonneg fun k _ => mul_self_nonneg _
  have hv : 0 < (∑ k, x k * x k) / 1024 + e := by positivity
  have hm : ms (fun k => (x k : EReal)) = (((∑ k, x k * x k) / 1024 + e : ℝ) : EReal) := by
    unfold ms
    rw [coe_dot, num_n, hn, div_real _ (by norm_num), ← EReal.coe_add]
  generalize (∑ k, x k * x k) / 1024 + e = v at hv hm
  have hq : (Real.sqrt v)⁻¹ * (Real.sqrt v)⁻¹ = v⁻¹ := by rw [← mul_inv, Real.mul_self_sqrt hv.le]
  unfold dr half
  rw [hm, Ideal.rsqrt_coe, if_neg hv.not_gt, if_neg hv.ne', num_n, num_h, div_real _ hv.ne']
  generalize (Real.sqrt v)⁻¹ = q at hq
  simp only [← EReal.coe_mul, coe_sum', div_real _ (by norm_num : (1024 : ℝ) ≠ 0), ← EReal.coe_sub, ← EReal.coe_add]
  have hs : ∑ k, d k * g k * (x k * q) = q * ∑ k, x k * (d k * g k) := by
    rw [Finset.mul_sum]
    exact Finset.sum_congr rfl fun k _ => by ring
  rw [hs, div_eq_mul_inv q v, ← hq]
  exact congrArg _ (by ring)

/-- The gradient of the rows: through the norm, and straight on. -/
def dxs {n : ℕ} (x : Mx n 1024) (g : Mx 1 1024) (d e : Mx n 1024) : Mx n 1024 :=
  fun y => dr (fun k => x (ix2 (y 0) k)) (fun k => g (ix2 0 k)) (fun k => d (ix2 (y 0) k)) (y 1) + e y
/-- What a row adds to the gradient of the weight. -/
def wt {n : ℕ} (x d : Mx n 1024) (r : Fin n) (j : Fin 1024) : EReal := d (ix2 r j) * (x (ix2 r j) * Ideal.rsqrt (ms fun k => x (ix2 r k)))
/-- The gradient of the weight: the sum over the rows. -/
def dws (x d : Mx 8320 1024) : Mx 1 1024 := fun y => ∑ r : Fin 8320, wt x d r (y 1)

end Cert.Norm

namespace Cert.Kernel12Ideal.Hand
open Idealize.ShloMosaic Idealize.ShloMosaic.TcCoe Idealize.ShloMosaic.Tactic Cert.Kernel12Ideal Cert.Kernel12Ideal.Gen Cert.Mat Cert.GateMix Cert.Norm Cert.Adam
open scoped BigOperators

variable (x d e : Vec Ideal S640x1024 .f32) (g z : Vec Ideal S1x1024 .f32)
/-- The reciprocal roots of the rows' mean squares. -/
theorem pay2_at (y : S640x1.Idx) : k0_pay2 x y = Ideal.rsqrt (ms fun k => x (ix2 (y 0) k)) := by
  unfold k0_pay2 ms
  pointwise
/-- The normalised rows. -/
theorem pay3_at (y : S640x1024.Idx) : k0_pay3 x y = x y * Ideal.rsqrt (ms fun k => x (ix2 (y 0) k)) := by
  unfold k0_pay3
  pointwise
  rw [pay2_at]
  rfl
/-- A fresh row is zero. -/
theorem pay1_at (y : S1x1024.Idx) : (k0_pay1 (F := Ideal)) y = 0 := by
  unfold k0_pay1
  pointwise
/-- A row that sums over the block's rows. -/
theorem pay4_at (y : S1x1024.Idx) : k0_pay4 x d z y = z y + ∑ r : Fin 640, wt (n := 640) x d r (y 1) := by
  unfold k0_pay4 wt
  rw [shapeCast_self]
  pointwise
  simp only [pay3_at]
  rfl
/-- The gradient of the block's rows. -/
theorem pay5_at (y : S640x1024.Idx) : k0_pay5 x d g e y = dxs (n := 640) x g d e y := by
  unfold k0_pay5 dxs dr
  pointwise
  simp only [pay3_at, pay2_at]
  rfl

variable (m : (ℓ : Loc nD τ sig) → Buf (Elt Ideal) ℓ) (c : Dev nD)

/-- What a point leaves of the rows' gradient. -/
theorem out4 (t : Fin cfg0.N) : (outsAt0 m c t.val t.isLt).1 = dxs (n := 640) (iblk m c 0 t) (iblk m c 1 t) (iblk m c 2 t) (iblk m c 3 t) := by
  funext y
  refine Eq.trans (congrFun ?_ y) (pay5_at _ _ _ _ y)
  by_cases h0 : t.val % 13 = 0
  · rw [outsAt0_A m c t h0]
    dsimp only [out0_A_4, kernelRun0_A]
    rw [View.read_writes_junk_eq_canon, View.canon_unit_zero hz]
    unfold kernelRun0_A.sl.r
    simp only [View.readAt_eq_ld, Memref.IsWhole.read_unread, View.ld_unit_zero (S := S640x1024) hz, View.ld_unit_zero (S := S1x1024) hz]
  · rw [outsAt0_B m c t h0]
    dsimp only [out0_B_4, kernelRun0_B]
    rw [View.read_writes_junk_eq_canon, View.canon_unit_zero hz]
    unfold kernelRun0_B.sl.r
    simp only [View.readAt_eq_ld, Memref.IsWhole.read_unread, View.ld_unit_zero (S := S640x1024) hz, View.ld_unit_zero (S := S1x1024) hz]

/-- The block's sum of a column. -/
def csum (t : Fin cfg0.N) (j : Fin 1024) : EReal := ∑ r : Fin 640, wt (n := 640) (iblk m c 0 t) (iblk m c 2 t) r j
/-- The first point's sums of columns. -/
theorem out5_A (t : Fin cfg0.N) (h0 : t.val % 13 = 0) (y : S1x1024.Idx) : (outsAt0 m c t.val t.isLt).2 y = 0 + csum m c t (y 1) := by
  rw [outsAt0_A m c t h0]
  dsimp only [out0_A_5, kernelRun0_A]
  rw [View.read_writes_junk_eq_canon, View.canon_cons_unit_zero hz]
  unfold kernelRun0_A.sl.v15 kernelRun0_A.sl.H5_1
  simp only [View.readAt_eq_ld, Memref.IsWhole.read_unread, View.ld_unit_zero (S := S640x1024) hz, View.ld_unit_zero (S := S1x1024) hz, View.readCov_eq_canon']
  refine (pay4_at _ _ _ y).trans (add2 ?_ rfl)
  rw [View.canon_unit_zero (S := S1x1024) hz]
  exact pay1_at _
/-- A later point adds its sums. -/
theorem out5_B (t : Fin cfg0.N) (h0 : ¬t.val % 13 = 0) (y : S1x1024.Idx) : (outsAt0 m c t.val t.isLt).2 y
    = (outsAt0 m c (t.val - 1) (Nat.lt_of_le_of_lt (Nat.sub_le _ _) t.isLt)).2 y + csum m c t (y 1) := by
  rw [outsAt0_B m c t h0]
  dsimp only [out0_B_5, kernelRun0_B]
  rw [View.read_writes_junk_eq_canon, View.canon_unit_zero hz]
  simp only [View.readAt_eq_ld, Memref.IsWhole.read_unread, View.ld_unit_zero (S := S640x1024) hz, View.ld_unit_zero (S := S1x1024) hz]
  exact pay4_at _ _ _ y

/-- Which blocks a point's rows are on, whose column block is always the first. -/
theorem at_rows : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![0, 0])

/-- The rows. -/
abbrev aX : Mx 8320 1024 := m ((c : Thread nD τ).loc main_arg0)
/-- The weight. -/
abbrev aG : Mx 1 1024 := m ((c : Thread nD τ).loc main_arg1)
/-- The normalised rows' gradient. -/
abbrev aD : Mx 8320 1024 := m ((c : Thread nD τ).loc main_arg2)
/-- The gradient that goes straight on. -/
abbrev aE : Mx 8320 1024 := m ((c : Thread nD τ).loc main_arg3)

/-- A row of the arguments' blocks is a row of the arguments. -/
theorem row (t : Fin cfg0.N) (r : Fin 640) (r' : Fin 8320) (h : r'.val = 640 * t.val + r.val) :
    (∀ j, iblk m c 0 t (ix2 r j) = aX m c (ix2 r' j)) ∧ (∀ j, iblk m c 1 t (ix2 0 j) = aG m c (ix2 0 j)) ∧ (∀ j, iblk m c 2 t (ix2 r j) = aD m c (ix2 r' j))
      ∧ ∀ j, iblk m c 3 t (ix2 r j) = aE m c (ix2 r' j) := by
  obtain ⟨e0, e1, e2, e3, -⟩ := at_rows t
  refine ⟨fun j => congrArg (aX m c) (ext2 ?_ ?_), fun j => congrArg (aG m c) (ext2 ?_ ?_), fun j => congrArg (aD m c) (ext2 ?_ ?_),
    fun j => congrArg (aE m c) (ext2 ?_ ?_)⟩ <;> blk_simp [iblk, e0, e1, e2, e3] <;> (try dsimp only) <;> omega

/-- Equal rows have equal gradients. -/
theorem dr_congr {x x' g g' d d' : Fin 1024 → EReal} {j j' : Fin 1024} (h0 : ∀ k, x k = x' k) (h1 : ∀ k, g k = g' k) (h2 : ∀ k, d k = d' k) (h3 : j = j') :
    dr x g d j = dr x' g' d' j' := by
  obtain rfl : x = x' := funext h0
  obtain rfl : g = g' := funext h1
  obtain rfl : d = d' := funext h2
  rw [h3]
/-- And add equal terms to the weight's. -/
theorem wt_congr {n n' : ℕ} {x d : Mx n 1024} {x' d' : Mx n' 1024} {r : Fin n} {r' : Fin n'} {j j' : Fin 1024} (h0 : ∀ k, x (ix2 r k) = x' (ix2 r' k))
    (h2 : ∀ k, d (ix2 r k) = d' (ix2 r' k)) (h3 : j = j') : wt x d r j = wt x' d' r' j' := by
  subst h3
  unfold wt
  rw [h0 j, h2 j, (funext h0 : (fun k => x (ix2 r k)) = fun k => x' (ix2 r' k))]

/-- The sums of columns after each point. -/
theorem out5 : ∀ (n : ℕ) (h : n < cfg0.N) (y : S1x1024.Idx), (outsAt0 m c n h).2 y = ∑ s ∈ Finset.range (n + 1), if hs : s < cfg0.N then csum m c ⟨s, hs⟩ (y 1) else 0
  | 0, h, y => by
    rw [out5_A m c ⟨0, h⟩ (Nat.zero_mod _) y, Finset.sum_range_one, dif_pos h]
    exact zero_add (M := EReal) _
  | n + 1, h, y => by
    have hN : n + 1 < 13 := h
    rw [out5_B m c ⟨n + 1, h⟩ (by show ¬(n + 1) % 13 = 0; omega) y, Finset.sum_range_succ, dif_pos h]
    exact congrArg (· + csum m c ⟨n + 1, h⟩ (y 1)) (out5 n (by omega) y)

/-- The gradient of the rows, after the run. -/
theorem final4 : (dats m 0 c).arrAt 4 cfg0.N = dxs (aX m c) (aG m c) (aD m c) (aE m c) := by
  refine (dats m 0 c).arrAt_eq_of_covers 4 _ (by decide +kernel) fun t hf y => ?_
  obtain ⟨-, -, -, -, e, -⟩ := at_rows t
  blk_simp
  rw [after0_4, out4]
  have hr : ∀ (y : S640x1024.Idx) (y' : S8320x1024.Idx), (y' 0).val = 640 * t.val + (y 0).val → (y' 1).val = (y 1).val →
      dxs (n := 640) (iblk m c 0 t) (iblk m c 1 t) (iblk m c 2 t) (iblk m c 3 t) y = dxs (aX m c) (aG m c) (aD m c) (aE m c) y' := by
    intro y y' h h1
    obtain ⟨f0, f1, f2, f3⟩ := row m c t (y 0) (y' 0) h
    refine add2 (dr_congr f0 f1 f2 (Fin.ext h1.symm)) ?_
    exact (congrArg (iblk m c 3 t) (ext2 (y := y) (z := ix2 (y 0) (y 1)) rfl rfl)).trans ((f3 (y 1)).trans (congrArg (aE m c) (ext2 (y := ix2 (y' 0) (y 1)) (z := y') rfl h1.symm)))
  refine hr _ _ ?_ ?_ <;> blk_simp [e] <;> (try dsimp only) <;> omega
/-- The gradient of the weight. -/
theorem final5 : (dats m 0 c).arrAt 5 cfg0.N = dws (aX m c) (aD m c) := by
  refine (dats m 0 c).arrAt_eq_of_covers 5 _ (by decide +kernel) fun t hf y => ?_
  obtain ⟨-, -, -, -, -, e⟩ := at_rows t
  have ht : t.val = 12 := (by decide +kernel : ∀ t : Fin cfg0.N, (cfg0.win 5).flush t = true → t.val = 12) t hf
  blk_simp
  rw [after0_5]
  have hN : cfg0.N = 13 := N_0
  refine (out5 m c t.val t.isLt _).trans ?_
  rw [ht]
  refine Eq.trans (Finset.sum_congr rfl fun s hs => ?_) (sum_blocks 13 640 fun r : Fin 8320 => wt (aX m c) (aD m c) r _).symm
  have h13 : s < 13 := Finset.mem_range.mp hs
  rw [dif_pos (by omega)]
  refine Finset.sum_congr rfl fun r _ => ?_
  have hr := r.isLt
  rw [dif_pos (by omega)]
  obtain ⟨f0, -, f2, -⟩ := row m c ⟨s, by omega⟩ r ⟨640 * s + r.val, by omega⟩ rfl
  refine wt_congr f0 f2 (Fin.ext ?_)
  blk_simp [e] <;> (try dsimp only) <;> omega

end Cert.Kernel12Ideal.Hand

namespace Cert.Reference12Ideal.Hand
open Idealize.ShloMosaic Idealize.ShloMosaic.TcCoe Idealize.ShloMosaic.Tactic Cert.Reference12Ideal Cert.Reference12Ideal.Gen Cert.Mat Cert.GateMix Cert.Norm Cert.Adam
open scoped BigOperators

variable (x d e : FVec Ideal S8320x1024 .f32) (g : FVec Ideal S1x1024 .f32)
/-- The reference's mean squares. -/
def msq : FVec Ideal S8320x1 .f32 := addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))
/-- They are the rows'. -/
theorem msq_at (y : S8320x1.Idx) : msq x y = ms fun k => x (ix2 (y 0) k) := by
  unfold msq ms
  pointwise
/-- The row's factor from mean squares `v`. -/
def halfOf (v : FVec Ideal S8320x1 .f32) : FVec Ideal S8320x1 .f32 := Host.divf (mulf (shapeCast _ (Host.reduceAdd (mulf x (mulf d (broadcastInDim S8320x1024 ![0, 1] bcast_S1x1024_S8320x1024_0_1 g))) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt v) v))) (broadcastInDim S8320x1 ![] bcast_S_S8320x1 (constant S_ .f32 0x44800000#32))
/-- At an index. -/
theorem halfOf_at (v : FVec Ideal S8320x1 .f32) (y : S8320x1.Idx) : halfOf x d g v y
    = Ideal.div ((∑ k, x (ix2 (y 0) k) * (d (ix2 (y 0) k) * g (ix2 0 k))) * (num 0xBF000000#32 * Ideal.div (Ideal.rsqrt (v y)) (v y))) (num 0x44800000#32) := by
  unfold halfOf
  pointwise
/-- The factor, one per row. -/
def fac : FVec Ideal S8320 .f32 := Host.reduceAdd (halfOf x d g (msq x)) (constant S_ .f32 0x00000000#32) reducesTo_S8320x1_S8320_d1 h_S_
/-- It is the chain rule's. -/
theorem fac_at (y : S8320.Idx) : fac x d g y = half (fun k => x (ix2 (y 0) k)) (fun k => g (ix2 0 k)) (fun k => d (ix2 (y 0) k)) := by
  unfold fac
  pointwise
  exact (Fin.sum_univ_one _).trans ((halfOf_at x d g (msq x) _).trans (by rw [msq_at]; rfl))
/-- The gradient of the rows from mean squares `v` and factors `s`. -/
theorem rows_at (v : FVec Ideal S8320x1 .f32) (s : FVec Ideal S8320 .f32) (y : S8320x1024.Idx) :
    addf (addf (addf e (mulf (mulf d (broadcastInDim S8320x1024 ![0, 1] bcast_S1x1024_S8320x1024_0_1 g)) (broadcastInDim S8320x1024 ![0, 1] bcast_S8320x1_S8320x1024_0_1 (Host.rsqrt v)))) (mulf x (broadcastInDim S8320x1024 ![0] bcast_S8320_S8320x1024_0 s))) (mulf (broadcastInDim S8320x1024 ![0] bcast_S8320_S8320x1024_0 s) x) y
      = e y + d y * g (ix2 0 (y 1)) * Ideal.rsqrt (v (ix2 (y 0) 0)) + x y * s (ix1 (y 0)) + s (ix1 (y 0)) * x y := by
  pointwise

/-- The reference's gradient of the rows, for real numbers. -/
theorem ref4 (hx : ∀ y, x y = ((x y).toReal : EReal)) (hg : ∀ y, g y = ((g y).toReal : EReal)) (hd : ∀ y, d y = ((d y).toReal : EReal)) :
    addf (addf (addf e (mulf (mulf d (broadcastInDim S8320x1024 ![0, 1] bcast_S1x1024_S8320x1024_0_1 g)) (broadcastInDim S8320x1024 ![0, 1] bcast_S8320x1_S8320x1024_0_1 (Host.rsqrt (msq x))))) (mulf x (broadcastInDim S8320x1024 ![0] bcast_S8320_S8320x1024_0 (fac x d g)))) (mulf (broadcastInDim S8320x1024 ![0] bcast_S8320_S8320x1024_0 (fac x d g)) x)
      = dxs (n := 8320) x g d e := by
  funext y
  rw [rows_at, msq_at, fac_at]
  have h := dr_eq (fun k => (x (ix2 (y 0) k)).toReal) (fun k => (g (ix2 0 k)).toReal) (fun k => (d (ix2 (y 0) k)).toReal) (y 1)
  simp only [← hx, ← hg, ← hd] at h
  have ey : y = ix2 (y 0) (y 1) := ext2 (y := y) (z := ix2 (y 0) (y 1)) rfl rfl
  refine Eq.trans ?_ (congrArg (· + e y) h)
  have ac : ∀ A B C E : EReal, E + A + B + C = A + (B + C) + E := fun A B C E => by rw [add_assoc (E + A), add_assoc E, add_comm E]
  rw [ey]
  exact ac _ _ _ _
/-- The reference's gradient of the weight. -/
theorem ref5 : shapeCast S1x1024 (Host.reduceAdd (mulf (mulf x (broadcastInDim S8320x1024 ![0, 1] bcast_S8320x1_S8320x1024_0_1 (Host.rsqrt (msq x)))) d) (constant S_ .f32 0x00000000#32) reducesTo_S8320x1024_S1024_d0 h_S_) shapeCasts_S1024_S1x1024 = dws x d := by
  funext y
  unfold dws wt
  pointwise
  refine Finset.sum_congr rfl fun r _ => ?_
  rw [msq_at]
  exact mul_comm _ _
/-- Arrays that pass the precondition's test hold real numbers. -/
theorem finite_real (h : Cert.Pre_finite12.fn (F := Ideal) x g d e = fun _ => 1#1) :
    (∀ y, x y = ((x y).toReal : EReal)) ∧ (∀ y, g y = ((g y).toReal : EReal)) ∧ ∀ y, d y = ((d y).toReal : EReal) := by
  have e := congrFun h ix0
  dsimp only [Cert.Pre_finite12.fn] at e
  obtain ⟨e12, e3⟩ := IntOp.andi_eq_one.1 e
  obtain ⟨e1, e2⟩ := IntOp.andi_eq_one.1 e12
  haveI : Subsingleton Cert.Pre_finite12.S_.Idx := ⟨fun a b => funext fun i => i.elim0⟩
  exact ⟨fun y => Cert.KernelIdeal.Hand.real_of_lt _ (Host.reduce_andi_all _ _ _ _ _ e1 y), fun y => Cert.KernelIdeal.Hand.real_of_lt _ (Host.reduce_andi_all _ _ _ _ _ e2 y),
    fun y => Cert.KernelIdeal.Hand.real_of_lt _ (Host.reduce_andi_all _ _ _ _ _ e3 y)⟩

end Cert.Reference12Ideal.Hand

namespace Cert.Proof
open Idealize.ShloMosaic Idealize.ShloMosaic.TcCoe Idealize.SL.Sem Cert.Norm Cert.Kernel12Ideal.Hand

/-- The printed kernel runs, its arguments unchanged and its counters at zero. -/
theorem frame_p12 : Cert.quiescent_Kernel12 := fun m g _ => Cert.Kernel12.Gen.frame m g
/-- So does the idealized one. -/
theorem frame_pi12 : Cert.quiescent_Kernel12Ideal := fun m g _ => Cert.Kernel12Ideal.Gen.frame m g
/-- So does the reference. -/
theorem frame_ri12 : Cert.quiescent_Reference12Ideal := fun m g _ =>
  (θ_run Cert.Reference12Ideal.defs _ _).mono (fun r h => ⟨fun c => (h c).2.2, sem_eq_zero_of_no_sems (by decide) r.2⟩) (Cert.Reference12Ideal.Value.run m g)
/-- No constant is named in the idealized kernel. -/
theorem named12 : Cert.preserves_Kernel12_Kernel12Ideal := trivial
/-- The idealized kernel's two gradients are the reference's, for finite arguments. -/
theorem same12 : Cert.algebraic_Kernel12Ideal_Reference12Ideal_pre_finite12 := by
  intro m g m' g' hpre hargs
  refine ⟨fun c => dxs (aX m c) (aG m c) (aD m c) (aE m c), fun c => dws (aX m c) (aD m c), ?_, ?_⟩
  · exact (θ_run Cert.Kernel12Ideal.defs _ _).mono (fun r h c => ⟨(h c).1.trans (final4 m c), (h c).2.1.trans (final5 m c), (h c).2.2⟩) (Cert.Kernel12Ideal.Value.run_blocks m g)
  · refine (θ_run Cert.Reference12Ideal.defs _ _).mono (fun r h c => ?_) (Cert.Reference12Ideal.Value.run m' g')
    obtain ⟨e0, e1, e2, e3⟩ := hargs c
    obtain ⟨hx, hg, hd⟩ := Cert.Reference12Ideal.Hand.finite_real _ _ _ _ (hpre c)
    refine ⟨(h c).1.trans ((Cert.Reference12Ideal.Hand.ref4 _ _ _ _ (by rw [e0]; exact hx) (by rw [e1]; exact hg) (by rw [e2]; exact hd)).trans ?_), (h c).2.1.trans ((Cert.Reference12Ideal.Hand.ref5 _ _).trans ?_), (h c).2.2⟩
    · rw [e0, e1, e2, e3]
    · rw [e0, e2]

end Cert.Proof
-- ==== Proof.Halves.lean ====
module
public import proofs.«01_k».proof.Proof.Gen.Kernel13Ideal.Frame
public import proofs.«01_k».proof.Proof.Gen.Reference13Ideal.Run
public import proofs.«01_k».proof.Proof.Gen.Kernel13.Frame
public import proofs.«01_k».proof.Proof.Adam
public import proofs.«01_k».proof.Defs
@[expose] public section
set_option maxRecDepth 16384
noncomputable section
namespace Cert.Halves
open Cert.Mat Cert.Adam
open Idealize.ShloMosaic Idealize.ShloMosaic.Tactic Idealize.ShloMosaic.TcCoe

/-- The half that a block of rows is in, as the kernel counts it: a division that rounds down. -/
def half (n a : BitVec 32) : BitVec 32 :=
  Scalar.select (Scalar.andi (Scalar.cmpi .ne (Scalar.subi (Scalar.extui (Scalar.cmpi .sgt a 0#32)) (Scalar.extui (Scalar.cmpi .slt a 0#32)) : BitVec 32)
    (Scalar.subi (Scalar.extui (Scalar.cmpi .sgt n 0#32)) (Scalar.extui (Scalar.cmpi .slt n 0#32)))) (Scalar.cmpi .ne (Scalar.remsi a n) 0#32))
    (Scalar.subi (Scalar.divsi a n) 1#32) (Scalar.divsi a n)
/-- One of two numbers, by a word. -/
def one (w v : BitVec 32) (a b : EReal) : EReal := if v = w then a else b
/-- It is the selection that compares the two words. -/
theorem one_at (w v : BitVec 32) (a b : EReal) : Scalar.select (IntOp.cmpi .eq w v) a b = one w v a b := by
  unfold one
  by_cases h : v = w
  · simp [Scalar.select, IntOp.cmpi, h]
  · have hb : (w == v) = false := beq_eq_false_iff_ne.2 (Ne.symm h)
    simp [Scalar.select, IntOp.cmpi, h, hb]
/-- The gradient put together: in each half of its rows what this core summed, or what its partner did. -/
def whole {h c n : ℕ} (h0 : 0 < h) (a b : Mx h c) (w : BitVec 32) : Mx n c :=
  fun y => one w (BitVec.ofNat 32 ((y 0).val / h)) (a (ix2 ⟨(y 0).val % h, Nat.mod_lt _ h0⟩ (y 1))) (b (ix2 ⟨(y 0).val % h, Nat.mod_lt _ h0⟩ (y 1)))

end Cert.Halves
namespace Cert.Kernel13Ideal.Hand
open Idealize.ShloMosaic Idealize.ShloMosaic.TcCoe Idealize.ShloMosaic.Tactic Cert.Kernel13Ideal Cert.Kernel13Ideal.Gen Cert.Mat Cert.Adam Cert.Halves

/-- No window's block depends on the word. -/
theorem ok {F : FTy → Type} [FloatOps F] [Named F] (m : (ℓ : Loc nD τ sig) → Buf (Elt F) ℓ) : Ok m := trivial

/-- The half of each point. -/
theorem half_at : ∀ t : Fin grid0.N, half 4#32 (BitVec.ofNat 32 (grid0.coords t 0).val) = BitVec.ofNat 32 (t.val / 4) := by decide +kernel

variable (w : BitVec 32) (a b p q r : Vec Ideal S128x1408 .f32)
/-- The block's gradient. -/
theorem pay2_at (t : Fin grid0.N) (y : S128x1408.Idx) : k0_pay2 (F := Ideal) (grid0.coords t) w a b y = one w (BitVec.ofNat 32 (t.val / 4)) (a y) (b y) := by
  have e : k0_pay2 (F := Ideal) (grid0.coords t) w a b = Scalar.select (Scalar.cmpi .eq (half 4#32 (BitVec.ofNat 32 (grid0.coords t 0).val)) w) a b := rfl
  rw [e, half_at]
  unfold one
  by_cases h : BitVec.ofNat 32 (t.val / 4) = w
  · simp [Scalar.select, Scalar.cmpi, IntOp.cmpi, h]
  · have hb : (BitVec.ofNat 32 (t.val / 4) == w) = false := beq_eq_false_iff_ne.2 h
    simp [Scalar.select, Scalar.cmpi, IntOp.cmpi, h, hb]

variable (m : (ℓ : Loc nD τ sig) → Buf (Elt Ideal) ℓ) (c : Dev nD)

/-- Which blocks a point's rows are on. -/
theorem at_rows : ∀ t : Fin grid0.N, cc0_transform_0 (grid0.coords t) = ![t.val % 4, 0] ∧ cc0_transform_1 (grid0.coords t) = ![t.val % 4, 0]
    ∧ cc0_transform_2 (grid0.coords t) = ![t.val, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0] ∧ cc0_transform_7 (grid0.coords t) = ![t.val, 0]
    ∧ cc0_transform_8 (grid0.coords t) = ![t.val, 0] := by decide +kernel

/-- What this core summed. -/
abbrev aA : Mx 512 1408 := m ((c : Thread nD τ).loc main_arg0)
/-- What its partner summed. -/
abbrev aB : Mx 512 1408 := m ((c : Thread nD τ).loc main_arg1)
/-- Which core this is. -/
abbrev aC : BitVec 32 := (m ((c : Thread nD τ).loc main_arg2) : S_.Idx → BitVec 32) fun i => i.elim0
/-- The weight. -/
abbrev aW : Mx 1024 1408 := m ((c : Thread nD τ).loc main_arg3)
/-- The average of the gradient. -/
abbrev aM : Mx 1024 1408 := m ((c : Thread nD τ).loc main_arg4)
/-- The average of its square. -/
abbrev aV : Mx 1024 1408 := m ((c : Thread nD τ).loc main_arg5)
/-- The gradient. -/
abbrev aG : Mx 1024 1408 := whole (h := 512) (n := 1024) (by omega) (aA m c) (aB m c) (aC m c)

/-- The word that the launch reads. -/
theorem V_core : V m c main_v0 = shapeCast S1 (m (c, Proc.devRef .tc main_arg2)) shapeCasts_S_S1 := by
  entry_read
  rfl
/-- It is the core's. -/
theorem core_at : kernelRun0_A.sl.r c (tbl m 0) = aC m c := by
  have e : tbl m 0 = V m c main_v0 := (V_pre m c 0).symm
  rw [e, V_core]
  unfold kernelRun0_A.sl.r
  exact congrArg (m ((c : Thread nD τ).loc main_arg2) : S_.Idx → BitVec 32) (funext fun i => i.elim0)

/-- What a body reads of a whole buffer. -/
theorem ld_at (ms : Memref sig .tc .vmem S128x1408 .f32) (hs : ms.IsWhole) (x : Vec Ideal S128x1408 .f32) :
    View.readAt (Elt Ideal) ms.view (Rect.unit (s := S128x1408) ![0, 0] S128x1408.size inb_S128x1408_S128x1408_0_0).toLoadRect (hs.unread x) = x := by
  rw [View.readAt_eq_ld, View.ld_unit_zero (S := S128x1408) hz, hs.read_unread]

/-- The gradient's block. -/
theorem out5 (t : Fin (cfgM m (ok m)).N) : (outsAt0 m (ok m) c t).1 = k0_pay2 (F := Ideal) (grid0.coords t) (aC m c) (iblk m (ok m) c 0 t) (iblk m (ok m) c 1 t) := by
  dsimp only [outsAt0, out0_A_5, kernelRun0_A]
  rw [View.read_writes_junk_eq_canon, View.canon_unit_zero hz, core_at]
  exact congr (congrArg (k0_pay2 (F := Ideal) _ _) (ld_at _ _ _)) (ld_at _ _ _)
/-- The gradient's average's block. -/
theorem out7 (t : Fin (cfgM m (ok m)).N) : (outsAt0 m (ok m) c t).2.2.1 = k0_pay3 (F := Ideal) (grid0.coords t) (aC m c) (iblk m (ok m) c 0 t) (iblk m (ok m) c 1 t) (iblk m (ok m) c 3 t) := by
  dsimp only [outsAt0, out0_A_7, kernelRun0_A]
  rw [View.read_writes_junk_eq_canon, View.canon_unit_zero hz]
  unfold kernelRun0_A.sl.r_1
  rw [core_at]
  exact congr (congr (congrArg (k0_pay3 (F := Ideal) _ _) (ld_at _ _ _)) (ld_at _ _ _)) (ld_at _ _ _)
/-- Its square's. -/
theorem out8 (t : Fin (cfgM m (ok m)).N) : (outsAt0 m (ok m) c t).2.2.2 = k0_pay4 (F := Ideal) (grid0.coords t) (aC m c) (iblk m (ok m) c 0 t) (iblk m (ok m) c 1 t) (iblk m (ok m) c 4 t) := by
  dsimp only [outsAt0, out0_A_8, kernelRun0_A]
  rw [View.read_writes_junk_eq_canon, View.canon_unit_zero hz]
  unfold kernelRun0_A.sl.r_2
  rw [core_at]
  exact congr (congr (congrArg (k0_pay4 (F := Ideal) _ _) (ld_at _ _ _)) (ld_at _ _ _)) (ld_at _ _ _)
/-- The step's. -/
theorem out6 (t : Fin (cfgM m (ok m)).N) : (outsAt0 m (ok m) c t).2.1
    = k0_pay1 (k0_pay3 (F := Ideal) (grid0.coords t) (aC m c) (iblk m (ok m) c 0 t) (iblk m (ok m) c 1 t) (iblk m (ok m) c 3 t))
      (k0_pay4 (F := Ideal) (grid0.coords t) (aC m c) (iblk m (ok m) c 0 t) (iblk m (ok m) c 1 t) (iblk m (ok m) c 4 t)) (iblk m (ok m) c 2 t) := by
  dsimp only [outsAt0, out0_A_6, kernelRun0_A]
  rw [View.read_writes_junk_eq_canon, View.canon_unit_zero hz]
  unfold kernelRun0_A.sl.r_1 kernelRun0_A.sl.r_2
  rw [core_at]
  exact congr (congr (congrArg k0_pay1 (congr (congr (congrArg (k0_pay3 (F := Ideal) _ _) (ld_at _ _ _)) (ld_at _ _ _)) (ld_at _ _ _)))
    (congr (congr (congrArg (k0_pay4 (F := Ideal) _ _) (ld_at _ _ _)) (ld_at _ _ _)) (ld_at _ _ _))) (ld_at _ _ _)

/-- The new averages and the step, at an index of a block whose gradient is `g`. -/
theorem pays_at (t : Fin grid0.N) (y : S128x1408.Idx) (g : EReal) (hg : one w (BitVec.ofNat 32 (t.val / 4)) (a y) (b y) = g) :
    k0_pay3 (F := Ideal) (grid0.coords t) w a b p y = avg g (p y) ∧ k0_pay4 (F := Ideal) (grid0.coords t) w a b q y = avg2 g (q y)
      ∧ k0_pay1 (k0_pay3 (F := Ideal) (grid0.coords t) w a b p) (k0_pay4 (F := Ideal) (grid0.coords t) w a b q) r y = step g (r y) (p y) (q y) := by
  have h3 : k0_pay3 (F := Ideal) (grid0.coords t) w a b p y = avg g (p y) := by
    rw [← hg, ← pay2_at]
    rfl
  have h4 : k0_pay4 (F := Ideal) (grid0.coords t) w a b q y = avg2 g (q y) := by
    rw [← hg, ← pay2_at]
    rfl
  refine ⟨h3, h4, ?_⟩
  unfold step
  rw [← h3, ← h4, over_b1, over_b2]
  rfl

/-- A coordinate in an array, from the block's and the one in it. -/
theorem row {n a k b z : ℕ} (h : n = k) (e : k * b + a = z) : n * b + a = z := h ▸ e

/-- The gradient of a block, where it is in the array. -/
theorem g_at (t : Fin grid0.N) (y : S128x1408.Idx) (Y : S1024x1408.Idx) (e0 : (Y 0).val = 128 * t.val + (y 0).val) (e1 : (Y 1).val = (y 1).val) :
    one (aC m c) (BitVec.ofNat 32 (t.val / 4)) ((iblk m (ok m) c 0 t : Vec Ideal S128x1408 .f32) y) ((iblk m (ok m) c 1 t : Vec Ideal S128x1408 .f32) y) = aG m c Y := by
  have h0 : (y 0).val < 128 := (y 0).isLt
  obtain ⟨p0, p1, -⟩ := at_rows t
  unfold aG whole iblk
  rw [show (Y 0).val / 512 = t.val / 4 by omega]
  refine congr (congrArg (one _ _) ?_) ?_
  · blk_simp [V_main_arg0]
    refine congrArg (m ((c : Thread nD τ).loc main_arg0)) (ext2 ?_ ?_) <;> blk_simp
    · exact row (congrFun p0 0) (by show t.val % 4 * 128 + (y 0).val = (Y 0).val % 512; omega)
    · exact row (congrFun p0 1) (by show 0 * 1408 + (y 1).val = (Y 1).val; omega)
  · blk_simp [V_main_arg1]
    refine congrArg (m ((c : Thread nD τ).loc main_arg1)) (ext2 ?_ ?_) <;> blk_simp
    · exact row (congrFun p1 0) (by show t.val % 4 * 128 + (y 0).val = (Y 0).val % 512; omega)
    · exact row (congrFun p1 1) (by show 0 * 1408 + (y 1).val = (Y 1).val; omega)

/-- Some table. -/
def some_tbl : (pcfg0 (F := Ideal)).Adm := ⟨fun | 0 => fun _ => 0#32, trivial⟩
/-- The blocks of each result cover it, whatever the table. -/
theorem covers_some : ((cfg0 some_tbl).win 5).Covers ∧ ((cfg0 some_tbl).win 6).Covers ∧ ((cfg0 some_tbl).win 7).Covers ∧ ((cfg0 some_tbl).win 8).Covers := by decide +kernel
/-- So they do for the launch's table. -/
theorem covers : ((cfgM m (ok m)).win 5).Covers ∧ ((cfgM m (ok m)).win 6).Covers ∧ ((cfgM m (ok m)).win 7).Covers ∧ ((cfgM m (ok m)).win 8).Covers := covers_some

/-- A block of the weight, where it is in the array. -/
theorem w_at (t : Fin grid0.N) (y : S128x1408.Idx) (Y : S1024x1408.Idx) (e0 : (Y 0).val = 128 * t.val + (y 0).val) (e1 : (Y 1).val = (y 1).val) :
    (iblk m (ok m) c 2 t : Vec Ideal S128x1408 .f32) y = aW m c Y := by
  have e := (at_rows t).2.2.1
  unfold iblk
  blk_simp [V_main_arg3]
  refine congrArg (m ((c : Thread nD τ).loc main_arg3)) (ext2 ?_ ?_) <;> blk_simp
  · exact row (congrFun e 0) (by show t.val * 128 + (y 0).val = (Y 0).val; omega)
  · exact row (congrFun e 1) (by show 0 * 1408 + (y 1).val = (Y 1).val; omega)
/-- One of the gradient's average. -/
theorem m_at (t : Fin grid0.N) (y : S128x1408.Idx) (Y : S1024x1408.Idx) (e0 : (Y 0).val = 128 * t.val + (y 0).val) (e1 : (Y 1).val = (y 1).val) :
    (iblk m (ok m) c 3 t : Vec Ideal S128x1408 .f32) y = aM m c Y := by
  have e := (at_rows t).2.2.2.1
  unfold iblk
  blk_simp [V_main_arg4]
  refine congrArg (m ((c : Thread nD τ).loc main_arg4)) (ext2 ?_ ?_) <;> blk_simp
  · exact row (congrFun e 0) (by show t.val * 128 + (y 0).val = (Y 0).val; omega)
  · exact row (congrFun e 1) (by show 0 * 1408 + (y 1).val = (Y 1).val; omega)
/-- One of its square's. -/
theorem v_at (t : Fin grid0.N) (y : S128x1408.Idx) (Y : S1024x1408.Idx) (e0 : (Y 0).val = 128 * t.val + (y 0).val) (e1 : (Y 1).val = (y 1).val) :
    (iblk m (ok m) c 4 t : Vec Ideal S128x1408 .f32) y = aV m c Y := by
  have e := (at_rows t).2.2.2.2.1
  unfold iblk
  blk_simp [V_main_arg5]
  refine congrArg (m ((c : Thread nD τ).loc main_arg5)) (ext2 ?_ ?_) <;> blk_simp
  · exact row (congrFun e 0) (by show t.val * 128 + (y 0).val = (Y 0).val; omega)
  · exact row (congrFun e 1) (by show 0 * 1408 + (y 1).val = (Y 1).val; omega)

/-- The four blocks that a point leaves, where they are in their arrays. -/
theorem got (t : Fin grid0.N) (y : S128x1408.Idx) (Y : S1024x1408.Idx) (e0 : (Y 0).val = 128 * t.val + (y 0).val) (e1 : (Y 1).val = (y 1).val) :
    k0_pay2 (F := Ideal) (grid0.coords t) (aC m c) (iblk m (ok m) c 0 t) (iblk m (ok m) c 1 t) y = aG m c Y
      ∧ k0_pay3 (F := Ideal) (grid0.coords t) (aC m c) (iblk m (ok m) c 0 t) (iblk m (ok m) c 1 t) (iblk m (ok m) c 3 t) y = avg (aG m c Y) (aM m c Y)
      ∧ k0_pay4 (F := Ideal) (grid0.coords t) (aC m c) (iblk m (ok m) c 0 t) (iblk m (ok m) c 1 t) (iblk m (ok m) c 4 t) y = avg2 (aG m c Y) (aV m c Y)
      ∧ k0_pay1 (k0_pay3 (F := Ideal) (grid0.coords t) (aC m c) (iblk m (ok m) c 0 t) (iblk m (ok m) c 1 t) (iblk m (ok m) c 3 t)) (k0_pay4 (F := Ideal) (grid0.coords t) (aC m c) (iblk m (ok m) c 0 t) (iblk m (ok m) c 1 t) (iblk m (ok m) c 4 t)) (iblk m (ok m) c 2 t) y
        = step (aG m c Y) (aW m c Y) (aM m c Y) (aV m c Y) := by
  have h := g_at m c t y Y e0 e1
  obtain ⟨h3, h4, h1⟩ := pays_at (aC m c) _ _ (iblk m (ok m) c 3 t) (iblk m (ok m) c 4 t) (iblk m (ok m) c 2 t) t y _ h
  refine ⟨(pay2_at _ _ _ t y).trans h, h3.trans (congrArg _ (m_at m c t y Y e0 e1)), h4.trans (congrArg _ (v_at m c t y Y e0 e1)), h1.trans ?_⟩
  exact congr (congr (congrArg (step _) (w_at m c t y Y e0 e1)) (m_at m c t y Y e0 e1)) (v_at m c t y Y e0 e1)

/-- The gradient after the run. -/
theorem final5 : (dats m (ok m) 0 c).arrAt 5 (cfgM m (ok m)).N = aG m c := by
  refine (dats m (ok m) 0 c).arrAt_eq_of_covers 5 _ (covers m).1 fun t hf y => ?_
  have e := (at_rows t).2.2.2.2.2.1
  blk_simp
  rw [after0_5, out5]
  refine (got m c t _ _ ?_ ?_).1 <;> blk_simp
  · exact row (congrFun e 0) (congrArg (· + _) (Nat.mul_comm _ _))
  · exact row (congrFun e 1) ((congrArg (· + _) (Nat.zero_mul _)).trans (Nat.zero_add _))

/-- The step after the run. -/
theorem final6 : (dats m (ok m) 0 c).arrAt 6 (cfgM m (ok m)).N = fun y => step (aG m c y) (aW m c y) (aM m c y) (aV m c y) := by
  refine (dats m (ok m) 0 c).arrAt_eq_of_covers 6 _ (covers m).2.1 fun t hf y => ?_
  have e := (at_rows t).2.2.2.2.2.2.1
  blk_simp
  rw [after0_6, out6]
  refine (got m c t _ _ ?_ ?_).2.2.2 <;> blk_simp
  · exact row (congrFun e 0) (congrArg (· + _) (Nat.mul_comm _ _))
  · exact row (congrFun e 1) ((congrArg (· + _) (Nat.zero_mul _)).trans (Nat.zero_add _))

/-- The gradient's average after the run. -/
theorem final7 : (dats m (ok m) 0 c).arrAt 7 (cfgM m (ok m)).N = fun y => avg (aG m c y) (aM m c y) := by
  refine (dats m (ok m) 0 c).arrAt_eq_of_covers 7 _ (covers m).2.2.1 fun t hf y => ?_
  have e := (at_rows t).2.2.2.2.2.2.2.1
  blk_simp
  rw [after0_7, out7]
  refine (got m c t _ _ ?_ ?_).2.1 <;> blk_simp
  · exact row (congrFun e 0) (congrArg (· + _) (Nat.mul_comm _ _))
  · exact row (congrFun e 1) ((congrArg (· + _) (Nat.zero_mul _)).trans (Nat.zero_add _))

/-- Its square's average after the run. -/
theorem final8 : (dats m (ok m) 0 c).arrAt 8 (cfgM m (ok m)).N = fun y => avg2 (aG m c y) (aV m c y) := by
  refine (dats m (ok m) 0 c).arrAt_eq_of_covers 8 _ (covers m).2.2.2 fun t hf y => ?_
  have e := (at_rows t).2.2.2.2.2.2.2.2
  blk_simp
  rw [after0_8, out8]
  refine (got m c t _ _ ?_ ?_).2.2.1 <;> blk_simp
  · exact row (congrFun e 0) (congrArg (· + _) (Nat.mul_comm _ _))
  · exact row (congrFun e 1) ((congrArg (· + _) (Nat.zero_mul _)).trans (Nat.zero_add _))

end Cert.Kernel13Ideal.Hand

namespace Cert.Reference13Ideal.Hand
open Idealize.ShloMosaic Idealize.ShloMosaic.TcCoe Idealize.ShloMosaic.Tactic Cert.Reference13Ideal Cert.Reference13Ideal.Gen Cert.Mat Cert.Adam Cert.Halves

/-- The reference's gradient. -/
theorem ref_eq (a b : FVec Ideal S512x1408 .f32) (w : IVec S_ 32) :
    concatenate S1024x1408 0 [⟨S512x1408, (select (broadcastInDim S512x1408 ![] bcast_S_S512x1408 (cmpi .eq w (constantI S_ 32 0#32))) a b)⟩,
      ⟨S512x1408, (select (broadcastInDim S512x1408 ![] bcast_S_S512x1408 (cmpi .eq w (constantI S_ 32 1#32))) a b)⟩] concatenates_S512x1408_S512x1408_S1024x1408_d0
      = whole (h := 512) (n := 1024) (by omega) a b (w fun i => i.elim0) := by
  funext y
  have hy : (y 0).val < 1024 := (y 0).isLt
  have hw : w ix0 = w fun i => i.elim0 := congrArg w (funext fun i => i.elim0)
  unfold whole
  pointwise
  split
  · rw [one_at, hw, show (y 0).val / 512 = 0 by omega]
    refine congr (congrArg (one _ _) (congrArg a (ext2 ?_ rfl))) (congrArg b (ext2 ?_ rfl)) <;> (show (y 0).val = (y 0).val % 512) <;> omega
  · rw [one_at, hw, show (y 0).val / 512 = 1 by omega]
    refine congr (congrArg (one _ _) (congrArg a (ext2 ?_ rfl))) (congrArg b (ext2 ?_ rfl)) <;> (show (y 0).val - 512 = (y 0).val % 512) <;> omega

end Cert.Reference13Ideal.Hand

namespace Cert.Proof
open Idealize.ShloMosaic Idealize.ShloMosaic.TcCoe Idealize.SL.Sem Cert.Adam Cert.Kernel13Ideal.Hand

/-- The printed kernel runs, its arguments unchanged and its counters at zero. -/
theorem frame_p13 : Cert.quiescent_Kernel13 := fun m g _ => Cert.Kernel13.Gen.frame m g trivial
/-- So does the idealized one. -/
theorem frame_pi13 : Cert.quiescent_Kernel13Ideal := fun m g _ => Cert.Kernel13Ideal.Gen.frame m g trivial
/-- So does the reference. -/
theorem frame_ri13 : Cert.quiescent_Reference13Ideal := fun m g _ =>
  (θ_run Cert.Reference13Ideal.defs _ _).mono (fun r h => ⟨fun c => (h c).2.2.2.2, sem_eq_zero_of_no_sems (by decide) r.2⟩) (Cert.Reference13Ideal.Value.run m g)
/-- The named constants are what they stand for. -/
theorem named13 : Cert.preserves_Kernel13_Kernel13Ideal := ⟨IdealRules.named_const.statement _ _ _ _ _ rfl, IdealRules.named_const.statement _ _ _ _ _ rfl⟩
/-- The gradient put together, the step and the averages are the reference's. -/
theorem same13 : Cert.algebraic_Kernel13Ideal_Reference13Ideal := by
  intro m g m' g' _ hargs
  refine ⟨fun c => aG m c, fun c => fun y => step (aG m c y) (aW m c y) (aM m c y) (aV m c y), fun c => fun y => avg (aG m c y) (aM m c y),
    fun c => fun y => avg2 (aG m c y) (aV m c y), ?_, ?_⟩
  · refine (θ_run Cert.Kernel13Ideal.defs _ _).mono (fun r h c => ?_)
      (θ_run_and (Cert.Kernel13Ideal.Gen.run_main m g (ok m)) (Cert.Kernel13Ideal.Gen.unchanged m g (ok m)))
    exact ⟨((h.1 c).1 5).trans (final5 m c), ((h.1 c).1 6).trans (final6 m c), ((h.1 c).1 7).trans (final7 m c), ((h.1 c).1 8).trans (final8 m c), h.2 c⟩
  · refine (θ_run Cert.Reference13Ideal.defs _ _).mono (fun r h c => ?_) (Cert.Reference13Ideal.Value.run m' g')
    obtain ⟨e0, e1, e2, e3, e4, e5⟩ := hargs c
    obtain ⟨h0, h1, h2, h3, hk⟩ := h c
    rw [Cert.Reference13Ideal.Hand.ref_eq, e0, e1, e2] at h0
    rw [Cert.Reference13Ideal.Hand.ref_eq, e0, e1, e2, e3, e4, e5] at h1
    rw [Cert.Reference13Ideal.Hand.ref_eq, e0, e1, e2, e4] at h2
    rw [Cert.Reference13Ideal.Hand.ref_eq, e0, e1, e2, e5] at h3
    exact ⟨h0, h1, h2, h3, hk⟩

end Cert.Proof
-- ==== Proof.lean ====
module

public import proofs.«01_k».proof.Defs
public import proofs.«01_k».proof.Proof.Meet
public import proofs.«01_k».proof.Proof.Words
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.FwdMeet
public import proofs.«01_k».proof.Proof.FwdWords
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite2
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Pre_finite12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Pre_finite4
public import Idealize.ShloMosaic.Lib.Claim
public import Idealize.ShloMosaic.Adequacy
public import Idealize.ShloMosaic.Init
public import proofs.«01_k».proof.Proof.MmDw
public import proofs.«01_k».proof.Proof.MmZf
public import proofs.«01_k».proof.Proof.MmAct
public import proofs.«01_k».proof.Proof.MmDwo
public import proofs.«01_k».proof.Proof.MmFfn
public import proofs.«01_k».proof.Proof.FfnOut
public import proofs.«01_k».proof.Proof.GateMix
public import proofs.«01_k».proof.Proof.Adam
public import proofs.«01_k».proof.Proof.Norm
public import proofs.«01_k».proof.Proof.Halves
public import proofs.«01_k».proof.Proof.Swiglu

@[expose] public section

set_option maxRecDepth 16384

noncomputable section

namespace Cert.Proof

open Idealize.ShloMosaic Idealize.ShloMosaic.TcCoe Idealize.SL.Sem

/-- The printed kernel runs, its arguments unchanged and its counters at zero. -/
theorem frame_p : Cert.quiescent_Kernel := fun m g _ => Cert.Kernel.Hand.run_words m g

/-- The idealized kernel's run, read at its arguments and counters. -/
theorem frame_pi : Cert.quiescent_KernelIdeal := fun m g _ =>
  θ_run_and
    (Cert.KernelIdeal.Gen.frame_of m g (Cert.KernelIdeal.Hand.dats m) (Cert.KernelIdeal.Hand.dats_A m)
      ((θ_run Cert.KernelIdeal.defs _ _).mono (fun _ h => h.1) (Cert.KernelIdeal.Hand.run_all m g)))
    ((θ_run Cert.KernelIdeal.defs _ _).mono (fun _ h => h.2) (Cert.KernelIdeal.Hand.run_all m g))

/-- The same under the precondition. -/
theorem frame_pi' : Cert.quiescent_KernelIdeal_pre_finite := fun m g _ => frame_pi m g trivial

/-- The reference runs, its arguments unchanged; it has no counters. -/
theorem frame_ri : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run m g)

/-- The same under the precondition. -/
theorem frame_ri' : Cert.quiescent_ReferenceIdeal_pre_finite := fun m g _ => frame_ri m g trivial

/-- The mask constant named in the idealized kernel is minus infinity. -/
theorem named : Cert.preserves_Kernel_KernelIdeal := IdealRules.named_const.statement _ _ _ _ _ rfl

/-- The idealized kernel's results. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v54_0) = Cert.KernelIdeal.Hand.gq m c
      ∧ r.2.mem ((c.tc : Thread Cert.KernelIdeal.nD Cert.KernelIdeal.τ).loc Cert.KernelIdeal.main_v54_1) = Cert.KernelIdeal.Hand.gk m c
      ∧ r.2.mem ((c.tc : Thread Cert.KernelIdeal.nD Cert.KernelIdeal.τ).loc Cert.KernelIdeal.main_v54_2) = Cert.KernelIdeal.Hand.gv m c) :=
  (θ_run Cert.KernelIdeal.defs _ _).mono
    (fun _ h c => ⟨((h.1 c).1 6).trans (Cert.KernelIdeal.Hand.final_6 m c), ((h.1 c).1 7).trans (Cert.KernelIdeal.Hand.final_7 m c),
      ((h.1 c).1 8).trans (Cert.KernelIdeal.Hand.final_8 m c)⟩)
    (Cert.KernelIdeal.Hand.run_all m g)

/-- The idealized kernel's three gradients are the reference's, for finite arguments. -/
theorem same : Cert.algebraic_KernelIdeal_ReferenceIdeal_pre_finite := by
  intro m g m' g' hpre hargs
  refine ⟨Cert.KernelIdeal.Hand.gq m, Cert.KernelIdeal.Hand.gk m, Cert.KernelIdeal.Hand.gv m, ?_, ?_⟩
  · refine (θ_run Cert.KernelIdeal.defs _ _).mono (fun r h c => ?_) (θ_run_and (kernel_run m g) (frame_pi m g trivial))
    exact ⟨(h.1 c).1, (h.1 c).2.1, (h.1 c).2.2, h.2.1 c⟩
  · refine (θ_run Cert.ReferenceIdeal.defs _ _).mono (fun r h c => ?_) (Cert.ReferenceIdeal.Value.run m' g')
    obtain ⟨e0, e1, e2, e3⟩ := hargs c
    refine ⟨(h c).1.trans ?_, (h c).2.1.trans ?_, (h c).2.2.1.trans ?_, (h c).2.2.2⟩
    · refine (Cert.ReferenceIdeal.Hand.res0 m' c).trans ?_
      rw [e0, e1, e2, e3]
      exact (Cert.KernelIdeal.Hand.meet_q m c (hpre c)).symm
    · refine (Cert.ReferenceIdeal.Hand.res1 m' c).trans ?_
      rw [e0, e1, e2, e3]
      exact (Cert.KernelIdeal.Hand.meet_k m c (hpre c)).symm
    · refine (Cert.ReferenceIdeal.Hand.res2 m' c).trans ?_
      rw [e0, e1, e3]
      exact (Cert.KernelIdeal.Hand.meet_v m c (hpre c)).symm

/-! ## The forward pass -/

/-- The printed kernel runs, its arguments unchanged and its counters at zero. -/
theorem frame_p2 : Cert.quiescent_Kernel2 := fun m g _ => Cert.Kernel2.Hand.run_words m g

/-- The idealized kernel's run, read at its arguments and counters. -/
theorem frame_pi2 : Cert.quiescent_Kernel2Ideal := fun m g _ =>
  θ_run_and
    (Cert.Kernel2Ideal.Gen.frame_of m g (Cert.Kernel2Ideal.Hand.dats m) (Cert.Kernel2Ideal.Hand.dats_A m)
      ((θ_run Cert.Kernel2Ideal.defs _ _).mono (fun _ h => h.1) (Cert.Kernel2Ideal.Hand.run_all m g)))
    ((θ_run Cert.Kernel2Ideal.defs _ _).mono (fun _ h => h.2) (Cert.Kernel2Ideal.Hand.run_all m g))

/-- The same under the precondition. -/
theorem frame_pi2' : Cert.quiescent_Kernel2Ideal_pre_finite2 := fun m g _ => frame_pi2 m g trivial

/-- The reference runs, its arguments unchanged; it has no counters. -/
theorem frame_ri2 : Cert.quiescent_Reference2Ideal := fun m g _ =>
  (θ_run Cert.Reference2Ideal.defs _ _).mono
    (fun r h => ⟨fun c => (h c).2.2, sem_eq_zero_of_no_sems (by decide) r.2⟩)
    (Cert.Reference2Ideal.Value.run m g)

/-- The same under the precondition. -/
theorem frame_ri2' : Cert.quiescent_Reference2Ideal_pre_finite2 := fun m g _ => frame_ri2 m g trivial

/-- The mask constants named in the idealized kernel are minus infinity. -/
theorem named2 : Cert.preserves_Kernel2_Kernel2Ideal := IdealRules.named_const.statement _ _ _ _ _ rfl

/-- The idealized kernel's two results are the reference's, for finite arguments. -/
theorem same2 : Cert.algebraic_Kernel2Ideal_Reference2Ideal_pre_finite2 := by
  intro m g m' g' hpre hargs
  refine ⟨Cert.Kernel2Ideal.Hand.resO m, Cert.Kernel2Ideal.Hand.resL m, ?_, ?_⟩
  · refine (θ_run Cert.Kernel2Ideal.defs _ _).mono (fun r h c => ?_) (θ_run_and (Cert.Kernel2Ideal.Hand.kernel_run m g) (frame_pi2 m g trivial))
    exact ⟨(h.1 c).1, (h.1 c).2, h.2.1 c⟩
  · refine (θ_run Cert.Reference2Ideal.defs _ _).mono (fun r h c => ?_) (Cert.Reference2Ideal.Value.run m' g')
    obtain ⟨e0, e1, e2⟩ := hargs c
    refine ⟨(h c).1.trans ?_, (h c).2.1.trans ?_, (h c).2.2⟩
    · refine (Cert.Reference2Ideal.Hand.res0 m' c).trans ?_
      rw [e0, e1, e2]
      exact (Cert.Kernel2Ideal.Hand.meet_o m c (hpre c)).symm
    · refine (Cert.Reference2Ideal.Hand.res1 m' c).trans ?_
      rw [e0, e1]
      exact (Cert.Kernel2Ideal.Hand.meet_l m c (hpre c)).symm

/-- The SwiGLU backward kernel over the reals runs, also under the precondition. -/
theorem frame_pi4' : Cert.quiescent_Kernel4Ideal_pre_finite4 := fun m g _ => frame_pi4 m g trivial
/-- The SwiGLU backward reference runs, also under the precondition. -/
theorem frame_ri4' : Cert.quiescent_Reference4Ideal_pre_finite4 := fun m g _ => frame_ri4 m g trivial

/-- The norm's backward kernel over the reals runs, also under the precondition. -/
theorem frame_pi12' : Cert.quiescent_Kernel12Ideal_pre_finite12 := fun m g _ => frame_pi12 m g trivial
/-- The norm's backward reference runs, also under the precondition. -/
theorem frame_ri12' : Cert.quiescent_Reference12Ideal_pre_finite12 := fun m g _ => frame_ri12 m g trivial

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts, Cert.Pre_finite2.Gen.facts, Cert.Pre_finite4.Gen.facts, Cert.Pre_finite12.Gen.facts,
    frame_p, frame_pi, frame_pi', frame_ri, frame_ri',
    frame_p2, frame_pi2, frame_pi2', frame_ri2, frame_ri2',
    frame_p3, frame_pi3, frame_ri3,
    frame_p4, frame_pi4, frame_pi4', frame_ri4, frame_ri4',
    frame_p5, frame_pi5, frame_ri5,
    frame_p6, frame_pi6, frame_ri6,
    frame_p7, frame_pi7, frame_ri7,
    frame_p8, frame_pi8, frame_ri8,
    frame_p9, frame_pi9, frame_ri9,
    frame_p10, frame_pi10, frame_ri10,
    frame_p11, frame_pi11, frame_ri11,
    frame_p12, frame_pi12, frame_pi12', frame_ri12, frame_ri12',
    frame_p13, frame_pi13, frame_ri13,
    named, same, named2, same2, named3, same3, named4, same4, named5, same5, named6, same6, named7, same7, named8, same8, named9, same9, named10, same10,
    named11, same11, named12, same12, named13, same13⟩

end Cert.Proof

end
